-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_batch [hPre_sorted_batch : Cert.Pre_sorted_batch.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_batch [hPre_sorted_batch : Cert.Pre_sorted_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_batch [hKernelIdeal : Cert.KernelIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_batch m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_batch [hReferenceIdeal : Cert.ReferenceIdeal.Facts] [hPre_sorted_batch : Cert.Pre_sorted_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_batch [hKernelIdeal : Cert.KernelIdeal.Facts] [hReferenceIdeal : Cert.ReferenceIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_batch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_batch : Cert.Pre_sorted_batch.Facts),
    quiescent_Kernel (hKernel := hKernel)
    ∧ quiescent_KernelIdeal (hKernelIdeal := hKernelIdeal)
    ∧ quiescent_KernelIdeal_pre_sorted_batch (hKernelIdeal := hKernelIdeal) (hPre_sorted_batch := hPre_sorted_batch)
    ∧ quiescent_ReferenceIdeal (hReferenceIdeal := hReferenceIdeal)
    ∧ quiescent_ReferenceIdeal_pre_sorted_batch (hReferenceIdeal := hReferenceIdeal) (hPre_sorted_batch := hPre_sorted_batch)
    ∧ preserves_Kernel_KernelIdeal
    ∧ algebraic_KernelIdeal_ReferenceIdeal_pre_sorted_batch (hKernelIdeal := hKernelIdeal) (hReferenceIdeal := hReferenceIdeal) (hPre_sorted_batch := hPre_sorted_batch)
-- ==== Pre_sorted_batch.lean ====
abbrev S160000x256 : Shape := ⟨2, ![160000, 256]⟩
abbrev S160000 : Shape := ⟨1, ![160000]⟩
abbrev S_ : Shape := ⟨0, ![]⟩
abbrev S159999 : Shape := ⟨1, ![159999]⟩

class Facts : Prop where
  bcast_S_S160000x256 : S_.BroadcastsInDim S160000x256 (![] : Fin 0 → Fin S160000x256.rank)
  reducesTo_S160000x256_S_d0_1 : S160000x256.ReducesTo [0, 1] S_
  h_S_ : 0 < S_.numel
  bcast_S_S160000 : S_.BroadcastsInDim S160000 (![] : Fin 0 → Fin S160000.rank)
  reducesTo_S160000_S_d0 : S160000.ReducesTo [0] S_
  slices_S160000_S159999_0 : S160000.Slices ![0] S159999
  slices_S160000_S159999_1 : S160000.Slices ![1] S159999
  reducesTo_S159999_S_d0 : S159999.ReducesTo [0] S_

variable [Facts]

def fn {F : FTy → Type} [FloatOps F] (main_arg0 : FVec F S160000x256 .f32) (main_arg1 : IVec S160000 32) : IVec S_ 1 :=
  let main_v0 : FVec F S160000x256 .f32 := Host.absf main_arg0
  let main_cst : FVec F S_ .f32 := constant S_ .f32 0x7F800000#32
  let main_v1 : FVec F S160000x256 .f32 := broadcastInDim S160000x256 ![] bcast_S_S160000x256 main_cst
  let main_v2 : IVec S160000x256 1 := cmpf .olt main_v0 main_v1
  let main_c : IVec S_ 1 := constantI S_ 1 1#1
  let main_v3 : IVec S_ 1 := (fun x v => Host.reduce IntOp.andi x v reducesTo_S160000x256_S_d0_1 h_S_) main_v2 main_c
  let main_c_0 : IVec S_ 32 := constantI S_ 32 0#32
  let main_v4 : IVec S160000 32 := broadcastInDim S160000 ![] bcast_S_S160000 main_c_0
  let main_v5 : IVec S160000 1 := cmpi .sge main_arg1 main_v4
  let main_c_1 : IVec S_ 32 := constantI S_ 32 1000#32
  let main_v6 : IVec S160000 32 := broadcastInDim S160000 ![] bcast_S_S160000 main_c_1
  let main_v7 : IVec S160000 1 := cmpi .slt main_arg1 main_v6
  let main_v8 : IVec S160000 1 := andi main_v5 main_v7
  let main_c_2 : IVec S_ 1 := constantI S_ 1 1#1
  let main_v9 : IVec S_ 1 := (fun x v => Host.reduce IntOp.andi x v reducesTo_S160000_S_d0 h_S_) main_v8 main_c_2
  let main_v10 : IVec S159999 32 := (extractStridedSlice S159999 ![0] · slices_S160000_S159999_0) main_arg1
  let main_v11 : IVec S159999 32 := (extractStridedSlice S159999 ![1] · slices_S160000_S159999_1) main_arg1
  let main_v12 : IVec S159999 1 := cmpi .sle main_v10 main_v11
  let main_c_3 : IVec S_ 1 := constantI S_ 1 1#1
  let main_v13 : IVec S_ 1 := (fun x v => Host.reduce IntOp.andi x v reducesTo_S159999_S_d0 h_S_) main_v12 main_c_3
  let main_v14 : IVec S_ 1 := andi main_v3 main_v9
  let main_v15 : IVec S_ 1 := andi main_v14 main_v13
  main_v15
-- ==== Kernel.lean ====
abbrev S160000x256 : Shape := ⟨2, ![160000, 256]⟩
abbrev S160000 : Shape := ⟨1, ![160000]⟩
abbrev S1024x256 : Shape := ⟨2, ![1024, 256]⟩
abbrev S1024x16 : Shape := ⟨2, ![1024, 16]⟩
abbrev S32x16 : Shape := ⟨2, ![32, 16]⟩
abbrev S192x256 : Shape := ⟨2, ![192, 256]⟩
abbrev S192 : Shape := ⟨1, ![192]⟩
abbrev S33x256 : Shape := ⟨2, ![33, 256]⟩
abbrev S33x16 : Shape := ⟨2, ![33, 16]⟩
abbrev S16 : Shape := ⟨1, ![16]⟩
abbrev S2000 : Shape := ⟨1, ![2000]⟩
abbrev S160016 : Shape := ⟨1, ![160016]⟩
abbrev S_ : Shape := ⟨0, ![]⟩
abbrev S1x16 : Shape := ⟨2, ![1, 16]⟩
abbrev S1 : Shape := ⟨1, ![1]⟩
abbrev S32x256 : Shape := ⟨2, ![32, 256]⟩
abbrev S1x1 : Shape := ⟨2, ![1, 1]⟩
abbrev S1024x1 : Shape := ⟨2, ![1024, 1]⟩
abbrev S1x1024x256 : Shape := ⟨3, ![1, 1024, 256]⟩
abbrev S1x1x1 : Shape := ⟨3, ![1, 1, 1]⟩
abbrev S256 : Shape := ⟨1, ![256]⟩
abbrev S1x32x16 : Shape := ⟨3, ![1, 32, 16]⟩
abbrev S1x256 : Shape := ⟨2, ![1, 256]⟩
abbrev S1000x256 : Shape := ⟨2, ![1000, 256]⟩
abbrev S1000x1x256 : Shape := ⟨3, ![1000, 1, 256]⟩

abbrev nBuf : Table → Nat
  | .hbm => 12
  | .local .tc .vmem => 4
  | .local .tc .smem => 2
  | .shared => 1
  | .local .scVector .vmem => 9
  | _ => 0

abbrev bufTy : (tb : Table) → Fin (nBuf tb) → BufTy
  | .hbm, ⟨0, _⟩ => ⟨S160000x256, .f32⟩
  | .hbm, ⟨1, _⟩ => ⟨S160000, .i32⟩
  | .hbm, ⟨2, _⟩ => ⟨S1024x256, .f32⟩
  | .hbm, ⟨3, _⟩ => ⟨S1024x16, .f32⟩
  | .hbm, ⟨4, _⟩ => ⟨S32x16, .f32⟩
  | .hbm, ⟨5, _⟩ => ⟨S1024x256, .f32⟩
  | .hbm, ⟨6, _⟩ => ⟨S1x1, .f32⟩
  | .hbm, ⟨7, _⟩ => ⟨S1x1, .f32⟩
  | .hbm, ⟨8, _⟩ => ⟨S1000x256, .f32⟩
  | .hbm, ⟨9, _⟩ => ⟨S1000x1x256, .f32⟩
  | .hbm, ⟨10, _⟩ => ⟨S1, .f32⟩
  | .hbm, ⟨11, _⟩ => ⟨S1, .f32⟩
  | .local .tc .vmem, ⟨0, _⟩ => ⟨S1024x256, .f32⟩
  | .local .tc .vmem, ⟨1, _⟩ => ⟨S1024x16, .f32⟩
  | .local .tc .vmem, ⟨2, _⟩ => ⟨S32x16, .f32⟩
  | .local .tc .vmem, ⟨3, _⟩ => ⟨S1024x256, .f32⟩
  | .local .tc .smem, ⟨0, _⟩ => ⟨S1x1, .f32⟩
  | .local .tc .smem, ⟨1, _⟩ => ⟨S1x1, .f32⟩
  | .shared, ⟨0, _⟩ => ⟨S160016, .i32⟩
  | .local .scVector .vmem, ⟨0, _⟩ => ⟨S192x256, .f32⟩
  | .local .scVector .vmem, ⟨1, _⟩ => ⟨S192x256, .f32⟩
  | .local .scVector .vmem, ⟨2, _⟩ => ⟨S192, .i32⟩
  | .local .scVector .vmem, ⟨3, _⟩ => ⟨S33x256, .f32⟩
  | .local .scVector .vmem, ⟨4, _⟩ => ⟨S33x16, .f32⟩
  | .local .scVector .vmem, ⟨5, _⟩ => ⟨S16, .i32⟩
  | .local .scVector .vmem, ⟨6, _⟩ => ⟨S16, .i32⟩
  | .local .scVector .vmem, ⟨7, _⟩ => ⟨S16, .f32⟩
  | .local .scVector .vmem, ⟨8, _⟩ => ⟨S2000, .i32⟩
  | _, _ => ⟨S160000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 5 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.smem, 0, rfl⟩
abbrev cc1_stg5_0 : Ref sig .tc := ⟨.smem, 1, rfl⟩
abbrev cc0_scratch9 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c5_i32 : BitVec 32 := 5#32
  let v3 : BitVec 32 := Scalar.addi c0_i32_0 c5_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c10000_i32 : BitVec 32 := 10000#32
  let v281 : BitVec 32 := Scalar.muli arg1 c10000_i32
  let c0_i32_0 : BitVec 32 := 0#32
  let c1_i32 : BitVec 32 := 1#32
  let arg19 : BitVec 32 := Scf.iv c0_i32_0 c1_i32 k0_t1
  let c2000_i32 : BitVec 32 := 2000#32
  let v282 : BitVec 32 := Scalar.muli arg19 c2000_i32
  let v283 : BitVec 32 := Scalar.addi v281 v282
  ![v283.toNat]
def k0_off2 (i : grid0.Coords) (k0_t1 : Fin k0_t1_loop.trips) : Fin 1 → Nat :=
  let arg1 : BitVec 32 := BitVec.ofNat 32 (i 1).val
  let c10000_i32 : BitVec 32 := 10000#32
  let v281 : BitVec 32 := Scalar.muli arg1 c10000_i32
  let c0_i32_0 : BitVec 32 := 0#32
  let c1_i32 : BitVec 32 := 1#32
  let arg19 : BitVec 32 := Scf.iv c0_i32_0 c1_i32 k0_t1
  let c2000_i32 : BitVec 32 := 2000#32
  let v282 : BitVec 32 := Scalar.muli arg19 c2000_i32
  let v283 : BitVec 32 := Scalar.addi v281 v282
  ![v283.toNat]
@[reducible] def k0_t2_loop : Scf.Loop 32 :=
  let c0_i32_5 : BitVec 32 := 0#32
  let c33_i32 : BitVec 32 := 33#32
  let v12 : BitVec 32 := Scalar.addi c0_i32_5 c33_i32
  let c1_i32_6 : BitVec 32 := 1#32
  ⟨c0_i32_5, v12, c1_i32_6⟩
def k0_off3 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v281 : Index := Scalar.indexCast arg19
  let c0_130 : Index := 0#32
  ![v281.toNat, 0]
def k0_off4 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v285 : Index := Scalar.indexCast arg19
  let c16 : Index := 16#32
  ![v285.toNat, 16]
def k0_off5 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v289 : Index := Scalar.indexCast arg19
  let c32 : Index := 32#32
  ![v289.toNat, 32]
def k0_off6 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v293 : Index := Scalar.indexCast arg19
  let c48 : Index := 48#32
  ![v293.toNat, 48]
def k0_off7 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v297 : Index := Scalar.indexCast arg19
  let c64 : Index := 64#32
  ![v297.toNat, 64]
def k0_off8 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v301 : Index := Scalar.indexCast arg19
  let c80 : Index := 80#32
  ![v301.toNat, 80]
def k0_off9 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v305 : Index := Scalar.indexCast arg19
  let c96 : Index := 96#32
  ![v305.toNat, 96]
def k0_off10 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v309 : Index := Scalar.indexCast arg19
  let c112 : Index := 112#32
  ![v309.toNat, 112]
def k0_off11 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v313 : Index := Scalar.indexCast arg19
  let c128 : Index := 128#32
  ![v313.toNat, 128]
def k0_off12 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v317 : Index := Scalar.indexCast arg19
  let c144 : Index := 144#32
  ![v317.toNat, 144]
def k0_off13 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v321 : Index := Scalar.indexCast arg19
  let c160 : Index := 160#32
  ![v321.toNat, 160]
def k0_off14 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v325 : Index := Scalar.indexCast arg19
  let c176 : Index := 176#32
  ![v325.toNat, 176]
def k0_off15 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v329 : Index := Scalar.indexCast arg19
  let c192 : Index := 192#32
  ![v329.toNat, 192]
def k0_off16 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v333 : Index := Scalar.indexCast arg19
  let c208 : Index := 208#32
  ![v333.toNat, 208]
def k0_off17 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v337 : Index := Scalar.indexCast arg19
  let c224 : Index := 224#32
  ![v337.toNat, 224]
def k0_off18 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v341 : Index := Scalar.indexCast arg19
  let c240 : Index := 240#32
  ![v341.toNat, 240]
def k0_off19 (k0_t2 : Fin k0_t2_loop.trips) : Fin 2 → Nat :=
  let c0_i32_5 : BitVec 32 := 0#32
  let c1_i32_6 : BitVec 32 := 1#32
  let arg19 : BitVec 32 := Scf.iv c0_i32_5 c1_i32_6 k0_t2
  let v345 : Index := Scalar.indexCast arg19
  let c0_131 : Index := 0#32
  ![v345.toNat, 0]
@[reducible] def k0_t3_loop : Scf.Loop 32 :=
  let c0_i32_10 : BitVec 32 := 0#32
  let c15_i32 : BitVec 32 := 15#32
  let v13 : BitVec 32 := Scalar.addi c0_i32_10 c15_i32
  let c1_i32_11 : BitVec 32 := 1#32
  ⟨c0_i32_10, v13, c1_i32_11⟩
def k0_off20 (arg20 : BitVec 32) (arg21 : BitVec 32) : Fin 1 → Nat :=
  let v281 : BitVec 32 := Scalar.addi arg20 arg21
  let c0_i32_131 : BitVec 32 := 0#32
  let v283 : BitVec 1 := Scalar.cmpi .sgt v281 c0_i32_131
  let v284 : BitVec 32 := Scalar.extui v283
  let c0_i32_132 : BitVec 32 := 0#32
  let v285 : BitVec 1 := Scalar.cmpi .slt v281 c0_i32_132
  let v286 : BitVec 32 := Scalar.extui v285
  let v287 : BitVec 32 := Scalar.subi v284 v286
  let c2_i32_130 : BitVec 32 := 2#32
  let c0_i32_133 : BitVec 32 := 0#32
  let v288 : BitVec 1 := Scalar.cmpi .sgt c2_i32_130 c0_i32_133
  let v289 : BitVec 32 := Scalar.extui v288
  let c0_i32_134 : BitVec 32 := 0#32
  let v290 : BitVec 1 := Scalar.cmpi .slt c2_i32_130 c0_i32_134
  let v291 : BitVec 32 := Scalar.extui v290
  let v292 : BitVec 32 := Scalar.subi v289 v291
  let v293 : BitVec 1 := Scalar.cmpi .ne v287 v292
  let v294 : BitVec 32 := Scalar.remsi v281 c2_i32_130
  let c0_i32_135 : BitVec 32 := 0#32
  let v295 : BitVec 1 := Scalar.cmpi .ne v294 c0_i32_135
  let v296 : BitVec 1 := Scalar.andi v293 v295
  let v282 : BitVec 32 := Scalar.divsi v281 c2_i32_130
  let c1_i32_136 : BitVec 32 := 1#32
  let v297 : BitVec 32 := Scalar.subi v282 c1_i32_136
  let v298 : BitVec 32 := Scalar.select v296 v297 v282
  let c19999_i32 : BitVec 32 := 19999#32
  let v299 : BitVec 32 := Scalar.minsi v298 c19999_i32
  let c8_i32_137 : BitVec 32 := 8#32
  let v300 : BitVec 32 := Scalar.muli v299 c8_i32_137
  ![v300.toNat]

def k0_chk1 (arg20 : BitVec 32) (arg21 : BitVec 32) : Prop :=
  (∀ a, (k0_off20 arg20 arg21) a + S16.size a ≤ S160016.size a)
theorem k0_off20_inb : ∀ (arg20 : BitVec 32) (arg21 : BitVec 32) (k0_hw1 : k0_chk1 arg20 arg21), ∀ a, (k0_off20 arg20 arg21) a + S16.size a ≤ S160016.size a := fun arg20 arg21 k0_hw1 => k0_hw1

def k0_off21 (v14_0 : BitVec 32) : Fin 1 → Nat :=
  let c1_i32_13 : BitVec 32 := 1#32
  let v15 : BitVec 32 := Scalar.subi v14_0 c1_i32_13
  let c0_i32_14 : BitVec 32 := 0#32
  let v16 : BitVec 32 := Scalar.maxsi v15 c0_i32_14
  let c8_i32 : BitVec 32 := 8#32
  let v17 : BitVec 32 := Scalar.muli v16 c8_i32
  ![v17.toNat]

def k0_chk2 (v14_0 : BitVec 32) : Prop :=
  (∀ a, (k0_off21 v14_0) a + S16.size a ≤ S160016.size a)
theorem k0_off21_inb : ∀ (v14_0 : BitVec 32) (k0_hw2 : k0_chk2 v14_0), ∀ a, (k0_off21 v14_0) a + S16.size a ≤ S160016.size a := fun v14_0 k0_hw2 => k0_hw2

@[reducible] def k0_t4_loop : Scf.Loop 32 :=
  let c0_i32_55 : BitVec 32 := 0#32
  let c15_i32_56 : BitVec 32 := 15#32
  let v105 : BitVec 32 := Scalar.addi c0_i32_55 c15_i32_56
  let c1_i32_57 : BitVec 32 := 1#32
  ⟨c0_i32_55, v105, c1_i32_57⟩
def k0_off22 (arg20 : BitVec 32) (arg21 : BitVec 32) : Fin 1 → Nat :=
  let v281 : BitVec 32 := Scalar.addi arg20 arg21
  let c0_i32_131 : BitVec 32 := 0#32
  let v283 : BitVec 1 := Scalar.cmpi .sgt v281 c0_i32_131
  let v284 : BitVec 32 := Scalar.extui v283
  let c0_i32_132 : BitVec 32 := 0#32
  let v285 : BitVec 1 := Scalar.cmpi .slt v281 c0_i32_132
  let v286 : BitVec 32 := Scalar.extui v285
  let v287 : BitVec 32 := Scalar.subi v284 v286
  let c2_i32_130 : BitVec 32 := 2#32
  let c0_i32_133 : BitVec 32 := 0#32
  let v288 : BitVec 1 := Scalar.cmpi .sgt c2_i32_130 c0_i32_133
  let v289 : BitVec 32 := Scalar.extui v288
  let c0_i32_134 : BitVec 32 := 0#32
  let v290 : BitVec 1 := Scalar.cmpi .slt c2_i32_130 c0_i32_134
  let v291 : BitVec 32 := Scalar.extui v290
  let v292 : BitVec 32 := Scalar.subi v289 v291
  let v293 : BitVec 1 := Scalar.cmpi .ne v287 v292
  let v294 : BitVec 32 := Scalar.remsi v281 c2_i32_130
  let c0_i32_135 : BitVec 32 := 0#32
  let v295 : BitVec 1 := Scalar.cmpi .ne v294 c0_i32_135
  let v296 : BitVec 1 := Scalar.andi v293 v295
  let v282 : BitVec 32 := Scalar.divsi v281 c2_i32_130
  let c1_i32_136 : BitVec 32 := 1#32
  let v297 : BitVec 32 := Scalar.subi v282 c1_i32_136
  let v298 : BitVec 32 := Scalar.select v296 v297 v282
  let c19999_i32 : BitVec 32 := 19999#32
  let v299 : BitVec 32 := Scalar.minsi v298 c19999_i32
  let c8_i32_137 : BitVec 32 := 8#32
  let v300 : BitVec 32 := Scalar.muli v299 c8_i32_137
  ![v300.toNat]

def k0_chk3 (arg20 : BitVec 32) (arg21 : BitVec 32) : Prop :=
  (∀ a, (k0_off22 arg20 arg21) a + S16.size a ≤ S160016.size a)
theorem k0_off22_inb : ∀ (arg20 : BitVec 32) (arg21 : BitVec 32) (k0_hw3 : k0_chk3 arg20 arg21), ∀ a, (k0_off22 arg20 arg21) a + S16.size a ≤ S160016.size a := fun arg20 arg21 k0_hw3 => k0_hw3

def k0_off23 (v106_0 : BitVec 32) : Fin 1 → Nat :=
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_61 : BitVec 32 := 8#32
  let v109 : BitVec 32 := Scalar.muli v108 c8_i32_61
  ![v109.toNat]

def k0_chk4 (v106_0 : BitVec 32) : Prop :=
  (∀ a, (k0_off23 v106_0) a + S16.size a ≤ S160016.size a)
theorem k0_off23_inb : ∀ (v106_0 : BitVec 32) (k0_hw4 : k0_chk4 v106_0), ∀ a, (k0_off23 v106_0) a + S16.size a ≤ S160016.size a := fun v106_0 k0_hw4 => k0_hw4

def k0_off24 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c0_i32_130 : BitVec 32 := 0#32
  let v281 : BitVec 32 := Scalar.addi v213 c0_i32_130
  let c159808_i32 : BitVec 32 := 159808#32
  let v282 : BitVec 32 := Scalar.minsi v281 c159808_i32
  let c0_i32_131 : BitVec 32 := 0#32
  ![v282.toNat, 0]
def k0_cond2 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) : BitVec 1 :=
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c0_i32_115 : BitVec 32 := 0#32
  let v234 : BitVec 1 := Scalar.cmpi .sgt v233 c0_i32_115
  let v235 : BitVec 32 := Scalar.extui v234
  let c0_i32_116 : BitVec 32 := 0#32
  let v236 : BitVec 1 := Scalar.cmpi .ne v235 c0_i32_116
  v236

@[reducible] def k0_t5_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) : Scf.Loop 32 :=
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_127 : BitVec 32 := 1#32
  ⟨c0_i32_125, v260, c1_i32_127⟩
def k0_off25 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_131 : BitVec 32 := 1#32
  let v282 : BitVec 32 := Scalar.addi v281 c1_i32_131
  let c192_i32_132 : BitVec 32 := 192#32
  let v283 : BitVec 32 := Scalar.muli v282 c192_i32_132
  let v284 : BitVec 32 := Scalar.addi v213 v283
  let c159808_i32 : BitVec 32 := 159808#32
  let v285 : BitVec 32 := Scalar.minsi v284 c159808_i32
  let c0_i32_133 : BitVec 32 := 0#32
  ![v285.toNat, 0]
def k0_off26 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_135 : BitVec 32 := 192#32
  let v288 : BitVec 32 := Scalar.muli v281 c192_i32_135
  let v289 : BitVec 32 := Scalar.addi v213 v288
  let c159808_i32_136 : BitVec 32 := 159808#32
  let v290 : BitVec 32 := Scalar.minsi v289 c159808_i32_136
  let c0_i32_137 : BitVec 32 := 0#32
  ![v290.toNat, 0]
def k0_off27 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : Fin 1 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  ![v297.toNat]
@[reducible] def k0_t6_loop : Scf.Loop 32 :=
  let c0_i32_146 : BitVec 32 := 0#32
  let c4_i32 : BitVec 32 := 4#32
  let v314 : BitVec 32 := Scalar.addi c0_i32_146 c4_i32
  let c1_i32_147 : BitVec 32 := 1#32
  ⟨c0_i32_146, v314, c1_i32_147⟩
def k0_off28 (arg37 : BitVec 32) (arg38 : BitVec 32) : Fin 1 → Nat :=
  let v544 : BitVec 32 := Scalar.addi arg37 arg38
  let c0_i32_255 : BitVec 32 := 0#32
  let v546 : BitVec 1 := Scalar.cmpi .sgt v544 c0_i32_255
  let v547 : BitVec 32 := Scalar.extui v546
  let c0_i32_256 : BitVec 32 := 0#32
  let v548 : BitVec 1 := Scalar.cmpi .slt v544 c0_i32_256
  let v549 : BitVec 32 := Scalar.extui v548
  let v550 : BitVec 32 := Scalar.subi v547 v549
  let c2_i32_254 : BitVec 32 := 2#32
  let c0_i32_257 : BitVec 32 := 0#32
  let v551 : BitVec 1 := Scalar.cmpi .sgt c2_i32_254 c0_i32_257
  let v552 : BitVec 32 := Scalar.extui v551
  let c0_i32_258 : BitVec 32 := 0#32
  let v553 : BitVec 1 := Scalar.cmpi .slt c2_i32_254 c0_i32_258
  let v554 : BitVec 32 := Scalar.extui v553
  let v555 : BitVec 32 := Scalar.subi v552 v554
  let v556 : BitVec 1 := Scalar.cmpi .ne v550 v555
  let v557 : BitVec 32 := Scalar.remsi v544 c2_i32_254
  let c0_i32_259 : BitVec 32 := 0#32
  let v558 : BitVec 1 := Scalar.cmpi .ne v557 c0_i32_259
  let v559 : BitVec 1 := Scalar.andi v556 v558
  let v545 : BitVec 32 := Scalar.divsi v544 c2_i32_254
  let c1_i32_260 : BitVec 32 := 1#32
  let v560 : BitVec 32 := Scalar.subi v545 c1_i32_260
  let v561 : BitVec 32 := Scalar.select v559 v560 v545
  let c11_i32 : BitVec 32 := 11#32
  let v562 : BitVec 32 := Scalar.minsi v561 c11_i32
  let c16_i32_261 : BitVec 32 := 16#32
  let v563 : BitVec 32 := Scalar.muli v562 c16_i32_261
  let v564 : Index := Scalar.indexCast v563
  ![v564.toNat]

def k0_chk6 (arg37 : BitVec 32) (arg38 : BitVec 32) : Prop :=
  (∀ a, (k0_off28 arg37 arg38) a + S16.size a ≤ S192.size a)
theorem k0_off28_inb : ∀ (arg37 : BitVec 32) (arg38 : BitVec 32) (k0_hw6 : k0_chk6 arg37 arg38), ∀ a, (k0_off28 arg37 arg38) a + S16.size a ≤ S192.size a := fun arg37 arg38 k0_hw6 => k0_hw6

def k0_off29 (v315_0 : BitVec 32) : Fin 1 → Nat :=
  let c1_i32_149 : BitVec 32 := 1#32
  let v316 : BitVec 32 := Scalar.subi v315_0 c1_i32_149
  let c0_i32_150 : BitVec 32 := 0#32
  let v317 : BitVec 32 := Scalar.maxsi v316 c0_i32_150
  let c16_i32_151 : BitVec 32 := 16#32
  let v318 : BitVec 32 := Scalar.muli v317 c16_i32_151
  let v319 : Index := Scalar.indexCast v318
  ![v319.toNat]

def k0_chk7 (v315_0 : BitVec 32) : Prop :=
  (∀ a, (k0_off29 v315_0) a + S16.size a ≤ S192.size a)
theorem k0_off29_inb : ∀ (v315_0 : BitVec 32) (k0_hw7 : k0_chk7 v315_0), ∀ a, (k0_off29 v315_0) a + S16.size a ≤ S192.size a := fun v315_0 k0_hw7 => k0_hw7

@[reducible] def k0_t7_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_189 : BitVec 32 := 1#32
  ⟨v307, v410, c1_i32_189⟩

@[reducible] def k0_t8_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off30 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk9 (arg55 : BitVec 32) (arg56 : BitVec 32) : Prop :=
  (∀ a, (k0_off30 arg55 arg56) a + S16.size a ≤ S192.size a)
theorem k0_off30_inb : ∀ (arg55 : BitVec 32) (arg56 : BitVec 32) (k0_hw9 : k0_chk9 arg55 arg56), ∀ a, (k0_off30 arg55 arg56) a + S16.size a ≤ S192.size a := fun arg55 arg56 k0_hw9 => k0_hw9

def k0_off31 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk10 (v546_0 : BitVec 32) : Prop :=
  (∀ a, (k0_off31 v546_0) a + S16.size a ≤ S192.size a)
theorem k0_off31_inb : ∀ (v546_0 : BitVec 32) (k0_hw10 : k0_chk10 v546_0), ∀ a, (k0_off31 v546_0) a + S16.size a ≤ S192.size a := fun v546_0 k0_hw10 => k0_hw10

def k0_off32 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v641 : Index := Scalar.indexCast v637
  let c0_300 : Index := 0#32
  ![v641.toNat, 0]
def k0_off33 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v644 : Index := Scalar.indexCast v637
  let c16 : Index := 16#32
  ![v644.toNat, 16]
def k0_off34 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v647 : Index := Scalar.indexCast v637
  let c32 : Index := 32#32
  ![v647.toNat, 32]
def k0_off35 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v650 : Index := Scalar.indexCast v637
  let c48 : Index := 48#32
  ![v650.toNat, 48]
def k0_off36 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v653 : Index := Scalar.indexCast v637
  let c64 : Index := 64#32
  ![v653.toNat, 64]
def k0_off37 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v656 : Index := Scalar.indexCast v637
  let c80 : Index := 80#32
  ![v656.toNat, 80]
def k0_off38 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v659 : Index := Scalar.indexCast v637
  let c96 : Index := 96#32
  ![v659.toNat, 96]
def k0_off39 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v662 : Index := Scalar.indexCast v637
  let c112 : Index := 112#32
  ![v662.toNat, 112]
def k0_off40 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v665 : Index := Scalar.indexCast v637
  let c128 : Index := 128#32
  ![v665.toNat, 128]
def k0_off41 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v668 : Index := Scalar.indexCast v637
  let c144 : Index := 144#32
  ![v668.toNat, 144]
def k0_off42 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v671 : Index := Scalar.indexCast v637
  let c160 : Index := 160#32
  ![v671.toNat, 160]
def k0_off43 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v674 : Index := Scalar.indexCast v637
  let c176_301 : Index := 176#32
  ![v674.toNat, 176]
def k0_off44 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v677 : Index := Scalar.indexCast v637
  let c192 : Index := 192#32
  ![v677.toNat, 192]
def k0_off45 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v680 : Index := Scalar.indexCast v637
  let c208 : Index := 208#32
  ![v680.toNat, 208]
def k0_off46 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v683 : Index := Scalar.indexCast v637
  let c224 : Index := 224#32
  ![v683.toNat, 224]
def k0_off47 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v686 : Index := Scalar.indexCast v637
  let c240 : Index := 240#32
  ![v686.toNat, 240]
@[reducible] def k0_t9_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off48 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v773 : Index := Scalar.indexCast arg54
  let c0_324 : Index := 0#32
  ![v773.toNat, 0]
def k0_off49 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v779 : Index := Scalar.indexCast arg54
  let c16_325 : Index := 16#32
  ![v779.toNat, 16]
def k0_off50 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v785 : Index := Scalar.indexCast arg54
  let c32_326 : Index := 32#32
  ![v785.toNat, 32]
def k0_off51 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v791 : Index := Scalar.indexCast arg54
  let c48_327 : Index := 48#32
  ![v791.toNat, 48]
def k0_off52 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v797 : Index := Scalar.indexCast arg54
  let c64_328 : Index := 64#32
  ![v797.toNat, 64]
def k0_off53 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v803 : Index := Scalar.indexCast arg54
  let c80_329 : Index := 80#32
  ![v803.toNat, 80]
def k0_off54 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v809 : Index := Scalar.indexCast arg54
  let c96_330 : Index := 96#32
  ![v809.toNat, 96]
def k0_off55 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v815 : Index := Scalar.indexCast arg54
  let c112_331 : Index := 112#32
  ![v815.toNat, 112]
def k0_off56 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v821 : Index := Scalar.indexCast arg54
  let c128_332 : Index := 128#32
  ![v821.toNat, 128]
def k0_off57 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v827 : Index := Scalar.indexCast arg54
  let c144_333 : Index := 144#32
  ![v827.toNat, 144]
def k0_off58 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v833 : Index := Scalar.indexCast arg54
  let c160_334 : Index := 160#32
  ![v833.toNat, 160]
def k0_off59 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v839 : Index := Scalar.indexCast arg54
  let c176_335 : Index := 176#32
  ![v839.toNat, 176]
def k0_off60 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v845 : Index := Scalar.indexCast arg54
  let c192_336 : Index := 192#32
  ![v845.toNat, 192]
def k0_off61 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v851 : Index := Scalar.indexCast arg54
  let c208_337 : Index := 208#32
  ![v851.toNat, 208]
def k0_off62 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v857 : Index := Scalar.indexCast arg54
  let c224_338 : Index := 224#32
  ![v857.toNat, 224]
def k0_off63 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t9
  let v863 : Index := Scalar.indexCast arg54
  let c240_339 : Index := 240#32
  ![v863.toNat, 240]
@[reducible] def k0_t10_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off64 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v773 : Index := Scalar.indexCast arg54
  let c0_324 : Index := 0#32
  ![v773.toNat, 0]
def k0_off65 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v779 : Index := Scalar.indexCast arg54
  let c16_325 : Index := 16#32
  ![v779.toNat, 16]
def k0_off66 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v785 : Index := Scalar.indexCast arg54
  let c32_326 : Index := 32#32
  ![v785.toNat, 32]
def k0_off67 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v791 : Index := Scalar.indexCast arg54
  let c48_327 : Index := 48#32
  ![v791.toNat, 48]
def k0_off68 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v797 : Index := Scalar.indexCast arg54
  let c64_328 : Index := 64#32
  ![v797.toNat, 64]
def k0_off69 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v803 : Index := Scalar.indexCast arg54
  let c80_329 : Index := 80#32
  ![v803.toNat, 80]
def k0_off70 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v809 : Index := Scalar.indexCast arg54
  let c96_330 : Index := 96#32
  ![v809.toNat, 96]
def k0_off71 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v815 : Index := Scalar.indexCast arg54
  let c112_331 : Index := 112#32
  ![v815.toNat, 112]
def k0_off72 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v821 : Index := Scalar.indexCast arg54
  let c128_332 : Index := 128#32
  ![v821.toNat, 128]
def k0_off73 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v827 : Index := Scalar.indexCast arg54
  let c144_333 : Index := 144#32
  ![v827.toNat, 144]
def k0_off74 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v833 : Index := Scalar.indexCast arg54
  let c160_334 : Index := 160#32
  ![v833.toNat, 160]
def k0_off75 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v839 : Index := Scalar.indexCast arg54
  let c176_335 : Index := 176#32
  ![v839.toNat, 176]
def k0_off76 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v845 : Index := Scalar.indexCast arg54
  let c192_336 : Index := 192#32
  ![v845.toNat, 192]
def k0_off77 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v851 : Index := Scalar.indexCast arg54
  let c208_337 : Index := 208#32
  ![v851.toNat, 208]
def k0_off78 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v857 : Index := Scalar.indexCast arg54
  let c224_338 : Index := 224#32
  ![v857.toNat, 224]
def k0_off79 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t7
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t10
  let v863 : Index := Scalar.indexCast arg54
  let c240_339 : Index := 240#32
  ![v863.toNat, 240]

def k0_chk11_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).OK) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off48 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off49 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off50 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off51 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off52 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off53 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off54 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off55 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off56 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off57 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off58 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off59 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off60 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off61 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off62 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  (∀ k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off63 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a) ∧
  ((k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).OK) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off64 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off65 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off66 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off67 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off68 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off69 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off70 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off71 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off72 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off73 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off74 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off75 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off76 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off77 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a)
def k0_chk11_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off78 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a) ∧
  (∀ k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips, ∀ a, (k0_off79 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a)
def k0_chk11 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk11_0 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 ∧
  k0_chk11_1 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629
theorem k0_t9_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629), (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 => k0_hw11.1.1
theorem k0_off48_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off48 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.1 k0_t9
theorem k0_off49_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off49 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.1 k0_t9
theorem k0_off50_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off50 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.1 k0_t9
theorem k0_off51_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off51 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.1 k0_t9
theorem k0_off52_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off52 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.1 k0_t9
theorem k0_off53_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off53 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.1 k0_t9
theorem k0_off54_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off54 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.1 k0_t9
theorem k0_off55_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off55 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.1 k0_t9
theorem k0_off56_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off56 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.1 k0_t9
theorem k0_off57_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off57 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.1 k0_t9
theorem k0_off58_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off58 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.2.1 k0_t9
theorem k0_off59_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off59 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.2.2.1 k0_t9
theorem k0_off60_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off60 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.2.2.2.1 k0_t9
theorem k0_off61_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off61 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.2.2.2.2.1 k0_t9
theorem k0_off62_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off62 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.2.2.2.2.2.1 k0_t9
theorem k0_off63_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t9 : Fin (k0_t9_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off63 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t9) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t9 => k0_hw11.1.2.2.2.2.2.2.2.2.2.2.2.2.2.2.2.2.1 k0_t9
theorem k0_t10_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629), (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 => k0_hw11.1.2.2.2.2.2.2.2.2.2.2.2.2.2.2.2.2.2.1
theorem k0_off64_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off64 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.1 k0_t10
theorem k0_off65_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off65 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.1 k0_t10
theorem k0_off66_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off66 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.1 k0_t10
theorem k0_off67_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off67 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.1 k0_t10
theorem k0_off68_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off68 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.1 k0_t10
theorem k0_off69_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off69 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.1 k0_t10
theorem k0_off70_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off70 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.1 k0_t10
theorem k0_off71_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off71 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.1 k0_t10
theorem k0_off72_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off72 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.2.1 k0_t10
theorem k0_off73_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off73 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.2.2.1 k0_t10
theorem k0_off74_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off74 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.2.2.2.1 k0_t10
theorem k0_off75_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off75 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.2.2.2.2.1 k0_t10
theorem k0_off76_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off76 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.2.2.2.2.2.1 k0_t10
theorem k0_off77_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off77 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.1.2.2.2.2.2.2.2.2.2.2.2.2.2.2.2.2.2.2.2.2.2.2.2.2.2.2.2.2.2.2.2 k0_t10
theorem k0_off78_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off78 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.2.1 k0_t10
theorem k0_off79_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw11 : k0_chk11 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629) (k0_t10 : Fin (k0_t10_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629).trips), ∀ a, (k0_off79 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_t10) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t7 arg37 v546_0 v554 v559 v564 v569 v574 v579 v584 v589 v594 v599 v604 v609 v614 v619 v624 v629 k0_hw11 k0_t10 => k0_hw11.2.2 k0_t10

def k0_off80 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v696 : Index := Scalar.indexCast v637
  let c0_305 : Index := 0#32
  ![v696.toNat, 0]
def k0_off81 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v700 : Index := Scalar.indexCast v637
  let c16_306 : Index := 16#32
  ![v700.toNat, 16]
def k0_off82 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v704 : Index := Scalar.indexCast v637
  let c32_307 : Index := 32#32
  ![v704.toNat, 32]
def k0_off83 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v708 : Index := Scalar.indexCast v637
  let c48_308 : Index := 48#32
  ![v708.toNat, 48]
def k0_off84 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v712 : Index := Scalar.indexCast v637
  let c64_309 : Index := 64#32
  ![v712.toNat, 64]
def k0_off85 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v716 : Index := Scalar.indexCast v637
  let c80_310 : Index := 80#32
  ![v716.toNat, 80]
def k0_off86 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v720 : Index := Scalar.indexCast v637
  let c96_311 : Index := 96#32
  ![v720.toNat, 96]
def k0_off87 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v724 : Index := Scalar.indexCast v637
  let c112_312 : Index := 112#32
  ![v724.toNat, 112]
def k0_off88 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v728 : Index := Scalar.indexCast v637
  let c128_313 : Index := 128#32
  ![v728.toNat, 128]
def k0_off89 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v732 : Index := Scalar.indexCast v637
  let c144_314 : Index := 144#32
  ![v732.toNat, 144]
def k0_off90 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v736 : Index := Scalar.indexCast v637
  let c160_315 : Index := 160#32
  ![v736.toNat, 160]
def k0_off91 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v740 : Index := Scalar.indexCast v637
  let c176_316 : Index := 176#32
  ![v740.toNat, 176]
def k0_off92 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v744 : Index := Scalar.indexCast v637
  let c192_317 : Index := 192#32
  ![v744.toNat, 192]
def k0_off93 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v748 : Index := Scalar.indexCast v637
  let c208_318 : Index := 208#32
  ![v748.toNat, 208]
def k0_off94 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v752 : Index := Scalar.indexCast v637
  let c224_319 : Index := 224#32
  ![v752.toNat, 224]
def k0_off95 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v756 : Index := Scalar.indexCast v637
  let c240_320 : Index := 240#32
  ![v756.toNat, 240]
def k0_off96 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t7
  let v637 : BitVec 32 := Scalar.subi arg36 v2
  let v762 : Index := Scalar.indexCast v637
  let c0_321 : Index := 0#32
  ![v762.toNat, 0]
@[reducible] def k0_t11_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let v407 : BitVec 32 := Scalar.addi v307 v406
  let c1_i32_190 : BitVec 32 := 1#32
  ⟨v410, v407, c1_i32_190⟩
@[reducible] def k0_t12_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off97 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk12 (arg55 : BitVec 32) (arg56 : BitVec 32) : Prop :=
  (∀ a, (k0_off97 arg55 arg56) a + S16.size a ≤ S192.size a)
theorem k0_off97_inb : ∀ (arg55 : BitVec 32) (arg56 : BitVec 32) (k0_hw12 : k0_chk12 arg55 arg56), ∀ a, (k0_off97 arg55 arg56) a + S16.size a ≤ S192.size a := fun arg55 arg56 k0_hw12 => k0_hw12

def k0_off98 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk13 (v546_0 : BitVec 32) : Prop :=
  (∀ a, (k0_off98 v546_0) a + S16.size a ≤ S192.size a)
theorem k0_off98_inb : ∀ (v546_0 : BitVec 32) (k0_hw13 : k0_chk13 v546_0), ∀ a, (k0_off98 v546_0) a + S16.size a ≤ S192.size a := fun v546_0 k0_hw13 => k0_hw13

def k0_off99 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v641 : Index := Scalar.indexCast v637
  let c0_300 : Index := 0#32
  ![v641.toNat, 0]
def k0_off100 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v644 : Index := Scalar.indexCast v637
  let c16 : Index := 16#32
  ![v644.toNat, 16]
def k0_off101 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v647 : Index := Scalar.indexCast v637
  let c32 : Index := 32#32
  ![v647.toNat, 32]
def k0_off102 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v650 : Index := Scalar.indexCast v637
  let c48 : Index := 48#32
  ![v650.toNat, 48]
def k0_off103 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v653 : Index := Scalar.indexCast v637
  let c64 : Index := 64#32
  ![v653.toNat, 64]
def k0_off104 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v656 : Index := Scalar.indexCast v637
  let c80 : Index := 80#32
  ![v656.toNat, 80]
def k0_off105 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v659 : Index := Scalar.indexCast v637
  let c96 : Index := 96#32
  ![v659.toNat, 96]
def k0_off106 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v662 : Index := Scalar.indexCast v637
  let c112 : Index := 112#32
  ![v662.toNat, 112]
def k0_off107 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v665 : Index := Scalar.indexCast v637
  let c128 : Index := 128#32
  ![v665.toNat, 128]
def k0_off108 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v668 : Index := Scalar.indexCast v637
  let c144 : Index := 144#32
  ![v668.toNat, 144]
def k0_off109 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v671 : Index := Scalar.indexCast v637
  let c160 : Index := 160#32
  ![v671.toNat, 160]
def k0_off110 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v674 : Index := Scalar.indexCast v637
  let c176_301 : Index := 176#32
  ![v674.toNat, 176]
def k0_off111 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v677 : Index := Scalar.indexCast v637
  let c192 : Index := 192#32
  ![v677.toNat, 192]
def k0_off112 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v680 : Index := Scalar.indexCast v637
  let c208 : Index := 208#32
  ![v680.toNat, 208]
def k0_off113 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v683 : Index := Scalar.indexCast v637
  let c224 : Index := 224#32
  ![v683.toNat, 224]
def k0_off114 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v686 : Index := Scalar.indexCast v637
  let c240 : Index := 240#32
  ![v686.toNat, 240]
@[reducible] def k0_t13_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off115 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v773 : Index := Scalar.indexCast arg54
  let c0_324 : Index := 0#32
  ![v773.toNat, 0]
def k0_off116 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v779 : Index := Scalar.indexCast arg54
  let c16_325 : Index := 16#32
  ![v779.toNat, 16]
def k0_off117 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v785 : Index := Scalar.indexCast arg54
  let c32_326 : Index := 32#32
  ![v785.toNat, 32]
def k0_off118 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v791 : Index := Scalar.indexCast arg54
  let c48_327 : Index := 48#32
  ![v791.toNat, 48]
def k0_off119 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v797 : Index := Scalar.indexCast arg54
  let c64_328 : Index := 64#32
  ![v797.toNat, 64]
def k0_off120 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v803 : Index := Scalar.indexCast arg54
  let c80_329 : Index := 80#32
  ![v803.toNat, 80]
def k0_off121 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v809 : Index := Scalar.indexCast arg54
  let c96_330 : Index := 96#32
  ![v809.toNat, 96]
def k0_off122 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v815 : Index := Scalar.indexCast arg54
  let c112_331 : Index := 112#32
  ![v815.toNat, 112]
def k0_off123 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v821 : Index := Scalar.indexCast arg54
  let c128_332 : Index := 128#32
  ![v821.toNat, 128]
def k0_off124 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v827 : Index := Scalar.indexCast arg54
  let c144_333 : Index := 144#32
  ![v827.toNat, 144]
def k0_off125 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v833 : Index := Scalar.indexCast arg54
  let c160_334 : Index := 160#32
  ![v833.toNat, 160]
def k0_off126 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v839 : Index := Scalar.indexCast arg54
  let c176_335 : Index := 176#32
  ![v839.toNat, 176]
def k0_off127 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v845 : Index := Scalar.indexCast arg54
  let c192_336 : Index := 192#32
  ![v845.toNat, 192]
def k0_off128 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v851 : Index := Scalar.indexCast arg54
  let c208_337 : Index := 208#32
  ![v851.toNat, 208]
def k0_off129 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v857 : Index := Scalar.indexCast arg54
  let c224_338 : Index := 224#32
  ![v857.toNat, 224]
def k0_off130 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t13
  let v863 : Index := Scalar.indexCast arg54
  let c240_339 : Index := 240#32
  ![v863.toNat, 240]
@[reducible] def k0_t14_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off131 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v773 : Index := Scalar.indexCast arg54
  let c0_324 : Index := 0#32
  ![v773.toNat, 0]
def k0_off132 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v779 : Index := Scalar.indexCast arg54
  let c16_325 : Index := 16#32
  ![v779.toNat, 16]
def k0_off133 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v785 : Index := Scalar.indexCast arg54
  let c32_326 : Index := 32#32
  ![v785.toNat, 32]
def k0_off134 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v791 : Index := Scalar.indexCast arg54
  let c48_327 : Index := 48#32
  ![v791.toNat, 48]
def k0_off135 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v797 : Index := Scalar.indexCast arg54
  let c64_328 : Index := 64#32
  ![v797.toNat, 64]
def k0_off136 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v803 : Index := Scalar.indexCast arg54
  let c80_329 : Index := 80#32
  ![v803.toNat, 80]
def k0_off137 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v809 : Index := Scalar.indexCast arg54
  let c96_330 : Index := 96#32
  ![v809.toNat, 96]
def k0_off138 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v815 : Index := Scalar.indexCast arg54
  let c112_331 : Index := 112#32
  ![v815.toNat, 112]
def k0_off139 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v821 : Index := Scalar.indexCast arg54
  let c128_332 : Index := 128#32
  ![v821.toNat, 128]
def k0_off140 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v827 : Index := Scalar.indexCast arg54
  let c144_333 : Index := 144#32
  ![v827.toNat, 144]
def k0_off141 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v833 : Index := Scalar.indexCast arg54
  let c160_334 : Index := 160#32
  ![v833.toNat, 160]
def k0_off142 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v839 : Index := Scalar.indexCast arg54
  let c176_335 : Index := 176#32
  ![v839.toNat, 176]
def k0_off143 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v845 : Index := Scalar.indexCast arg54
  let c192_336 : Index := 192#32
  ![v845.toNat, 192]
def k0_off144 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v851 : Index := Scalar.indexCast arg54
  let c208_337 : Index := 208#32
  ![v851.toNat, 208]
def k0_off145 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v857 : Index := Scalar.indexCast arg54
  let c224_338 : Index := 224#32
  ![v857.toNat, 224]
def k0_off146 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t14
  let v863 : Index := Scalar.indexCast arg54
  let c240_339 : Index := 240#32
  ![v863.toNat, 240]

def k0_chk14_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).OK) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off115 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off116 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off117 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off118 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off119 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off120 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off121 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off122 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off123 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off124 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off125 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off126 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off127 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off128 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off129 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  (∀ k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off130 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a) ∧
  ((k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).OK) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off131 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off132 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off133 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off134 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off135 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off136 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off137 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off138 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off139 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off140 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off141 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off142 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off143 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off144 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a)
def k0_chk14_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off145 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a) ∧
  (∀ k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips, ∀ a, (k0_off146 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a)
def k0_chk14 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk14_0 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 ∧
  k0_chk14_1 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629
theorem k0_t13_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629), (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 => k0_hw14.1.1
theorem k0_off115_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off115 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.1 k0_t13
theorem k0_off116_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off116 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.1 k0_t13
theorem k0_off117_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off117 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.1 k0_t13
theorem k0_off118_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off118 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.1 k0_t13
theorem k0_off119_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off119 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.1 k0_t13
theorem k0_off120_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off120 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.1 k0_t13
theorem k0_off121_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off121 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.1 k0_t13
theorem k0_off122_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off122 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.1 k0_t13
theorem k0_off123_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off123 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.1 k0_t13
theorem k0_off124_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off124 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.1 k0_t13
theorem k0_off125_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off125 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.2.1 k0_t13
theorem k0_off126_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off126 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.2.2.1 k0_t13
theorem k0_off127_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off127 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.2.2.2.1 k0_t13
theorem k0_off128_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off128 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.2.2.2.2.1 k0_t13
theorem k0_off129_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off129 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.2.2.2.2.2.1 k0_t13
theorem k0_off130_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t13 : Fin (k0_t13_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off130 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t13) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t13 => k0_hw14.1.2.2.2.2.2.2.2.2.2.2.2.2.2.2.2.2.1 k0_t13
theorem k0_t14_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629), (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 => k0_hw14.1.2.2.2.2.2.2.2.2.2.2.2.2.2.2.2.2.2.1
theorem k0_off131_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off131 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.1 k0_t14
theorem k0_off132_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off132 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.1 k0_t14
theorem k0_off133_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off133 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.1 k0_t14
theorem k0_off134_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off134 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.1 k0_t14
theorem k0_off135_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off135 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.1 k0_t14
theorem k0_off136_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off136 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.1 k0_t14
theorem k0_off137_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off137 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.1 k0_t14
theorem k0_off138_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off138 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.1 k0_t14
theorem k0_off139_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off139 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.2.1 k0_t14
theorem k0_off140_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off140 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.2.2.1 k0_t14
theorem k0_off141_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off141 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.2.2.2.1 k0_t14
theorem k0_off142_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off142 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.2.2.2.2.1 k0_t14
theorem k0_off143_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off143 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.2.2.2.2.2.1 k0_t14
theorem k0_off144_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off144 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.1.2.2.2.2.2.2.2.2.2.2.2.2.2.2.2.2.2.2.2.2.2.2.2.2.2.2.2.2.2.2.2 k0_t14
theorem k0_off145_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off145 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.2.1 k0_t14
theorem k0_off146_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw14 : k0_chk14 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629) (k0_t14 : Fin (k0_t14_loop i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629).trips), ∀ a, (k0_off146 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_t14) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_t11 arg37 v546_0 v554 v559 v564 v569 v574 v579 v584 v589 v594 v599 v604 v609 v614 v619 v624 v629 k0_hw14 k0_t14 => k0_hw14.2.2 k0_t14

def k0_off147 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v696 : Index := Scalar.indexCast v637
  let c0_305 : Index := 0#32
  ![v696.toNat, 0]
def k0_off148 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v700 : Index := Scalar.indexCast v637
  let c16_306 : Index := 16#32
  ![v700.toNat, 16]
def k0_off149 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v704 : Index := Scalar.indexCast v637
  let c32_307 : Index := 32#32
  ![v704.toNat, 32]
def k0_off150 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v708 : Index := Scalar.indexCast v637
  let c48_308 : Index := 48#32
  ![v708.toNat, 48]
def k0_off151 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v712 : Index := Scalar.indexCast v637
  let c64_309 : Index := 64#32
  ![v712.toNat, 64]
def k0_off152 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v716 : Index := Scalar.indexCast v637
  let c80_310 : Index := 80#32
  ![v716.toNat, 80]
def k0_off153 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v720 : Index := Scalar.indexCast v637
  let c96_311 : Index := 96#32
  ![v720.toNat, 96]
def k0_off154 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v724 : Index := Scalar.indexCast v637
  let c112_312 : Index := 112#32
  ![v724.toNat, 112]
def k0_off155 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v728 : Index := Scalar.indexCast v637
  let c128_313 : Index := 128#32
  ![v728.toNat, 128]
def k0_off156 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v732 : Index := Scalar.indexCast v637
  let c144_314 : Index := 144#32
  ![v732.toNat, 144]
def k0_off157 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v736 : Index := Scalar.indexCast v637
  let c160_315 : Index := 160#32
  ![v736.toNat, 160]
def k0_off158 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v740 : Index := Scalar.indexCast v637
  let c176_316 : Index := 176#32
  ![v740.toNat, 176]
def k0_off159 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v744 : Index := Scalar.indexCast v637
  let c192_317 : Index := 192#32
  ![v744.toNat, 192]
def k0_off160 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v748 : Index := Scalar.indexCast v637
  let c208_318 : Index := 208#32
  ![v748.toNat, 208]
def k0_off161 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v752 : Index := Scalar.indexCast v637
  let c224_319 : Index := 224#32
  ![v752.toNat, 224]
def k0_off162 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v756 : Index := Scalar.indexCast v637
  let c240_320 : Index := 240#32
  ![v756.toNat, 240]
def k0_off163 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t11
  let v637 : BitVec 32 := Scalar.subi arg36 v2
  let v762 : Index := Scalar.indexCast v637
  let c0_321 : Index := 0#32
  ![v762.toNat, 0]

def k0_chk8_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  ((k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).OK) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off32 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off33 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off34 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off35 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off36 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off37 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off38 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off39 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off40 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off41 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off42 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off43 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off44 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off45 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off46 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off47 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off80 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off81 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off82 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off83 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off84 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off85 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off86 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off87 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off88 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off89 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off90 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off91 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off92 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off93 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off94 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a)
def k0_chk8_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off95 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a) ∧
  (∀ k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off96 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x16.size a) ∧
  ((k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).OK) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off99 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off100 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off101 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off102 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off103 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off104 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off105 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off106 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off107 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off108 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off109 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off110 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off111 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off112 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off113 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off114 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off147 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off148 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off149 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off150 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off151 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off152 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off153 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off154 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off155 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off156 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off157 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off158 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off159 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a)
def k0_chk8_2 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off160 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off161 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off162 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a) ∧
  (∀ k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips, ∀ a, (k0_off163 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x16.size a)
def k0_chk8 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  k0_chk8_0 i v14_0 v21 v26 v31 v36 v41 v46 v51 v56 v61 v66 v71 v76 v81 v86 v91 v96 v106_0 v113 v118 v123 v128 v133 v138 v143 v148 v153 v158 v163 v168 v173 v178 v183 v188 k0_t5 v302 v306 ∧
  k0_chk8_1 i v14_0 v21 v26 v31 v36 v41 v46 v51 v56 v61 v66 v71 v76 v81 v86 v91 v96 v106_0 v113 v118 v123 v128 v133 v138 v143 v148 v153 v158 v163 v168 v173 v178 v183 v188 k0_t5 v302 v306 ∧
  k0_chk8_2 i v14_0 v21 v26 v31 v36 v41 v46 v51 v56 v61 v66 v71 v76 v81 v86 v91 v96 v106_0 v113 v118 v123 v128 v133 v138 v143 v148 v153 v158 v163 v168 v173 v178 v183 v188 k0_t5 v302 v306
theorem k0_t7_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306), (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).OK := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 => k0_hw8.1.1
theorem k0_off32_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off32 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.1 k0_t7
theorem k0_off33_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off33 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.1 k0_t7
theorem k0_off34_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off34 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.1 k0_t7
theorem k0_off35_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off35 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.1 k0_t7
theorem k0_off36_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off36 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.1 k0_t7
theorem k0_off37_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off37 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.1 k0_t7
theorem k0_off38_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off38 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.1 k0_t7
theorem k0_off39_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off39 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.1 k0_t7
theorem k0_off40_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off40 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.1 k0_t7
theorem k0_off41_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off41 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.1 k0_t7
theorem k0_off42_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off42 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.1 k0_t7
theorem k0_off43_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off43 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.1 k0_t7
theorem k0_off44_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off44 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.1 k0_t7
theorem k0_off45_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off45 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.1 k0_t7
theorem k0_off46_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off46 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.1 k0_t7
theorem k0_off47_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off47 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.1 k0_t7
theorem k0_off80_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off80 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.1 k0_t7
theorem k0_off81_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off81 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.1 k0_t7
theorem k0_off82_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off82 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.1 k0_t7
theorem k0_off83_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off83 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.1 k0_t7
theorem k0_off84_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off84 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.1 k0_t7
theorem k0_off85_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off85 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.1 k0_t7
theorem k0_off86_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off86 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.1 k0_t7
theorem k0_off87_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off87 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.1 k0_t7
theorem k0_off88_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off88 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.1 k0_t7
theorem k0_off89_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off89 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.2.1 k0_t7
theorem k0_off90_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off90 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.2.2.1 k0_t7
theorem k0_off91_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off91 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.2.2.2.1 k0_t7
theorem k0_off92_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off92 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.2.2.2.2.1 k0_t7
theorem k0_off93_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off93 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.2.2.2.2.2.1 k0_t7
theorem k0_off94_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off94 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.1.2.2.2.2.2.2.2.2.2.2.2.2.2.2.2.2.2.2.2.2.2.2.2.2.2.2.2.2.2.2.2 k0_t7
theorem k0_off95_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off95 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.2.1.1 k0_t7
theorem k0_off96_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t7 : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off96 i v14_0 v21 v26 v31 v36 v41 v46 v51 v56 v61 v66 v71 v76 v81 v86 v91 v96 v106_0 v113 v118 v123 v128 v133 v138 v143 v148 v153 v158 v163 v168 v173 v178 v183 v188 k0_t5 v302 v306 k0_t7) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t7 => k0_hw8.2.1.2.1 k0_t7
theorem k0_t11_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306), (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).OK := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 => k0_hw8.2.1.2.2.1
theorem k0_off99_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off99 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.1 k0_t11
theorem k0_off100_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off100 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.1 k0_t11
theorem k0_off101_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off101 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.1 k0_t11
theorem k0_off102_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off102 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.1 k0_t11
theorem k0_off103_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off103 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.1 k0_t11
theorem k0_off104_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off104 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.1 k0_t11
theorem k0_off105_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off105 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.1 k0_t11
theorem k0_off106_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off106 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.1 k0_t11
theorem k0_off107_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off107 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.1 k0_t11
theorem k0_off108_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off108 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.1 k0_t11
theorem k0_off109_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off109 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.1 k0_t11
theorem k0_off110_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off110 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.1 k0_t11
theorem k0_off111_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off111 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.1 k0_t11
theorem k0_off112_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off112 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.1 k0_t11
theorem k0_off113_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off113 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.1 k0_t11
theorem k0_off114_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off114 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.1 k0_t11
theorem k0_off147_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off147 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.1 k0_t11
theorem k0_off148_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off148 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.1 k0_t11
theorem k0_off149_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off149 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.1 k0_t11
theorem k0_off150_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off150 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.1 k0_t11
theorem k0_off151_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off151 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.1 k0_t11
theorem k0_off152_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off152 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.1 k0_t11
theorem k0_off153_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off153 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.1 k0_t11
theorem k0_off154_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off154 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.2.1 k0_t11
theorem k0_off155_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off155 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.2.2.1 k0_t11
theorem k0_off156_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off156 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.2.2.2.1 k0_t11
theorem k0_off157_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off157 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.2.2.2.2.1 k0_t11
theorem k0_off158_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off158 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.2.2.2.2.2.1 k0_t11
theorem k0_off159_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off159 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.1.2.2.2.2.2.2.2.2.2.2.2.2.2.2.2.2.2.2.2.2.2.2.2.2.2.2.2.2.2.2.2 k0_t11
theorem k0_off160_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off160 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.2.1 k0_t11
theorem k0_off161_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off161 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.2.2.1 k0_t11
theorem k0_off162_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off162 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.2.2.2.1 k0_t11
theorem k0_off163_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw8 : k0_chk8 i v14_0 v21 v26 v31 v36 v41 v46 v51 v56 v61 v66 v71 v76 v81 v86 v91 v96 v106_0 v113 v118 v123 v128 v133 v138 v143 v148 v153 v158 v163 v168 v173 v178 v183 v188 k0_t5 v302 v306) (k0_t11 : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 v302 v306).trips), ∀ a, (k0_off163 i v14_0 v21 v26 v31 v36 v41 v46 v51 v56 v61 v66 v71 v76 v81 v86 v91 v96 v106_0 v113 v118 v123 v128 v133 v138 v143 v148 v153 v158 v163 v168 v173 v178 v183 v188 k0_t5 v302 v306 k0_t11) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 k0_t11 => k0_hw8.2.2.2.2.2 k0_t11

def k0_off164 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c2_i32_254 : BitVec 32 := 2#32
  let v544 : BitVec 32 := Scalar.addi v281 c2_i32_254
  let c192_i32_255 : BitVec 32 := 192#32
  let v545 : BitVec 32 := Scalar.muli v544 c192_i32_255
  let v546 : BitVec 32 := Scalar.addi v213 v545
  let c159808_i32_256 : BitVec 32 := 159808#32
  let v547 : BitVec 32 := Scalar.minsi v546 c159808_i32_256
  let c0_i32_257 : BitVec 32 := 0#32
  ![v547.toNat, 0]
def k0_cond3 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : BitVec 1 :=
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c2_i32_191 : BitVec 32 := 2#32
  let v413 : BitVec 32 := Scalar.addi v281 c2_i32_191
  let c2_i32_124 : BitVec 32 := 2#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v255 : BitVec 32 := Scalar.muli c2_i32_124 v254
  let v414 : BitVec 1 := Scalar.cmpi .slt v413 v255
  let v415 : BitVec 32 := Scalar.extui v414
  let c0_i32_192 : BitVec 32 := 0#32
  let v416 : BitVec 1 := Scalar.cmpi .ne v415 c0_i32_192
  v416

def k0_off165 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_193 : BitVec 32 := 1#32
  let v417 : BitVec 32 := Scalar.addi v281 c1_i32_193
  let c192_i32_194 : BitVec 32 := 192#32
  let v418 : BitVec 32 := Scalar.muli v417 c192_i32_194
  let v419 : BitVec 32 := Scalar.addi v213 v418
  let c159808_i32_195 : BitVec 32 := 159808#32
  let v420 : BitVec 32 := Scalar.minsi v419 c159808_i32_195
  let c0_i32_196 : BitVec 32 := 0#32
  ![v420.toNat, 0]
def k0_off166 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) : Fin 1 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  ![v428.toNat]
@[reducible] def k0_t15_loop : Scf.Loop 32 :=
  let c0_i32_208 : BitVec 32 := 0#32
  let c4_i32_209 : BitVec 32 := 4#32
  let v445 : BitVec 32 := Scalar.addi c0_i32_208 c4_i32_209
  let c1_i32_210 : BitVec 32 := 1#32
  ⟨c0_i32_208, v445, c1_i32_210⟩
def k0_off167 (arg37 : BitVec 32) (arg38 : BitVec 32) : Fin 1 → Nat :=
  let v544 : BitVec 32 := Scalar.addi arg37 arg38
  let c0_i32_255 : BitVec 32 := 0#32
  let v546 : BitVec 1 := Scalar.cmpi .sgt v544 c0_i32_255
  let v547 : BitVec 32 := Scalar.extui v546
  let c0_i32_256 : BitVec 32 := 0#32
  let v548 : BitVec 1 := Scalar.cmpi .slt v544 c0_i32_256
  let v549 : BitVec 32 := Scalar.extui v548
  let v550 : BitVec 32 := Scalar.subi v547 v549
  let c2_i32_254 : BitVec 32 := 2#32
  let c0_i32_257 : BitVec 32 := 0#32
  let v551 : BitVec 1 := Scalar.cmpi .sgt c2_i32_254 c0_i32_257
  let v552 : BitVec 32 := Scalar.extui v551
  let c0_i32_258 : BitVec 32 := 0#32
  let v553 : BitVec 1 := Scalar.cmpi .slt c2_i32_254 c0_i32_258
  let v554 : BitVec 32 := Scalar.extui v553
  let v555 : BitVec 32 := Scalar.subi v552 v554
  let v556 : BitVec 1 := Scalar.cmpi .ne v550 v555
  let v557 : BitVec 32 := Scalar.remsi v544 c2_i32_254
  let c0_i32_259 : BitVec 32 := 0#32
  let v558 : BitVec 1 := Scalar.cmpi .ne v557 c0_i32_259
  let v559 : BitVec 1 := Scalar.andi v556 v558
  let v545 : BitVec 32 := Scalar.divsi v544 c2_i32_254
  let c1_i32_260 : BitVec 32 := 1#32
  let v560 : BitVec 32 := Scalar.subi v545 c1_i32_260
  let v561 : BitVec 32 := Scalar.select v559 v560 v545
  let c11_i32 : BitVec 32 := 11#32
  let v562 : BitVec 32 := Scalar.minsi v561 c11_i32
  let c16_i32_261 : BitVec 32 := 16#32
  let v563 : BitVec 32 := Scalar.muli v562 c16_i32_261
  let v564 : Index := Scalar.indexCast v563
  ![v564.toNat]

def k0_chk15 (arg37 : BitVec 32) (arg38 : BitVec 32) : Prop :=
  (∀ a, (k0_off167 arg37 arg38) a + S16.size a ≤ S192.size a)
theorem k0_off167_inb : ∀ (arg37 : BitVec 32) (arg38 : BitVec 32) (k0_hw15 : k0_chk15 arg37 arg38), ∀ a, (k0_off167 arg37 arg38) a + S16.size a ≤ S192.size a := fun arg37 arg38 k0_hw15 => k0_hw15

def k0_off168 (v446_0 : BitVec 32) : Fin 1 → Nat :=
  let c1_i32_212 : BitVec 32 := 1#32
  let v447 : BitVec 32 := Scalar.subi v446_0 c1_i32_212
  let c0_i32_213 : BitVec 32 := 0#32
  let v448 : BitVec 32 := Scalar.maxsi v447 c0_i32_213
  let c16_i32_214 : BitVec 32 := 16#32
  let v449 : BitVec 32 := Scalar.muli v448 c16_i32_214
  let v450 : Index := Scalar.indexCast v449
  ![v450.toNat]

def k0_chk16 (v446_0 : BitVec 32) : Prop :=
  (∀ a, (k0_off168 v446_0) a + S16.size a ≤ S192.size a)
theorem k0_off168_inb : ∀ (v446_0 : BitVec 32) (k0_hw16 : k0_chk16 v446_0), ∀ a, (k0_off168 v446_0) a + S16.size a ≤ S192.size a := fun v446_0 k0_hw16 => k0_hw16

@[reducible] def k0_t16_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_252 : BitVec 32 := 1#32
  ⟨v438, v541, c1_i32_252⟩

@[reducible] def k0_t17_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off169 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk18 (arg55 : BitVec 32) (arg56 : BitVec 32) : Prop :=
  (∀ a, (k0_off169 arg55 arg56) a + S16.size a ≤ S192.size a)
theorem k0_off169_inb : ∀ (arg55 : BitVec 32) (arg56 : BitVec 32) (k0_hw18 : k0_chk18 arg55 arg56), ∀ a, (k0_off169 arg55 arg56) a + S16.size a ≤ S192.size a := fun arg55 arg56 k0_hw18 => k0_hw18

def k0_off170 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk19 (v546_0 : BitVec 32) : Prop :=
  (∀ a, (k0_off170 v546_0) a + S16.size a ≤ S192.size a)
theorem k0_off170_inb : ∀ (v546_0 : BitVec 32) (k0_hw19 : k0_chk19 v546_0), ∀ a, (k0_off170 v546_0) a + S16.size a ≤ S192.size a := fun v546_0 k0_hw19 => k0_hw19

def k0_off171 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v641 : Index := Scalar.indexCast v637
  let c0_300 : Index := 0#32
  ![v641.toNat, 0]
def k0_off172 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v644 : Index := Scalar.indexCast v637
  let c16 : Index := 16#32
  ![v644.toNat, 16]
def k0_off173 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v647 : Index := Scalar.indexCast v637
  let c32 : Index := 32#32
  ![v647.toNat, 32]
def k0_off174 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v650 : Index := Scalar.indexCast v637
  let c48 : Index := 48#32
  ![v650.toNat, 48]
def k0_off175 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v653 : Index := Scalar.indexCast v637
  let c64 : Index := 64#32
  ![v653.toNat, 64]
def k0_off176 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v656 : Index := Scalar.indexCast v637
  let c80 : Index := 80#32
  ![v656.toNat, 80]
def k0_off177 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v659 : Index := Scalar.indexCast v637
  let c96 : Index := 96#32
  ![v659.toNat, 96]
def k0_off178 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v662 : Index := Scalar.indexCast v637
  let c112 : Index := 112#32
  ![v662.toNat, 112]
def k0_off179 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v665 : Index := Scalar.indexCast v637
  let c128 : Index := 128#32
  ![v665.toNat, 128]
def k0_off180 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v668 : Index := Scalar.indexCast v637
  let c144 : Index := 144#32
  ![v668.toNat, 144]
def k0_off181 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v671 : Index := Scalar.indexCast v637
  let c160 : Index := 160#32
  ![v671.toNat, 160]
def k0_off182 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v674 : Index := Scalar.indexCast v637
  let c176_301 : Index := 176#32
  ![v674.toNat, 176]
def k0_off183 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v677 : Index := Scalar.indexCast v637
  let c192 : Index := 192#32
  ![v677.toNat, 192]
def k0_off184 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v680 : Index := Scalar.indexCast v637
  let c208 : Index := 208#32
  ![v680.toNat, 208]
def k0_off185 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v683 : Index := Scalar.indexCast v637
  let c224 : Index := 224#32
  ![v683.toNat, 224]
def k0_off186 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v686 : Index := Scalar.indexCast v637
  let c240 : Index := 240#32
  ![v686.toNat, 240]
@[reducible] def k0_t18_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off187 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v773 : Index := Scalar.indexCast arg54
  let c0_324 : Index := 0#32
  ![v773.toNat, 0]

variable {F : FTy → Type} [FloatOps F]

def k0_off188 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v779 : Index := Scalar.indexCast arg54
  let c16_325 : Index := 16#32
  ![v779.toNat, 16]
def k0_off189 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v785 : Index := Scalar.indexCast arg54
  let c32_326 : Index := 32#32
  ![v785.toNat, 32]
def k0_off190 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v791 : Index := Scalar.indexCast arg54
  let c48_327 : Index := 48#32
  ![v791.toNat, 48]
def k0_off191 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v797 : Index := Scalar.indexCast arg54
  let c64_328 : Index := 64#32
  ![v797.toNat, 64]
def k0_off192 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v803 : Index := Scalar.indexCast arg54
  let c80_329 : Index := 80#32
  ![v803.toNat, 80]
def k0_off193 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v809 : Index := Scalar.indexCast arg54
  let c96_330 : Index := 96#32
  ![v809.toNat, 96]
def k0_off194 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v815 : Index := Scalar.indexCast arg54
  let c112_331 : Index := 112#32
  ![v815.toNat, 112]
def k0_off195 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v821 : Index := Scalar.indexCast arg54
  let c128_332 : Index := 128#32
  ![v821.toNat, 128]
def k0_off196 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v827 : Index := Scalar.indexCast arg54
  let c144_333 : Index := 144#32
  ![v827.toNat, 144]
def k0_off197 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v833 : Index := Scalar.indexCast arg54
  let c160_334 : Index := 160#32
  ![v833.toNat, 160]
def k0_off198 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v839 : Index := Scalar.indexCast arg54
  let c176_335 : Index := 176#32
  ![v839.toNat, 176]
def k0_off199 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v845 : Index := Scalar.indexCast arg54
  let c192_336 : Index := 192#32
  ![v845.toNat, 192]
def k0_off200 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v851 : Index := Scalar.indexCast arg54
  let c208_337 : Index := 208#32
  ![v851.toNat, 208]
def k0_off201 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v857 : Index := Scalar.indexCast arg54
  let c224_338 : Index := 224#32
  ![v857.toNat, 224]
def k0_off202 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t18
  let v863 : Index := Scalar.indexCast arg54
  let c240_339 : Index := 240#32
  ![v863.toNat, 240]
@[reducible] def k0_t19_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off203 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v773 : Index := Scalar.indexCast arg54
  let c0_324 : Index := 0#32
  ![v773.toNat, 0]
def k0_off204 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v779 : Index := Scalar.indexCast arg54
  let c16_325 : Index := 16#32
  ![v779.toNat, 16]
def k0_off205 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v785 : Index := Scalar.indexCast arg54
  let c32_326 : Index := 32#32
  ![v785.toNat, 32]
def k0_off206 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v791 : Index := Scalar.indexCast arg54
  let c48_327 : Index := 48#32
  ![v791.toNat, 48]
def k0_off207 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v797 : Index := Scalar.indexCast arg54
  let c64_328 : Index := 64#32
  ![v797.toNat, 64]
def k0_off208 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v803 : Index := Scalar.indexCast arg54
  let c80_329 : Index := 80#32
  ![v803.toNat, 80]
def k0_off209 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v809 : Index := Scalar.indexCast arg54
  let c96_330 : Index := 96#32
  ![v809.toNat, 96]
def k0_off210 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v815 : Index := Scalar.indexCast arg54
  let c112_331 : Index := 112#32
  ![v815.toNat, 112]
def k0_off211 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v821 : Index := Scalar.indexCast arg54
  let c128_332 : Index := 128#32
  ![v821.toNat, 128]
def k0_off212 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v827 : Index := Scalar.indexCast arg54
  let c144_333 : Index := 144#32
  ![v827.toNat, 144]
def k0_off213 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v833 : Index := Scalar.indexCast arg54
  let c160_334 : Index := 160#32
  ![v833.toNat, 160]
def k0_off214 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v839 : Index := Scalar.indexCast arg54
  let c176_335 : Index := 176#32
  ![v839.toNat, 176]
def k0_off215 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v845 : Index := Scalar.indexCast arg54
  let c192_336 : Index := 192#32
  ![v845.toNat, 192]
def k0_off216 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v851 : Index := Scalar.indexCast arg54
  let c208_337 : Index := 208#32
  ![v851.toNat, 208]
def k0_off217 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v857 : Index := Scalar.indexCast arg54
  let c224_338 : Index := 224#32
  ![v857.toNat, 224]
def k0_off218 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t16
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t19
  let v863 : Index := Scalar.indexCast arg54
  let c240_339 : Index := 240#32
  ![v863.toNat, 240]

def k0_chk20_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).OK) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off187 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off188 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off189 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off190 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off191 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off192 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off193 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off194 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off195 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off196 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off197 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off198 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off199 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off200 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off201 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  (∀ k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off202 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a) ∧
  ((k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).OK) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off203 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off204 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off205 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off206 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off207 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off208 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off209 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off210 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off211 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off212 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off213 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off214 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off215 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off216 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a)
def k0_chk20_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off217 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a) ∧
  (∀ k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips, ∀ a, (k0_off218 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a)
def k0_chk20 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk20_0 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 ∧
  k0_chk20_1 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629
theorem k0_t18_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629), (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 => k0_hw20.1.1
theorem k0_off187_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off187 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.1 k0_t18
theorem k0_off188_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off188 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.1 k0_t18
theorem k0_off189_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off189 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.1 k0_t18
theorem k0_off190_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off190 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.1 k0_t18
theorem k0_off191_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off191 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.1 k0_t18
theorem k0_off192_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off192 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.1 k0_t18
theorem k0_off193_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off193 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.1 k0_t18
theorem k0_off194_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off194 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.1 k0_t18
theorem k0_off195_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off195 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.1 k0_t18
theorem k0_off196_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off196 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.1 k0_t18
theorem k0_off197_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off197 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.2.1 k0_t18
theorem k0_off198_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off198 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.2.2.1 k0_t18
theorem k0_off199_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off199 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.2.2.2.1 k0_t18
theorem k0_off200_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off200 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.2.2.2.2.1 k0_t18
theorem k0_off201_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off201 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.2.2.2.2.2.1 k0_t18
theorem k0_off202_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t18 : Fin (k0_t18_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off202 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t18) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t18 => k0_hw20.1.2.2.2.2.2.2.2.2.2.2.2.2.2.2.2.2.1 k0_t18
theorem k0_t19_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629), (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 => k0_hw20.1.2.2.2.2.2.2.2.2.2.2.2.2.2.2.2.2.2.1
theorem k0_off203_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off203 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.1 k0_t19
theorem k0_off204_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off204 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.1 k0_t19
theorem k0_off205_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off205 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.1 k0_t19
theorem k0_off206_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off206 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.1 k0_t19
theorem k0_off207_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off207 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.1 k0_t19
theorem k0_off208_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off208 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.1 k0_t19
theorem k0_off209_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off209 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.1 k0_t19
theorem k0_off210_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off210 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.1 k0_t19
theorem k0_off211_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off211 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.2.1 k0_t19
theorem k0_off212_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off212 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.2.2.1 k0_t19
theorem k0_off213_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off213 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.2.2.2.1 k0_t19
theorem k0_off214_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off214 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.2.2.2.2.1 k0_t19
theorem k0_off215_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off215 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.2.2.2.2.2.1 k0_t19
theorem k0_off216_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off216 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.1.2.2.2.2.2.2.2.2.2.2.2.2.2.2.2.2.2.2.2.2.2.2.2.2.2.2.2.2.2.2.2 k0_t19
theorem k0_off217_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off217 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.2.1 k0_t19
theorem k0_off218_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw20 : k0_chk20 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629) (k0_t19 : Fin (k0_t19_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629).trips), ∀ a, (k0_off218 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_t19) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t16 arg37 v546_0 v554 v559 v564 v569 v574 v579 v584 v589 v594 v599 v604 v609 v614 v619 v624 v629 k0_hw20 k0_t19 => k0_hw20.2.2 k0_t19

def k0_off219 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v696 : Index := Scalar.indexCast v637
  let c0_305 : Index := 0#32
  ![v696.toNat, 0]
def k0_off220 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v700 : Index := Scalar.indexCast v637
  let c16_306 : Index := 16#32
  ![v700.toNat, 16]
def k0_off221 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v704 : Index := Scalar.indexCast v637
  let c32_307 : Index := 32#32
  ![v704.toNat, 32]
def k0_off222 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v708 : Index := Scalar.indexCast v637
  let c48_308 : Index := 48#32
  ![v708.toNat, 48]
def k0_off223 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v712 : Index := Scalar.indexCast v637
  let c64_309 : Index := 64#32
  ![v712.toNat, 64]
def k0_off224 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v716 : Index := Scalar.indexCast v637
  let c80_310 : Index := 80#32
  ![v716.toNat, 80]
def k0_off225 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v720 : Index := Scalar.indexCast v637
  let c96_311 : Index := 96#32
  ![v720.toNat, 96]
def k0_off226 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v724 : Index := Scalar.indexCast v637
  let c112_312 : Index := 112#32
  ![v724.toNat, 112]
def k0_off227 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v728 : Index := Scalar.indexCast v637
  let c128_313 : Index := 128#32
  ![v728.toNat, 128]
def k0_off228 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v732 : Index := Scalar.indexCast v637
  let c144_314 : Index := 144#32
  ![v732.toNat, 144]
def k0_off229 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v736 : Index := Scalar.indexCast v637
  let c160_315 : Index := 160#32
  ![v736.toNat, 160]
def k0_off230 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v740 : Index := Scalar.indexCast v637
  let c176_316 : Index := 176#32
  ![v740.toNat, 176]
def k0_off231 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v744 : Index := Scalar.indexCast v637
  let c192_317 : Index := 192#32
  ![v744.toNat, 192]
def k0_off232 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v748 : Index := Scalar.indexCast v637
  let c208_318 : Index := 208#32
  ![v748.toNat, 208]
def k0_off233 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v752 : Index := Scalar.indexCast v637
  let c224_319 : Index := 224#32
  ![v752.toNat, 224]
def k0_off234 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v756 : Index := Scalar.indexCast v637
  let c240_320 : Index := 240#32
  ![v756.toNat, 240]
def k0_off235 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t16
  let v637 : BitVec 32 := Scalar.subi arg36 v2
  let v762 : Index := Scalar.indexCast v637
  let c0_321 : Index := 0#32
  ![v762.toNat, 0]
@[reducible] def k0_t20_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let v538 : BitVec 32 := Scalar.addi v438 v537
  let c1_i32_253 : BitVec 32 := 1#32
  ⟨v541, v538, c1_i32_253⟩
@[reducible] def k0_t21_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off236 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk21 (arg55 : BitVec 32) (arg56 : BitVec 32) : Prop :=
  (∀ a, (k0_off236 arg55 arg56) a + S16.size a ≤ S192.size a)
theorem k0_off236_inb : ∀ (arg55 : BitVec 32) (arg56 : BitVec 32) (k0_hw21 : k0_chk21 arg55 arg56), ∀ a, (k0_off236 arg55 arg56) a + S16.size a ≤ S192.size a := fun arg55 arg56 k0_hw21 => k0_hw21

def k0_off237 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk22 (v546_0 : BitVec 32) : Prop :=
  (∀ a, (k0_off237 v546_0) a + S16.size a ≤ S192.size a)
theorem k0_off237_inb : ∀ (v546_0 : BitVec 32) (k0_hw22 : k0_chk22 v546_0), ∀ a, (k0_off237 v546_0) a + S16.size a ≤ S192.size a := fun v546_0 k0_hw22 => k0_hw22

def k0_off238 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v641 : Index := Scalar.indexCast v637
  let c0_300 : Index := 0#32
  ![v641.toNat, 0]
def k0_off239 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v644 : Index := Scalar.indexCast v637
  let c16 : Index := 16#32
  ![v644.toNat, 16]
def k0_off240 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v647 : Index := Scalar.indexCast v637
  let c32 : Index := 32#32
  ![v647.toNat, 32]
def k0_off241 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v650 : Index := Scalar.indexCast v637
  let c48 : Index := 48#32
  ![v650.toNat, 48]
def k0_off242 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v653 : Index := Scalar.indexCast v637
  let c64 : Index := 64#32
  ![v653.toNat, 64]
def k0_off243 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v656 : Index := Scalar.indexCast v637
  let c80 : Index := 80#32
  ![v656.toNat, 80]
def k0_off244 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v659 : Index := Scalar.indexCast v637
  let c96 : Index := 96#32
  ![v659.toNat, 96]
def k0_off245 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v662 : Index := Scalar.indexCast v637
  let c112 : Index := 112#32
  ![v662.toNat, 112]
def k0_off246 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v665 : Index := Scalar.indexCast v637
  let c128 : Index := 128#32
  ![v665.toNat, 128]
def k0_off247 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v668 : Index := Scalar.indexCast v637
  let c144 : Index := 144#32
  ![v668.toNat, 144]
def k0_off248 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v671 : Index := Scalar.indexCast v637
  let c160 : Index := 160#32
  ![v671.toNat, 160]
def k0_off249 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v674 : Index := Scalar.indexCast v637
  let c176_301 : Index := 176#32
  ![v674.toNat, 176]
def k0_off250 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v677 : Index := Scalar.indexCast v637
  let c192 : Index := 192#32
  ![v677.toNat, 192]
def k0_off251 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v680 : Index := Scalar.indexCast v637
  let c208 : Index := 208#32
  ![v680.toNat, 208]
def k0_off252 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v683 : Index := Scalar.indexCast v637
  let c224 : Index := 224#32
  ![v683.toNat, 224]
def k0_off253 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v686 : Index := Scalar.indexCast v637
  let c240 : Index := 240#32
  ![v686.toNat, 240]
@[reducible] def k0_t22_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off254 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v773 : Index := Scalar.indexCast arg54
  let c0_324 : Index := 0#32
  ![v773.toNat, 0]
def k0_off255 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v779 : Index := Scalar.indexCast arg54
  let c16_325 : Index := 16#32
  ![v779.toNat, 16]
def k0_off256 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v785 : Index := Scalar.indexCast arg54
  let c32_326 : Index := 32#32
  ![v785.toNat, 32]
def k0_off257 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v791 : Index := Scalar.indexCast arg54
  let c48_327 : Index := 48#32
  ![v791.toNat, 48]
def k0_off258 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v797 : Index := Scalar.indexCast arg54
  let c64_328 : Index := 64#32
  ![v797.toNat, 64]
def k0_off259 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v803 : Index := Scalar.indexCast arg54
  let c80_329 : Index := 80#32
  ![v803.toNat, 80]
def k0_off260 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v809 : Index := Scalar.indexCast arg54
  let c96_330 : Index := 96#32
  ![v809.toNat, 96]
def k0_off261 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v815 : Index := Scalar.indexCast arg54
  let c112_331 : Index := 112#32
  ![v815.toNat, 112]
def k0_off262 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v821 : Index := Scalar.indexCast arg54
  let c128_332 : Index := 128#32
  ![v821.toNat, 128]
def k0_off263 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v827 : Index := Scalar.indexCast arg54
  let c144_333 : Index := 144#32
  ![v827.toNat, 144]
def k0_off264 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v833 : Index := Scalar.indexCast arg54
  let c160_334 : Index := 160#32
  ![v833.toNat, 160]
def k0_off265 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v839 : Index := Scalar.indexCast arg54
  let c176_335 : Index := 176#32
  ![v839.toNat, 176]
def k0_off266 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v845 : Index := Scalar.indexCast arg54
  let c192_336 : Index := 192#32
  ![v845.toNat, 192]
def k0_off267 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v851 : Index := Scalar.indexCast arg54
  let c208_337 : Index := 208#32
  ![v851.toNat, 208]
def k0_off268 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v857 : Index := Scalar.indexCast arg54
  let c224_338 : Index := 224#32
  ![v857.toNat, 224]
def k0_off269 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t22
  let v863 : Index := Scalar.indexCast arg54
  let c240_339 : Index := 240#32
  ![v863.toNat, 240]
@[reducible] def k0_t23_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off270 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v773 : Index := Scalar.indexCast arg54
  let c0_324 : Index := 0#32
  ![v773.toNat, 0]
def k0_off271 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v779 : Index := Scalar.indexCast arg54
  let c16_325 : Index := 16#32
  ![v779.toNat, 16]
def k0_off272 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v785 : Index := Scalar.indexCast arg54
  let c32_326 : Index := 32#32
  ![v785.toNat, 32]
def k0_off273 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v791 : Index := Scalar.indexCast arg54
  let c48_327 : Index := 48#32
  ![v791.toNat, 48]
def k0_off274 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v797 : Index := Scalar.indexCast arg54
  let c64_328 : Index := 64#32
  ![v797.toNat, 64]
def k0_off275 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v803 : Index := Scalar.indexCast arg54
  let c80_329 : Index := 80#32
  ![v803.toNat, 80]
def k0_off276 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v809 : Index := Scalar.indexCast arg54
  let c96_330 : Index := 96#32
  ![v809.toNat, 96]
def k0_off277 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v815 : Index := Scalar.indexCast arg54
  let c112_331 : Index := 112#32
  ![v815.toNat, 112]
def k0_off278 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v821 : Index := Scalar.indexCast arg54
  let c128_332 : Index := 128#32
  ![v821.toNat, 128]
def k0_off279 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v827 : Index := Scalar.indexCast arg54
  let c144_333 : Index := 144#32
  ![v827.toNat, 144]
def k0_off280 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v833 : Index := Scalar.indexCast arg54
  let c160_334 : Index := 160#32
  ![v833.toNat, 160]
def k0_off281 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v839 : Index := Scalar.indexCast arg54
  let c176_335 : Index := 176#32
  ![v839.toNat, 176]
def k0_off282 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v845 : Index := Scalar.indexCast arg54
  let c192_336 : Index := 192#32
  ![v845.toNat, 192]
def k0_off283 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v851 : Index := Scalar.indexCast arg54
  let c208_337 : Index := 208#32
  ![v851.toNat, 208]
def k0_off284 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v857 : Index := Scalar.indexCast arg54
  let c224_338 : Index := 224#32
  ![v857.toNat, 224]
def k0_off285 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t23
  let v863 : Index := Scalar.indexCast arg54
  let c240_339 : Index := 240#32
  ![v863.toNat, 240]

def k0_chk23_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).OK) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off254 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off255 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off256 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off257 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off258 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off259 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off260 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off261 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off262 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off263 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off264 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off265 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off266 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off267 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off268 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  (∀ k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off269 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a) ∧
  ((k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).OK) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off270 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off271 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off272 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off273 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off274 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off275 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off276 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off277 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off278 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off279 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off280 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off281 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off282 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off283 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a)
def k0_chk23_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off284 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a) ∧
  (∀ k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips, ∀ a, (k0_off285 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a)
def k0_chk23 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk23_0 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 ∧
  k0_chk23_1 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629
theorem k0_t22_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629), (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 => k0_hw23.1.1
theorem k0_off254_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off254 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.1 k0_t22
theorem k0_off255_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off255 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.1 k0_t22
theorem k0_off256_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off256 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.1 k0_t22
theorem k0_off257_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off257 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.1 k0_t22
theorem k0_off258_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off258 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.1 k0_t22
theorem k0_off259_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off259 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.1 k0_t22
theorem k0_off260_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off260 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.1 k0_t22
theorem k0_off261_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off261 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.1 k0_t22
theorem k0_off262_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off262 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.1 k0_t22
theorem k0_off263_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off263 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.1 k0_t22
theorem k0_off264_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off264 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.2.1 k0_t22
theorem k0_off265_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off265 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.2.2.1 k0_t22
theorem k0_off266_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off266 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.2.2.2.1 k0_t22
theorem k0_off267_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off267 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.2.2.2.2.1 k0_t22
theorem k0_off268_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off268 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.2.2.2.2.2.1 k0_t22
theorem k0_off269_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t22 : Fin (k0_t22_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off269 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t22) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t22 => k0_hw23.1.2.2.2.2.2.2.2.2.2.2.2.2.2.2.2.2.1 k0_t22
theorem k0_t23_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629), (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 => k0_hw23.1.2.2.2.2.2.2.2.2.2.2.2.2.2.2.2.2.2.1
theorem k0_off270_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off270 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.1 k0_t23
theorem k0_off271_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off271 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.1 k0_t23
theorem k0_off272_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off272 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.1 k0_t23
theorem k0_off273_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off273 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.1 k0_t23
theorem k0_off274_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off274 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.1 k0_t23
theorem k0_off275_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off275 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.1 k0_t23
theorem k0_off276_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off276 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.1 k0_t23
theorem k0_off277_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off277 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.1 k0_t23
theorem k0_off278_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off278 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.2.1 k0_t23
theorem k0_off279_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off279 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.2.2.1 k0_t23
theorem k0_off280_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off280 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.2.2.2.1 k0_t23
theorem k0_off281_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off281 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.2.2.2.2.1 k0_t23
theorem k0_off282_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off282 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.2.2.2.2.2.1 k0_t23
theorem k0_off283_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off283 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.1.2.2.2.2.2.2.2.2.2.2.2.2.2.2.2.2.2.2.2.2.2.2.2.2.2.2.2.2.2.2.2 k0_t23
theorem k0_off284_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off284 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.2.1 k0_t23
theorem k0_off285_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw23 : k0_chk23 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629) (k0_t23 : Fin (k0_t23_loop i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629).trips), ∀ a, (k0_off285 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_t23) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_t20 arg37 v546_0 v554 v559 v564 v569 v574 v579 v584 v589 v594 v599 v604 v609 v614 v619 v624 v629 k0_hw23 k0_t23 => k0_hw23.2.2 k0_t23

def k0_off286 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v696 : Index := Scalar.indexCast v637
  let c0_305 : Index := 0#32
  ![v696.toNat, 0]
def k0_off287 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v700 : Index := Scalar.indexCast v637
  let c16_306 : Index := 16#32
  ![v700.toNat, 16]
def k0_off288 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v704 : Index := Scalar.indexCast v637
  let c32_307 : Index := 32#32
  ![v704.toNat, 32]
def k0_off289 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v708 : Index := Scalar.indexCast v637
  let c48_308 : Index := 48#32
  ![v708.toNat, 48]
def k0_off290 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v712 : Index := Scalar.indexCast v637
  let c64_309 : Index := 64#32
  ![v712.toNat, 64]
def k0_off291 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v716 : Index := Scalar.indexCast v637
  let c80_310 : Index := 80#32
  ![v716.toNat, 80]
def k0_off292 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v720 : Index := Scalar.indexCast v637
  let c96_311 : Index := 96#32
  ![v720.toNat, 96]
def k0_off293 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v724 : Index := Scalar.indexCast v637
  let c112_312 : Index := 112#32
  ![v724.toNat, 112]
def k0_off294 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v728 : Index := Scalar.indexCast v637
  let c128_313 : Index := 128#32
  ![v728.toNat, 128]
def k0_off295 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v732 : Index := Scalar.indexCast v637
  let c144_314 : Index := 144#32
  ![v732.toNat, 144]
def k0_off296 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v736 : Index := Scalar.indexCast v637
  let c160_315 : Index := 160#32
  ![v736.toNat, 160]
def k0_off297 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v740 : Index := Scalar.indexCast v637
  let c176_316 : Index := 176#32
  ![v740.toNat, 176]
def k0_off298 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v744 : Index := Scalar.indexCast v637
  let c192_317 : Index := 192#32
  ![v744.toNat, 192]
def k0_off299 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v748 : Index := Scalar.indexCast v637
  let c208_318 : Index := 208#32
  ![v748.toNat, 208]
def k0_off300 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v752 : Index := Scalar.indexCast v637
  let c224_319 : Index := 224#32
  ![v752.toNat, 224]
def k0_off301 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v756 : Index := Scalar.indexCast v637
  let c240_320 : Index := 240#32
  ![v756.toNat, 240]
def k0_off302 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c1_i32_127 : BitVec 32 := 1#32
  let arg19 : BitVec 32 := Scf.iv c0_i32_125 c1_i32_127 k0_t5
  let v281 : BitVec 32 := Scalar.muli c2_i32_130 arg19
  let c1_i32_198 : BitVec 32 := 1#32
  let v423 : BitVec 32 := Scalar.addi v281 c1_i32_198
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t20
  let v637 : BitVec 32 := Scalar.subi arg36 v2
  let v762 : Index := Scalar.indexCast v637
  let c0_321 : Index := 0#32
  ![v762.toNat, 0]

def k0_chk17_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  ((k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).OK) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off171 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off172 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off173 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off174 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off175 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off176 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off177 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off178 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off179 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off180 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off181 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off182 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off183 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off184 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off185 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off186 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off219 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off220 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off221 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off222 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off223 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off224 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off225 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off226 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off227 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off228 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off229 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off230 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off231 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off232 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off233 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a)
def k0_chk17_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off234 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a) ∧
  (∀ k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off235 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x16.size a) ∧
  ((k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).OK) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off238 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off239 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off240 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off241 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off242 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off243 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off244 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off245 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off246 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off247 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off248 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off249 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off250 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off251 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off252 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off253 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off286 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off287 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off288 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off289 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off290 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off291 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off292 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off293 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off294 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off295 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off296 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off297 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off298 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a)
def k0_chk17_2 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off299 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off300 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off301 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a) ∧
  (∀ k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips, ∀ a, (k0_off302 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x16.size a)
def k0_chk17 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  k0_chk17_0 i v14_0 v21 v26 v31 v36 v41 v46 v51 v56 v61 v66 v71 v76 v81 v86 v91 v96 v106_0 v113 v118 v123 v128 v133 v138 v143 v148 v153 v158 v163 v168 v173 v178 v183 v188 k0_t5 v433 v437 ∧
  k0_chk17_1 i v14_0 v21 v26 v31 v36 v41 v46 v51 v56 v61 v66 v71 v76 v81 v86 v91 v96 v106_0 v113 v118 v123 v128 v133 v138 v143 v148 v153 v158 v163 v168 v173 v178 v183 v188 k0_t5 v433 v437 ∧
  k0_chk17_2 i v14_0 v21 v26 v31 v36 v41 v46 v51 v56 v61 v66 v71 v76 v81 v86 v91 v96 v106_0 v113 v118 v123 v128 v133 v138 v143 v148 v153 v158 v163 v168 v173 v178 v183 v188 k0_t5 v433 v437
theorem k0_t16_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437), (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).OK := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 => k0_hw17.1.1
theorem k0_off171_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off171 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.1 k0_t16
theorem k0_off172_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off172 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.1 k0_t16
theorem k0_off173_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off173 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.1 k0_t16
theorem k0_off174_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off174 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.1 k0_t16
theorem k0_off175_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off175 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.1 k0_t16
theorem k0_off176_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off176 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.1 k0_t16
theorem k0_off177_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off177 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.1 k0_t16
theorem k0_off178_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off178 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.1 k0_t16
theorem k0_off179_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off179 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.1 k0_t16
theorem k0_off180_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off180 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.1 k0_t16
theorem k0_off181_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off181 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.1 k0_t16
theorem k0_off182_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off182 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.1 k0_t16
theorem k0_off183_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off183 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.1 k0_t16
theorem k0_off184_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off184 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.1 k0_t16
theorem k0_off185_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off185 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.1 k0_t16
theorem k0_off186_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off186 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.1 k0_t16
theorem k0_off219_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off219 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.1 k0_t16
theorem k0_off220_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off220 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.1 k0_t16
theorem k0_off221_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off221 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.1 k0_t16
theorem k0_off222_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off222 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.1 k0_t16
theorem k0_off223_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off223 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.1 k0_t16
theorem k0_off224_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off224 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.1 k0_t16
theorem k0_off225_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off225 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.1 k0_t16
theorem k0_off226_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off226 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.1 k0_t16
theorem k0_off227_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off227 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.1 k0_t16
theorem k0_off228_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off228 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.2.1 k0_t16
theorem k0_off229_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off229 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.2.2.1 k0_t16
theorem k0_off230_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off230 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.2.2.2.1 k0_t16
theorem k0_off231_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off231 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.2.2.2.2.1 k0_t16
theorem k0_off232_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off232 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.2.2.2.2.2.1 k0_t16
theorem k0_off233_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off233 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.1.2.2.2.2.2.2.2.2.2.2.2.2.2.2.2.2.2.2.2.2.2.2.2.2.2.2.2.2.2.2.2 k0_t16
theorem k0_off234_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off234 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.2.1.1 k0_t16
theorem k0_off235_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t16 : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off235 i v14_0 v21 v26 v31 v36 v41 v46 v51 v56 v61 v66 v71 v76 v81 v86 v91 v96 v106_0 v113 v118 v123 v128 v133 v138 v143 v148 v153 v158 v163 v168 v173 v178 v183 v188 k0_t5 v433 v437 k0_t16) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t16 => k0_hw17.2.1.2.1 k0_t16
theorem k0_t20_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437), (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).OK := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 => k0_hw17.2.1.2.2.1
theorem k0_off238_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off238 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.1 k0_t20
theorem k0_off239_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off239 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.1 k0_t20
theorem k0_off240_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off240 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.1 k0_t20
theorem k0_off241_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off241 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.1 k0_t20
theorem k0_off242_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off242 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.1 k0_t20
theorem k0_off243_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off243 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.1 k0_t20
theorem k0_off244_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off244 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.1 k0_t20
theorem k0_off245_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off245 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.1 k0_t20
theorem k0_off246_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off246 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.1 k0_t20
theorem k0_off247_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off247 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.1 k0_t20
theorem k0_off248_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off248 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.1 k0_t20
theorem k0_off249_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off249 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.1 k0_t20
theorem k0_off250_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off250 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.1 k0_t20
theorem k0_off251_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off251 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.1 k0_t20
theorem k0_off252_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off252 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.1 k0_t20
theorem k0_off253_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off253 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.1 k0_t20
theorem k0_off286_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off286 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.1 k0_t20
theorem k0_off287_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off287 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.1 k0_t20
theorem k0_off288_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off288 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.1 k0_t20
theorem k0_off289_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off289 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.1 k0_t20
theorem k0_off290_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off290 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.1 k0_t20
theorem k0_off291_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off291 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.1 k0_t20
theorem k0_off292_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off292 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.1 k0_t20
theorem k0_off293_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off293 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.2.1 k0_t20
theorem k0_off294_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off294 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.2.2.1 k0_t20
theorem k0_off295_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off295 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.2.2.2.1 k0_t20
theorem k0_off296_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off296 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.2.2.2.2.1 k0_t20
theorem k0_off297_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off297 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.2.2.2.2.2.1 k0_t20
theorem k0_off298_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off298 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.1.2.2.2.2.2.2.2.2.2.2.2.2.2.2.2.2.2.2.2.2.2.2.2.2.2.2.2.2.2.2.2 k0_t20
theorem k0_off299_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off299 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.2.1 k0_t20
theorem k0_off300_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off300 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.2.2.1 k0_t20
theorem k0_off301_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off301 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.2.2.2.1 k0_t20
theorem k0_off302_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw17 : k0_chk17 i v14_0 v21 v26 v31 v36 v41 v46 v51 v56 v61 v66 v71 v76 v81 v86 v91 v96 v106_0 v113 v118 v123 v128 v133 v138 v143 v148 v153 v158 v163 v168 v173 v178 v183 v188 k0_t5 v433 v437) (k0_t20 : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 v433 v437).trips), ∀ a, (k0_off302 i v14_0 v21 v26 v31 v36 v41 v46 v51 v56 v61 v66 v71 v76 v81 v86 v91 v96 v106_0 v113 v118 v123 v128 v133 v138 v143 v148 v153 v158 v163 v168 v173 v178 v183 v188 k0_t5 v433 v437 k0_t20) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 k0_t20 => k0_hw17.2.2.2.2.2 k0_t20

@[reducible] def k0_t24_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) : Scf.Loop 32 :=
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let v257 : BitVec 32 := Scalar.addi c0_i32_125 v256
  let c1_i32_128 : BitVec 32 := 1#32
  ⟨v260, v257, c1_i32_128⟩
def k0_off303 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_131 : BitVec 32 := 1#32
  let v282 : BitVec 32 := Scalar.addi v281 c1_i32_131
  let c192_i32_132 : BitVec 32 := 192#32
  let v283 : BitVec 32 := Scalar.muli v282 c192_i32_132
  let v284 : BitVec 32 := Scalar.addi v213 v283
  let c159808_i32 : BitVec 32 := 159808#32
  let v285 : BitVec 32 := Scalar.minsi v284 c159808_i32
  let c0_i32_133 : BitVec 32 := 0#32
  ![v285.toNat, 0]
def k0_off304 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_135 : BitVec 32 := 192#32
  let v288 : BitVec 32 := Scalar.muli v281 c192_i32_135
  let v289 : BitVec 32 := Scalar.addi v213 v288
  let c159808_i32_136 : BitVec 32 := 159808#32
  let v290 : BitVec 32 := Scalar.minsi v289 c159808_i32_136
  let c0_i32_137 : BitVec 32 := 0#32
  ![v290.toNat, 0]
def k0_off305 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : Fin 1 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  ![v297.toNat]
@[reducible] def k0_t25_loop : Scf.Loop 32 :=
  let c0_i32_146 : BitVec 32 := 0#32
  let c4_i32 : BitVec 32 := 4#32
  let v314 : BitVec 32 := Scalar.addi c0_i32_146 c4_i32
  let c1_i32_147 : BitVec 32 := 1#32
  ⟨c0_i32_146, v314, c1_i32_147⟩
def k0_off306 (arg37 : BitVec 32) (arg38 : BitVec 32) : Fin 1 → Nat :=
  let v544 : BitVec 32 := Scalar.addi arg37 arg38
  let c0_i32_255 : BitVec 32 := 0#32
  let v546 : BitVec 1 := Scalar.cmpi .sgt v544 c0_i32_255
  let v547 : BitVec 32 := Scalar.extui v546
  let c0_i32_256 : BitVec 32 := 0#32
  let v548 : BitVec 1 := Scalar.cmpi .slt v544 c0_i32_256
  let v549 : BitVec 32 := Scalar.extui v548
  let v550 : BitVec 32 := Scalar.subi v547 v549
  let c2_i32_254 : BitVec 32 := 2#32
  let c0_i32_257 : BitVec 32 := 0#32
  let v551 : BitVec 1 := Scalar.cmpi .sgt c2_i32_254 c0_i32_257
  let v552 : BitVec 32 := Scalar.extui v551
  let c0_i32_258 : BitVec 32 := 0#32
  let v553 : BitVec 1 := Scalar.cmpi .slt c2_i32_254 c0_i32_258
  let v554 : BitVec 32 := Scalar.extui v553
  let v555 : BitVec 32 := Scalar.subi v552 v554
  let v556 : BitVec 1 := Scalar.cmpi .ne v550 v555
  let v557 : BitVec 32 := Scalar.remsi v544 c2_i32_254
  let c0_i32_259 : BitVec 32 := 0#32
  let v558 : BitVec 1 := Scalar.cmpi .ne v557 c0_i32_259
  let v559 : BitVec 1 := Scalar.andi v556 v558
  let v545 : BitVec 32 := Scalar.divsi v544 c2_i32_254
  let c1_i32_260 : BitVec 32 := 1#32
  let v560 : BitVec 32 := Scalar.subi v545 c1_i32_260
  let v561 : BitVec 32 := Scalar.select v559 v560 v545
  let c11_i32 : BitVec 32 := 11#32
  let v562 : BitVec 32 := Scalar.minsi v561 c11_i32
  let c16_i32_261 : BitVec 32 := 16#32
  let v563 : BitVec 32 := Scalar.muli v562 c16_i32_261
  let v564 : Index := Scalar.indexCast v563
  ![v564.toNat]

def k0_chk24 (arg37 : BitVec 32) (arg38 : BitVec 32) : Prop :=
  (∀ a, (k0_off306 arg37 arg38) a + S16.size a ≤ S192.size a)
theorem k0_off306_inb : ∀ (arg37 : BitVec 32) (arg38 : BitVec 32) (k0_hw24 : k0_chk24 arg37 arg38), ∀ a, (k0_off306 arg37 arg38) a + S16.size a ≤ S192.size a := fun arg37 arg38 k0_hw24 => k0_hw24

def k0_off307 (v315_0 : BitVec 32) : Fin 1 → Nat :=
  let c1_i32_149 : BitVec 32 := 1#32
  let v316 : BitVec 32 := Scalar.subi v315_0 c1_i32_149
  let c0_i32_150 : BitVec 32 := 0#32
  let v317 : BitVec 32 := Scalar.maxsi v316 c0_i32_150
  let c16_i32_151 : BitVec 32 := 16#32
  let v318 : BitVec 32 := Scalar.muli v317 c16_i32_151
  let v319 : Index := Scalar.indexCast v318
  ![v319.toNat]

def k0_chk25 (v315_0 : BitVec 32) : Prop :=
  (∀ a, (k0_off307 v315_0) a + S16.size a ≤ S192.size a)
theorem k0_off307_inb : ∀ (v315_0 : BitVec 32) (k0_hw25 : k0_chk25 v315_0), ∀ a, (k0_off307 v315_0) a + S16.size a ≤ S192.size a := fun v315_0 k0_hw25 => k0_hw25

@[reducible] def k0_t26_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_189 : BitVec 32 := 1#32
  ⟨v307, v410, c1_i32_189⟩

@[reducible] def k0_t27_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off308 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk27 (arg55 : BitVec 32) (arg56 : BitVec 32) : Prop :=
  (∀ a, (k0_off308 arg55 arg56) a + S16.size a ≤ S192.size a)
theorem k0_off308_inb : ∀ (arg55 : BitVec 32) (arg56 : BitVec 32) (k0_hw27 : k0_chk27 arg55 arg56), ∀ a, (k0_off308 arg55 arg56) a + S16.size a ≤ S192.size a := fun arg55 arg56 k0_hw27 => k0_hw27

def k0_off309 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk28 (v546_0 : BitVec 32) : Prop :=
  (∀ a, (k0_off309 v546_0) a + S16.size a ≤ S192.size a)
theorem k0_off309_inb : ∀ (v546_0 : BitVec 32) (k0_hw28 : k0_chk28 v546_0), ∀ a, (k0_off309 v546_0) a + S16.size a ≤ S192.size a := fun v546_0 k0_hw28 => k0_hw28

def k0_off310 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v641 : Index := Scalar.indexCast v637
  let c0_300 : Index := 0#32
  ![v641.toNat, 0]
def k0_off311 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v644 : Index := Scalar.indexCast v637
  let c16 : Index := 16#32
  ![v644.toNat, 16]
def k0_off312 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v647 : Index := Scalar.indexCast v637
  let c32 : Index := 32#32
  ![v647.toNat, 32]
def k0_off313 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v650 : Index := Scalar.indexCast v637
  let c48 : Index := 48#32
  ![v650.toNat, 48]
def k0_off314 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v653 : Index := Scalar.indexCast v637
  let c64 : Index := 64#32
  ![v653.toNat, 64]
def k0_off315 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v656 : Index := Scalar.indexCast v637
  let c80 : Index := 80#32
  ![v656.toNat, 80]
def k0_off316 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v659 : Index := Scalar.indexCast v637
  let c96 : Index := 96#32
  ![v659.toNat, 96]
def k0_off317 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v662 : Index := Scalar.indexCast v637
  let c112 : Index := 112#32
  ![v662.toNat, 112]
def k0_off318 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v665 : Index := Scalar.indexCast v637
  let c128 : Index := 128#32
  ![v665.toNat, 128]
def k0_off319 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v668 : Index := Scalar.indexCast v637
  let c144 : Index := 144#32
  ![v668.toNat, 144]
def k0_off320 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v671 : Index := Scalar.indexCast v637
  let c160 : Index := 160#32
  ![v671.toNat, 160]
def k0_off321 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v674 : Index := Scalar.indexCast v637
  let c176_301 : Index := 176#32
  ![v674.toNat, 176]
def k0_off322 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v677 : Index := Scalar.indexCast v637
  let c192 : Index := 192#32
  ![v677.toNat, 192]
def k0_off323 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v680 : Index := Scalar.indexCast v637
  let c208 : Index := 208#32
  ![v680.toNat, 208]
def k0_off324 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v683 : Index := Scalar.indexCast v637
  let c224 : Index := 224#32
  ![v683.toNat, 224]
def k0_off325 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v686 : Index := Scalar.indexCast v637
  let c240 : Index := 240#32
  ![v686.toNat, 240]
@[reducible] def k0_t28_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off326 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v773 : Index := Scalar.indexCast arg54
  let c0_324 : Index := 0#32
  ![v773.toNat, 0]
def k0_off327 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v779 : Index := Scalar.indexCast arg54
  let c16_325 : Index := 16#32
  ![v779.toNat, 16]
def k0_off328 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v785 : Index := Scalar.indexCast arg54
  let c32_326 : Index := 32#32
  ![v785.toNat, 32]
def k0_off329 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v791 : Index := Scalar.indexCast arg54
  let c48_327 : Index := 48#32
  ![v791.toNat, 48]
def k0_off330 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v797 : Index := Scalar.indexCast arg54
  let c64_328 : Index := 64#32
  ![v797.toNat, 64]
def k0_off331 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v803 : Index := Scalar.indexCast arg54
  let c80_329 : Index := 80#32
  ![v803.toNat, 80]
def k0_off332 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v809 : Index := Scalar.indexCast arg54
  let c96_330 : Index := 96#32
  ![v809.toNat, 96]
def k0_off333 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v815 : Index := Scalar.indexCast arg54
  let c112_331 : Index := 112#32
  ![v815.toNat, 112]
def k0_off334 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v821 : Index := Scalar.indexCast arg54
  let c128_332 : Index := 128#32
  ![v821.toNat, 128]

variable {F : FTy → Type} [FloatOps F]

def k0_off335 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v827 : Index := Scalar.indexCast arg54
  let c144_333 : Index := 144#32
  ![v827.toNat, 144]
def k0_off336 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v833 : Index := Scalar.indexCast arg54
  let c160_334 : Index := 160#32
  ![v833.toNat, 160]
def k0_off337 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v839 : Index := Scalar.indexCast arg54
  let c176_335 : Index := 176#32
  ![v839.toNat, 176]
def k0_off338 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v845 : Index := Scalar.indexCast arg54
  let c192_336 : Index := 192#32
  ![v845.toNat, 192]
def k0_off339 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v851 : Index := Scalar.indexCast arg54
  let c208_337 : Index := 208#32
  ![v851.toNat, 208]
def k0_off340 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v857 : Index := Scalar.indexCast arg54
  let c224_338 : Index := 224#32
  ![v857.toNat, 224]
def k0_off341 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t28
  let v863 : Index := Scalar.indexCast arg54
  let c240_339 : Index := 240#32
  ![v863.toNat, 240]
@[reducible] def k0_t29_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off342 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v773 : Index := Scalar.indexCast arg54
  let c0_324 : Index := 0#32
  ![v773.toNat, 0]
def k0_off343 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v779 : Index := Scalar.indexCast arg54
  let c16_325 : Index := 16#32
  ![v779.toNat, 16]
def k0_off344 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v785 : Index := Scalar.indexCast arg54
  let c32_326 : Index := 32#32
  ![v785.toNat, 32]
def k0_off345 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v791 : Index := Scalar.indexCast arg54
  let c48_327 : Index := 48#32
  ![v791.toNat, 48]
def k0_off346 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v797 : Index := Scalar.indexCast arg54
  let c64_328 : Index := 64#32
  ![v797.toNat, 64]
def k0_off347 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v803 : Index := Scalar.indexCast arg54
  let c80_329 : Index := 80#32
  ![v803.toNat, 80]
def k0_off348 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v809 : Index := Scalar.indexCast arg54
  let c96_330 : Index := 96#32
  ![v809.toNat, 96]
def k0_off349 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v815 : Index := Scalar.indexCast arg54
  let c112_331 : Index := 112#32
  ![v815.toNat, 112]
def k0_off350 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v821 : Index := Scalar.indexCast arg54
  let c128_332 : Index := 128#32
  ![v821.toNat, 128]
def k0_off351 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v827 : Index := Scalar.indexCast arg54
  let c144_333 : Index := 144#32
  ![v827.toNat, 144]
def k0_off352 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v833 : Index := Scalar.indexCast arg54
  let c160_334 : Index := 160#32
  ![v833.toNat, 160]
def k0_off353 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v839 : Index := Scalar.indexCast arg54
  let c176_335 : Index := 176#32
  ![v839.toNat, 176]
def k0_off354 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v845 : Index := Scalar.indexCast arg54
  let c192_336 : Index := 192#32
  ![v845.toNat, 192]
def k0_off355 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v851 : Index := Scalar.indexCast arg54
  let c208_337 : Index := 208#32
  ![v851.toNat, 208]
def k0_off356 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v857 : Index := Scalar.indexCast arg54
  let c224_338 : Index := 224#32
  ![v857.toNat, 224]
def k0_off357 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let c1_i32_189 : BitVec 32 := 1#32
  let arg36 : BitVec 32 := Scf.iv v307 c1_i32_189 k0_t26
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t29
  let v863 : Index := Scalar.indexCast arg54
  let c240_339 : Index := 240#32
  ![v863.toNat, 240]

def k0_chk29_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).OK) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off326 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off327 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off328 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off329 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off330 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off331 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off332 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off333 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off334 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off335 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off336 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off337 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off338 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off339 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off340 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  (∀ k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off341 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a) ∧
  ((k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).OK) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off342 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off343 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off344 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off345 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off346 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off347 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off348 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off349 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off350 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off351 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off352 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off353 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off354 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off355 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a)
def k0_chk29_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off356 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a) ∧
  (∀ k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips, ∀ a, (k0_off357 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a)
def k0_chk29 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk29_0 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 ∧
  k0_chk29_1 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629
theorem k0_t28_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629), (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 => k0_hw29.1.1
theorem k0_off326_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off326 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.1 k0_t28
theorem k0_off327_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off327 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.1 k0_t28
theorem k0_off328_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off328 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.1 k0_t28
theorem k0_off329_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off329 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.1 k0_t28
theorem k0_off330_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off330 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.1 k0_t28
theorem k0_off331_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off331 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.1 k0_t28
theorem k0_off332_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off332 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.1 k0_t28
theorem k0_off333_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off333 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.1 k0_t28
theorem k0_off334_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off334 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.1 k0_t28
theorem k0_off335_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off335 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.1 k0_t28
theorem k0_off336_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off336 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.2.1 k0_t28
theorem k0_off337_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off337 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.2.2.1 k0_t28
theorem k0_off338_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off338 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.2.2.2.1 k0_t28
theorem k0_off339_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off339 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.2.2.2.2.1 k0_t28
theorem k0_off340_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off340 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.2.2.2.2.2.1 k0_t28
theorem k0_off341_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t28 : Fin (k0_t28_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off341 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t28) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t28 => k0_hw29.1.2.2.2.2.2.2.2.2.2.2.2.2.2.2.2.2.1 k0_t28
theorem k0_t29_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629), (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 => k0_hw29.1.2.2.2.2.2.2.2.2.2.2.2.2.2.2.2.2.2.1
theorem k0_off342_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off342 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.1 k0_t29
theorem k0_off343_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off343 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.1 k0_t29
theorem k0_off344_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off344 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.1 k0_t29
theorem k0_off345_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off345 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.1 k0_t29
theorem k0_off346_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off346 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.1 k0_t29
theorem k0_off347_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off347 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.1 k0_t29
theorem k0_off348_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off348 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.1 k0_t29
theorem k0_off349_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off349 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.1 k0_t29
theorem k0_off350_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off350 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.2.1 k0_t29
theorem k0_off351_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off351 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.2.2.1 k0_t29
theorem k0_off352_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off352 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.2.2.2.1 k0_t29
theorem k0_off353_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off353 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.2.2.2.2.1 k0_t29
theorem k0_off354_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off354 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.2.2.2.2.2.1 k0_t29
theorem k0_off355_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off355 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.1.2.2.2.2.2.2.2.2.2.2.2.2.2.2.2.2.2.2.2.2.2.2.2.2.2.2.2.2.2.2.2 k0_t29
theorem k0_off356_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off356 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.2.1 k0_t29
theorem k0_off357_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw29 : k0_chk29 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629) (k0_t29 : Fin (k0_t29_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629).trips), ∀ a, (k0_off357 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_t29) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t26 arg37 v546_0 v554 v559 v564 v569 v574 v579 v584 v589 v594 v599 v604 v609 v614 v619 v624 v629 k0_hw29 k0_t29 => k0_hw29.2.2 k0_t29

def k0_off358 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v696 : Index := Scalar.indexCast v637
  let c0_305 : Index := 0#32
  ![v696.toNat, 0]
def k0_off359 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v700 : Index := Scalar.indexCast v637
  let c16_306 : Index := 16#32
  ![v700.toNat, 16]
def k0_off360 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v704 : Index := Scalar.indexCast v637
  let c32_307 : Index := 32#32
  ![v704.toNat, 32]
def k0_off361 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v708 : Index := Scalar.indexCast v637
  let c48_308 : Index := 48#32
  ![v708.toNat, 48]
def k0_off362 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v712 : Index := Scalar.indexCast v637
  let c64_309 : Index := 64#32
  ![v712.toNat, 64]
def k0_off363 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v716 : Index := Scalar.indexCast v637
  let c80_310 : Index := 80#32
  ![v716.toNat, 80]
def k0_off364 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v720 : Index := Scalar.indexCast v637
  let c96_311 : Index := 96#32
  ![v720.toNat, 96]
def k0_off365 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v724 : Index := Scalar.indexCast v637
  let c112_312 : Index := 112#32
  ![v724.toNat, 112]
def k0_off366 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v728 : Index := Scalar.indexCast v637
  let c128_313 : Index := 128#32
  ![v728.toNat, 128]
def k0_off367 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v732 : Index := Scalar.indexCast v637
  let c144_314 : Index := 144#32
  ![v732.toNat, 144]
def k0_off368 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v736 : Index := Scalar.indexCast v637
  let c160_315 : Index := 160#32
  ![v736.toNat, 160]
def k0_off369 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v740 : Index := Scalar.indexCast v637
  let c176_316 : Index := 176#32
  ![v740.toNat, 176]
def k0_off370 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v744 : Index := Scalar.indexCast v637
  let c192_317 : Index := 192#32
  ![v744.toNat, 192]
def k0_off371 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v748 : Index := Scalar.indexCast v637
  let c208_318 : Index := 208#32
  ![v748.toNat, 208]
def k0_off372 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v752 : Index := Scalar.indexCast v637
  let c224_319 : Index := 224#32
  ![v752.toNat, 224]
def k0_off373 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v756 : Index := Scalar.indexCast v637
  let c240_320 : Index := 240#32
  ![v756.toNat, 240]
def k0_off374 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c1_i32_189 : BitVec 32 := 1#32
  let arg36 : BitVec 32 := Scf.iv v307 c1_i32_189 k0_t26
  let v637 : BitVec 32 := Scalar.subi arg36 v2
  let v762 : Index := Scalar.indexCast v637
  let c0_321 : Index := 0#32
  ![v762.toNat, 0]
@[reducible] def k0_t30_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let v407 : BitVec 32 := Scalar.addi v307 v406
  let c1_i32_190 : BitVec 32 := 1#32
  ⟨v410, v407, c1_i32_190⟩
@[reducible] def k0_t31_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off375 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk30 (arg55 : BitVec 32) (arg56 : BitVec 32) : Prop :=
  (∀ a, (k0_off375 arg55 arg56) a + S16.size a ≤ S192.size a)
theorem k0_off375_inb : ∀ (arg55 : BitVec 32) (arg56 : BitVec 32) (k0_hw30 : k0_chk30 arg55 arg56), ∀ a, (k0_off375 arg55 arg56) a + S16.size a ≤ S192.size a := fun arg55 arg56 k0_hw30 => k0_hw30

def k0_off376 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk31 (v546_0 : BitVec 32) : Prop :=
  (∀ a, (k0_off376 v546_0) a + S16.size a ≤ S192.size a)
theorem k0_off376_inb : ∀ (v546_0 : BitVec 32) (k0_hw31 : k0_chk31 v546_0), ∀ a, (k0_off376 v546_0) a + S16.size a ≤ S192.size a := fun v546_0 k0_hw31 => k0_hw31

def k0_off377 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v641 : Index := Scalar.indexCast v637
  let c0_300 : Index := 0#32
  ![v641.toNat, 0]
def k0_off378 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v644 : Index := Scalar.indexCast v637
  let c16 : Index := 16#32
  ![v644.toNat, 16]
def k0_off379 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v647 : Index := Scalar.indexCast v637
  let c32 : Index := 32#32
  ![v647.toNat, 32]
def k0_off380 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v650 : Index := Scalar.indexCast v637
  let c48 : Index := 48#32
  ![v650.toNat, 48]
def k0_off381 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v653 : Index := Scalar.indexCast v637
  let c64 : Index := 64#32
  ![v653.toNat, 64]
def k0_off382 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v656 : Index := Scalar.indexCast v637
  let c80 : Index := 80#32
  ![v656.toNat, 80]
def k0_off383 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v659 : Index := Scalar.indexCast v637
  let c96 : Index := 96#32
  ![v659.toNat, 96]
def k0_off384 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v662 : Index := Scalar.indexCast v637
  let c112 : Index := 112#32
  ![v662.toNat, 112]
def k0_off385 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v665 : Index := Scalar.indexCast v637
  let c128 : Index := 128#32
  ![v665.toNat, 128]
def k0_off386 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v668 : Index := Scalar.indexCast v637
  let c144 : Index := 144#32
  ![v668.toNat, 144]
def k0_off387 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v671 : Index := Scalar.indexCast v637
  let c160 : Index := 160#32
  ![v671.toNat, 160]
def k0_off388 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v674 : Index := Scalar.indexCast v637
  let c176_301 : Index := 176#32
  ![v674.toNat, 176]
def k0_off389 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v677 : Index := Scalar.indexCast v637
  let c192 : Index := 192#32
  ![v677.toNat, 192]
def k0_off390 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v680 : Index := Scalar.indexCast v637
  let c208 : Index := 208#32
  ![v680.toNat, 208]
def k0_off391 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v683 : Index := Scalar.indexCast v637
  let c224 : Index := 224#32
  ![v683.toNat, 224]
def k0_off392 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v686 : Index := Scalar.indexCast v637
  let c240 : Index := 240#32
  ![v686.toNat, 240]
@[reducible] def k0_t32_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off393 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v773 : Index := Scalar.indexCast arg54
  let c0_324 : Index := 0#32
  ![v773.toNat, 0]
def k0_off394 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v779 : Index := Scalar.indexCast arg54
  let c16_325 : Index := 16#32
  ![v779.toNat, 16]
def k0_off395 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v785 : Index := Scalar.indexCast arg54
  let c32_326 : Index := 32#32
  ![v785.toNat, 32]
def k0_off396 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v791 : Index := Scalar.indexCast arg54
  let c48_327 : Index := 48#32
  ![v791.toNat, 48]
def k0_off397 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v797 : Index := Scalar.indexCast arg54
  let c64_328 : Index := 64#32
  ![v797.toNat, 64]
def k0_off398 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v803 : Index := Scalar.indexCast arg54
  let c80_329 : Index := 80#32
  ![v803.toNat, 80]
def k0_off399 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v809 : Index := Scalar.indexCast arg54
  let c96_330 : Index := 96#32
  ![v809.toNat, 96]
def k0_off400 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v815 : Index := Scalar.indexCast arg54
  let c112_331 : Index := 112#32
  ![v815.toNat, 112]
def k0_off401 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v821 : Index := Scalar.indexCast arg54
  let c128_332 : Index := 128#32
  ![v821.toNat, 128]
def k0_off402 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v827 : Index := Scalar.indexCast arg54
  let c144_333 : Index := 144#32
  ![v827.toNat, 144]
def k0_off403 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v833 : Index := Scalar.indexCast arg54
  let c160_334 : Index := 160#32
  ![v833.toNat, 160]
def k0_off404 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v839 : Index := Scalar.indexCast arg54
  let c176_335 : Index := 176#32
  ![v839.toNat, 176]
def k0_off405 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v845 : Index := Scalar.indexCast arg54
  let c192_336 : Index := 192#32
  ![v845.toNat, 192]
def k0_off406 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v851 : Index := Scalar.indexCast arg54
  let c208_337 : Index := 208#32
  ![v851.toNat, 208]
def k0_off407 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v857 : Index := Scalar.indexCast arg54
  let c224_338 : Index := 224#32
  ![v857.toNat, 224]
def k0_off408 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c1_i32_303 : BitVec 32 := 1#32
  let arg54 : BitVec 32 := Scf.iv v639 c1_i32_303 k0_t32
  let v863 : Index := Scalar.indexCast arg54
  let c240_339 : Index := 240#32
  ![v863.toNat, 240]
@[reducible] def k0_t33_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off409 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v773 : Index := Scalar.indexCast arg54
  let c0_324 : Index := 0#32
  ![v773.toNat, 0]
def k0_off410 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v779 : Index := Scalar.indexCast arg54
  let c16_325 : Index := 16#32
  ![v779.toNat, 16]
def k0_off411 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v785 : Index := Scalar.indexCast arg54
  let c32_326 : Index := 32#32
  ![v785.toNat, 32]
def k0_off412 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v791 : Index := Scalar.indexCast arg54
  let c48_327 : Index := 48#32
  ![v791.toNat, 48]
def k0_off413 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v797 : Index := Scalar.indexCast arg54
  let c64_328 : Index := 64#32
  ![v797.toNat, 64]
def k0_off414 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v803 : Index := Scalar.indexCast arg54
  let c80_329 : Index := 80#32
  ![v803.toNat, 80]
def k0_off415 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v809 : Index := Scalar.indexCast arg54
  let c96_330 : Index := 96#32
  ![v809.toNat, 96]
def k0_off416 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v815 : Index := Scalar.indexCast arg54
  let c112_331 : Index := 112#32
  ![v815.toNat, 112]
def k0_off417 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v821 : Index := Scalar.indexCast arg54
  let c128_332 : Index := 128#32
  ![v821.toNat, 128]
def k0_off418 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v827 : Index := Scalar.indexCast arg54
  let c144_333 : Index := 144#32
  ![v827.toNat, 144]
def k0_off419 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v833 : Index := Scalar.indexCast arg54
  let c160_334 : Index := 160#32
  ![v833.toNat, 160]
def k0_off420 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v839 : Index := Scalar.indexCast arg54
  let c176_335 : Index := 176#32
  ![v839.toNat, 176]
def k0_off421 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v845 : Index := Scalar.indexCast arg54
  let c192_336 : Index := 192#32
  ![v845.toNat, 192]
def k0_off422 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v851 : Index := Scalar.indexCast arg54
  let c208_337 : Index := 208#32
  ![v851.toNat, 208]
def k0_off423 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v857 : Index := Scalar.indexCast arg54
  let c224_338 : Index := 224#32
  ![v857.toNat, 224]
def k0_off424 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c192_i32_139 : BitVec 32 := 192#32
  let v293 : BitVec 32 := Scalar.muli v281 c192_i32_139
  let v294 : BitVec 32 := Scalar.addi v213 v293
  let v298 : BitVec 32 := Scalar.maxsi v294 v103
  let c192_i32_140 : BitVec 32 := 192#32
  let v295 : BitVec 32 := Scalar.muli v281 c192_i32_140
  let v296 : BitVec 32 := Scalar.addi v213 v295
  let c159808_i32_141 : BitVec 32 := 159808#32
  let v297 : BitVec 32 := Scalar.minsi v296 c159808_i32_141
  let v638 : BitVec 32 := Scalar.subi v298 v297
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v307 : BitVec 32 := Scalar.maxsi v302 v2
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t33
  let v863 : Index := Scalar.indexCast arg54
  let c240_339 : Index := 240#32
  ![v863.toNat, 240]

def k0_chk32_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).OK) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off393 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off394 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off395 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off396 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off397 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off398 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off399 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off400 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off401 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off402 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off403 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off404 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off405 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off406 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off407 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  (∀ k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off408 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a) ∧
  ((k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).OK) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off409 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off410 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off411 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off412 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off413 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off414 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off415 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off416 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off417 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off418 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off419 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off420 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off421 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off422 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a)
def k0_chk32_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off423 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a) ∧
  (∀ k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips, ∀ a, (k0_off424 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a)
def k0_chk32 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk32_0 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 ∧
  k0_chk32_1 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629
theorem k0_t32_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629), (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 => k0_hw32.1.1
theorem k0_off393_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off393 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.1 k0_t32
theorem k0_off394_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off394 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.1 k0_t32
theorem k0_off395_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off395 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.1 k0_t32
theorem k0_off396_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off396 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.1 k0_t32
theorem k0_off397_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off397 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.1 k0_t32
theorem k0_off398_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off398 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.1 k0_t32
theorem k0_off399_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off399 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.1 k0_t32
theorem k0_off400_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off400 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.1 k0_t32
theorem k0_off401_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off401 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.1 k0_t32
theorem k0_off402_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off402 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.1 k0_t32
theorem k0_off403_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off403 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.2.1 k0_t32
theorem k0_off404_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off404 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.2.2.1 k0_t32
theorem k0_off405_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off405 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.2.2.2.1 k0_t32
theorem k0_off406_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off406 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.2.2.2.2.1 k0_t32
theorem k0_off407_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off407 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.2.2.2.2.2.1 k0_t32
theorem k0_off408_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t32 : Fin (k0_t32_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off408 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t32) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t32 => k0_hw32.1.2.2.2.2.2.2.2.2.2.2.2.2.2.2.2.2.1 k0_t32
theorem k0_t33_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629), (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 => k0_hw32.1.2.2.2.2.2.2.2.2.2.2.2.2.2.2.2.2.2.1
theorem k0_off409_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off409 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.1 k0_t33
theorem k0_off410_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off410 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.1 k0_t33
theorem k0_off411_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off411 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.1 k0_t33
theorem k0_off412_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off412 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.1 k0_t33
theorem k0_off413_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off413 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.1 k0_t33
theorem k0_off414_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off414 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.1 k0_t33
theorem k0_off415_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off415 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.1 k0_t33
theorem k0_off416_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off416 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.1 k0_t33
theorem k0_off417_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off417 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.2.1 k0_t33
theorem k0_off418_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off418 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.2.2.1 k0_t33
theorem k0_off419_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off419 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.2.2.2.1 k0_t33
theorem k0_off420_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off420 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.2.2.2.2.1 k0_t33
theorem k0_off421_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off421 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.2.2.2.2.2.1 k0_t33
theorem k0_off422_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off422 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.1.2.2.2.2.2.2.2.2.2.2.2.2.2.2.2.2.2.2.2.2.2.2.2.2.2.2.2.2.2.2.2 k0_t33
theorem k0_off423_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off423 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.2.1 k0_t33
theorem k0_off424_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw32 : k0_chk32 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629) (k0_t33 : Fin (k0_t33_loop i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629).trips), ∀ a, (k0_off424 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_t33) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_t30 arg37 v546_0 v554 v559 v564 v569 v574 v579 v584 v589 v594 v599 v604 v609 v614 v619 v624 v629 k0_hw32 k0_t33 => k0_hw32.2.2 k0_t33

def k0_off425 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v696 : Index := Scalar.indexCast v637
  let c0_305 : Index := 0#32
  ![v696.toNat, 0]
def k0_off426 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v700 : Index := Scalar.indexCast v637
  let c16_306 : Index := 16#32
  ![v700.toNat, 16]
def k0_off427 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v704 : Index := Scalar.indexCast v637
  let c32_307 : Index := 32#32
  ![v704.toNat, 32]
def k0_off428 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v708 : Index := Scalar.indexCast v637
  let c48_308 : Index := 48#32
  ![v708.toNat, 48]
def k0_off429 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v712 : Index := Scalar.indexCast v637
  let c64_309 : Index := 64#32
  ![v712.toNat, 64]
def k0_off430 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v716 : Index := Scalar.indexCast v637
  let c80_310 : Index := 80#32
  ![v716.toNat, 80]
def k0_off431 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v720 : Index := Scalar.indexCast v637
  let c96_311 : Index := 96#32
  ![v720.toNat, 96]
def k0_off432 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v724 : Index := Scalar.indexCast v637
  let c112_312 : Index := 112#32
  ![v724.toNat, 112]
def k0_off433 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v728 : Index := Scalar.indexCast v637
  let c128_313 : Index := 128#32
  ![v728.toNat, 128]
def k0_off434 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v732 : Index := Scalar.indexCast v637
  let c144_314 : Index := 144#32
  ![v732.toNat, 144]
def k0_off435 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v736 : Index := Scalar.indexCast v637
  let c160_315 : Index := 160#32
  ![v736.toNat, 160]
def k0_off436 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v740 : Index := Scalar.indexCast v637
  let c176_316 : Index := 176#32
  ![v740.toNat, 176]
def k0_off437 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v744 : Index := Scalar.indexCast v637
  let c192_317 : Index := 192#32
  ![v744.toNat, 192]
def k0_off438 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v748 : Index := Scalar.indexCast v637
  let c208_318 : Index := 208#32
  ![v748.toNat, 208]
def k0_off439 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v752 : Index := Scalar.indexCast v637
  let c224_319 : Index := 224#32
  ![v752.toNat, 224]
def k0_off440 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v756 : Index := Scalar.indexCast v637
  let c240_320 : Index := 240#32
  ![v756.toNat, 240]
def k0_off441 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v307 : BitVec 32 := Scalar.maxsi v302 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let v308 : BitVec 1 := Scalar.cmpi .slt v281 v233
  let c1_i32_143 : BitVec 32 := 1#32
  let v309 : BitVec 32 := Scalar.addi v306 c1_i32_143
  let c32_i32_144 : BitVec 32 := 32#32
  let v310 : BitVec 32 := Scalar.addi v2 c32_i32_144
  let v311 : BitVec 32 := Scalar.minsi v309 v310
  let v312 : BitVec 32 := Scalar.maxsi v311 v307
  let v313 : BitVec 32 := Scalar.select v308 v312 v307
  let v406 : BitVec 32 := Scalar.subi v313 v307
  let c1_i32_188 : BitVec 32 := 1#32
  let v408 : BitVec 32 := Scalar.divsi v406 c1_i32_188
  let v409 : BitVec 32 := Scalar.muli v408 c1_i32_188
  let v410 : BitVec 32 := Scalar.addi v307 v409
  let c1_i32_190 : BitVec 32 := 1#32
  let arg36 : BitVec 32 := Scf.iv v410 c1_i32_190 k0_t30
  let v637 : BitVec 32 := Scalar.subi arg36 v2
  let v762 : Index := Scalar.indexCast v637
  let c0_321 : Index := 0#32
  ![v762.toNat, 0]

variable {F : FTy → Type} [FloatOps F]

def k0_chk26_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  ((k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).OK) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off310 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off311 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off312 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off313 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off314 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off315 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off316 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off317 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off318 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off319 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off320 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off321 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off322 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off323 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off324 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off325 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off358 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off359 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off360 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off361 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off362 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off363 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off364 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off365 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off366 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off367 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off368 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off369 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off370 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off371 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off372 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a)
def k0_chk26_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off373 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a) ∧
  (∀ k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off374 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x16.size a) ∧
  ((k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).OK) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off377 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off378 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off379 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off380 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off381 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off382 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off383 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off384 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off385 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off386 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off387 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off388 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off389 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off390 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off391 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off392 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off425 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off426 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off427 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off428 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off429 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off430 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off431 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off432 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off433 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off434 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off435 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off436 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off437 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a)
def k0_chk26_2 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off438 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off439 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off440 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a) ∧
  (∀ k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips, ∀ a, (k0_off441 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x16.size a)
def k0_chk26 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) : Prop :=
  k0_chk26_0 i v14_0 v21 v26 v31 v36 v41 v46 v51 v56 v61 v66 v71 v76 v81 v86 v91 v96 v106_0 v113 v118 v123 v128 v133 v138 v143 v148 v153 v158 v163 v168 v173 v178 v183 v188 k0_t24 v302 v306 ∧
  k0_chk26_1 i v14_0 v21 v26 v31 v36 v41 v46 v51 v56 v61 v66 v71 v76 v81 v86 v91 v96 v106_0 v113 v118 v123 v128 v133 v138 v143 v148 v153 v158 v163 v168 v173 v178 v183 v188 k0_t24 v302 v306 ∧
  k0_chk26_2 i v14_0 v21 v26 v31 v36 v41 v46 v51 v56 v61 v66 v71 v76 v81 v86 v91 v96 v106_0 v113 v118 v123 v128 v133 v138 v143 v148 v153 v158 v163 v168 v173 v178 v183 v188 k0_t24 v302 v306
theorem k0_t26_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306), (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).OK := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 => k0_hw26.1.1
theorem k0_off310_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off310 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.1 k0_t26
theorem k0_off311_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off311 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.1 k0_t26
theorem k0_off312_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off312 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.1 k0_t26
theorem k0_off313_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off313 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.1 k0_t26
theorem k0_off314_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off314 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.1 k0_t26
theorem k0_off315_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off315 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.1 k0_t26
theorem k0_off316_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off316 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.1 k0_t26
theorem k0_off317_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off317 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.1 k0_t26
theorem k0_off318_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off318 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.1 k0_t26
theorem k0_off319_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off319 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.1 k0_t26
theorem k0_off320_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off320 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.1 k0_t26
theorem k0_off321_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off321 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.1 k0_t26
theorem k0_off322_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off322 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.1 k0_t26
theorem k0_off323_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off323 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.1 k0_t26
theorem k0_off324_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off324 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.1 k0_t26
theorem k0_off325_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off325 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.1 k0_t26
theorem k0_off358_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off358 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.1 k0_t26
theorem k0_off359_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off359 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.1 k0_t26
theorem k0_off360_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off360 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.1 k0_t26
theorem k0_off361_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off361 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.1 k0_t26
theorem k0_off362_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off362 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.1 k0_t26
theorem k0_off363_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off363 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.1 k0_t26
theorem k0_off364_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off364 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.1 k0_t26
theorem k0_off365_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off365 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.1 k0_t26
theorem k0_off366_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off366 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.1 k0_t26
theorem k0_off367_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off367 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.2.1 k0_t26
theorem k0_off368_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off368 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.2.2.1 k0_t26
theorem k0_off369_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off369 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.2.2.2.1 k0_t26
theorem k0_off370_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off370 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.2.2.2.2.1 k0_t26
theorem k0_off371_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off371 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.2.2.2.2.2.1 k0_t26
theorem k0_off372_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off372 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.1.2.2.2.2.2.2.2.2.2.2.2.2.2.2.2.2.2.2.2.2.2.2.2.2.2.2.2.2.2.2.2 k0_t26
theorem k0_off373_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off373 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.2.1.1 k0_t26
theorem k0_off374_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t26 : Fin (k0_t26_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off374 i v14_0 v21 v26 v31 v36 v41 v46 v51 v56 v61 v66 v71 v76 v81 v86 v91 v96 v106_0 v113 v118 v123 v128 v133 v138 v143 v148 v153 v158 v163 v168 v173 v178 v183 v188 k0_t24 v302 v306 k0_t26) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t26 => k0_hw26.2.1.2.1 k0_t26
theorem k0_t30_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306), (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).OK := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 => k0_hw26.2.1.2.2.1
theorem k0_off377_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off377 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.1 k0_t30
theorem k0_off378_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off378 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.1 k0_t30
theorem k0_off379_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off379 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.1 k0_t30
theorem k0_off380_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off380 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.1 k0_t30
theorem k0_off381_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off381 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.1 k0_t30
theorem k0_off382_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off382 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.1 k0_t30
theorem k0_off383_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off383 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.1 k0_t30
theorem k0_off384_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off384 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.1 k0_t30
theorem k0_off385_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off385 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.1 k0_t30
theorem k0_off386_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off386 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.1 k0_t30
theorem k0_off387_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off387 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.1 k0_t30
theorem k0_off388_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off388 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.1 k0_t30
theorem k0_off389_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off389 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.1 k0_t30
theorem k0_off390_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off390 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.1 k0_t30
theorem k0_off391_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off391 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.1 k0_t30
theorem k0_off392_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off392 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.1 k0_t30
theorem k0_off425_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off425 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.1 k0_t30
theorem k0_off426_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off426 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.1 k0_t30
theorem k0_off427_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off427 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.1 k0_t30
theorem k0_off428_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off428 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.1 k0_t30
theorem k0_off429_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off429 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.1 k0_t30
theorem k0_off430_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off430 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.1 k0_t30
theorem k0_off431_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off431 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.1 k0_t30
theorem k0_off432_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off432 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.2.1 k0_t30
theorem k0_off433_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off433 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.2.2.1 k0_t30
theorem k0_off434_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off434 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.2.2.2.1 k0_t30
theorem k0_off435_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off435 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.2.2.2.2.1 k0_t30
theorem k0_off436_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off436 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.2.2.2.2.2.1 k0_t30
theorem k0_off437_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off437 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.1.2.2.2.2.2.2.2.2.2.2.2.2.2.2.2.2.2.2.2.2.2.2.2.2.2.2.2.2.2.2.2 k0_t30
theorem k0_off438_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off438 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.2.1 k0_t30
theorem k0_off439_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off439 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.2.2.1 k0_t30
theorem k0_off440_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off440 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.2.2.2.1 k0_t30
theorem k0_off441_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v302 : BitVec 32) (v306 : BitVec 32) (k0_hw26 : k0_chk26 i v14_0 v21 v26 v31 v36 v41 v46 v51 v56 v61 v66 v71 v76 v81 v86 v91 v96 v106_0 v113 v118 v123 v128 v133 v138 v143 v148 v153 v158 v163 v168 v173 v178 v183 v188 k0_t24 v302 v306) (k0_t30 : Fin (k0_t30_loop i v14_0 v21 v26 v31 v36 v41 v46 v51 v56 v61 v66 v71 v76 v81 v86 v91 v96 v106_0 v113 v118 v123 v128 v133 v138 v143 v148 v153 v158 v163 v168 v173 v178 v183 v188 k0_t24 v302 v306).trips), ∀ a, (k0_off441 i v14_0 v21 v26 v31 v36 v41 v46 v51 v56 v61 v66 v71 v76 v81 v86 v91 v96 v106_0 v113 v118 v123 v128 v133 v138 v143 v148 v153 v158 v163 v168 v173 v178 v183 v188 k0_t24 v302 v306 k0_t30) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t24 v302 v306 k0_hw26 k0_t30 => k0_hw26.2.2.2.2.2 k0_t30

def k0_off442 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c2_i32_254 : BitVec 32 := 2#32
  let v544 : BitVec 32 := Scalar.addi v281 c2_i32_254
  let c192_i32_255 : BitVec 32 := 192#32
  let v545 : BitVec 32 := Scalar.muli v544 c192_i32_255
  let v546 : BitVec 32 := Scalar.addi v213 v545
  let c159808_i32_256 : BitVec 32 := 159808#32
  let v547 : BitVec 32 := Scalar.minsi v546 c159808_i32_256
  let c0_i32_257 : BitVec 32 := 0#32
  ![v547.toNat, 0]
def k0_cond4 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : BitVec 1 :=
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c2_i32_191 : BitVec 32 := 2#32
  let v413 : BitVec 32 := Scalar.addi v281 c2_i32_191
  let c2_i32_124 : BitVec 32 := 2#32
  let v255 : BitVec 32 := Scalar.muli c2_i32_124 v254
  let v414 : BitVec 1 := Scalar.cmpi .slt v413 v255
  let v415 : BitVec 32 := Scalar.extui v414
  let c0_i32_192 : BitVec 32 := 0#32
  let v416 : BitVec 1 := Scalar.cmpi .ne v415 c0_i32_192
  v416

def k0_off443 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_193 : BitVec 32 := 1#32
  let v417 : BitVec 32 := Scalar.addi v281 c1_i32_193
  let c192_i32_194 : BitVec 32 := 192#32
  let v418 : BitVec 32 := Scalar.muli v417 c192_i32_194
  let v419 : BitVec 32 := Scalar.addi v213 v418
  let c159808_i32_195 : BitVec 32 := 159808#32
  let v420 : BitVec 32 := Scalar.minsi v419 c159808_i32_195
  let c0_i32_196 : BitVec 32 := 0#32
  ![v420.toNat, 0]
def k0_off444 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) : Fin 1 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  ![v428.toNat]

def k0_chk5 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) : Prop :=
  (∀ (k0_h2 : k0_cond2 i v14_0 v21 v26 v31 v36 v41 v46 v51 v56 v61 v66 v71 v76 v81 v86 v91 v96 v106_0 v113 v118 v123 v128 v133 v138 v143 v148 v153 v158 v163 v168 v173 v178 v183 v188 = 1#1), ∀ a, (k0_off24 i v14_0 v21 v26 v31 v36 v41 v46 v51 v56 v61 v66 v71 v76 v81 v86 v91 v96) a + S192x256.size a ≤ S160000x256.size a) ∧
  ((k0_t5_loop i v14_0 v21 v26 v31 v36 v41 v46 v51 v56 v61 v66 v71 v76 v81 v86 v91 v96 v106_0 v113 v118 v123 v128 v133 v138 v143 v148 v153 v158 v163 v168 v173 v178 v183 v188).OK) ∧
  (∀ k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips, ∀ a, (k0_off25 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a) ∧
  (∀ k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips, ∀ a, (k0_off26 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a) ∧
  (∀ k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips, ∀ a, (k0_off27 i v14_0 v21 v26 v31 v36 v41 v46 v51 v56 v61 v66 v71 v76 v81 v86 v91 v96 v106_0 v113 v118 v123 v128 v133 v138 v143 v148 v153 v158 v163 v168 v173 v178 v183 v188 k0_t5) a + S192.size a ≤ S160016.size a) ∧
  (∀ k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips, ∀ (k0_h3 : k0_cond3 i v14_0 v21 v26 v31 v36 v41 v46 v51 v56 v61 v66 v71 v76 v81 v86 v91 v96 v106_0 v113 v118 v123 v128 v133 v138 v143 v148 v153 v158 v163 v168 v173 v178 v183 v188 k0_t5 = 1#1), ∀ a, (k0_off164 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a) ∧
  (∀ k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips, ∀ a, (k0_off165 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a) ∧
  (∀ k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips, ∀ a, (k0_off166 i v14_0 v21 v26 v31 v36 v41 v46 v51 v56 v61 v66 v71 v76 v81 v86 v91 v96 v106_0 v113 v118 v123 v128 v133 v138 v143 v148 v153 v158 v163 v168 v173 v178 v183 v188 k0_t5) a + S192.size a ≤ S160016.size a) ∧
  ((k0_t24_loop i v14_0 v21 v26 v31 v36 v41 v46 v51 v56 v61 v66 v71 v76 v81 v86 v91 v96 v106_0 v113 v118 v123 v128 v133 v138 v143 v148 v153 v158 v163 v168 v173 v178 v183 v188).OK) ∧
  (∀ k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips, ∀ a, (k0_off303 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a) ∧
  (∀ k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips, ∀ a, (k0_off304 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a) ∧
  (∀ k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips, ∀ a, (k0_off305 i v14_0 v21 v26 v31 v36 v41 v46 v51 v56 v61 v66 v71 v76 v81 v86 v91 v96 v106_0 v113 v118 v123 v128 v133 v138 v143 v148 v153 v158 v163 v168 v173 v178 v183 v188 k0_t24) a + S192.size a ≤ S160016.size a) ∧
  (∀ k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips, ∀ (k0_h4 : k0_cond4 i v14_0 v21 v26 v31 v36 v41 v46 v51 v56 v61 v66 v71 v76 v81 v86 v91 v96 v106_0 v113 v118 v123 v128 v133 v138 v143 v148 v153 v158 v163 v168 v173 v178 v183 v188 k0_t24 = 1#1), ∀ a, (k0_off442 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a) ∧
  (∀ k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips, ∀ a, (k0_off443 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a) ∧
  (∀ k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips, ∀ a, (k0_off444 i v14_0 v21 v26 v31 v36 v41 v46 v51 v56 v61 v66 v71 v76 v81 v86 v91 v96 v106_0 v113 v118 v123 v128 v133 v138 v143 v148 v153 v158 v163 v168 v173 v178 v183 v188 k0_t24) a + S192.size a ≤ S160016.size a)
theorem k0_off24_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188), ∀ (k0_h2 : k0_cond2 i v14_0 v21 v26 v31 v36 v41 v46 v51 v56 v61 v66 v71 v76 v81 v86 v91 v96 v106_0 v113 v118 v123 v128 v133 v138 v143 v148 v153 v158 v163 v168 v173 v178 v183 v188 = 1#1), ∀ a, (k0_off24 i v14_0 v21 v26 v31 v36 v41 v46 v51 v56 v61 v66 v71 v76 v81 v86 v91 v96) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_h2 => k0_hw5.1 k0_h2
theorem k0_t5_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188), (k0_t5_loop i v14_0 v21 v26 v31 v36 v41 v46 v51 v56 v61 v66 v71 v76 v81 v86 v91 v96 v106_0 v113 v118 v123 v128 v133 v138 v143 v148 v153 v158 v163 v168 v173 v178 v183 v188).OK := fun i v14_0 v21 v26 v31 v36 v41 v46 v51 v56 v61 v66 v71 v76 v81 v86 v91 v96 v106_0 v113 v118 v123 v128 v133 v138 v143 v148 v153 v158 v163 v168 v173 v178 v183 v188 k0_hw5 => k0_hw5.2.1
theorem k0_off25_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips), ∀ a, (k0_off25 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t5 => k0_hw5.2.2.1 k0_t5
theorem k0_off26_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips), ∀ a, (k0_off26 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t5 => k0_hw5.2.2.2.1 k0_t5
theorem k0_off27_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips), ∀ a, (k0_off27 i v14_0 v21 v26 v31 v36 v41 v46 v51 v56 v61 v66 v71 v76 v81 v86 v91 v96 v106_0 v113 v118 v123 v128 v133 v138 v143 v148 v153 v158 v163 v168 v173 v178 v183 v188 k0_t5) a + S192.size a ≤ S160016.size a := fun i v14_0 v21 v26 v31 v36 v41 v46 v51 v56 v61 v66 v71 v76 v81 v86 v91 v96 v106_0 v113 v118 v123 v128 v133 v138 v143 v148 v153 v158 v163 v168 v173 v178 v183 v188 k0_hw5 k0_t5 => k0_hw5.2.2.2.2.1 k0_t5
theorem k0_off164_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips), ∀ (k0_h3 : k0_cond3 i v14_0 v21 v26 v31 v36 v41 v46 v51 v56 v61 v66 v71 v76 v81 v86 v91 v96 v106_0 v113 v118 v123 v128 v133 v138 v143 v148 v153 v158 v163 v168 v173 v178 v183 v188 k0_t5 = 1#1), ∀ a, (k0_off164 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t5 k0_h3 => k0_hw5.2.2.2.2.2.1 k0_t5 k0_h3
theorem k0_off165_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips), ∀ a, (k0_off165 i v14_0 v21 v26 v31 v36 v41 v46 v51 v56 v61 v66 v71 v76 v81 v86 v91 v96 v106_0 v113 v118 v123 v128 v133 v138 v143 v148 v153 v158 v163 v168 v173 v178 v183 v188 k0_t5) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t5 => k0_hw5.2.2.2.2.2.2.1 k0_t5
theorem k0_off166_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips), ∀ a, (k0_off166 i v14_0 v21 v26 v31 v36 v41 v46 v51 v56 v61 v66 v71 v76 v81 v86 v91 v96 v106_0 v113 v118 v123 v128 v133 v138 v143 v148 v153 v158 v163 v168 v173 v178 v183 v188 k0_t5) a + S192.size a ≤ S160016.size a := fun i v14_0 v21 v26 v31 v36 v41 v46 v51 v56 v61 v66 v71 v76 v81 v86 v91 v96 v106_0 v113 v118 v123 v128 v133 v138 v143 v148 v153 v158 v163 v168 v173 v178 v183 v188 k0_hw5 k0_t5 => k0_hw5.2.2.2.2.2.2.2.1 k0_t5
theorem k0_t24_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188), (k0_t24_loop i v14_0 v21 v26 v31 v36 v41 v46 v51 v56 v61 v66 v71 v76 v81 v86 v91 v96 v106_0 v113 v118 v123 v128 v133 v138 v143 v148 v153 v158 v163 v168 v173 v178 v183 v188).OK := fun i v14_0 v21 v26 v31 v36 v41 v46 v51 v56 v61 v66 v71 v76 v81 v86 v91 v96 v106_0 v113 v118 v123 v128 v133 v138 v143 v148 v153 v158 v163 v168 v173 v178 v183 v188 k0_hw5 => k0_hw5.2.2.2.2.2.2.2.2.1
theorem k0_off303_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips), ∀ a, (k0_off303 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t24 => k0_hw5.2.2.2.2.2.2.2.2.2.1 k0_t24
theorem k0_off304_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips), ∀ a, (k0_off304 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t24 => k0_hw5.2.2.2.2.2.2.2.2.2.2.1 k0_t24
theorem k0_off305_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips), ∀ a, (k0_off305 i v14_0 v21 v26 v31 v36 v41 v46 v51 v56 v61 v66 v71 v76 v81 v86 v91 v96 v106_0 v113 v118 v123 v128 v133 v138 v143 v148 v153 v158 v163 v168 v173 v178 v183 v188 k0_t24) a + S192.size a ≤ S160016.size a := fun i v14_0 v21 v26 v31 v36 v41 v46 v51 v56 v61 v66 v71 v76 v81 v86 v91 v96 v106_0 v113 v118 v123 v128 v133 v138 v143 v148 v153 v158 v163 v168 v173 v178 v183 v188 k0_hw5 k0_t24 => k0_hw5.2.2.2.2.2.2.2.2.2.2.2.1 k0_t24
theorem k0_off442_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips), ∀ (k0_h4 : k0_cond4 i v14_0 v21 v26 v31 v36 v41 v46 v51 v56 v61 v66 v71 v76 v81 v86 v91 v96 v106_0 v113 v118 v123 v128 v133 v138 v143 v148 v153 v158 v163 v168 v173 v178 v183 v188 k0_t24 = 1#1), ∀ a, (k0_off442 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t24 k0_h4 => k0_hw5.2.2.2.2.2.2.2.2.2.2.2.2.1 k0_t24 k0_h4
theorem k0_off443_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips), ∀ a, (k0_off443 i v14_0 v21 v26 v31 v36 v41 v46 v51 v56 v61 v66 v71 v76 v81 v86 v91 v96 v106_0 v113 v118 v123 v128 v133 v138 v143 v148 v153 v158 v163 v168 v173 v178 v183 v188 k0_t24) a + S192x256.size a ≤ S160000x256.size a := fun i v14_0 v21 v26 v31 v36 v41 v46 v51 v56 v61 v66 v71 v76 v81 v86 v91 v96 v106_0 v113 v118 v123 v128 v133 v138 v143 v148 v153 v158 v163 v168 v173 v178 v183 v188 k0_hw5 k0_t24 => k0_hw5.2.2.2.2.2.2.2.2.2.2.2.2.2.1 k0_t24
theorem k0_off444_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_hw5 : k0_chk5 i v14_0 v21 v26 v31 v36 v41 v46 v51 v56 v61 v66 v71 v76 v81 v86 v91 v96 v106_0 v113 v118 v123 v128 v133 v138 v143 v148 v153 v158 v163 v168 v173 v178 v183 v188) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips), ∀ a, (k0_off444 i v14_0 v21 v26 v31 v36 v41 v46 v51 v56 v61 v66 v71 v76 v81 v86 v91 v96 v106_0 v113 v118 v123 v128 v133 v138 v143 v148 v153 v158 v163 v168 v173 v178 v183 v188 k0_t24) a + S192.size a ≤ S160016.size a := fun i v14_0 v21 v26 v31 v36 v41 v46 v51 v56 v61 v66 v71 v76 v81 v86 v91 v96 v106_0 v113 v118 v123 v128 v133 v138 v143 v148 v153 v158 v163 v168 v173 v178 v183 v188 k0_hw5 k0_t24 => k0_hw5.2.2.2.2.2.2.2.2.2.2.2.2.2.2 k0_t24

@[reducible] def k0_t34_loop : Scf.Loop 32 :=
  let c0_i32_208 : BitVec 32 := 0#32
  let c4_i32_209 : BitVec 32 := 4#32
  let v445 : BitVec 32 := Scalar.addi c0_i32_208 c4_i32_209
  let c1_i32_210 : BitVec 32 := 1#32
  ⟨c0_i32_208, v445, c1_i32_210⟩
def k0_off445 (arg37 : BitVec 32) (arg38 : BitVec 32) : Fin 1 → Nat :=
  let v544 : BitVec 32 := Scalar.addi arg37 arg38
  let c0_i32_255 : BitVec 32 := 0#32
  let v546 : BitVec 1 := Scalar.cmpi .sgt v544 c0_i32_255
  let v547 : BitVec 32 := Scalar.extui v546
  let c0_i32_256 : BitVec 32 := 0#32
  let v548 : BitVec 1 := Scalar.cmpi .slt v544 c0_i32_256
  let v549 : BitVec 32 := Scalar.extui v548
  let v550 : BitVec 32 := Scalar.subi v547 v549
  let c2_i32_254 : BitVec 32 := 2#32
  let c0_i32_257 : BitVec 32 := 0#32
  let v551 : BitVec 1 := Scalar.cmpi .sgt c2_i32_254 c0_i32_257
  let v552 : BitVec 32 := Scalar.extui v551
  let c0_i32_258 : BitVec 32 := 0#32
  let v553 : BitVec 1 := Scalar.cmpi .slt c2_i32_254 c0_i32_258
  let v554 : BitVec 32 := Scalar.extui v553
  let v555 : BitVec 32 := Scalar.subi v552 v554
  let v556 : BitVec 1 := Scalar.cmpi .ne v550 v555
  let v557 : BitVec 32 := Scalar.remsi v544 c2_i32_254
  let c0_i32_259 : BitVec 32 := 0#32
  let v558 : BitVec 1 := Scalar.cmpi .ne v557 c0_i32_259
  let v559 : BitVec 1 := Scalar.andi v556 v558
  let v545 : BitVec 32 := Scalar.divsi v544 c2_i32_254
  let c1_i32_260 : BitVec 32 := 1#32
  let v560 : BitVec 32 := Scalar.subi v545 c1_i32_260
  let v561 : BitVec 32 := Scalar.select v559 v560 v545
  let c11_i32 : BitVec 32 := 11#32
  let v562 : BitVec 32 := Scalar.minsi v561 c11_i32
  let c16_i32_261 : BitVec 32 := 16#32
  let v563 : BitVec 32 := Scalar.muli v562 c16_i32_261
  let v564 : Index := Scalar.indexCast v563
  ![v564.toNat]

def k0_chk33 (arg37 : BitVec 32) (arg38 : BitVec 32) : Prop :=
  (∀ a, (k0_off445 arg37 arg38) a + S16.size a ≤ S192.size a)
theorem k0_off445_inb : ∀ (arg37 : BitVec 32) (arg38 : BitVec 32) (k0_hw33 : k0_chk33 arg37 arg38), ∀ a, (k0_off445 arg37 arg38) a + S16.size a ≤ S192.size a := fun arg37 arg38 k0_hw33 => k0_hw33

def k0_off446 (v446_0 : BitVec 32) : Fin 1 → Nat :=
  let c1_i32_212 : BitVec 32 := 1#32
  let v447 : BitVec 32 := Scalar.subi v446_0 c1_i32_212
  let c0_i32_213 : BitVec 32 := 0#32
  let v448 : BitVec 32 := Scalar.maxsi v447 c0_i32_213
  let c16_i32_214 : BitVec 32 := 16#32
  let v449 : BitVec 32 := Scalar.muli v448 c16_i32_214
  let v450 : Index := Scalar.indexCast v449
  ![v450.toNat]

def k0_chk34 (v446_0 : BitVec 32) : Prop :=
  (∀ a, (k0_off446 v446_0) a + S16.size a ≤ S192.size a)
theorem k0_off446_inb : ∀ (v446_0 : BitVec 32) (k0_hw34 : k0_chk34 v446_0), ∀ a, (k0_off446 v446_0) a + S16.size a ≤ S192.size a := fun v446_0 k0_hw34 => k0_hw34

@[reducible] def k0_t35_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_252 : BitVec 32 := 1#32
  ⟨v438, v541, c1_i32_252⟩

@[reducible] def k0_t36_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off447 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk36 (arg55 : BitVec 32) (arg56 : BitVec 32) : Prop :=
  (∀ a, (k0_off447 arg55 arg56) a + S16.size a ≤ S192.size a)
theorem k0_off447_inb : ∀ (arg55 : BitVec 32) (arg56 : BitVec 32) (k0_hw36 : k0_chk36 arg55 arg56), ∀ a, (k0_off447 arg55 arg56) a + S16.size a ≤ S192.size a := fun arg55 arg56 k0_hw36 => k0_hw36

def k0_off448 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk37 (v546_0 : BitVec 32) : Prop :=
  (∀ a, (k0_off448 v546_0) a + S16.size a ≤ S192.size a)
theorem k0_off448_inb : ∀ (v546_0 : BitVec 32) (k0_hw37 : k0_chk37 v546_0), ∀ a, (k0_off448 v546_0) a + S16.size a ≤ S192.size a := fun v546_0 k0_hw37 => k0_hw37

def k0_off449 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v641 : Index := Scalar.indexCast v637
  let c0_300 : Index := 0#32
  ![v641.toNat, 0]
def k0_off450 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v644 : Index := Scalar.indexCast v637
  let c16 : Index := 16#32
  ![v644.toNat, 16]
def k0_off451 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v647 : Index := Scalar.indexCast v637
  let c32 : Index := 32#32
  ![v647.toNat, 32]
def k0_off452 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v650 : Index := Scalar.indexCast v637
  let c48 : Index := 48#32
  ![v650.toNat, 48]
def k0_off453 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v653 : Index := Scalar.indexCast v637
  let c64 : Index := 64#32
  ![v653.toNat, 64]
def k0_off454 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v656 : Index := Scalar.indexCast v637
  let c80 : Index := 80#32
  ![v656.toNat, 80]
def k0_off455 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v659 : Index := Scalar.indexCast v637
  let c96 : Index := 96#32
  ![v659.toNat, 96]
def k0_off456 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v662 : Index := Scalar.indexCast v637
  let c112 : Index := 112#32
  ![v662.toNat, 112]
def k0_off457 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v665 : Index := Scalar.indexCast v637
  let c128 : Index := 128#32
  ![v665.toNat, 128]
def k0_off458 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v668 : Index := Scalar.indexCast v637
  let c144 : Index := 144#32
  ![v668.toNat, 144]
def k0_off459 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v671 : Index := Scalar.indexCast v637
  let c160 : Index := 160#32
  ![v671.toNat, 160]
def k0_off460 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v674 : Index := Scalar.indexCast v637
  let c176_301 : Index := 176#32
  ![v674.toNat, 176]
def k0_off461 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v677 : Index := Scalar.indexCast v637
  let c192 : Index := 192#32
  ![v677.toNat, 192]
def k0_off462 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v680 : Index := Scalar.indexCast v637
  let c208 : Index := 208#32
  ![v680.toNat, 208]
def k0_off463 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v683 : Index := Scalar.indexCast v637
  let c224 : Index := 224#32
  ![v683.toNat, 224]
def k0_off464 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v686 : Index := Scalar.indexCast v637
  let c240 : Index := 240#32
  ![v686.toNat, 240]
@[reducible] def k0_t37_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off465 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v773 : Index := Scalar.indexCast arg54
  let c0_324 : Index := 0#32
  ![v773.toNat, 0]
def k0_off466 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v779 : Index := Scalar.indexCast arg54
  let c16_325 : Index := 16#32
  ![v779.toNat, 16]
def k0_off467 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v785 : Index := Scalar.indexCast arg54
  let c32_326 : Index := 32#32
  ![v785.toNat, 32]
def k0_off468 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v791 : Index := Scalar.indexCast arg54
  let c48_327 : Index := 48#32
  ![v791.toNat, 48]
def k0_off469 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v797 : Index := Scalar.indexCast arg54
  let c64_328 : Index := 64#32
  ![v797.toNat, 64]
def k0_off470 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v803 : Index := Scalar.indexCast arg54
  let c80_329 : Index := 80#32
  ![v803.toNat, 80]
def k0_off471 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v809 : Index := Scalar.indexCast arg54
  let c96_330 : Index := 96#32
  ![v809.toNat, 96]
def k0_off472 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v815 : Index := Scalar.indexCast arg54
  let c112_331 : Index := 112#32
  ![v815.toNat, 112]
def k0_off473 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v821 : Index := Scalar.indexCast arg54
  let c128_332 : Index := 128#32
  ![v821.toNat, 128]
def k0_off474 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v827 : Index := Scalar.indexCast arg54
  let c144_333 : Index := 144#32
  ![v827.toNat, 144]
def k0_off475 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v833 : Index := Scalar.indexCast arg54
  let c160_334 : Index := 160#32
  ![v833.toNat, 160]
def k0_off476 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v839 : Index := Scalar.indexCast arg54
  let c176_335 : Index := 176#32
  ![v839.toNat, 176]
def k0_off477 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v845 : Index := Scalar.indexCast arg54
  let c192_336 : Index := 192#32
  ![v845.toNat, 192]
def k0_off478 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v851 : Index := Scalar.indexCast arg54
  let c208_337 : Index := 208#32
  ![v851.toNat, 208]
def k0_off479 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v857 : Index := Scalar.indexCast arg54
  let c224_338 : Index := 224#32
  ![v857.toNat, 224]
def k0_off480 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t37
  let v863 : Index := Scalar.indexCast arg54
  let c240_339 : Index := 240#32
  ![v863.toNat, 240]
@[reducible] def k0_t38_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off481 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v773 : Index := Scalar.indexCast arg54
  let c0_324 : Index := 0#32
  ![v773.toNat, 0]
def k0_off482 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v779 : Index := Scalar.indexCast arg54
  let c16_325 : Index := 16#32
  ![v779.toNat, 16]
def k0_off483 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v785 : Index := Scalar.indexCast arg54
  let c32_326 : Index := 32#32
  ![v785.toNat, 32]
def k0_off484 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v791 : Index := Scalar.indexCast arg54
  let c48_327 : Index := 48#32
  ![v791.toNat, 48]
def k0_off485 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v797 : Index := Scalar.indexCast arg54
  let c64_328 : Index := 64#32
  ![v797.toNat, 64]
def k0_off486 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v803 : Index := Scalar.indexCast arg54
  let c80_329 : Index := 80#32
  ![v803.toNat, 80]
def k0_off487 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v809 : Index := Scalar.indexCast arg54
  let c96_330 : Index := 96#32
  ![v809.toNat, 96]
def k0_off488 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v815 : Index := Scalar.indexCast arg54
  let c112_331 : Index := 112#32
  ![v815.toNat, 112]
def k0_off489 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v821 : Index := Scalar.indexCast arg54
  let c128_332 : Index := 128#32
  ![v821.toNat, 128]
def k0_off490 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v827 : Index := Scalar.indexCast arg54
  let c144_333 : Index := 144#32
  ![v827.toNat, 144]
def k0_off491 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v833 : Index := Scalar.indexCast arg54
  let c160_334 : Index := 160#32
  ![v833.toNat, 160]
def k0_off492 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v839 : Index := Scalar.indexCast arg54
  let c176_335 : Index := 176#32
  ![v839.toNat, 176]
def k0_off493 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v845 : Index := Scalar.indexCast arg54
  let c192_336 : Index := 192#32
  ![v845.toNat, 192]
def k0_off494 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v851 : Index := Scalar.indexCast arg54
  let c208_337 : Index := 208#32
  ![v851.toNat, 208]
def k0_off495 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v857 : Index := Scalar.indexCast arg54
  let c224_338 : Index := 224#32
  ![v857.toNat, 224]
def k0_off496 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let c1_i32_252 : BitVec 32 := 1#32
  let arg36 : BitVec 32 := Scf.iv v438 c1_i32_252 k0_t35
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t38
  let v863 : Index := Scalar.indexCast arg54
  let c240_339 : Index := 240#32
  ![v863.toNat, 240]

def k0_chk38_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).OK) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off465 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off466 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off467 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off468 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off469 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off470 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off471 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off472 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off473 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off474 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off475 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off476 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off477 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off478 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off479 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  (∀ k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off480 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a) ∧
  ((k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).OK) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off481 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off482 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off483 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off484 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off485 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off486 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off487 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off488 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off489 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off490 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off491 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off492 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off493 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off494 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a)
def k0_chk38_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off495 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a) ∧
  (∀ k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips, ∀ a, (k0_off496 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a)
def k0_chk38 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk38_0 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 ∧
  k0_chk38_1 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629
theorem k0_t37_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629), (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 => k0_hw38.1.1
theorem k0_off465_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off465 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.1 k0_t37
theorem k0_off466_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off466 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.1 k0_t37
theorem k0_off467_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off467 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.1 k0_t37
theorem k0_off468_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off468 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.1 k0_t37
theorem k0_off469_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off469 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.1 k0_t37
theorem k0_off470_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off470 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.1 k0_t37
theorem k0_off471_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off471 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.1 k0_t37
theorem k0_off472_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off472 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.1 k0_t37
theorem k0_off473_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off473 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.1 k0_t37
theorem k0_off474_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off474 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.1 k0_t37
theorem k0_off475_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off475 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.2.1 k0_t37
theorem k0_off476_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off476 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.2.2.1 k0_t37
theorem k0_off477_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off477 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.2.2.2.1 k0_t37
theorem k0_off478_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off478 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.2.2.2.2.1 k0_t37
theorem k0_off479_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off479 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.2.2.2.2.2.1 k0_t37
theorem k0_off480_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t37 : Fin (k0_t37_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off480 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t37) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t37 => k0_hw38.1.2.2.2.2.2.2.2.2.2.2.2.2.2.2.2.2.1 k0_t37
theorem k0_t38_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629), (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 => k0_hw38.1.2.2.2.2.2.2.2.2.2.2.2.2.2.2.2.2.2.1
theorem k0_off481_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off481 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.1 k0_t38
theorem k0_off482_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off482 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.1 k0_t38
theorem k0_off483_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off483 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.1 k0_t38
theorem k0_off484_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off484 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.1 k0_t38
theorem k0_off485_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off485 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.1 k0_t38
theorem k0_off486_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off486 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.1 k0_t38
theorem k0_off487_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off487 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.1 k0_t38
theorem k0_off488_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off488 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.1 k0_t38
theorem k0_off489_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off489 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.2.1 k0_t38
theorem k0_off490_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off490 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.2.2.1 k0_t38
theorem k0_off491_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off491 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.2.2.2.1 k0_t38
theorem k0_off492_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off492 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.2.2.2.2.1 k0_t38
theorem k0_off493_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off493 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.2.2.2.2.2.1 k0_t38
theorem k0_off494_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off494 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.1.2.2.2.2.2.2.2.2.2.2.2.2.2.2.2.2.2.2.2.2.2.2.2.2.2.2.2.2.2.2.2 k0_t38
theorem k0_off495_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off495 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.2.1 k0_t38
theorem k0_off496_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw38 : k0_chk38 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629) (k0_t38 : Fin (k0_t38_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629).trips), ∀ a, (k0_off496 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_t38) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t35 arg37 v546_0 v554 v559 v564 v569 v574 v579 v584 v589 v594 v599 v604 v609 v614 v619 v624 v629 k0_hw38 k0_t38 => k0_hw38.2.2 k0_t38

def k0_off497 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v696 : Index := Scalar.indexCast v637
  let c0_305 : Index := 0#32
  ![v696.toNat, 0]
def k0_off498 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v700 : Index := Scalar.indexCast v637
  let c16_306 : Index := 16#32
  ![v700.toNat, 16]
def k0_off499 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v704 : Index := Scalar.indexCast v637
  let c32_307 : Index := 32#32
  ![v704.toNat, 32]
def k0_off500 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v708 : Index := Scalar.indexCast v637
  let c48_308 : Index := 48#32
  ![v708.toNat, 48]
def k0_off501 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v712 : Index := Scalar.indexCast v637
  let c64_309 : Index := 64#32
  ![v712.toNat, 64]
def k0_off502 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v716 : Index := Scalar.indexCast v637
  let c80_310 : Index := 80#32
  ![v716.toNat, 80]
def k0_off503 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v720 : Index := Scalar.indexCast v637
  let c96_311 : Index := 96#32
  ![v720.toNat, 96]
def k0_off504 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v724 : Index := Scalar.indexCast v637
  let c112_312 : Index := 112#32
  ![v724.toNat, 112]
def k0_off505 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v728 : Index := Scalar.indexCast v637
  let c128_313 : Index := 128#32
  ![v728.toNat, 128]
def k0_off506 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v732 : Index := Scalar.indexCast v637
  let c144_314 : Index := 144#32
  ![v732.toNat, 144]
def k0_off507 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v736 : Index := Scalar.indexCast v637
  let c160_315 : Index := 160#32
  ![v736.toNat, 160]
def k0_off508 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v740 : Index := Scalar.indexCast v637
  let c176_316 : Index := 176#32
  ![v740.toNat, 176]
def k0_off509 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v744 : Index := Scalar.indexCast v637
  let c192_317 : Index := 192#32
  ![v744.toNat, 192]
def k0_off510 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v748 : Index := Scalar.indexCast v637
  let c208_318 : Index := 208#32
  ![v748.toNat, 208]
def k0_off511 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v752 : Index := Scalar.indexCast v637
  let c224_319 : Index := 224#32
  ![v752.toNat, 224]
def k0_off512 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v756 : Index := Scalar.indexCast v637
  let c240_320 : Index := 240#32
  ![v756.toNat, 240]
def k0_off513 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c1_i32_252 : BitVec 32 := 1#32
  let arg36 : BitVec 32 := Scf.iv v438 c1_i32_252 k0_t35
  let v637 : BitVec 32 := Scalar.subi arg36 v2
  let v762 : Index := Scalar.indexCast v637
  let c0_321 : Index := 0#32
  ![v762.toNat, 0]
@[reducible] def k0_t39_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Scf.Loop 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let v538 : BitVec 32 := Scalar.addi v438 v537
  let c1_i32_253 : BitVec 32 := 1#32
  ⟨v541, v538, c1_i32_253⟩
@[reducible] def k0_t40_loop : Scf.Loop 32 :=
  let c0_i32_257 : BitVec 32 := 0#32
  let c4_i32_258 : BitVec 32 := 4#32
  let v545 : BitVec 32 := Scalar.addi c0_i32_257 c4_i32_258
  let c1_i32_259 : BitVec 32 := 1#32
  ⟨c0_i32_257, v545, c1_i32_259⟩
def k0_off514 (arg55 : BitVec 32) (arg56 : BitVec 32) : Fin 1 → Nat :=
  let v773 : BitVec 32 := Scalar.addi arg55 arg56
  let c0_i32_325 : BitVec 32 := 0#32
  let v775 : BitVec 1 := Scalar.cmpi .sgt v773 c0_i32_325
  let v776 : BitVec 32 := Scalar.extui v775
  let c0_i32_326 : BitVec 32 := 0#32
  let v777 : BitVec 1 := Scalar.cmpi .slt v773 c0_i32_326
  let v778 : BitVec 32 := Scalar.extui v777
  let v779 : BitVec 32 := Scalar.subi v776 v778
  let c2_i32_324 : BitVec 32 := 2#32
  let c0_i32_327 : BitVec 32 := 0#32
  let v780 : BitVec 1 := Scalar.cmpi .sgt c2_i32_324 c0_i32_327
  let v781 : BitVec 32 := Scalar.extui v780
  let c0_i32_328 : BitVec 32 := 0#32
  let v782 : BitVec 1 := Scalar.cmpi .slt c2_i32_324 c0_i32_328
  let v783 : BitVec 32 := Scalar.extui v782
  let v784 : BitVec 32 := Scalar.subi v781 v783
  let v785 : BitVec 1 := Scalar.cmpi .ne v779 v784
  let v786 : BitVec 32 := Scalar.remsi v773 c2_i32_324
  let c0_i32_329 : BitVec 32 := 0#32
  let v787 : BitVec 1 := Scalar.cmpi .ne v786 c0_i32_329
  let v788 : BitVec 1 := Scalar.andi v785 v787
  let v774 : BitVec 32 := Scalar.divsi v773 c2_i32_324
  let c1_i32_330 : BitVec 32 := 1#32
  let v789 : BitVec 32 := Scalar.subi v774 c1_i32_330
  let v790 : BitVec 32 := Scalar.select v788 v789 v774
  let c11_i32 : BitVec 32 := 11#32
  let v791 : BitVec 32 := Scalar.minsi v790 c11_i32
  let c16_i32_331 : BitVec 32 := 16#32
  let v792 : BitVec 32 := Scalar.muli v791 c16_i32_331
  let v793 : Index := Scalar.indexCast v792
  ![v793.toNat]

def k0_chk39 (arg55 : BitVec 32) (arg56 : BitVec 32) : Prop :=
  (∀ a, (k0_off514 arg55 arg56) a + S16.size a ≤ S192.size a)
theorem k0_off514_inb : ∀ (arg55 : BitVec 32) (arg56 : BitVec 32) (k0_hw39 : k0_chk39 arg55 arg56), ∀ a, (k0_off514 arg55 arg56) a + S16.size a ≤ S192.size a := fun arg55 arg56 k0_hw39 => k0_hw39

def k0_off515 (v546_0 : BitVec 32) : Fin 1 → Nat :=
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_263 : BitVec 32 := 16#32
  let v549 : BitVec 32 := Scalar.muli v548 c16_i32_263
  let v550 : Index := Scalar.indexCast v549
  ![v550.toNat]

def k0_chk40 (v546_0 : BitVec 32) : Prop :=
  (∀ a, (k0_off515 v546_0) a + S16.size a ≤ S192.size a)
theorem k0_off515_inb : ∀ (v546_0 : BitVec 32) (k0_hw40 : k0_chk40 v546_0), ∀ a, (k0_off515 v546_0) a + S16.size a ≤ S192.size a := fun v546_0 k0_hw40 => k0_hw40

def k0_off516 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v641 : Index := Scalar.indexCast v637
  let c0_300 : Index := 0#32
  ![v641.toNat, 0]
def k0_off517 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v644 : Index := Scalar.indexCast v637
  let c16 : Index := 16#32
  ![v644.toNat, 16]
def k0_off518 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v647 : Index := Scalar.indexCast v637
  let c32 : Index := 32#32
  ![v647.toNat, 32]
def k0_off519 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v650 : Index := Scalar.indexCast v637
  let c48 : Index := 48#32
  ![v650.toNat, 48]
def k0_off520 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v653 : Index := Scalar.indexCast v637
  let c64 : Index := 64#32
  ![v653.toNat, 64]
def k0_off521 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v656 : Index := Scalar.indexCast v637
  let c80 : Index := 80#32
  ![v656.toNat, 80]
def k0_off522 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v659 : Index := Scalar.indexCast v637
  let c96 : Index := 96#32
  ![v659.toNat, 96]
def k0_off523 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v662 : Index := Scalar.indexCast v637
  let c112 : Index := 112#32
  ![v662.toNat, 112]
def k0_off524 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v665 : Index := Scalar.indexCast v637
  let c128 : Index := 128#32
  ![v665.toNat, 128]
def k0_off525 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v668 : Index := Scalar.indexCast v637
  let c144 : Index := 144#32
  ![v668.toNat, 144]
def k0_off526 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v671 : Index := Scalar.indexCast v637
  let c160 : Index := 160#32
  ![v671.toNat, 160]
def k0_off527 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v674 : Index := Scalar.indexCast v637
  let c176_301 : Index := 176#32
  ![v674.toNat, 176]
def k0_off528 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v677 : Index := Scalar.indexCast v637
  let c192 : Index := 192#32
  ![v677.toNat, 192]
def k0_off529 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v680 : Index := Scalar.indexCast v637
  let c208 : Index := 208#32
  ![v680.toNat, 208]
def k0_off530 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v683 : Index := Scalar.indexCast v637
  let c224 : Index := 224#32
  ![v683.toNat, 224]
def k0_off531 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v686 : Index := Scalar.indexCast v637
  let c240 : Index := 240#32
  ![v686.toNat, 240]
@[reducible] def k0_t41_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_303 : BitVec 32 := 1#32
  ⟨v639, v693, c1_i32_303⟩

def k0_off532 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v773 : Index := Scalar.indexCast arg54
  let c0_324 : Index := 0#32
  ![v773.toNat, 0]
def k0_off533 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v779 : Index := Scalar.indexCast arg54
  let c16_325 : Index := 16#32
  ![v779.toNat, 16]
def k0_off534 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v785 : Index := Scalar.indexCast arg54
  let c32_326 : Index := 32#32
  ![v785.toNat, 32]
def k0_off535 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v791 : Index := Scalar.indexCast arg54
  let c48_327 : Index := 48#32
  ![v791.toNat, 48]
def k0_off536 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v797 : Index := Scalar.indexCast arg54
  let c64_328 : Index := 64#32
  ![v797.toNat, 64]
def k0_off537 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v803 : Index := Scalar.indexCast arg54
  let c80_329 : Index := 80#32
  ![v803.toNat, 80]
def k0_off538 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v809 : Index := Scalar.indexCast arg54
  let c96_330 : Index := 96#32
  ![v809.toNat, 96]
def k0_off539 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v815 : Index := Scalar.indexCast arg54
  let c112_331 : Index := 112#32
  ![v815.toNat, 112]
def k0_off540 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v821 : Index := Scalar.indexCast arg54
  let c128_332 : Index := 128#32
  ![v821.toNat, 128]
def k0_off541 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v827 : Index := Scalar.indexCast arg54
  let c144_333 : Index := 144#32
  ![v827.toNat, 144]
def k0_off542 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v833 : Index := Scalar.indexCast arg54
  let c160_334 : Index := 160#32
  ![v833.toNat, 160]
def k0_off543 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v839 : Index := Scalar.indexCast arg54
  let c176_335 : Index := 176#32
  ![v839.toNat, 176]
def k0_off544 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v845 : Index := Scalar.indexCast arg54
  let c192_336 : Index := 192#32
  ![v845.toNat, 192]
def k0_off545 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v851 : Index := Scalar.indexCast arg54
  let c208_337 : Index := 208#32
  ![v851.toNat, 208]
def k0_off546 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v857 : Index := Scalar.indexCast arg54
  let c224_338 : Index := 224#32
  ![v857.toNat, 224]
def k0_off547 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c1_i32_303 : BitVec 32 := 1#32
  let arg54 : BitVec 32 := Scf.iv v639 c1_i32_303 k0_t41
  let v863 : Index := Scalar.indexCast arg54
  let c240_339 : Index := 240#32
  ![v863.toNat, 240]
@[reducible] def k0_t42_loop (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Scf.Loop 32 :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let v690 : BitVec 32 := Scalar.addi v639 v689
  let c1_i32_304 : BitVec 32 := 1#32
  ⟨v693, v690, c1_i32_304⟩
def k0_off548 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v773 : Index := Scalar.indexCast arg54
  let c0_324 : Index := 0#32
  ![v773.toNat, 0]
def k0_off549 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v779 : Index := Scalar.indexCast arg54
  let c16_325 : Index := 16#32
  ![v779.toNat, 16]
def k0_off550 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v785 : Index := Scalar.indexCast arg54
  let c32_326 : Index := 32#32
  ![v785.toNat, 32]
def k0_off551 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v791 : Index := Scalar.indexCast arg54
  let c48_327 : Index := 48#32
  ![v791.toNat, 48]
def k0_off552 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v797 : Index := Scalar.indexCast arg54
  let c64_328 : Index := 64#32
  ![v797.toNat, 64]
def k0_off553 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v803 : Index := Scalar.indexCast arg54
  let c80_329 : Index := 80#32
  ![v803.toNat, 80]
def k0_off554 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v809 : Index := Scalar.indexCast arg54
  let c96_330 : Index := 96#32
  ![v809.toNat, 96]
def k0_off555 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v815 : Index := Scalar.indexCast arg54
  let c112_331 : Index := 112#32
  ![v815.toNat, 112]
def k0_off556 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v821 : Index := Scalar.indexCast arg54
  let c128_332 : Index := 128#32
  ![v821.toNat, 128]
def k0_off557 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v827 : Index := Scalar.indexCast arg54
  let c144_333 : Index := 144#32
  ![v827.toNat, 144]
def k0_off558 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v833 : Index := Scalar.indexCast arg54
  let c160_334 : Index := 160#32
  ![v833.toNat, 160]
def k0_off559 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v839 : Index := Scalar.indexCast arg54
  let c176_335 : Index := 176#32
  ![v839.toNat, 176]
def k0_off560 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v845 : Index := Scalar.indexCast arg54
  let c192_336 : Index := 192#32
  ![v845.toNat, 192]
def k0_off561 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v851 : Index := Scalar.indexCast arg54
  let c208_337 : Index := 208#32
  ![v851.toNat, 208]
def k0_off562 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v857 : Index := Scalar.indexCast arg54
  let c224_338 : Index := 224#32
  ![v857.toNat, 224]
def k0_off563 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips) : Fin 2 → Nat :=
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let c192_i32_199 : BitVec 32 := 192#32
  let v424 : BitVec 32 := Scalar.muli v423 c192_i32_199
  let v425 : BitVec 32 := Scalar.addi v213 v424
  let v429 : BitVec 32 := Scalar.maxsi v425 v103
  let c192_i32_200 : BitVec 32 := 192#32
  let v426 : BitVec 32 := Scalar.muli v423 c192_i32_200
  let v427 : BitVec 32 := Scalar.addi v213 v426
  let c159808_i32_201 : BitVec 32 := 159808#32
  let v428 : BitVec 32 := Scalar.minsi v427 c159808_i32_201
  let v638 : BitVec 32 := Scalar.subi v429 v428
  let v639 : BitVec 32 := Scalar.maxsi arg37 v638
  let c0_i32_297 : BitVec 32 := 0#32
  let v633 : BitVec 1 := Scalar.cmpi .eq v546_0 c0_i32_297
  let c0_i32_299 : BitVec 32 := 0#32
  let c1_i32_261 : BitVec 32 := 1#32
  let v547 : BitVec 32 := Scalar.subi v546_0 c1_i32_261
  let c0_i32_262 : BitVec 32 := 0#32
  let v548 : BitVec 32 := Scalar.maxsi v547 c0_i32_262
  let c16_i32_298 : BitVec 32 := 16#32
  let v634 : BitVec 32 := Scalar.muli v548 c16_i32_298
  let c0_i32_266 : BitVec 32 := 0#32
  let v438 : BitVec 32 := Scalar.maxsi v433 v2
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let c1_i32_254 : BitVec 32 := 1#32
  let v544 : BitVec 32 := Scalar.addi arg36 c1_i32_254
  let v555 : BitVec 1 := Scalar.cmpi .slt v554 v544
  let c1_i32_264 : BitVec 32 := 1#32
  let c0_i32_265 : BitVec 32 := 0#32
  let v556 : BitVec 32 := Scalar.select v555 c1_i32_264 c0_i32_265
  let v557 : BitVec 32 := Scalar.addi c0_i32_266 v556
  let v560 : BitVec 1 := Scalar.cmpi .slt v559 v544
  let c1_i32_267 : BitVec 32 := 1#32
  let c0_i32_268 : BitVec 32 := 0#32
  let v561 : BitVec 32 := Scalar.select v560 c1_i32_267 c0_i32_268
  let v562 : BitVec 32 := Scalar.addi v557 v561
  let v565 : BitVec 1 := Scalar.cmpi .slt v564 v544
  let c1_i32_269 : BitVec 32 := 1#32
  let c0_i32_270 : BitVec 32 := 0#32
  let v566 : BitVec 32 := Scalar.select v565 c1_i32_269 c0_i32_270
  let v567 : BitVec 32 := Scalar.addi v562 v566
  let v570 : BitVec 1 := Scalar.cmpi .slt v569 v544
  let c1_i32_271 : BitVec 32 := 1#32
  let c0_i32_272 : BitVec 32 := 0#32
  let v571 : BitVec 32 := Scalar.select v570 c1_i32_271 c0_i32_272
  let v572 : BitVec 32 := Scalar.addi v567 v571
  let v575 : BitVec 1 := Scalar.cmpi .slt v574 v544
  let c1_i32_273 : BitVec 32 := 1#32
  let c0_i32_274 : BitVec 32 := 0#32
  let v576 : BitVec 32 := Scalar.select v575 c1_i32_273 c0_i32_274
  let v577 : BitVec 32 := Scalar.addi v572 v576
  let v580 : BitVec 1 := Scalar.cmpi .slt v579 v544
  let c1_i32_275 : BitVec 32 := 1#32
  let c0_i32_276 : BitVec 32 := 0#32
  let v581 : BitVec 32 := Scalar.select v580 c1_i32_275 c0_i32_276
  let v582 : BitVec 32 := Scalar.addi v577 v581
  let v585 : BitVec 1 := Scalar.cmpi .slt v584 v544
  let c1_i32_277 : BitVec 32 := 1#32
  let c0_i32_278 : BitVec 32 := 0#32
  let v586 : BitVec 32 := Scalar.select v585 c1_i32_277 c0_i32_278
  let v587 : BitVec 32 := Scalar.addi v582 v586
  let v590 : BitVec 1 := Scalar.cmpi .slt v589 v544
  let c1_i32_279 : BitVec 32 := 1#32
  let c0_i32_280 : BitVec 32 := 0#32
  let v591 : BitVec 32 := Scalar.select v590 c1_i32_279 c0_i32_280
  let v592 : BitVec 32 := Scalar.addi v587 v591
  let v595 : BitVec 1 := Scalar.cmpi .slt v594 v544
  let c1_i32_281 : BitVec 32 := 1#32
  let c0_i32_282 : BitVec 32 := 0#32
  let v596 : BitVec 32 := Scalar.select v595 c1_i32_281 c0_i32_282
  let v597 : BitVec 32 := Scalar.addi v592 v596
  let v600 : BitVec 1 := Scalar.cmpi .slt v599 v544
  let c1_i32_283 : BitVec 32 := 1#32
  let c0_i32_284 : BitVec 32 := 0#32
  let v601 : BitVec 32 := Scalar.select v600 c1_i32_283 c0_i32_284
  let v602 : BitVec 32 := Scalar.addi v597 v601
  let v605 : BitVec 1 := Scalar.cmpi .slt v604 v544
  let c1_i32_285 : BitVec 32 := 1#32
  let c0_i32_286 : BitVec 32 := 0#32
  let v606 : BitVec 32 := Scalar.select v605 c1_i32_285 c0_i32_286
  let v607 : BitVec 32 := Scalar.addi v602 v606
  let v610 : BitVec 1 := Scalar.cmpi .slt v609 v544
  let c1_i32_287 : BitVec 32 := 1#32
  let c0_i32_288 : BitVec 32 := 0#32
  let v611 : BitVec 32 := Scalar.select v610 c1_i32_287 c0_i32_288
  let v612 : BitVec 32 := Scalar.addi v607 v611
  let v615 : BitVec 1 := Scalar.cmpi .slt v614 v544
  let c1_i32_289 : BitVec 32 := 1#32
  let c0_i32_290 : BitVec 32 := 0#32
  let v616 : BitVec 32 := Scalar.select v615 c1_i32_289 c0_i32_290
  let v617 : BitVec 32 := Scalar.addi v612 v616
  let v620 : BitVec 1 := Scalar.cmpi .slt v619 v544
  let c1_i32_291 : BitVec 32 := 1#32
  let c0_i32_292 : BitVec 32 := 0#32
  let v621 : BitVec 32 := Scalar.select v620 c1_i32_291 c0_i32_292
  let v622 : BitVec 32 := Scalar.addi v617 v621
  let v625 : BitVec 1 := Scalar.cmpi .slt v624 v544
  let c1_i32_293 : BitVec 32 := 1#32
  let c0_i32_294 : BitVec 32 := 0#32
  let v626 : BitVec 32 := Scalar.select v625 c1_i32_293 c0_i32_294
  let v627 : BitVec 32 := Scalar.addi v622 v626
  let v630 : BitVec 1 := Scalar.cmpi .slt v629 v544
  let c1_i32_295 : BitVec 32 := 1#32
  let c0_i32_296 : BitVec 32 := 0#32
  let v631 : BitVec 32 := Scalar.select v630 c1_i32_295 c0_i32_296
  let v632 : BitVec 32 := Scalar.addi v627 v631
  let v635 : BitVec 32 := Scalar.addi v634 v632
  let v636 : BitVec 32 := Scalar.select v633 c0_i32_299 v635
  let v640 : BitVec 32 := Scalar.maxsi v636 v639
  let v689 : BitVec 32 := Scalar.subi v640 v639
  let c1_i32_302 : BitVec 32 := 1#32
  let v691 : BitVec 32 := Scalar.divsi v689 c1_i32_302
  let v692 : BitVec 32 := Scalar.muli v691 c1_i32_302
  let v693 : BitVec 32 := Scalar.addi v639 v692
  let c1_i32_304 : BitVec 32 := 1#32
  let arg54 : BitVec 32 := Scf.iv v693 c1_i32_304 k0_t42
  let v863 : Index := Scalar.indexCast arg54
  let c240_339 : Index := 240#32
  ![v863.toNat, 240]

variable {F : FTy → Type} [FloatOps F]

def k0_chk41_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  ((k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).OK) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off532 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off533 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off534 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off535 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off536 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off537 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off538 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off539 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off540 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off541 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off542 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off543 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off544 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off545 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off546 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  (∀ k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off547 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a) ∧
  ((k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).OK) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off548 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off549 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off550 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off551 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off552 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off553 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off554 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off555 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off556 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off557 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off558 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off559 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off560 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off561 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a)
def k0_chk41_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off562 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a) ∧
  (∀ k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips, ∀ a, (k0_off563 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a)
def k0_chk41 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) : Prop :=
  k0_chk41_0 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 ∧
  k0_chk41_1 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629
theorem k0_t41_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629), (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 => k0_hw41.1.1
theorem k0_off532_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off532 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.1 k0_t41
theorem k0_off533_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off533 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.1 k0_t41
theorem k0_off534_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off534 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.1 k0_t41
theorem k0_off535_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off535 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.1 k0_t41
theorem k0_off536_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off536 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.1 k0_t41
theorem k0_off537_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off537 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.1 k0_t41
theorem k0_off538_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off538 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.1 k0_t41
theorem k0_off539_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off539 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.1 k0_t41
theorem k0_off540_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off540 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.1 k0_t41
theorem k0_off541_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off541 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.1 k0_t41
theorem k0_off542_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off542 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.2.1 k0_t41
theorem k0_off543_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off543 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.2.2.1 k0_t41
theorem k0_off544_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off544 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.2.2.2.1 k0_t41
theorem k0_off545_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off545 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.2.2.2.2.1 k0_t41
theorem k0_off546_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off546 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.2.2.2.2.2.1 k0_t41
theorem k0_off547_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t41 : Fin (k0_t41_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off547 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t41) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t41 => k0_hw41.1.2.2.2.2.2.2.2.2.2.2.2.2.2.2.2.2.1 k0_t41
theorem k0_t42_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629), (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).OK := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 => k0_hw41.1.2.2.2.2.2.2.2.2.2.2.2.2.2.2.2.2.2.1
theorem k0_off548_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off548 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.1 k0_t42
theorem k0_off549_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off549 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.1 k0_t42
theorem k0_off550_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off550 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.1 k0_t42
theorem k0_off551_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off551 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.1 k0_t42
theorem k0_off552_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off552 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.1 k0_t42
theorem k0_off553_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off553 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.1 k0_t42
theorem k0_off554_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off554 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.1 k0_t42
theorem k0_off555_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off555 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.1 k0_t42
theorem k0_off556_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off556 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.2.1 k0_t42
theorem k0_off557_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off557 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.2.2.1 k0_t42
theorem k0_off558_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off558 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.2.2.2.1 k0_t42
theorem k0_off559_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off559 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.2.2.2.2.1 k0_t42
theorem k0_off560_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off560 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.2.2.2.2.2.1 k0_t42
theorem k0_off561_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off561 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.1.2.2.2.2.2.2.2.2.2.2.2.2.2.2.2.2.2.2.2.2.2.2.2.2.2.2.2.2.2.2.2 k0_t42
theorem k0_off562_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off562 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.2.1 k0_t42
theorem k0_off563_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) (arg37 : BitVec 32) (v546_0 : BitVec 32) (v554 : BitVec 32) (v559 : BitVec 32) (v564 : BitVec 32) (v569 : BitVec 32) (v574 : BitVec 32) (v579 : BitVec 32) (v584 : BitVec 32) (v589 : BitVec 32) (v594 : BitVec 32) (v599 : BitVec 32) (v604 : BitVec 32) (v609 : BitVec 32) (v614 : BitVec 32) (v619 : BitVec 32) (v624 : BitVec 32) (v629 : BitVec 32) (k0_hw41 : k0_chk41 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629) (k0_t42 : Fin (k0_t42_loop i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629).trips), ∀ a, (k0_off563 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_t42) a + S1x16.size a ≤ S192x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_t39 arg37 v546_0 v554 v559 v564 v569 v574 v579 v584 v589 v594 v599 v604 v609 v614 v619 v624 v629 k0_hw41 k0_t42 => k0_hw41.2.2 k0_t42

def k0_off564 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v696 : Index := Scalar.indexCast v637
  let c0_305 : Index := 0#32
  ![v696.toNat, 0]
def k0_off565 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v700 : Index := Scalar.indexCast v637
  let c16_306 : Index := 16#32
  ![v700.toNat, 16]
def k0_off566 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v704 : Index := Scalar.indexCast v637
  let c32_307 : Index := 32#32
  ![v704.toNat, 32]
def k0_off567 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v708 : Index := Scalar.indexCast v637
  let c48_308 : Index := 48#32
  ![v708.toNat, 48]
def k0_off568 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v712 : Index := Scalar.indexCast v637
  let c64_309 : Index := 64#32
  ![v712.toNat, 64]
def k0_off569 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v716 : Index := Scalar.indexCast v637
  let c80_310 : Index := 80#32
  ![v716.toNat, 80]
def k0_off570 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v720 : Index := Scalar.indexCast v637
  let c96_311 : Index := 96#32
  ![v720.toNat, 96]
def k0_off571 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v724 : Index := Scalar.indexCast v637
  let c112_312 : Index := 112#32
  ![v724.toNat, 112]
def k0_off572 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v728 : Index := Scalar.indexCast v637
  let c128_313 : Index := 128#32
  ![v728.toNat, 128]
def k0_off573 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v732 : Index := Scalar.indexCast v637
  let c144_314 : Index := 144#32
  ![v732.toNat, 144]
def k0_off574 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v736 : Index := Scalar.indexCast v637
  let c160_315 : Index := 160#32
  ![v736.toNat, 160]
def k0_off575 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v740 : Index := Scalar.indexCast v637
  let c176_316 : Index := 176#32
  ![v740.toNat, 176]
def k0_off576 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v744 : Index := Scalar.indexCast v637
  let c192_317 : Index := 192#32
  ![v744.toNat, 192]
def k0_off577 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v748 : Index := Scalar.indexCast v637
  let c208_318 : Index := 208#32
  ![v748.toNat, 208]
def k0_off578 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v752 : Index := Scalar.indexCast v637
  let c224_319 : Index := 224#32
  ![v752.toNat, 224]
def k0_off579 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v756 : Index := Scalar.indexCast v637
  let c240_320 : Index := 240#32
  ![v756.toNat, 240]
def k0_off580 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v438 : BitVec 32 := Scalar.maxsi v433 v2
  let c2_i32_130 : BitVec 32 := 2#32
  let c0_i32_125 : BitVec 32 := 0#32
  let c0_i32_96 : BitVec 32 := 0#32
  let v192 : BitVec 1 := Scalar.cmpi .eq v106_0 c0_i32_96
  let c0_i32_98 : BitVec 32 := 0#32
  let c1_i32_59 : BitVec 32 := 1#32
  let v107 : BitVec 32 := Scalar.subi v106_0 c1_i32_59
  let c0_i32_60 : BitVec 32 := 0#32
  let v108 : BitVec 32 := Scalar.maxsi v107 c0_i32_60
  let c8_i32_97 : BitVec 32 := 8#32
  let v193 : BitVec 32 := Scalar.muli v108 c8_i32_97
  let c0_i32_65 : BitVec 32 := 0#32
  let c32_i32_52 : BitVec 32 := 32#32
  let v104 : BitVec 32 := Scalar.addi v2 c32_i32_52
  let v114 : BitVec 1 := Scalar.cmpi .slt v113 v104
  let c1_i32_63 : BitVec 32 := 1#32
  let c0_i32_64 : BitVec 32 := 0#32
  let v115 : BitVec 32 := Scalar.select v114 c1_i32_63 c0_i32_64
  let v116 : BitVec 32 := Scalar.addi c0_i32_65 v115
  let v119 : BitVec 1 := Scalar.cmpi .slt v118 v104
  let c1_i32_66 : BitVec 32 := 1#32
  let c0_i32_67 : BitVec 32 := 0#32
  let v120 : BitVec 32 := Scalar.select v119 c1_i32_66 c0_i32_67
  let v121 : BitVec 32 := Scalar.addi v116 v120
  let v124 : BitVec 1 := Scalar.cmpi .slt v123 v104
  let c1_i32_68 : BitVec 32 := 1#32
  let c0_i32_69 : BitVec 32 := 0#32
  let v125 : BitVec 32 := Scalar.select v124 c1_i32_68 c0_i32_69
  let v126 : BitVec 32 := Scalar.addi v121 v125
  let v129 : BitVec 1 := Scalar.cmpi .slt v128 v104
  let c1_i32_70 : BitVec 32 := 1#32
  let c0_i32_71 : BitVec 32 := 0#32
  let v130 : BitVec 32 := Scalar.select v129 c1_i32_70 c0_i32_71
  let v131 : BitVec 32 := Scalar.addi v126 v130
  let v134 : BitVec 1 := Scalar.cmpi .slt v133 v104
  let c1_i32_72 : BitVec 32 := 1#32
  let c0_i32_73 : BitVec 32 := 0#32
  let v135 : BitVec 32 := Scalar.select v134 c1_i32_72 c0_i32_73
  let v136 : BitVec 32 := Scalar.addi v131 v135
  let v139 : BitVec 1 := Scalar.cmpi .slt v138 v104
  let c1_i32_74 : BitVec 32 := 1#32
  let c0_i32_75 : BitVec 32 := 0#32
  let v140 : BitVec 32 := Scalar.select v139 c1_i32_74 c0_i32_75
  let v141 : BitVec 32 := Scalar.addi v136 v140
  let v144 : BitVec 1 := Scalar.cmpi .slt v143 v104
  let c1_i32_76 : BitVec 32 := 1#32
  let c0_i32_77 : BitVec 32 := 0#32
  let v145 : BitVec 32 := Scalar.select v144 c1_i32_76 c0_i32_77
  let v146 : BitVec 32 := Scalar.addi v141 v145
  let v149 : BitVec 1 := Scalar.cmpi .slt v148 v104
  let c1_i32_78 : BitVec 32 := 1#32
  let c0_i32_79 : BitVec 32 := 0#32
  let v150 : BitVec 32 := Scalar.select v149 c1_i32_78 c0_i32_79
  let v151 : BitVec 32 := Scalar.addi v146 v150
  let v154 : BitVec 1 := Scalar.cmpi .slt v153 v104
  let c1_i32_80 : BitVec 32 := 1#32
  let c0_i32_81 : BitVec 32 := 0#32
  let v155 : BitVec 32 := Scalar.select v154 c1_i32_80 c0_i32_81
  let v156 : BitVec 32 := Scalar.addi v151 v155
  let v159 : BitVec 1 := Scalar.cmpi .slt v158 v104
  let c1_i32_82 : BitVec 32 := 1#32
  let c0_i32_83 : BitVec 32 := 0#32
  let v160 : BitVec 32 := Scalar.select v159 c1_i32_82 c0_i32_83
  let v161 : BitVec 32 := Scalar.addi v156 v160
  let v164 : BitVec 1 := Scalar.cmpi .slt v163 v104
  let c1_i32_84 : BitVec 32 := 1#32
  let c0_i32_85 : BitVec 32 := 0#32
  let v165 : BitVec 32 := Scalar.select v164 c1_i32_84 c0_i32_85
  let v166 : BitVec 32 := Scalar.addi v161 v165
  let v169 : BitVec 1 := Scalar.cmpi .slt v168 v104
  let c1_i32_86 : BitVec 32 := 1#32
  let c0_i32_87 : BitVec 32 := 0#32
  let v170 : BitVec 32 := Scalar.select v169 c1_i32_86 c0_i32_87
  let v171 : BitVec 32 := Scalar.addi v166 v170
  let v174 : BitVec 1 := Scalar.cmpi .slt v173 v104
  let c1_i32_88 : BitVec 32 := 1#32
  let c0_i32_89 : BitVec 32 := 0#32
  let v175 : BitVec 32 := Scalar.select v174 c1_i32_88 c0_i32_89
  let v176 : BitVec 32 := Scalar.addi v171 v175
  let v179 : BitVec 1 := Scalar.cmpi .slt v178 v104
  let c1_i32_90 : BitVec 32 := 1#32
  let c0_i32_91 : BitVec 32 := 0#32
  let v180 : BitVec 32 := Scalar.select v179 c1_i32_90 c0_i32_91
  let v181 : BitVec 32 := Scalar.addi v176 v180
  let v184 : BitVec 1 := Scalar.cmpi .slt v183 v104
  let c1_i32_92 : BitVec 32 := 1#32
  let c0_i32_93 : BitVec 32 := 0#32
  let v185 : BitVec 32 := Scalar.select v184 c1_i32_92 c0_i32_93
  let v186 : BitVec 32 := Scalar.addi v181 v185
  let v189 : BitVec 1 := Scalar.cmpi .slt v188 v104
  let c1_i32_94 : BitVec 32 := 1#32
  let c0_i32_95 : BitVec 32 := 0#32
  let v190 : BitVec 32 := Scalar.select v189 c1_i32_94 c0_i32_95
  let v191 : BitVec 32 := Scalar.addi v186 v190
  let v194 : BitVec 32 := Scalar.addi v193 v191
  let v195 : BitVec 32 := Scalar.select v192 c0_i32_98 v194
  let c0_i32_49 : BitVec 32 := 0#32
  let v100 : BitVec 1 := Scalar.cmpi .eq v14_0 c0_i32_49
  let c0_i32_51 : BitVec 32 := 0#32
  let c1_i32_13 : BitVec 32 := 1#32
  let v15 : BitVec 32 := Scalar.subi v14_0 c1_i32_13
  let c0_i32_14 : BitVec 32 := 0#32
  let v16 : BitVec 32 := Scalar.maxsi v15 c0_i32_14
  let c8_i32_50 : BitVec 32 := 8#32
  let v101 : BitVec 32 := Scalar.muli v16 c8_i32_50
  let c0_i32_18 : BitVec 32 := 0#32
  let v22 : BitVec 1 := Scalar.cmpi .slt v21 v2
  let c1_i32_16 : BitVec 32 := 1#32
  let c0_i32_17 : BitVec 32 := 0#32
  let v23 : BitVec 32 := Scalar.select v22 c1_i32_16 c0_i32_17
  let v24 : BitVec 32 := Scalar.addi c0_i32_18 v23
  let v27 : BitVec 1 := Scalar.cmpi .slt v26 v2
  let c1_i32_19 : BitVec 32 := 1#32
  let c0_i32_20 : BitVec 32 := 0#32
  let v28 : BitVec 32 := Scalar.select v27 c1_i32_19 c0_i32_20
  let v29 : BitVec 32 := Scalar.addi v24 v28
  let v32 : BitVec 1 := Scalar.cmpi .slt v31 v2
  let c1_i32_21 : BitVec 32 := 1#32
  let c0_i32_22 : BitVec 32 := 0#32
  let v33 : BitVec 32 := Scalar.select v32 c1_i32_21 c0_i32_22
  let v34 : BitVec 32 := Scalar.addi v29 v33
  let v37 : BitVec 1 := Scalar.cmpi .slt v36 v2
  let c1_i32_23 : BitVec 32 := 1#32
  let c0_i32_24 : BitVec 32 := 0#32
  let v38 : BitVec 32 := Scalar.select v37 c1_i32_23 c0_i32_24
  let v39 : BitVec 32 := Scalar.addi v34 v38
  let v42 : BitVec 1 := Scalar.cmpi .slt v41 v2
  let c1_i32_25 : BitVec 32 := 1#32
  let c0_i32_26 : BitVec 32 := 0#32
  let v43 : BitVec 32 := Scalar.select v42 c1_i32_25 c0_i32_26
  let v44 : BitVec 32 := Scalar.addi v39 v43
  let v47 : BitVec 1 := Scalar.cmpi .slt v46 v2
  let c1_i32_27 : BitVec 32 := 1#32
  let c0_i32_28 : BitVec 32 := 0#32
  let v48 : BitVec 32 := Scalar.select v47 c1_i32_27 c0_i32_28
  let v49 : BitVec 32 := Scalar.addi v44 v48
  let v52 : BitVec 1 := Scalar.cmpi .slt v51 v2
  let c1_i32_29 : BitVec 32 := 1#32
  let c0_i32_30 : BitVec 32 := 0#32
  let v53 : BitVec 32 := Scalar.select v52 c1_i32_29 c0_i32_30
  let v54 : BitVec 32 := Scalar.addi v49 v53
  let v57 : BitVec 1 := Scalar.cmpi .slt v56 v2
  let c1_i32_31 : BitVec 32 := 1#32
  let c0_i32_32 : BitVec 32 := 0#32
  let v58 : BitVec 32 := Scalar.select v57 c1_i32_31 c0_i32_32
  let v59 : BitVec 32 := Scalar.addi v54 v58
  let v62 : BitVec 1 := Scalar.cmpi .slt v61 v2
  let c1_i32_33 : BitVec 32 := 1#32
  let c0_i32_34 : BitVec 32 := 0#32
  let v63 : BitVec 32 := Scalar.select v62 c1_i32_33 c0_i32_34
  let v64 : BitVec 32 := Scalar.addi v59 v63
  let v67 : BitVec 1 := Scalar.cmpi .slt v66 v2
  let c1_i32_35 : BitVec 32 := 1#32
  let c0_i32_36 : BitVec 32 := 0#32
  let v68 : BitVec 32 := Scalar.select v67 c1_i32_35 c0_i32_36
  let v69 : BitVec 32 := Scalar.addi v64 v68
  let v72 : BitVec 1 := Scalar.cmpi .slt v71 v2
  let c1_i32_37 : BitVec 32 := 1#32
  let c0_i32_38 : BitVec 32 := 0#32
  let v73 : BitVec 32 := Scalar.select v72 c1_i32_37 c0_i32_38
  let v74 : BitVec 32 := Scalar.addi v69 v73
  let v77 : BitVec 1 := Scalar.cmpi .slt v76 v2
  let c1_i32_39 : BitVec 32 := 1#32
  let c0_i32_40 : BitVec 32 := 0#32
  let v78 : BitVec 32 := Scalar.select v77 c1_i32_39 c0_i32_40
  let v79 : BitVec 32 := Scalar.addi v74 v78
  let v82 : BitVec 1 := Scalar.cmpi .slt v81 v2
  let c1_i32_41 : BitVec 32 := 1#32
  let c0_i32_42 : BitVec 32 := 0#32
  let v83 : BitVec 32 := Scalar.select v82 c1_i32_41 c0_i32_42
  let v84 : BitVec 32 := Scalar.addi v79 v83
  let v87 : BitVec 1 := Scalar.cmpi .slt v86 v2
  let c1_i32_43 : BitVec 32 := 1#32
  let c0_i32_44 : BitVec 32 := 0#32
  let v88 : BitVec 32 := Scalar.select v87 c1_i32_43 c0_i32_44
  let v89 : BitVec 32 := Scalar.addi v84 v88
  let v92 : BitVec 1 := Scalar.cmpi .slt v91 v2
  let c1_i32_45 : BitVec 32 := 1#32
  let c0_i32_46 : BitVec 32 := 0#32
  let v93 : BitVec 32 := Scalar.select v92 c1_i32_45 c0_i32_46
  let v94 : BitVec 32 := Scalar.addi v89 v93
  let v97 : BitVec 1 := Scalar.cmpi .slt v96 v2
  let c1_i32_47 : BitVec 32 := 1#32
  let c0_i32_48 : BitVec 32 := 0#32
  let v98 : BitVec 32 := Scalar.select v97 c1_i32_47 c0_i32_48
  let v99 : BitVec 32 := Scalar.addi v94 v98
  let v102 : BitVec 32 := Scalar.addi v101 v99
  let v103 : BitVec 32 := Scalar.select v100 c0_i32_51 v102
  let c0_i32_100 : BitVec 32 := 0#32
  let v197 : BitVec 1 := Scalar.cmpi .sgt v103 c0_i32_100
  let v198 : BitVec 32 := Scalar.extui v197
  let c0_i32_101 : BitVec 32 := 0#32
  let v199 : BitVec 1 := Scalar.cmpi .slt v103 c0_i32_101
  let v200 : BitVec 32 := Scalar.extui v199
  let v201 : BitVec 32 := Scalar.subi v198 v200
  let c8_i32_99 : BitVec 32 := 8#32
  let c0_i32_102 : BitVec 32 := 0#32
  let v202 : BitVec 1 := Scalar.cmpi .sgt c8_i32_99 c0_i32_102
  let v203 : BitVec 32 := Scalar.extui v202
  let c0_i32_103 : BitVec 32 := 0#32
  let v204 : BitVec 1 := Scalar.cmpi .slt c8_i32_99 c0_i32_103
  let v205 : BitVec 32 := Scalar.extui v204
  let v206 : BitVec 32 := Scalar.subi v203 v205
  let v207 : BitVec 1 := Scalar.cmpi .ne v201 v206
  let v208 : BitVec 32 := Scalar.remsi v103 c8_i32_99
  let c0_i32_104 : BitVec 32 := 0#32
  let v209 : BitVec 1 := Scalar.cmpi .ne v208 c0_i32_104
  let v210 : BitVec 1 := Scalar.andi v207 v209
  let v196 : BitVec 32 := Scalar.divsi v103 c8_i32_99
  let c1_i32_105 : BitVec 32 := 1#32
  let v211 : BitVec 32 := Scalar.subi v196 c1_i32_105
  let v212 : BitVec 32 := Scalar.select v210 v211 v196
  let c8_i32_106 : BitVec 32 := 8#32
  let v213 : BitVec 32 := Scalar.muli v212 c8_i32_106
  let v214 : BitVec 32 := Scalar.subi v195 v213
  let c192_i32 : BitVec 32 := 192#32
  let v215 : BitVec 32 := Scalar.addi v214 c192_i32
  let c1_i32_107 : BitVec 32 := 1#32
  let v216 : BitVec 32 := Scalar.subi v215 c1_i32_107
  let c0_i32_109 : BitVec 32 := 0#32
  let v218 : BitVec 1 := Scalar.cmpi .sgt v216 c0_i32_109
  let v219 : BitVec 32 := Scalar.extui v218
  let c0_i32_110 : BitVec 32 := 0#32
  let v220 : BitVec 1 := Scalar.cmpi .slt v216 c0_i32_110
  let v221 : BitVec 32 := Scalar.extui v220
  let v222 : BitVec 32 := Scalar.subi v219 v221
  let c192_i32_108 : BitVec 32 := 192#32
  let c0_i32_111 : BitVec 32 := 0#32
  let v223 : BitVec 1 := Scalar.cmpi .sgt c192_i32_108 c0_i32_111
  let v224 : BitVec 32 := Scalar.extui v223
  let c0_i32_112 : BitVec 32 := 0#32
  let v225 : BitVec 1 := Scalar.cmpi .slt c192_i32_108 c0_i32_112
  let v226 : BitVec 32 := Scalar.extui v225
  let v227 : BitVec 32 := Scalar.subi v224 v226
  let v228 : BitVec 1 := Scalar.cmpi .ne v222 v227
  let v229 : BitVec 32 := Scalar.remsi v216 c192_i32_108
  let c0_i32_113 : BitVec 32 := 0#32
  let v230 : BitVec 1 := Scalar.cmpi .ne v229 c0_i32_113
  let v231 : BitVec 1 := Scalar.andi v228 v230
  let v217 : BitVec 32 := Scalar.divsi v216 c192_i32_108
  let c1_i32_114 : BitVec 32 := 1#32
  let v232 : BitVec 32 := Scalar.subi v217 c1_i32_114
  let v233 : BitVec 32 := Scalar.select v231 v232 v217
  let c1_i32_117 : BitVec 32 := 1#32
  let v237 : BitVec 32 := Scalar.addi v233 c1_i32_117
  let c0_i32_118 : BitVec 32 := 0#32
  let v239 : BitVec 1 := Scalar.cmpi .sgt v237 c0_i32_118
  let v240 : BitVec 32 := Scalar.extui v239
  let c0_i32_119 : BitVec 32 := 0#32
  let v241 : BitVec 1 := Scalar.cmpi .slt v237 c0_i32_119
  let v242 : BitVec 32 := Scalar.extui v241
  let v243 : BitVec 32 := Scalar.subi v240 v242
  let c2_i32 : BitVec 32 := 2#32
  let c0_i32_120 : BitVec 32 := 0#32
  let v244 : BitVec 1 := Scalar.cmpi .sgt c2_i32 c0_i32_120
  let v245 : BitVec 32 := Scalar.extui v244
  let c0_i32_121 : BitVec 32 := 0#32
  let v246 : BitVec 1 := Scalar.cmpi .slt c2_i32 c0_i32_121
  let v247 : BitVec 32 := Scalar.extui v246
  let v248 : BitVec 32 := Scalar.subi v245 v247
  let v249 : BitVec 1 := Scalar.cmpi .ne v243 v248
  let v250 : BitVec 32 := Scalar.remsi v237 c2_i32
  let c0_i32_122 : BitVec 32 := 0#32
  let v251 : BitVec 1 := Scalar.cmpi .ne v250 c0_i32_122
  let v252 : BitVec 1 := Scalar.andi v249 v251
  let v238 : BitVec 32 := Scalar.divsi v237 c2_i32
  let c1_i32_123 : BitVec 32 := 1#32
  let v253 : BitVec 32 := Scalar.subi v238 c1_i32_123
  let v254 : BitVec 32 := Scalar.select v252 v253 v238
  let v256 : BitVec 32 := Scalar.subi v254 c0_i32_125
  let c1_i32_126 : BitVec 32 := 1#32
  let v258 : BitVec 32 := Scalar.divsi v256 c1_i32_126
  let v259 : BitVec 32 := Scalar.muli v258 c1_i32_126
  let v260 : BitVec 32 := Scalar.addi c0_i32_125 v259
  let c1_i32_128 : BitVec 32 := 1#32
  let arg19 : BitVec 32 := Scf.iv v260 c1_i32_128 k0_t24
  let v281 : BitVec 32 := Scalar.muli c2_i32_130 arg19
  let c1_i32_198 : BitVec 32 := 1#32
  let v423 : BitVec 32 := Scalar.addi v281 c1_i32_198
  let v439 : BitVec 1 := Scalar.cmpi .slt v423 v233
  let c1_i32_204 : BitVec 32 := 1#32
  let v440 : BitVec 32 := Scalar.addi v437 c1_i32_204
  let c32_i32_205 : BitVec 32 := 32#32
  let v441 : BitVec 32 := Scalar.addi v2 c32_i32_205
  let v442 : BitVec 32 := Scalar.minsi v440 v441
  let v443 : BitVec 32 := Scalar.maxsi v442 v438
  let v444 : BitVec 32 := Scalar.select v439 v443 v438
  let v537 : BitVec 32 := Scalar.subi v444 v438
  let c1_i32_251 : BitVec 32 := 1#32
  let v539 : BitVec 32 := Scalar.divsi v537 c1_i32_251
  let v540 : BitVec 32 := Scalar.muli v539 c1_i32_251
  let v541 : BitVec 32 := Scalar.addi v438 v540
  let c1_i32_253 : BitVec 32 := 1#32
  let arg36 : BitVec 32 := Scf.iv v541 c1_i32_253 k0_t39
  let v637 : BitVec 32 := Scalar.subi arg36 v2
  let v762 : Index := Scalar.indexCast v637
  let c0_321 : Index := 0#32
  ![v762.toNat, 0]

def k0_chk35_0 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  ((k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).OK) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off449 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off450 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off451 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off452 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off453 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off454 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off455 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off456 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off457 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off458 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off459 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off460 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off461 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off462 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off463 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off464 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off497 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off498 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off499 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off500 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off501 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off502 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off503 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off504 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off505 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off506 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off507 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off508 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off509 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off510 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off511 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a)
def k0_chk35_1 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off512 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a) ∧
  (∀ k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off513 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x16.size a) ∧
  ((k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).OK) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off516 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off517 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off518 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off519 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off520 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off521 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off522 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off523 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off524 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off525 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off526 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off527 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off528 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off529 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off530 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off531 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off564 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off565 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off566 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off567 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off568 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off569 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off570 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off571 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off572 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off573 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off574 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off575 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off576 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a)
def k0_chk35_2 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off577 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off578 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off579 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a) ∧
  (∀ k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips, ∀ a, (k0_off580 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x16.size a)
def k0_chk35 (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) : Prop :=
  k0_chk35_0 i v14_0 v21 v26 v31 v36 v41 v46 v51 v56 v61 v66 v71 v76 v81 v86 v91 v96 v106_0 v113 v118 v123 v128 v133 v138 v143 v148 v153 v158 v163 v168 v173 v178 v183 v188 k0_t24 v433 v437 ∧
  k0_chk35_1 i v14_0 v21 v26 v31 v36 v41 v46 v51 v56 v61 v66 v71 v76 v81 v86 v91 v96 v106_0 v113 v118 v123 v128 v133 v138 v143 v148 v153 v158 v163 v168 v173 v178 v183 v188 k0_t24 v433 v437 ∧
  k0_chk35_2 i v14_0 v21 v26 v31 v36 v41 v46 v51 v56 v61 v66 v71 v76 v81 v86 v91 v96 v106_0 v113 v118 v123 v128 v133 v138 v143 v148 v153 v158 v163 v168 v173 v178 v183 v188 k0_t24 v433 v437
theorem k0_t35_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437), (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).OK := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 => k0_hw35.1.1
theorem k0_off449_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off449 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.1 k0_t35
theorem k0_off450_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off450 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.1 k0_t35
theorem k0_off451_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off451 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.1 k0_t35
theorem k0_off452_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off452 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.1 k0_t35
theorem k0_off453_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off453 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.1 k0_t35
theorem k0_off454_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off454 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.1 k0_t35
theorem k0_off455_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off455 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.1 k0_t35
theorem k0_off456_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off456 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.1 k0_t35
theorem k0_off457_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off457 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.1 k0_t35
theorem k0_off458_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off458 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.1 k0_t35
theorem k0_off459_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off459 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.1 k0_t35
theorem k0_off460_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off460 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.1 k0_t35
theorem k0_off461_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off461 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.1 k0_t35
theorem k0_off462_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off462 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.1 k0_t35
theorem k0_off463_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off463 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.1 k0_t35
theorem k0_off464_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off464 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.1 k0_t35
theorem k0_off497_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off497 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.1 k0_t35
theorem k0_off498_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off498 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.1 k0_t35
theorem k0_off499_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off499 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.1 k0_t35
theorem k0_off500_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off500 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.1 k0_t35
theorem k0_off501_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off501 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.1 k0_t35
theorem k0_off502_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off502 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.1 k0_t35
theorem k0_off503_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off503 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.1 k0_t35
theorem k0_off504_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off504 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.1 k0_t35
theorem k0_off505_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off505 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.1 k0_t35
theorem k0_off506_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off506 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.2.1 k0_t35
theorem k0_off507_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off507 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.2.2.1 k0_t35
theorem k0_off508_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off508 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.2.2.2.1 k0_t35
theorem k0_off509_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off509 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.2.2.2.2.1 k0_t35
theorem k0_off510_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off510 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.2.2.2.2.2.1 k0_t35
theorem k0_off511_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off511 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.1.2.2.2.2.2.2.2.2.2.2.2.2.2.2.2.2.2.2.2.2.2.2.2.2.2.2.2.2.2.2.2 k0_t35
theorem k0_off512_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off512 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.2.1.1 k0_t35
theorem k0_off513_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t35 : Fin (k0_t35_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off513 i v14_0 v21 v26 v31 v36 v41 v46 v51 v56 v61 v66 v71 v76 v81 v86 v91 v96 v106_0 v113 v118 v123 v128 v133 v138 v143 v148 v153 v158 v163 v168 v173 v178 v183 v188 k0_t24 v433 v437 k0_t35) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t35 => k0_hw35.2.1.2.1 k0_t35
theorem k0_t39_ok : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437), (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).OK := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 => k0_hw35.2.1.2.2.1
theorem k0_off516_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off516 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.1 k0_t39
theorem k0_off517_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off517 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.1 k0_t39
theorem k0_off518_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off518 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.1 k0_t39
theorem k0_off519_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off519 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.1 k0_t39
theorem k0_off520_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off520 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.1 k0_t39
theorem k0_off521_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off521 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.1 k0_t39
theorem k0_off522_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off522 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.1 k0_t39
theorem k0_off523_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off523 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.1 k0_t39
theorem k0_off524_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off524 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.1 k0_t39
theorem k0_off525_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off525 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.1 k0_t39
theorem k0_off526_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off526 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.1 k0_t39
theorem k0_off527_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off527 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.1 k0_t39
theorem k0_off528_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off528 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.1 k0_t39
theorem k0_off529_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off529 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.1 k0_t39
theorem k0_off530_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off530 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.1 k0_t39
theorem k0_off531_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off531 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.1 k0_t39
theorem k0_off564_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off564 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.1 k0_t39
theorem k0_off565_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off565 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.1 k0_t39
theorem k0_off566_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off566 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.1 k0_t39
theorem k0_off567_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off567 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.1 k0_t39
theorem k0_off568_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off568 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.1 k0_t39
theorem k0_off569_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off569 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.1 k0_t39
theorem k0_off570_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off570 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.1 k0_t39
theorem k0_off571_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off571 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.2.1 k0_t39
theorem k0_off572_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off572 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.2.2.1 k0_t39
theorem k0_off573_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off573 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.2.2.2.1 k0_t39
theorem k0_off574_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off574 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.2.2.2.2.1 k0_t39
theorem k0_off575_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off575 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.2.2.2.2.2.1 k0_t39
theorem k0_off576_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off576 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.1.2.2.2.2.2.2.2.2.2.2.2.2.2.2.2.2.2.2.2.2.2.2.2.2.2.2.2.2.2.2.2 k0_t39
theorem k0_off577_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off577 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.2.1 k0_t39
theorem k0_off578_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off578 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.2.2.1 k0_t39
theorem k0_off579_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off579 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x256.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.2.2.2.1 k0_t39
theorem k0_off580_inb : ∀ (i : grid0.Coords) (v14_0 : BitVec 32) (v21 : BitVec 32) (v26 : BitVec 32) (v31 : BitVec 32) (v36 : BitVec 32) (v41 : BitVec 32) (v46 : BitVec 32) (v51 : BitVec 32) (v56 : BitVec 32) (v61 : BitVec 32) (v66 : BitVec 32) (v71 : BitVec 32) (v76 : BitVec 32) (v81 : BitVec 32) (v86 : BitVec 32) (v91 : BitVec 32) (v96 : BitVec 32) (v106_0 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (v188 : BitVec 32) (k0_t24 : Fin (k0_t24_loop i v14_0 v21 v26 v31 v36 v41 v46 v51 v56 v61 v66 v71 v76 v81 v86 v91 v96 v106_0 v113 v118 v123 v128 v133 v138 v143 v148 v153 v158 v163 v168 v173 v178 v183 v188).trips) (v433 : BitVec 32) (v437 : BitVec 32) (k0_hw35 : k0_chk35 i v14_0 v21 v26 v31 v36 v41 v46 v51 v56 v61 v66 v71 v76 v81 v86 v91 v96 v106_0 v113 v118 v123 v128 v133 v138 v143 v148 v153 v158 v163 v168 v173 v178 v183 v188 k0_t24 v433 v437) (k0_t39 : Fin (k0_t39_loop i v14_0 v21 v26 v31 v36 v41 v46 v51 v56 v61 v66 v71 v76 v81 v86 v91 v96 v106_0 v113 v118 v123 v128 v133 v138 v143 v148 v153 v158 v163 v168 v173 v178 v183 v188 k0_t24 v433 v437).trips), ∀ a, (k0_off580 i v14_0 v21 v26 v31 v36 v41 v46 v51 v56 v61 v66 v71 v76 v81 v86 v91 v96 v106_0 v113 v118 v123 v128 v133 v138 v143 v148 v153 v158 v163 v168 v173 v178 v183 v188 k0_t24 v433 v437 k0_t39) a + S1x16.size a ≤ S33x16.size a := fun i v14_0 v21 v26 v31 v36 v41 v46 v51 v56 v61 v66 v71 v76 v81 v86 v91 v96 v106_0 v113 v118 v123 v128 v133 v138 v143 v148 v153 v158 v163 v168 v173 v178 v183 v188 k0_t24 v433 v437 k0_hw35 k0_t39 => k0_hw35.2.2.2.2.2 k0_t39

def k0_off581 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_132_r11 : BitVec 32 := 0#32
  ![v2.toNat, 0]
def k0_off582 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_132_r12 : BitVec 32 := 0#32
  ![v2.toNat, 0]
def k0_off583 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_130_r13 : BitVec 32 := 0#32
  ![v1.toNat, 0]
abbrev grid1 : Pipeline.Grid := .none

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S160000x256 : Shape := ⟨2, ![160000, 256]⟩
abbrev S160000 : Shape := ⟨1, ![160000]⟩
abbrev S_ : Shape := ⟨0, ![]⟩
abbrev S1000 : Shape := ⟨1, ![1000]⟩
abbrev S160000x1 : Shape := ⟨2, ![160000, 1]⟩
abbrev S1000x256 : Shape := ⟨2, ![1000, 256]⟩
abbrev S1000x1 : Shape := ⟨2, ![1000, 1]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1000x1x256 : Shape := ⟨3, ![1000, 1, 256]⟩

abbrev nBuf : Space → Nat
  | .hbm => 62
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S_, .f32⟩
  | .hbm, ⟨3, _⟩ => ⟨S160000, .f32⟩
  | .hbm, ⟨4, _⟩ => ⟨S_, .f32⟩
  | .hbm, ⟨5, _⟩ => ⟨S1000, .f32⟩
  | .hbm, ⟨6, _⟩ => ⟨S160000x1, .i32⟩
  | .hbm, ⟨7, _⟩ => ⟨S1000, .f32⟩
  | .hbm, ⟨8, _⟩ => ⟨S_, .f32⟩
  | .hbm, ⟨9, _⟩ => ⟨S1000x256, .f32⟩
  | .hbm, ⟨10, _⟩ => ⟨S160000x1, .i32⟩
  | .hbm, ⟨11, _⟩ => ⟨S1000x256, .f32⟩
  | .hbm, ⟨12, _⟩ => ⟨S_, .f32⟩
  | .hbm, ⟨13, _⟩ => ⟨S1000, .f32⟩
  | .hbm, ⟨14, _⟩ => ⟨S1000, .f32⟩
  | .hbm, ⟨15, _⟩ => ⟨S1000x1, .f32⟩
  | .hbm, ⟨16, _⟩ => ⟨S1000x256, .f32⟩
  | .hbm, ⟨17, _⟩ => ⟨S1000x256, .f32⟩
  | .hbm, ⟨18, _⟩ => ⟨S_, .f32⟩
  | .hbm, ⟨19, _⟩ => ⟨S256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S_, .i32⟩
  | .hbm, ⟨25, _⟩ => ⟨S160000, .i32⟩
  | .hbm, ⟨26, _⟩ => ⟨S160000, .i1⟩
  | .hbm, ⟨27, _⟩ => ⟨S_, .i32⟩
  | .hbm, ⟨28, _⟩ => ⟨S160000, .i32⟩
  | .hbm, ⟨29, _⟩ => ⟨S160000, .i32⟩
  | .hbm, ⟨30, _⟩ => ⟨S160000, .i32⟩
  | .hbm, ⟨31, _⟩ => ⟨S160000x1, .i32⟩
  | .hbm, ⟨32, _⟩ => ⟨S1, .i32⟩
  | .hbm, ⟨33, _⟩ => ⟨S_, .i32⟩
  | .hbm, ⟨34, _⟩ => ⟨S160000x1, .i32⟩
  | .hbm, ⟨35, _⟩ => ⟨S160000x1, .i1⟩
  | .hbm, ⟨36, _⟩ => ⟨S1x1, .i32⟩
  | .hbm, ⟨37, _⟩ => ⟨S160000x1, .i32⟩
  | .hbm, ⟨38, _⟩ => ⟨S160000x1, .i1⟩
  | .hbm, ⟨39, _⟩ => ⟨S160000x1, .i1⟩
  | .hbm, ⟨40, _⟩ => ⟨S_, .i1⟩
  | .hbm, ⟨41, _⟩ => ⟨S160000, .i1⟩
  | .hbm, ⟨42, _⟩ => ⟨S160000x256, .f32⟩
  | .hbm, ⟨43, _⟩ => ⟨S160000x256, .i1⟩
  | .hbm, ⟨44, _⟩ => ⟨S_, .f32⟩
  | .hbm, ⟨45, _⟩ => ⟨S160000x256, .f32⟩
  | .hbm, ⟨46, _⟩ => ⟨S160000x256, .f32⟩
  | .hbm, ⟨47, _⟩ => ⟨S160000x256, .f32⟩
  | .hbm, ⟨48, _⟩ => ⟨S160000x256, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1000x256, .f32⟩
  | .hbm, ⟨53, _⟩ => ⟨S1000x256, .f32⟩
  | .hbm, ⟨54, _⟩ => ⟨S1000x256, .f32⟩
  | .hbm, ⟨55, _⟩ => ⟨S_, .f32⟩
  | .hbm, ⟨56, _⟩ => ⟨S1000, .f32⟩
  | .hbm, ⟨57, _⟩ => ⟨S1000, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S1000x1x256, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_6 : Ref sig .tc := ⟨.hbm, 55, rfl⟩
abbrev main_v24 : Ref sig .tc := ⟨.hbm, 56, rfl⟩
abbrev main_v25 : Ref sig .tc := ⟨.hbm, 57, rfl⟩
abbrev main_cst_7 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩

abbrev nD : Nat := 1
abbrev τ : Topo := Topo.v7x

variable {F : FTy → Type} [FloatOps F]
-- ==== Proof.Clean.lean ====
module

public import proofs.«01_k».proof.Proof.Gen.KernelIdeal.Skeleton

@[expose] public section

noncomputable section

namespace Cert.KernelIdeal.Tile

open Idealize.ShloMosaic Idealize.SL.Sem Cert.KernelIdeal.Gen

variable {F : FTy → Type} [FloatOps F]

/-- The processor of a tile. -/
abbrev tile (i : grid0.Coords) : Proc τ := .scVector ((i 0).castLE hcore0) ((i 1).castLE hsub0)

/-- A program of a tile. -/
abbrev TP (F : FTy → Type) (i : grid0.Coords) (α : Type) : Type 1 := Prog (TpuEff nD τ sig (Elt F) Λ₀ (tile i)) α

/-- The sixteen blocks of a row. -/
abbrev cols : List Nat := [0, 1, 2, 3, 4, 5, 6, 7, 8, 9, 10, 11, 12, 13, 14, 15]

/-- `v` with `x` in place `j`. -/
def put {A : Type} (v : Nat → A) (j : Nat) (x : A) : Nat → A := fun n => bif n.beq j then x else v n

/-- The `j`-th block of sixteen words of row `r` of a table of 256 columns lies in it. -/
abbrev BlockIn (s : Fin 2 → Nat) (r j : Nat) : Prop := ∀ a : Fin 2, (![r, 16 * j] : Fin 2 → Nat) a + S1x16.size a ≤ (⟨2, s⟩ : Shape).size a

/-- Loads the blocks `js` of the row `r` of `m`, one after the other. -/
def loadCols {d : Fin 2 → Nat} {i : grid0.Coords} {α : Type} (m : Memref sig .scVector .vmem ⟨2, d⟩ .f32) (r : Nat)
    (h : ∀ j ∈ cols, BlockIn d r j) : (js : List Nat) → (hjs : js ⊆ cols) → (Nat → Vec F S1x16 .f32) → ((Nat → Vec F S1x16 .f32) → TP F i α) → TP F i α
  | [], _, v, k => k v
  | j :: js, hjs, v, k =>
    .op (.load m (Rect.unit (s := ⟨2, d⟩) ![r, 16 * j] S1x16.size (h j (hjs (.head _)))).toLoadRect (View.loadsAt_vmem h_S1x16))
      fun x => loadCols m r h js (fun _ hj => hjs (.tail _ hj)) (put v j x) k

/-- Sixteen vectors and sixteen vectors, as a loop carries them. -/
abbrev T32 (F : FTy → Type) : Type :=
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32

/-- The vectors `s` and `q`, as a loop carries them. -/
abbrev tup32 (s q : Nat → FVec F S16 .f32) : T32 F :=
  (s 0, s 1, s 2, s 3, s 4, s 5, s 6, s 7, s 8, s 9, s 10, s 11, s 12, s 13, s 14, s 15,
   q 0, q 1, q 2, q 3, q 4, q 5, q 6, q 7, q 8, q 9, q 10, q 11, q 12, q 13, q 14, q 15)

/-- The vector of a block. -/
abbrev flat (x : Vec F S1x16 .f32) : FVec F S16 .f32 := shapeCast S16 x shapeCasts_S1x16_S16

/-- What the row loop does of one row: it adds the row's blocks, and their squares. -/
def rowStep {i : grid0.Coords} (m : Memref sig .scVector .vmem S192x256 .f32) (r : Nat) (h : ∀ j ∈ cols, BlockIn ![192, 256] r j)
    (s q : Nat → FVec F S16 .f32) : TP F i (T32 F) :=
  loadCols m r h cols (fun _ hj => hj) (fun _ _ => Scalar.sitofp .f32 0#32) fun v =>
    pure (tup32 (fun j => addf (s j) (flat (v j))) (fun j => addf (q j) (mulf (flat (v j)) (flat (v j)))))

/-- Lane `n` of a vector of sixteen words. -/
def lane (x : Vec F S16 .i32) : Nat → BitVec 32
  | 0 => extractAt ![0] (extractStridedSlice S1 ![0] (shapeCast S16 x shapeCasts_S16_S16) slices_S16_o0_S1) inpos_S1_p0
  | 1 => extractAt ![0] (extractStridedSlice S1 ![1] (shapeCast S16 x shapeCasts_S16_S16) slices_S16_o1_S1) inpos_S1_p0
  | 2 => extractAt ![0] (extractStridedSlice S1 ![2] (shapeCast S16 x shapeCasts_S16_S16) slices_S16_o2_S1) inpos_S1_p0
  | 3 => extractAt ![0] (extractStridedSlice S1 ![3] (shapeCast S16 x shapeCasts_S16_S16) slices_S16_o3_S1) inpos_S1_p0
  | 4 => extractAt ![0] (extractStridedSlice S1 ![4] (shapeCast S16 x shapeCasts_S16_S16) slices_S16_o4_S1) inpos_S1_p0
  | 5 => extractAt ![0] (extractStridedSlice S1 ![5] (shapeCast S16 x shapeCasts_S16_S16) slices_S16_o5_S1) inpos_S1_p0
  | 6 => extractAt ![0] (extractStridedSlice S1 ![6] (shapeCast S16 x shapeCasts_S16_S16) slices_S16_o6_S1) inpos_S1_p0
  | 7 => extractAt ![0] (extractStridedSlice S1 ![7] (shapeCast S16 x shapeCasts_S16_S16) slices_S16_o7_S1) inpos_S1_p0
  | 8 => extractAt ![0] (extractStridedSlice S1 ![8] (shapeCast S16 x shapeCasts_S16_S16) slices_S16_o8_S1) inpos_S1_p0
  | 9 => extractAt ![0] (extractStridedSlice S1 ![9] (shapeCast S16 x shapeCasts_S16_S16) slices_S16_o9_S1) inpos_S1_p0
  | 10 => extractAt ![0] (extractStridedSlice S1 ![10] (shapeCast S16 x shapeCasts_S16_S16) slices_S16_o10_S1) inpos_S1_p0
  | 11 => extractAt ![0] (extractStridedSlice S1 ![11] (shapeCast S16 x shapeCasts_S16_S16) slices_S16_o11_S1) inpos_S1_p0
  | 12 => extractAt ![0] (extractStridedSlice S1 ![12] (shapeCast S16 x shapeCasts_S16_S16) slices_S16_o12_S1) inpos_S1_p0
  | 13 => extractAt ![0] (extractStridedSlice S1 ![13] (shapeCast S16 x shapeCasts_S16_S16) slices_S16_o13_S1) inpos_S1_p0
  | 14 => extractAt ![0] (extractStridedSlice S1 ![14] (shapeCast S16 x shapeCasts_S16_S16) slices_S16_o14_S1) inpos_S1_p0
  | 15 => extractAt ![0] (extractStridedSlice S1 ![15] (shapeCast S16 x shapeCasts_S16_S16) slices_S16_o15_S1) inpos_S1_p0
  | _ => 0#32

/-- How many of the sixteen words `l` are below `w`. -/
def count (l : Nat → BitVec 32) (w : BitVec 32) : BitVec 32 :=
  cols.foldl (fun a n => Scalar.addi a (Scalar.select (Scalar.cmpi .slt (l n) w) 1#32 0#32)) 0#32

/-- The quotient by `d`, rounded down, as the kernel computes it. -/
def fdiv (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- One step of a search for the first block whose first word is at least `w`: `x` is the first word of the block `mid` looked at. -/
def narrow (mid x w : BitVec 32) (r : BitVec 32 × BitVec 32) : BitVec 32 × BitVec 32 :=
  let p := Scalar.cmpi .sge x w
  let o := Scalar.cmpi .slt r.1 r.2
  (Scalar.select (Scalar.andi o (Scalar.xori p 1#1)) (Scalar.addi mid 1#32) r.1, Scalar.select (Scalar.andi o p) mid r.2)

/-- The block a search looks at. -/
def middle (cap : BitVec 32) (r : BitVec 32 × BitVec 32) : BitVec 32 := Scalar.minsi (fdiv (Scalar.addi r.1 r.2) 2#32) cap

/-- The place a search that ended at block `b` names: words of the block before `b` below `w`, behind the blocks of `k` words before it. -/
def placeOf (k b : BitVec 32) (l : Nat → BitVec 32) (w : BitVec 32) : BitVec 32 :=
  Scalar.select (Scalar.cmpi .eq b 0#32) 0#32 (Scalar.addi (Scalar.muli (Scalar.maxsi (Scalar.subi b 1#32) 0#32) k) (count l w))

/-- The first vectors of a tuple of thirty-two. -/
def sOf (a : T32 F) : Nat → FVec F S16 .f32
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2.1
  | 8 => a.2.2.2.2.2.2.2.2.1
  | 9 => a.2.2.2.2.2.2.2.2.2.1
  | 10 => a.2.2.2.2.2.2.2.2.2.2.1
  | 11 => a.2.2.2.2.2.2.2.2.2.2.2.1
  | 12 => a.2.2.2.2.2.2.2.2.2.2.2.2.1
  | 13 => a.2.2.2.2.2.2.2.2.2.2.2.2.2.1
  | 14 => a.2.2.2.2.2.2.2.2.2.2.2.2.2.2.1
  | _ => a.2.2.2.2.2.2.2.2.2.2.2.2.2.2.2.1

/-- Sixteen vectors, as a loop carries them. -/
abbrev T16 (F : FTy → Type) : Type :=
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32

/-- The vectors `q`, as a loop carries them. -/
abbrev tup16 (q : Nat → FVec F S16 .f32) : T16 F :=
  (q 0, q 1, q 2, q 3, q 4, q 5, q 6, q 7, q 8, q 9, q 10, q 11, q 12, q 13, q 14, q 15)

/-- The vectors of a tuple of sixteen. -/
def vOf (a : T16 F) : Nat → FVec F S16 .f32
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2.1
  | 8 => a.2.2.2.2.2.2.2.2.1
  | 9 => a.2.2.2.2.2.2.2.2.2.1
  | 10 => a.2.2.2.2.2.2.2.2.2.2.1
  | 11 => a.2.2.2.2.2.2.2.2.2.2.2.1
  | 12 => a.2.2.2.2.2.2.2.2.2.2.2.2.1
  | 13 => a.2.2.2.2.2.2.2.2.2.2.2.2.2.1
  | 14 => a.2.2.2.2.2.2.2.2.2.2.2.2.2.2.1
  | _ => a.2.2.2.2.2.2.2.2.2.2.2.2.2.2.2

/-- The last vectors of a tuple of thirty-two. -/
def qOf (a : T32 F) : Nat → FVec F S16 .f32 := vOf a.2.2.2.2.2.2.2.2.2.2.2.2.2.2.2.2

/-- Stores the blocks `w` into the row `r` of `m`, each after a load whose answer is dropped. -/
def storeCols {d : Fin 2 → Nat} {i : grid0.Coords} {α : Type} (m : Memref sig .scVector .vmem ⟨2, d⟩ .f32) (r : Nat)
    (h : ∀ j ∈ cols, BlockIn d r j) (w : Nat → FVec F S16 .f32) : (js : List Nat) → (hjs : js ⊆ cols) → TP F i α → TP F i α
  | [], _, k => k
  | j :: js, hjs, k =>
    .op (.load m (Rect.unit (s := ⟨2, d⟩) ![r, 16 * j] S1x16.size (h j (hjs (.head _)))).toLoadRect (View.loadsAt_vmem h_S1x16))
      fun _ => .op (.store m (Rect.unit (s := ⟨2, d⟩) ![r, 16 * j] S1x16.size (h j (hjs (.head _))))
          (shapeCast S1x16 (w j) shapeCasts_S16_S1x16) Finset.univ (View.stores_vmem_bits_univ h_S1x16 rfl) (.inl rfl))
        fun _ => storeCols m r h w js (fun _ hj => hjs (.tail _ hj)) k

/-- A search among the 192 labels of a chunk for the first block of sixteen whose first label is at least `w`. -/
def chunkStep {i : grid0.Coords} (m : Memref sig .scVector .vmem S192 .i32) (w : BitVec 32) (r : BitVec 32 × BitVec 32) :
    TP F i (BitVec 32 × BitVec 32) :=
  .op (.assume (k0_chk6 r.1 r.2)) fun h =>
    .op (.load m (Rect.unit (s := S192) (k0_off28 r.1 r.2) S16.size h.down).toLoadRect (View.loadsAt_vmem h_S16)) fun x =>
      pure (narrow (middle 11#32 r) (lane x 0) w r)

/-- The chunk's labels below `w`, found by the search and the block before the one it names. -/
def chunkFind {i : grid0.Coords} {α : Type} (m : Memref sig .scVector .vmem S192 .i32) (w : BitVec 32)
    (k : BitVec 32 → Vec F S16 .i32 → TP F i α) : TP F i α :=
  (Scf.Loop.for k0_t6_loop k0_t6_ok (0#32, 12#32) fun _ r => chunkStep m w r) >>= fun r =>
    .op (.assume (k0_chk7 r.1)) fun h =>
      .op (.load m (Rect.unit (s := S192) (k0_off29 r.1) S16.size h.down).toLoadRect (View.loadsAt_vmem h_S16)) fun x => k r.1 x

/-- A run of `lo ≤ t < hi` as the kernel bounds it. -/
abbrev run (lo hi : BitVec 32) : Scf.Loop 32 := ⟨lo, Scalar.addi lo (Scalar.muli (Scalar.divsi (Scalar.subi hi lo) 1#32) 1#32), 1#32⟩

/-- What the class loop does of the class `c`: it finds the class's rows in the chunk, adds them to the class's row of the
    table of sums, their squares to the vectors carried, and their number to the class's row of the table of numbers. -/
def classStep {i : grid0.Coords} (rows : Memref sig .scVector .vmem S192x256 .f32) (labs : Memref sig .scVector .vmem S192 .i32)
    (sums : Memref sig .scVector .vmem S33x256 .f32) (nums : Memref sig .scVector .vmem S33x16 .f32)
    (v2 rel c : BitVec 32) (prev : BitVec 32) (q : Nat → FVec F S16 .f32)
    (C : BitVec 32 → (Nat → BitVec 32) → Prop) [dC : ∀ b l, Decidable (C b l)]
    (hrun : ∀ b l, C b l → (run (Scalar.maxsi prev rel) (Scalar.maxsi (placeOf 16#32 b l (Scalar.addi c 1#32)) (Scalar.maxsi prev rel))).OK)
    (hrow : ∀ b l, C b l → ∀ t : Fin (run (Scalar.maxsi prev rel) (Scalar.maxsi (placeOf 16#32 b l (Scalar.addi c 1#32)) (Scalar.maxsi prev rel))).trips,
      ∀ j ∈ cols, BlockIn ![192, 256] (Scf.iv (Scalar.maxsi prev rel) 1#32 t).toNat j)
    (hsum : ∀ j ∈ cols, BlockIn ![33, 256] (Scalar.subi c v2).toNat j) (hnum : BlockIn ![33, 16] (Scalar.subi c v2).toNat 0) :
    TP F i (BitVec 32 × T16 F) :=
  chunkFind labs (Scalar.addi c 1#32) fun b x =>
    .op (.assume (C b (lane x)) (dC b (lane x))) fun hw =>
      loadCols sums (Scalar.subi c v2).toNat hsum cols (fun _ hj => hj) (fun _ _ => Scalar.sitofp .f32 0#32) fun v =>
        (Scf.Loop.for (run (Scalar.maxsi prev rel) (Scalar.maxsi (placeOf 16#32 b (lane x) (Scalar.addi c 1#32)) (Scalar.maxsi prev rel))) (hrun b _ hw.down)
          (tup32 (fun j => flat (v j)) q) fun t a => rowStep rows (Scf.iv (Scalar.maxsi prev rel) 1#32 t).toNat (hrow b _ hw.down t) (sOf a) (qOf a)) >>= fun a =>
        storeCols sums (Scalar.subi c v2).toNat hsum (sOf a) cols (fun _ hj => hj) <|
        .op (.load nums (Rect.unit (s := S33x16) ![(Scalar.subi c v2).toNat, 16 * 0] S1x16.size hnum).toLoadRect (View.loadsAt_vmem h_S1x16)) fun n =>
        .op (.load nums (Rect.unit (s := S33x16) ![(Scalar.subi c v2).toNat, 16 * 0] S1x16.size hnum).toLoadRect (View.loadsAt_vmem h_S1x16)) fun _ =>
        .op (.store nums (Rect.unit (s := S33x16) ![(Scalar.subi c v2).toNat, 16 * 0] S1x16.size hnum)
            (k0_pay606 (Scalar.maxsi prev rel) (Scalar.maxsi (placeOf 16#32 b (lane x) (Scalar.addi c 1#32)) (Scalar.maxsi prev rel)) n)
            Finset.univ (View.stores_vmem_bits_univ h_S1x16 rfl) (.inl rfl)) fun _ =>
        pure (placeOf 16#32 b (lane x) (Scalar.addi c 1#32), tup16 (qOf a))

/-- The first class of a tile. -/
abbrev cls (i : grid0.Coords) : BitVec 32 := Scalar.muli (Scalar.addi (Scalar.muli (BitVec.ofNat 32 (i 0).val) 16#32) (BitVec.ofNat 32 (i 1).val)) 32#32

/-- The words `v0`, …, `v15` by number. -/
def vec16 (v0 v1 v2 v3 v4 v5 v6 v7 v8 v9 v10 v11 v12 v13 v14 v15 : BitVec 32) : Nat → BitVec 32
  | 0 => v0 | 1 => v1 | 2 => v2 | 3 => v3 | 4 => v4 | 5 => v5 | 6 => v6 | 7 => v7
  | 8 => v8 | 9 => v9 | 10 => v10 | 11 => v11 | 12 => v12 | 13 => v13 | 14 => v14 | 15 => v15 | _ => 0#32

/-- Where the first chunk of a tile starts, from its first row. -/
def start (lo : BitVec 32) : BitVec 32 := Scalar.muli (fdiv lo 8#32) 8#32
/-- The number of chunks of a tile, from its first and last row. -/
def chunks (lo hi : BitVec 32) : BitVec 32 := fdiv (Scalar.subi (Scalar.addi (Scalar.subi hi (start lo)) 192#32) 1#32) 192#32
/-- The number of pairs of chunks. -/
def pairs (lo hi : BitVec 32) : BitVec 32 := fdiv (Scalar.addi (chunks lo hi) 1#32) 2#32
/-- Where chunk `c` starts. -/
def pos (lo c : BitVec 32) : BitVec 32 := Scalar.addi (start lo) (Scalar.muli c 192#32)
/-- The first row copied for chunk `c`. -/
def base (lo c : BitVec 32) : BitVec 32 := Scalar.minsi (pos lo c) 159808#32
/-- The first row of chunk `c` within what was copied. -/
def rel (lo c : BitVec 32) : BitVec 32 := Scalar.subi (Scalar.maxsi (pos lo c) lo) (base lo c)
/-- The first class looked for in a chunk whose first label is `f`. -/
def cFirst (v2 f : BitVec 32) : BitVec 32 := Scalar.maxsi f v2
/-- The class at which a chunk whose labels go from `f` to `l` ends. -/
def cEnd (v2 f l c n : BitVec 32) : BitVec 32 :=
  Scalar.select (Scalar.cmpi .slt c n) (Scalar.maxsi (Scalar.minsi (Scalar.addi l 1#32) (Scalar.addi v2 32#32)) (cFirst v2 f)) (cFirst v2 f)

/-- A fact about each of the sixteen blocks. -/
theorem all16 {P : Nat → Prop} (h0 : P 0) (h1 : P 1) (h2 : P 2) (h3 : P 3) (h4 : P 4) (h5 : P 5) (h6 : P 6) (h7 : P 7) (h8 : P 8)
    (h9 : P 9) (h10 : P 10) (h11 : P 11) (h12 : P 12) (h13 : P 13) (h14 : P 14) (h15 : P 15) : ∀ j ∈ cols, P j := by
  simp only [cols, List.forall_mem_cons]
  exact ⟨h0, h1, h2, h3, h4, h5, h6, h7, h8, h9, h10, h11, h12, h13, h14, h15, fun _ h => absurd h List.not_mem_nil⟩

/-- A word divided by one is itself. -/
theorem divsi_one (x : BitVec 32) : Scalar.divsi x 1#32 = x := by
  have h : ¬ IntOp.SDivCorner x 1#32 := fun h => h.elim (fun h => absurd h (by decide)) fun h => absurd h.2 (by decide)
  exact (if_neg h).trans BitVec.sdiv_one

/-- A loop bounded by a run's end takes the run's trips in the first of the two loops the kernel makes of it, -/
theorem run_ub (lo hi : BitVec 32) : (run lo hi).ub = hi := by
  show lo + (Scalar.divsi (hi - lo) 1#32) * 1#32 = hi
  rw [divsi_one, BitVec.mul_one, BitVec.add_comm, BitVec.sub_add_cancel]

/-- and none in the second. -/
theorem rest_trips (lo n : BitVec 32) : Scf.trips (Scalar.addi lo (Scalar.muli (Scalar.divsi n 1#32) 1#32)) (Scalar.addi lo n) 1#32 = 0 := by
  rw [divsi_one]
  show Scf.trips (lo + n * 1#32) (lo + n) 1#32 = 0
  rw [BitVec.mul_one]
  unfold Scf.trips
  rw [show (1#32 : BitVec 32).toInt = 1 from rfl]
  omega

/-- A loop of no trips does nothing. -/
theorem for_none {E : Type → Type} {σ : Type} (lb ub st : BitVec 32) (h : Scf.trips lb ub st = 0) (ok : Scf.OK lb ub st) (a : σ)
    (body : Fin (Scf.trips lb ub st) → σ → Prog E σ) : Scf.for lb ub st ok a body = pure a := by
  rw [Scf.for_eq, show List.finRange (Scf.trips lb ub st) = [] from List.eq_nil_of_length_eq_zero (by rw [List.length_finRange, h])]
  rfl

end Cert.KernelIdeal.Tile

end
-- ==== Proof.EqA.lean ====
module

public import proofs.«01_k».proof.Proof.Clean

@[expose] public section

noncomputable section

namespace Cert.KernelIdeal.Tile

open Idealize.ShloMosaic Idealize.SL.Sem Cert.KernelIdeal.Gen

variable {F : FTy → Type} [FloatOps F]

section

variable
  (i : grid0.Coords)
  (arg7 : Memref sig .scVector .vmem S192x256 .f32)
  (arg9 : Memref sig .scVector .vmem S192 .i32)
  (arg10 : Memref sig .scVector .vmem S33x256 .f32)
  (arg11 : Memref sig .scVector .vmem S33x16 .f32)
  (v14_0 v21 v26 v31 v36 v41 v46 v51 v56 v61 v66 v71 v76 v81 v86 v91 v96 v106_0 v113 v118 v123 v128
  v133 v138 v143 v148 v153 v158 v163 v168 v173 v178 v183 v188 : BitVec 32)
  (k0_t5 : Fin (k0_t5_loop i v14_0 v21 v26 v31 v36 v41 v46 v51 v56 v61 v66 v71 v76 v81 v86 v91 v96
  v106_0 v113 v118 v123 v128 v133 v138 v143 v148 v153 v158 v163 v168 v173 v178 v183 v188).trips)
  (v302 v306 : BitVec 32)
  (k0_hw8 : k0_chk8 i v14_0 v21 v26 v31 v36 v41 v46 v51 v56 v61 v66 v71 v76 v81 v86 v91 v96 v106_0
  v113 v118 v123 v128 v133 v138 v143 v148 v153 v158 v163 v168 v173 v178 v183 v188 k0_t5 v302 v306)

/-- The second of the two loops over a class's rows has no trips. -/
theorem k0_t10_none (t : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (a b l0 l1 l2 l3 l4 l5 l6 l7 l8 l9 l10 l11 l12 l13 l14 l15 : BitVec 32) {σ : Type} (ok) (s : σ)
    (body : Fin (k0_t10_loop   i v14_0 v21 v26 v31 v36 v41 v46 v51 v56 v61 v66 v71 v76 v81 v86 v91 v96 v106_0 v113 v118 v123 v128
  v133 v138 v143 v148 v153 v158 v163 v168 v173 v178 v183 v188 k0_t5 v302 v306 t a b l0 l1 l2 l3 l4
  l5 l6 l7 l8 l9 l10 l11 l12 l13 l14 l15).trips → σ → TP F i σ) :
    Scf.Loop.for (k0_t10_loop   i v14_0 v21 v26 v31 v36 v41 v46 v51 v56 v61 v66 v71 v76 v81 v86 v91 v96 v106_0 v113 v118 v123 v128
  v133 v138 v143 v148 v153 v158 v163 v168 v173 v178 v183 v188 k0_t5 v302 v306 t a b l0 l1 l2 l3 l4
  l5 l6 l7 l8 l9 l10 l11 l12 l13 l14 l15) ok s body = pure s := for_none _ _ _ (rest_trips _ _) ok s body

/-- What a trip of the class loop over buffer A does. -/
def classA (t : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) (prev : BitVec 32) (q : Nat → FVec F S16 .f32) : TP F i (BitVec 32 × T16 F) :=
  classStep arg7 arg9 arg10 arg11 (cls i) (rel (placeOf 8#32 v14_0 (vec16 v21 v26 v31 v36 v41 v46 v51 v56 v61 v66 v71 v76 v81 v86 v91 v96) (cls i)) (Scalar.muli 2#32 (Scf.iv 0#32 1#32 k0_t5))) (Scf.iv (cFirst (cls i) v302) 1#32 t) prev q
      (C := fun b l =>   k0_chk11 i v14_0 v21 v26 v31 v36 v41 v46 v51 v56 v61 v66 v71 v76 v81 v86 v91 v96 v106_0 v113 v118
  v123 v128 v133 v138 v143 v148 v153 v158 v163 v168 v173 v178 v183 v188 k0_t5 v302 v306 t prev b (l
  0) (l 1) (l 2) (l 3) (l 4) (l 5) (l 6) (l 7) (l 8) (l 9) (l 10) (l 11) (l 12) (l 13) (l 14) (l 15))
      (dC := fun b l =>   k0_chk11.dec i v14_0 v21 v26 v31 v36 v41 v46 v51 v56 v61 v66 v71 v76 v81 v86 v91 v96 v106_0 v113
  v118 v123 v128 v133 v138 v143 v148 v153 v158 v163 v168 v173 v178 v183 v188 k0_t5 v302 v306 t prev
  b (l 0) (l 1) (l 2) (l 3) (l 4) (l 5) (l 6) (l 7) (l 8) (l 9) (l 10) (l 11) (l 12) (l 13) (l 14)
  (l 15))
      (fun b l hw =>   k0_t9_ok i v14_0 v21 v26 v31 v36 v41 v46 v51 v56 v61 v66 v71 v76 v81 v86 v91 v96 v106_0 v113 v118
  v123 v128 v133 v138 v143 v148 v153 v158 v163 v168 v173 v178 v183 v188 k0_t5 v302 v306 t prev b (l
  0) (l 1) (l 2) (l 3) (l 4) (l 5) (l 6) (l 7) (l 8) (l 9) (l 10) (l 11) (l 12) (l 13) (l 14) (l 15)
  hw)
      (fun b l hw u => all16   (k0_off48_inb i v14_0 v21 v26 v31 v36 v41 v46 v51 v56 v61 v66 v71 v76 v81 v86 v91 v96 v106_0 v113
  v118 v123 v128 v133 v138 v143 v148 v153 v158 v163 v168 v173 v178 v183 v188 k0_t5 v302 v306 t prev
  b (l 0) (l 1) (l 2) (l 3) (l 4) (l 5) (l 6) (l 7) (l 8) (l 9) (l 10) (l 11) (l 12) (l 13) (l 14)
  (l 15) hw u) (k0_off49_inb i v14_0 v21 v26 v31 v36 v41 v46 v51 v56 v61 v66 v71 v76 v81 v86 v91 v96
  v106_0 v113 v118 v123 v128 v133 v138 v143 v148 v153 v158 v163 v168 v173 v178 v183 v188 k0_t5 v302
  v306 t prev b (l 0) (l 1) (l 2) (l 3) (l 4) (l 5) (l 6) (l 7) (l 8) (l 9) (l 10) (l 11) (l 12) (l
  13) (l 14) (l 15) hw u) (k0_off50_inb i v14_0 v21 v26 v31 v36 v41 v46 v51 v56 v61 v66 v71 v76 v81
  v86 v91 v96 v106_0 v113 v118 v123 v128 v133 v138 v143 v148 v153 v158 v163 v168 v173 v178 v183 v188
  k0_t5 v302 v306 t prev b (l 0) (l 1) (l 2) (l 3) (l 4) (l 5) (l 6) (l 7) (l 8) (l 9) (l 10) (l 11)
  (l 12) (l 13) (l 14) (l 15) hw u) (k0_off51_inb i v14_0 v21 v26 v31 v36 v41 v46 v51 v56 v61 v66
  v71 v76 v81 v86 v91 v96 v106_0 v113 v118 v123 v128 v133 v138 v143 v148 v153 v158 v163 v168 v173
  v178 v183 v188 k0_t5 v302 v306 t prev b (l 0) (l 1) (l 2) (l 3) (l 4) (l 5) (l 6) (l 7) (l 8) (l
  9) (l 10) (l 11) (l 12) (l 13) (l 14) (l 15) hw u) (k0_off52_inb i v14_0 v21 v26 v31 v36 v41 v46
  v51 v56 v61 v66 v71 v76 v81 v86 v91 v96 v106_0 v113 v118 v123 v128 v133 v138 v143 v148 v153 v158
  v163 v168 v173 v178 v183 v188 k0_t5 v302 v306 t prev b (l 0) (l 1) (l 2) (l 3) (l 4) (l 5) (l 6)
  (l 7) (l 8) (l 9) (l 10) (l 11) (l 12) (l 13) (l 14) (l 15) hw u) (k0_off53_inb i v14_0 v21 v26
  v31 v36 v41 v46 v51 v56 v61 v66 v71 v76 v81 v86 v91 v96 v106_0 v113 v118 v123 v128 v133 v138 v143
  v148 v153 v158 v163 v168 v173 v178 v183 v188 k0_t5 v302 v306 t prev b (l 0) (l 1) (l 2) (l 3) (l
  4) (l 5) (l 6) (l 7) (l 8) (l 9) (l 10) (l 11) (l 12) (l 13) (l 14) (l 15) hw u) (k0_off54_inb i
  v14_0 v21 v26 v31 v36 v41 v46 v51 v56 v61 v66 v71 v76 v81 v86 v91 v96 v106_0 v113 v118 v123 v128
  v133 v138 v143 v148 v153 v158 v163 v168 v173 v178 v183 v188 k0_t5 v302 v306 t prev b (l 0) (l 1)
  (l 2) (l 3) (l 4) (l 5) (l 6) (l 7) (l 8) (l 9) (l 10) (l 11) (l 12) (l 13) (l 14) (l 15) hw u)
  (k0_off55_inb i v14_0 v21 v26 v31 v36 v41 v46 v51 v56 v61 v66 v71 v76 v81 v86 v91 v96 v106_0 v113
  v118 v123 v128 v133 v138 v143 v148 v153 v158 v163 v168 v173 v178 v183 v188 k0_t5 v302 v306 t prev
  b (l 0) (l 1) (l 2) (l 3) (l 4) (l 5) (l 6) (l 7) (l 8) (l 9) (l 10) (l 11) (l 12) (l 13) (l 14)
  (l 15) hw u) (k0_off56_inb i v14_0 v21 v26 v31 v36 v41 v46 v51 v56 v61 v66 v71 v76 v81 v86 v91 v96
  v106_0 v113 v118 v123 v128 v133 v138 v143 v148 v153 v158 v163 v168 v173 v178 v183 v188 k0_t5 v302
  v306 t prev b (l 0) (l 1) (l 2) (l 3) (l 4) (l 5) (l 6) (l 7) (l 8) (l 9) (l 10) (l 11) (l 12) (l
  13) (l 14) (l 15) hw u) (k0_off57_inb i v14_0 v21 v26 v31 v36 v41 v46 v51 v56 v61 v66 v71 v76 v81
  v86 v91 v96 v106_0 v113 v118 v123 v128 v133 v138 v143 v148 v153 v158 v163 v168 v173 v178 v183 v188
  k0_t5 v302 v306 t prev b (l 0) (l 1) (l 2) (l 3) (l 4) (l 5) (l 6) (l 7) (l 8) (l 9) (l 10) (l 11)
  (l 12) (l 13) (l 14) (l 15) hw u) (k0_off58_inb i v14_0 v21 v26 v31 v36 v41 v46 v51 v56 v61 v66
  v71 v76 v81 v86 v91 v96 v106_0 v113 v118 v123 v128 v133 v138 v143 v148 v153 v158 v163 v168 v173
  v178 v183 v188 k0_t5 v302 v306 t prev b (l 0) (l 1) (l 2) (l 3) (l 4) (l 5) (l 6) (l 7) (l 8) (l
  9) (l 10) (l 11) (l 12) (l 13) (l 14) (l 15) hw u) (k0_off59_inb i v14_0 v21 v26 v31 v36 v41 v46
  v51 v56 v61 v66 v71 v76 v81 v86 v91 v96 v106_0 v113 v118 v123 v128 v133 v138 v143 v148 v153 v158
  v163 v168 v173 v178 v183 v188 k0_t5 v302 v306 t prev b (l 0) (l 1) (l 2) (l 3) (l 4) (l 5) (l 6)
  (l 7) (l 8) (l 9) (l 10) (l 11) (l 12) (l 13) (l 14) (l 15) hw u) (k0_off60_inb i v14_0 v21 v26
  v31 v36 v41 v46 v51 v56 v61 v66 v71 v76 v81 v86 v91 v96 v106_0 v113 v118 v123 v128 v133 v138 v143
  v148 v153 v158 v163 v168 v173 v178 v183 v188 k0_t5 v302 v306 t prev b (l 0) (l 1) (l 2) (l 3) (l
  4) (l 5) (l 6) (l 7) (l 8) (l 9) (l 10) (l 11) (l 12) (l 13) (l 14) (l 15) hw u) (k0_off61_inb i
  v14_0 v21 v26 v31 v36 v41 v46 v51 v56 v61 v66 v71 v76 v81 v86 v91 v96 v106_0 v113 v118 v123 v128
  v133 v138 v143 v148 v153 v158 v163 v168 v173 v178 v183 v188 k0_t5 v302 v306 t prev b (l 0) (l 1)
  (l 2) (l 3) (l 4) (l 5) (l 6) (l 7) (l 8) (l 9) (l 10) (l 11) (l 12) (l 13) (l 14) (l 15) hw u)
  (k0_off62_inb i v14_0 v21 v26 v31 v36 v41 v46 v51 v56 v61 v66 v71 v76 v81 v86 v91 v96 v106_0 v113
  v118 v123 v128 v133 v138 v143 v148 v153 v158 v163 v168 v173 v178 v183 v188 k0_t5 v302 v306 t prev
  b (l 0) (l 1) (l 2) (l 3) (l 4) (l 5) (l 6) (l 7) (l 8) (l 9) (l 10) (l 11) (l 12) (l 13) (l 14)
  (l 15) hw u) (k0_off63_inb i v14_0 v21 v26 v31 v36 v41 v46 v51 v56 v61 v66 v71 v76 v81 v86 v91 v96
  v106_0 v113 v118 v123 v128 v133 v138 v143 v148 v153 v158 v163 v168 v173 v178 v183 v188 k0_t5 v302
  v306 t prev b (l 0) (l 1) (l 2) (l 3) (l 4) (l 5) (l 6) (l 7) (l 8) (l 9) (l 10) (l 11) (l 12) (l
  13) (l 14) (l 15) hw u))
      (all16   (k0_off32_inb i v14_0 v21 v26 v31 v36 v41 v46 v51 v56 v61 v66 v71 v76 v81 v86 v91 v96 v106_0 v113
  v118 v123 v128 v133 v138 v143 v148 v153 v158 v163 v168 v173 v178 v183 v188 k0_t5 v302 v306 k0_hw8
  t) (k0_off33_inb i v14_0 v21 v26 v31 v36 v41 v46 v51 v56 v61 v66 v71 v76 v81 v86 v91 v96 v106_0
  v113 v118 v123 v128 v133 v138 v143 v148 v153 v158 v163 v168 v173 v178 v183 v188 k0_t5 v302 v306
  k0_hw8 t) (k0_off34_inb i v14_0 v21 v26 v31 v36 v41 v46 v51 v56 v61 v66 v71 v76 v81 v86 v91 v96
  v106_0 v113 v118 v123 v128 v133 v138 v143 v148 v153 v158 v163 v168 v173 v178 v183 v188 k0_t5 v302
  v306 k0_hw8 t) (k0_off35_inb i v14_0 v21 v26 v31 v36 v41 v46 v51 v56 v61 v66 v71 v76 v81 v86 v91
  v96 v106_0 v113 v118 v123 v128 v133 v138 v143 v148 v153 v158 v163 v168 v173 v178 v183 v188 k0_t5
  v302 v306 k0_hw8 t) (k0_off36_inb i v14_0 v21 v26 v31 v36 v41 v46 v51 v56 v61 v66 v71 v76 v81 v86
  v91 v96 v106_0 v113 v118 v123 v128 v133 v138 v143 v148 v153 v158 v163 v168 v173 v178 v183 v188
  k0_t5 v302 v306 k0_hw8 t) (k0_off37_inb i v14_0 v21 v26 v31 v36 v41 v46 v51 v56 v61 v66 v71 v76
  v81 v86 v91 v96 v106_0 v113 v118 v123 v128 v133 v138 v143 v148 v153 v158 v163 v168 v173 v178 v183
  v188 k0_t5 v302 v306 k0_hw8 t) (k0_off38_inb i v14_0 v21 v26 v31 v36 v41 v46 v51 v56 v61 v66 v71
  v76 v81 v86 v91 v96 v106_0 v113 v118 v123 v128 v133 v138 v143 v148 v153 v158 v163 v168 v173 v178
  v183 v188 k0_t5 v302 v306 k0_hw8 t) (k0_off39_inb i v14_0 v21 v26 v31 v36 v41 v46 v51 v56 v61 v66
  v71 v76 v81 v86 v91 v96 v106_0 v113 v118 v123 v128 v133 v138 v143 v148 v153 v158 v163 v168 v173
  v178 v183 v188 k0_t5 v302 v306 k0_hw8 t) (k0_off40_inb i v14_0 v21 v26 v31 v36 v41 v46 v51 v56 v61
  v66 v71 v76 v81 v86 v91 v96 v106_0 v113 v118 v123 v128 v133 v138 v143 v148 v153 v158 v163 v168
  v173 v178 v183 v188 k0_t5 v302 v306 k0_hw8 t) (k0_off41_inb i v14_0 v21 v26 v31 v36 v41 v46 v51
  v56 v61 v66 v71 v76 v81 v86 v91 v96 v106_0 v113 v118 v123 v128 v133 v138 v143 v148 v153 v158 v163
  v168 v173 v178 v183 v188 k0_t5 v302 v306 k0_hw8 t) (k0_off42_inb i v14_0 v21 v26 v31 v36 v41 v46
  v51 v56 v61 v66 v71 v76 v81 v86 v91 v96 v106_0 v113 v118 v123 v128 v133 v138 v143 v148 v153 v158
  v163 v168 v173 v178 v183 v188 k0_t5 v302 v306 k0_hw8 t) (k0_off43_inb i v14_0 v21 v26 v31 v36 v41
  v46 v51 v56 v61 v66 v71 v76 v81 v86 v91 v96 v106_0 v113 v118 v123 v128 v133 v138 v143 v148 v153
  v158 v163 v168 v173 v178 v183 v188 k0_t5 v302 v306 k0_hw8 t) (k0_off44_inb i v14_0 v21 v26 v31 v36
  v41 v46 v51 v56 v61 v66 v71 v76 v81 v86 v91 v96 v106_0 v113 v118 v123 v128 v133 v138 v143 v148
  v153 v158 v163 v168 v173 v178 v183 v188 k0_t5 v302 v306 k0_hw8 t) (k0_off45_inb i v14_0 v21 v26
  v31 v36 v41 v46 v51 v56 v61 v66 v71 v76 v81 v86 v91 v96 v106_0 v113 v118 v123 v128 v133 v138 v143
  v148 v153 v158 v163 v168 v173 v178 v183 v188 k0_t5 v302 v306 k0_hw8 t) (k0_off46_inb i v14_0 v21
  v26 v31 v36 v41 v46 v51 v56 v61 v66 v71 v76 v81 v86 v91 v96 v106_0 v113 v118 v123 v128 v133 v138
  v143 v148 v153 v158 v163 v168 v173 v178 v183 v188 k0_t5 v302 v306 k0_hw8 t) (k0_off47_inb i v14_0
  v21 v26 v31 v36 v41 v46 v51 v56 v61 v66 v71 v76 v81 v86 v91 v96 v106_0 v113 v118 v123 v128 v133
  v138 v143 v148 v153 v158 v163 v168 v173 v178 v183 v188 k0_t5 v302 v306 k0_hw8 t))
      (  k0_off96_inb i v14_0 v21 v26 v31 v36 v41 v46 v51 v56 v61 v66 v71 v76 v81 v86 v91 v96 v106_0 v113
  v118 v123 v128 v133 v138 v143 v148 v153 v158 v163 v168 v173 v178 v183 v188 k0_t5 v302 v306 k0_hw8
  t)

end

section

variable
  (i : grid0.Coords)
  (arg2 : Memref sig .scVector .hbm S160000x256 .f32)
  (harg2 : arg2.IsWhole)
  (arg3 : Memref sig .scVector .hbm S160000 .i32)
  (harg3 : arg3.IsWhole)
  (arg4 : Memref sig .scVector .hbm S1024x256 .f32)
  (harg4 : arg4.IsWhole)
  (arg5 : Memref sig .scVector .hbm S1024x16 .f32)
  (harg5 : arg5.IsWhole)
  (arg6 : Memref sig .scVector .hbm S32x16 .f32)
  (harg6 : arg6.IsWhole)
  (arg7 : Memref sig .scVector .vmem S192x256 .f32)
  (harg7 : arg7.IsWhole)
  (arg8 : Memref sig .scVector .vmem S192x256 .f32)
  (harg8 : arg8.IsWhole)
  (arg9 : Memref sig .scVector .vmem S192 .i32)
  (harg9 : arg9.IsWhole)
  (arg10 : Memref sig .scVector .vmem S33x256 .f32)
  (harg10 : arg10.IsWhole)
  (arg11 : Memref sig .scVector .vmem S33x16 .f32)
  (harg11 : arg11.IsWhole)
  (arg12 : Memref sig .scVector .vmem S16 .i32)
  (harg12 : arg12.IsWhole)
  (arg13 : Memref sig .scVector .vmem S16 .i32)
  (harg13 : arg13.IsWhole)
  (arg14 : Memref sig .scVector .vmem S16 .f32)
  (harg14 : arg14.IsWhole)
  (arg15 : Memref sig .scVector .vmem S2000 .i32)
  (harg15 : arg15.IsWhole)
  (arg16 : Memref sig .scVector .shared S160016 .i32)
  (harg16 : arg16.IsWhole)
  (arg17 arg18 v284_r0 v284_r1 v281_r2 v313_r3 v281_r4 v313_r5 v281_r6 v544_r7 v544_r8 v544_r9
  v544_r10 v281_r11 v281_r12 v281_r13 : DmaSems sig S_)
  (v2 v14_0 v21 v26 v31 v36 v41 v46 v51 v56 v61 v66 v71 v76 v81 v86 v91 v96 v103 v106_0 v113 v118 v123
  v128 v133 v138 v143 v148 v153 v158 v163 v168 v173 v178 v183 v188 : BitVec 32)
  (k0_hw5 : k0_chk5 i v14_0 v21 v26 v31 v36 v41 v46 v51 v56 v61 v66 v71 v76 v81 v86 v91 v96 v106_0
  v113 v118 v123 v128 v133 v138 v143 v148 v153 v158 v163 v168 v173 v178 v183 v188)
  (v213 v255 : BitVec 32)
  (k0_t5 : Fin (k0_t5_loop i v14_0 v21 v26 v31 v36 v41 v46 v51 v56 v61 v66 v71 v76 v81 v86 v91 v96
  v106_0 v113 v118 v123 v128 v133 v138 v143 v148 v153 v158 v163 v168 v173 v178 v183 v188).trips)
  (arg20 arg21 arg22 arg23 arg24 arg25 arg26 arg27 arg28 arg29 arg30 arg31 arg32 arg33 arg34 arg35 :
  FVec F S16 .f32)
  (v281 v297 v298 v302 v306 : BitVec 32)
  (k0_hw8 : k0_chk8 i v14_0 v21 v26 v31 v36 v41 v46 v51 v56 v61 v66 v71 v76 v81 v86 v91 v96 v106_0
  v113 v118 v123 v128 v133 v138 v143 v148 v153 v158 v163 v168 v173 v178 v183 v188 k0_t5 v302 v306)
  (v307 v313 v315_0 v317 : BitVec 32)
  (v321 : IVec S16 32)
  (v391 : BitVec 32)
  (v394 : BitVec 1)

set_option maxRecDepth 100000 in
set_option maxHeartbeats 1000000 in
/-- What the program's class loop runs at each trip is `classStep`. -/
theorem k0_t7_body_eq   (e2 : v2 = cls i) (e103 : v103 = (placeOf 8#32 v14_0 (vec16 v21 v26 v31 v36 v41 v46 v51 v56 v61 v66
  v71 v76 v81 v86 v91 v96) (cls i))) (e297 : v297 = base (placeOf 8#32 v14_0 (vec16 v21 v26 v31 v36
  v41 v46 v51 v56 v61 v66 v71 v76 v81 v86 v91 v96) (cls i)) (Scalar.muli 2#32 (Scf.iv 0#32 1#32
  k0_t5))) (e298 : v298 = Scalar.maxsi (pos (placeOf 8#32 v14_0 (vec16 v21 v26 v31 v36 v41 v46 v51
  v56 v61 v66 v71 v76 v81 v86 v91 v96) (cls i)) (Scalar.muli 2#32 (Scf.iv 0#32 1#32 k0_t5)))
  (placeOf 8#32 v14_0 (vec16 v21 v26 v31 v36 v41 v46 v51 v56 v61 v66 v71 v76 v81 v86 v91 v96) (cls
  i))) (e281 : v281 = (Scalar.muli 2#32 (Scf.iv 0#32 1#32 k0_t5))) (e307 : v307 = cFirst (cls i)
  v302) :
      k0_t7_body i arg2 harg2 arg3 harg3 arg4 harg4 arg5 harg5 arg6 harg6 arg7 harg7 arg8 harg8 arg9 harg9
  arg10 harg10 arg11 harg11 arg12 harg12 arg13 harg13 arg14 harg14 arg15 harg15 arg16 harg16 arg17
  arg18 v284_r0 v284_r1 v281_r2 v313_r3 v281_r4 v313_r5 v281_r6 v544_r7 v544_r8 v544_r9 v544_r10
  v281_r11 v281_r12 v281_r13 v2 v14_0 v21 v26 v31 v36 v41 v46 v51 v56 v61 v66 v71 v76 v81 v86 v91
  v96 v103 v106_0 v113 v118 v123 v128 v133 v138 v143 v148 v153 v158 v163 v168 v173 v178 v183 v188
  k0_hw5 v213 v255 k0_t5 arg20 arg21 arg22 arg23 arg24 arg25 arg26 arg27 arg28 arg29 arg30 arg31
  arg32 arg33 arg34 arg35 v281 v297 v298 v302 v306 k0_hw8 v307 v313 v315_0 v317 v321 v391 v394 =
      fun t a => classA i arg7 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 t a.1 (vOf a.2) := by
  subst e307 e281 e298 e297 e103 e2
  suffices h : ∀ (t : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 v302 v306).trips) prev (q : Nat → FVec F S16 .f32),
        k0_t7_body i arg2 harg2 arg3 harg3 arg4 harg4 arg5 harg5 arg6 harg6 arg7 harg7 arg8 harg8 arg9 harg9
          arg10 harg10 arg11 harg11 arg12 harg12 arg13 harg13 arg14 harg14 arg15 harg15 arg16 harg16 arg17
          arg18 v284_r0 v284_r1 v281_r2 v313_r3 v281_r4 v313_r5 v281_r6 v544_r7 v544_r8 v544_r9 v544_r10
          v281_r11 v281_r12 v281_r13 (cls i) v14_0 v21 v26 v31 v36 v41 v46 v51 v56 v61 v66 v71 v76 v81 v86
          v91 v96 ((placeOf 8#32 v14_0 (vec16 v21 v26 v31 v36 v41 v46 v51 v56 v61 v66 v71 v76 v81 v86 v91
          v96) (cls i))) v106_0 v113 v118 v123 v128 v133 v138 v143 v148 v153 v158 v163 v168 v173 v178 v183
          v188 k0_hw5 v213 v255 k0_t5 arg20 arg21 arg22 arg23 arg24 arg25 arg26 arg27 arg28 arg29 arg30
          arg31 arg32 arg33 arg34 arg35 ((Scalar.muli 2#32 (Scf.iv 0#32 1#32 k0_t5))) (base (placeOf 8#32
          v14_0 (vec16 v21 v26 v31 v36 v41 v46 v51 v56 v61 v66 v71 v76 v81 v86 v91 v96) (cls i))
          (Scalar.muli 2#32 (Scf.iv 0#32 1#32 k0_t5))) (Scalar.maxsi (pos (placeOf 8#32 v14_0 (vec16 v21 v26
          v31 v36 v41 v46 v51 v56 v61 v66 v71 v76 v81 v86 v91 v96) (cls i)) (Scalar.muli 2#32 (Scf.iv 0#32
          1#32 k0_t5))) (placeOf 8#32 v14_0 (vec16 v21 v26 v31 v36 v41 v46 v51 v56 v61 v66 v71 v76 v81 v86
          v91 v96) (cls i))) v302 v306 k0_hw8 (cFirst (cls i) v302) v313 v315_0 v317 v321 v391 v394 t (prev, tup16 q) = classA i arg7 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 v302 v306 k0_hw8 t prev q from
    funext fun t => funext fun a => h t a.1 (vOf a.2)
  intro t prev q
  unfold k0_t7_body
  simp only [k0_part4_eq_skeleton, k0_part5_eq_skeleton, k0_part6_eq_skeleton, k0_part7_eq_skeleton, k0_part8_eq_skeleton, k0_part4_skel, k0_part5_skel, k0_part6_skel, k0_part7_skel, k0_part8_skel, bind_assoc, pure_bind]
  simp only [k0_t10_none, pure_bind]
  rfl

end

end Cert.KernelIdeal.Tile

end
-- ==== Proof.EqB.lean ====
module

public import proofs.«01_k».proof.Proof.Clean

@[expose] public section

noncomputable section

namespace Cert.KernelIdeal.Tile

open Idealize.ShloMosaic Idealize.SL.Sem Cert.KernelIdeal.Gen

variable {F : FTy → Type} [FloatOps F]

section

variable
  (i : grid0.Coords)
  (arg8 : Memref sig .scVector .vmem S192x256 .f32)
  (arg9 : Memref sig .scVector .vmem S192 .i32)
  (arg10 : Memref sig .scVector .vmem S33x256 .f32)
  (arg11 : Memref sig .scVector .vmem S33x16 .f32)
  (v14_0 v21 v26 v31 v36 v41 v46 v51 v56 v61 v66 v71 v76 v81 v86 v91 v96 v106_0 v113 v118 v123 v128
  v133 v138 v143 v148 v153 v158 v163 v168 v173 v178 v183 v188 : BitVec 32)
  (k0_t5 : Fin (k0_t5_loop i v14_0 v21 v26 v31 v36 v41 v46 v51 v56 v61 v66 v71 v76 v81 v86 v91 v96
  v106_0 v113 v118 v123 v128 v133 v138 v143 v148 v153 v158 v163 v168 v173 v178 v183 v188).trips)
  (v433 v437 : BitVec 32)
  (k0_hw17 : k0_chk17 i v14_0 v21 v26 v31 v36 v41 v46 v51 v56 v61 v66 v71 v76 v81 v86 v91 v96 v106_0
  v113 v118 v123 v128 v133 v138 v143 v148 v153 v158 v163 v168 v173 v178 v183 v188 k0_t5 v433 v437)

/-- The second of the two loops over a class's rows has no trips. -/
theorem k0_t19_none (t : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (a b l0 l1 l2 l3 l4 l5 l6 l7 l8 l9 l10 l11 l12 l13 l14 l15 : BitVec 32) {σ : Type} (ok) (s : σ)
    (body : Fin (k0_t19_loop   i v14_0 v21 v26 v31 v36 v41 v46 v51 v56 v61 v66 v71 v76 v81 v86 v91 v96 v106_0 v113 v118 v123 v128
  v133 v138 v143 v148 v153 v158 v163 v168 v173 v178 v183 v188 k0_t5 v433 v437 t a b l0 l1 l2 l3 l4
  l5 l6 l7 l8 l9 l10 l11 l12 l13 l14 l15).trips → σ → TP F i σ) :
    Scf.Loop.for (k0_t19_loop   i v14_0 v21 v26 v31 v36 v41 v46 v51 v56 v61 v66 v71 v76 v81 v86 v91 v96 v106_0 v113 v118 v123 v128
  v133 v138 v143 v148 v153 v158 v163 v168 v173 v178 v183 v188 k0_t5 v433 v437 t a b l0 l1 l2 l3 l4
  l5 l6 l7 l8 l9 l10 l11 l12 l13 l14 l15) ok s body = pure s := for_none _ _ _ (rest_trips _ _) ok s body

/-- What a trip of the class loop over buffer B does. -/
def classB (t : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) (prev : BitVec 32) (q : Nat → FVec F S16 .f32) : TP F i (BitVec 32 × T16 F) :=
  classStep arg8 arg9 arg10 arg11 (cls i) (rel (placeOf 8#32 v14_0 (vec16 v21 v26 v31 v36 v41 v46 v51 v56 v61 v66 v71 v76 v81 v86 v91 v96) (cls i)) (Scalar.addi (Scalar.muli 2#32 (Scf.iv 0#32 1#32 k0_t5)) 1#32)) (Scf.iv (cFirst (cls i) v433) 1#32 t) prev q
      (C := fun b l =>   k0_chk20 i v14_0 v21 v26 v31 v36 v41 v46 v51 v56 v61 v66 v71 v76 v81 v86 v91 v96 v106_0 v113 v118
  v123 v128 v133 v138 v143 v148 v153 v158 v163 v168 v173 v178 v183 v188 k0_t5 v433 v437 t prev b (l
  0) (l 1) (l 2) (l 3) (l 4) (l 5) (l 6) (l 7) (l 8) (l 9) (l 10) (l 11) (l 12) (l 13) (l 14) (l 15))
      (dC := fun b l =>   k0_chk20.dec i v14_0 v21 v26 v31 v36 v41 v46 v51 v56 v61 v66 v71 v76 v81 v86 v91 v96 v106_0 v113
  v118 v123 v128 v133 v138 v143 v148 v153 v158 v163 v168 v173 v178 v183 v188 k0_t5 v433 v437 t prev
  b (l 0) (l 1) (l 2) (l 3) (l 4) (l 5) (l 6) (l 7) (l 8) (l 9) (l 10) (l 11) (l 12) (l 13) (l 14)
  (l 15))
      (fun b l hw =>   k0_t18_ok i v14_0 v21 v26 v31 v36 v41 v46 v51 v56 v61 v66 v71 v76 v81 v86 v91 v96 v106_0 v113 v118
  v123 v128 v133 v138 v143 v148 v153 v158 v163 v168 v173 v178 v183 v188 k0_t5 v433 v437 t prev b (l
  0) (l 1) (l 2) (l 3) (l 4) (l 5) (l 6) (l 7) (l 8) (l 9) (l 10) (l 11) (l 12) (l 13) (l 14) (l 15)
  hw)
      (fun b l hw u => all16   (k0_off187_inb i v14_0 v21 v26 v31 v36 v41 v46 v51 v56 v61 v66 v71 v76 v81 v86 v91 v96 v106_0 v113
  v118 v123 v128 v133 v138 v143 v148 v153 v158 v163 v168 v173 v178 v183 v188 k0_t5 v433 v437 t prev
  b (l 0) (l 1) (l 2) (l 3) (l 4) (l 5) (l 6) (l 7) (l 8) (l 9) (l 10) (l 11) (l 12) (l 13) (l 14)
  (l 15) hw u) (k0_off188_inb i v14_0 v21 v26 v31 v36 v41 v46 v51 v56 v61 v66 v71 v76 v81 v86 v91
  v96 v106_0 v113 v118 v123 v128 v133 v138 v143 v148 v153 v158 v163 v168 v173 v178 v183 v188 k0_t5
  v433 v437 t prev b (l 0) (l 1) (l 2) (l 3) (l 4) (l 5) (l 6) (l 7) (l 8) (l 9) (l 10) (l 11) (l
  12) (l 13) (l 14) (l 15) hw u) (k0_off189_inb i v14_0 v21 v26 v31 v36 v41 v46 v51 v56 v61 v66 v71
  v76 v81 v86 v91 v96 v106_0 v113 v118 v123 v128 v133 v138 v143 v148 v153 v158 v163 v168 v173 v178
  v183 v188 k0_t5 v433 v437 t prev b (l 0) (l 1) (l 2) (l 3) (l 4) (l 5) (l 6) (l 7) (l 8) (l 9) (l
  10) (l 11) (l 12) (l 13) (l 14) (l 15) hw u) (k0_off190_inb i v14_0 v21 v26 v31 v36 v41 v46 v51
  v56 v61 v66 v71 v76 v81 v86 v91 v96 v106_0 v113 v118 v123 v128 v133 v138 v143 v148 v153 v158 v163
  v168 v173 v178 v183 v188 k0_t5 v433 v437 t prev b (l 0) (l 1) (l 2) (l 3) (l 4) (l 5) (l 6) (l 7)
  (l 8) (l 9) (l 10) (l 11) (l 12) (l 13) (l 14) (l 15) hw u) (k0_off191_inb i v14_0 v21 v26 v31 v36
  v41 v46 v51 v56 v61 v66 v71 v76 v81 v86 v91 v96 v106_0 v113 v118 v123 v128 v133 v138 v143 v148
  v153 v158 v163 v168 v173 v178 v183 v188 k0_t5 v433 v437 t prev b (l 0) (l 1) (l 2) (l 3) (l 4) (l
  5) (l 6) (l 7) (l 8) (l 9) (l 10) (l 11) (l 12) (l 13) (l 14) (l 15) hw u) (k0_off192_inb i v14_0
  v21 v26 v31 v36 v41 v46 v51 v56 v61 v66 v71 v76 v81 v86 v91 v96 v106_0 v113 v118 v123 v128 v133
  v138 v143 v148 v153 v158 v163 v168 v173 v178 v183 v188 k0_t5 v433 v437 t prev b (l 0) (l 1) (l 2)
  (l 3) (l 4) (l 5) (l 6) (l 7) (l 8) (l 9) (l 10) (l 11) (l 12) (l 13) (l 14) (l 15) hw u)
  (k0_off193_inb i v14_0 v21 v26 v31 v36 v41 v46 v51 v56 v61 v66 v71 v76 v81 v86 v91 v96 v106_0 v113
  v118 v123 v128 v133 v138 v143 v148 v153 v158 v163 v168 v173 v178 v183 v188 k0_t5 v433 v437 t prev
  b (l 0) (l 1) (l 2) (l 3) (l 4) (l 5) (l 6) (l 7) (l 8) (l 9) (l 10) (l 11) (l 12) (l 13) (l 14)
  (l 15) hw u) (k0_off194_inb i v14_0 v21 v26 v31 v36 v41 v46 v51 v56 v61 v66 v71 v76 v81 v86 v91
  v96 v106_0 v113 v118 v123 v128 v133 v138 v143 v148 v153 v158 v163 v168 v173 v178 v183 v188 k0_t5
  v433 v437 t prev b (l 0) (l 1) (l 2) (l 3) (l 4) (l 5) (l 6) (l 7) (l 8) (l 9) (l 10) (l 11) (l
  12) (l 13) (l 14) (l 15) hw u) (k0_off195_inb i v14_0 v21 v26 v31 v36 v41 v46 v51 v56 v61 v66 v71
  v76 v81 v86 v91 v96 v106_0 v113 v118 v123 v128 v133 v138 v143 v148 v153 v158 v163 v168 v173 v178
  v183 v188 k0_t5 v433 v437 t prev b (l 0) (l 1) (l 2) (l 3) (l 4) (l 5) (l 6) (l 7) (l 8) (l 9) (l
  10) (l 11) (l 12) (l 13) (l 14) (l 15) hw u) (k0_off196_inb i v14_0 v21 v26 v31 v36 v41 v46 v51
  v56 v61 v66 v71 v76 v81 v86 v91 v96 v106_0 v113 v118 v123 v128 v133 v138 v143 v148 v153 v158 v163
  v168 v173 v178 v183 v188 k0_t5 v433 v437 t prev b (l 0) (l 1) (l 2) (l 3) (l 4) (l 5) (l 6) (l 7)
  (l 8) (l 9) (l 10) (l 11) (l 12) (l 13) (l 14) (l 15) hw u) (k0_off197_inb i v14_0 v21 v26 v31 v36
  v41 v46 v51 v56 v61 v66 v71 v76 v81 v86 v91 v96 v106_0 v113 v118 v123 v128 v133 v138 v143 v148
  v153 v158 v163 v168 v173 v178 v183 v188 k0_t5 v433 v437 t prev b (l 0) (l 1) (l 2) (l 3) (l 4) (l
  5) (l 6) (l 7) (l 8) (l 9) (l 10) (l 11) (l 12) (l 13) (l 14) (l 15) hw u) (k0_off198_inb i v14_0
  v21 v26 v31 v36 v41 v46 v51 v56 v61 v66 v71 v76 v81 v86 v91 v96 v106_0 v113 v118 v123 v128 v133
  v138 v143 v148 v153 v158 v163 v168 v173 v178 v183 v188 k0_t5 v433 v437 t prev b (l 0) (l 1) (l 2)
  (l 3) (l 4) (l 5) (l 6) (l 7) (l 8) (l 9) (l 10) (l 11) (l 12) (l 13) (l 14) (l 15) hw u)
  (k0_off199_inb i v14_0 v21 v26 v31 v36 v41 v46 v51 v56 v61 v66 v71 v76 v81 v86 v91 v96 v106_0 v113
  v118 v123 v128 v133 v138 v143 v148 v153 v158 v163 v168 v173 v178 v183 v188 k0_t5 v433 v437 t prev
  b (l 0) (l 1) (l 2) (l 3) (l 4) (l 5) (l 6) (l 7) (l 8) (l 9) (l 10) (l 11) (l 12) (l 13) (l 14)
  (l 15) hw u) (k0_off200_inb i v14_0 v21 v26 v31 v36 v41 v46 v51 v56 v61 v66 v71 v76 v81 v86 v91
  v96 v106_0 v113 v118 v123 v128 v133 v138 v143 v148 v153 v158 v163 v168 v173 v178 v183 v188 k0_t5
  v433 v437 t prev b (l 0) (l 1) (l 2) (l 3) (l 4) (l 5) (l 6) (l 7) (l 8) (l 9) (l 10) (l 11) (l
  12) (l 13) (l 14) (l 15) hw u) (k0_off201_inb i v14_0 v21 v26 v31 v36 v41 v46 v51 v56 v61 v66 v71
  v76 v81 v86 v91 v96 v106_0 v113 v118 v123 v128 v133 v138 v143 v148 v153 v158 v163 v168 v173 v178
  v183 v188 k0_t5 v433 v437 t prev b (l 0) (l 1) (l 2) (l 3) (l 4) (l 5) (l 6) (l 7) (l 8) (l 9) (l
  10) (l 11) (l 12) (l 13) (l 14) (l 15) hw u) (k0_off202_inb i v14_0 v21 v26 v31 v36 v41 v46 v51
  v56 v61 v66 v71 v76 v81 v86 v91 v96 v106_0 v113 v118 v123 v128 v133 v138 v143 v148 v153 v158 v163
  v168 v173 v178 v183 v188 k0_t5 v433 v437 t prev b (l 0) (l 1) (l 2) (l 3) (l 4) (l 5) (l 6) (l 7)
  (l 8) (l 9) (l 10) (l 11) (l 12) (l 13) (l 14) (l 15) hw u))
      (all16   (k0_off171_inb i v14_0 v21 v26 v31 v36 v41 v46 v51 v56 v61 v66 v71 v76 v81 v86 v91 v96 v106_0 v113
  v118 v123 v128 v133 v138 v143 v148 v153 v158 v163 v168 v173 v178 v183 v188 k0_t5 v433 v437 k0_hw17
  t) (k0_off172_inb i v14_0 v21 v26 v31 v36 v41 v46 v51 v56 v61 v66 v71 v76 v81 v86 v91 v96 v106_0
  v113 v118 v123 v128 v133 v138 v143 v148 v153 v158 v163 v168 v173 v178 v183 v188 k0_t5 v433 v437
  k0_hw17 t) (k0_off173_inb i v14_0 v21 v26 v31 v36 v41 v46 v51 v56 v61 v66 v71 v76 v81 v86 v91 v96
  v106_0 v113 v118 v123 v128 v133 v138 v143 v148 v153 v158 v163 v168 v173 v178 v183 v188 k0_t5 v433
  v437 k0_hw17 t) (k0_off174_inb i v14_0 v21 v26 v31 v36 v41 v46 v51 v56 v61 v66 v71 v76 v81 v86 v91
  v96 v106_0 v113 v118 v123 v128 v133 v138 v143 v148 v153 v158 v163 v168 v173 v178 v183 v188 k0_t5
  v433 v437 k0_hw17 t) (k0_off175_inb i v14_0 v21 v26 v31 v36 v41 v46 v51 v56 v61 v66 v71 v76 v81
  v86 v91 v96 v106_0 v113 v118 v123 v128 v133 v138 v143 v148 v153 v158 v163 v168 v173 v178 v183 v188
  k0_t5 v433 v437 k0_hw17 t) (k0_off176_inb i v14_0 v21 v26 v31 v36 v41 v46 v51 v56 v61 v66 v71 v76
  v81 v86 v91 v96 v106_0 v113 v118 v123 v128 v133 v138 v143 v148 v153 v158 v163 v168 v173 v178 v183
  v188 k0_t5 v433 v437 k0_hw17 t) (k0_off177_inb i v14_0 v21 v26 v31 v36 v41 v46 v51 v56 v61 v66 v71
  v76 v81 v86 v91 v96 v106_0 v113 v118 v123 v128 v133 v138 v143 v148 v153 v158 v163 v168 v173 v178
  v183 v188 k0_t5 v433 v437 k0_hw17 t) (k0_off178_inb i v14_0 v21 v26 v31 v36 v41 v46 v51 v56 v61
  v66 v71 v76 v81 v86 v91 v96 v106_0 v113 v118 v123 v128 v133 v138 v143 v148 v153 v158 v163 v168
  v173 v178 v183 v188 k0_t5 v433 v437 k0_hw17 t) (k0_off179_inb i v14_0 v21 v26 v31 v36 v41 v46 v51
  v56 v61 v66 v71 v76 v81 v86 v91 v96 v106_0 v113 v118 v123 v128 v133 v138 v143 v148 v153 v158 v163
  v168 v173 v178 v183 v188 k0_t5 v433 v437 k0_hw17 t) (k0_off180_inb i v14_0 v21 v26 v31 v36 v41 v46
  v51 v56 v61 v66 v71 v76 v81 v86 v91 v96 v106_0 v113 v118 v123 v128 v133 v138 v143 v148 v153 v158
  v163 v168 v173 v178 v183 v188 k0_t5 v433 v437 k0_hw17 t) (k0_off181_inb i v14_0 v21 v26 v31 v36
  v41 v46 v51 v56 v61 v66 v71 v76 v81 v86 v91 v96 v106_0 v113 v118 v123 v128 v133 v138 v143 v148
  v153 v158 v163 v168 v173 v178 v183 v188 k0_t5 v433 v437 k0_hw17 t) (k0_off182_inb i v14_0 v21 v26
  v31 v36 v41 v46 v51 v56 v61 v66 v71 v76 v81 v86 v91 v96 v106_0 v113 v118 v123 v128 v133 v138 v143
  v148 v153 v158 v163 v168 v173 v178 v183 v188 k0_t5 v433 v437 k0_hw17 t) (k0_off183_inb i v14_0 v21
  v26 v31 v36 v41 v46 v51 v56 v61 v66 v71 v76 v81 v86 v91 v96 v106_0 v113 v118 v123 v128 v133 v138
  v143 v148 v153 v158 v163 v168 v173 v178 v183 v188 k0_t5 v433 v437 k0_hw17 t) (k0_off184_inb i
  v14_0 v21 v26 v31 v36 v41 v46 v51 v56 v61 v66 v71 v76 v81 v86 v91 v96 v106_0 v113 v118 v123 v128
  v133 v138 v143 v148 v153 v158 v163 v168 v173 v178 v183 v188 k0_t5 v433 v437 k0_hw17 t)
  (k0_off185_inb i v14_0 v21 v26 v31 v36 v41 v46 v51 v56 v61 v66 v71 v76 v81 v86 v91 v96 v106_0 v113
  v118 v123 v128 v133 v138 v143 v148 v153 v158 v163 v168 v173 v178 v183 v188 k0_t5 v433 v437 k0_hw17
  t) (k0_off186_inb i v14_0 v21 v26 v31 v36 v41 v46 v51 v56 v61 v66 v71 v76 v81 v86 v91 v96 v106_0
  v113 v118 v123 v128 v133 v138 v143 v148 v153 v158 v163 v168 v173 v178 v183 v188 k0_t5 v433 v437
  k0_hw17 t))
      (  k0_off235_inb i v14_0 v21 v26 v31 v36 v41 v46 v51 v56 v61 v66 v71 v76 v81 v86 v91 v96 v106_0 v113
  v118 v123 v128 v133 v138 v143 v148 v153 v158 v163 v168 v173 v178 v183 v188 k0_t5 v433 v437 k0_hw17
  t)

end

section

variable
  (i : grid0.Coords)
  (arg2 : Memref sig .scVector .hbm S160000x256 .f32)
  (harg2 : arg2.IsWhole)
  (arg3 : Memref sig .scVector .hbm S160000 .i32)
  (harg3 : arg3.IsWhole)
  (arg4 : Memref sig .scVector .hbm S1024x256 .f32)
  (harg4 : arg4.IsWhole)
  (arg5 : Memref sig .scVector .hbm S1024x16 .f32)
  (harg5 : arg5.IsWhole)
  (arg6 : Memref sig .scVector .hbm S32x16 .f32)
  (harg6 : arg6.IsWhole)
  (arg7 : Memref sig .scVector .vmem S192x256 .f32)
  (harg7 : arg7.IsWhole)
  (arg8 : Memref sig .scVector .vmem S192x256 .f32)
  (harg8 : arg8.IsWhole)
  (arg9 : Memref sig .scVector .vmem S192 .i32)
  (harg9 : arg9.IsWhole)
  (arg10 : Memref sig .scVector .vmem S33x256 .f32)
  (harg10 : arg10.IsWhole)
  (arg11 : Memref sig .scVector .vmem S33x16 .f32)
  (harg11 : arg11.IsWhole)
  (arg12 : Memref sig .scVector .vmem S16 .i32)
  (harg12 : arg12.IsWhole)
  (arg13 : Memref sig .scVector .vmem S16 .i32)
  (harg13 : arg13.IsWhole)
  (arg14 : Memref sig .scVector .vmem S16 .f32)
  (harg14 : arg14.IsWhole)
  (arg15 : Memref sig .scVector .vmem S2000 .i32)
  (harg15 : arg15.IsWhole)
  (arg16 : Memref sig .scVector .shared S160016 .i32)
  (harg16 : arg16.IsWhole)
  (arg17 arg18 v284_r0 v284_r1 v281_r2 v313_r3 v281_r4 v313_r5 v281_r6 v544_r7 v544_r8 v544_r9
  v544_r10 v281_r11 v281_r12 v281_r13 : DmaSems sig S_)
  (v2 : BitVec 32)
  (v11 : FVec F S16 .f32)
  (v14_0 v21 v26 v31 v36 v41 v46 v51 v56 v61 v66 v71 v76 v81 v86 v91 v96 v103 v106_0 v113 v118 v123
  v128 v133 v138 v143 v148 v153 v158 v163 v168 v173 v178 v183 v188 : BitVec 32)
  (k0_hw5 : k0_chk5 i v14_0 v21 v26 v31 v36 v41 v46 v51 v56 v61 v66 v71 v76 v81 v86 v91 v96 v106_0
  v113 v118 v123 v128 v133 v138 v143 v148 v153 v158 v163 v168 v173 v178 v183 v188)
  (v213 v233 v255 c0_i32_125 v256 : BitVec 32)
  (k0_t5 : Fin (k0_t5_loop i v14_0 v21 v26 v31 v36 v41 v46 v51 v56 v61 v66 v71 v76 v81 v86 v91 v96
  v106_0 v113 v118 v123 v128 v133 v138 v143 v148 v153 v158 v163 v168 v173 v178 v183 v188).trips)
  (v428 v429 v433 v437 : BitVec 32)
  (k0_hw17 : k0_chk17 i v14_0 v21 v26 v31 v36 v41 v46 v51 v56 v61 v66 v71 v76 v81 v86 v91 v96 v106_0
  v113 v118 v123 v128 v133 v138 v143 v148 v153 v158 v163 v168 v173 v178 v183 v188 k0_t5 v433 v437)
  (v438 : BitVec 32)

set_option maxRecDepth 100000 in
set_option maxHeartbeats 1000000 in
/-- What the program's class loop runs at each trip is `classStep`. -/
theorem k0_t16_body_eq   (e2 : v2 = cls i) (e103 : v103 = (placeOf 8#32 v14_0 (vec16 v21 v26 v31 v36 v41 v46 v51 v56 v61 v66
  v71 v76 v81 v86 v91 v96) (cls i))) (e428 : v428 = base (placeOf 8#32 v14_0 (vec16 v21 v26 v31 v36
  v41 v46 v51 v56 v61 v66 v71 v76 v81 v86 v91 v96) (cls i)) (Scalar.addi (Scalar.muli 2#32 (Scf.iv
  0#32 1#32 k0_t5)) 1#32)) (e429 : v429 = Scalar.maxsi (pos (placeOf 8#32 v14_0 (vec16 v21 v26 v31
  v36 v41 v46 v51 v56 v61 v66 v71 v76 v81 v86 v91 v96) (cls i)) (Scalar.addi (Scalar.muli 2#32
  (Scf.iv 0#32 1#32 k0_t5)) 1#32)) (placeOf 8#32 v14_0 (vec16 v21 v26 v31 v36 v41 v46 v51 v56 v61
  v66 v71 v76 v81 v86 v91 v96) (cls i))) (e438 : v438 = cFirst (cls i) v433) :
      k0_t16_body i arg2 harg2 arg3 harg3 arg4 harg4 arg5 harg5 arg6 harg6 arg7 harg7 arg8 harg8 arg9
  harg9 arg10 harg10 arg11 harg11 arg12 harg12 arg13 harg13 arg14 harg14 arg15 harg15 arg16 harg16
  arg17 arg18 v284_r0 v284_r1 v281_r2 v313_r3 v281_r4 v313_r5 v281_r6 v544_r7 v544_r8 v544_r9
  v544_r10 v281_r11 v281_r12 v281_r13 v2 v11 v14_0 v21 v26 v31 v36 v41 v46 v51 v56 v61 v66 v71 v76
  v81 v86 v91 v96 v103 v106_0 v113 v118 v123 v128 v133 v138 v143 v148 v153 v158 v163 v168 v173 v178
  v183 v188 k0_hw5 v213 v233 v255 c0_i32_125 v256 k0_t5 v428 v429 v433 v437 k0_hw17 v438 =
      fun t a => classB i arg8 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 t a.1 (vOf a.2) := by
  subst e438 e429 e428 e103 e2
  suffices h : ∀ (t : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 v433 v437).trips) prev (q : Nat → FVec F S16 .f32),
        k0_t16_body i arg2 harg2 arg3 harg3 arg4 harg4 arg5 harg5 arg6 harg6 arg7 harg7 arg8 harg8 arg9
          harg9 arg10 harg10 arg11 harg11 arg12 harg12 arg13 harg13 arg14 harg14 arg15 harg15 arg16 harg16
          arg17 arg18 v284_r0 v284_r1 v281_r2 v313_r3 v281_r4 v313_r5 v281_r6 v544_r7 v544_r8 v544_r9
          v544_r10 v281_r11 v281_r12 v281_r13 (cls i) v11 v14_0 v21 v26 v31 v36 v41 v46 v51 v56 v61 v66 v71
          v76 v81 v86 v91 v96 ((placeOf 8#32 v14_0 (vec16 v21 v26 v31 v36 v41 v46 v51 v56 v61 v66 v71 v76
          v81 v86 v91 v96) (cls i))) v106_0 v113 v118 v123 v128 v133 v138 v143 v148 v153 v158 v163 v168 v173
          v178 v183 v188 k0_hw5 v213 v233 v255 c0_i32_125 v256 k0_t5 (base (placeOf 8#32 v14_0 (vec16 v21
          v26 v31 v36 v41 v46 v51 v56 v61 v66 v71 v76 v81 v86 v91 v96) (cls i)) (Scalar.addi (Scalar.muli
          2#32 (Scf.iv 0#32 1#32 k0_t5)) 1#32)) (Scalar.maxsi (pos (placeOf 8#32 v14_0 (vec16 v21 v26 v31
          v36 v41 v46 v51 v56 v61 v66 v71 v76 v81 v86 v91 v96) (cls i)) (Scalar.addi (Scalar.muli 2#32
          (Scf.iv 0#32 1#32 k0_t5)) 1#32)) (placeOf 8#32 v14_0 (vec16 v21 v26 v31 v36 v41 v46 v51 v56 v61
          v66 v71 v76 v81 v86 v91 v96) (cls i))) v433 v437 k0_hw17 (cFirst (cls i) v433) t (prev, tup16 q) = classB i arg8 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 v433 v437 k0_hw17 t prev q from
    funext fun t => funext fun a => h t a.1 (vOf a.2)
  intro t prev q
  unfold k0_t16_body
  simp only [k0_part18_eq_skeleton, k0_part19_eq_skeleton, k0_part20_eq_skeleton, k0_part21_eq_skeleton, k0_part22_eq_skeleton, k0_part18_skel, k0_part19_skel, k0_part20_skel, k0_part21_skel, k0_part22_skel, bind_assoc, pure_bind]
  simp only [k0_t19_none, pure_bind]
  rfl

end

end Cert.KernelIdeal.Tile

end
-- ==== Proof.EqPair.lean ====
module

public import proofs.«01_k».proof.Proof.EqA
public import proofs.«01_k».proof.Proof.EqB

@[expose] public section

set_option pp.maxSteps 400

noncomputable section

namespace Cert.KernelIdeal.Tile

open Idealize.ShloMosaic Idealize.SL.Sem Cert.KernelIdeal.Gen

variable {F : FTy → Type} [FloatOps F]

/-- The rows copied for a chunk: 192 rows of the features from row `w`. -/
abbrev featAt (m : Memref sig .scVector .hbm S160000x256 .f32) (w : BitVec 32)
    (h : ∀ a, (![w.toNat, 0] : Fin 2 → Nat) a + S192x256.size a ≤ S160000x256.size a) : Memref sig .scVector .hbm S192x256 .f32 :=
  m.slice (Rect.unit (s := S160000x256) ![w.toNat, 0] S192x256.size h) (fun _ => rfl)

/-- The labels copied for a chunk: 192 of them from place `w`. -/
abbrev labAt (m : Memref sig .scVector .shared S160016 .i32) (w : BitVec 32)
    (h : ∀ a, (![w.toNat] : Fin 1 → Nat) a + S192.size a ≤ S160016.size a) : Memref sig .scVector .shared S192 .i32 :=
  m.slice (Rect.unit (s := S160016) ![w.toNat] S192.size h) (fun _ => rfl)

/-- What is done with a chunk's rows: its labels are copied, and the classes among them are taken one after the other. -/
def process {i : grid0.Coords} {α : Type} (labs : Memref sig .scVector .vmem S192 .i32) (src : Memref sig .scVector .shared S192 .i32) (sem : DmaSems sig S_)
    (hsrc : src.view.WordExact) (hlabs : labs.view.WordExact) (v2 c n : BitVec 32) (q : Nat → FVec F S16 .f32)
    (C : BitVec 32 → BitVec 32 → Prop) [dC : ∀ f l, Decidable (C f l)] (ok : ∀ f l, C f l → (run (cFirst v2 f) (cEnd v2 f l c n)).OK)
    (body : ∀ f l, C f l → Fin (run (cFirst v2 f) (cEnd v2 f l c n)).trips → BitVec 32 → (Nat → FVec F S16 .f32) → TP F i (BitVec 32 × T16 F))
    (k : T16 F → TP F i α) : TP F i α :=
  .op (.enqueueDma src (.here labs) (.dma sem.sem) hsrc hlabs ⟨Or.inl rfl, trivial⟩) fun _ =>
  .op (.waitDma2 sem.sem src labs hsrc hlabs) fun _ =>
  .op (.load labs (Rect.unit (s := S192) ![0] S16.size inb_S192_S16_0).toLoadRect (View.loadsAt_vmem h_S16)) fun x =>
  .op (.load labs (Rect.unit (s := S192) ![176] S16.size inb_S192_S16_176).toLoadRect (View.loadsAt_vmem h_S16)) fun y =>
  .op (.assume (C (lane x 0) (lane y 15)) (dC _ _)) fun hw =>
  chunkFind labs (cFirst v2 (lane x 0)) fun b z =>
    (Scf.Loop.for (run (cFirst v2 (lane x 0)) (cEnd v2 (lane x 0) (lane y 15) c n)) (ok _ _ hw.down)
      (placeOf 16#32 b (lane z) (cFirst v2 (lane x 0)), tup16 q) fun t a => body _ _ hw.down t a.1 (vOf a.2)) >>= fun a => k a.2

/-- Whether a further pair of chunks follows the pair whose first chunk is `c`. -/
def more (lo hi c : BitVec 32) : BitVec 1 :=
  Scalar.cmpi .ne (Scalar.extui (Scalar.cmpi .slt (Scalar.addi c 2#32) (Scalar.muli 2#32 (pairs lo hi)))) 0#32

/-- A choice followed by a program is the choice of what is followed by it. -/
theorem bind_dite {E : Type → Type} {α β : Type} {c : Prop} [Decidable c] (a : c → Prog E α) (b : ¬c → Prog E α) (f : α → Prog E β) :
    (dite c a b >>= f) = dite c (fun h => a h >>= f) (fun h => b h >>= f) := by
  split <;> rfl

section

variable
  (i : grid0.Coords)
  (arg2 : Memref sig .scVector .hbm S160000x256 .f32)
  (arg7 : Memref sig .scVector .vmem S192x256 .f32)
  (harg7 : arg7.IsWhole)
  (arg8 : Memref sig .scVector .vmem S192x256 .f32)
  (harg8 : arg8.IsWhole)
  (arg9 : Memref sig .scVector .vmem S192 .i32)
  (harg9 : arg9.IsWhole)
  (arg10 : Memref sig .scVector .vmem S33x256 .f32)
  (arg11 : Memref sig .scVector .vmem S33x16 .f32)
  (arg16 : Memref sig .scVector .shared S160016 .i32)
  (arg17 arg18 v544_r7 v544_r8 : DmaSems sig S_)
  (v14_0 v21 v26 v31 v36 v41 v46 v51 v56 v61 v66 v71 v76 v81 v86 v91 v96 v106_0 v113 v118 v123 v128
  v133 v138 v143 v148 v153 v158 v163 v168 v173 v178 v183 v188 : BitVec 32)
  (k0_hw5 : k0_chk5 i v14_0 v21 v26 v31 v36 v41 v46 v51 v56 v61 v66 v71 v76 v81 v86 v91 v96 v106_0
  v113 v118 v123 v128 v133 v138 v143 v148 v153 v158 v163 v168 v173 v178 v183 v188)

/-- What a trip of the loop over pairs of chunks does. -/
def pairStep (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (q : Nat → FVec F S16 .f32) : TP F i (T16 F) :=
  .op (.enqueueDma (featAt arg2 (base (placeOf 8#32 v14_0 (vec16 v21 v26 v31 v36 v41 v46 v51 v56 v61 v66 v71 v76 v81 v86 v91 v96) (cls i)) (Scalar.addi (Scalar.muli 2#32 (Scf.iv 0#32 1#32 k0_t5)) 1#32)) (k0_off25_inb i v14_0 v21 v26 v31 v36 v41 v46 v51 v56 v61 v66 v71 v76 v81 v86 v91 v96 v106_0 v113 v118 v123 v128 v133 v138 v143 v148 v153 v158 v163 v168 v173 v178 v183 v188 k0_hw5 k0_t5)) (.here arg8) (.dma arg18.sem) (View.wordExact_bits rfl) harg8.wordExact ⟨Or.inl rfl, trivial⟩) fun _ =>
  .op (.waitDma2 arg17.sem (featAt arg2 (base (placeOf 8#32 v14_0 (vec16 v21 v26 v31 v36 v41 v46 v51 v56 v61 v66 v71 v76 v81 v86 v91 v96) (cls i)) (Scalar.muli 2#32 (Scf.iv 0#32 1#32 k0_t5))) (k0_off26_inb i v14_0 v21 v26 v31 v36 v41 v46 v51 v56 v61 v66 v71 v76 v81 v86 v91 v96 v106_0 v113 v118 v123 v128 v133 v138 v143 v148 v153 v158 v163 v168 v173 v178 v183 v188 k0_hw5 k0_t5)) arg7 (View.wordExact_bits rfl) harg7.wordExact) fun _ =>
  process arg9 (labAt arg16 (base (placeOf 8#32 v14_0 (vec16 v21 v26 v31 v36 v41 v46 v51 v56 v61 v66 v71 v76 v81 v86 v91 v96) (cls i)) (Scalar.muli 2#32 (Scf.iv 0#32 1#32 k0_t5))) (k0_off27_inb i v14_0 v21 v26 v31 v36 v41 v46 v51 v56 v61 v66 v71 v76 v81 v86 v91 v96 v106_0 v113 v118 v123 v128 v133 v138 v143 v148 v153 v158 v163 v168 v173 v178 v183 v188 k0_hw5 k0_t5)) v544_r7 (View.wordExact_bits rfl) harg9.wordExact (cls i) (Scalar.muli 2#32 (Scf.iv 0#32 1#32 k0_t5)) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) q
      (C := fun f l => k0_chk8 i v14_0 v21 v26 v31 v36 v41 v46 v51 v56 v61 v66 v71 v76 v81 v86 v91 v96 v106_0 v113 v118 v123 v128 v133 v138 v143 v148 v153 v158 v163 v168 v173 v178 v183 v188 k0_t5 f l) (dC := fun f l => k0_chk8.dec i v14_0 v21 v26 v31 v36 v41 v46 v51 v56 v61 v66 v71 v76 v81 v86 v91 v96 v106_0 v113 v118 v123 v128 v133 v138 v143 v148 v153 v158 v163 v168 v173 v178 v183 v188 k0_t5 f l) (fun f l hw => k0_t7_ok i v14_0 v21 v26 v31 v36 v41 v46 v51 v56 v61 v66 v71 v76 v81 v86 v91 v96 v106_0 v113 v118 v123 v128 v133 v138 v143 v148 v153 v158 v163 v168 v173 v178 v183 v188 k0_t5 f l hw)
      (fun f l hw t prev q => classA i arg7 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 f l hw t prev q)  fun q1 =>
  let rest : TP F i (T16 F) :=
    .op (.waitDma2 arg18.sem (featAt arg2 (base (placeOf 8#32 v14_0 (vec16 v21 v26 v31 v36 v41 v46 v51 v56 v61 v66 v71 v76 v81 v86 v91 v96) (cls i)) (Scalar.addi (Scalar.muli 2#32 (Scf.iv 0#32 1#32 k0_t5)) 1#32)) (k0_off165_inb i v14_0 v21 v26 v31 v36 v41 v46 v51 v56 v61 v66 v71 v76 v81 v86 v91 v96 v106_0 v113 v118 v123 v128 v133 v138 v143 v148 v153 v158 v163 v168 v173 v178 v183 v188 k0_hw5 k0_t5)) arg8 (View.wordExact_bits rfl) harg8.wordExact) fun _ =>
    process arg9 (labAt arg16 (base (placeOf 8#32 v14_0 (vec16 v21 v26 v31 v36 v41 v46 v51 v56 v61 v66 v71 v76 v81 v86 v91 v96) (cls i)) (Scalar.addi (Scalar.muli 2#32 (Scf.iv 0#32 1#32 k0_t5)) 1#32)) (k0_off166_inb i v14_0 v21 v26 v31 v36 v41 v46 v51 v56 v61 v66 v71 v76 v81 v86 v91 v96 v106_0 v113 v118 v123 v128 v133 v138 v143 v148 v153 v158 v163 v168 v173 v178 v183 v188 k0_hw5 k0_t5)) v544_r8 (View.wordExact_bits rfl) harg9.wordExact (cls i) (Scalar.addi (Scalar.muli 2#32 (Scf.iv 0#32 1#32 k0_t5)) 1#32) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (vOf q1)
      (C := fun f l => k0_chk17 i v14_0 v21 v26 v31 v36 v41 v46 v51 v56 v61 v66 v71 v76 v81 v86 v91 v96 v106_0 v113 v118 v123 v128 v133 v138 v143 v148 v153 v158 v163 v168 v173 v178 v183 v188 k0_t5 f l) (dC := fun f l => k0_chk17.dec i v14_0 v21 v26 v31 v36 v41 v46 v51 v56 v61 v66 v71 v76 v81 v86 v91 v96 v106_0 v113 v118 v123 v128 v133 v138 v143 v148 v153 v158 v163 v168 v173 v178 v183 v188 k0_t5 f l) (fun f l hw => k0_t16_ok i v14_0 v21 v26 v31 v36 v41 v46 v51 v56 v61 v66 v71 v76 v81 v86 v91 v96 v106_0 v113 v118 v123 v128 v133 v138 v143 v148 v153 v158 v163 v168 v173 v178 v183 v188 k0_t5 f l hw)
      (fun f l hw t prev q => classB i arg8 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 f l hw t prev q)  fun q2 => pure q2
  if h : more (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) (Scalar.muli 2#32 (Scf.iv 0#32 1#32 k0_t5)) = 1#1 then
    .op (.enqueueDma (featAt arg2 (base (placeOf 8#32 v14_0 (vec16 v21 v26 v31 v36 v41 v46 v51 v56 v61 v66 v71 v76 v81 v86 v91 v96) (cls i)) (Scalar.addi (Scalar.muli 2#32 (Scf.iv 0#32 1#32 k0_t5)) 2#32)) (k0_off164_inb i v14_0 v21 v26 v31 v36 v41 v46 v51 v56 v61 v66 v71 v76 v81 v86 v91 v96 v106_0 v113 v118 v123 v128 v133 v138 v143 v148 v153 v158 v163 v168 v173 v178 v183 v188 k0_hw5 k0_t5 h)) (.here arg7) (.dma arg17.sem) (View.wordExact_bits rfl) harg7.wordExact ⟨Or.inl rfl, trivial⟩) fun _ => rest
  else rest

end

section

variable
  (i : grid0.Coords)
  (arg2 : Memref sig .scVector .hbm S160000x256 .f32)
  (harg2 : arg2.IsWhole)
  (arg3 : Memref sig .scVector .hbm S160000 .i32)
  (harg3 : arg3.IsWhole)
  (arg4 : Memref sig .scVector .hbm S1024x256 .f32)
  (harg4 : arg4.IsWhole)
  (arg5 : Memref sig .scVector .hbm S1024x16 .f32)
  (harg5 : arg5.IsWhole)
  (arg6 : Memref sig .scVector .hbm S32x16 .f32)
  (harg6 : arg6.IsWhole)
  (arg7 : Memref sig .scVector .vmem S192x256 .f32)
  (harg7 : arg7.IsWhole)
  (arg8 : Memref sig .scVector .vmem S192x256 .f32)
  (harg8 : arg8.IsWhole)
  (arg9 : Memref sig .scVector .vmem S192 .i32)
  (harg9 : arg9.IsWhole)
  (arg10 : Memref sig .scVector .vmem S33x256 .f32)
  (harg10 : arg10.IsWhole)
  (arg11 : Memref sig .scVector .vmem S33x16 .f32)
  (harg11 : arg11.IsWhole)
  (arg12 : Memref sig .scVector .vmem S16 .i32)
  (harg12 : arg12.IsWhole)
  (arg13 : Memref sig .scVector .vmem S16 .i32)
  (harg13 : arg13.IsWhole)
  (arg14 : Memref sig .scVector .vmem S16 .f32)
  (harg14 : arg14.IsWhole)
  (arg15 : Memref sig .scVector .vmem S2000 .i32)
  (harg15 : arg15.IsWhole)
  (arg16 : Memref sig .scVector .shared S160016 .i32)
  (harg16 : arg16.IsWhole)
  (arg17 arg18 v284_r0 v284_r1 v281_r2 v313_r3 v281_r4 v313_r5 v281_r6 v544_r7 v544_r8 v544_r9
  v544_r10 v281_r11 v281_r12 v281_r13 : DmaSems sig S_)
  (v2 : BitVec 32)
  (v11 : FVec F S16 .f32)
  (v14_0 v21 v26 v31 v36 v41 v46 v51 v56 v61 v66 v71 v76 v81 v86 v91 v96 v103 v106_0 v113 v118 v123
  v128 v133 v138 v143 v148 v153 v158 v163 v168 v173 v178 v183 v188 : BitVec 32)
  (k0_hw5 : k0_chk5 i v14_0 v21 v26 v31 v36 v41 v46 v51 v56 v61 v66 v71 v76 v81 v86 v91 v96 v106_0
  v113 v118 v123 v128 v133 v138 v143 v148 v153 v158 v163 v168 v173 v178 v183 v188)
  (v213 v233 v255 c0_i32_125 v256 : BitVec 32)

/-- The second of the two loops over a chunk's classes has no trips. -/
theorem k0_t11_none (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (f l : BitVec 32) {σ : Type} (ok) (s : σ) (body : Fin (k0_t11_loop i v14_0 v21 v26 v31 v36 v41 v46 v51 v56 v61 v66 v71 v76 v81 v86 v91 v96 v106_0 v113 v118 v123 v128 v133 v138 v143 v148 v153 v158 v163 v168 v173 v178 v183 v188 k0_t5 f l).trips → σ → TP F i σ) :
    Scf.Loop.for (k0_t11_loop i v14_0 v21 v26 v31 v36 v41 v46 v51 v56 v61 v66 v71 v76 v81 v86 v91 v96 v106_0 v113 v118 v123 v128 v133 v138 v143 v148 v153 v158 v163 v168 v173 v178 v183 v188 k0_t5 f l) ok s body = pure s := for_none _ _ _ (rest_trips _ _) ok s body

/-- The second of the two loops over a chunk's classes has no trips. -/
theorem k0_t20_none (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips) (f l : BitVec 32) {σ : Type} (ok) (s : σ) (body : Fin (k0_t20_loop i v14_0 v21 v26 v31 v36 v41 v46 v51 v56 v61 v66 v71 v76 v81 v86 v91 v96 v106_0 v113 v118 v123 v128 v133 v138 v143 v148 v153 v158 v163 v168 v173 v178 v183 v188 k0_t5 f l).trips → σ → TP F i σ) :
    Scf.Loop.for (k0_t20_loop i v14_0 v21 v26 v31 v36 v41 v46 v51 v56 v61 v66 v71 v76 v81 v86 v91 v96 v106_0 v113 v118 v123 v128 v133 v138 v143 v148 v153 v158 v163 v168 v173 v178 v183 v188 k0_t5 f l) ok s body = pure s := for_none _ _ _ (rest_trips _ _) ok s body

set_option maxRecDepth 100000 in
set_option maxHeartbeats 4000000 in
/-- What the program's loop over pairs runs at each trip is `pairStep`. -/
theorem k0_t5_body_eq   (e2 : v2 = cls i) (e103 : v103 = (placeOf 8#32 v14_0 (vec16 v21 v26 v31 v36 v41 v46 v51 v56 v61 v66
  v71 v76 v81 v86 v91 v96) (cls i))) (e213 : v213 = start (placeOf 8#32 v14_0 (vec16 v21 v26 v31 v36
  v41 v46 v51 v56 v61 v66 v71 v76 v81 v86 v91 v96) (cls i))) (e233 : v233 = chunks (placeOf 8#32
  v14_0 (vec16 v21 v26 v31 v36 v41 v46 v51 v56 v61 v66 v71 v76 v81 v86 v91 v96) (cls i)) (placeOf
  8#32 v106_0 (vec16 v113 v118 v123 v128 v133 v138 v143 v148 v153 v158 v163 v168 v173 v178 v183
  v188) (Scalar.addi (cls i) 32#32))) (e255 : v255 = Scalar.muli 2#32 (pairs (placeOf 8#32 v14_0
  (vec16 v21 v26 v31 v36 v41 v46 v51 v56 v61 v66 v71 v76 v81 v86 v91 v96) (cls i)) (placeOf 8#32
  v106_0 (vec16 v113 v118 v123 v128 v133 v138 v143 v148 v153 v158 v163 v168 v173 v178 v183 v188)
  (Scalar.addi (cls i) 32#32)))) (e0_i32_125 : c0_i32_125 = 0#32) :
    k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v284_r0 v284_r1 v281_r2 v313_r3 v281_r4 v313_r5 v281_r6 v544_r7 v544_r8 v544_r9 v544_r10 v281_r11 v281_r12 v281_r13 v2 v11 v14_0 v21 v26 v31 v36 v41 v46 v51 v56 v61 v66 v71 v76 v81 v86 v91 v96 v103 v106_0 v113 v118 v123 v128 v133 v138 v143 v148 v153 v158 v163 v168 v173 v178 v183 v188 k0_hw5 v213 v233 v255 c0_i32_125 v256 =
      fun t a => pairStep i arg2 arg7 harg7 arg8 harg8 arg9 harg9 arg10 arg11 arg16 arg17 arg18 v544_r7 v544_r8 v14_0 v21 v26 v31 v36 v41 v46 v51 v56 v61 v66 v71 v76 v81 v86 v91 v96 v106_0 v113 v118 v123 v128 v133 v138 v143 v148 v153 v158 v163 v168 v173 v178 v183 v188 k0_hw5 t (vOf a) := by
  subst e0_i32_125 e255 e233 e213 e103 e2
  suffices h : ∀ (t : Fin (k0_t5_loop i v14_0 v21 v26 v31 v36 v41 v46 v51 v56 v61 v66 v71 v76 v81 v86 v91 v96 v106_0 v113 v118 v123 v128 v133 v138 v143 v148 v153 v158 v163 v168 v173 v178 v183 v188).trips) (q : Nat → FVec F S16 .f32),
        k0_t5_body i arg2 harg2 arg3 harg3 arg4 harg4 arg5 harg5 arg6 harg6 arg7 harg7 arg8 harg8 arg9 harg9
          arg10 harg10 arg11 harg11 arg12 harg12 arg13 harg13 arg14 harg14 arg15 harg15 arg16 harg16 arg17
          arg18 v284_r0 v284_r1 v281_r2 v313_r3 v281_r4 v313_r5 v281_r6 v544_r7 v544_r8 v544_r9 v544_r10
          v281_r11 v281_r12 v281_r13 (cls i) v11 v14_0 v21 v26 v31 v36 v41 v46 v51 v56 v61 v66 v71 v76 v81
          v86 v91 v96 ((placeOf 8#32 v14_0 (vec16 v21 v26 v31 v36 v41 v46 v51 v56 v61 v66 v71 v76 v81 v86
          v91 v96) (cls i))) v106_0 v113 v118 v123 v128 v133 v138 v143 v148 v153 v158 v163 v168 v173 v178
          v183 v188 k0_hw5 (start (placeOf 8#32 v14_0 (vec16 v21 v26 v31 v36 v41 v46 v51 v56 v61 v66 v71 v76
          v81 v86 v91 v96) (cls i))) (chunks (placeOf 8#32 v14_0 (vec16 v21 v26 v31 v36 v41 v46 v51 v56 v61
          v66 v71 v76 v81 v86 v91 v96) (cls i)) (placeOf 8#32 v106_0 (vec16 v113 v118 v123 v128 v133 v138
          v143 v148 v153 v158 v163 v168 v173 v178 v183 v188) (Scalar.addi (cls i) 32#32))) (Scalar.muli 2#32
          (pairs (placeOf 8#32 v14_0 (vec16 v21 v26 v31 v36 v41 v46 v51 v56 v61 v66 v71 v76 v81 v86 v91 v96)
          (cls i)) (placeOf 8#32 v106_0 (vec16 v113 v118 v123 v128 v133 v138 v143 v148 v153 v158 v163 v168
          v173 v178 v183 v188) (Scalar.addi (cls i) 32#32)))) (0#32) v256 t (tup16 q) = pairStep i arg2 arg7 harg7 arg8 harg8 arg9 harg9 arg10 arg11 arg16 arg17 arg18 v544_r7 v544_r8 v14_0 v21 v26 v31 v36 v41 v46 v51 v56 v61 v66 v71 v76 v81 v86 v91 v96 v106_0 v113 v118 v123 v128 v133 v138 v143 v148 v153 v158 v163 v168 v173 v178 v183 v188 k0_hw5 t q from
    funext fun t => funext fun a => h t (vOf a)
  intro t q
  unfold k0_t5_body
  simp only [k0_part30_eq_skeleton, k0_part31_eq_skeleton, k0_part32_eq_skeleton, k0_part33_eq_skeleton, k0_part34_eq_skeleton, k0_part35_eq_skeleton, k0_part30_skel, k0_part31_skel, k0_part32_skel, k0_part33_skel, k0_part34_skel, k0_part35_skel, bind_assoc, pure_bind, bind_dite]
  simp only [k0_t11_none, k0_t20_none, pure_bind]
  simp (disch := (refine id ?_; with_unfolding_all rfl)) only [k0_t7_body_eq, k0_t16_body_eq]
  rfl

end

end Cert.KernelIdeal.Tile

end
-- ==== Proof.EqSeg.lean ====
module

public import proofs.«01_k».proof.Proof.EqPair

@[expose] public section

set_option pp.maxSteps 400

noncomputable section

namespace Cert.KernelIdeal.Tile

open Idealize.ShloMosaic Idealize.SL.Sem Cert.KernelIdeal.Gen

variable {F : FTy → Type} [FloatOps F]

/-- What the staging loop does at a trip: 2000 labels pass through the tile's buffer into the shared table. -/
def stageStep {i : grid0.Coords} (lab : Memref sig .scVector .hbm S160000 .i32) (buf : Memref sig .scVector .vmem S2000 .i32) (hbuf : buf.view.WordExact)
    (sp : Memref sig .scVector .shared S160016 .i32) (s0 s1 : DmaSems sig S_) (t : Fin k0_t1_loop.trips) : TP F i Unit :=
  .op (.enqueueDma (lab.slice (Rect.unit (s := S160000) (k0_off1 i t) S2000.size (k0_off1_inb i t)) (fun _ => rfl)) (.here buf) (.dma s0.sem) (View.wordExact_bits rfl) hbuf ⟨Or.inl rfl, trivial⟩) fun _ =>
  .op (.waitDma2 s0.sem (lab.slice (Rect.unit (s := S160000) (k0_off1 i t) S2000.size (k0_off1_inb i t)) (fun _ => rfl)) buf (View.wordExact_bits rfl) hbuf) fun _ =>
  .op (.enqueueDma buf (.here (sp.slice (Rect.unit (s := S160016) (k0_off2 i t) S2000.size (k0_off2_inb i t)) (fun _ => rfl))) (.dma s1.sem) hbuf (View.wordExact_bits rfl) ⟨Or.inl rfl, trivial⟩) fun _ =>
  .op (.waitDma2 s1.sem buf (sp.slice (Rect.unit (s := S160016) (k0_off2 i t) S2000.size (k0_off2_inb i t)) (fun _ => rfl)) hbuf (View.wordExact_bits rfl)) fun _ =>
  pure ⟨⟩

/-- What the clearing loop does at a trip: a row of each of the two tables becomes zero. -/
def zeroStep {i : grid0.Coords} (sums : Memref sig .scVector .vmem S33x256 .f32) (nums : Memref sig .scVector .vmem S33x16 .f32) (t : Fin k0_t2_loop.trips)
    (hsum : ∀ j ∈ cols, BlockIn ![33, 256] (Scf.iv 0#32 1#32 t).toNat j) (hnum : BlockIn ![33, 16] (Scf.iv 0#32 1#32 t).toNat 0) : TP F i Unit :=
  storeCols sums (Scf.iv 0#32 1#32 t).toNat hsum (fun _ => k0_pay1242 (F := F)) cols (fun _ hj => hj) <|
  .op (.load nums (Rect.unit (s := S33x16) ![(Scf.iv 0#32 1#32 t).toNat, 16 * 0] S1x16.size hnum).toLoadRect (View.loadsAt_vmem h_S1x16)) fun _ =>
  .op (.store nums (Rect.unit (s := S33x16) ![(Scf.iv 0#32 1#32 t).toNat, 16 * 0] S1x16.size hnum)
      (shapeCast S1x16 (k0_pay1242 (F := F)) shapeCasts_S16_S1x16) Finset.univ (View.stores_vmem_bits_univ h_S1x16 rfl) (.inl rfl)) fun _ =>
  pure ⟨⟩

/-- The sixteen labels from place `w` of the shared table. -/
abbrev probeAt (m : Memref sig .scVector .shared S160016 .i32) (o : Fin 1 → Nat) (h : ∀ a, o a + S16.size a ≤ S160016.size a) :
    Memref sig .scVector .shared S16 .i32 := m.slice (Rect.unit (s := S160016) o S16.size h) (fun _ => rfl)

/-- Sixteen labels are copied out of the shared table and read. -/
def probe {i : grid0.Coords} {α : Type} (sp : Memref sig .scVector .shared S160016 .i32) (buf : Memref sig .scVector .vmem S16 .i32) (hbuf : buf.view.WordExact)
    (s : DmaSems sig S_) (o : Fin 1 → Nat) (h : ∀ a, o a + S16.size a ≤ S160016.size a) (k : Vec F S16 .i32 → TP F i α) : TP F i α :=
  .op (.enqueueDma (probeAt sp o h) (.here buf) (.dma s.sem) (View.wordExact_bits rfl) hbuf ⟨Or.inl rfl, trivial⟩) fun _ =>
  .op (.waitDma2 s.sem (probeAt sp o h) buf (View.wordExact_bits rfl) hbuf) fun _ =>
  .op (.load buf (Rect.unit (s := S16) ![0] S16.size inb_S16_S16_0).toLoadRect (View.loadsAt_vmem h_S16)) fun x => k x

/-- The search among the blocks of eight labels for the first whose first label is at least `w`, and the labels there. -/
def search {i : grid0.Coords} {α : Type} (sp : Memref sig .scVector .shared S160016 .i32) (buf : Memref sig .scVector .vmem S16 .i32) (hbuf : buf.view.WordExact)
    (s s' : DmaSems sig S_) (w : BitVec 32) (k : BitVec 32 → Vec F S16 .i32 → TP F i α) : TP F i α :=
  (Scf.Loop.for k0_t3_loop k0_t3_ok (0#32, 20000#32) fun _ r =>
    .op (.assume (k0_chk1 r.1 r.2)) fun h => probe sp buf hbuf s (k0_off20 r.1 r.2) h.down fun x => pure (narrow (middle 19999#32 r) (lane x 0) w r)) >>= fun r =>
  .op (.assume (k0_chk2 r.1)) fun h => probe sp buf hbuf s' (k0_off21 r.1) h.down fun x => k r.1 x

section

variable
  (i : grid0.Coords)
  (arg2 : Memref sig .scVector .hbm S160000x256 .f32)
  (harg2 : arg2.IsWhole)
  (arg3 : Memref sig .scVector .hbm S160000 .i32)
  (harg3 : arg3.IsWhole)
  (arg4 : Memref sig .scVector .hbm S1024x256 .f32)
  (harg4 : arg4.IsWhole)
  (arg5 : Memref sig .scVector .hbm S1024x16 .f32)
  (harg5 : arg5.IsWhole)
  (arg6 : Memref sig .scVector .hbm S32x16 .f32)
  (harg6 : arg6.IsWhole)
  (arg7 : Memref sig .scVector .vmem S192x256 .f32)
  (harg7 : arg7.IsWhole)
  (arg8 : Memref sig .scVector .vmem S192x256 .f32)
  (harg8 : arg8.IsWhole)
  (arg9 : Memref sig .scVector .vmem S192 .i32)
  (harg9 : arg9.IsWhole)
  (arg10 : Memref sig .scVector .vmem S33x256 .f32)
  (harg10 : arg10.IsWhole)
  (arg11 : Memref sig .scVector .vmem S33x16 .f32)
  (harg11 : arg11.IsWhole)
  (arg12 : Memref sig .scVector .vmem S16 .i32)
  (harg12 : arg12.IsWhole)
  (arg13 : Memref sig .scVector .vmem S16 .i32)
  (harg13 : arg13.IsWhole)
  (arg14 : Memref sig .scVector .vmem S16 .f32)
  (harg14 : arg14.IsWhole)
  (arg15 : Memref sig .scVector .vmem S2000 .i32)
  (harg15 : arg15.IsWhole)
  (arg16 : Memref sig .scVector .shared S160016 .i32)
  (harg16 : arg16.IsWhole)
  (arg17 arg18 v284_r0 v284_r1 v281_r2 v313_r3 v281_r4 v313_r5 v281_r6 v544_r7 v544_r8 v544_r9
  v544_r10 v281_r11 v281_r12 v281_r13 : DmaSems sig S_)

/-- What a tile does when its rows are summed: it adds up the squares and copies its tables out. -/
def finish (q : Nat → FVec F S16 .f32) : TP F i PUnit :=
  .op (.load arg14 (Rect.unit (s := S16) ![0] S16.size inb_S16_S16_0).toLoadRect (View.loadsAt_vmem h_S16)) fun _ =>
  .op (.store arg14 (Rect.unit (s := S16) ![0] S16.size inb_S16_S16_0) (k0_pay1312 (q 0) (q 1) (q 2) (q 3) (q 4) (q 5) (q 6) (q 7) (q 8) (q 9) (q 10) (q 11) (q 12) (q 13) (q 14) (q 15)) Finset.univ (View.stores_vmem_bits_univ h_S16 rfl) (.inl rfl)) fun _ =>
  .op (.enqueueDma (arg10.slice (Rect.unit (s := S33x256) ![0, 0] S32x256.size inb_S33x256_S32x256_0_0) (fun _ => rfl)) (.here (arg4.slice (Rect.unit (s := S1024x256) (k0_off581 i) S32x256.size (k0_off581_inb i)) (fun _ => rfl))) (.dma v281_r11.sem) (View.wordExact_bits rfl) (View.wordExact_bits rfl) ⟨Or.inl rfl, trivial⟩) fun _ =>
  .op (.waitDma2 v281_r11.sem (arg10.slice (Rect.unit (s := S33x256) ![0, 0] S32x256.size inb_S33x256_S32x256_0_0) (fun _ => rfl)) (arg4.slice (Rect.unit (s := S1024x256) (k0_off581 i) S32x256.size (k0_off581_inb i)) (fun _ => rfl)) (View.wordExact_bits rfl) (View.wordExact_bits rfl)) fun _ =>
  .op (.enqueueDma (arg11.slice (Rect.unit (s := S33x16) ![0, 0] S32x16.size inb_S33x16_S32x16_0_0) (fun _ => rfl)) (.here (arg5.slice (Rect.unit (s := S1024x16) (k0_off582 i) S32x16.size (k0_off582_inb i)) (fun _ => rfl))) (.dma v281_r12.sem) (View.wordExact_bits rfl) (View.wordExact_bits rfl) ⟨Or.inl rfl, trivial⟩) fun _ =>
  .op (.waitDma2 v281_r12.sem (arg11.slice (Rect.unit (s := S33x16) ![0, 0] S32x16.size inb_S33x16_S32x16_0_0) (fun _ => rfl)) (arg5.slice (Rect.unit (s := S1024x16) (k0_off582 i) S32x16.size (k0_off582_inb i)) (fun _ => rfl)) (View.wordExact_bits rfl) (View.wordExact_bits rfl)) fun _ =>
  .op (.enqueueDma arg14 (.here ((arg6.slice (Rect.unit (s := S32x16) (k0_off583 i) S1x16.size (k0_off583_inb i)) (fun _ => rfl)).squeeze S16 squeezes_S1x16_S16)) (.dma v281_r13.sem) harg14.wordExact ((View.wordExact_bits rfl).reshape _ _) ⟨Or.inl rfl, trivial⟩) fun _ =>
  .op (.waitDma2 v281_r13.sem arg14 ((arg6.slice (Rect.unit (s := S32x16) (k0_off583 i) S1x16.size (k0_off583_inb i)) (fun _ => rfl)).squeeze S16 squeezes_S1x16_S16) harg14.wordExact ((View.wordExact_bits rfl).reshape _ _)) fun _ =>
  pure ⟨⟩

/-- What a tile does when the labels lie in the shared table: it looks for its rows, sums them pair of chunks by pair of chunks, and copies its tables out. -/
def work : TP F i PUnit :=
  search arg16 arg12 harg12.wordExact v313_r3 v281_r4 (cls i) fun b x =>
  search arg16 arg12 harg12.wordExact v313_r5 v281_r6 (Scalar.addi (cls i) 32#32) fun c y =>
  .op (.assume (k0_chk5 i b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15)) (k0_chk5.dec i b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15))) fun hw =>
  let rest : TP F i PUnit :=
    (Scf.Loop.for (k0_t5_loop i b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15)) (k0_t5_ok i b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15) hw.down) (tup16 fun _ => k0_pay1242 (F := F)) fun t a => pairStep i arg2 arg7 harg7 arg8 harg8 arg9 harg9 arg10 arg11 arg16 arg17 arg18 v544_r7 v544_r8 b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15) hw.down t (vOf a)) >>= fun a =>
    finish i arg4 arg5 arg6 arg10 arg11 arg14 harg14 v281_r11 v281_r12 v281_r13 (vOf a)
  if h : k0_cond2 i b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15) = 1#1 then
    .op (.enqueueDma (featAt arg2 (Scalar.minsi (Scalar.addi (start (placeOf 8#32 b (vec16 (lane x 0) (lane x 1) (lane x 2) (lane x 3) (lane x 4) (lane x 5) (lane x 6) (lane x 7) (lane x 8) (lane x 9) (lane x 10) (lane x 11) (lane x 12) (lane x 13) (lane x 14) (lane x 15)) (cls i))) 0#32) 159808#32) (k0_off24_inb i b (lane x 0) (lane x 1) (lane x 2) (lane x 3) (lane x 4) (lane x 5) (lane x 6) (lane x 7) (lane x 8) (lane x 9) (lane x 10) (lane x 11) (lane x 12) (lane x 13) (lane x 14) (lane x 15) c (lane y 0) (lane y 1) (lane y 2) (lane y 3) (lane y 4) (lane y 5) (lane y 6) (lane y 7) (lane y 8) (lane y 9) (lane y 10) (lane y 11) (lane y 12) (lane y 13) (lane y 14) (lane y 15) hw.down h)) (.here arg7) (.dma arg17.sem) (View.wordExact_bits rfl) harg7.wordExact ⟨Or.inl rfl, trivial⟩) fun _ => rest
  else rest

/-- The whole task of a tile. -/
def segment : TP F i PUnit :=
  (Scf.Loop.for k0_t1_loop k0_t1_ok ⟨⟩ fun t _ => stageStep arg3 arg15 harg15.wordExact arg16 v284_r0 v284_r1 t) >>= fun _ =>
  .op (.load arg13 (Rect.unit (s := S16) ![0] S16.size inb_S16_S16_0).toLoadRect (View.loadsAt_vmem h_S16)) fun _ =>
  .op (.store arg13 (Rect.unit (s := S16) ![0] S16.size inb_S16_S16_0) k0_pay1241 Finset.univ (View.stores_vmem_bits_univ h_S16 rfl) (.inl rfl)) fun _ =>
  let rest : TP F i PUnit :=
    (Scf.Loop.for k0_t2_loop k0_t2_ok ⟨⟩ fun t _ => zeroStep arg10 arg11 t (all16 (k0_off3_inb t) (k0_off4_inb t) (k0_off5_inb t) (k0_off6_inb t) (k0_off7_inb t) (k0_off8_inb t) (k0_off9_inb t) (k0_off10_inb t) (k0_off11_inb t) (k0_off12_inb t) (k0_off13_inb t) (k0_off14_inb t) (k0_off15_inb t) (k0_off16_inb t) (k0_off17_inb t) (k0_off18_inb t)) (k0_off19_inb t)) >>= fun _ =>
    SparseCore.subcoreBarrier sc_bar0 (grid0.bound 1) hsub0 >>= fun _ => work i arg2 arg4 arg5 arg6 arg7 harg7 arg8 harg8 arg9 harg9 arg10 arg11 arg12 harg12 arg14 harg14 arg16 arg17 arg18 v313_r3 v281_r4 v313_r5 v281_r6 v544_r7 v544_r8 v281_r11 v281_r12 v281_r13
  if h : Scalar.cmpi .ne (Scalar.extui (Scalar.cmpi .eq (BitVec.ofNat 32 (i 1).val) 0#32)) 0#32 = 1#1 then
    .op (.enqueueDma arg13 (.here (probeAt arg16 ![160000] inb_S160016_S16_160000)) (.dma v281_r2.sem) harg13.wordExact (View.wordExact_bits rfl) ⟨Or.inl rfl, trivial⟩) fun _ =>
    .op (.waitDma2 v281_r2.sem arg13 (probeAt arg16 ![160000] inb_S160016_S16_160000) harg13.wordExact (View.wordExact_bits rfl)) fun _ => rest
  else rest

end

section

variable
  (i : grid0.Coords)
  (arg2 : Memref sig .scVector .hbm S160000x256 .f32)
  (harg2 : arg2.IsWhole)
  (arg3 : Memref sig .scVector .hbm S160000 .i32)
  (harg3 : arg3.IsWhole)
  (arg4 : Memref sig .scVector .hbm S1024x256 .f32)
  (harg4 : arg4.IsWhole)
  (arg5 : Memref sig .scVector .hbm S1024x16 .f32)
  (harg5 : arg5.IsWhole)
  (arg6 : Memref sig .scVector .hbm S32x16 .f32)
  (harg6 : arg6.IsWhole)
  (arg7 : Memref sig .scVector .vmem S192x256 .f32)
  (harg7 : arg7.IsWhole)
  (arg8 : Memref sig .scVector .vmem S192x256 .f32)
  (harg8 : arg8.IsWhole)
  (arg9 : Memref sig .scVector .vmem S192 .i32)
  (harg9 : arg9.IsWhole)
  (arg10 : Memref sig .scVector .vmem S33x256 .f32)
  (harg10 : arg10.IsWhole)
  (arg11 : Memref sig .scVector .vmem S33x16 .f32)
  (harg11 : arg11.IsWhole)
  (arg12 : Memref sig .scVector .vmem S16 .i32)
  (harg12 : arg12.IsWhole)
  (arg13 : Memref sig .scVector .vmem S16 .i32)
  (harg13 : arg13.IsWhole)
  (arg14 : Memref sig .scVector .vmem S16 .f32)
  (harg14 : arg14.IsWhole)
  (arg15 : Memref sig .scVector .vmem S2000 .i32)
  (harg15 : arg15.IsWhole)
  (arg16 : Memref sig .scVector .shared S160016 .i32)
  (harg16 : arg16.IsWhole)
  (arg17 arg18 v284_r0 v284_r1 v281_r2 v313_r3 v281_r4 v313_r5 v281_r6 v544_r7 v544_r8 v544_r9
  v544_r10 v281_r11 v281_r12 v281_r13 : DmaSems sig S_)

/-- The second of the two loops over pairs of chunks has no trips. -/
theorem k0_t24_none (b l0 l1 l2 l3 l4 l5 l6 l7 l8 l9 l10 l11 l12 l13 l14 l15 c m0 m1 m2 m3 m4 m5 m6 m7 m8 m9 m10 m11 m12 m13 m14 m15 : BitVec 32) {σ : Type} (ok) (s : σ) (body : Fin (k0_t24_loop i b l0 l1 l2 l3 l4 l5 l6 l7 l8 l9 l10 l11 l12 l13 l14 l15 c m0 m1 m2 m3 m4 m5 m6 m7 m8 m9 m10 m11 m12 m13 m14 m15).trips → σ → TP F i σ) :
    Scf.Loop.for (k0_t24_loop i b l0 l1 l2 l3 l4 l5 l6 l7 l8 l9 l10 l11 l12 l13 l14 l15 c m0 m1 m2 m3 m4 m5 m6 m7 m8 m9 m10 m11 m12 m13 m14 m15) ok s body = pure s := for_none _ _ _ (rest_trips _ _) ok s body

set_option maxRecDepth 100000 in
set_option maxHeartbeats 4000000 in
/-- The kernel's text, as `segment` says it. -/
theorem seg_eq : cc0_seg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v284_r0 v284_r1 v281_r2 v313_r3 v281_r4 v313_r5 v281_r6 v544_r7 v544_r8 v544_r9 v544_r10 v281_r11 v281_r12 v281_r13 = segment (F := F) i arg2 arg3 arg4 arg5 arg6 arg7 harg7 arg8 harg8 arg9 harg9 arg10 arg11 arg12 harg12 arg13 harg13 arg14 harg14 arg15 harg15 arg16 arg17 arg18 v284_r0 v284_r1 v281_r2 v313_r3 v281_r4 v313_r5 v281_r6 v544_r7 v544_r8 v281_r11 v281_r12 v281_r13 := by
  rw [cc0_seg_eq_skeleton]
  unfold cc0_seg_skel
  simp only [k0_part70_eq_skeleton, k0_part71_eq_skeleton, k0_part72_eq_skeleton, k0_part73_eq_skeleton, k0_part74_eq_skeleton, k0_part75_eq_skeleton, k0_part76_eq_skeleton, k0_part77_eq_skeleton, k0_part70_skel, k0_part71_skel, k0_part72_skel, k0_part73_skel, k0_part74_skel, k0_part75_skel, k0_part76_skel, k0_part77_skel, bind_assoc, pure_bind, bind_dite]
  simp only [k0_t24_none, pure_bind]
  simp (disch := (refine id ?_; with_unfolding_all rfl)) only [k0_t5_body_eq]
  rfl

end

end Cert.KernelIdeal.Tile

end
-- ==== Proof.Setup.lean ====
module

public import proofs.«01_k».proof.Proof.EqSeg
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

abbrev UH : Type := URounds (GSem nD τ sig) ℕ
abbrev UB : Type := URounds (GSem nD τ sig) ℕ
abbrev UP : Type := URounds (GSem nD τ sig) Unit
/-- The algebra: the launch's rounds, the barrier's, the pipeline's, and the transfers' counters. -/
abbrev UU : Type := UH × (UB × (UP × Counters))
abbrev 𝒱₀ : Variants := Variants.none

variable {F : FTy → Type}

local notation "𝕄" => MT nD τ sig (HIx 1) (Elt F) ℕ UU ℕ

/-- The thread of a tile. -/
abbrev thr (d : Dev nD) (i : grid0.Coords) : Thread nD τ := (d, tile i)

/-- The counters of the transfers. -/
abbrev EC : UEmb Counters (MT nD τ sig (HIx 1) (Elt F) ℕ UU ℕ) := countersEmb

/-- A tile's view of the buffer `m` reads `G`, and the tile holds the share `q` of it. -/
def holds (d : Dev nD) (i : grid0.Coords) {sp : Space} {s : Shape} {e : EltTy} (m : Memref sig .scVector sp s e) (q : PosShare TreeShare)
    (G : s.Idx → Elt F e) : sProp 𝕄 :=
  iprop(∃ f : Buf (Elt F) (m.view.loc (thr d i)), ⌜m.view.read (Elt F) f = G⌝ ∗ m.view.loc (thr d i) ↦[m.view.set]{q} f)

/-- What a tile owes, beside what it waited for, and that it may wait. -/
def debt (d : Dev nD) (i : grid0.Coords) (O : CellTallies nD τ sig (HIx 1)) (W : Waits sig (HIx 1)) : sProp 𝕄 :=
  iprop(MayWaits (thr d i) (none : HIx 1) O ∗ ∃ W', ⌜∀ p ∈ W', p ∈ W ∨ p.2 = none⌝ ∗ owes (thr d i) O W')

/-- The tile's semaphore is at zero. -/
abbrev idle (d : Dev nD) (i : grid0.Coords) (s : DmaSems sig S_) : sProp 𝕄 := semVal ((thr d i), SemLoc.dma s.sem) 0

variable [FloatOps F]

/-- A tile's program, run by the logic. -/
abbrev WP {α : Type} (d : Dev nD) (i : grid0.Coords) (p : TP F i α) (Q : α → sProp 𝕄) : sProp 𝕄 :=
  wp frame (wpE (defs₀ (F := F)) 𝒱₀ (thr d i) none) Set.univ p Q

variable {d : Dev nD} {i : grid0.Coords} {α : Type} {Q : α → sProp (MT nD τ sig (HIx 1) (Elt F) ℕ UU ℕ)} {O : CellTallies nD τ sig (HIx 1)} {W : Waits sig (HIx 1)}

/-- A load reads what the buffer holds. -/
theorem wp_get {cs : CoreSpace} {s : Shape} {e : EltTy} {m : Memref sig .scVector cs s e} {r : LoadRect s} {hl : m.view.LoadsAt r}
    {k : (r.shape.Idx → Elt F e) → TP F i α} {q : PosShare TreeShare} {G : s.Idx → Elt F e} :
    holds d i m q G ⊢ iprop((holds d i m q G -∗ WP d i (k fun x => G (r.idx x)) Q) -∗ WP d i (.op (.load m r hl) k) Q) := by
  unfold holds
  iintro ⟨%f, %hf, H⟩ Hk
  iapply (wp_load (defs := defs₀ (F := F)) 𝒱₀ (thr d i) none Set.univ (m := m) (k := k) (View.setOn_subset_set _ _)) $$ H
  iintro H
  have e : m.view.readAt (Elt F) r f = fun x => G (r.idx x) := by funext x; rw [View.readAt_apply, hf]
  rw [e]
  iapply Hk
  iexists f; isplitr; · ipureintro; exact hf
  iexact H

/-- What a table holds after a store through a rectangle. -/
def over {s : Shape} {A : Type} (G : s.Idx → A) (r : Rect s) (w : r.shape.Idx → A) : s.Idx → A := by
  classical exact fun y => if h : ∃ x, r.emb x = y then w h.choose else G y

theorem over_emb {s : Shape} {A : Type} (G : s.Idx → A) (r : Rect s) (w : r.shape.Idx → A) (x : r.shape.Idx) : over G r w (r.emb x) = w x := by
  classical
  have h : ∃ x', r.emb x' = r.emb x := ⟨x, rfl⟩
  unfold over
  rw [dif_pos h, r.emb.injective h.choose_spec]

theorem over_of {s : Shape} {A : Type} (G : s.Idx → A) (r : Rect s) (w : r.shape.Idx → A) (y : s.Idx) (h : ∀ x, r.emb x ≠ y) : over G r w y = G y := by
  classical
  unfold over
  rw [dif_neg fun ⟨x, hx⟩ => h x hx]

/-- A store replaces the rectangle. -/
theorem wp_put {cs : CoreSpace} {s : Shape} {e : EltTy} {m : Memref sig .scVector cs s e} {r : Rect s} {w : r.shape.Idx → Elt F e}
    {hx : (m.access r).Stores Finset.univ} {hm} {k : PUnit → TP F i α} {G : s.Idx → Elt F e} :
    holds d i m fullShare G ⊢ iprop((holds d i m fullShare (over G r w) -∗ WP d i (k ⟨⟩) Q) -∗ WP d i (.op (.store m r w Finset.univ hx hm) k) Q) := by
  unfold holds
  iintro ⟨%f, %hf, H⟩ Hk
  iapply (wp_store (defs := defs₀ (F := F)) 𝒱₀ (thr d i) none Set.univ (m := m) (r := r) (w := w) (k := k) (View.set_slice_subset _ _)) $$ H
  iintro H
  iapply Hk
  iexists ((m.access r).write (Elt F) f w Finset.univ)
  isplitr
  · ipureintro
    funext y
    by_cases h : ∃ x, r.emb x = y
    · obtain ⟨x, rfl⟩ := h
      rw [over_emb]; exact View.read_slice_write_emb (v := m.view) r f w (Finset.mem_univ x)
    · rw [over_of _ _ _ _ fun x hx => h ⟨x, hx⟩, ← hf]
      exact View.read_slice_write_of_not_mem (v := m.view) r f w _ (fun hy => by
        obtain ⟨x, -, hx⟩ := Finset.mem_map.mp hy; exact h ⟨x, hx⟩)
  iexact H

/-- What lands with a transfer may be more. -/
theorem Flight_frame {sm : SemLoc sig} {N : ℕ} {D P : sProp 𝕄} :
    iprop(Flight (EC (F := F)) (thr d i) sm (none : HIx 1) N D ∗ P) ⊢ Flight (EC (F := F)) (thr d i) sm (none : HIx 1) N iprop(D ∗ P) := by
  unfold Flight
  iintro ⟨⟨⟨%R, HR, %hcap, %hpeek⟩, Hcred⟩, HP⟩
  isplitl [HR HP]
  · iexists iprop(R ∗ P)
    isplitl [HR HP]; · isplitl [HR] <;> iassumption
    isplit
    · ipureintro; intro K
      iintro ⟨⟨HR, HP⟩, HK⟩
      iapply (hcap _)
      isplitl [HR]; · iexact HR
      iintro ⟨Hv, HD⟩
      iapply HK
      isplitl [Hv]; · iexact Hv
      isplitl [HD] <;> iassumption
    · ipureintro; intro K
      iintro ⟨⟨HR, HP⟩, HK⟩
      iapply (hpeek _)
      isplitl [HR]; · iexact HR
      iintro HR
      iapply HK
      isplitl [HR] <;> iassumption
  iexact Hcred

/-- A part of a buffer, and the rest of it for when the part comes back. -/
theorem holds_slice {sp : Space} {s : Shape} {e : EltTy} (m : Memref sig .scVector sp s e) (r : Rect s) (hr : ∀ a, r.stride a = 1) (q : PosShare TreeShare)
    (G : s.Idx → Elt F e) :
    (holds d i m q G : sProp 𝕄) ⊢ iprop(holds d i (m.slice r hr) q (fun x => G (r.emb x)) ∗ (holds d i (m.slice r hr) q (fun x => G (r.emb x)) -∗ holds d i m q G)) := by
  unfold holds
  iintro ⟨%f, %hf, H⟩
  have hsub : (m.view.slice r).set ⊆ m.view.set := View.set_slice_subset _ _
  ihave H := (pointsTo_split_subset hsub).1 $$ H
  icases H with ⟨H1, H2⟩
  isplitl [H1]
  · iexists f; isplitr; · ipureintro; funext x; rw [← hf]; rfl
    iexact H1
  iintro ⟨%g, %hg, H1⟩
  iexists ((m.view.slice r).set.piecewise g f)
  isplitr
  · ipureintro
    rw [← hf]
    refine View.read_congr fun y _ => ?_
    by_cases hy : y ∈ (m.view.slice r).set
    · rw [Finset.piecewise_eq_of_mem _ _ _ hy]
      obtain ⟨x, -, rfl⟩ := Finset.mem_map.mp hy
      have := congrFun hg x
      rw [← hf] at this
      simp only [View.read_apply] at this
      exact (cast_inj _).mp this
    · rw [Finset.piecewise_eq_of_notMem _ _ _ hy]
  iapply (pointsTo_join_subset hsub)
  isplitl [H1] <;> iassumption

/-- A copy begins. -/
theorem wp_begin {sp sp' : Space} {s : Shape} {e : EltTy} {src : Memref sig .scVector sp s e} {dst : Memref sig .scVector sp' s e} {sem : DmaSems sig S_}
    {hsrc : src.view.WordExact} {hdst : dst.view.WordExact} {hsem} {k : PUnit → TP F i α} {q : PosShare TreeShare} {A B : s.Idx → Elt F e} (h0 : 0 < s.numel) :
    iprop(holds d i src q A ∗ holds d i dst fullShare B ∗ idle d i sem) ⊢
      iprop((Flight (EC (F := F)) (thr d i) (.dma sem.sem) (none : HIx 1) dst.view.dmaCredit iprop(holds d i dst fullShare A ∗ holds d i src q A) -∗ WP d i (k ⟨⟩) Q)
        -∗ WP d i (.op (.enqueueDma src (.here dst) (.dma sem.sem) hsrc hdst hsem) k) Q) := by
  unfold holds
  iintro ⟨⟨%f, %hf, H⟩, ⟨%g, %hg, H'⟩, Hs⟩ Hk
  iapply (Transfers.wp_dmaLocal (defs := defs₀ (F := F)) (EC (F := F)) 𝒱₀ (thr d i) none (src := src) (dst := dst) (via := .same) (k := k)
    (none : HIx 1) dst.view.dmaCredit rfl (View.dmaCredit_pos _ h0) subset_rfl) $$ [H H' Hs]
  · isplitl [H]; · iexact H
    isplitl [H'] <;> iassumption
  iintro HF
  iapply Hk
  iapply (Transfers.Flight_mono (EC (F := F)) (thr d i) (?_ : _ ⊢ _)) $$ HF
  iintro ⟨H1, H2⟩
  isplitl [H1]
  · iexists _
    isplitr
    swap
    · iexact H1
    · ipureintro
      rw [View.read_write_univ]; exact hf
  iexists f; isplitr; · ipureintro; exact hf
  iexact H2

/-- A copy is waited for. -/
theorem wp_end {sp sp' : Space} {s s' : Shape} {e e' : EltTy} {src : Memref sig .scVector sp s' e'} {dst : Memref sig .scVector sp' s e} {sem : DmaSems sig S_}
    {hsrc : src.view.WordExact} {hdst : dst.view.WordExact} {k : PUnit → TP F i α} {N : ℕ} {D : sProp 𝕄} (hN : dst.view.dmaCredit = N) :
    iprop(Flight (EC (F := F)) (thr d i) (.dma sem.sem) (none : HIx 1) N D ∗ debt d i O W) ⊢
      iprop((iprop(D ∗ idle d i sem ∗ debt d i O W) -∗ WP d i (k ⟨⟩) Q)
        -∗ WP d i (.op (.waitDma2 sem.sem src dst hsrc hdst) k) Q) := by
  unfold debt
  iintro ⟨HF, #Hmw, %W', %hW, HO⟩ Hk
  iapply (Transfers.wp_waitLocalO (defs := defs₀ (F := F)) (EC (F := F)) 𝒱₀ (thr d i) none (srcw := src) (dstw := dst) (k := k) (none : HIx 1) hN) $$ [HF HO]
  · isplitl [HF]; · iexact HF
    isplitl [HO]; · iexact HO
    iapply (MayWaits.elim (SemLoc.dma sem.sem)); iexact Hmw
  iintro ⟨HD, Hs, HO⟩
  iapply Hk
  isplitl [HD]; · iexact HD
  isplitl [Hs]; · iexact Hs
  isplitr; · iexact Hmw
  iexists _; isplitr
  swap; · iexact HO
  ipureintro; intro p hp
  rcases Finset.mem_insert.mp hp with hp | hp
  · exact .inr (hp ▸ rfl)
  · exact hW p hp

/-- A copy begins, and is waited for at once. -/
theorem wp_copy {sp sp' : Space} {s : Shape} {e : EltTy} {src : Memref sig .scVector sp s e} {dst : Memref sig .scVector sp' s e} {sem : DmaSems sig S_}
    {hsrc hsrc' : src.view.WordExact} {hdst hdst' : dst.view.WordExact} {hsem} {k : PUnit → TP F i α} {q : PosShare TreeShare} {A B : s.Idx → Elt F e} (h0 : 0 < s.numel) :
    iprop(holds d i src q A ∗ holds d i dst fullShare B ∗ idle d i sem ∗ debt d i O W) ⊢
      iprop((iprop(holds d i src q A ∗ holds d i dst fullShare A ∗ idle d i sem ∗ debt d i O W) -∗ WP d i (k ⟨⟩) Q)
        -∗ WP d i (.op (.enqueueDma src (.here dst) (.dma sem.sem) hsrc hdst hsem) fun _ => .op (.waitDma2 sem.sem src dst hsrc' hdst') k) Q) := by
  iintro ⟨H, H', Hs, HO⟩ Hk
  iapply (wp_begin h0) $$ [H H' Hs]
  · isplitl [H]; · iexact H
    isplitl [H'] <;> iassumption
  iintro HF
  iapply (wp_end rfl) $$ [HF HO]
  · isplitl [HF] <;> iassumption
  iintro ⟨⟨H', H⟩, Hs, HO⟩
  iapply Hk
  isplitl [H]; · iexact H
  isplitl [H']; · iexact H'
  isplitl [Hs] <;> iassumption

end Cert.KernelIdeal.Tile

end
-- ==== Proof.Words.lean ====
module

public import proofs.«01_k».proof.Proof.Clean
public import Idealize.ShloMosaic.Lib.SortNet.Extract
public import Mathlib.Tactic.Linarith

@[expose] public section

noncomputable section

namespace Cert.KernelIdeal.Tile

open Idealize.ShloMosaic Idealize.SL.Sem Cert.KernelIdeal.Gen

/-! ## The kernel's words as integers -/

theorem toInt_bmod {z : Int} (h : -2147483648 ≤ z) (h' : z < 2147483648) : z.bmod (2 ^ 32) = z := by
  rw [Int.bmod_eq_of_le] <;> omega

theorem toInt_addi (x y : BitVec 32) (h : -2147483648 ≤ x.toInt + y.toInt) (h' : x.toInt + y.toInt < 2147483648) :
    (Scalar.addi x y).toInt = x.toInt + y.toInt := by
  show (x + y).toInt = _
  rw [BitVec.toInt_add, toInt_bmod h h']

theorem toInt_subi (x y : BitVec 32) (h : -2147483648 ≤ x.toInt - y.toInt) (h' : x.toInt - y.toInt < 2147483648) :
    (Scalar.subi x y).toInt = x.toInt - y.toInt := by
  show (x - y).toInt = _
  rw [BitVec.toInt_sub, toInt_bmod h h']

theorem toInt_muli (x y : BitVec 32) (h : -2147483648 ≤ x.toInt * y.toInt) (h' : x.toInt * y.toInt < 2147483648) :
    (Scalar.muli x y).toInt = x.toInt * y.toInt := by
  show (x * y).toInt = _
  rw [BitVec.toInt_mul, toInt_bmod h h']

theorem toInt_max (x y : BitVec 32) : (Scalar.maxsi x y).toInt = max x.toInt y.toInt := SortNet.toInt_maxsi x y
theorem toInt_min (x y : BitVec 32) : (Scalar.minsi x y).toInt = min x.toInt y.toInt := SortNet.toInt_minsi x y

theorem toInt_range (x : BitVec 32) : -2147483648 ≤ x.toInt ∧ x.toInt < 2147483648 := by
  have h1 := BitVec.le_toInt x
  have h2 := BitVec.toInt_lt (x := x)
  simp at h1 h2
  omega

/-- A word that is not negative is the number it reads. -/
theorem toNat_of_nonneg (x : BitVec 32) (h : 0 ≤ x.toInt) : (x.toNat : Int) = x.toInt := by
  have := BitVec.toInt_eq_toNat_cond x
  have := x.isLt
  split at * <;> omega

/-- A choice between two values by a comparison. -/
theorem select_cmp {α : Type} (p : CmpIPredicate) (x y : BitVec 32) (a b : α) :
    Scalar.select (Scalar.cmpi p x y) a b = if Scalar.cmpi p x y = 1#1 then a else b := rfl

theorem ofBool_one (b : Bool) : (BitVec.ofBool b = 1#1) ↔ b = true := by cases b <;> decide
theorem ofBool_ne (b : Bool) : (BitVec.ofBool b = 0#1) ↔ b = false := by cases b <;> decide

theorem cmp_slt (x y : BitVec 32) : Scalar.cmpi .slt x y = BitVec.ofBool (decide (x.toInt < y.toInt)) := rfl
theorem cmp_sgt (x y : BitVec 32) : Scalar.cmpi .sgt x y = BitVec.ofBool (decide (y.toInt < x.toInt)) := rfl
theorem cmp_sge (x y : BitVec 32) : Scalar.cmpi .sge x y = BitVec.ofBool (decide (y.toInt ≤ x.toInt)) := rfl

theorem cmp_eq (x y : BitVec 32) : Scalar.cmpi .eq x y = BitVec.ofBool (decide (x.toInt = y.toInt)) := by
  show BitVec.ofBool (x == y) = _
  congr 1
  by_cases h : x = y
  · subst h; simp
  · have : x.toInt ≠ y.toInt := fun e => h (BitVec.eq_of_toInt_eq e)
    simp [h, this]
theorem cmp_ne (x y : BitVec 32) : Scalar.cmpi .ne x y = BitVec.ofBool (decide (x.toInt ≠ y.toInt)) := by
  show BitVec.ofBool (x != y) = _
  congr 1
  by_cases h : x = y
  · subst h; simp
  · have : x.toInt ≠ y.toInt := fun e => h (BitVec.eq_of_toInt_eq e)
    simp [h, this]

theorem toInt_extui (b : Bool) : (Scalar.extui (BitVec.ofBool b)).toInt = if b then 1 else 0 := by cases b <;> decide

/-- A test widened and compared with zero is the test. -/
theorem test_widened (b : BitVec 1) : Scalar.cmpi .ne (Scalar.extui b) 0#32 = b := by revert b; decide

/-- The signed quotient and remainder by a positive word are the truncated ones. -/
theorem toInt_divsi (x d : BitVec 32) (hd : 0 < d.toInt) : (Scalar.divsi x d).toInt = x.toInt.tdiv d.toInt := by
  have hc : ¬ IntOp.SDivCorner x d := fun h => h.elim (fun h => by rw [h] at hd; exact absurd hd (by decide)) fun h => by
    rw [h.2] at hd; exact absurd hd (by decide)
  have e : Scalar.divsi x d = x.sdiv d := if_neg hc
  rw [e, BitVec.toInt_sdiv]
  have := toInt_range x
  have h1 := Int.natAbs_tdiv_le_natAbs x.toInt d.toInt
  by_cases h : 0 ≤ x.toInt
  · have := Int.tdiv_nonneg h hd.le
    exact toInt_bmod (by omega) (by omega)
  · have : x.toInt.tdiv d.toInt ≤ 0 := by
      have := Int.tdiv_nonneg (a := -x.toInt) (b := d.toInt) (by omega) hd.le
      rw [Int.neg_tdiv] at this; omega
    exact toInt_bmod (by omega) (by omega)

theorem toInt_remsi (x d : BitVec 32) (hd : 0 < d.toInt) : (Scalar.remsi x d).toInt = x.toInt.tmod d.toInt := by
  have hc : ¬ IntOp.SDivCorner x d := fun h => h.elim (fun h => by rw [h] at hd; exact absurd hd (by decide)) fun h => by
    rw [h.2] at hd; exact absurd hd (by decide)
  have e : Scalar.remsi x d = x.srem d := if_neg hc
  rw [e, BitVec.toInt_srem]

/-- The kernel's quotient by a positive word is the quotient rounded down. -/
theorem toInt_fdiv (x d : BitVec 32) (hd : 0 < d.toInt) : (fdiv x d).toInt = x.toInt / d.toInt := by
  have hx := toInt_range x
  have hq := toInt_divsi x d hd
  have hr := toInt_remsi x d hd
  have hm := Int.tdiv_mul_add_tmod x.toInt d.toInt
  unfold fdiv
  rw [cmp_sgt, cmp_slt, cmp_sgt, cmp_slt]
  rw [show decide ((0#32 : BitVec 32).toInt < d.toInt) = true from decide_eq_true hd,
    show decide (d.toInt < (0#32 : BitVec 32).toInt) = false from decide_eq_false (by show ¬ d.toInt < 0; omega)]
  generalize hq' : Scalar.divsi x d = q at *
  generalize hr' : Scalar.remsi x d = r at *
  rw [cmp_ne r]
  rw [show (0#32 : BitVec 32).toInt = 0 from rfl]
  have hqr := toInt_range q
  rcases lt_trichotomy x.toInt 0 with h | h | h
  · rw [show decide (0 < x.toInt) = false from decide_eq_false (by omega), show decide (x.toInt < 0) = true from decide_eq_true h]
    by_cases hz : r.toInt = 0
    · rw [show decide (r.toInt ≠ 0) = false from decide_eq_false (by omega)]
      show q.toInt = _
      rw [hq]
      have : d.toInt ∣ x.toInt := Int.dvd_of_tmod_eq_zero (by omega)
      exact Int.tdiv_eq_ediv_of_dvd this
    · rw [show decide (r.toInt ≠ 0) = true from decide_eq_true hz]
      show (Scalar.subi q 1#32).toInt = _
      have hq0 : q.toInt ≤ 0 := by
        rw [hq]
        have := Int.tdiv_nonneg (a := -x.toInt) (b := d.toInt) (by omega) hd.le
        rw [Int.neg_tdiv] at this; omega
      have hqm : -2147483648 < q.toInt := by
        by_contra hc
        have hqe : q.toInt = -2147483648 := by omega
        rw [← hq, ← hr, hqe] at hm
        have hrb : r.toInt ≤ 0 := by
          rw [hr]
          have := Int.tmod_nonneg (a := -x.toInt) d.toInt (by omega)
          rw [Int.neg_tmod] at this; omega
        omega
      rw [toInt_subi _ _ (by show _ ≤ q.toInt - 1; omega) (by show q.toInt - 1 < _; omega)]
      show q.toInt - 1 = _
      have hrl : -d.toInt < r.toInt ∧ r.toInt < 0 := by
        rw [hr]
        have h1 := Int.tmod_nonneg (a := -x.toInt) d.toInt (by omega)
        have h2 := Int.tmod_lt_of_pos (-x.toInt) hd
        rw [Int.neg_tmod] at h1 h2
        rw [hr] at hz
        omega
      symm
      rw [Int.ediv_eq_iff_of_pos hd]
      rw [← hq, ← hr] at hm
      constructor <;> nlinarith
  · rw [h]
    have hq0 : q.toInt = 0 := by rw [hq, h]; exact Int.zero_tdiv _
    have hr0 : r.toInt = 0 := by rw [hr, h]; exact Int.zero_tmod _
    rw [hr0]
    show q.toInt = _
    rw [hq0]; simp
  · rw [show decide (0 < x.toInt) = true from decide_eq_true h, show decide (x.toInt < 0) = false from decide_eq_false (by omega)]
    have e : ∀ c : BitVec 1, Scalar.andi (Scalar.cmpi .ne (Scalar.subi (Scalar.extui (BitVec.ofBool true)) (Scalar.extui (BitVec.ofBool false))) (Scalar.subi (Scalar.extui (BitVec.ofBool true)) (Scalar.extui (BitVec.ofBool false)))) c = 0#1 := by decide
    rw [e]
    show q.toInt = _
    rw [hq]
    exact Int.tdiv_eq_ediv_of_nonneg h.le

end Cert.KernelIdeal.Tile

end
-- ==== Proof.Model.lean ====
module

public import proofs.«01_k».proof.Proof.EqSeg
public import proofs.«01_k».proof.Proof.Words
public import Idealize.ShloMosaic.Lib.ValueLayout

@[expose] public section

noncomputable section

namespace Cert.KernelIdeal.Tile

open Idealize.ShloMosaic Idealize.SL.Sem Cert.KernelIdeal.Gen Idealize.ShloMosaic.ValueIdx

variable {F : FTy → Type} [FloatOps F]

/-! ## What a tile computes, as functions -/

/-- A table of one axis, by number. -/
abbrev on1 {A : Type} {d : Fin 1 → Nat} (L : Nat → A) : (⟨1, d⟩ : Shape).Idx → A := fun x => L (x 0).val
/-- A table of two axes, by numbers. -/
abbrev on2 {A : Type} {d : Fin 2 → Nat} (G : Nat → Nat → A) : (⟨2, d⟩ : Shape).Idx → A := fun x => G (x 0).val (x 1).val

/-- Sixteen words from place `o`. -/
abbrev vec (F : FTy → Type) (L : Nat → BitVec 32) (o : Nat) : Vec F S16 .i32 := fun x => L (o + (x 0).val)
/-- The `j`-th block of sixteen of row `r`. -/
abbrev blk (G : Nat → Nat → F .f32) (r j : Nat) : Vec F S1x16 .f32 := fun x => G r (16 * j + (x 1).val)
/-- The index `n` of sixteen. -/
abbrev ix (n : Nat) : S16.Idx := ix1 (⟨n % 16, Nat.mod_lt _ (by decide)⟩ : Fin 16)

/-- `n` steps of `f` from `a`. -/
def loopM {σ : Type} (f : Nat → σ → σ) : Nat → σ → σ
  | 0, a => a
  | n + 1, a => f n (loopM f n a)

/-- A table with the row `r` replaced by the vectors `w`. -/
def setRow (G : Nat → Nat → F .f32) (r : Nat) (w : Nat → FVec F S16 .f32) : Nat → Nat → F .f32 :=
  fun a b => if a = r ∧ b / 16 ∈ cols then w (b / 16) (ix (b % 16)) else G a b
/-- A table with the first block of the row `r` replaced. -/
def setOne (G : Nat → Nat → F .f32) (r : Nat) (w : Vec F S1x16 .f32) : Nat → Nat → F .f32 :=
  fun a b => if a = r ∧ b / 16 = 0 then w (ix2 (0 : Fin 1) (⟨b % 16, Nat.mod_lt _ (by decide)⟩ : Fin 16)) else G a b

/-- A row added. -/
def rowM (R : Nat → Nat → F .f32) (r : Nat) (a : T32 F) : T32 F :=
  tup32 (fun j => addf (sOf a j) (flat (blk R r j))) (fun j => addf (qOf a j) (mulf (flat (blk R r j)) (flat (blk R r j))))

/-- The search in a chunk's labels. -/
def findM (F : FTy → Type) (L : Nat → BitVec 32) (w : BitVec 32) : BitVec 32 × BitVec 32 :=
  loopM (fun _ r => narrow (middle 11#32 r) (lane (vec F L (k0_off28 r.1 r.2 0)) 0) w r) k0_t6_loop.trips (0#32, 12#32)
/-- The place in a chunk's labels at which the class `w` starts. -/
def clb (F : FTy → Type) (L : Nat → BitVec 32) (w : BitVec 32) : BitVec 32 :=
  placeOf 16#32 (findM F L w).1 (lane (vec F L (k0_off29 (findM F L w).1 0))) w

/-- What the class loop carries and what the two tables hold. -/
structure St (F : FTy → Type) where
  at_ : BitVec 32
  sq : T16 F
  sums : Nat → Nat → F .f32
  nums : Nat → Nat → F .f32

/-- The first row of a class in a chunk. -/
abbrev loM (rel : BitVec 32) (st : St F) : BitVec 32 := Scalar.maxsi st.at_ rel
/-- The row behind a class's last one in a chunk. -/
abbrev hiM (L : Nat → BitVec 32) (rel c : BitVec 32) (st : St F) : BitVec 32 := Scalar.maxsi (clb F L (Scalar.addi c 1#32)) (loM rel st)
/-- The sums and squares behind the rows of a class. -/
def rowsM (R : Nat → Nat → F .f32) (L : Nat → BitVec 32) (v2 rel c : BitVec 32) (st : St F) : T32 F :=
  loopM (fun t a => rowM R (Scf.iv (loM rel st) 1#32 t).toNat a) (run (loM rel st) (hiM L rel c st)).trips
    (tup32 (fun j => flat (blk st.sums (Scalar.subi c v2).toNat j)) (vOf st.sq))
/-- A class taken. -/
def classM (R : Nat → Nat → F .f32) (L : Nat → BitVec 32) (v2 rel c : BitVec 32) (st : St F) : St F where
  at_ := clb F L (Scalar.addi c 1#32)
  sq := tup16 (qOf (rowsM R L v2 rel c st))
  sums := setRow st.sums (Scalar.subi c v2).toNat (sOf (rowsM R L v2 rel c st))
  nums := setOne st.nums (Scalar.subi c v2).toNat (k0_pay606 (loM rel st) (hiM L rel c st) (blk st.nums (Scalar.subi c v2).toNat 0))

/-- The first label of a chunk, and its last. -/
abbrev fM (F : FTy → Type) (L : Nat → BitVec 32) : BitVec 32 := lane (vec F L 0) 0
abbrev lM (F : FTy → Type) (L : Nat → BitVec 32) : BitVec 32 := lane (vec F L 176) 15

/-- `t` classes of a chunk taken. -/
def classesM (R : Nat → Nat → F .f32) (L : Nat → BitVec 32) (v2 rel : BitVec 32) (t : Nat) (st : St F) : St F :=
  loopM (fun t st => classM R L v2 rel (Scf.iv (cFirst v2 (fM F L)) 1#32 t) st) t
    { st with at_ := clb F L (cFirst v2 (fM F L)), sq := tup16 (vOf st.sq) }
/-- A chunk taken. -/
def chunkM (R : Nat → Nat → F .f32) (L : Nat → BitVec 32) (v2 rel c n : BitVec 32) (st : St F) : St F :=
  classesM R L v2 rel (run (cFirst v2 (fM F L)) (cEnd v2 (fM F L) (lM F L) c n)).trips st

/-- The rows of a chunk, and its labels. -/
abbrev rowsAt (X : Nat → Nat → F .f32) (lo c : BitVec 32) : Nat → Nat → F .f32 := fun a b => X ((base lo c).toNat + a) b
abbrev labsAt (T : Nat → BitVec 32) (lo c : BitVec 32) : Nat → BitVec 32 := fun a => T ((base lo c).toNat + a)

/-- The chunk `c` taken. -/
def stepM (X : Nat → Nat → F .f32) (T : Nat → BitVec 32) (v2 lo hi c : BitVec 32) (st : St F) : St F :=
  chunkM (rowsAt X lo c) (labsAt T lo c) v2 (rel lo c) c (chunks lo hi) st
/-- The first chunk of a pair. -/
abbrev fst2 (t : Nat) : BitVec 32 := Scalar.muli 2#32 (Scf.iv 0#32 1#32 t)
/-- A pair of chunks taken. -/
def pairM (X : Nat → Nat → F .f32) (T : Nat → BitVec 32) (v2 lo hi : BitVec 32) (t : Nat) (st : St F) : St F :=
  stepM X T v2 lo hi (Scalar.addi (fst2 t) 1#32) (stepM X T v2 lo hi (fst2 t) st)

/-- A search among all the labels. -/
def seekM (F : FTy → Type) (T : Nat → BitVec 32) (w : BitVec 32) : BitVec 32 × BitVec 32 :=
  loopM (fun _ r => narrow (middle 19999#32 r) (lane (vec F T (k0_off20 r.1 r.2 0)) 0) w r) k0_t3_loop.trips (0#32, 20000#32)
/-- The labels at which a search among all ends. -/
abbrev seen (F : FTy → Type) (T : Nat → BitVec 32) (w : BitVec 32) : Vec F S16 .i32 := vec F T (k0_off21 (seekM F T w).1 0)
/-- The row at which the class `w` starts. -/
def rowOf (F : FTy → Type) (T : Nat → BitVec 32) (w : BitVec 32) : BitVec 32 := placeOf 8#32 (seekM F T w).1 (lane (seen F T w)) w

/-- What a tile's tables hold before the first pair. -/
def st0 (F : FTy → Type) [FloatOps F] : St F where
  at_ := 0#32
  sq := tup16 fun _ => k0_pay1242 (F := F)
  sums := fun _ b => k0_pay1242 (F := F) (ix b)
  nums := fun _ b => k0_pay1242 (F := F) (ix b)

/-- What a tile computes. -/
def tileM (X : Nat → Nat → F .f32) (T : Nat → BitVec 32) (v2 : BitVec 32) : St F :=
  loopM (pairM X T v2 (rowOf F T v2) (rowOf F T (Scalar.addi v2 32#32)))
    (run 0#32 (pairs (rowOf F T v2) (rowOf F T (Scalar.addi v2 32#32)))).trips (st0 F)

/-- The squares a tile adds up. -/
def sqM (st : St F) : FVec F S16 .f32 :=
  k0_pay1312 (vOf st.sq 0) (vOf st.sq 1) (vOf st.sq 2) (vOf st.sq 3) (vOf st.sq 4) (vOf st.sq 5) (vOf st.sq 6) (vOf st.sq 7)
    (vOf st.sq 8) (vOf st.sq 9) (vOf st.sq 10) (vOf st.sq 11) (vOf st.sq 12) (vOf st.sq 13) (vOf st.sq 14) (vOf st.sq 15)

end Cert.KernelIdeal.Tile

end
-- ==== Proof.WpRow.lean ====
module

public import proofs.«01_k».proof.Proof.Setup
public import proofs.«01_k».proof.Proof.Model

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- Blocks put one after the other, each where it belongs. -/
theorem foldl_put {A : Type} (g : Nat → A) : ∀ (js : List Nat) (v : Nat → A) (j : Nat), j ∈ js ∨ v j = g j → js.foldl (fun v j => put v j (g j)) v j = g j
  | [], v, j, h => h.elim (fun h => absurd h List.not_mem_nil) id
  | a :: js, v, j, h => by
    refine foldl_put g js _ j ?_
    by_cases hj : j = a
    · subst hj; right; unfold put; simp
    · rcases h with h | h
      · left; exact (List.mem_cons.mp h).resolve_left hj
      · right
        have hb : j.beq a = false := by rw [← Bool.not_eq_true, Nat.beq_eq]; exact hj
        show (bif j.beq a then g a else v j) = g j
        rw [hb]; exact h

/-- The blocks of a row loaded. -/
theorem wp_loadCols {dd : Fin 2 → Nat} {m : Memref sig .scVector .vmem ⟨2, dd⟩ .f32} {r : Nat} {h : ∀ j ∈ cols, BlockIn dd r j} {q : PosShare TreeShare}
    {G : Nat → Nat → F .f32} {k : (Nat → Vec F S1x16 .f32) → TP F i α} :
    ∀ (js : List Nat) (hjs : js ⊆ cols) (v : Nat → Vec F S1x16 .f32),
    holds d i m q (on2 G) ⊢ iprop((holds d i m q (on2 G) -∗ WP d i (k (js.foldl (fun v j => put v j (blk G r j)) v)) Q) -∗ WP d i (loadCols m r h js hjs v k) Q)
  | [], hjs, v => by
    unfold loadCols
    iintro H Hk
    iapply Hk; iexact H
  | j :: js, hjs, v => by
    unfold loadCols
    iintro H Hk
    iapply wp_get $$ H
    iintro H
    have e : (fun x => on2 G ((Rect.unit (s := ⟨2, dd⟩) ![r, 16 * j] S1x16.size (h j (hjs (.head _)))).toLoadRect.idx x)) = blk G r j := by
      funext x
      show G (r + 1 * (x 0).val) (16 * j + 1 * (x 1).val) = _
      have h0 : (x 0).val = 0 := by have : (x 0).val < 1 := (x 0).isLt; omega
      rw [h0, Nat.mul_zero, Nat.add_zero, Nat.one_mul]
    rw [e]
    iapply (wp_loadCols js _ _) $$ H
    iexact Hk

/-- A store of one block. -/
theorem over_blk {dd : Fin 2 → Nat} {r j : Nat} (h : BlockIn dd r j) (G : Nat → Nat → F .f32) (w : Nat → Nat → F .f32) (x : Vec F S1x16 .f32)
    (hx : ∀ y, x y = w j (y 1).val) :
    over (on2 G) (Rect.unit (s := ⟨2, dd⟩) ![r, 16 * j] S1x16.size h) x = on2 fun a b => if a = r ∧ b / 16 = j then w (b / 16) (b % 16) else G a b := by
  funext y
  by_cases hy : (y 0).val = r ∧ (y 1).val / 16 = j
  · have hj := hy.2
    have : (Rect.unit (s := ⟨2, dd⟩) ![r, 16 * j] S1x16.size h).emb (ix2 (0 : Fin 1) (⟨(y 1).val % 16, Nat.mod_lt _ (by decide)⟩ : Fin 16)) = y := by
      funext a
      apply Fin.ext
      match a with
      | ⟨0, _⟩ => show r + 1 * 0 = _; exact hy.1.symm
      | ⟨1, _⟩ =>
        show 16 * j + 1 * ((y 1).val % 16) = (y 1).val
        have := Nat.div_add_mod (y 1).val 16
        rw [hj] at this; omega
    rw [← this, over_emb, this, hx]
    show _ = if (y 0).val = r ∧ (y 1).val / 16 = j then _ else _
    rw [if_pos hy, hj]
  · rw [over_of]
    · show _ = if (y 0).val = r ∧ (y 1).val / 16 = j then _ else _
      rw [if_neg hy]
    · intro x hx
      apply hy
      have h0 : (x 0).val < 1 := (x 0).isLt
      have h1 : (x 1).val < 16 := (x 1).isLt
      rw [← hx]
      constructor
      · show r + 1 * (x 0).val = r; omega
      · show (16 * j + 1 * (x 1).val) / 16 = j; omega

/-- Sixteen words as a row. -/
theorem cast16 (w : FVec F S16 .f32) (y : S1x16.Idx) : shapeCast S1x16 w shapeCasts_S16_S1x16 y = w (ix (y 1).val) := by
  rw [eq_ix2 y]
  exact (shapeCast_a_1a_apply w _ _ _).trans (congrArg w (congrArg ix1 (Fin.ext (Nat.mod_eq_of_lt (y 1).isLt).symm)))

/-- A program that is done. -/
theorem wp_done {a : α} : Q a ⊢ WP d i (pure a) Q := by
  show Q a ⊢ wp frame (wpE (defs₀ (F := F)) 𝒱₀ (thr d i) none) Set.univ (.ret a) Q
  rw [wp_ret]
  iintro H
  imodintro
  iexact H

/-- The blocks of a row stored. -/
theorem wp_storeCols {dd : Fin 2 → Nat} {m : Memref sig .scVector .vmem ⟨2, dd⟩ .f32} {r : Nat} {h : ∀ j ∈ cols, BlockIn dd r j}
    {w : Nat → FVec F S16 .f32} {k : TP F i α} :
    ∀ (js : List Nat) (hjs : js ⊆ cols) (G : Nat → Nat → F .f32),
    holds d i m fullShare (on2 G) ⊢ iprop((holds d i m fullShare (on2 fun a b => if a = r ∧ b / 16 ∈ js then w (b / 16) (ix (b % 16)) else G a b) -∗ WP d i k Q)
      -∗ WP d i (storeCols m r h w js hjs k) Q)
  | [], hjs, G => by
    unfold storeCols
    iintro H Hk
    iapply Hk
    have e : (fun a b => if a = r ∧ b / 16 ∈ ([] : List Nat) then w (b / 16) (ix (b % 16)) else G a b) = G := by funext a b; simp
    rw [e]; iexact H
  | j :: js, hjs, G => by
    unfold storeCols
    iintro H Hk
    iapply wp_get $$ H
    iintro H
    iapply wp_put $$ H
    iintro H
    rw [over_blk _ G (fun j n => w j (ix n)) _ (fun y => cast16 (w j) y)]
    iapply (wp_storeCols js _ _) $$ H
    iintro H
    iapply Hk
    have e : (fun a b => if a = r ∧ b / 16 ∈ js then w (b / 16) (ix (b % 16)) else if a = r ∧ b / 16 = j then w (b / 16) (ix (b % 16)) else G a b)
        = fun a b => if a = r ∧ b / 16 ∈ j :: js then w (b / 16) (ix (b % 16)) else G a b := by
      funext a b
      by_cases h1 : a = r <;> by_cases h2 : b / 16 ∈ js <;> by_cases h3 : b / 16 = j <;> simp [h1, h2, h3]
    rw [e]; iexact H

/-- The blocks of a row, as the loads find them. -/
abbrev found (G : Nat → Nat → F .f32) (r : Nat) : Nat → Vec F S1x16 .f32 :=
  cols.foldl (fun v j => put v j (blk G r j)) (fun _ _ => Scalar.sitofp .f32 0#32)

theorem rowM_found (R : Nat → Nat → F .f32) (r : Nat) (a : T32 F) :
    tup32 (fun j => addf (sOf a j) (flat (found R r j))) (fun j => addf (qOf a j) (mulf (flat (found R r j)) (flat (found R r j)))) = rowM R r a := rfl

theorem tup32_found (G : Nat → Nat → F .f32) (r : Nat) (q : Nat → FVec F S16 .f32) :
    tup32 (fun j => flat (found G r j)) q = tup32 (fun j => flat (blk G r j)) q := rfl

/-- The rows of a class, one taken. -/
theorem wp_rowStep {m : Memref sig .scVector .vmem S192x256 .f32} {r : Nat} {h : ∀ j ∈ cols, BlockIn ![192, 256] r j} {q : PosShare TreeShare}
    {R : Nat → Nat → F .f32} {a : T32 F} {Q : T32 F → sProp (MT nD τ sig (HIx 1) (Elt F) ℕ UU ℕ)} :
    holds d i m q (on2 R) ⊢ iprop((holds d i m q (on2 R) -∗ Q (rowM R r a)) -∗ WP d i (rowStep m r h (sOf a) (qOf a)) Q) := by
  unfold rowStep
  iintro H Hk
  iapply (wp_loadCols cols _ _) $$ H
  iintro H
  iapply wp_done
  iapply (Entails.of_eq (congrArg Q (rowM_found R r a).symm))
  iapply Hk; iexact H

end Cert.KernelIdeal.Tile

end
-- ==== Proof.Bounds.lean ====
module

public import proofs.«01_k».proof.Proof.Model
public import Mathlib.Tactic.IntervalCases

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]

/-- A choice by a truth value. -/
theorem select_bool {A : Type} (b : Bool) (x y : A) : Scalar.select (BitVec.ofBool b) x y = if b = true then x else y := by cases b <;> rfl

/-- One more word counted. -/
theorem count_step (a x w : BitVec 32) {m : Int} (h0 : 0 ≤ a.toInt) (h1 : a.toInt ≤ m) (hm : m < 1000) :
    (Scalar.addi a (Scalar.select (Scalar.cmpi .slt x w) 1#32 0#32)).toInt = a.toInt + if x.toInt < w.toInt then 1 else 0 := by
  rw [cmp_slt, select_bool]
  simp only [decide_eq_true_eq]
  split
  · rw [toInt_addi] <;> rw [show (1#32 : BitVec 32).toInt = 1 from rfl] <;> omega
  · rw [toInt_addi] <;> rw [show (0#32 : BitVec 32).toInt = 0 from rfl] <;> omega

/-- Counting along a list of places. -/
theorem count_list (l : Nat → BitVec 32) (w : BitVec 32) : ∀ (js : List Nat) (a : BitVec 32) (m : Int), 0 ≤ a.toInt → a.toInt ≤ m → m + js.length < 1000 →
    (js.foldl (fun a n => Scalar.addi a (Scalar.select (Scalar.cmpi .slt (l n) w) 1#32 0#32)) a).toInt
      = a.toInt + ((js.filter fun n => decide ((l n).toInt < w.toInt)).length : Int)
  | [], a, m, h0, h1, h2 => by simp
  | j :: js, a, m, h0, h1, h2 => by
    have e := count_step a (l j) w h0 h1 (by simp only [List.length_cons] at h2; omega)
    rw [List.foldl_cons, count_list l w js _ (m + 1) (by rw [e]; split <;> omega) (by rw [e]; split <;> omega)
      (by simp only [List.length_cons] at h2; push_cast at h2; omega), e, List.filter_cons]
    by_cases hx : (l j).toInt < w.toInt
    · simp only [hx, decide_true, if_true, List.length_cons]; push_cast; omega
    · simp only [hx, decide_false, if_false, Bool.false_eq_true]; omega

/-- The count, as a number. -/
theorem count_toInt (l : Nat → BitVec 32) (w : BitVec 32) :
    (count l w).toInt = ((cols.filter fun n => decide ((l n).toInt < w.toInt)).length : Int) := by
  unfold count
  rw [count_list l w cols 0#32 0 (by decide) (by decide) (by decide)]
  rw [show (0#32 : BitVec 32).toInt = 0 from rfl, Int.zero_add]

theorem count_range (l : Nat → BitVec 32) (w : BitVec 32) : 0 ≤ (count l w).toInt ∧ (count l w).toInt ≤ 16 := by
  rw [count_toInt]
  have : (cols.filter fun n => decide ((l n).toInt < w.toInt)).length ≤ cols.length := List.length_filter_le _ _
  have : cols.length = 16 := rfl
  omega

/-- No word from place eight on is counted when all there are at least `w`. -/
theorem count_half (l : Nat → BitVec 32) (w : BitVec 32) (h : ∀ n, 8 ≤ n → w.toInt ≤ (l n).toInt) : (count l w).toInt ≤ 8 := by
  rw [count_toInt]
  have e : (cols.filter fun n => decide ((l n).toInt < w.toInt)).length ≤ (cols.filter fun n => decide (n < 8)).length := by
    refine List.Sublist.length_le (List.monotone_filter_right cols fun n hn => ?_)
    simp only [decide_eq_true_eq] at hn ⊢
    by_contra hc
    have := h n (by omega)
    omega
  have : (cols.filter fun n => decide (n < 8)).length = 8 := by decide
  omega

/-- The middle of two bounds. -/
theorem middle_toInt (cap : BitVec 32) (r : BitVec 32 × BitVec 32) {K : Int} (hK : K ≤ 1000000) (h1 : 0 ≤ r.1.toInt) (h1' : r.1.toInt ≤ K) (h2 : 0 ≤ r.2.toInt) (h2' : r.2.toInt ≤ K) :
    (middle cap r).toInt = min ((r.1.toInt + r.2.toInt) / 2) cap.toInt := by
  unfold middle
  rw [toInt_min, toInt_fdiv _ _ (by decide), toInt_addi _ _ (by omega) (by omega)]
  rfl

/-- A step of a search, by cases. -/
theorem narrow_eq (mid x w : BitVec 32) (r : BitVec 32 × BitVec 32) :
    narrow mid x w r = if r.1.toInt < r.2.toInt then (if x.toInt < w.toInt then (Scalar.addi mid 1#32, r.2) else (r.1, mid)) else r := by
  unfold narrow
  simp only [cmp_sge, cmp_slt]
  by_cases h : r.1.toInt < r.2.toInt <;> by_cases h' : x.toInt < w.toInt
  · have : ¬ w.toInt ≤ x.toInt := by omega
    simp only [h, h', this, decide_true, decide_false, if_true]
    rfl
  · have : w.toInt ≤ x.toInt := by omega
    simp only [h, h', this, decide_true, decide_false, if_true, if_false]
    rfl
  · have : ¬ w.toInt ≤ x.toInt := by omega
    simp only [h, this, decide_false, if_false]
    rfl
  · have : w.toInt ≤ x.toInt := by omega
    simp only [h, this, decide_true, decide_false, if_false]
    rfl

/-- Both bounds of a search among `K` blocks. -/
abbrev Within (K : Int) (r : BitVec 32 × BitVec 32) : Prop := (0 ≤ r.1.toInt ∧ r.1.toInt ≤ K) ∧ 0 ≤ r.2.toInt ∧ r.2.toInt ≤ K

/-- The block looked at is one of them, -/
theorem middle_within {cap : BitVec 32} {r : BitVec 32 × BitVec 32} {K : Int} (hK : K ≤ 1000000) (hc : cap.toInt = K - 1) (h0 : 0 < K) (h : Within K r) :
    0 ≤ (middle cap r).toInt ∧ (middle cap r).toInt ≤ K - 1 := by
  obtain ⟨⟨h1, h2⟩, h3, h4⟩ := h
  rw [middle_toInt cap r hK h1 h2 h3 h4]
  omega

/-- and a step keeps the bounds. -/
theorem narrow_within {cap x w : BitVec 32} {r : BitVec 32 × BitVec 32} {K : Int} (hK : K ≤ 1000000) (hc : cap.toInt = K - 1) (h0 : 0 < K) (h : Within K r) :
    Within K (narrow (middle cap r) x w r) := by
  have hm := middle_within hK hc h0 h
  rw [narrow_eq]
  split
  · split
    · refine ⟨?_, h.2⟩
      show 0 ≤ (Scalar.addi (middle cap r) 1#32).toInt ∧ (Scalar.addi (middle cap r) 1#32).toInt ≤ K
      rw [toInt_addi] <;> rw [show (1#32 : BitVec 32).toInt = 1 from rfl] <;> omega
    · exact ⟨h.1, hm.1, by show (middle cap r).toInt ≤ K; omega⟩
  · exact h

/-- A fact kept by each step holds of a loop. -/
theorem loopM_keeps {σ : Type} {f : Nat → σ → σ} {a : σ} {P : σ → Prop} (h0 : P a) (h : ∀ n s, P s → P (f n s)) : ∀ n, P (loopM f n a)
  | 0 => h0
  | n + 1 => h n _ (loopM_keeps h0 h n)

/-- The place a search names, as a number. -/
theorem placeOf_toInt {k b : BitVec 32} (l : Nat → BitVec 32) (w : BitVec 32) (hk : 0 ≤ k.toInt) (hk' : k.toInt ≤ 16) (hb : 0 ≤ b.toInt) (hb' : b.toInt ≤ 1000000) :
    (placeOf k b l w).toInt = if b.toInt = 0 then 0 else (b.toInt - 1) * k.toInt + (count l w).toInt := by
  have hc := count_range l w
  unfold placeOf
  rw [cmp_eq, select_bool, show (0#32 : BitVec 32).toInt = 0 from rfl]
  simp only [decide_eq_true_eq]
  split
  · rfl
  · have e1 : (Scalar.subi b 1#32).toInt = b.toInt - 1 := by
      rw [toInt_subi] <;> rw [show (1#32 : BitVec 32).toInt = 1 from rfl] <;> omega
    have e2 : (Scalar.maxsi (Scalar.subi b 1#32) 0#32).toInt = b.toInt - 1 := by
      rw [toInt_max, e1, show (0#32 : BitVec 32).toInt = 0 from rfl]; omega
    have h0 : 0 ≤ (b.toInt - 1) * k.toInt := Int.mul_nonneg (by omega) hk
    have h1 : (b.toInt - 1) * k.toInt ≤ 1000000 * 16 := Int.mul_le_mul (by omega) hk' hk (by omega)
    have e3 : (Scalar.muli (Scalar.maxsi (Scalar.subi b 1#32) 0#32) k).toInt = (b.toInt - 1) * k.toInt := by
      rw [toInt_muli] <;> rw [e2] <;> omega
    rw [toInt_addi] <;> rw [e3] <;> omega

/-- The place a chunk's load starts at during the search, -/
theorem off28_eq (r : BitVec 32 × BitVec 32) (a : Fin 1) : k0_off28 r.1 r.2 a = (Scalar.muli (middle 11#32 r) 16#32).toNat := by
  match a with | ⟨0, _⟩ => rfl
theorem off29_eq (b : BitVec 32) (a : Fin 1) : k0_off29 b a = (Scalar.muli (Scalar.maxsi (Scalar.subi b 1#32) 0#32) 16#32).toNat := by
  match a with | ⟨0, _⟩ => rfl
theorem off20_eq (r : BitVec 32 × BitVec 32) (a : Fin 1) : k0_off20 r.1 r.2 a = (Scalar.muli (middle 19999#32 r) 8#32).toNat := by
  match a with | ⟨0, _⟩ => rfl
theorem off21_eq (b : BitVec 32) (a : Fin 1) : k0_off21 b a = (Scalar.muli (Scalar.maxsi (Scalar.subi b 1#32) 0#32) 8#32).toNat := by
  match a with | ⟨0, _⟩ => rfl

/-- A block's place, as a number. -/
theorem mul_toNat {m k : BitVec 32} (h : 0 ≤ m.toInt) (h' : m.toInt ≤ 1000000) (hk : 0 ≤ k.toInt) (hk' : k.toInt ≤ 16) : ((Scalar.muli m k).toNat : Int) = m.toInt * k.toInt := by
  have h0 : 0 ≤ m.toInt * k.toInt := Int.mul_nonneg h hk
  have h1 : m.toInt * k.toInt ≤ 1000000 * 16 := Int.mul_le_mul h' hk' hk (by omega)
  have e := toInt_muli m k (by omega) (by omega)
  rw [toNat_of_nonneg _ (by omega), e]

/-- The block before the one a search names, as a number. -/
theorem before_toInt {b : BitVec 32} (hb : 0 ≤ b.toInt) (hb' : b.toInt ≤ 1000000) : (Scalar.maxsi (Scalar.subi b 1#32) 0#32).toInt = max (b.toInt - 1) 0 := by
  rw [toInt_max, toInt_subi] <;> rw [show (1#32 : BitVec 32).toInt = 1 from rfl] <;> first | rfl | omega

theorem chk6 {r : BitVec 32 × BitVec 32} (h : Within 12 r) : k0_chk6 r.1 r.2 := by
  intro a
  have hm := middle_within (cap := 11#32) (by decide) (by decide) (by decide) h
  rw [off28_eq, show a = 0 from Subsingleton.elim _ _]
  show _ + 16 ≤ 192
  have := mul_toNat (k := 16#32) hm.1 (by omega) (by decide) (by decide)
  rw [show (16#32 : BitVec 32).toInt = 16 from rfl] at this
  omega

theorem chk7 {b : BitVec 32} (h0 : 0 ≤ b.toInt) (h1 : b.toInt ≤ 12) : k0_chk7 b := by
  intro a
  rw [off29_eq, show a = 0 from Subsingleton.elim _ _]
  show _ + 16 ≤ 192
  have e := before_toInt h0 (by omega)
  have := mul_toNat (m := Scalar.maxsi (Scalar.subi b 1#32) 0#32) (k := 16#32) (by omega) (by omega) (by decide) (by decide)
  rw [show (16#32 : BitVec 32).toInt = 16 from rfl, e] at this
  omega

theorem chk1 {r : BitVec 32 × BitVec 32} (h : Within 20000 r) : k0_chk1 r.1 r.2 := by
  intro a
  have hm := middle_within (cap := 19999#32) (by decide) (by decide) (by decide) h
  rw [off20_eq, show a = 0 from Subsingleton.elim _ _]
  show _ + 16 ≤ 160016
  have := mul_toNat (k := 8#32) hm.1 (by omega) (by decide) (by decide)
  rw [show (8#32 : BitVec 32).toInt = 8 from rfl] at this
  omega

theorem chk2 {b : BitVec 32} (h0 : 0 ≤ b.toInt) (h1 : b.toInt ≤ 20000) : k0_chk2 b := by
  intro a
  rw [off21_eq, show a = 0 from Subsingleton.elim _ _]
  show _ + 16 ≤ 160016
  have e := before_toInt h0 (by omega)
  have := mul_toNat (m := Scalar.maxsi (Scalar.subi b 1#32) 0#32) (k := 8#32) (by omega) (by omega) (by decide) (by decide)
  rw [show (8#32 : BitVec 32).toInt = 8 from rfl, e] at this
  omega

theorem within_12 : Within 12 (0#32, 12#32) := by decide
theorem within_20000 : Within 20000 (0#32, 20000#32) := by decide

/-- The steps of the search in a chunk. -/
abbrev findStep (F : FTy → Type) (L : Nat → BitVec 32) (w : BitVec 32) : Nat → BitVec 32 × BitVec 32 → BitVec 32 × BitVec 32 :=
  fun _ r => narrow (middle 11#32 r) (lane (vec F L (k0_off28 r.1 r.2 0)) 0) w r
theorem findM_within (L : Nat → BitVec 32) (w : BitVec 32) (n : Nat) : Within 12 (loopM (findStep F L w) n (0#32, 12#32)) :=
  loopM_keeps within_12 (fun _ _ h => narrow_within (by decide) (by decide) (by decide) h) n
/-- The steps of the search among all labels. -/
abbrev seekStep (F : FTy → Type) (T : Nat → BitVec 32) (w : BitVec 32) : Nat → BitVec 32 × BitVec 32 → BitVec 32 × BitVec 32 :=
  fun _ r => narrow (middle 19999#32 r) (lane (vec F T (k0_off20 r.1 r.2 0)) 0) w r
theorem seekM_within (T : Nat → BitVec 32) (w : BitVec 32) (n : Nat) : Within 20000 (loopM (seekStep F T w) n (0#32, 20000#32)) :=
  loopM_keeps within_20000 (fun _ _ h => narrow_within (by decide) (by decide) (by decide) h) n

/-- The place a class starts at in a chunk is one of the chunk's, or behind them. -/
theorem clb_range (L : Nat → BitVec 32) (w : BitVec 32) : 0 ≤ (clb F L w).toInt ∧ (clb F L w).toInt ≤ 192 := by
  have hf := findM_within (F := F) L w k0_t6_loop.trips
  have h1 : 0 ≤ (findM F L w).1.toInt := hf.1.1
  have h2 : (findM F L w).1.toInt ≤ 12 := hf.1.2
  have hc := count_range (lane (vec F L (k0_off29 (findM F L w).1 0))) w
  unfold clb
  rw [placeOf_toInt _ _ (by decide) (by decide) h1 (by omega), show (16#32 : BitVec 32).toInt = 16 from rfl]
  split <;> omega

/-- A lane of a vector is its word. -/
theorem lane_eq (x : Vec F S16 .i32) (n : Nat) (hn : n < 16) : lane x n = x (ix n) := by
  interval_cases n <;>
  · unfold lane
    rw [shapeCast_self]
    refine congrArg x ?_
    funext a
    match a with | ⟨0, _⟩ => rfl

end Cert.KernelIdeal.Tile

end
-- ==== Proof.WpClass.lean ====
module

public import proofs.«01_k».proof.Proof.WpRow
public import proofs.«01_k».proof.Proof.Bounds

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- A loop whose trips are the steps of `f`. -/
theorem wp_loop {σ : Type} {L : Scf.Loop 32} {ok : L.OK} {a : σ} {body : Fin L.trips → σ → TP F i σ} (f : Nat → σ → σ)
    (R : Nat → sProp (MT nD τ sig (HIx 1) (Elt F) ℕ UU ℕ)) {k : σ → TP F i α}
    (hbody : ∀ t : Fin L.trips, R t.val ⊢ iprop(∀ Q' : σ → sProp (MT nD τ sig (HIx 1) (Elt F) ℕ UU ℕ),
      (R (t.val + 1) -∗ Q' (loopM f (t.val + 1) a)) -∗ WP d i (body t (loopM f t.val a)) Q')) :
    R 0 ⊢ iprop((R L.trips -∗ WP d i (k (loopM f L.trips a)) Q) -∗ WP d i (Scf.Loop.for L ok a body >>= k) Q) := by
  iintro H Hk
  iapply (Scf.wp_for_bind frame (wpE (defs₀ (F := F)) 𝒱₀ (thr d i) none) Set.univ L.lb L.ub L.st ok a body
    (fun t s => iprop(⌜s = loopM f t a⌝ ∗ R t)) (fun t s => by
      iintro ⟨%hs, H⟩
      subst hs
      iapply (hbody t) $$ H
      iintro H
      isplitr; · ipureintro; rfl
      iexact H)) $$ [H]
  · isplitr; · ipureintro; rfl
    iexact H
  iintro %s ⟨%hs, H⟩
  subst hs
  iapply Hk; iexact H

/-- A load of sixteen labels. -/
theorem wp_get16 {cs : CoreSpace} {s : Nat} {m : Memref sig .scVector cs ⟨1, ![s]⟩ .i32} {o : Fin 1 → Nat} {h : ∀ a, o a + S16.size a ≤ (⟨1, ![s]⟩ : Shape).size a}
    {hl : m.view.LoadsAt (Rect.unit (s := (⟨1, ![s]⟩ : Shape)) o S16.size h).toLoadRect} {k : Vec F S16 .i32 → TP F i α} {q : PosShare TreeShare} {L : Nat → BitVec 32} :
    holds d i m q (on1 (d := ![s]) L) ⊢ iprop((holds d i m q (on1 (d := ![s]) L) -∗ WP d i (k (vec F L (o 0))) Q)
      -∗ WP d i (.op (.load m (Rect.unit (s := (⟨1, ![s]⟩ : Shape)) o S16.size h).toLoadRect hl) k) Q) := by
  have e : (fun x => on1 (d := ![s]) L ((Rect.unit (s := (⟨1, ![s]⟩ : Shape)) o S16.size h).toLoadRect.idx x)) = vec F L (o 0) := by
    funext x
    show L (o 0 + 1 * (x 0).val) = L (o 0 + (x 0).val)
    rw [Nat.one_mul]
  rw [← e]
  exact wp_get

/-- A program that is done, its answer said otherwise. -/
theorem wp_done' {a b : α} (h : a = b) : Q b ⊢ WP d i (pure a) Q := by
  subst h; exact wp_done

/-- The search in a chunk. -/
theorem wp_chunkFind {m : Memref sig .scVector .vmem S192 .i32} {w : BitVec 32} {k : BitVec 32 → Vec F S16 .i32 → TP F i α} {L : Nat → BitVec 32} :
    holds d i m fullShare (on1 (d := ![192]) L) ⊢ iprop((holds d i m fullShare (on1 (d := ![192]) L) -∗ WP d i (k (findM F L w).1 (vec F L (k0_off29 (findM F L w).1 0))) Q)
      -∗ WP d i (chunkFind m w k) Q) := by
  unfold chunkFind
  iintro H Hk
  iapply (wp_loop (findStep F L w) (fun _ => holds d i m fullShare (on1 (d := ![192]) L)) (fun t => by
    iintro H %Q' Hk
    unfold chunkStep
    iapply (wp_assume (defs := defs₀ (F := F)) 𝒱₀ (thr d i) none Set.univ (chk6 (findM_within (F := F) L w t.val)))
    iapply wp_get16 $$ H
    iintro H
    iapply (wp_done' (b := loopM (findStep F L w) (t.val + 1) (0#32, 12#32)) (by rfl))
    iapply Hk; iexact H)) $$ H
  iintro H
  have hw := findM_within (F := F) L w k0_t6_loop.trips
  iapply (wp_assume (defs := defs₀ (F := F)) 𝒱₀ (thr d i) none Set.univ (chk7 hw.1.1 hw.1.2))
  iapply wp_get16 $$ H
  iintro H
  iapply Hk; iexact H

/-- What a tile's tables hold. -/
def tables (d : Dev nD) (i : grid0.Coords) (sums : Memref sig .scVector .vmem S33x256 .f32) (nums : Memref sig .scVector .vmem S33x16 .f32) (st : St F) :
    sProp (MT nD τ sig (HIx 1) (Elt F) ℕ UU ℕ) :=
  iprop(holds d i sums fullShare (on2 (d := ![33, 256]) st.sums) ∗ holds d i nums fullShare (on2 (d := ![33, 16]) st.nums))

/-- A class's number of rows is stored in the first block of its row. -/
theorem over_one {r : Nat} (h : BlockIn ![33, 16] r 0) (G : Nat → Nat → F .f32) (w : Vec F S1x16 .f32) :
    over (on2 (d := ![33, 16]) G) (Rect.unit (s := S33x16) ![r, 16 * 0] S1x16.size h) w = on2 (d := ![33, 16]) (setOne G r w) := by
  refine (over_blk h G (fun _ n => w (ix2 (0 : Fin 1) (⟨n % 16, Nat.mod_lt _ (by decide)⟩ : Fin 16))) w fun y => ?_).trans ?_
  · refine congrArg w ?_
    rw [eq_ix2 y]
    have h0 : y 0 = (0 : Fin 1) := Fin.ext (by have : (y 0).val < 1 := (y 0).isLt; show (y 0).val = 0; omega)
    have h1 : (⟨(y 1).val % 16, Nat.mod_lt _ (by decide)⟩ : Fin 16) = y 1 := Fin.ext (Nat.mod_eq_of_lt (y 1).isLt)
    rw [h0]
    exact (congrArg (ix2 (0 : Fin 1)) h1).symm
  · funext y
    show (if (y 0).val = r ∧ (y 1).val / 16 = 0 then _ else _) = if (y 0).val = r ∧ (y 1).val / 16 = 0 then _ else _
    refine if_congr Iff.rfl (congrArg w ?_) rfl
    exact congrArg (ix2 (0 : Fin 1)) (Fin.ext (Nat.mod_mod _ _))

/-- A load of one block. -/
theorem load_blk {dd : Fin 2 → Nat} {r j : Nat} (h : BlockIn dd r j) (G : Nat → Nat → F .f32) :
    (fun x => on2 G ((Rect.unit (s := ⟨2, dd⟩) ![r, 16 * j] S1x16.size h).toLoadRect.idx x)) = blk G r j := by
  funext x
  show G (r + 1 * (x 0).val) (16 * j + 1 * (x 1).val) = _
  have h0 : (x 0).val = 0 := by have : (x 0).val < 1 := (x 0).isLt; omega
  rw [h0, Nat.mul_zero, Nat.add_zero, Nat.one_mul]

/-- A class of a chunk. -/
theorem wp_classStep {rows : Memref sig .scVector .vmem S192x256 .f32} {labs : Memref sig .scVector .vmem S192 .i32}
    {sums : Memref sig .scVector .vmem S33x256 .f32} {nums : Memref sig .scVector .vmem S33x16 .f32}
    {v2 rel c : BitVec 32} {C : BitVec 32 → (Nat → BitVec 32) → Prop} [dC : ∀ b l, Decidable (C b l)]
    {R : Nat → Nat → F .f32} {L : Nat → BitVec 32} (st : St F)
    {hrun : ∀ b l, C b l → (run (Scalar.maxsi st.at_ rel) (Scalar.maxsi (placeOf 16#32 b l (Scalar.addi c 1#32)) (Scalar.maxsi st.at_ rel))).OK}
    {hrow : ∀ b l, C b l → ∀ t : Fin (run (Scalar.maxsi st.at_ rel) (Scalar.maxsi (placeOf 16#32 b l (Scalar.addi c 1#32)) (Scalar.maxsi st.at_ rel))).trips,
      ∀ j ∈ cols, BlockIn ![192, 256] (Scf.iv (Scalar.maxsi st.at_ rel) 1#32 t).toNat j}
    {hsum : ∀ j ∈ cols, BlockIn ![33, 256] (Scalar.subi c v2).toNat j} {hnum : BlockIn ![33, 16] (Scalar.subi c v2).toNat 0}
    (hC : C (findM F L (Scalar.addi c 1#32)).1 (lane (vec F L (k0_off29 (findM F L (Scalar.addi c 1#32)).1 0))))
    {Q : BitVec 32 × T16 F → sProp (MT nD τ sig (HIx 1) (Elt F) ℕ UU ℕ)} :
    iprop(holds d i rows fullShare (on2 (d := ![192, 256]) R) ∗ holds d i labs fullShare (on1 (d := ![192]) L) ∗ tables d i sums nums st) ⊢
      iprop((iprop(holds d i rows fullShare (on2 (d := ![192, 256]) R) ∗ holds d i labs fullShare (on1 (d := ![192]) L) ∗ tables d i sums nums (classM R L v2 rel c st))
          -∗ Q ((classM R L v2 rel c st).at_, (classM R L v2 rel c st).sq))
        -∗ WP d i (classStep rows labs sums nums v2 rel c st.at_ (vOf st.sq) C hrun hrow hsum hnum) Q) := by
  unfold classStep tables
  iintro ⟨HR, HL, HS, HN⟩ Hk
  iapply wp_chunkFind $$ HL
  iintro HL
  iapply (wp_assume (defs := defs₀ (F := F)) 𝒱₀ (thr d i) none Set.univ hC)
  iapply (wp_loadCols cols _ _) $$ HS
  iintro HS
  iapply (wp_loop (fun t a => rowM R (Scf.iv (loM rel st) 1#32 t).toNat a) (fun _ => holds d i rows fullShare (on2 (d := ![192, 256]) R)) (fun t => by
    iintro H %Q' Hk
    iapply wp_rowStep $$ H
    iexact Hk)) $$ HR
  iintro HR
  iapply (wp_storeCols cols _ _) $$ HS
  iintro HS
  iapply wp_get $$ HN
  iintro HN
  iapply wp_get $$ HN
  iintro HN
  iapply wp_put $$ HN
  iintro HN
  rw [over_one, load_blk]
  iapply (wp_done' (b := ((classM R L v2 rel c st).at_, (classM R L v2 rel c st).sq)) (by rfl))
  iapply Hk
  isplitl [HR]; · iexact HR
  isplitl [HL]; · iexact HL
  isplitl [HS]; · iexact HS
  iexact HN

end Cert.KernelIdeal.Tile

end
-- ==== Proof.Ranges.lean ====
module

public import proofs.«01_k».proof.Proof.Bounds

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

/-- The trips of a run. -/
theorem run_trips (lo hi : BitVec 32) : (run lo hi).trips = (hi.toInt - lo.toInt).toNat := by
  show Scf.trips (run lo hi).lb (run lo hi).ub 1#32 = _
  rw [run_ub]
  unfold Scf.trips
  rw [show (1#32 : BitVec 32).toInt = 1 from rfl]
  show ((hi.toInt - lo.toInt + 1 - 1) / 1).toNat = _
  rw [Int.add_sub_cancel, Int.ediv_one]

/-- A run has a meaning. -/
theorem run_ok (lo hi : BitVec 32) : (run lo hi).OK := by
  have h1 := toInt_range lo
  have h2 := toInt_range hi
  have ht := run_trips lo hi
  refine ⟨show 0 < (1#32 : BitVec 32).toInt by decide, ?_⟩
  show lo.toInt + ((run lo hi).trips : Int) * (1#32 : BitVec 32).toInt < 2147483648
  rw [ht, show (1#32 : BitVec 32).toInt = 1 from rfl]
  omega

/-- So has the loop behind it. -/
theorem rest_ok (lo n : BitVec 32) : Scf.OK (Scalar.addi lo (Scalar.muli (Scalar.divsi n 1#32) 1#32)) (Scalar.addi lo n) 1#32 := by
  refine ⟨by decide, ?_⟩
  rw [rest_trips]
  have := toInt_range (Scalar.addi lo (Scalar.muli (Scalar.divsi n 1#32) 1#32))
  show _ + ((0 : Nat) : Int) * _ < 2147483648
  omega

/-- Nothing need hold in a loop of no trips. -/
theorem rest_none {lo n : BitVec 32} (t : Fin (Scf.trips (Scalar.addi lo (Scalar.muli (Scalar.divsi n 1#32) 1#32)) (Scalar.addi lo n) 1#32)) : False :=
  absurd (Nat.lt_of_lt_of_eq t.isLt (rest_trips lo n)) (Nat.not_lt_zero _)

/-- The variable of a run, as a number. -/
theorem run_iv {lo hi : BitVec 32} (t : Fin (run lo hi).trips) : (Scf.iv lo 1#32 t).toInt = lo.toInt + t.val ∧ (Scf.iv lo 1#32 t).toInt < hi.toInt := by
  have e := Scf.toInt_iv (run_ok lo hi) (Nat.le_of_lt t.isLt)
  have h := Scf.iv_lt_ub (run_ok lo hi) t.isLt
  rw [run_ub] at h
  refine ⟨?_, h⟩
  rw [show (run lo hi).st.toInt = 1 from rfl] at e
  rw [Int.mul_one] at e
  exact e

/-- A block of a row that exists. -/
theorem block_in {n m r j : Nat} (hr : r < n) (hj : 16 * j + 16 ≤ m) : BlockIn ![n, m] r j := by
  intro a
  match a with
  | ⟨0, _⟩ => show r + 1 ≤ n; omega
  | ⟨1, _⟩ => exact hj

theorem cols_lt {j : Nat} (hj : j ∈ cols) : 16 * j + 16 ≤ 256 := by
  simp only [cols, List.mem_cons, List.not_mem_nil, or_false] at hj
  omega

/-- The rows of a class in a chunk are rows of the chunk. -/
theorem row_in {prev rel p : BitVec 32} (h0 : 0 ≤ prev.toInt) (hp : p.toInt ≤ 192)
    (t : Fin (run (Scalar.maxsi prev rel) (Scalar.maxsi p (Scalar.maxsi prev rel))).trips) (j : Nat) (hj : j ∈ cols) :
    BlockIn ![192, 256] (Scf.iv (Scalar.maxsi prev rel) 1#32 t).toNat j := by
  have h := run_iv t
  have e1 := toInt_max p (Scalar.maxsi prev rel)
  have e2 := toInt_max prev rel
  have := toNat_of_nonneg (Scf.iv (Scalar.maxsi prev rel) 1#32 t) (by omega)
  exact block_in (by omega) (cols_lt hj)

/-- The class a chunk ends at is behind the tile's last at most. -/
theorem cEnd_le {v2 f l c n : BitVec 32} (h0 : 0 ≤ v2.toInt) (h1 : v2.toInt ≤ 100000) : (cEnd v2 f l c n).toInt ≤ max (v2.toInt + 32) (cFirst v2 f).toInt := by
  have e : (Scalar.addi v2 32#32).toInt = v2.toInt + 32 := by
    rw [toInt_addi] <;> rw [show (32#32 : BitVec 32).toInt = 32 from rfl] <;> omega
  have e1 := toInt_max (Scalar.minsi (Scalar.addi l 1#32) (Scalar.addi v2 32#32)) (cFirst v2 f)
  have e2 := toInt_min (Scalar.addi l 1#32) (Scalar.addi v2 32#32)
  unfold cEnd
  rw [cmp_slt, select_bool]
  generalize (cFirst v2 f) = x at *
  split
  · rw [e1, e2, e]; omega
  · omega

/-- The classes of a chunk are the tile's. -/
theorem class_lt {v2 f l c n : BitVec 32} (h0 : 0 ≤ v2.toInt) (h1 : v2.toInt ≤ 100000) (t : Fin (run (cFirst v2 f) (cEnd v2 f l c n)).trips) :
    v2.toInt ≤ (Scf.iv (cFirst v2 f) 1#32 t).toInt ∧ (Scf.iv (cFirst v2 f) 1#32 t).toInt < v2.toInt + 32 := by
  have h := run_iv t
  have hf : (cFirst v2 f).toInt = max f.toInt v2.toInt := toInt_max _ _
  have he := cEnd_le (f := f) (l := l) (c := c) (n := n) h0 h1
  generalize (cEnd v2 f l c n).toInt = y at *
  generalize (cFirst v2 f).toInt = x at *
  generalize (Scf.iv (cFirst v2 f) 1#32 t).toInt = z at *
  generalize t.val = u at *
  omega

/-- The row of the tables a class has. -/
theorem class_row {v2 f l c n : BitVec 32} (h0 : 0 ≤ v2.toInt) (h1 : v2.toInt ≤ 100000) (t : Fin (run (cFirst v2 f) (cEnd v2 f l c n)).trips) :
    (Scalar.subi (Scf.iv (cFirst v2 f) 1#32 t) v2).toNat < 32 ∧ ((Scalar.subi (Scf.iv (cFirst v2 f) 1#32 t) v2).toNat : Int) = (Scf.iv (cFirst v2 f) 1#32 t).toInt - v2.toInt := by
  have h := class_lt h0 h1 t
  have e := toInt_subi (Scf.iv (cFirst v2 f) 1#32 t) v2 (by omega) (by omega)
  have := toNat_of_nonneg (Scalar.subi (Scf.iv (cFirst v2 f) 1#32 t) v2) (by omega)
  omega

theorem sums_in {v2 f l c n : BitVec 32} (h0 : 0 ≤ v2.toInt) (h1 : v2.toInt ≤ 100000) (t : Fin (run (cFirst v2 f) (cEnd v2 f l c n)).trips) (j : Nat) (hj : j ∈ cols) :
    BlockIn ![33, 256] (Scalar.subi (Scf.iv (cFirst v2 f) 1#32 t) v2).toNat j :=
  block_in (by have := (class_row h0 h1 t).1; omega) (cols_lt hj)
theorem nums_in {v2 f l c n : BitVec 32} (h0 : 0 ≤ v2.toInt) (h1 : v2.toInt ≤ 100000) (t : Fin (run (cFirst v2 f) (cEnd v2 f l c n)).trips) :
    BlockIn ![33, 16] (Scalar.subi (Scf.iv (cFirst v2 f) 1#32 t) v2).toNat 0 :=
  block_in (by have := (class_row h0 h1 t).1; omega) (by decide)

/-- A tile's first class. -/
theorem cls_toInt (i : grid0.Coords) : (cls i).toInt = ((i 0).val * 16 + (i 1).val) * 32 := by
  have h0 : (i 0).val < 2 := (i 0).isLt
  have h1 : (i 1).val < 16 := (i 1).isLt
  have e0 : (BitVec.ofNat 32 (i 0).val).toInt = (i 0).val := by
    rw [BitVec.toInt_ofNat']; exact toInt_bmod (by omega) (by omega)
  have e1 : (BitVec.ofNat 32 (i 1).val).toInt = (i 1).val := by
    rw [BitVec.toInt_ofNat']; exact toInt_bmod (by omega) (by omega)
  have e16 : (16#32 : BitVec 32).toInt = 16 := rfl
  have e32 : (32#32 : BitVec 32).toInt = 32 := rfl
  have m0 : (Scalar.muli (BitVec.ofNat 32 (i 0).val) 16#32).toInt = (i 0).val * 16 := by
    rw [toInt_muli] <;> rw [e0, e16] <;> omega
  have a0 : (Scalar.addi (Scalar.muli (BitVec.ofNat 32 (i 0).val) 16#32) (BitVec.ofNat 32 (i 1).val)).toInt = (i 0).val * 16 + (i 1).val := by
    rw [toInt_addi] <;> rw [m0, e1] <;> omega
  rw [toInt_muli] <;> rw [a0, e32] <;> omega

theorem cls_range (i : grid0.Coords) : 0 ≤ (cls i).toInt ∧ (cls i).toInt ≤ 992 := by
  have h0 : (i 0).val < 2 := (i 0).isLt
  have h1 : (i 1).val < 16 := (i 1).isLt
  rw [cls_toInt]
  omega

/-- Where chunks start, and how many there are. -/
theorem start_toInt {lo : BitVec 32} (h0 : 0 ≤ lo.toInt) (h1 : lo.toInt ≤ 160000) : (start lo).toInt = lo.toInt / 8 * 8 := by
  unfold start
  rw [toInt_muli] <;> rw [toInt_fdiv _ _ (by decide)] <;> rw [show (8#32 : BitVec 32).toInt = 8 from rfl] <;> omega

theorem chunks_toInt {lo hi : BitVec 32} (h0 : 0 ≤ lo.toInt) (h1 : lo.toInt ≤ 160000) (h2 : 0 ≤ hi.toInt) (h3 : hi.toInt ≤ 160000) :
    (chunks lo hi).toInt = (hi.toInt - lo.toInt / 8 * 8 + 191) / 192 := by
  have e := start_toInt h0 h1
  have e1 : (Scalar.subi hi (start lo)).toInt = hi.toInt - lo.toInt / 8 * 8 := by rw [toInt_subi] <;> rw [e] <;> omega
  have e2 : (Scalar.addi (Scalar.subi hi (start lo)) 192#32).toInt = hi.toInt - lo.toInt / 8 * 8 + 192 := by
    rw [toInt_addi] <;> rw [e1, show (192#32 : BitVec 32).toInt = 192 from rfl] <;> omega
  have e3 : (Scalar.subi (Scalar.addi (Scalar.subi hi (start lo)) 192#32) 1#32).toInt = hi.toInt - lo.toInt / 8 * 8 + 191 := by
    rw [toInt_subi] <;> rw [e2, show (1#32 : BitVec 32).toInt = 1 from rfl] <;> omega
  unfold chunks
  rw [toInt_fdiv _ _ (by decide), e3, show (192#32 : BitVec 32).toInt = 192 from rfl]

theorem pairs_toInt {lo hi : BitVec 32} (h0 : 0 ≤ lo.toInt) (h1 : lo.toInt ≤ 160000) (h2 : 0 ≤ hi.toInt) (h3 : hi.toInt ≤ 160000) :
    (pairs lo hi).toInt = ((hi.toInt - lo.toInt / 8 * 8 + 191) / 192 + 1) / 2 := by
  have e := chunks_toInt h0 h1 h2 h3
  have e1 : (Scalar.addi (chunks lo hi) 1#32).toInt = (hi.toInt - lo.toInt / 8 * 8 + 191) / 192 + 1 := by
    rw [toInt_addi] <;> rw [e, show (1#32 : BitVec 32).toInt = 1 from rfl] <;> omega
  unfold pairs
  rw [toInt_fdiv _ _ (by decide), e1, show (2#32 : BitVec 32).toInt = 2 from rfl]

theorem pos_toInt {lo c : BitVec 32} (h0 : 0 ≤ lo.toInt) (h1 : lo.toInt ≤ 160000) (h2 : 0 ≤ c.toInt) (h3 : c.toInt ≤ 1000) :
    (pos lo c).toInt = lo.toInt / 8 * 8 + c.toInt * 192 := by
  have e := start_toInt h0 h1
  have e1 : (Scalar.muli c 192#32).toInt = c.toInt * 192 := by
    rw [toInt_muli] <;> rw [show (192#32 : BitVec 32).toInt = 192 from rfl] <;> omega
  unfold pos
  rw [toInt_addi] <;> rw [e, e1] <;> omega

theorem base_toInt {lo c : BitVec 32} (h0 : 0 ≤ lo.toInt) (h1 : lo.toInt ≤ 160000) (h2 : 0 ≤ c.toInt) (h3 : c.toInt ≤ 1000) :
    (base lo c).toInt = min (lo.toInt / 8 * 8 + c.toInt * 192) 159808 := by
  unfold base
  rw [toInt_min, pos_toInt h0 h1 h2 h3]
  rfl

/-- The chunks of a pair, as numbers. -/
theorem fst2_toInt {t : Nat} (h : t ≤ 1000) : (fst2 t).toInt = 2 * t := by
  have e : (Scf.iv 0#32 1#32 t).toInt = t := by
    have : Scf.iv 0#32 1#32 t = BitVec.ofNat 32 t := by unfold Scf.iv; simp
    rw [this, BitVec.toInt_ofNat']; exact toInt_bmod (by omega) (by omega)
  rw [toInt_muli] <;> rw [e, show (2#32 : BitVec 32).toInt = 2 from rfl] <;> omega

theorem fst2_add {t : Nat} (h : t ≤ 1000) (k : BitVec 32) (h0 : 0 ≤ k.toInt) (h1 : k.toInt ≤ 2) : (Scalar.addi (fst2 t) k).toInt = 2 * t + k.toInt := by
  have e := fst2_toInt h
  rw [toInt_addi] <;> rw [e] <;> omega

/-- There are few pairs. -/
theorem pairs_lt {lo hi : BitVec 32} (h0 : 0 ≤ lo.toInt) (h1 : lo.toInt ≤ 160000) (h2 : 0 ≤ hi.toInt) (h3 : hi.toInt ≤ 160000) (t : Fin (run 0#32 (pairs lo hi)).trips) :
    t.val < 418 := by
  have h := run_iv t
  rw [pairs_toInt h0 h1 h2 h3, show (0#32 : BitVec 32).toInt = 0 from rfl] at h
  omega

/-- The rows copied exist, -/
theorem feat_in {lo c : BitVec 32} (h0 : 0 ≤ lo.toInt) (h1 : lo.toInt ≤ 160000) (h2 : 0 ≤ c.toInt) (h3 : c.toInt ≤ 1000) :
    ∀ a, (![(base lo c).toNat, 0] : Fin 2 → Nat) a + S192x256.size a ≤ S160000x256.size a := by
  have e := base_toInt h0 h1 h2 h3
  have := toNat_of_nonneg (base lo c) (by omega)
  intro a
  match a with
  | ⟨0, _⟩ => show (base lo c).toNat + 192 ≤ 160000; omega
  | ⟨1, _⟩ => show 0 + 256 ≤ 256; omega
/-- and so do the labels. -/
theorem lab_in {lo c : BitVec 32} (h0 : 0 ≤ lo.toInt) (h1 : lo.toInt ≤ 160000) (h2 : 0 ≤ c.toInt) (h3 : c.toInt ≤ 1000) :
    ∀ a, (![(base lo c).toNat] : Fin 1 → Nat) a + S192.size a ≤ S160016.size a := by
  have e := base_toInt h0 h1 h2 h3
  have := toNat_of_nonneg (base lo c) (by omega)
  intro a
  match a with
  | ⟨0, _⟩ => show (base lo c).toNat + 192 ≤ 160016; omega

end Cert.KernelIdeal.Tile

end
-- ==== Proof.ChkA.lean ====
module

public import proofs.«01_k».proof.Proof.Ranges

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

section

variable (i : grid0.Coords) (v14_0 v21 v26 v31 v36 v41 v46 v51 v56 v61 v66 v71 v76 v81 v86 v91 v96 v106_0 v113 v118 v123 v128 v133 v138 v143 v148 v153 v158 v163 v168 v173 v178 v183 v188 : BitVec 32)
  (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips)

/-- The facts a class of a chunk in buffer A needs. -/
theorem rowA (f l₀ : BitVec 32) (t : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 f l₀).trips) (prev b : BitVec 32) (l : Nat → BitVec 32)
    (h0 : 0 ≤ prev.toInt) (hp : (placeOf 16#32 b l (Scalar.addi (Scf.iv (cFirst (cls i) f) 1#32 t) 1#32)).toInt ≤ 192) :
    k0_chk11 i v14_0 v21 v26 v31 v36 v41 v46 v51 v56 v61 v66 v71 v76 v81 v86 v91 v96 v106_0 v113 v118 v123 v128 v133 v138 v143 v148 v153 v158 v163 v168 v173 v178 v183 v188 k0_t5 f l₀ t prev b (l 0) (l 1) (l 2) (l 3) (l 4) (l 5) (l 6) (l 7) (l 8) (l 9) (l 10) (l 11) (l 12) (l 13) (l 14) (l 15) := by
  have B : ∀ (u : Fin (run (Scalar.maxsi prev (rel (placeOf 8#32 v14_0 (vec16 v21 v26 v31 v36 v41 v46 v51 v56 v61 v66 v71 v76 v81 v86 v91 v96) (cls i)) (Scalar.muli 2#32 (Scf.iv 0#32 1#32 k0_t5)))) (Scalar.maxsi (placeOf 16#32 b l (Scalar.addi (Scf.iv (cFirst (cls i) f) 1#32 t) 1#32)) (Scalar.maxsi prev (rel (placeOf 8#32 v14_0 (vec16 v21 v26 v31 v36 v41 v46 v51 v56 v61 v66 v71 v76 v81 v86 v91 v96) (cls i)) (Scalar.muli 2#32 (Scf.iv 0#32 1#32 k0_t5)))))).trips) (j : Nat), j ∈ cols →
      BlockIn ![192, 256] (Scf.iv (Scalar.maxsi prev (rel (placeOf 8#32 v14_0 (vec16 v21 v26 v31 v36 v41 v46 v51 v56 v61 v66 v71 v76 v81 v86 v91 v96) (cls i)) (Scalar.muli 2#32 (Scf.iv 0#32 1#32 k0_t5)))) 1#32 u).toNat j := fun u j hj => row_in h0 hp u j hj
  exact ⟨⟨run_ok _ _,
    fun u => B u 0 (by decide),
    fun u => B u 1 (by decide),
    fun u => B u 2 (by decide),
    fun u => B u 3 (by decide),
    fun u => B u 4 (by decide),
    fun u => B u 5 (by decide),
    fun u => B u 6 (by decide),
    fun u => B u 7 (by decide),
    fun u => B u 8 (by decide),
    fun u => B u 9 (by decide),
    fun u => B u 10 (by decide),
    fun u => B u 11 (by decide),
    fun u => B u 12 (by decide),
    fun u => B u 13 (by decide),
    fun u => B u 14 (by decide),
    fun u => B u 15 (by decide),
    rest_ok _ _,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim⟩,
   ⟨fun u => (rest_none u).elim,
    fun u => (rest_none u).elim⟩⟩

/-- The facts the classes of a chunk in buffer A need. -/
theorem classesA (f l : BitVec 32) : k0_chk8 i v14_0 v21 v26 v31 v36 v41 v46 v51 v56 v61 v66 v71 v76 v81 v86 v91 v96 v106_0 v113 v118 v123 v128 v133 v138 v143 v148 v153 v158 v163 v168 v173 v178 v183 v188 k0_t5 f l := by
  have h0 := (cls_range i).1
  have h1 : (cls i).toInt ≤ 100000 := by have := (cls_range i).2; omega
  have B : ∀ (u : Fin (run (cFirst (cls i) f) (cEnd (cls i) f l (Scalar.muli 2#32 (Scf.iv 0#32 1#32 k0_t5)) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))))).trips) (j : Nat), j ∈ cols →
      BlockIn ![33, 256] (Scalar.subi (Scf.iv (cFirst (cls i) f) 1#32 u) (cls i)).toNat j := fun u j hj => sums_in h0 h1 u j hj
  have N : ∀ u : Fin (run (cFirst (cls i) f) (cEnd (cls i) f l (Scalar.muli 2#32 (Scf.iv 0#32 1#32 k0_t5)) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))))).trips,
      BlockIn ![33, 16] (Scalar.subi (Scf.iv (cFirst (cls i) f) 1#32 u) (cls i)).toNat 0 := fun u => nums_in h0 h1 u
  exact ⟨⟨run_ok _ _,
    fun u => B u 0 (by decide),
    fun u => B u 1 (by decide),
    fun u => B u 2 (by decide),
    fun u => B u 3 (by decide),
    fun u => B u 4 (by decide),
    fun u => B u 5 (by decide),
    fun u => B u 6 (by decide),
    fun u => B u 7 (by decide),
    fun u => B u 8 (by decide),
    fun u => B u 9 (by decide),
    fun u => B u 10 (by decide),
    fun u => B u 11 (by decide),
    fun u => B u 12 (by decide),
    fun u => B u 13 (by decide),
    fun u => B u 14 (by decide),
    fun u => B u 15 (by decide),
    fun u => B u 0 (by decide),
    fun u => B u 1 (by decide),
    fun u => B u 2 (by decide),
    fun u => B u 3 (by decide),
    fun u => B u 4 (by decide),
    fun u => B u 5 (by decide),
    fun u => B u 6 (by decide),
    fun u => B u 7 (by decide),
    fun u => B u 8 (by decide),
    fun u => B u 9 (by decide),
    fun u => B u 10 (by decide),
    fun u => B u 11 (by decide),
    fun u => B u 12 (by decide),
    fun u => B u 13 (by decide),
    fun u => B u 14 (by decide)⟩,
   ⟨fun u => B u 15 (by decide),
    fun u => N u,
    rest_ok _ _,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim⟩,
   ⟨fun u => (rest_none u).elim,
    fun u => (rest_none u).elim,
    fun u => (rest_none u).elim,
    fun u => (rest_none u).elim⟩⟩

end

end Cert.KernelIdeal.Tile

end
-- ==== Proof.ChkB.lean ====
module

public import proofs.«01_k».proof.Proof.Ranges

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

section

variable (i : grid0.Coords) (v14_0 v21 v26 v31 v36 v41 v46 v51 v56 v61 v66 v71 v76 v81 v86 v91 v96 v106_0 v113 v118 v123 v128 v133 v138 v143 v148 v153 v158 v163 v168 v173 v178 v183 v188 : BitVec 32)
  (k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips)

/-- The facts a class of a chunk in buffer B needs. -/
theorem rowB (f l₀ : BitVec 32) (t : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 f l₀).trips) (prev b : BitVec 32) (l : Nat → BitVec 32)
    (h0 : 0 ≤ prev.toInt) (hp : (placeOf 16#32 b l (Scalar.addi (Scf.iv (cFirst (cls i) f) 1#32 t) 1#32)).toInt ≤ 192) :
    k0_chk20 i v14_0 v21 v26 v31 v36 v41 v46 v51 v56 v61 v66 v71 v76 v81 v86 v91 v96 v106_0 v113 v118 v123 v128 v133 v138 v143 v148 v153 v158 v163 v168 v173 v178 v183 v188 k0_t5 f l₀ t prev b (l 0) (l 1) (l 2) (l 3) (l 4) (l 5) (l 6) (l 7) (l 8) (l 9) (l 10) (l 11) (l 12) (l 13) (l 14) (l 15) := by
  have B : ∀ (u : Fin (run (Scalar.maxsi prev (rel (placeOf 8#32 v14_0 (vec16 v21 v26 v31 v36 v41 v46 v51 v56 v61 v66 v71 v76 v81 v86 v91 v96) (cls i)) (Scalar.addi (Scalar.muli 2#32 (Scf.iv 0#32 1#32 k0_t5)) 1#32))) (Scalar.maxsi (placeOf 16#32 b l (Scalar.addi (Scf.iv (cFirst (cls i) f) 1#32 t) 1#32)) (Scalar.maxsi prev (rel (placeOf 8#32 v14_0 (vec16 v21 v26 v31 v36 v41 v46 v51 v56 v61 v66 v71 v76 v81 v86 v91 v96) (cls i)) (Scalar.addi (Scalar.muli 2#32 (Scf.iv 0#32 1#32 k0_t5)) 1#32))))).trips) (j : Nat), j ∈ cols →
      BlockIn ![192, 256] (Scf.iv (Scalar.maxsi prev (rel (placeOf 8#32 v14_0 (vec16 v21 v26 v31 v36 v41 v46 v51 v56 v61 v66 v71 v76 v81 v86 v91 v96) (cls i)) (Scalar.addi (Scalar.muli 2#32 (Scf.iv 0#32 1#32 k0_t5)) 1#32))) 1#32 u).toNat j := fun u j hj => row_in h0 hp u j hj
  exact ⟨⟨run_ok _ _,
    fun u => B u 0 (by decide),
    fun u => B u 1 (by decide),
    fun u => B u 2 (by decide),
    fun u => B u 3 (by decide),
    fun u => B u 4 (by decide),
    fun u => B u 5 (by decide),
    fun u => B u 6 (by decide),
    fun u => B u 7 (by decide),
    fun u => B u 8 (by decide),
    fun u => B u 9 (by decide),
    fun u => B u 10 (by decide),
    fun u => B u 11 (by decide),
    fun u => B u 12 (by decide),
    fun u => B u 13 (by decide),
    fun u => B u 14 (by decide),
    fun u => B u 15 (by decide),
    rest_ok _ _,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim⟩,
   ⟨fun u => (rest_none u).elim,
    fun u => (rest_none u).elim⟩⟩

/-- The facts the classes of a chunk in buffer B need. -/
theorem classesB (f l : BitVec 32) : k0_chk17 i v14_0 v21 v26 v31 v36 v41 v46 v51 v56 v61 v66 v71 v76 v81 v86 v91 v96 v106_0 v113 v118 v123 v128 v133 v138 v143 v148 v153 v158 v163 v168 v173 v178 v183 v188 k0_t5 f l := by
  have h0 := (cls_range i).1
  have h1 : (cls i).toInt ≤ 100000 := by have := (cls_range i).2; omega
  have B : ∀ (u : Fin (run (cFirst (cls i) f) (cEnd (cls i) f l (Scalar.addi (Scalar.muli 2#32 (Scf.iv 0#32 1#32 k0_t5)) 1#32) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))))).trips) (j : Nat), j ∈ cols →
      BlockIn ![33, 256] (Scalar.subi (Scf.iv (cFirst (cls i) f) 1#32 u) (cls i)).toNat j := fun u j hj => sums_in h0 h1 u j hj
  have N : ∀ u : Fin (run (cFirst (cls i) f) (cEnd (cls i) f l (Scalar.addi (Scalar.muli 2#32 (Scf.iv 0#32 1#32 k0_t5)) 1#32) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))))).trips,
      BlockIn ![33, 16] (Scalar.subi (Scf.iv (cFirst (cls i) f) 1#32 u) (cls i)).toNat 0 := fun u => nums_in h0 h1 u
  exact ⟨⟨run_ok _ _,
    fun u => B u 0 (by decide),
    fun u => B u 1 (by decide),
    fun u => B u 2 (by decide),
    fun u => B u 3 (by decide),
    fun u => B u 4 (by decide),
    fun u => B u 5 (by decide),
    fun u => B u 6 (by decide),
    fun u => B u 7 (by decide),
    fun u => B u 8 (by decide),
    fun u => B u 9 (by decide),
    fun u => B u 10 (by decide),
    fun u => B u 11 (by decide),
    fun u => B u 12 (by decide),
    fun u => B u 13 (by decide),
    fun u => B u 14 (by decide),
    fun u => B u 15 (by decide),
    fun u => B u 0 (by decide),
    fun u => B u 1 (by decide),
    fun u => B u 2 (by decide),
    fun u => B u 3 (by decide),
    fun u => B u 4 (by decide),
    fun u => B u 5 (by decide),
    fun u => B u 6 (by decide),
    fun u => B u 7 (by decide),
    fun u => B u 8 (by decide),
    fun u => B u 9 (by decide),
    fun u => B u 10 (by decide),
    fun u => B u 11 (by decide),
    fun u => B u 12 (by decide),
    fun u => B u 13 (by decide),
    fun u => B u 14 (by decide)⟩,
   ⟨fun u => B u 15 (by decide),
    fun u => N u,
    rest_ok _ _,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim,
    fun u => (rest_none u).elim⟩,
   ⟨fun u => (rest_none u).elim,
    fun u => (rest_none u).elim,
    fun u => (rest_none u).elim,
    fun u => (rest_none u).elim⟩⟩

end

end Cert.KernelIdeal.Tile

end
-- ==== Proof.WpChunk.lean ====
module

public import proofs.«01_k».proof.Proof.WpClass
public import proofs.«01_k».proof.Proof.ChkA
public import proofs.«01_k».proof.Proof.ChkB

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- The facts a tile needs once it knows its first and its last row. -/
theorem chk5 (i : grid0.Coords) (v14_0 v21 v26 v31 v36 v41 v46 v51 v56 v61 v66 v71 v76 v81 v86 v91 v96 v106_0 v113 v118 v123 v128 v133 v138 v143 v148 v153 v158 v163 v168 v173 v178 v183 v188 : BitVec 32)
    (h0 : 0 ≤ (placeOf 8#32 v14_0 (vec16 v21 v26 v31 v36 v41 v46 v51 v56 v61 v66 v71 v76 v81 v86 v91 v96) (cls i)).toInt) (h1 : (placeOf 8#32 v14_0 (vec16 v21 v26 v31 v36 v41 v46 v51 v56 v61 v66 v71 v76 v81 v86 v91 v96) (cls i)).toInt ≤ 160000)
    (h2 : 0 ≤ (placeOf 8#32 v106_0 (vec16 v113 v118 v123 v128 v133 v138 v143 v148 v153 v158 v163 v168 v173 v178 v183 v188) (Scalar.addi (cls i) 32#32)).toInt) (h3 : (placeOf 8#32 v106_0 (vec16 v113 v118 v123 v128 v133 v138 v143 v148 v153 v158 v163 v168 v173 v178 v183 v188) (Scalar.addi (cls i) 32#32)).toInt ≤ 160000) :
    k0_chk5 i v14_0 v21 v26 v31 v36 v41 v46 v51 v56 v61 v66 v71 v76 v81 v86 v91 v96 v106_0 v113 v118 v123 v128 v133 v138 v143 v148 v153 v158 v163 v168 v173 v178 v183 v188 := by
  have T : ∀ t : Fin (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips, t.val < 418 := fun t => pairs_lt h0 h1 h2 h3 t
  have A : ∀ t : Fin (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips, ∀ a, (![(base (placeOf 8#32 v14_0 (vec16 v21 v26 v31 v36 v41 v46 v51 v56 v61 v66 v71 v76 v81 v86 v91 v96) (cls i)) (fst2 t)).toNat, 0] : Fin 2 → Nat) a + S192x256.size a ≤ S160000x256.size a := fun t =>
    feat_in h0 h1 (by have := T t; have := fst2_toInt (t := t.val) (by omega); omega) (by have := T t; have := fst2_toInt (t := t.val) (by omega); omega)
  have A' : ∀ t : Fin (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips, ∀ k : BitVec 32, 0 ≤ k.toInt → k.toInt ≤ 2 → ∀ a, (![(base (placeOf 8#32 v14_0 (vec16 v21 v26 v31 v36 v41 v46 v51 v56 v61 v66 v71 v76 v81 v86 v91 v96) (cls i)) (Scalar.addi (fst2 t) k)).toNat, 0] : Fin 2 → Nat) a + S192x256.size a ≤ S160000x256.size a := fun t k hk hk' =>
    feat_in h0 h1 (by have := T t; have := fst2_add (t := t.val) (by omega) k hk hk'; omega) (by have := T t; have := fst2_add (t := t.val) (by omega) k hk hk'; omega)
  have B : ∀ t : Fin (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips, ∀ a, (![(base (placeOf 8#32 v14_0 (vec16 v21 v26 v31 v36 v41 v46 v51 v56 v61 v66 v71 v76 v81 v86 v91 v96) (cls i)) (fst2 t)).toNat] : Fin 1 → Nat) a + S192.size a ≤ S160016.size a := fun t =>
    lab_in h0 h1 (by have := T t; have := fst2_toInt (t := t.val) (by omega); omega) (by have := T t; have := fst2_toInt (t := t.val) (by omega); omega)
  have B' : ∀ t : Fin (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips, ∀ k : BitVec 32, 0 ≤ k.toInt → k.toInt ≤ 2 → ∀ a, (![(base (placeOf 8#32 v14_0 (vec16 v21 v26 v31 v36 v41 v46 v51 v56 v61 v66 v71 v76 v81 v86 v91 v96) (cls i)) (Scalar.addi (fst2 t) k)).toNat] : Fin 1 → Nat) a + S192.size a ≤ S160016.size a := fun t k hk hk' =>
    lab_in h0 h1 (by have := T t; have := fst2_add (t := t.val) (by omega) k hk hk'; omega) (by have := T t; have := fst2_add (t := t.val) (by omega) k hk hk'; omega)
  have Z := feat_in (lo := (placeOf 8#32 v14_0 (vec16 v21 v26 v31 v36 v41 v46 v51 v56 v61 v66 v71 v76 v81 v86 v91 v96) (cls i))) (c := 0#32) h0 h1 (by decide) (by decide)
  exact ⟨fun _ => Z, run_ok _ _, fun t => A' t 1#32 (by decide) (by decide), fun t => A t, fun t => B t, fun t _ => A' t 2#32 (by decide) (by decide),
    fun t => A' t 1#32 (by decide) (by decide), fun t => B' t 1#32 (by decide) (by decide), rest_ok _ _, fun t => (rest_none t).elim, fun t => (rest_none t).elim,
    fun t => (rest_none t).elim, fun t _ => (rest_none t).elim, fun t => (rest_none t).elim, fun t => (rest_none t).elim⟩

/-- A class of a chunk in buffer A. -/
theorem wp_classA {arg7 : Memref sig .scVector .vmem S192x256 .f32} {arg9 : Memref sig .scVector .vmem S192 .i32}
    {arg10 : Memref sig .scVector .vmem S33x256 .f32} {arg11 : Memref sig .scVector .vmem S33x16 .f32}
    {v14_0 v21 v26 v31 v36 v41 v46 v51 v56 v61 v66 v71 v76 v81 v86 v91 v96 v106_0 v113 v118 v123 v128 v133 v138 v143 v148 v153 v158 v163 v168 v173 v178 v183 v188 : BitVec 32}
    {k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips} {f l : BitVec 32}
    {hw : k0_chk8 i v14_0 v21 v26 v31 v36 v41 v46 v51 v56 v61 v66 v71 v76 v81 v86 v91 v96 v106_0 v113 v118 v123 v128 v133 v138 v143 v148 v153 v158 v163 v168 v173 v178 v183 v188 k0_t5 f l}
    {t : Fin (k0_t7_loop i v14_0 v21 v26 v31 v36 v41 v46 v51 v56 v61 v66 v71 v76 v81 v86 v91 v96 v106_0 v113 v118 v123 v128 v133 v138 v143 v148 v153 v158 v163 v168 v173 v178 v183 v188 k0_t5 f l).trips}
    {R : Nat → Nat → F .f32} {L : Nat → BitVec 32} (st : St F) (h0 : 0 ≤ st.at_.toInt)
    {Q : BitVec 32 × T16 F → sProp (MT nD τ sig (HIx 1) (Elt F) ℕ UU ℕ)} :
    iprop(holds d i arg7 fullShare (on2 (d := ![192, 256]) R) ∗ holds d i arg9 fullShare (on1 (d := ![192]) L) ∗ tables d i arg10 arg11 st) ⊢
      iprop((iprop(holds d i arg7 fullShare (on2 (d := ![192, 256]) R) ∗ holds d i arg9 fullShare (on1 (d := ![192]) L) ∗ tables d i arg10 arg11 (classM R L (cls i) (rel (placeOf 8#32 v14_0 (vec16 v21 v26 v31 v36 v41 v46 v51 v56 v61 v66 v71 v76 v81 v86 v91 v96) (cls i)) (fst2 k0_t5)) (Scf.iv (cFirst (cls i) f) 1#32 t) st))
          -∗ Q ((classM R L (cls i) (rel (placeOf 8#32 v14_0 (vec16 v21 v26 v31 v36 v41 v46 v51 v56 v61 v66 v71 v76 v81 v86 v91 v96) (cls i)) (fst2 k0_t5)) (Scf.iv (cFirst (cls i) f) 1#32 t) st).at_, (classM R L (cls i) (rel (placeOf 8#32 v14_0 (vec16 v21 v26 v31 v36 v41 v46 v51 v56 v61 v66 v71 v76 v81 v86 v91 v96) (cls i)) (fst2 k0_t5)) (Scf.iv (cFirst (cls i) f) 1#32 t) st).sq))
        -∗ WP d i (classA i arg7 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 f l hw t st.at_ (vOf st.sq)) Q) := by
  unfold classA
  exact wp_classStep st (rowA i v14_0 v21 v26 v31 v36 v41 v46 v51 v56 v61 v66 v71 v76 v81 v86 v91 v96 v106_0 v113 v118 v123 v128 v133 v138 v143 v148 v153 v158 v163 v168 v173 v178 v183 v188 k0_t5 f l t st.at_ _ _ h0 (clb_range (F := F) L _).2)

/-- A class of a chunk in buffer B. -/
theorem wp_classB {arg8 : Memref sig .scVector .vmem S192x256 .f32} {arg9 : Memref sig .scVector .vmem S192 .i32}
    {arg10 : Memref sig .scVector .vmem S33x256 .f32} {arg11 : Memref sig .scVector .vmem S33x16 .f32}
    {v14_0 v21 v26 v31 v36 v41 v46 v51 v56 v61 v66 v71 v76 v81 v86 v91 v96 v106_0 v113 v118 v123 v128 v133 v138 v143 v148 v153 v158 v163 v168 v173 v178 v183 v188 : BitVec 32}
    {k0_t5 : Fin (k0_t5_loop i v14_0 v21 v26 v31 v36 v41 v46 v51 v56 v61 v66 v71 v76 v81 v86 v91 v96 v106_0 v113 v118 v123 v128 v133 v138 v143 v148 v153 v158 v163 v168 v173 v178 v183 v188).trips} {f l : BitVec 32}
    {hw : k0_chk17 i v14_0 v21 v26 v31 v36 v41 v46 v51 v56 v61 v66 v71 v76 v81 v86 v91 v96 v106_0 v113 v118 v123 v128 v133 v138 v143 v148 v153 v158 v163 v168 v173 v178 v183 v188 k0_t5 f l}
    {t : Fin (k0_t16_loop i v14_0 v21 v26 v31 v36 v41 v46 v51 v56 v61 v66 v71 v76 v81 v86 v91 v96 v106_0 v113 v118 v123 v128 v133 v138 v143 v148 v153 v158 v163 v168 v173 v178 v183 v188 k0_t5 f l).trips}
    {R : Nat → Nat → F .f32} {L : Nat → BitVec 32} (st : St F) (h0 : 0 ≤ st.at_.toInt)
    {Q : BitVec 32 × T16 F → sProp (MT nD τ sig (HIx 1) (Elt F) ℕ UU ℕ)} :
    iprop(holds d i arg8 fullShare (on2 (d := ![192, 256]) R) ∗ holds d i arg9 fullShare (on1 (d := ![192]) L) ∗ tables d i arg10 arg11 st) ⊢
      iprop((iprop(holds d i arg8 fullShare (on2 (d := ![192, 256]) R) ∗ holds d i arg9 fullShare (on1 (d := ![192]) L) ∗ tables d i arg10 arg11 (classM R L (cls i) (rel (placeOf 8#32 v14_0 (vec16 v21 v26 v31 v36 v41 v46 v51 v56 v61 v66 v71 v76 v81 v86 v91 v96) (cls i)) (Scalar.addi (fst2 k0_t5) 1#32)) (Scf.iv (cFirst (cls i) f) 1#32 t) st))
          -∗ Q ((classM R L (cls i) (rel (placeOf 8#32 v14_0 (vec16 v21 v26 v31 v36 v41 v46 v51 v56 v61 v66 v71 v76 v81 v86 v91 v96) (cls i)) (Scalar.addi (fst2 k0_t5) 1#32)) (Scf.iv (cFirst (cls i) f) 1#32 t) st).at_, (classM R L (cls i) (rel (placeOf 8#32 v14_0 (vec16 v21 v26 v31 v36 v41 v46 v51 v56 v61 v66 v71 v76 v81 v86 v91 v96) (cls i)) (Scalar.addi (fst2 k0_t5) 1#32)) (Scf.iv (cFirst (cls i) f) 1#32 t) st).sq))
        -∗ WP d i (classB i arg8 arg9 arg10 arg11 v14_0 v21 v26 v31 v36 v41 v46 v51 v56 v61 v66 v71 v76 v81 v86 v91 v96 v106_0 v113 v118 v123 v128 v133 v138 v143 v148 v153 v158 v163 v168 v173 v178 v183 v188 k0_t5 f l hw t st.at_ (vOf st.sq)) Q) := by
  unfold classB
  exact wp_classStep st (rowB i v14_0 v21 v26 v31 v36 v41 v46 v51 v56 v61 v66 v71 v76 v81 v86 v91 v96 v106_0 v113 v118 v123 v128 v133 v138 v143 v148 v153 v158 v163 v168 v173 v178 v183 v188 k0_t5 f l t st.at_ _ _ h0 (clb_range (F := F) L _).2)

/-- The classes of a chunk leave a place of it. -/
theorem classesM_at (R : Nat → Nat → F .f32) (L : Nat → BitVec 32) (v2 rel : BitVec 32) (t : Nat) (st : St F) : 0 ≤ (classesM R L v2 rel t st).at_.toInt := by
  cases t with
  | zero => exact (clb_range (F := F) L _).1
  | succ t => exact (clb_range (F := F) L _).1

/-- A chunk's rows begin to come in. -/
theorem wp_fetch {arg2 : Memref sig .scVector .hbm S160000x256 .f32} {dst : Memref sig .scVector .vmem S192x256 .f32} {sem : DmaSems sig S_} {w : BitVec 32} {h}
    {hsrc : (featAt arg2 w h).view.WordExact} {hdst : dst.view.WordExact} {hsem} {k : PUnit → TP F i α} {q : PosShare TreeShare} {X : Nat → Nat → F .f32} {B : S192x256.Idx → F .f32} :
    iprop(holds d i arg2 q (on2 (d := ![160000, 256]) X) ∗ holds d i dst fullShare B ∗ idle d i sem) ⊢
      iprop((Flight (EC (F := F)) (thr d i) (.dma sem.sem) (none : HIx 1) dst.view.dmaCredit
          iprop(holds d i dst fullShare (on2 (d := ![192, 256]) fun a b => X (w.toNat + a) b) ∗ holds d i arg2 q (on2 (d := ![160000, 256]) X)) -∗ WP d i (k ⟨⟩) Q)
        -∗ WP d i (.op (.enqueueDma (featAt arg2 w h) (.here dst) (.dma sem.sem) hsrc hdst hsem) k) Q) := by
  iintro ⟨HX, HB, Hs⟩ Hk
  ihave HX := (holds_slice arg2 (Rect.unit (s := S160000x256) ![w.toNat, 0] S192x256.size h) (fun _ => rfl) q (on2 (d := ![160000, 256]) X)) $$ HX
  icases HX with ⟨HX, Hr⟩
  iapply (wp_begin (by decide)) $$ [HX HB Hs]
  · isplitl [HX]; · iexact HX
    isplitl [HB] <;> iassumption
  iintro HF
  iapply Hk
  ihave HF := Flight_frame $$ [HF Hr]
  · isplitl [HF]
    · iexact HF
    · iexact Hr
  iapply (Transfers.Flight_mono (EC (F := F)) (thr d i) (?_ : _ ⊢ _)) $$ HF
  iintro ⟨⟨H1, H2⟩, Hr⟩
  have e : (fun x => on2 (d := ![160000, 256]) X ((Rect.unit (s := S160000x256) ![w.toNat, 0] S192x256.size h).emb x)) = on2 (d := ![192, 256]) fun a b => X (w.toNat + a) b := by
    funext x
    show X (w.toNat + 1 * (x 0).val) (0 + 1 * (x 1).val) = X (w.toNat + (x 0).val) (x 1).val
    rw [Nat.one_mul, Nat.one_mul, Nat.zero_add]
  isplitl [H1]
  · rw [← e]; iexact H1
  iapply Hr; iexact H2

/-- A chunk's classes. -/
theorem wp_process {rows : Memref sig .scVector .vmem S192x256 .f32} {labs : Memref sig .scVector .vmem S192 .i32} {arg16 : Memref sig .scVector .shared S160016 .i32}
    {sums : Memref sig .scVector .vmem S33x256 .f32} {nums : Memref sig .scVector .vmem S33x16 .f32} {w : BitVec 32} {h} {sem : DmaSems sig S_}
    {hsrc : (labAt arg16 w h).view.WordExact} {hlabs : labs.view.WordExact} {v2 rel c n : BitVec 32}
    {C : BitVec 32 → BitVec 32 → Prop} [dC : ∀ f l, Decidable (C f l)] {ok : ∀ f l, C f l → (run (cFirst v2 f) (cEnd v2 f l c n)).OK}
    {body : ∀ f l, C f l → Fin (run (cFirst v2 f) (cEnd v2 f l c n)).trips → BitVec 32 → (Nat → FVec F S16 .f32) → TP F i (BitVec 32 × T16 F)}
    {k : T16 F → TP F i α} {q : PosShare TreeShare} {T : Nat → BitVec 32} {R : Nat → Nat → F .f32} {A : S192.Idx → BitVec 32} (st : St F)
    (hC : ∀ f l, C f l)
    (hbody : ∀ f l hw (t : Fin (run (cFirst v2 f) (cEnd v2 f l c n)).trips) (L : Nat → BitVec 32) (st : St F), 0 ≤ st.at_.toInt → ∀ Q' : BitVec 32 × T16 F → sProp (MT nD τ sig (HIx 1) (Elt F) ℕ UU ℕ),
      iprop(holds d i rows fullShare (on2 (d := ![192, 256]) R) ∗ holds d i labs fullShare (on1 (d := ![192]) L) ∗ tables d i sums nums st) ⊢
      iprop((iprop(holds d i rows fullShare (on2 (d := ![192, 256]) R) ∗ holds d i labs fullShare (on1 (d := ![192]) L) ∗ tables d i sums nums (classM R L v2 rel (Scf.iv (cFirst v2 f) 1#32 t) st))
          -∗ Q' ((classM R L v2 rel (Scf.iv (cFirst v2 f) 1#32 t) st).at_, (classM R L v2 rel (Scf.iv (cFirst v2 f) 1#32 t) st).sq))
        -∗ WP d i (body f l hw t st.at_ (vOf st.sq)) Q')) :
    iprop(holds d i rows fullShare (on2 (d := ![192, 256]) R) ∗ holds d i labs fullShare A ∗ holds d i arg16 q (on1 (d := ![160016]) T) ∗ idle d i sem ∗ debt d i O W ∗ tables d i sums nums st) ⊢
      iprop((iprop(holds d i rows fullShare (on2 (d := ![192, 256]) R) ∗ holds d i labs fullShare (on1 (d := ![192]) fun a => T (w.toNat + a)) ∗ holds d i arg16 q (on1 (d := ![160016]) T)
            ∗ idle d i sem ∗ debt d i O W ∗ tables d i sums nums (chunkM R (fun a => T (w.toNat + a)) v2 rel c n st))
          -∗ WP d i (k (chunkM R (fun a => T (w.toNat + a)) v2 rel c n st).sq) Q)
        -∗ WP d i (process labs (labAt arg16 w h) sem hsrc hlabs v2 c n (vOf st.sq) C ok body k) Q) := by
  unfold process
  iintro ⟨HR, HL, HT, Hs, HO, HS⟩ Hk
  ihave HT := (holds_slice arg16 (Rect.unit (s := S160016) ![w.toNat] S192.size h) (fun _ => rfl) q (on1 (d := ![160016]) T)) $$ HT
  icases HT with ⟨HT, Hr⟩
  iapply (wp_copy (by decide)) $$ [HT HL Hs HO]
  · isplitl [HT]; · iexact HT
    isplitl [HL]; · iexact HL
    isplitl [Hs] <;> iassumption
  iintro ⟨HT, HL, Hs, HO⟩
  ihave HT := Hr $$ HT
  have e : (fun x => on1 (d := ![160016]) T ((Rect.unit (s := S160016) ![w.toNat] S192.size h).emb x)) = on1 (d := ![192]) fun a => T (w.toNat + a) := by
    funext x
    show T (w.toNat + 1 * (x 0).val) = T (w.toNat + (x 0).val)
    rw [Nat.one_mul]
  rw [e]
  iapply wp_get16 $$ HL
  iintro HL
  iapply wp_get16 $$ HL
  iintro HL
  iapply (wp_assume (defs := defs₀ (F := F)) 𝒱₀ (thr d i) none Set.univ (hC _ _))
  iapply wp_chunkFind $$ HL
  iintro HL
  generalize hG : (fun a => T (w.toNat + a)) = L
  iapply (Scf.wp_for_bind frame (wpE (defs₀ (F := F)) 𝒱₀ (thr d i) none) Set.univ (run (cFirst v2 (fM F L)) (cEnd v2 (fM F L) (lM F L) c n)).lb _ _ _ _ _
    (fun t s => iprop(⌜s = ((classesM R L v2 rel t st).at_, (classesM R L v2 rel t st).sq)⌝ ∗ holds d i rows fullShare (on2 (d := ![192, 256]) R)
      ∗ holds d i labs fullShare (on1 (d := ![192]) L) ∗ tables d i sums nums (classesM R L v2 rel t st))) (fun t s => by
      iintro ⟨%hs, H⟩
      subst hs
      iapply (hbody _ _ _ t L (classesM R L v2 rel t st) (classesM_at R L v2 rel t st) _) $$ H
      iintro H
      isplitr; · ipureintro; rfl
      iexact H)) $$ [HR HL HS]
  · isplitr; · ipureintro; rfl
    isplitl [HR]; · iexact HR
    isplitl [HL]; · iexact HL
    iexact HS
  iintro %s ⟨%hs, HR, HL, HS⟩
  subst hs
  iapply Hk
  isplitl [HR]; · iexact HR
  isplitl [HL]; · iexact HL
  isplitl [HT]; · iexact HT
  isplitl [Hs]; · iexact Hs
  isplitl [HO]; · iexact HO
  iexact HS

end Cert.KernelIdeal.Tile

end
-- ==== Proof.WpPair.lean ====
module

public import proofs.«01_k».proof.Proof.WpChunk

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- The pairs are counted from zero on. -/
theorem fst2_next (t : Nat) : Scalar.addi (fst2 t) 2#32 = fst2 (t + 1) := by
  have e : ∀ t : Nat, Scf.iv 0#32 1#32 t = BitVec.ofNat 32 t := fun t => by unfold Scf.iv; simp
  show 2#32 * Scf.iv 0#32 1#32 t + 2#32 = 2#32 * Scf.iv 0#32 1#32 (t + 1)
  rw [e, e, BitVec.ofNat_add, BitVec.mul_add]
  rfl

/-- A further pair follows just when the loop goes on. -/
theorem more_iff {lo hi : BitVec 32} (h0 : 0 ≤ lo.toInt) (h1 : lo.toInt ≤ 160000) (h2 : 0 ≤ hi.toInt) (h3 : hi.toInt ≤ 160000) (t : Fin (run 0#32 (pairs lo hi)).trips) :
    more lo hi (fst2 t) = 1#1 ↔ t.val + 1 < (run 0#32 (pairs lo hi)).trips := by
  have ht := pairs_lt h0 h1 h2 h3 t
  have hp := pairs_toInt h0 h1 h2 h3
  have e := fst2_add (t := t.val) (by omega) 2#32 (by decide) (by decide)
  have e2 : (2#32 : BitVec 32).toInt = 2 := rfl
  have e3 : (Scalar.muli 2#32 (pairs lo hi)).toInt = 2 * (pairs lo hi).toInt := by
    rw [toInt_muli] <;> rw [e2, hp] <;> omega
  unfold more
  have er := run_trips 0#32 (pairs lo hi)
  rw [show (0#32 : BitVec 32).toInt = 0 from rfl] at er
  rw [test_widened, cmp_slt, ofBool_one, decide_eq_true_eq, e, e3, e2]
  omega

/-- The rows from place `w` on come in. -/
def coming (d : Dev nD) (i : grid0.Coords) (arg2 : Memref sig .scVector .hbm S160000x256 .f32) (dst : Memref sig .scVector .vmem S192x256 .f32) (sem : DmaSems sig S_)
    (q : PosShare TreeShare) (X : Nat → Nat → F .f32) (w : BitVec 32) : sProp (MT nD τ sig (HIx 1) (Elt F) ℕ UU ℕ) :=
  Flight (EC (F := F)) (thr d i) (.dma sem.sem) (none : HIx 1) dst.view.dmaCredit
    iprop(holds d i dst fullShare (on2 (d := ![192, 256]) fun a b => X (w.toNat + a) b) ∗ holds d i arg2 q (on2 (d := ![160000, 256]) X))

/-- Nothing comes in: the buffer holds something, and the rows may be fetched. -/
def still (d : Dev nD) (i : grid0.Coords) (arg2 : Memref sig .scVector .hbm S160000x256 .f32) (dst : Memref sig .scVector .vmem S192x256 .f32) (sem : DmaSems sig S_)
    (q : PosShare TreeShare) (X : Nat → Nat → F .f32) : sProp (MT nD τ sig (HIx 1) (Elt F) ℕ UU ℕ) :=
  iprop((∃ B : S192x256.Idx → F .f32, holds d i dst fullShare B) ∗ holds d i arg2 q (on2 (d := ![160000, 256]) X) ∗ idle d i sem)

/-- The labels' buffer, the shared labels, the semaphores of the labels' copies, and what the tile owes. -/
def gear (d : Dev nD) (i : grid0.Coords) (arg9 : Memref sig .scVector .vmem S192 .i32) (arg16 : Memref sig .scVector .shared S160016 .i32) (r7 r8 : DmaSems sig S_)
    (q : PosShare TreeShare) (T : Nat → BitVec 32) (O : CellTallies nD τ sig (HIx 1)) (W : Waits sig (HIx 1)) : sProp (MT nD τ sig (HIx 1) (Elt F) ℕ UU ℕ) :=
  iprop((∃ A : S192.Idx → BitVec 32, holds (F := F) d i arg9 fullShare A) ∗ holds (F := F) d i arg16 q (on1 (d := ![160016]) T) ∗ idle d i r7 ∗ idle d i r8 ∗ debt d i O W)

/-- A program with a choice runs if both its ways do. -/
theorem wp_dite {c : Prop} [Decidable c] {a : c → TP F i α} {b : ¬c → TP F i α} {P : sProp (MT nD τ sig (HIx 1) (Elt F) ℕ UU ℕ)}
    (ha : ∀ h, P ⊢ WP d i (a h) Q) (hb : ∀ h, P ⊢ WP d i (b h) Q) : P ⊢ WP d i (dite c a b) Q := by
  split
  · exact ha _
  · exact hb _

section

variable {arg2 : Memref sig .scVector .hbm S160000x256 .f32}
  {arg7 : Memref sig .scVector .vmem S192x256 .f32} {harg7 : arg7.IsWhole}
  {arg8 : Memref sig .scVector .vmem S192x256 .f32} {harg8 : arg8.IsWhole}
  {arg9 : Memref sig .scVector .vmem S192 .i32} {harg9 : arg9.IsWhole}
  {arg10 : Memref sig .scVector .vmem S33x256 .f32} {arg11 : Memref sig .scVector .vmem S33x16 .f32}
  {arg16 : Memref sig .scVector .shared S160016 .i32} {arg17 arg18 v544_r7 v544_r8 : DmaSems sig S_}
  {v14_0 v21 v26 v31 v36 v41 v46 v51 v56 v61 v66 v71 v76 v81 v86 v91 v96 v106_0 v113 v118 v123 v128 v133 v138 v143 v148 v153 v158 v163 v168 v173 v178 v183 v188 : BitVec 32}

/-- A pair of chunks. -/
theorem wp_pairStep (h0 : 0 ≤ (placeOf 8#32 v14_0 (vec16 v21 v26 v31 v36 v41 v46 v51 v56 v61 v66 v71 v76 v81 v86 v91 v96) (cls i)).toInt) (h1 : (placeOf 8#32 v14_0 (vec16 v21 v26 v31 v36 v41 v46 v51 v56 v61 v66 v71 v76 v81 v86 v91 v96) (cls i)).toInt ≤ 160000)
    (h2 : 0 ≤ (placeOf 8#32 v106_0 (vec16 v113 v118 v123 v128 v133 v138 v143 v148 v153 v158 v163 v168 v173 v178 v183 v188) (Scalar.addi (cls i) 32#32)).toInt) (h3 : (placeOf 8#32 v106_0 (vec16 v113 v118 v123 v128 v133 v138 v143 v148 v153 v158 v163 v168 v173 v178 v183 v188) (Scalar.addi (cls i) 32#32)).toInt ≤ 160000)
    {k0_hw5 : k0_chk5 i v14_0 v21 v26 v31 v36 v41 v46 v51 v56 v61 v66 v71 v76 v81 v86 v91 v96 v106_0 v113 v118 v123 v128 v133 v138 v143 v148 v153 v158 v163 v168 v173 v178 v183 v188}
    (t : Fin (k0_t5_loop i v14_0 v21 v26 v31 v36 v41 v46 v51 v56 v61 v66 v71 v76 v81 v86 v91 v96 v106_0 v113 v118 v123 v128 v133 v138 v143 v148 v153 v158 v163 v168 v173 v178 v183 v188).trips)
    {q qa qb : PosShare TreeShare} {X : Nat → Nat → F .f32} {T : Nat → BitVec 32} (st : St F)
    {Q' : T16 F → sProp (MT nD τ sig (HIx 1) (Elt F) ℕ UU ℕ)} :
    iprop(coming d i arg2 arg7 arg17 qa X (base (placeOf 8#32 v14_0 (vec16 v21 v26 v31 v36 v41 v46 v51 v56 v61 v66 v71 v76 v81 v86 v91 v96) (cls i)) (fst2 t)) ∗ still d i arg2 arg8 arg18 qb X ∗ gear d i arg9 arg16 v544_r7 v544_r8 q T O W ∗ tables d i arg10 arg11 st) ⊢
      iprop((iprop((if t.val + 1 < (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips then coming d i arg2 arg7 arg17 qa X (base (placeOf 8#32 v14_0 (vec16 v21 v26 v31 v36 v41 v46 v51 v56 v61 v66 v71 v76 v81 v86 v91 v96) (cls i)) (fst2 (t.val + 1))) else still d i arg2 arg7 arg17 qa X)
            ∗ still d i arg2 arg8 arg18 qb X ∗ gear d i arg9 arg16 v544_r7 v544_r8 q T O W ∗ tables d i arg10 arg11 (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) t st))
          -∗ Q' (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) t st).sq)
        -∗ WP d i (pairStep i arg2 arg7 harg7 arg8 harg8 arg9 harg9 arg10 arg11 arg16 arg17 arg18 v544_r7 v544_r8 v14_0 v21 v26 v31 v36 v41 v46 v51 v56 v61 v66 v71 v76 v81 v86 v91 v96 v106_0 v113 v118 v123 v128 v133 v138 v143 v148 v153 v158 v163 v168 v173 v178 v183 v188 k0_hw5 t (vOf st.sq)) Q') := by
  unfold pairStep gear
  iintro ⟨HA, HB, ⟨⟨%A, HL⟩, HT, H7, H8, HO⟩, HS⟩ Hk
  unfold still
  icases HB with ⟨⟨%B, HB⟩, HX, Hs⟩
  iapply wp_fetch $$ [HB HX Hs]
  · isplitl [HX]; · iexact HX
    isplitl [HB] <;> iassumption
  iintro HB
  unfold coming
  iapply (wp_end rfl) $$ [HA HO]
  · isplitl [HA] <;> iassumption
  iintro ⟨⟨HA, HX⟩, Hs, HO⟩
  iapply (wp_process (R := rowsAt X (placeOf 8#32 v14_0 (vec16 v21 v26 v31 v36 v41 v46 v51 v56 v61 v66 v71 v76 v81 v86 v91 v96) (cls i)) (fst2 t)) (T := T) (rel := rel (placeOf 8#32 v14_0 (vec16 v21 v26 v31 v36 v41 v46 v51 v56 v61 v66 v71 v76 v81 v86 v91 v96) (cls i)) (fst2 t)) (sums := arg10) (nums := arg11) (rows := arg7) st (fun f l => classesA i v14_0 v21 v26 v31 v36 v41 v46 v51 v56 v61 v66 v71 v76 v81 v86 v91 v96 v106_0 v113 v118 v123 v128 v133 v138 v143 v148 v153 v158 v163 v168 v173 v178 v183 v188 t f l)
    (fun f l hw t L st h Q' => wp_classA st h)) $$ [HA HL HT H7 HO HS]
  · isplitl [HA]; · iexact HA
    isplitl [HL]; · iexact HL
    isplitl [HT]; · iexact HT
    isplitl [H7]; · iexact H7
    isplitl [HO]; · iexact HO
    iexact HS
  iintro ⟨HA, HL, HT, H7, HO, HS⟩
  have key : ∀ {P : sProp (MT nD τ sig (HIx 1) (Elt F) ℕ UU ℕ)},
    iprop(P ∗ Flight (EC (F := F)) (thr d i) (.dma arg18.sem) (none : HIx 1) arg8.view.dmaCredit
          iprop(holds d i arg8 fullShare (on2 (d := ![192, 256]) fun a b => X ((base (placeOf 8#32 v14_0 (vec16 v21 v26 v31 v36 v41 v46 v51 v56 v61 v66 v71 v76 v81 v86 v91 v96) (cls i)) (Scalar.addi (fst2 t) 1#32)).toNat + a) b) ∗ holds d i arg2 qb (on2 (d := ![160000, 256]) X))
        ∗ holds d i arg9 fullShare (on1 (d := ![192]) (labsAt T (placeOf 8#32 v14_0 (vec16 v21 v26 v31 v36 v41 v46 v51 v56 v61 v66 v71 v76 v81 v86 v91 v96) (cls i)) (fst2 t))) ∗ holds d i arg16 q (on1 (d := ![160016]) T) ∗ idle d i v544_r7 ∗ idle d i v544_r8 ∗ debt d i O W
        ∗ tables d i arg10 arg11 (stepM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) (fst2 t) st) ∗
        (iprop(P ∗ still d i arg2 arg8 arg18 qb X ∗ gear d i arg9 arg16 v544_r7 v544_r8 q T O W ∗ tables d i arg10 arg11 (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) t st))
          -∗ Q' (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) t st).sq)) ⊢
      WP d i (.op (.waitDma2 arg18.sem (featAt arg2 (base (placeOf 8#32 v14_0 (vec16 v21 v26 v31 v36 v41 v46 v51 v56 v61 v66 v71 v76 v81 v86 v91 v96) (cls i)) (Scalar.addi (fst2 t) 1#32)) (k0_off165_inb i v14_0 v21 v26 v31 v36 v41 v46 v51 v56 v61 v66 v71 v76 v81 v86 v91 v96 v106_0 v113 v118 v123 v128 v133 v138 v143 v148 v153 v158 v163 v168 v173 v178 v183 v188 k0_hw5 t)) arg8 (View.wordExact_bits rfl) harg8.wordExact) fun _ =>
    process arg9 (labAt arg16 (base (placeOf 8#32 v14_0 (vec16 v21 v26 v31 v36 v41 v46 v51 v56 v61 v66 v71 v76 v81 v86 v91 v96) (cls i)) (Scalar.addi (fst2 t) 1#32)) (k0_off166_inb i v14_0 v21 v26 v31 v36 v41 v46 v51 v56 v61 v66 v71 v76 v81 v86 v91 v96 v106_0 v113 v118 v123 v128 v133 v138 v143 v148 v153 v158 v163 v168 v173 v178 v183 v188 k0_hw5 t)) v544_r8 (View.wordExact_bits rfl) harg9.wordExact (cls i) (Scalar.addi (fst2 t) 1#32) (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (vOf (stepM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) (fst2 t) st).sq)
      (C := fun f l => k0_chk17 i v14_0 v21 v26 v31 v36 v41 v46 v51 v56 v61 v66 v71 v76 v81 v86 v91 v96 v106_0 v113 v118 v123 v128 v133 v138 v143 v148 v153 v158 v163 v168 v173 v178 v183 v188 t f l) (dC := fun f l => k0_chk17.dec i v14_0 v21 v26 v31 v36 v41 v46 v51 v56 v61 v66 v71 v76 v81 v86 v91 v96 v106_0 v113 v118 v123 v128 v133 v138 v143 v148 v153 v158 v163 v168 v173 v178 v183 v188 t f l) (fun f l hw => k0_t16_ok i v14_0 v21 v26 v31 v36 v41 v46 v51 v56 v61 v66 v71 v76 v81 v86 v91 v96 v106_0 v113 v118 v123 v128 v133 v138 v143 v148 v153 v158 v163 v168 v173 v178 v183 v188 t f l hw)
      (fun f l hw t prev q => classB i arg8 arg9 arg10 arg11 v14_0 v21 v26 v31 v36 v41 v46 v51 v56 v61 v66 v71 v76 v81 v86 v91 v96 v106_0 v113 v118 v123 v128 v133 v138 v143 v148 v153 v158 v163 v168 v173 v178 v183 v188 _ f l hw t prev q)  fun q2 => pure q2) Q' := by
    intro P
    iintro ⟨HP, HB, HL, HT, H7, H8, HO, HS, Hk⟩
    iapply (wp_end rfl) $$ [HB HO]
    · isplitl [HB] <;> iassumption
    iintro ⟨⟨HB, HX⟩, Hs, HO⟩
    iapply (wp_process (R := rowsAt X (placeOf 8#32 v14_0 (vec16 v21 v26 v31 v36 v41 v46 v51 v56 v61 v66 v71 v76 v81 v86 v91 v96) (cls i)) (Scalar.addi (fst2 t) 1#32)) (T := T) (rel := rel (placeOf 8#32 v14_0 (vec16 v21 v26 v31 v36 v41 v46 v51 v56 v61 v66 v71 v76 v81 v86 v91 v96) (cls i)) (Scalar.addi (fst2 t) 1#32)) (sums := arg10) (nums := arg11) (rows := arg8)
      (stepM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) (fst2 t) st) (fun f l => classesB i v14_0 v21 v26 v31 v36 v41 v46 v51 v56 v61 v66 v71 v76 v81 v86 v91 v96 v106_0 v113 v118 v123 v128 v133 v138 v143 v148 v153 v158 v163 v168 v173 v178 v183 v188 t f l)
      (fun f l hw t L st h Q' => wp_classB st h)) $$ [HB HL HT H8 HO HS]
    · isplitl [HB]; · iexact HB
      isplitl [HL]; · iexact HL
      isplitl [HT]; · iexact HT
      isplitl [H8]; · iexact H8
      isplitl [HO]; · iexact HO
      iexact HS
    iintro ⟨HB, HL, HT, H8, HO, HS⟩
    iapply (wp_done' (b := (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)) t st).sq) (by rfl))
    iapply Hk
    isplitl [HP]; · iexact HP
    unfold still gear
    isplitl [HB HX Hs]
    · isplitl [HB]; · iexists _; iexact HB
      isplitl [HX] <;> iassumption
    isplitr [HS]
    · isplitl [HL]; · iexists _; iexact HL
      isplitl [HT]; · iexact HT
      isplitl [H7]; · iexact H7
      isplitl [H8] <;> iassumption
    iexact HS
  by_cases hm : t.val + 1 < (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips
  · have hc := (more_iff h0 h1 h2 h3 t).2 hm
    rw [if_pos hm, dif_pos hc]
    iapply wp_fetch $$ [HA HX Hs]
    · isplitl [HX]; · iexact HX
      isplitl [HA] <;> iassumption
    iintro HA
    iapply key
    isplitl [HA]; · iexact HA
    isplitl [HB]; · iexact HB
    isplitl [HL]; · iexact HL
    isplitl [HT]; · iexact HT
    isplitl [H7]; · iexact H7
    isplitl [H8]; · iexact H8
    isplitl [HO]; · iexact HO
    isplitl [HS]; · iexact HS
    rw [fst2_next t.val]
    iexact Hk
  · have hc := fun h => hm ((more_iff h0 h1 h2 h3 t).1 h)
    rw [if_neg hm, dif_neg hc]
    iapply (key (P := iprop((∃ B : S192x256.Idx → F .f32, holds d i arg7 fullShare B) ∗ holds d i arg2 qa (on2 (d := ![160000, 256]) X) ∗ idle d i arg17)))
    isplitl [HA HX Hs]
    · isplitl [HA]; · iexists _; iexact HA
      isplitl [HX] <;> iassumption
    isplitl [HB]; · iexact HB
    isplitl [HL]; · iexact HL
    isplitl [HT]; · iexact HT
    isplitl [H7]; · iexact H7
    isplitl [H8]; · iexact H8
    isplitl [HO]; · iexact HO
    isplitl [HS]; · iexact HS
    iexact Hk

end

end Cert.KernelIdeal.Tile

end
-- ==== Proof.WpSearch.lean ====
module

public import proofs.«01_k».proof.Proof.WpPair

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- Sixteen labels read out of the shared table. -/
theorem wp_probe {sp : Memref sig .scVector .shared S160016 .i32} {buf : Memref sig .scVector .vmem S16 .i32} {hbuf : buf.view.WordExact}
    {s : DmaSems sig S_} {o : Fin 1 → Nat} {h : ∀ a, o a + S16.size a ≤ S160016.size a} {k : Vec F S16 .i32 → TP F i α} {q : PosShare TreeShare} {T : Nat → BitVec 32} :
    iprop(holds d i sp q (on1 (d := ![160016]) T) ∗ (∃ A : S16.Idx → BitVec 32, holds (F := F) d i buf fullShare A) ∗ idle d i s ∗ debt d i O W) ⊢
      iprop((iprop(holds d i sp q (on1 (d := ![160016]) T) ∗ (∃ A : S16.Idx → BitVec 32, holds (F := F) d i buf fullShare A) ∗ idle d i s ∗ debt d i O W) -∗ WP d i (k (vec F T (o 0))) Q)
        -∗ WP d i (probe sp buf hbuf s o h k) Q) := by
  unfold probe
  iintro ⟨HT, ⟨%A, HB⟩, Hs, HO⟩ Hk
  ihave HT := (holds_slice sp (Rect.unit (s := S160016) o S16.size h) (fun _ => rfl) q (on1 (d := ![160016]) T)) $$ HT
  icases HT with ⟨HT, Hr⟩
  iapply (wp_copy (by decide)) $$ [HT HB Hs HO]
  · isplitl [HT]; · iexact HT
    isplitl [HB]; · iexact HB
    isplitl [Hs] <;> iassumption
  iintro ⟨HT, HB, Hs, HO⟩
  ihave HT := Hr $$ HT
  have e : (fun x => on1 (d := ![160016]) T ((Rect.unit (s := S160016) o S16.size h).emb x)) = on1 (d := ![16]) fun a => T (o 0 + a) := by
    funext x
    show T (o 0 + 1 * (x 0).val) = T (o 0 + (x 0).val)
    rw [Nat.one_mul]
  rw [e]
  iapply wp_get16 $$ HB
  iintro HB
  have e2 : vec F (fun a => T (o 0 + a)) ((![0] : Fin 1 → Nat) 0) = vec F T (o 0) := by
    funext x
    show T (o 0 + (0 + (x 0).val)) = _
    rw [Nat.zero_add]
  rw [e2]
  iapply Hk
  isplitl [HT]; · iexact HT
  isplitl [HB]; · iexists _; iexact HB
  isplitl [Hs] <;> iassumption

/-- A search among all the labels. -/
theorem wp_search {sp : Memref sig .scVector .shared S160016 .i32} {buf : Memref sig .scVector .vmem S16 .i32} {hbuf : buf.view.WordExact}
    {s s' : DmaSems sig S_} {w : BitVec 32} {k : BitVec 32 → Vec F S16 .i32 → TP F i α} {q : PosShare TreeShare} {T : Nat → BitVec 32} :
    iprop(holds d i sp q (on1 (d := ![160016]) T) ∗ (∃ A : S16.Idx → BitVec 32, holds (F := F) d i buf fullShare A) ∗ idle d i s ∗ idle d i s' ∗ debt d i O W) ⊢
      iprop((iprop(holds d i sp q (on1 (d := ![160016]) T) ∗ (∃ A : S16.Idx → BitVec 32, holds (F := F) d i buf fullShare A) ∗ idle d i s ∗ idle d i s' ∗ debt d i O W)
          -∗ WP d i (k (seekM F T w).1 (seen F T w)) Q)
        -∗ WP d i (search sp buf hbuf s s' w k) Q) := by
  unfold search
  iintro ⟨HT, HB, Hs, Hs', HO⟩ Hk
  iapply (wp_loop (seekStep F T w) (fun _ => iprop(holds d i sp q (on1 (d := ![160016]) T) ∗ (∃ A : S16.Idx → BitVec 32, holds (F := F) d i buf fullShare A) ∗ idle d i s ∗ debt d i O W)) (fun t => by
    iintro H %Q' Hk
    iapply (wp_assume (defs := defs₀ (F := F)) 𝒱₀ (thr d i) none Set.univ (chk1 (seekM_within (F := F) T w t.val)))
    iapply wp_probe $$ H
    iintro H
    iapply (wp_done' (b := loopM (seekStep F T w) (t.val + 1) (0#32, 20000#32)) (by rfl))
    iapply Hk; iexact H)) $$ [HT HB Hs HO]
  · isplitl [HT]; · iexact HT
    isplitl [HB]; · iexact HB
    isplitl [Hs] <;> iassumption
  iintro ⟨HT, HB, Hs, HO⟩
  have hw := seekM_within (F := F) T w k0_t3_loop.trips
  iapply (wp_assume (defs := defs₀ (F := F)) 𝒱₀ (thr d i) none Set.univ (chk2 hw.1.1 hw.1.2))
  iapply wp_probe $$ [HT HB Hs' HO]
  · isplitl [HT]; · iexact HT
    isplitl [HB]; · iexact HB
    isplitl [Hs'] <;> iassumption
  iintro ⟨HT, HB, Hs', HO⟩
  iapply Hk
  isplitl [HT]; · iexact HT
  isplitl [HB]; · iexact HB
  isplitl [Hs]; · iexact Hs
  isplitl [Hs'] <;> iassumption

/-- Sixteen words are counted. -/
theorem count_low (l : Nat → BitVec 32) (w : BitVec 32) : count l w = count (fun n => if n < 16 then l n else w) w := by
  unfold count
  refine List.foldl_ext _ _ _ fun a n hn => ?_
  have : n < 16 := by revert n; decide
  dsimp only
  rw [if_pos this]

/-- The row a class starts at is one of the rows, or behind them. -/
theorem rowOf_range {T : Nat → BitVec 32} {w : BitVec 32} (hT : ∀ n, 160000 ≤ n → T n = 1025#32) (hw : w.toInt ≤ 1025) :
    0 ≤ (rowOf F T w).toInt ∧ (rowOf F T w).toInt ≤ 160000 := by
  have hs := seekM_within (F := F) T w k0_t3_loop.trips
  have h1 : 0 ≤ (seekM F T w).1.toInt := hs.1.1
  have h2 : (seekM F T w).1.toInt ≤ 20000 := hs.1.2
  have hc := count_range (lane (seen F T w)) w
  have hp := placeOf_toInt (k := 8#32) (b := (seekM F T w).1) (lane (seen F T w)) w (by decide) (by decide) h1 (by omega)
  have e8 : (8#32 : BitVec 32).toInt = 8 := rfl
  unfold rowOf
  rw [hp, e8]
  split
  · omega
  by_cases hl : (seekM F T w).1.toInt = 20000
  · have hh : (count (lane (seen F T w)) w).toInt ≤ 8 := by
      rw [count_low]
      refine count_half _ _ fun n hn => ?_
      split
      · next h16 =>
        rw [lane_eq _ _ h16]
        show w.toInt ≤ (T (k0_off21 (seekM F T w).1 0 + n % 16)).toInt
        rw [off21_eq]
        have e1 := before_toInt (b := (seekM F T w).1) (by omega) (by omega)
        have e2 := mul_toNat (m := Scalar.maxsi (Scalar.subi (seekM F T w).1 1#32) 0#32) (k := 8#32) (by omega) (by omega) (by decide) (by decide)
        rw [hT _ (by rw [e8] at e2; omega)]
        exact hw
      · exact le_refl _
    omega
  · omega

end Cert.KernelIdeal.Tile

end
-- ==== Proof.WpTile.lean ====
module

public import proofs.«01_k».proof.Proof.WpSearch

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- A table of two axes is a table by numbers. -/
theorem by_numbers {A : Type} {a b : Nat} (h : 0 < a) (h' : 0 < b) (f : (⟨2, ![a, b]⟩ : Shape).Idx → A) : ∃ G : Nat → Nat → A, f = on2 (d := ![a, b]) G :=
  ⟨fun m n => if hm : m < a ∧ n < b then f (ix2 ⟨m, hm.1⟩ ⟨n, hm.2⟩) else f (ix2 ⟨0, h⟩ ⟨0, h'⟩), by
    funext x
    have h0 : (x 0).val < a := (x 0).isLt
    have h1 : (x 1).val < b := (x 1).isLt
    show f x = dite _ _ _
    rw [dif_pos ⟨h0, h1⟩]
    exact congrArg f (eq_ix2 x)⟩

theorem trips_zero : k0_t2_loop.trips = 33 := by decide
theorem iv_zero (t : Fin k0_t2_loop.trips) : (Scf.iv 0#32 1#32 t).toNat = t.val := by
  have e : Scf.iv 0#32 1#32 t = BitVec.ofNat 32 t.val := by unfold Scf.iv; simp
  have ht : t.val < 33 := Nat.lt_of_lt_of_eq t.isLt trips_zero
  rw [e, BitVec.toNat_ofNat, Nat.mod_eq_of_lt (by omega)]

/-- A table whose rows before `n` are clear. -/
def Clear (n b : Nat) (G : Nat → Nat → F .f32) : Prop := ∀ x, x < n → ∀ y, y < b → G x y = k0_pay1242 (F := F) (ix y)

/-- The tables are cleared. -/
theorem wp_clear {sums : Memref sig .scVector .vmem S33x256 .f32} {nums : Memref sig .scVector .vmem S33x16 .f32} {ok}
    {hsum : ∀ t : Fin k0_t2_loop.trips, ∀ j ∈ cols, BlockIn ![33, 256] (Scf.iv 0#32 1#32 t).toNat j} {hnum : ∀ t : Fin k0_t2_loop.trips, BlockIn ![33, 16] (Scf.iv 0#32 1#32 t).toNat 0}
    {k : Unit → TP F i α} {A : S33x256.Idx → F .f32} {B : S33x16.Idx → F .f32} :
    iprop(holds d i sums fullShare A ∗ holds d i nums fullShare B) ⊢
      iprop((tables d i sums nums (st0 F) -∗ WP d i (k ⟨⟩) Q)
        -∗ WP d i ((Scf.Loop.for k0_t2_loop ok ⟨⟩ fun t _ => zeroStep sums nums t (hsum t) (hnum t)) >>= k) Q) := by
  obtain ⟨A, rfl⟩ := by_numbers (by decide) (by decide) A
  obtain ⟨B, rfl⟩ := by_numbers (by decide) (by decide) B
  iintro ⟨HA, HB⟩ Hk
  iapply (wp_loop (fun _ u => u) (fun t => iprop(∃ G : Nat → Nat → F .f32, ∃ N : Nat → Nat → F .f32, ⌜Clear t 256 G ∧ Clear t 16 N⌝ ∗ holds d i sums fullShare (on2 (d := ![33, 256]) G) ∗ holds d i nums fullShare (on2 (d := ![33, 16]) N))) (fun t => by
    iintro ⟨%G, %N, %hGN, HA, HB⟩ %Q' Hk
    unfold zeroStep
    iapply (wp_storeCols cols _ _) $$ HA
    iintro HA
    iapply wp_get $$ HB
    iintro HB
    iapply wp_put $$ HB
    iintro HB
    rw [over_one]
    iapply (wp_done' (b := loopM (fun _ u => u) (t.val + 1) PUnit.unit) (by rfl))
    iapply Hk
    iexists _; iexists _
    isplitr
    rotate_left
    · isplitl [HA] <;> iassumption
    ipureintro
    have et := iv_zero t
    refine ⟨fun x hx y hy => ?_, fun x hx y hy => ?_⟩
    · show (if x = (Scf.iv 0#32 1#32 t).toNat ∧ y / 16 ∈ cols then _ else _) = _
      have hc : y / 16 ∈ cols := by
        have : y / 16 < 16 := by omega
        generalize y / 16 = j at this
        revert j; decide
      split
      · rfl
      · next h => exact hGN.1 x (by have : x ≠ t.val := fun hx' => h ⟨hx'.trans et.symm, hc⟩; omega) y hy
    · show (if x = (Scf.iv 0#32 1#32 t).toNat ∧ y / 16 = 0 then _ else _) = _
      split
      · rw [cast16]; rfl
      · next h => exact hGN.2 x (by have : x ≠ t.val := fun hx' => h ⟨hx'.trans et.symm, by omega⟩; omega) y hy)) $$ [HA HB]
  · iexists A; iexists B
    isplitr
    · ipureintro; exact ⟨fun x hx => absurd hx (Nat.not_lt_zero _), fun x hx => absurd hx (Nat.not_lt_zero _)⟩
    isplitl [HA] <;> iassumption
  iintro ⟨%G, %N, %hGN, HA, HB⟩
  iapply Hk
  unfold tables
  have e1 : on2 (d := ![33, 256]) (st0 F).sums = on2 (d := ![33, 256]) G := by
    funext x; exact (hGN.1 _ (by rw [trips_zero]; exact (x 0).isLt) _ (x 1).isLt).symm
  have e2 : on2 (d := ![33, 16]) (st0 F).nums = on2 (d := ![33, 16]) N := by
    funext x; exact (hGN.2 _ (by rw [trips_zero]; exact (x 0).isLt) _ (x 1).isLt).symm
  rw [e1, e2]
  isplitl [HA] <;> iassumption

/-- A whole vector is replaced. -/
theorem over_all {e : EltTy} (G w : S16.Idx → Elt F e) : over G (Rect.unit (s := S16) ![0] S16.size inb_S16_S16_0) w = w := by
  funext y
  have : (Rect.unit (s := S16) ![0] S16.size inb_S16_S16_0).emb y = y := by
    funext a
    match a with
    | ⟨0, _⟩ => exact Fin.ext (show 0 + 1 * (y 0).val = (y 0).val by omega)
  conv_lhs => rw [← this]
  exact over_emb _ _ _ _

/-- A store of a whole vector. -/
theorem wp_putAll {e : EltTy} {m : Memref sig .scVector .vmem S16 e} {w : S16.Idx → Elt F e}
    {hx : (m.access (Rect.unit (s := S16) ![0] S16.size inb_S16_S16_0)).Stores Finset.univ} {hm} {k : PUnit → TP F i α} {G : S16.Idx → Elt F e} :
    holds d i m fullShare G ⊢ iprop((holds d i m fullShare w -∗ WP d i (k ⟨⟩) Q)
      -∗ WP d i (.op (.store m (Rect.unit (s := S16) ![0] S16.size inb_S16_S16_0) w Finset.univ hx hm) k) Q) := by
  have h := wp_put (d := d) (i := i) (m := m) (r := Rect.unit (s := S16) ![0] S16.size inb_S16_S16_0) (w := w) (hx := hx) (hm := hm) (k := k) (G := G) (Q := Q)
  rw [over_all] at h
  exact h

section

variable {arg4 : Memref sig .scVector .hbm S1024x256 .f32} {arg5 : Memref sig .scVector .hbm S1024x16 .f32} {arg6 : Memref sig .scVector .hbm S32x16 .f32}
  {arg10 : Memref sig .scVector .vmem S33x256 .f32} {arg11 : Memref sig .scVector .vmem S33x16 .f32} {arg14 : Memref sig .scVector .vmem S16 .f32} {harg14 : arg14.IsWhole}
  {s11 s12 s13 : DmaSems sig S_}

/-- The tile's part of the sums, of the numbers and of the squares. -/
abbrev sumsOut (i : grid0.Coords) (arg4 : Memref sig .scVector .hbm S1024x256 .f32) : Memref sig .scVector .hbm S32x256 .f32 :=
  arg4.slice (Rect.unit (s := S1024x256) (k0_off581 i) S32x256.size (k0_off581_inb i)) (fun _ => rfl)
abbrev numsOut (i : grid0.Coords) (arg5 : Memref sig .scVector .hbm S1024x16 .f32) : Memref sig .scVector .hbm S32x16 .f32 :=
  arg5.slice (Rect.unit (s := S1024x16) (k0_off582 i) S32x16.size (k0_off582_inb i)) (fun _ => rfl)
abbrev sqOut (i : grid0.Coords) (arg6 : Memref sig .scVector .hbm S32x16 .f32) : Memref sig .scVector .hbm S16 .f32 :=
  (arg6.slice (Rect.unit (s := S32x16) (k0_off583 i) S1x16.size (k0_off583_inb i)) (fun _ => rfl)).squeeze S16 squeezes_S1x16_S16

/-- What a tile has written. -/
def written (d : Dev nD) (i : grid0.Coords) (arg4 : Memref sig .scVector .hbm S1024x256 .f32) (arg5 : Memref sig .scVector .hbm S1024x16 .f32) (arg6 : Memref sig .scVector .hbm S32x16 .f32)
    (st : St F) : sProp (MT nD τ sig (HIx 1) (Elt F) ℕ UU ℕ) :=
  iprop(holds d i (sumsOut i arg4) fullShare (on2 (d := ![32, 256]) st.sums) ∗ holds d i (numsOut i arg5) fullShare (on2 (d := ![32, 16]) st.nums) ∗ holds d i (sqOut i arg6) fullShare (sqM st))

/-- A tile copies its tables out. -/
theorem wp_finish (st : St F) {A : S32x256.Idx → F .f32} {B : S32x16.Idx → F .f32} {C : S16.Idx → F .f32} {D : S16.Idx → F .f32} {Q : PUnit → sProp (MT nD τ sig (HIx 1) (Elt F) ℕ UU ℕ)} :
    iprop(tables d i arg10 arg11 st ∗ holds d i arg14 fullShare D ∗ holds d i (sumsOut i arg4) fullShare A ∗ holds d i (numsOut i arg5) fullShare B ∗ holds d i (sqOut i arg6) fullShare C
        ∗ idle d i s11 ∗ idle d i s12 ∗ idle d i s13 ∗ debt d i O W) ⊢
      iprop((iprop(tables d i arg10 arg11 st ∗ holds d i arg14 fullShare (sqM st) ∗ written d i arg4 arg5 arg6 st
        ∗ idle d i s11 ∗ idle d i s12 ∗ idle d i s13 ∗ debt d i O W) -∗ Q ⟨⟩)
        -∗ WP d i (finish i arg4 arg5 arg6 arg10 arg11 arg14 harg14 s11 s12 s13 (vOf st.sq)) Q) := by
  unfold finish tables written
  iintro ⟨⟨HS, HN⟩, HQ, HA, HB, HC, H1, H2, H3, HO⟩ Hk
  iapply wp_get $$ HQ
  iintro HQ
  iapply wp_putAll $$ HQ
  iintro HQ
  ihave HS := (holds_slice arg10 (Rect.unit (s := S33x256) ![0, 0] S32x256.size inb_S33x256_S32x256_0_0) (fun _ => rfl) fullShare (on2 (d := ![33, 256]) st.sums)) $$ HS
  icases HS with ⟨HS, HSr⟩
  have e1 : (fun x => on2 (d := ![33, 256]) st.sums ((Rect.unit (s := S33x256) ![0, 0] S32x256.size inb_S33x256_S32x256_0_0).emb x)) = on2 (d := ![32, 256]) st.sums := by
    funext x
    show st.sums (0 + 1 * (x 0).val) (0 + 1 * (x 1).val) = st.sums (x 0).val (x 1).val
    rw [Nat.zero_add, Nat.zero_add, Nat.one_mul, Nat.one_mul]
  have e2 : (fun x => on2 (d := ![33, 16]) st.nums ((Rect.unit (s := S33x16) ![0, 0] S32x16.size inb_S33x16_S32x16_0_0).emb x)) = on2 (d := ![32, 16]) st.nums := by
    funext x
    show st.nums (0 + 1 * (x 0).val) (0 + 1 * (x 1).val) = st.nums (x 0).val (x 1).val
    rw [Nat.zero_add, Nat.zero_add, Nat.one_mul, Nat.one_mul]
  iapply (wp_copy (by decide)) $$ [HS HA H1 HO]
  · isplitl [HS]; · iexact HS
    isplitl [HA]; · iexact HA
    isplitl [H1] <;> iassumption
  iintro ⟨HS, HA, H1, HO⟩
  ihave HS := HSr $$ HS
  ihave HN := (holds_slice arg11 (Rect.unit (s := S33x16) ![0, 0] S32x16.size inb_S33x16_S32x16_0_0) (fun _ => rfl) fullShare (on2 (d := ![33, 16]) st.nums)) $$ HN
  icases HN with ⟨HN, HNr⟩
  iapply (wp_copy (by decide)) $$ [HN HB H2 HO]
  · isplitl [HN]; · iexact HN
    isplitl [HB]; · iexact HB
    isplitl [H2] <;> iassumption
  iintro ⟨HN, HB, H2, HO⟩
  ihave HN := HNr $$ HN
  iapply (wp_copy (by decide)) $$ [HQ HC H3 HO]
  · isplitl [HQ]; · iexact HQ
    isplitl [HC]; · iexact HC
    isplitl [H3] <;> iassumption
  iintro ⟨HQ, HC, H3, HO⟩
  iapply wp_done
  iapply Hk
  rw [e1, e2]
  isplitl [HS HN]; · isplitl [HS] <;> iassumption
  isplitl [HQ]; · iexact HQ
  isplitl [HA HB HC]
  · isplitl [HA]; · iexact HA
    isplitl [HB]; · iexact HB
    iexact HC
  isplitl [H1]; · iexact H1
  isplitl [H2]; · iexact H2
  isplitl [H3] <;> iassumption

end

section

variable {arg2 : Memref sig .scVector .hbm S160000x256 .f32} {arg4 : Memref sig .scVector .hbm S1024x256 .f32} {arg5 : Memref sig .scVector .hbm S1024x16 .f32} {arg6 : Memref sig .scVector .hbm S32x16 .f32}
  {arg7 : Memref sig .scVector .vmem S192x256 .f32} {harg7 : arg7.IsWhole}
  {arg8 : Memref sig .scVector .vmem S192x256 .f32} {harg8 : arg8.IsWhole}
  {arg9 : Memref sig .scVector .vmem S192 .i32} {harg9 : arg9.IsWhole}
  {arg10 : Memref sig .scVector .vmem S33x256 .f32} {arg11 : Memref sig .scVector .vmem S33x16 .f32}
  {arg12 : Memref sig .scVector .vmem S16 .i32} {harg12 : arg12.IsWhole} {arg14 : Memref sig .scVector .vmem S16 .f32} {harg14 : arg14.IsWhole}
  {arg16 : Memref sig .scVector .shared S160016 .i32} {arg17 arg18 r3 r4 r5 r6 r7 r8 r11 r12 r13 : DmaSems sig S_}

/-- Before the pair `t` of `n` its first chunk comes in; behind the last nothing does. -/
def mid (d : Dev nD) (i : grid0.Coords) (arg2 : Memref sig .scVector .hbm S160000x256 .f32) (dst : Memref sig .scVector .vmem S192x256 .f32) (sem : DmaSems sig S_)
    (q : PosShare TreeShare) (X : Nat → Nat → F .f32) (lo : BitVec 32) (n t : Nat) : sProp (MT nD τ sig (HIx 1) (Elt F) ℕ UU ℕ) :=
  if t < n then coming d i arg2 dst sem q X (base lo (fst2 t)) else still d i arg2 dst sem q X

theorem mid_lt {dst : Memref sig .scVector .vmem S192x256 .f32} {sem : DmaSems sig S_} {q : PosShare TreeShare} {X : Nat → Nat → F .f32} {lo : BitVec 32} {n t : Nat} (h : t < n) :
    mid d i arg2 dst sem q X lo n t = coming d i arg2 dst sem q X (base lo (fst2 t)) := if_pos h
theorem mid_ge {dst : Memref sig .scVector .vmem S192x256 .f32} {sem : DmaSems sig S_} {q : PosShare TreeShare} {X : Nat → Nat → F .f32} {lo : BitVec 32} {n t : Nat} (h : ¬ t < n) :
    mid d i arg2 dst sem q X lo n t = still d i arg2 dst sem q X := if_neg h

/-- A loop whose values are known. -/
theorem wp_loopG {σ : Type} {L : Scf.Loop 32} {ok : L.OK} {body : Fin L.trips → σ → TP F i σ} (g : Nat → σ)
    (R : Nat → sProp (MT nD τ sig (HIx 1) (Elt F) ℕ UU ℕ)) {k : σ → TP F i α}
    (hbody : ∀ t : Fin L.trips, R t.val ⊢ iprop(∀ Q' : σ → sProp (MT nD τ sig (HIx 1) (Elt F) ℕ UU ℕ),
      (R (t.val + 1) -∗ Q' (g (t.val + 1))) -∗ WP d i (body t (g t.val)) Q')) :
    R 0 ⊢ iprop((R L.trips -∗ WP d i (k (g L.trips)) Q) -∗ WP d i (Scf.Loop.for L ok (g 0) body >>= k) Q) := by
  iintro H Hk
  iapply (Scf.wp_for_bind frame (wpE (defs₀ (F := F)) 𝒱₀ (thr d i) none) Set.univ L.lb L.ub L.st ok (g 0) body
    (fun t s => iprop(⌜s = g t⌝ ∗ R t)) (fun t s => by
      iintro ⟨%hs, H⟩
      subst hs
      iapply (hbody t) $$ H
      iintro H
      isplitr; · ipureintro; rfl
      iexact H)) $$ [H]
  · isplitr; · ipureintro; rfl
    iexact H
  iintro %s ⟨%hs, H⟩
  subst hs
  iapply Hk; iexact H

/-- A chunk's rows begin to come in. -/
theorem wp_fetchS {dst : Memref sig .scVector .vmem S192x256 .f32} {sem : DmaSems sig S_} {w : BitVec 32} {h}
    {hsrc : (featAt arg2 w h).view.WordExact} {hdst : dst.view.WordExact} {hsem} {k : PUnit → TP F i α} {q : PosShare TreeShare} {X : Nat → Nat → F .f32} :
    still d i arg2 dst sem q X ⊢ iprop((coming d i arg2 dst sem q X w -∗ WP d i (k ⟨⟩) Q) -∗ WP d i (.op (.enqueueDma (featAt arg2 w h) (.here dst) (.dma sem.sem) hsrc hdst hsem) k) Q) := by
  unfold still
  iintro ⟨⟨%B, HB⟩, HX, Hs⟩ Hk
  iapply wp_fetch $$ [HB HX Hs]
  · isplitl [HX]; · iexact HX
    isplitl [HB] <;> iassumption
  iintro H
  iapply Hk
  unfold coming
  iexact H

theorem first_word (lo : BitVec 32) : Scalar.minsi (Scalar.addi (start lo) 0#32) 159808#32 = base lo (fst2 0) := by
  have e : Scalar.muli (fst2 0) 192#32 = 0#32 := by decide
  unfold base pos
  rw [e]

/-- Everything a tile works with behind the barrier, but the tables' contents and what it writes. -/
def kit (d : Dev nD) (i : grid0.Coords) (arg2 : Memref sig .scVector .hbm S160000x256 .f32) (arg7 arg8 : Memref sig .scVector .vmem S192x256 .f32)
    (arg9 : Memref sig .scVector .vmem S192 .i32) (arg12 : Memref sig .scVector .vmem S16 .i32) (arg14 : Memref sig .scVector .vmem S16 .f32)
    (arg16 : Memref sig .scVector .shared S160016 .i32) (arg17 arg18 r3 r4 r5 r6 r7 r8 r11 r12 r13 : DmaSems sig S_) (q qa qb : PosShare TreeShare)
    (X : Nat → Nat → F .f32) (T : Nat → BitVec 32) (O : CellTallies nD τ sig (HIx 1)) (W : Waits sig (HIx 1)) : sProp (MT nD τ sig (HIx 1) (Elt F) ℕ UU ℕ) :=
  iprop(still d i arg2 arg7 arg17 qa X ∗ still d i arg2 arg8 arg18 qb X ∗ gear d i arg9 arg16 r7 r8 q T O W
    ∗ (∃ A : S16.Idx → BitVec 32, holds (F := F) d i arg12 fullShare A) ∗ (∃ D : S16.Idx → F .f32, holds d i arg14 fullShare D)
    ∗ idle d i r3 ∗ idle d i r4 ∗ idle d i r5 ∗ idle d i r6 ∗ idle d i r11 ∗ idle d i r12 ∗ idle d i r13)

theorem loopM_succ {σ : Type} {f : Nat → σ → σ} {t : Nat} {s : σ} : loopM f (t + 1) s = f t (loopM f t s) := rfl

/-- There is a chunk just when there is a pair of chunks. -/
theorem some_iff {lo hi : BitVec 32} (h0 : 0 ≤ lo.toInt) (h1 : lo.toInt ≤ 160000) (h2 : 0 ≤ hi.toInt) (h3 : hi.toInt ≤ 160000) :
    Scalar.cmpi .ne (Scalar.extui (Scalar.cmpi .sgt (chunks lo hi) 0#32)) 0#32 = 1#1 ↔ 0 < (run 0#32 (pairs lo hi)).trips := by
  have hp := pairs_toInt h0 h1 h2 h3
  have hc := chunks_toInt h0 h1 h2 h3
  have er := run_trips 0#32 (pairs lo hi)
  rw [show (0#32 : BitVec 32).toInt = 0 from rfl] at er
  rw [test_widened, cmp_sgt, ofBool_one, decide_eq_true_eq, show (0#32 : BitVec 32).toInt = 0 from rfl]
  omega

/-- The first rows are fetched just when there is a pair of chunks. -/
theorem cond2_iff {v14_0 v21 v26 v31 v36 v41 v46 v51 v56 v61 v66 v71 v76 v81 v86 v91 v96 v106_0 v113 v118 v123 v128 v133 v138 v143 v148 v153 v158 v163 v168 v173 v178 v183 v188 : BitVec 32}
    (h0 : 0 ≤ (placeOf 8#32 v14_0 (vec16 v21 v26 v31 v36 v41 v46 v51 v56 v61 v66 v71 v76 v81 v86 v91 v96) (cls i)).toInt) (h1 : (placeOf 8#32 v14_0 (vec16 v21 v26 v31 v36 v41 v46 v51 v56 v61 v66 v71 v76 v81 v86 v91 v96) (cls i)).toInt ≤ 160000)
    (h2 : 0 ≤ (placeOf 8#32 v106_0 (vec16 v113 v118 v123 v128 v133 v138 v143 v148 v153 v158 v163 v168 v173 v178 v183 v188) (Scalar.addi (cls i) 32#32)).toInt) (h3 : (placeOf 8#32 v106_0 (vec16 v113 v118 v123 v128 v133 v138 v143 v148 v153 v158 v163 v168 v173 v178 v183 v188) (Scalar.addi (cls i) 32#32)).toInt ≤ 160000) :
    k0_cond2 i v14_0 v21 v26 v31 v36 v41 v46 v51 v56 v61 v66 v71 v76 v81 v86 v91 v96 v106_0 v113 v118 v123 v128 v133 v138 v143 v148 v153 v158 v163 v168 v173 v178 v183 v188 = 1#1 ↔ 0 < (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips := by
  have e : k0_cond2 i v14_0 v21 v26 v31 v36 v41 v46 v51 v56 v61 v66 v71 v76 v81 v86 v91 v96 v106_0 v113 v118 v123 v128 v133 v138 v143 v148 v153 v158 v163 v168 v173 v178 v183 v188 = Scalar.cmpi .ne (Scalar.extui (Scalar.cmpi .sgt (chunks (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) 0#32)) 0#32 := by
    rfl
  rw [e]
  exact some_iff h0 h1 h2 h3

/-- The pairs of chunks, and what follows them. -/
theorem wp_pairs (v14_0 v21 v26 v31 v36 v41 v46 v51 v56 v61 v66 v71 v76 v81 v86 v91 v96 v106_0 v113 v118 v123 v128 v133 v138 v143 v148 v153 v158 v163 v168 v173 v178 v183 v188 : BitVec 32) (hw : k0_chk5 i v14_0 v21 v26 v31 v36 v41 v46 v51 v56 v61 v66 v71 v76 v81 v86 v91 v96 v106_0 v113 v118 v123 v128 v133 v138 v143 v148 v153 v158 v163 v168 v173 v178 v183 v188)
    (h0 : 0 ≤ (placeOf 8#32 v14_0 (vec16 v21 v26 v31 v36 v41 v46 v51 v56 v61 v66 v71 v76 v81 v86 v91 v96) (cls i)).toInt) (h1 : (placeOf 8#32 v14_0 (vec16 v21 v26 v31 v36 v41 v46 v51 v56 v61 v66 v71 v76 v81 v86 v91 v96) (cls i)).toInt ≤ 160000)
    (h2 : 0 ≤ (placeOf 8#32 v106_0 (vec16 v113 v118 v123 v128 v133 v138 v143 v148 v153 v158 v163 v168 v173 v178 v183 v188) (Scalar.addi (cls i) 32#32)).toInt) (h3 : (placeOf 8#32 v106_0 (vec16 v113 v118 v123 v128 v133 v138 v143 v148 v153 v158 v163 v168 v173 v178 v183 v188) (Scalar.addi (cls i) 32#32)).toInt ≤ 160000)
    {q qa qb : PosShare TreeShare} {X : Nat → Nat → F .f32} {T : Nat → BitVec 32} (M : St F) (hM : M = loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips (st0 F)) {Q : PUnit → sProp (MT nD τ sig (HIx 1) (Elt F) ℕ UU ℕ)} :
    iprop(still d i arg2 arg7 arg17 qa X ∗ still d i arg2 arg8 arg18 qb X ∗ gear d i arg9 arg16 r7 r8 q T O W ∗ tables d i arg10 arg11 (st0 F)) ⊢
      iprop((iprop(still d i arg2 arg7 arg17 qa X ∗ still d i arg2 arg8 arg18 qb X ∗ gear d i arg9 arg16 r7 r8 q T O W ∗ tables d i arg10 arg11 M)
          -∗ WP d i (finish i arg4 arg5 arg6 arg10 arg11 arg14 harg14 r11 r12 r13 (vOf M.sq)) Q)
        -∗ WP d i (

  let rest : TP F i PUnit :=
    (Scf.Loop.for (k0_t5_loop i v14_0 v21 v26 v31 v36 v41 v46 v51 v56 v61 v66 v71 v76 v81 v86 v91 v96 v106_0 v113 v118 v123 v128 v133 v138 v143 v148 v153 v158 v163 v168 v173 v178 v183 v188) (k0_t5_ok i v14_0 v21 v26 v31 v36 v41 v46 v51 v56 v61 v66 v71 v76 v81 v86 v91 v96 v106_0 v113 v118 v123 v128 v133 v138 v143 v148 v153 v158 v163 v168 v173 v178 v183 v188 hw) (tup16 fun _ => k0_pay1242 (F := F)) fun t a => pairStep i arg2 arg7 harg7 arg8 harg8 arg9 harg9 arg10 arg11 arg16 arg17 arg18 r7 r8 v14_0 v21 v26 v31 v36 v41 v46 v51 v56 v61 v66 v71 v76 v81 v86 v91 v96 v106_0 v113 v118 v123 v128 v133 v138 v143 v148 v153 v158 v163 v168 v173 v178 v183 v188 hw t (vOf a)) >>= fun a =>
    finish i arg4 arg5 arg6 arg10 arg11 arg14 harg14 r11 r12 r13 (vOf a)
  if h : k0_cond2 i v14_0 v21 v26 v31 v36 v41 v46 v51 v56 v61 v66 v71 v76 v81 v86 v91 v96 v106_0 v113 v118 v123 v128 v133 v138 v143 v148 v153 v158 v163 v168 v173 v178 v183 v188 = 1#1 then
    .op (.enqueueDma (featAt arg2 (Scalar.minsi (Scalar.addi (start (placeOf 8#32 v14_0 (vec16 v21 v26 v31 v36 v41 v46 v51 v56 v61 v66 v71 v76 v81 v86 v91 v96) (cls i))) 0#32) 159808#32) (k0_off24_inb i v14_0 v21 v26 v31 v36 v41 v46 v51 v56 v61 v66 v71 v76 v81 v86 v91 v96 v106_0 v113 v118 v123 v128 v133 v138 v143 v148 v153 v158 v163 v168 v173 v178 v183 v188 hw h)) (.here arg7) (.dma arg17.sem) (View.wordExact_bits rfl) harg7.wordExact ⟨Or.inl rfl, trivial⟩) fun _ => rest
  else rest) Q) := by
  subst hM
  iintro ⟨HA, HB, HG, HS⟩ Hk
  have hb : ∀ t : Fin (k0_t5_loop i v14_0 v21 v26 v31 v36 v41 v46 v51 v56 v61 v66 v71 v76 v81 v86 v91 v96 v106_0 v113 v118 v123 v128 v133 v138 v143 v148 v153 v158 v163 v168 v173 v178 v183 v188).trips, iprop(mid d i arg2 arg7 arg17 qa X (placeOf 8#32 v14_0 (vec16 v21 v26 v31 v36 v41 v46 v51 v56 v61 v66 v71 v76 v81 v86 v91 v96) (cls i)) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips t.val
        ∗ still d i arg2 arg8 arg18 qb X ∗ gear d i arg9 arg16 r7 r8 q T O W ∗ tables d i arg10 arg11 (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) t.val (st0 F))) ⊢
      iprop(∀ Q' : T16 F → sProp (MT nD τ sig (HIx 1) (Elt F) ℕ UU ℕ),
        (iprop(mid d i arg2 arg7 arg17 qa X (placeOf 8#32 v14_0 (vec16 v21 v26 v31 v36 v41 v46 v51 v56 v61 v66 v71 v76 v81 v86 v91 v96) (cls i)) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips (t.val + 1)
        ∗ still d i arg2 arg8 arg18 qb X ∗ gear d i arg9 arg16 r7 r8 q T O W ∗ tables d i arg10 arg11 (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (t.val + 1) (st0 F))) -∗ Q' (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (t.val + 1) (st0 F)).sq)
        -∗ WP d i (pairStep i arg2 arg7 harg7 arg8 harg8 arg9 harg9 arg10 arg11 arg16 arg17 arg18 r7 r8 v14_0 v21 v26 v31 v36 v41 v46 v51 v56 v61 v66 v71 v76 v81 v86 v91 v96 v106_0 v113 v118 v123 v128 v133 v138 v143 v148 v153 v158 v163 v168 v173 v178 v183 v188 hw t (vOf (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) t.val (st0 F)).sq)) Q') := fun t => by
      iintro ⟨HA, H⟩ %Q' Hk
      have ht : t.val < (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips := t.isLt
      ihave HA := (Entails.of_eq (mid_lt ht)) $$ HA
      have es := loopM_succ (f := pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (t := t.val) (s := st0 F)
      rw [es]
      unfold mid
      iapply (wp_pairStep (Q' := Q') h0 h1 h2 h3 t (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) t.val (st0 F))) $$ [HA H]
      · isplitl [HA] <;> iassumption
      iexact Hk
  have key : ∀ P : Prop, iprop(mid d i arg2 arg7 arg17 qa X (placeOf 8#32 v14_0 (vec16 v21 v26 v31 v36 v41 v46 v51 v56 v61 v66 v71 v76 v81 v86 v91 v96) (cls i)) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips 0
      ∗ still d i arg2 arg8 arg18 qb X ∗ gear d i arg9 arg16 r7 r8 q T O W ∗ tables d i arg10 arg11 (st0 F)
      ∗ (iprop(still d i arg2 arg7 arg17 qa X ∗ still d i arg2 arg8 arg18 qb X ∗ gear d i arg9 arg16 r7 r8 q T O W ∗ tables d i arg10 arg11 (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips (st0 F)))
          -∗ WP d i (finish i arg4 arg5 arg6 arg10 arg11 arg14 harg14 r11 r12 r13 (vOf (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips (st0 F)).sq)) Q)) ⊢ WP d i (
      (Scf.Loop.for (k0_t5_loop i v14_0 v21 v26 v31 v36 v41 v46 v51 v56 v61 v66 v71 v76 v81 v86 v91 v96 v106_0 v113 v118 v123 v128 v133 v138 v143 v148 v153 v158 v163 v168 v173 v178 v183 v188) (k0_t5_ok i v14_0 v21 v26 v31 v36 v41 v46 v51 v56 v61 v66 v71 v76 v81 v86 v91 v96 v106_0 v113 v118 v123 v128 v133 v138 v143 v148 v153 v158 v163 v168 v173 v178 v183 v188 hw) (tup16 fun _ => k0_pay1242 (F := F)) fun t a => pairStep i arg2 arg7 harg7 arg8 harg8 arg9 harg9 arg10 arg11 arg16 arg17 arg18 r7 r8 v14_0 v21 v26 v31 v36 v41 v46 v51 v56 v61 v66 v71 v76 v81 v86 v91 v96 v106_0 v113 v118 v123 v128 v133 v138 v143 v148 v153 v158 v163 v168 v173 v178 v183 v188 hw t (vOf a)) >>= fun a =>
    finish i arg4 arg5 arg6 arg10 arg11 arg14 harg14 r11 r12 r13 (vOf a)) Q := by
    intro _
    iintro ⟨HA, HB, HG, HS, Hk⟩
    iapply (wp_loopG (L := k0_t5_loop i v14_0 v21 v26 v31 v36 v41 v46 v51 v56 v61 v66 v71 v76 v81 v86 v91 v96 v106_0 v113 v118 v123 v128 v133 v138 v143 v148 v153 v158 v163 v168 v173 v178 v183 v188) (ok := k0_t5_ok i v14_0 v21 v26 v31 v36 v41 v46 v51 v56 v61 v66 v71 v76 v81 v86 v91 v96 v106_0 v113 v118 v123 v128 v133 v138 v143 v148 v153 v158 v163 v168 v173 v178 v183 v188 hw) (fun t => (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) t (st0 F)).sq)
      (fun t => iprop(mid d i arg2 arg7 arg17 qa X (placeOf 8#32 v14_0 (vec16 v21 v26 v31 v36 v41 v46 v51 v56 v61 v66 v71 v76 v81 v86 v91 v96) (cls i)) (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips t
        ∗ still d i arg2 arg8 arg18 qb X ∗ gear d i arg9 arg16 r7 r8 q T O W ∗ tables d i arg10 arg11 (loopM (pairM X T (cls i) (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32))) t (st0 F)))) hb) $$ [HA HB HG HS]
    · isplitl [HA]; · iexact HA
      isplitl [HB]; · iexact HB
      isplitl [HG]; · iexact HG
      iexact HS
    iintro ⟨HA, HB, HG, HS⟩
    have hn : ¬ (k0_t5_loop i v14_0 v21 v26 v31 v36 v41 v46 v51 v56 v61 v66 v71 v76 v81 v86 v91 v96 v106_0 v113 v118 v123 v128 v133 v138 v143 v148 v153 v158 v163 v168 v173 v178 v183 v188).trips < (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips := Nat.lt_irrefl _
    ihave HA := (Entails.of_eq (mid_ge hn)) $$ HA
    iapply Hk
    isplitl [HA]; · iexact HA
    isplitl [HB]; · iexact HB
    isplitl [HG]; · iexact HG
    iexact HS
  by_cases hp : 0 < (run 0#32 (pairs (placeOf 8#32 v14_0 (vec16 v21 v26 v31 v36 v41 v46 v51 v56 v61 v66 v71 v76 v81 v86 v91 v96) (cls i)) (placeOf 8#32 v106_0 (vec16 v113 v118 v123 v128 v133 v138 v143 v148 v153 v158 v163 v168 v173 v178 v183 v188) (Scalar.addi (cls i) 32#32)))).trips
  · rw [dif_pos ((cond2_iff h0 h1 h2 h3).2 hp)]
    iapply wp_fetchS $$ HA
    iintro HA
    rw [first_word]
    ihave HA := (Entails.of_eq (mid_lt hp).symm) $$ HA
    iapply (key True)
    isplitl [HA]; · iexact HA
    isplitl [HB]; · iexact HB
    isplitl [HG]; · iexact HG
    isplitl [HS]; · iexact HS
    iexact Hk
  · rw [dif_neg (fun h => hp ((cond2_iff h0 h1 h2 h3).1 h))]
    ihave HA := (Entails.of_eq (mid_ge (lo := (placeOf 8#32 v14_0 (vec16 v21 v26 v31 v36 v41 v46 v51 v56 v61 v66 v71 v76 v81 v86 v91 v96) (cls i))) hp).symm) $$ HA
    iapply (key True)
    isplitl [HA]; · iexact HA
    isplitl [HB]; · iexact HB
    isplitl [HG]; · iexact HG
    isplitl [HS]; · iexact HS
    iexact Hk

/-- What a tile does behind the barrier. -/
theorem wp_work {q qa qb : PosShare TreeShare} {X : Nat → Nat → F .f32} {T : Nat → BitVec 32} (hT : ∀ n, 160000 ≤ n → T n = 1025#32)
    {A : S32x256.Idx → F .f32} {B : S32x16.Idx → F .f32} {C : S16.Idx → F .f32} {Q : PUnit → sProp (MT nD τ sig (HIx 1) (Elt F) ℕ UU ℕ)} :
    iprop(kit d i arg2 arg7 arg8 arg9 arg12 arg14 arg16 arg17 arg18 r3 r4 r5 r6 r7 r8 r11 r12 r13 q qa qb X T O W ∗ tables d i arg10 arg11 (st0 F)
        ∗ holds d i (sumsOut i arg4) fullShare A ∗ holds d i (numsOut i arg5) fullShare B ∗ holds d i (sqOut i arg6) fullShare C) ⊢
      iprop((iprop(kit d i arg2 arg7 arg8 arg9 arg12 arg14 arg16 arg17 arg18 r3 r4 r5 r6 r7 r8 r11 r12 r13 q qa qb X T O W ∗ tables d i arg10 arg11 (tileM X T (cls i))
          ∗ written d i arg4 arg5 arg6 (tileM X T (cls i))) -∗ Q ⟨⟩)
        -∗ WP d i (work i arg2 arg4 arg5 arg6 arg7 harg7 arg8 harg8 arg9 harg9 arg10 arg11 arg12 harg12 arg14 harg14 arg16 arg17 arg18 r3 r4 r5 r6 r7 r8 r11 r12 r13) Q) := by
  have hc := cls_range i
  have e32 : (Scalar.addi (cls i) 32#32).toInt = (cls i).toInt + 32 := by
    rw [toInt_addi] <;> rw [show (32#32 : BitVec 32).toInt = 32 from rfl] <;> omega
  have hlo := rowOf_range (F := F) hT (w := cls i) (by omega)
  have hhi := rowOf_range (F := F) hT (w := Scalar.addi (cls i) 32#32) (by omega)
  unfold work kit gear
  iintro ⟨⟨HA, HB, ⟨H9, HT, H7, H8, HO⟩, H12, H14, H3, H4, H5, H6, Hz⟩, HS, Hout⟩ Hk
  iapply wp_search $$ [HT H12 H3 H4 HO]
  · isplitl [HT]; · iexact HT
    isplitl [H12]; · iexact H12
    isplitl [H3]; · iexact H3
    isplitl [H4] <;> iassumption
  iintro ⟨HT, H12, H3, H4, HO⟩
  iapply wp_search $$ [HT H12 H5 H6 HO]
  · isplitl [HT]; · iexact HT
    isplitl [H12]; · iexact H12
    isplitl [H5]; · iexact H5
    isplitl [H6] <;> iassumption
  iintro ⟨HT, H12, H5, H6, HO⟩
  have hw := chk5 i (seekM F T (cls i)).1 (lane (seen F T (cls i)) 0) (lane (seen F T (cls i)) 1) (lane (seen F T (cls i)) 2) (lane (seen F T (cls i)) 3) (lane (seen F T (cls i)) 4) (lane (seen F T (cls i)) 5) (lane (seen F T (cls i)) 6) (lane (seen F T (cls i)) 7) (lane (seen F T (cls i)) 8) (lane (seen F T (cls i)) 9) (lane (seen F T (cls i)) 10) (lane (seen F T (cls i)) 11) (lane (seen F T (cls i)) 12) (lane (seen F T (cls i)) 13) (lane (seen F T (cls i)) 14) (lane (seen F T (cls i)) 15) (seekM F T (Scalar.addi (cls i) 32#32)).1 (lane (seen F T (Scalar.addi (cls i) 32#32)) 0) (lane (seen F T (Scalar.addi (cls i) 32#32)) 1) (lane (seen F T (Scalar.addi (cls i) 32#32)) 2) (lane (seen F T (Scalar.addi (cls i) 32#32)) 3) (lane (seen F T (Scalar.addi (cls i) 32#32)) 4) (lane (seen F T (Scalar.addi (cls i) 32#32)) 5) (lane (seen F T (Scalar.addi (cls i) 32#32)) 6) (lane (seen F T (Scalar.addi (cls i) 32#32)) 7) (lane (seen F T (Scalar.addi (cls i) 32#32)) 8) (lane (seen F T (Scalar.addi (cls i) 32#32)) 9) (lane (seen F T (Scalar.addi (cls i) 32#32)) 10) (lane (seen F T (Scalar.addi (cls i) 32#32)) 11) (lane (seen F T (Scalar.addi (cls i) 32#32)) 12) (lane (seen F T (Scalar.addi (cls i) 32#32)) 13) (lane (seen F T (Scalar.addi (cls i) 32#32)) 14) (lane (seen F T (Scalar.addi (cls i) 32#32)) 15) hlo.1 hlo.2 hhi.1 hhi.2
  iapply (wp_assume (defs := defs₀ (F := F)) 𝒱₀ (thr d i) none Set.univ hw)
  iapply (wp_pairs (seekM F T (cls i)).1 (lane (seen F T (cls i)) 0) (lane (seen F T (cls i)) 1) (lane (seen F T (cls i)) 2) (lane (seen F T (cls i)) 3) (lane (seen F T (cls i)) 4) (lane (seen F T (cls i)) 5) (lane (seen F T (cls i)) 6) (lane (seen F T (cls i)) 7) (lane (seen F T (cls i)) 8) (lane (seen F T (cls i)) 9) (lane (seen F T (cls i)) 10) (lane (seen F T (cls i)) 11) (lane (seen F T (cls i)) 12) (lane (seen F T (cls i)) 13) (lane (seen F T (cls i)) 14) (lane (seen F T (cls i)) 15) (seekM F T (Scalar.addi (cls i) 32#32)).1 (lane (seen F T (Scalar.addi (cls i) 32#32)) 0) (lane (seen F T (Scalar.addi (cls i) 32#32)) 1) (lane (seen F T (Scalar.addi (cls i) 32#32)) 2) (lane (seen F T (Scalar.addi (cls i) 32#32)) 3) (lane (seen F T (Scalar.addi (cls i) 32#32)) 4) (lane (seen F T (Scalar.addi (cls i) 32#32)) 5) (lane (seen F T (Scalar.addi (cls i) 32#32)) 6) (lane (seen F T (Scalar.addi (cls i) 32#32)) 7) (lane (seen F T (Scalar.addi (cls i) 32#32)) 8) (lane (seen F T (Scalar.addi (cls i) 32#32)) 9) (lane (seen F T (Scalar.addi (cls i) 32#32)) 10) (lane (seen F T (Scalar.addi (cls i) 32#32)) 11) (lane (seen F T (Scalar.addi (cls i) 32#32)) 12) (lane (seen F T (Scalar.addi (cls i) 32#32)) 13) (lane (seen F T (Scalar.addi (cls i) 32#32)) 14) (lane (seen F T (Scalar.addi (cls i) 32#32)) 15) hw hlo.1 hlo.2 hhi.1 hhi.2 (tileM X T (cls i)) rfl) $$ [HA HB H9 HT H7 H8 HO HS]
  · isplitl [HA]; · iexact HA
    isplitl [HB]; · iexact HB
    isplitr [HS]
    · unfold gear
      isplitl [H9]; · iexact H9
      isplitl [HT]; · iexact HT
      isplitl [H7]; · iexact H7
      isplitl [H8] <;> iassumption
    iexact HS
  iintro ⟨HA, HB, HG, HS⟩
  unfold gear
  icases HG with ⟨H9, HT, H7, H8, HO⟩
  icases H14 with ⟨%D, H14⟩
  icases Hz with ⟨H11, H12', H13⟩
  icases Hout with ⟨HO1, HO2, HO3⟩
  iapply (wp_finish (tileM X T (cls i))) $$ [HS H14 HO1 HO2 HO3 H11 H12' H13 HO]
  · isplitl [HS]; · iexact HS
    isplitl [H14]; · iexact H14
    isplitl [HO1]; · iexact HO1
    isplitl [HO2]; · iexact HO2
    isplitl [HO3]; · iexact HO3
    isplitl [H11]; · iexact H11
    isplitl [H12']; · iexact H12'
    isplitl [H13] <;> iassumption
  iintro ⟨HS, H14, HW, H11, H12', H13, HO⟩
  iapply Hk
  isplitr [HS HW]
  · isplitl [HA]; · iexact HA
    isplitl [HB]; · iexact HB
    isplitl [H9 HT H7 H8 HO]
    · isplitl [H9]; · iexact H9
      isplitl [HT]; · iexact HT
      isplitl [H7]; · iexact H7
      isplitl [H8] <;> iassumption
    isplitl [H12]; · iexact H12
    isplitl [H14]; · iexists _; iexact H14
    isplitl [H3]; · iexact H3
    isplitl [H4]; · iexact H4
    isplitl [H5]; · iexact H5
    isplitl [H6]; · iexact H6
    isplitl [H11]; · iexact H11
    isplitl [H12'] <;> iassumption
  isplitl [HS] <;> iassumption

end

end Cert.KernelIdeal.Tile

end
-- ==== Proof.WpStage.lean ====
module

public import proofs.«01_k».proof.Proof.WpTile

@[expose] public section

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-- A tile's view of the buffer `m` reads `G` at the places `S`, which the tile holds at the share `q`. -/
def holdsOn (d : Dev nD) (i : grid0.Coords) {sp : Space} {s : Shape} {e : EltTy} (m : Memref sig .scVector sp s e) (S : Finset s.Idx) (q : PosShare TreeShare)
    (G : s.Idx → Elt F e) : sProp (MT nD τ sig (HIx 1) (Elt F) ℕ UU ℕ) :=
  iprop(∃ f : Buf (Elt F) (m.view.loc (thr d i)), ⌜∀ y ∈ S, m.view.read (Elt F) f y = G y⌝ ∗ m.view.loc (thr d i) ↦[m.view.setOn S]{q} f)

theorem holdsOn_congr {sp : Space} {s : Shape} {e : EltTy} {m : Memref sig .scVector sp s e} {S : Finset s.Idx} {q : PosShare TreeShare} {G G' : s.Idx → Elt F e}
    (h : ∀ y ∈ S, G y = G' y) : (holdsOn d i m S q G : sProp (MT nD τ sig (HIx 1) (Elt F) ℕ UU ℕ)) ⊢ holdsOn d i m S q G' := by
  unfold holdsOn
  iintro ⟨%f, %hf, H⟩
  iexists f
  isplitr
  · ipureintro; exact fun y hy => (hf y hy).trans (h y hy)
  iexact H

/-- A part of what is held of a buffer, and the rest of it for when the part comes back with new contents. -/
theorem holdsOn_slice {sp : Space} {s : Shape} {e : EltTy} (m : Memref sig .scVector sp s e) (S : Finset s.Idx) (r : Rect s) (hr : ∀ a, r.stride a = 1)
    (hS : ∀ x, r.emb x ∈ S) (G : s.Idx → Elt F e) :
    (holdsOn d i m S fullShare G : sProp (MT nD τ sig (HIx 1) (Elt F) ℕ UU ℕ)) ⊢ iprop((∃ A : r.shape.Idx → Elt F e, holds d i (m.slice r hr) fullShare A)
      ∗ ∀ A : r.shape.Idx → Elt F e, holds d i (m.slice r hr) fullShare A -∗ holdsOn d i m S fullShare (over G r A)) := by
  classical
  unfold holds holdsOn
  iintro ⟨%f, %hf, H⟩
  have hsub : (m.view.slice r).set ⊆ m.view.setOn S := by
    intro z hz
    obtain ⟨x, -, rfl⟩ := Finset.mem_map.mp hz
    exact Finset.mem_map_of_mem _ (hS x)
  ihave H := (pointsTo_split_subset hsub).1 $$ H
  icases H with ⟨H1, H2⟩
  isplitl [H1]
  · iexists _; iexists f; isplitr; · ipureintro; rfl
    iexact H1
  iintro %A ⟨%g, %hg, H1⟩
  iexists ((m.view.slice r).set.piecewise g f)
  isplitr
  · ipureintro
    intro y hy
    by_cases h : ∃ x, r.emb x = y
    · obtain ⟨x, rfl⟩ := h
      have hm : m.view.emb (r.emb x) ∈ (m.view.slice r).set := Finset.mem_map_of_mem (m.view.slice r).emb (Finset.mem_univ x)
      rw [over_emb, ← congrFun hg x, View.read_apply, Finset.piecewise_eq_of_mem _ _ _ hm]
      rfl
    · have hm : m.view.emb y ∉ (m.view.slice r).set := fun hm => by
        obtain ⟨x, -, hx⟩ := Finset.mem_map.mp hm
        exact h ⟨x, m.view.emb.injective hx⟩
      rw [over_of _ _ _ _ (fun x hx => h ⟨x, hx⟩), ← hf y hy, View.read_apply, Finset.piecewise_eq_of_notMem _ _ _ hm]
      rfl
  iapply (pointsTo_join_subset hsub)
  isplitl [H1] <;> iassumption

/-- The tile that stages place `n` of the table. -/
def owner (n : Nat) : Nat := if n < 160000 then n / 10000 else 0
/-- The places tile `p` stages. -/
def seg (p : Nat) : Finset S160016.Idx := Finset.univ.filter fun x => owner (x 0).val = p
theorem mem_seg {p : Nat} {x : S160016.Idx} : x ∈ seg p ↔ owner (x 0).val = p := by unfold seg; rw [Finset.mem_filter]; exact ⟨fun h => h.2, fun h => ⟨Finset.mem_univ _, h⟩⟩

/-- The shared table of the labels `L`. -/
def tabT (L : Nat → BitVec 32) (n : Nat) : BitVec 32 := if n < 160000 then L n else 1025#32

theorem trips_stage : k0_t1_loop.trips = 5 := by decide

theorem off1_eq (t : Fin k0_t1_loop.trips) : k0_off1 i t = ![10000 * (i 1).val + 2000 * t.val] := by
  have h : ∀ a : Fin 16, ∀ t : Fin k0_t1_loop.trips, (Scalar.addi (Scalar.muli (BitVec.ofNat 32 a.val) 10000#32) (Scalar.muli (Scf.iv 0#32 1#32 t) 2000#32)).toNat = 10000 * a.val + 2000 * t.val := by decide
  show ![_] = _
  rw [← h (i 1) t]
theorem off2_eq (t : Fin k0_t1_loop.trips) : k0_off2 i t = ![10000 * (i 1).val + 2000 * t.val] := off1_eq t

/-- The labels a tile stages, staged. -/
theorem wp_stageLoop {lab : Memref sig .scVector .hbm S160000 .i32} {buf : Memref sig .scVector .vmem S2000 .i32} {hbuf : buf.view.WordExact}
    {sp : Memref sig .scVector .shared S160016 .i32} {s0 s1 : DmaSems sig S_} {ok} {k : Unit → TP F i α} {q : PosShare TreeShare} {L : Nat → BitVec 32} :
    iprop(holds (F := F) d i lab q (on1 (d := ![160000]) L) ∗ (∃ A : S2000.Idx → BitVec 32, holds (F := F) d i buf fullShare A) ∗ (∃ G : S160016.Idx → BitVec 32, holdsOn (F := F) d i sp (seg (i 1).val) fullShare G)
        ∗ idle d i s0 ∗ idle d i s1 ∗ debt d i O W) ⊢
      iprop((iprop(holds (F := F) d i lab q (on1 (d := ![160000]) L) ∗ (∃ A : S2000.Idx → BitVec 32, holds (F := F) d i buf fullShare A)
          ∗ (∃ G : S160016.Idx → BitVec 32, ⌜∀ y ∈ seg (i 1).val, (y 0).val < 160000 → G y = L (y 0).val⌝ ∗ holdsOn (F := F) d i sp (seg (i 1).val) fullShare G)
          ∗ idle d i s0 ∗ idle d i s1 ∗ debt d i O W) -∗ WP d i (k ⟨⟩) Q)
        -∗ WP d i ((Scf.Loop.for k0_t1_loop ok ⟨⟩ fun t _ => stageStep lab buf hbuf sp s0 s1 t) >>= k) Q) := by
  have hp : (i 1).val < 16 := (i 1).isLt
  iintro ⟨HL, HB, ⟨%G, HG⟩, H0, H1, HO⟩ Hk
  iapply (wp_loop (fun _ u => u) (fun t => iprop(∃ G : S160016.Idx → BitVec 32, ⌜∀ y : S160016.Idx, 10000 * (i 1).val ≤ (y 0).val → (y 0).val < 10000 * (i 1).val + 2000 * t → G y = L (y 0).val⌝
      ∗ holdsOn (F := F) d i sp (seg (i 1).val) fullShare G ∗ holds (F := F) d i lab q (on1 (d := ![160000]) L) ∗ (∃ A : S2000.Idx → BitVec 32, holds (F := F) d i buf fullShare A)
      ∗ idle d i s0 ∗ idle d i s1 ∗ debt d i O W)) (fun t => by
    iintro ⟨%G, %hG, HG, HL, ⟨%A, HB⟩, H0, H1, HO⟩ %Q' Hk
    have ht : t.val < 5 := Nat.lt_of_lt_of_eq t.isLt trips_stage
    have e1 : k0_off1 i t 0 = 10000 * (i 1).val + 2000 * t.val := congrFun (off1_eq t) 0
    have e2 : k0_off2 i t 0 = 10000 * (i 1).val + 2000 * t.val := congrFun (off2_eq t) 0
    unfold stageStep
    ihave HL := (holds_slice lab (Rect.unit (s := S160000) (k0_off1 i t) S2000.size (k0_off1_inb i t)) (fun _ => rfl) q (on1 (d := ![160000]) L)) $$ HL
    icases HL with ⟨HL, HLr⟩
    iapply (wp_copy (show 0 < S2000.numel by decide)) $$ [HL HB H0 HO]
    · isplitl [HL]; · iexact HL
      isplitl [HB]; · iexact HB
      isplitl [H0] <;> iassumption
    iintro ⟨HL, HB, H0, HO⟩
    ihave HL := HLr $$ HL
    ihave HG := (holdsOn_slice sp (seg (i 1).val) (Rect.unit (s := S160016) (k0_off2 i t) S2000.size (k0_off2_inb i t)) (fun _ => rfl) (fun x => by
      have hx : (x 0).val < 2000 := (x 0).isLt
      have e : ((Rect.unit (s := S160016) (k0_off2 i t) S2000.size (k0_off2_inb i t)).emb x 0).val = k0_off2 i t 0 + 1 * (x 0).val := rfl
      rw [mem_seg, e, e2]
      unfold owner
      rw [if_pos (by omega)]
      omega) G) $$ HG
    icases HG with ⟨⟨%A', HG⟩, HGr⟩
    iapply (wp_copy (show 0 < S2000.numel by decide)) $$ [HB HG H1 HO]
    · isplitl [HB]; · iexact HB
      isplitl [HG]; · iexact HG
      isplitl [H1] <;> iassumption
    iintro ⟨HB, HG, H1, HO⟩
    ihave HG := HGr $$ %_ HG
    iapply (wp_done' (b := loopM (fun _ u => u) (t.val + 1) PUnit.unit) (by rfl))
    iapply Hk
    iexists _
    isplitr
    rotate_left
    · isplitl [HG]; · iexact HG
      isplitl [HL]; · iexact HL
      isplitl [HB]; · iexists _; iexact HB
      isplitl [H0]; · iexact H0
      isplitl [H1] <;> iassumption
    ipureintro
    intro y hy hy'
    by_cases h : ∃ x, (Rect.unit (s := S160016) (k0_off2 i t) S2000.size (k0_off2_inb i t)).emb x = y
    · obtain ⟨x, rfl⟩ := h
      rw [over_emb]
      show L (k0_off1 i t 0 + 1 * (x 0).val) = L (k0_off2 i t 0 + 1 * (x 0).val)
      rw [e1, e2]
    · rw [over_of _ _ _ _ (fun x hx => h ⟨x, hx⟩)]
      refine hG y hy ?_
      by_contra hc
      refine h ⟨ValueIdx.ix1 (⟨(y 0).val - k0_off2 i t 0, by rw [e2]; omega⟩ : Fin 2000), ?_⟩
      funext a
      match a with
      | ⟨0, _⟩ => exact Fin.ext (show k0_off2 i t 0 + 1 * ((y 0).val - k0_off2 i t 0) = (y 0).val by rw [e2]; omega))) $$ [HL HB HG H0 H1 HO]
  · iexists G
    isplitr
    · ipureintro; intro y hy hy'; omega
    isplitl [HG]; · iexact HG
    isplitl [HL]; · iexact HL
    isplitl [HB]; · iexact HB
    isplitl [H0]; · iexact H0
    isplitl [H1] <;> iassumption
  iintro ⟨%G, %hG, HG, HL, HB, H0, H1, HO⟩
  iapply Hk
  isplitl [HL]; · iexact HL
  isplitl [HB]; · iexact HB
  isplitl [HG]
  · iexists G
    isplitr
    · ipureintro
      intro y hy hy'
      rw [mem_seg] at hy
      unfold owner at hy
      rw [if_pos hy'] at hy
      rw [trips_stage] at hG
      exact hG y (by omega) (by omega)
    iexact HG
  isplitl [H0]; · iexact H0
  isplitl [H1] <;> iassumption

theorem cond1_iff : Scalar.cmpi .ne (Scalar.extui (Scalar.cmpi .eq (BitVec.ofNat 32 (i 1).val) 0#32)) (0#32 : BitVec 32) = 1#1 ↔ (i 1).val = 0 := by
  have h : ∀ a : Fin 16, Scalar.cmpi .ne (Scalar.extui (Scalar.cmpi .eq (BitVec.ofNat 32 a.val) 0#32)) (0#32 : BitVec 32) = 1#1 ↔ a.val = 0 := by decide
  exact h (i 1)

theorem pay1241 (x : S16.Idx) : (k0_pay1241 : IVec S16 32) x = 1025#32 := rfl

section

variable {arg2 : Memref sig .scVector .hbm S160000x256 .f32} {arg3 : Memref sig .scVector .hbm S160000 .i32} {arg4 : Memref sig .scVector .hbm S1024x256 .f32} {arg5 : Memref sig .scVector .hbm S1024x16 .f32} {arg6 : Memref sig .scVector .hbm S32x16 .f32}
  {arg7 : Memref sig .scVector .vmem S192x256 .f32} {harg7 : arg7.IsWhole} {arg8 : Memref sig .scVector .vmem S192x256 .f32} {harg8 : arg8.IsWhole}
  {arg9 : Memref sig .scVector .vmem S192 .i32} {harg9 : arg9.IsWhole} {arg10 : Memref sig .scVector .vmem S33x256 .f32} {arg11 : Memref sig .scVector .vmem S33x16 .f32}
  {arg12 : Memref sig .scVector .vmem S16 .i32} {harg12 : arg12.IsWhole} {arg13 : Memref sig .scVector .vmem S16 .i32} {harg13 : arg13.IsWhole} {arg14 : Memref sig .scVector .vmem S16 .f32} {harg14 : arg14.IsWhole}
  {arg15 : Memref sig .scVector .vmem S2000 .i32} {harg15 : arg15.IsWhole}
  {arg16 : Memref sig .scVector .shared S160016 .i32} {arg17 arg18 r0 r1 r2 r3 r4 r5 r6 r7 r8 r11 r12 r13 : DmaSems sig S_}

/-- What a tile does before the barrier: its part of the shared table holds the labels, and its tables are clear. -/
theorem wp_head {q : PosShare TreeShare} {L : Nat → BitVec 32} {Q : PUnit → sProp (MT nD τ sig (HIx 1) (Elt F) ℕ UU ℕ)} :
    iprop(holds (F := F) d i arg3 q (on1 (d := ![160000]) L) ∗ (∃ A : S2000.Idx → BitVec 32, holds (F := F) d i arg15 fullShare A) ∗ (∃ G : S160016.Idx → BitVec 32, holdsOn (F := F) d i arg16 (seg (i 1).val) fullShare G)
        ∗ (∃ A : S16.Idx → BitVec 32, holds (F := F) d i arg13 fullShare A) ∗ (∃ A : S33x256.Idx → F .f32, holds d i arg10 fullShare A) ∗ (∃ A : S33x16.Idx → F .f32, holds d i arg11 fullShare A)
        ∗ idle d i r0 ∗ idle d i r1 ∗ idle d i r2 ∗ debt d i O W) ⊢
      iprop((iprop(holds (F := F) d i arg3 q (on1 (d := ![160000]) L) ∗ (∃ A : S2000.Idx → BitVec 32, holds (F := F) d i arg15 fullShare A) ∗ holdsOn (F := F) d i arg16 (seg (i 1).val) fullShare (on1 (d := ![160016]) (tabT L))
        ∗ (∃ A : S16.Idx → BitVec 32, holds (F := F) d i arg13 fullShare A) ∗ tables d i arg10 arg11 (st0 F)
        ∗ idle d i r0 ∗ idle d i r1 ∗ idle d i r2 ∗ debt d i O W)
          -∗ WP d i (SparseCore.subcoreBarrier sc_bar0 (grid0.bound 1) hsub0 >>= fun _ => work i arg2 arg4 arg5 arg6 arg7 harg7 arg8 harg8 arg9 harg9 arg10 arg11 arg12 harg12 arg14 harg14 arg16 arg17 arg18 r3 r4 r5 r6 r7 r8 r11 r12 r13) Q)
        -∗ WP d i (segment i arg2 arg3 arg4 arg5 arg6 arg7 harg7 arg8 harg8 arg9 harg9 arg10 arg11 arg12 harg12 arg13 harg13 arg14 harg14 arg15 harg15 arg16 arg17 arg18 r0 r1 r2 r3 r4 r5 r6 r7 r8 r11 r12 r13) Q) := by
  unfold segment
  iintro ⟨HL, HB, HG, ⟨%A, HA⟩, ⟨%S, HS⟩, ⟨%N, HN⟩, H0, H1, H2, HO⟩ Hk
  iapply wp_stageLoop $$ [HL HB HG H0 H1 HO]
  · isplitl [HL]; · iexact HL
    isplitl [HB]; · iexact HB
    isplitl [HG]; · iexact HG
    isplitl [H0]; · iexact H0
    isplitl [H1] <;> iassumption
  iintro ⟨HL, HB, ⟨%G, %hG, HG⟩, H0, H1, HO⟩
  iapply wp_get $$ HA
  iintro HA
  iapply wp_putAll $$ HA
  iintro HA
  dsimp only
  by_cases h : (i 1).val = 0
  · rw [dif_pos (cond1_iff.2 h)]
    ihave HG := (holdsOn_slice arg16 (seg (i 1).val) (Rect.unit (s := S160016) ![160000] S16.size inb_S160016_S16_160000) (fun _ => rfl) (fun x => by
      have e : ((Rect.unit (s := S160016) ![160000] S16.size inb_S160016_S16_160000).emb x 0).val = 160000 + 1 * (x 0).val := rfl
      rw [mem_seg, e]
      unfold owner
      rw [if_neg (by omega)]
      exact h.symm) G) $$ HG
    icases HG with ⟨⟨%A', HG⟩, HGr⟩
    iapply (wp_copy (by decide)) $$ [HA HG H2 HO]
    · isplitl [HA]; · iexact HA
      isplitl [HG]; · iexact HG
      isplitl [H2] <;> iassumption
    iintro ⟨HA, HG, H2, HO⟩
    ihave HG := HGr $$ %_ HG
    iapply wp_clear $$ [HS HN]
    · isplitl [HS] <;> iassumption
    iintro HS
    iapply Hk
    isplitl [HL]; · iexact HL
    isplitl [HB]; · iexact HB
    isplitl [HG]
    · iapply (holdsOn_congr (?_ : _)) $$ HG
      intro y hy
      have hy' : (y 0).val < 160016 := (y 0).isLt
      show _ = tabT L (y 0).val
      unfold tabT
      by_cases hc : (y 0).val < 160000
      · rw [if_pos hc, over_of _ _ _ _ (fun x hx => by
          have e : ((Rect.unit (s := S160016) ![160000] S16.size inb_S160016_S16_160000).emb x 0).val = 160000 + 1 * (x 0).val := rfl
          rw [hx] at e; omega)]
        exact hG y hy hc
      · have e : (Rect.unit (s := S160016) ![160000] S16.size inb_S160016_S16_160000).emb (ValueIdx.ix1 (⟨(y 0).val - 160000, by omega⟩ : Fin 16)) = y := by
          funext a
          match a with
          | ⟨0, _⟩ => exact Fin.ext (show 160000 + 1 * ((y 0).val - 160000) = (y 0).val by omega)
        rw [if_neg hc]
        conv_lhs => rw [← e]
        rw [over_emb]
        exact pay1241 _
    isplitl [HA]; · iexists _; iexact HA
    isplitl [HS]; · iexact HS
    isplitl [H0]; · iexact H0
    isplitl [H1]; · iexact H1
    isplitl [H2] <;> iassumption
  · rw [dif_neg (fun hc => h (cond1_iff.1 hc))]
    iapply wp_clear $$ [HS HN]
    · isplitl [HS] <;> iassumption
    iintro HS
    iapply Hk
    isplitl [HL]; · iexact HL
    isplitl [HB]; · iexact HB
    isplitl [HG]
    · iapply (holdsOn_congr (?_ : _)) $$ HG
      intro y hy
      show _ = tabT L (y 0).val
      unfold tabT
      rw [mem_seg] at hy
      by_cases hc : (y 0).val < 160000
      · rw [if_pos hc]
        exact hG y (mem_seg.2 hy) hc
      · unfold owner at hy
        rw [if_neg hc] at hy
        exact absurd hy.symm h
    isplitl [HA]; · iexists _; iexact HA
    isplitl [HS]; · iexact HS
    isplitl [H0]; · iexact H0
    isplitl [H1]; · iexact H1
    isplitl [H2] <;> iassumption

end

end Cert.KernelIdeal.Tile

end
-- ==== Proof.Deal.lean ====
module

public import proofs.«01_k».proof.Proof.WpStage
public import proofs.«01_k».proof.Proof.Gen.KernelIdeal.Launch

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-! ## The program as the launch sees it -/

abbrev ΛP : Labels := Pipeline.Sig Λ₀ (Fin 1) fun p => (pcfgs (F := F) p).Adm
abbrev K : SparseCore.Cfg τ sig (ΛP (F := F)) 1 := sc (F := F)
abbrev DD : Defs nD τ sig (Elt F) (ΛP (F := F)) := Pipeline.defs pcfgs defs₀
abbrev 𝒱 : Variants := 𝒱₀.lift
abbrev v₀ : 𝒱.V := Sum.inl none
/-- The SparseCore of the call's core number `c`. -/
abbrev coreOf (c : Fin ((K (F := F)).nCore 0)) : Fin τ.nSC := (K (F := F)).core 0 c
/-- The vector subcore of the call's task number `j`. -/
abbrev subOf (j : Fin ((K (F := F)).nSub 0)) : Fin τ.nSub := (K (F := F)).sub 0 j

omit [FloatOps F] in
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's rounds. -/
abbrev EH : Emb UH (MT nD τ sig (HIx 1) (Elt F) ℕ UU ℕ) := embL
/-- The barrier's rounds: the left half of the right factor. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB (MT nD τ sig (HIx 1) (Elt F) ℕ UU ℕ)).LandsIn (upEmb : UEmb _ (MT nD τ sig (HIx 1) (Elt F) ℕ UU ℕ)) := by
  unfold EB; infer_instance

/-- The pipeline's rounds. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The buffers -/

abbrev fLoc (d : Dev nD) : Loc nD τ sig := (SparseCore.T d).loc main_arg0
abbrev lLoc (d : Dev nD) : Loc nD τ sig := (SparseCore.T d).loc main_arg1
abbrev sLoc (d : Dev nD) : Loc nD τ sig := (SparseCore.T d).loc main_v0_0
abbrev cLoc (d : Dev nD) : Loc nD τ sig := (SparseCore.T d).loc main_v0_1
abbrev qLoc (d : Dev nD) : Loc nD τ sig := (SparseCore.T d).loc main_v0_2
/-- The labels in the memory a SparseCore's tiles share. -/
abbrev shRef (c : Fin τ.nSC) : DevRef τ sig := ⟨.shared, ⟨0, by decide⟩, c⟩
abbrev shLoc (d : Dev nD) (c : Fin τ.nSC) : Loc nD τ sig := (d, shRef c)

/-- The features by row and column. -/
def featM (f : S160000x256.Idx → F .f32) : Nat → Nat → F .f32 :=
  fun a b => f (ix2 (⟨a % 160000, Nat.mod_lt _ (by decide)⟩ : Fin 160000) (⟨b % 256, Nat.mod_lt _ (by decide)⟩ : Fin 256))
/-- The labels by number. -/
def labM (l : S160000.Idx → BitVec 32) : Nat → BitVec 32 := fun n => l (ix1 (⟨n % 160000, Nat.mod_lt _ (by decide)⟩ : Fin 160000))
/-- The labels as the tiles share them. -/
def tabM (l : S160000.Idx → BitVec 32) : Nat → BitVec 32 := tabT (labM l)

omit [FloatOps F] in
theorem featM_eq (f : S160000x256.Idx → F .f32) : on2 (d := ![160000, 256]) (featM f) = f := by
  funext y
  unfold on2 featM
  refine congrArg f ?_
  rw [eq_ix2 y]
  congr 1 <;> exact Fin.ext (Nat.mod_eq_of_lt (Fin.isLt _))
theorem labM_eq (l : S160000.Idx → BitVec 32) : on1 (d := ![160000]) (labM l) = l := by
  funext y
  unfold on1 labM
  refine congrArg l ?_
  rw [eq_ix1 y]
  congr 1; exact Fin.ext (Nat.mod_eq_of_lt (Fin.isLt _))
theorem tabM_big (l : S160000.Idx → BitVec 32) (n : Nat) (h : 160000 ≤ n) : tabM l n = 1025#32 := if_neg (by omega)

/-- What the tile `w` of the two SparseCores computes. -/
def tileOf (f : S160000x256.Idx → F .f32) (l : S160000.Idx → BitVec 32) (w : Nat) : St F := tileM (featM f) (tabM l) (BitVec.ofNat 32 (w * 32))
/-- The sums of all the tiles. -/
def outSums (f : S160000x256.Idx → F .f32) (l : S160000.Idx → BitVec 32) : S1024x256.Idx → F .f32 :=
  fun x => (tileOf f l ((x 0).val / 32)).sums ((x 0).val % 32) (x 1).val
/-- The numbers of rows of all the tiles. -/
def outNums (f : S160000x256.Idx → F .f32) (l : S160000.Idx → BitVec 32) : S1024x16.Idx → F .f32 :=
  fun x => (tileOf f l ((x 0).val / 32)).nums ((x 0).val % 32) (x 1).val
/-- The squares of all the tiles. -/
def outSq (f : S160000x256.Idx → F .f32) (l : S160000.Idx → BitVec 32) : S32x16.Idx → F .f32 :=
  fun x => sqM (tileOf f l (x 0).val) (ix1 (⟨(x 1).val, (x 1).isLt⟩ : Fin 16))

/-- The number of a tile among those of both SparseCores. -/
abbrev wid (i : grid0.Coords) : Nat := (i 0).val * 16 + (i 1).val

theorem cls_wid (i : grid0.Coords) : cls i = BitVec.ofNat 32 (wid i * 32) := by
  have h : ∀ (a : Fin 2) (b : Fin 16), Scalar.muli (Scalar.addi (Scalar.muli (BitVec.ofNat 32 a.val) 16#32) (BitVec.ofNat 32 b.val)) 32#32 = BitVec.ofNat 32 ((a.val * 16 + b.val) * 32) := by decide
  exact h (i 0) (i 1)
theorem off581_eq (i : grid0.Coords) : k0_off581 i = ![wid i * 32, 0] := by
  have h : ∀ (a : Fin 2) (b : Fin 16), (Scalar.muli (Scalar.addi (Scalar.muli (BitVec.ofNat 32 a.val) 16#32) (BitVec.ofNat 32 b.val)) 32#32).toNat = (a.val * 16 + b.val) * 32 := by decide
  show ![_, 0] = _
  rw [← h (i 0) (i 1)]
theorem off582_eq (i : grid0.Coords) : k0_off582 i = ![wid i * 32, 0] := off581_eq i
theorem off583_eq (i : grid0.Coords) : k0_off583 i = ![wid i, 0] := by
  have h : ∀ (a : Fin 2) (b : Fin 16), (Scalar.addi (Scalar.muli (BitVec.ofNat 32 a.val) 16#32) (BitVec.ofNat 32 b.val)).toNat = a.val * 16 + b.val := by decide
  exact congrArg (fun n : Nat => (![n, 0] : Fin 2 → Nat)) (h (i 0) (i 1))

/-! ## Parts of a buffer -/

/-- The places whose key is `n`. -/
def part {I : Type} [Fintype I] (key : I → Nat) (n : Nat) : Finset I := Finset.univ.filter fun x => key x = n
theorem mem_part {I : Type} [Fintype I] {key : I → Nat} {n : Nat} {x : I} : x ∈ part key n ↔ key x = n := by simp [part]
theorem part_disjoint {I : Type} [Fintype I] [DecidableEq I] (key : I → Nat) {a b : Nat} (h : a ≠ b) : Disjoint (part key a) (part key b) :=
  Finset.disjoint_left.2 fun _ ha hb => h ((mem_part.1 ha).symm.trans (mem_part.1 hb))

/-- The places of a tile in the three results. -/
abbrev sumsOf : Nat → Finset S1024x256.Idx := part fun x => (x 0).val / 32
abbrev numsOf : Nat → Finset S1024x16.Idx := part fun x => (x 0).val / 32
abbrev sqOf : Nat → Finset S32x16.Idx := part fun x => (x 0).val
/-- The places of a SparseCore in the three results. -/
abbrev sumsAll : Nat → Finset S1024x256.Idx := part fun x => (x 0).val / 32 / 16
abbrev numsAll : Nat → Finset S1024x16.Idx := part fun x => (x 0).val / 32 / 16
abbrev sqAll : Nat → Finset S32x16.Idx := part fun x => (x 0).val / 16

theorem seg_eq_part : seg = part fun x : S160016.Idx => owner (x 0).val := rfl

variable {ℓ : Loc nD τ sig} {q : PosShare TreeShare} {f : Buf (Elt F) ℓ}

omit [FloatOps F] in
/-- A SparseCore's places are those of its tiles. -/
theorem part_tiles (key : Idx ℓ → Nat) (c : Nat) :
    (ℓ ↦[part (fun x => key x / 16) c]{q} f : sProp (MT nD τ sig (HIx 1) (Elt F) ℕ UU ℕ)) = bigSep Finset.univ fun j : Fin 16 => ℓ ↦[part key (c * 16 + j.val)]{q} f := by
  classical
  rw [← pointsTo_biUnion Finset.univ (fun j : Fin 16 => part key (c * 16 + j.val)) fun a _ b _ h => part_disjoint key fun e => h (Fin.ext (by omega))]
  congr 1
  ext x
  rw [mem_part, Finset.mem_biUnion]
  constructor
  · exact fun h => ⟨⟨key x % 16, Nat.mod_lt _ (by decide)⟩, Finset.mem_univ _, mem_part.2 (by show key x = c * 16 + key x % 16; omega)⟩
  · rintro ⟨j, -, hj⟩
    have := mem_part.1 hj
    have := j.isLt
    omega

omit [FloatOps F] in
/-- All the places are those of the keys. -/
theorem part_all {n : Nat} (key : Idx ℓ → Nat) (h : ∀ x, key x < n) :
    (ℓ ↦{q} f : sProp (MT nD τ sig (HIx 1) (Elt F) ℕ UU ℕ)) = bigSep Finset.univ fun c : Fin n => ℓ ↦[part key c.val]{q} f := by
  classical
  rw [← pointsTo_biUnion Finset.univ (fun c : Fin n => part key c.val) fun a _ b _ h => part_disjoint key fun e => h (Fin.ext e)]
  congr 1
  ext x
  rw [Finset.mem_biUnion]
  exact ⟨fun _ => ⟨⟨key x, h x⟩, Finset.mem_univ _, mem_part.2 rfl⟩, fun _ => Finset.mem_univ _⟩

omit [FloatOps F] in
theorem owner_lt {n : Nat} (h : n < 160016) : owner n < 16 := by unfold owner; split <;> omega

/-! ## What a tile holds, as the launch says it -/

omit [FloatOps F] in
theorem holds_of {r : Ref sig .scVector} (G : Buf (Elt F) ((thr d i).loc r)) :
    ((thr d i).loc r ↦{q} G : sProp (MT nD τ sig (HIx 1) (Elt F) ℕ UU ℕ)) ⊢ holds d i (Memref.whole r) q G := by
  unfold holds
  rw [show (Memref.whole r).view.set = Finset.univ from View.set_whole r]
  iintro H
  iexists G
  isplitr
  · ipureintro; rfl
  iexact H
omit [FloatOps F] in
theorem of_holds {r : Ref sig .scVector} (G : Buf (Elt F) ((thr d i).loc r)) :
    holds d i (Memref.whole r) q G ⊢ ((thr d i).loc r ↦{q} G : sProp (MT nD τ sig (HIx 1) (Elt F) ℕ UU ℕ)) := by
  unfold holds
  rw [show (Memref.whole r).view.set = Finset.univ from View.set_whole r]
  iintro ⟨%g, %hg, H⟩
  have e : g = G := hg
  rw [← e]
  iexact H

omit [FloatOps F] in
/-- What a tile writes, at contents of the whole buffer. -/
theorem of_part {sp : Space} {s : Shape} {e : EltTy} (m : Memref sig .scVector sp s e) {S : Finset (Idx (m.view.loc (thr d i)))} (hS : m.view.set = S)
    (G : s.Idx → Elt F e) (g : Buf (Elt F) (m.view.loc (thr d i))) (h : ∀ x, m.view.read (Elt F) g x = G x) :
    (holds d i m fullShare G : sProp (MT nD τ sig (HIx 1) (Elt F) ℕ UU ℕ)) ⊢ m.view.loc (thr d i) ↦[S]{fullShare} g := by
  unfold holds
  subst hS
  iintro ⟨%f, %hf, H⟩
  have e : ∀ y ∈ m.view.set, f y = g y := by
    intro y hy
    obtain ⟨x, -, rfl⟩ := Finset.mem_map.mp hy
    have := (congrFun hf x).trans (h x).symm
    rw [View.read_apply, View.read_apply] at this
    exact (cast_inj _).1 this
  iapply (Entails.of_eq (pointsTo_congr e))
  iexact H
omit [FloatOps F] in
/-- The places of a tile, held. -/
theorem part_of {sp : Space} {s : Shape} {e : EltTy} (m : Memref sig .scVector sp s e) {S : Finset (Idx (m.view.loc (thr d i)))} (hS : m.view.set = S)
    (g : Buf (Elt F) (m.view.loc (thr d i))) :
    (m.view.loc (thr d i) ↦[S]{fullShare} g : sProp (MT nD τ sig (HIx 1) (Elt F) ℕ UU ℕ)) ⊢ ∃ A : s.Idx → Elt F e, holds d i m fullShare A := by
  unfold holds
  subst hS
  iintro H
  iexists (m.view.read (Elt F) g)
  iexists g
  isplitr
  · ipureintro; rfl
  iexact H

/-- The places a tile writes in the sums. -/
theorem set_sums (i : grid0.Coords) : (sumsOut i (Memref.whole main_v0_0_scv)).view.set = sumsOf (wid i) := by
  show ((View.whole main_v0_0_scv).slice _).set = _
  rw [View.set_slice_whole]
  ext x
  rw [mem_part]
  have e1 : (k0_off581 i) 0 = wid i * 32 := congrFun (off581_eq i) 0
  have e2 : (k0_off581 i) 1 = 0 := congrFun (off581_eq i) 1
  rw [Rect.mem_set_unit]
  constructor
  · intro h
    have h0 : k0_off581 i 0 ≤ (x 0).val ∧ (x 0).val < k0_off581 i 0 + 32 := h 0
    omega
  · intro h a
    match a with
    | 0 => show k0_off581 i 0 ≤ (x 0).val ∧ (x 0).val < k0_off581 i 0 + 32; omega
    | 1 => exact ⟨e2 ▸ Nat.zero_le _, by rw [show k0_off581 i 1 = 0 from e2, Nat.zero_add]; exact (x 1).isLt⟩

/-- The places a tile writes in the numbers of rows. -/
theorem set_nums (i : grid0.Coords) : (numsOut i (Memref.whole main_v0_1_scv)).view.set = numsOf (wid i) := by
  show ((View.whole main_v0_1_scv).slice _).set = _
  rw [View.set_slice_whole]
  ext x
  rw [mem_part]
  have e1 : (k0_off582 i) 0 = wid i * 32 := congrFun (off582_eq i) 0
  have e2 : (k0_off582 i) 1 = 0 := congrFun (off582_eq i) 1
  rw [Rect.mem_set_unit]
  constructor
  · intro h
    have h0 : k0_off582 i 0 ≤ (x 0).val ∧ (x 0).val < k0_off582 i 0 + 32 := h 0
    omega
  · intro h a
    match a with
    | 0 => show k0_off582 i 0 ≤ (x 0).val ∧ (x 0).val < k0_off582 i 0 + 32; omega
    | 1 => exact ⟨e2 ▸ Nat.zero_le _, by rw [show k0_off582 i 1 = 0 from e2, Nat.zero_add]; exact (x 1).isLt⟩

/-- The places a tile writes in the squares. -/
theorem set_sq (i : grid0.Coords) : (sqOut i (Memref.whole main_v0_2_scv)).view.set = sqOf (wid i) := by
  show (((View.whole main_v0_2_scv).slice _).reshape S16 _).set = _
  rw [View.set_reshape, View.set_slice_whole]
  ext x
  rw [mem_part]
  have e1 : (k0_off583 i) 0 = wid i := congrFun (off583_eq i) 0
  have e2 : (k0_off583 i) 1 = 0 := congrFun (off583_eq i) 1
  rw [Rect.mem_set_unit]
  constructor
  · intro h
    have h0 : k0_off583 i 0 ≤ (x 0).val ∧ (x 0).val < k0_off583 i 0 + 1 := h 0
    omega
  · intro h a
    match a with
    | 0 => show k0_off583 i 0 ≤ (x 0).val ∧ (x 0).val < k0_off583 i 0 + 1; omega
    | 1 => exact ⟨e2 ▸ Nat.zero_le _, by rw [show k0_off583 i 1 = 0 from e2, Nat.zero_add]; exact (x 1).isLt⟩

variable (f : S160000x256.Idx → F .f32) (l : S160000.Idx → BitVec 32)

/-- The places a tile writes hold what the whole result holds there. -/
theorem sums_read (i : grid0.Coords) (x : S32x256.Idx) :
    (sumsOut i (Memref.whole main_v0_0_scv)).view.read (Elt F) (outSums f l) x = on2 (d := ![32, 256]) (tileM (featM f) (tabM l) (cls i)).sums x := by
  have e1 : (k0_off581 i) 0 = wid i * 32 := congrFun (off581_eq i) 0
  have e2 : (k0_off581 i) 1 = 0 := congrFun (off581_eq i) 1
  have h0 : (x 0).val < 32 := (x 0).isLt
  show (tileOf f l ((k0_off581 i 0 + 1 * (x 0).val) / 32)).sums ((k0_off581 i 0 + 1 * (x 0).val) % 32) (k0_off581 i 1 + 1 * (x 1).val) = _
  rw [e1, e2, show (wid i * 32 + 1 * (x 0).val) / 32 = wid i by omega, show (wid i * 32 + 1 * (x 0).val) % 32 = (x 0).val by omega, show 0 + 1 * (x 1).val = (x 1).val by omega, cls_wid]
  rfl
theorem nums_read (i : grid0.Coords) (x : S32x16.Idx) :
    (numsOut i (Memref.whole main_v0_1_scv)).view.read (Elt F) (outNums f l) x = on2 (d := ![32, 16]) (tileM (featM f) (tabM l) (cls i)).nums x := by
  have e1 : (k0_off582 i) 0 = wid i * 32 := congrFun (off582_eq i) 0
  have e2 : (k0_off582 i) 1 = 0 := congrFun (off582_eq i) 1
  have h0 : (x 0).val < 32 := (x 0).isLt
  show (tileOf f l ((k0_off582 i 0 + 1 * (x 0).val) / 32)).nums ((k0_off582 i 0 + 1 * (x 0).val) % 32) (k0_off582 i 1 + 1 * (x 1).val) = _
  rw [e1, e2, show (wid i * 32 + 1 * (x 0).val) / 32 = wid i by omega, show (wid i * 32 + 1 * (x 0).val) % 32 = (x 0).val by omega, show 0 + 1 * (x 1).val = (x 1).val by omega, cls_wid]
  rfl
theorem sq_read (i : grid0.Coords) (x : S16.Idx) :
    (sqOut i (Memref.whole main_v0_2_scv)).view.read (Elt F) (outSq f l) x = sqM (tileM (featM f) (tabM l) (cls i)) x := by
  have e1 : (k0_off583 i) 0 = wid i := congrFun (off583_eq i) 0
  have e2 : (k0_off583 i) 1 = 0 := congrFun (off583_eq i) 1
  have hz : Shape.reshapeEquiv (s := S1x16) (s' := S16) squeezes_S1x16_S16.numel_eq x = Fin.cons ⟨0, Nat.one_pos⟩ x := Shape.reshapeEquiv_cons_one (d := ![16]) _ x
  show outSq f l ((Rect.unit (s := S32x16) (k0_off583 i) S1x16.size (k0_off583_inb i)).emb (Shape.reshapeEquiv (s := S1x16) (s' := S16) squeezes_S1x16_S16.numel_eq x)) = _
  rw [hz]
  show sqM (tileOf f l (k0_off583 i 0 + 1 * 0)) (ix1 (⟨k0_off583 i 1 + 1 * (x 0).val, _⟩ : Fin 16)) = _
  unfold tileOf
  rw [cls_wid, e1]
  refine congrArg _ ?_
  rw [eq_ix1 x]
  exact congrArg ix1 (Fin.ext (by show k0_off583 i 1 + 1 * (x 0).val = (x 0).val; omega))

end Cert.KernelIdeal.Tile

end
-- ==== Proof.Barrier.lean ====
module

public import proofs.«01_k».proof.Proof.Deal

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

variable (m : (ℓ : Loc nD τ sig) → Buf (Elt F) ℓ) (ρ : Dev nD → PrngReg)

/-! ## The barrier -/

/-- The barrier semaphore of the tile `(c, j)`. -/
abbrev bcell (d : Dev nD) (c : Fin τ.nSC) (j : Fin τ.nSub) : GSem nD τ sig := (V d c j, .reg sc_bar0)

theorem bar_ne_go : (sc_bar0 : Sem sig) ≠ sc_go := by decide

/-- A barrier semaphore of a tile. -/
def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The labels a SparseCore's tiles share. -/
def shT (d : Dev nD) (c : Fin τ.nSC) : Buf (Elt F) (shLoc d c) := on1 (d := ![160016]) (tabM (m (lLoc d)))
/-- A tile's share of them. -/
abbrev shQ (j : Fin τ.nSub) : PosShare TreeShare := Transfers.dealOf fullShare (Finset.univ : Finset (Fin τ.nSub)) j

/-- What the tile `n` hands the tile whose barrier it is: a share of the labels it staged. -/
def bPay (g : GSem nD τ sig) (n : ℕ) : sProp (MT nD τ sig (HIx 1) (Elt F) ℕ UU ℕ) :=
  match g with
  | ((d, .scVector c j), _) => iprop(shLoc d c ↦[seg n]{shQ j} shT m d c)
  | _ => iprop(emp)

/-- One round on each barrier semaphore, to which each tile of the SparseCore brings a unit. -/
def bRd : Rounds.Schedule (GSem nD τ sig) ℕ (MT nD τ sig (HIx 1) (Elt F) ℕ UU ℕ) where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ (MT nD τ sig (HIx 1) (Elt F) ℕ UU ℕ)) ((bRd (F := F) m).payload g r n) := by
  show BI.Storable upEmb (bPay m g n)
  unfold bPay
  rcases g with ⟨⟨d, _ | c | ⟨c, j⟩⟩, sm⟩ <;> dsimp only <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_duties_succ (g : GSem nD τ sig) (r : ℕ) (hr : 1 ≤ r) : (bRd (F := F) m).duties g r = ∅ :=
  if_neg fun h => absurd h.2 (Nat.ne_of_gt hr)
theorem bRd_mem₀ (d : Dev nD) (c : Fin τ.nSC) (j k : Fin τ.nSub) : k.val ∈ (bRd (F := F) m).duties (bcell d c j) 0 := by
  rw [bRd_duties₀]; exact Finset.mem_image_of_mem _ (Finset.mem_univ k)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on the barrier semaphore of each tile of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals a tile for the barrier. -/
def bkit (d : Dev nD) (c : Fin τ.nSC) (j : Fin τ.nSub) : sProp (MT nD τ sig (HIx 1) (Elt F) ℕ UU ℕ) :=
  iprop((∃ κ : GSem nD τ sig → ℕ, bigSep Finset.univ fun k : Fin (grid0.bound 1) =>
      cellInv EB (bRd (F := F) m) (κ (bcell d c (k.castLE hsub0))) (bcell d c (k.castLE hsub0)))
    ∗ (bigSep Finset.univ fun k : Fin (grid0.bound 1) => dutyTok EB (bcell d c (k.castLE hsub0)) 0 j.val)
    ∗ (bigSep Finset.univ fun k : Fin (grid0.bound 1) => reached EB (bcell d c (k.castLE hsub0)) 0)
    ∗ atPos EB (bcell d c j) 0 ∅ 0
    ∗ cred (tallyAt (bcell d c j) (some 0) (grid0.bound 1)))

/-- A tile's places of the shared labels, dealt to the tiles. -/
theorem pays_intro (d : Dev nD) (c : Fin τ.nSC) (j : Fin τ.nSub) : (shLoc d c ↦[seg j.val]{fullShare} shT m d c)
    ⊢ (bigSep Finset.univ fun k : Fin (grid0.bound 1) => (bRd (F := F) m).payload (bcell d c (k.castLE hsub0)) 0 j.val : sProp (MT nD τ sig (HIx 1) (Elt F) ℕ UU ℕ)) := by
  rw [Transfers.pointsTo_deal (Finset.univ : Finset (Fin τ.nSub)) ⟨0, Finset.mem_univ _⟩ fullShare]
  exact BI.Entails.refl _

theorem seg_cover : (Finset.univ : Finset (Fin τ.nSub)).biUnion (fun j => seg j.val) = Finset.univ := by
  ext x
  rw [Finset.mem_biUnion]
  exact ⟨fun _ => Finset.mem_univ _, fun _ => ⟨⟨owner (x 0).val, owner_lt (x 0).isLt⟩, Finset.mem_univ _, mem_seg.2 rfl⟩⟩
theorem seg_disjoint : ∀ a ∈ (Finset.univ : Finset (Fin τ.nSub)), ∀ b ∈ (Finset.univ : Finset (Fin τ.nSub)), a ≠ b → Disjoint (seg a.val) (seg b.val) :=
  fun a _ b _ h => part_disjoint _ fun e => h (Fin.ext e)

/-- What a tile is handed at the barrier is a share of all the shared labels. -/
theorem pays_elim (d : Dev nD) (c : Fin τ.nSC) (j : Fin τ.nSub) :
    (bigSep ((bRd (F := F) m).duties (bcell d c j) 0 \ ∅) fun n => (bRd (F := F) m).payload (bcell d c j) 0 n)
    ⊢ (shLoc d c ↦{shQ j} shT m d c : sProp (MT nD τ sig (HIx 1) (Elt F) ℕ UU ℕ)) := by
  rw [Finset.sdiff_empty, bRd_duties₀, SparseCore.bigSep_image_of_injOn (Fin.val_injective.injOn)]
  rw [← seg_cover, pointsTo_biUnion _ _ seg_disjoint]
  exact BI.Entails.refl _

/-! ## A tile's own buffers and semaphores -/

/-- A big conjunction over nine, written out. -/
theorem sep_nine (Φ : Fin 9 → sProp (MT nD τ sig (HIx 1) (Elt F) ℕ UU ℕ)) : bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
/-- A big conjunction over sixteen, written out. -/
theorem sep_sixteen (Φ : Fin 16 → sProp (MT nD τ sig (HIx 1) (Elt F) ℕ UU ℕ)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers of a tile. -/
abbrev bufs : Fin 9 → Ref sig .scVector := ![cc0_scratch0, cc0_scratch1, cc0_scratch2, cc0_scratch3, cc0_scratch4, cc0_scratch5, cc0_scratch6, cc0_scratch7, cc0_scratch8]
/-- The semaphores of a tile's copies. -/
abbrev sems : Fin 16 → SemLoc sig := ![SemLoc.dma cc0_scratch10.sem, SemLoc.dma cc0_scratch11.sem, SemLoc.dma cc0_scoped0.sem, SemLoc.dma cc0_scoped1.sem, SemLoc.dma cc0_scoped2.sem, SemLoc.dma cc0_scoped3.sem, SemLoc.dma cc0_scoped4.sem, SemLoc.dma cc0_scoped5.sem, SemLoc.dma cc0_scoped6.sem, SemLoc.dma cc0_scoped7.sem, SemLoc.dma cc0_scoped8.sem, SemLoc.dma cc0_scoped9.sem, SemLoc.dma cc0_scoped10.sem, SemLoc.dma cc0_scoped11.sem, SemLoc.dma cc0_scoped12.sem, SemLoc.dma cc0_scoped13.sem]

theorem bufs_inj (p : Proc τ) (c : Fin τ.nSC) (j : Fin τ.nSub) : Set.InjOn (fun k => (Proc.scVector c j).devRef (bufs k)) (Finset.univ : Finset (Fin 9)) := by
  have h : ∀ k : Fin 9, ((Proc.scVector c j).devRef (bufs k)).idx.val = k.val := by
    intro k; fin_cases k <;> rfl
  intro a _ b _ e
  have e' : (Proc.scVector c j).devRef (bufs a) = (Proc.scVector c j).devRef (bufs b) := e
  exact Fin.ext ((h a).symm.trans ((congrArg (fun r : DevRef τ sig => r.idx.val) e').trans (h b)))
theorem sems_inj : Function.Injective sems := by decide

/-- What is left of a tile's buffers. -/
def bufsRest (d : Dev nD) (i : grid0.Coords) : sProp (MT nD τ sig (HIx 1) (Elt F) ℕ UU ℕ) :=
  bigSep (ownRefs (τ := τ) (sig := sig) (tile i) \ (Finset.univ : Finset (Fin 9)).image fun k => (tile i).devRef (bufs k)) fun b => iprop(∃ f, ((d, b) : Loc nD τ sig) ↦{fullShare} f)
/-- What is left of a tile's semaphores. -/
def semsRest (d : Dev nD) (i : grid0.Coords) : sProp (MT nD τ sig (HIx 1) (Elt F) ℕ UU ℕ) :=
  bigSep (ownCells (sig := sig) (thr d i) \ (Finset.univ : Finset (Fin 16)).image fun k => (thr d i, sems k)) fun g => semVal g 0

theorem ownBufs_V (d : Dev nD) (i : grid0.Coords) :
    (ownBufs (thr d i) : sProp (MT nD τ sig (HIx 1) (Elt F) ℕ UU ℕ)) = iprop(((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f)) ∗ bufsRest d i) := by
  unfold SparseCore.Cfg.ownBufs bufsRest
  rw [SparseCore.bigSep_sdiff_split' (s := ownRefs (thr d i).2) (t := (Finset.univ : Finset (Fin 9)).image fun k => (tile i).devRef (bufs k)) (by
    intro b hb
    obtain ⟨k, -, rfl⟩ := Finset.mem_image.1 hb
    rw [mem_ownRefs]
    fin_cases k <;> rfl), SparseCore.bigSep_image_of_injOn (bufs_inj (tile i) _ _), sep_nine]
  rfl
theorem ownSems0_V (d : Dev nD) (i : grid0.Coords) :
    (ownSems0 (thr d i) : sProp (MT nD τ sig (HIx 1) (Elt F) ℕ UU ℕ)) = iprop((idle d i cc0_scratch10 ∗ idle d i cc0_scratch11 ∗ idle d i cc0_scoped0 ∗ idle d i cc0_scoped1 ∗ idle d i cc0_scoped2 ∗ idle d i cc0_scoped3 ∗ idle d i cc0_scoped4 ∗ idle d i cc0_scoped5 ∗ idle d i cc0_scoped6 ∗ idle d i cc0_scoped7 ∗ idle d i cc0_scoped8 ∗ idle d i cc0_scoped9 ∗ idle d i cc0_scoped10 ∗ idle d i cc0_scoped11 ∗ idle d i cc0_scoped12 ∗ idle d i cc0_scoped13) ∗ semsRest d i) := by
  unfold SparseCore.Cfg.ownSems0 semsRest
  rw [SparseCore.bigSep_sdiff_split' (s := ownCells (thr d i)) (t := (Finset.univ : Finset (Fin 16)).image fun k => (thr d i, sems k)) (by
    intro g hg
    obtain ⟨k, -, rfl⟩ := Finset.mem_image.1 hg
    rw [mem_ownCells]
    refine ⟨rfl, ?_⟩
    have h : ∀ k : Fin 16, (sems k).isScoped .scVector = true := by decide
    exact h k), SparseCore.bigSep_image_of_injOn (fun a _ b _ e => sems_inj (Prod.mk.inj e).2), sep_sixteen]
  rfl

end Cert.KernelIdeal.Tile

end
-- ==== Proof.Task.lean ====
module

public import proofs.«01_k».proof.Proof.Barrier

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

variable (m : (ℓ : Loc nD τ sig) → Buf (Elt F) ℓ) (ρ : Dev nD → PrngReg)

/-- A SparseCore's share of the arguments, and a tile's. -/
abbrev coreQ (c : Fin τ.nSC) : PosShare TreeShare := Transfers.dealOf fullShare (Finset.univ : Finset (Fin τ.nSC)) c
abbrev tileQ (c : Fin τ.nSC) (j : Fin τ.nSub) : PosShare TreeShare := Transfers.dealOf (coreQ c) (Finset.univ : Finset (Fin τ.nSub)) j

/-- What a tile reads. -/
abbrev argsT (d : Dev nD) (c : Fin τ.nSC) (j : Fin τ.nSub) : sProp (MT nD τ sig (HIx 1) (Elt F) ℕ UU ℕ) :=
  iprop((fLoc d ↦{tileQ c j} m (fLoc d)) ∗ (lLoc d ↦{tileQ c j} m (lLoc d)))
/-- The places a tile writes, at given contents. -/
abbrev outsT (d : Dev nD) (c : Fin τ.nSC) (j : Fin τ.nSub) (s : Buf (Elt F) (sLoc d)) (n : Buf (Elt F) (cLoc d)) (q : Buf (Elt F) (qLoc d)) : sProp (MT nD τ sig (HIx 1) (Elt F) ℕ UU ℕ) :=
  iprop((sLoc d ↦[sumsOf (c.val * 16 + j.val)]{fullShare} s) ∗ (cLoc d ↦[numsOf (c.val * 16 + j.val)]{fullShare} n) ∗ (qLoc d ↦[sqOf (c.val * 16 + j.val)]{fullShare} q))
/-- What a tile is handed. -/
abbrev goT (d : Dev nD) (c : Fin τ.nSC) (j : Fin τ.nSub) : sProp (MT nD τ sig (HIx 1) (Elt F) ℕ UU ℕ) :=
  iprop(argsT m d c j ∗ outsT d c j (m (sLoc d)) (m (cLoc d)) (m (qLoc d)) ∗ ∃ g, shLoc d c ↦[seg j.val]{fullShare} g)
/-- What a tile hands back. -/
abbrev tdT (d : Dev nD) (c : Fin τ.nSC) (j : Fin τ.nSub) : sProp (MT nD τ sig (HIx 1) (Elt F) ℕ UU ℕ) :=
  iprop((argsT m d c j ∗ outsT d c j (outSums (m (fLoc d)) (m (lLoc d))) (outNums (m (fLoc d)) (m (lLoc d))) (outSq (m (fLoc d)) (m (lLoc d))) ∗ (shLoc d c ↦{shQ j} shT m d c))
    ∗ semVal (bcell d c j) 0)

abbrev cV (i : grid0.Coords) : Fin τ.nSC := (i 0).castLE hcore0
abbrev jV (i : grid0.Coords) : Fin τ.nSub := (i 1).castLE hsub0

/-- A tile's places of the shared labels, held. -/
theorem shared_of (i : grid0.Coords) (g : Buf (Elt F) (shLoc d (cV i))) :
    (shLoc d (cV i) ↦[seg (jV i).val]{fullShare} g : sProp (MT nD τ sig (HIx 1) (Elt F) ℕ UU ℕ)) ⊢ ∃ G : S160016.Idx → BitVec 32, holdsOn (F := F) d i (Memref.whole cc0_scratch9) (seg (i 1).val) fullShare G := by
  have e : (Memref.whole cc0_scratch9).view.setOn (seg (i 1).val) = seg (jV i).val := by
    show Finset.map _ _ = _
    exact Finset.map_refl
  unfold holdsOn
  rw [e]
  iintro H
  iexists g
  iexists g
  isplitr
  · ipureintro; exact fun _ _ => rfl
  iexact H
theorem of_shared (i : grid0.Coords) (G : Buf (Elt F) (shLoc d (cV i))) :
    holdsOn (F := F) d i (Memref.whole cc0_scratch9) (seg (i 1).val) fullShare G ⊢ (shLoc d (cV i) ↦[seg (jV i).val]{fullShare} G : sProp (MT nD τ sig (HIx 1) (Elt F) ℕ UU ℕ)) := by
  have e : (Memref.whole cc0_scratch9).view.setOn (seg (i 1).val) = seg (jV i).val := by
    show Finset.map _ _ = _
    exact Finset.map_refl
  unfold holdsOn
  rw [e]
  iintro ⟨%f, %hf, H⟩
  iapply (Entails.of_eq (pointsTo_congr (show ∀ y ∈ seg (jV i).val, f y = G y from hf)))
  iexact H

/-- A tile's buffer, held, at whatever it holds. -/
theorem some_holds {r : Ref sig .scVector} : (iprop(∃ f, (thr d i).loc r ↦{fullShare} f) : sProp (MT nD τ sig (HIx 1) (Elt F) ℕ UU ℕ)) ⊢ ∃ A : r.ty.shape.Idx → Elt F r.ty.elt, holds d i (Memref.whole r) fullShare A := by
  iintro ⟨%f, H⟩
  iexists f
  iapply holds_of
  iexact H
theorem some_of_holds {r : Ref sig .scVector} : (iprop(∃ A : r.ty.shape.Idx → Elt F r.ty.elt, holds d i (Memref.whole r) fullShare A) : sProp (MT nD τ sig (HIx 1) (Elt F) ℕ UU ℕ)) ⊢ ∃ f, (thr d i).loc r ↦{fullShare} f := by
  iintro ⟨%f, H⟩
  iexists f
  iapply of_holds
  iexact H
theorem some_of_tables {st : St F} : (tables d i (Memref.whole cc0_scratch3) (Memref.whole cc0_scratch4) st : sProp (MT nD τ sig (HIx 1) (Elt F) ℕ UU ℕ))
    ⊢ iprop((∃ f, (thr d i).loc cc0_scratch3 ↦{fullShare} f) ∗ (∃ f, (thr d i).loc cc0_scratch4 ↦{fullShare} f)) := by
  unfold tables
  iintro ⟨H3, H4⟩
  isplitl [H3]
  · iexists _; iapply of_holds; iexact H3
  · iexists _; iapply of_holds; iexact H4

/-- The places a tile writes, held. -/
theorem outs_of (i : grid0.Coords) (s : Buf (Elt F) (sLoc d)) (n : Buf (Elt F) (cLoc d)) (q : Buf (Elt F) (qLoc d)) : outsT d (cV i) (jV i) s n q
    ⊢ (iprop((∃ A, holds d i (sumsOut i (Memref.whole main_v0_0_scv)) fullShare A) ∗ (∃ B, holds d i (numsOut i (Memref.whole main_v0_1_scv)) fullShare B) ∗ ∃ C, holds d i (sqOut i (Memref.whole main_v0_2_scv)) fullShare C) : sProp (MT nD τ sig (HIx 1) (Elt F) ℕ UU ℕ)) :=
  BI.Laws.sep_mono (part_of (d := d) (i := i) (sumsOut i (Memref.whole main_v0_0_scv)) (set_sums i) s)
    (BI.Laws.sep_mono (part_of (d := d) (i := i) (numsOut i (Memref.whole main_v0_1_scv)) (set_nums i) n) (part_of (d := d) (i := i) (sqOut i (Memref.whole main_v0_2_scv)) (set_sq i) q))
/-- The places a tile has written, at the contents of the whole results. -/
theorem of_outs (i : grid0.Coords) (f : S160000x256.Idx → F .f32) (l : S160000.Idx → BitVec 32) :
    (written d i (Memref.whole main_v0_0_scv) (Memref.whole main_v0_1_scv) (Memref.whole main_v0_2_scv) (tileM (featM f) (tabM l) (cls i)) : sProp (MT nD τ sig (HIx 1) (Elt F) ℕ UU ℕ))
    ⊢ outsT d (cV i) (jV i) (outSums f l) (outNums f l) (outSq f l) :=
  BI.Laws.sep_mono (of_part (d := d) (i := i) (sumsOut i (Memref.whole main_v0_0_scv)) (set_sums i) _ (outSums f l) (sums_read f l i))
    (BI.Laws.sep_mono (of_part (d := d) (i := i) (numsOut i (Memref.whole main_v0_1_scv)) (set_nums i) _ (outNums f l) (nums_read f l i))
      (of_part (d := d) (i := i) (sqOut i (Memref.whole main_v0_2_scv)) (set_sq i) _ (outSq f l) (sq_read f l i)))

set_option maxHeartbeats 4000000 in
/-- The task of a tile. -/
theorem tile_body (hF : (K (F := F)).Facts) (d : Dev nD) (i : grid0.Coords) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV i) (jV i) ∗ goT m d (cV i) (jV i)
        ∗ scopedBufs (V d (cV i) (jV i)) ∗ scopedSems0 (V d (cV i) (jV i)) ∗ owes (V d (cV i) (jV i)) (O + oxV d (cV i)) W)
      ⊢ WP d i (cc0_seg i (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(tdT m d (cV i) (jV i) ∗ scopedBufs (V d (cV i) (jV i)) ∗ scopedSems0 (V d (cV i) (jV i))
            ∗ ∃ W', ⌜∀ p ∈ W', p ∈ W ∨ p.2 = none ∨ p.2 = some (0 : Fin 1)⌝ ∗ owes (V d (cV i) (jV i)) O W') := by
  rw [seg_eq, (K (F := F)).scopedBufs_V hF d (cV i) (jV i), SparseCore.Cfg.scopedSems0_V (Val := Elt F) d (cV i) (jV i), show V d (cV i) (jV i) = thr d i from rfl, ownSems0_V, ownBufs_V]
  unfold bkit
  iintro ⟨#Hlv, ⟨⟨%κ, #Hinv⟩, Htoks, #Hrch, Hat, Hcred⟩, ⟨⟨Hf, Hl⟩, Ho, %g, Hsh⟩, ⟨⟨HB0, HB1, HB2, HB3, HB4, HB5, HB6, HB7, HB8⟩, Hbufs⟩, ⟨⟨HX, HY, HR0, HR1, HR2, HR3, HR4, HR5, HR6, HR7, HR8, HR9, HR10, HR11, HR12, HR13⟩, Hsems⟩, HO⟩
  have hO' : ∀ g, (O + oxV d (cV i)) g none = 0 := fun g => by rw [Pi.add_apply, Finsupp.add_apply, hO g, oxV_none]
  ihave Hmw1 := (show levAts (K (F := F)).L (K (F := F)).lev ⊢ MayWaits (thr d i) (none : HIx 1) (O + oxV d (cV i)) from
    (K (F := F)).mayWaits_none (thr := thr d i) hO') $$ Hlv
  ihave Hmw2 := (show levAts (K (F := F)).L (K (F := F)).lev ⊢ MayWaits (thr d i) (none : HIx 1) O from
    (K (F := F)).mayWaits_none (thr := thr d i) hO) $$ Hlv
  ihave Hl := (holds_of (d := d) (i := i) (r := main_arg1_scv) (m (lLoc d))) $$ Hl
  ihave Hsh := (shared_of i g) $$ Hsh
  ihave HB8 := some_holds $$ HB8
  ihave HB6 := some_holds $$ HB6
  ihave HB3 := some_holds $$ HB3
  ihave HB4 := some_holds $$ HB4
  iapply (wp_head (L := labM (m (lLoc d))) (O := O + oxV d (cV i)) (W := W) (q := tileQ (cV i) (jV i))) $$ [Hl HB8 Hsh HB6 HB3 HB4 HR0 HR1 HR2 Hmw1 HO]
  · isplitl [Hl]; · iapply (Entails.of_eq (congrArg (holds (F := F) d i (Memref.whole main_arg1_scv) (tileQ (cV i) (jV i))) (labM_eq (m (lLoc d))).symm)); iexact Hl
    isplitl [HB8]; · iexact HB8
    isplitl [Hsh]; · iexact Hsh
    isplitl [HB6]; · iexact HB6
    isplitl [HB3]; · iexact HB3
    isplitl [HB4]; · iexact HB4
    isplitl [HR0]; · iexact HR0
    isplitl [HR1]; · iexact HR1
    isplitl [HR2]; · iexact HR2
    unfold debt
    isplitl [Hmw1]; · iexact Hmw1
    iexists W; isplitr
    · ipureintro; exact fun p hp => .inl hp
    iexact HO
  iintro ⟨Hl, HB8, Hsh, HB6, Htab, HR0, HR1, HR2, HO⟩
  unfold debt
  icases HO with ⟨-, %W1, %hW1, HO⟩
  ihave Hsh := (show holdsOn (F := F) d i (Memref.whole cc0_scratch9) (seg (i 1).val) fullShare (on1 (d := ![160016]) (tabT (labM (m (lLoc d))))) ⊢ _ from of_shared i (shT m d (cV i))) $$ Hsh
  ihave Hpays := (pays_intro (F := F) m d (cV i) (jV i)) $$ Hsh
  iapply (SparseCore.wp_subcoreBarrier 𝒱₀ none EB (bRd (F := F) m) d (sc := cV i) (i := jV i) sc_bar0 (grid0.bound 1) hsub0 (i 1) rfl κ (fun _ => 0) (jV i).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV i) (jV i)) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  imod (Rounds.cell_close EB (bRd (F := F) m) (g := bcell d (cV i) (jV i)) (Set.mem_univ (κ _)) (fun h => h) (bRd_duties_succ m _)) $$ [Hat] with Hbar
  · isplitr
    · iapply (SparseCore.ent (bigSep_elim (Φ := fun j : Fin (grid0.bound 1) =>
        (cellInv EB (bRd (F := F) m) (κ (bcell d (cV i) (j.castLE hsub0))) (bcell d (cV i) (j.castLE hsub0)) : sProp (MT nD τ sig (HIx 1) (Elt F) ℕ UU ℕ))) (Finset.mem_univ (i 1)))); iexact Hinv
    · iexact Hat
  ihave Hsh := (pays_elim (F := F) m d (cV i) (jV i)) $$ Hgot
  ihave Hsh := (show (shLoc d (cV i) ↦{shQ (jV i)} shT m d (cV i) : sProp (MT nD τ sig (HIx 1) (Elt F) ℕ UU ℕ)) ⊢ holds (F := F) d i (Memref.whole cc0_scratch9) (shQ (jV i)) (on1 (d := ![160016]) (tabM (m (lLoc d)))) from
    holds_of (d := d) (i := i) (r := cc0_scratch9) (shT m d (cV i))) $$ Hsh
  ihave Hf := (pointsTo_share (PosShare.mem_left_op_right (tileQ (cV i) (jV i)))).1 $$ Hf
  icases Hf with ⟨Hfa, Hfb⟩
  ihave Hfa := (holds_of (d := d) (i := i) (r := main_arg0_scv) (m (fLoc d))) $$ Hfa
  ihave Hfb := (holds_of (d := d) (i := i) (r := main_arg0_scv) (m (fLoc d))) $$ Hfb
  ihave Hfa := (Entails.of_eq (congrArg (holds (F := F) d i (Memref.whole main_arg0_scv) (tileQ (cV i) (jV i)).left) (featM_eq (m (fLoc d))).symm)) $$ Hfa
  ihave Hfb := (Entails.of_eq (congrArg (holds (F := F) d i (Memref.whole main_arg0_scv) (tileQ (cV i) (jV i)).right) (featM_eq (m (fLoc d))).symm)) $$ Hfb
  ihave HB0 := some_holds $$ HB0
  ihave HB1 := some_holds $$ HB1
  ihave HB2 := some_holds $$ HB2
  ihave HB5 := some_holds $$ HB5
  ihave HB7 := some_holds $$ HB7
  ihave Ho := (outs_of (d := d) i (m (sLoc d)) (m (cLoc d)) (m (qLoc d))) $$ Ho
  icases Ho with ⟨Hs, Hc, Hq⟩
  icases Hs with ⟨%A, Hs⟩
  icases Hc with ⟨%B, Hc⟩
  icases Hq with ⟨%C, Hq⟩
  iapply (wp_work (q := shQ (jV i)) (qa := (tileQ (cV i) (jV i)).left) (qb := (tileQ (cV i) (jV i)).right) (X := featM (m (fLoc d))) (T := tabM (m (lLoc d)))
    (O := O) (W := insert (SemLoc.reg sc_bar0, some 0) W1) (fun n hn => tabM_big _ n hn)) $$ [HB0 Hfa HX HB1 Hfb HY HB2 Hsh HR7 HR8 Hmw2 HO HB5 HB7 HR3 HR4 HR5 HR6 HR11 HR12 HR13 Htab Hs Hc Hq]
  · unfold kit still gear debt
    isplitr [Htab Hs Hc Hq]
    · isplitl [HB0 Hfa HX]
      · isplitl [HB0]; · iexact HB0
        isplitl [Hfa] <;> iassumption
      isplitl [HB1 Hfb HY]
      · isplitl [HB1]; · iexact HB1
        isplitl [Hfb] <;> iassumption
      isplitl [HB2 Hsh HR7 HR8 Hmw2 HO]
      · isplitl [HB2]; · iexact HB2
        isplitl [Hsh]; · iexact Hsh
        isplitl [HR7]; · iexact HR7
        isplitl [HR8]; · iexact HR8
        isplitl [Hmw2]; · iexact Hmw2
        iexists _; isplitr
        swap; · iexact HO
        ipureintro; exact fun p hp => .inl hp
      isplitl [HB5]; · iexact HB5
      isplitl [HB7]; · iexact HB7
      isplitl [HR3]; · iexact HR3
      isplitl [HR4]; · iexact HR4
      isplitl [HR5]; · iexact HR5
      isplitl [HR6]; · iexact HR6
      isplitl [HR11]; · iexact HR11
      isplitl [HR12] <;> iassumption
    isplitl [Htab]; · iexact Htab
    isplitl [Hs]; · iexact Hs
    isplitl [Hc] <;> iassumption
  unfold kit still gear debt
  iintro ⟨⟨⟨HB0, Hfa, HX⟩, ⟨HB1, Hfb, HY⟩, ⟨HB2, Hsh, HR7, HR8, -, %W2, %hW2, HO⟩, HB5, HB7, HR3, HR4, HR5, HR6, HR11, HR12, HR13⟩, Htab, Ho⟩
  ihave Htab := some_of_tables $$ Htab
  icases Htab with ⟨HB3, HB4⟩
  ihave Ho := (of_outs (d := d) i (m (fLoc d)) (m (lLoc d))) $$ Ho
  ihave Hl := (Entails.of_eq (congrArg (holds (F := F) d i (Memref.whole main_arg1_scv) (tileQ (cV i) (jV i))) (labM_eq (m (lLoc d))))) $$ Hl
  ihave Hfa := (Entails.of_eq (congrArg (holds (F := F) d i (Memref.whole main_arg0_scv) (tileQ (cV i) (jV i)).left) (featM_eq (m (fLoc d))))) $$ Hfa
  ihave Hfb := (Entails.of_eq (congrArg (holds (F := F) d i (Memref.whole main_arg0_scv) (tileQ (cV i) (jV i)).right) (featM_eq (m (fLoc d))))) $$ Hfb
  ihave Hl := (of_holds (d := d) (i := i) (r := main_arg1_scv) (m (lLoc d))) $$ Hl
  ihave Hfa := (of_holds (d := d) (i := i) (r := main_arg0_scv) (m (fLoc d))) $$ Hfa
  ihave Hfb := (of_holds (d := d) (i := i) (r := main_arg0_scv) (m (fLoc d))) $$ Hfb
  ihave Hsh := (show holds (F := F) d i (Memref.whole cc0_scratch9) (shQ (jV i)) (on1 (d := ![160016]) (tabM (m (lLoc d)))) ⊢ (shLoc d (cV i) ↦{shQ (jV i)} shT m d (cV i) : sProp (MT nD τ sig (HIx 1) (Elt F) ℕ UU ℕ)) from
    of_holds (d := d) (i := i) (r := cc0_scratch9) (shT m d (cV i))) $$ Hsh
  ihave HB0 := (show (iprop(∃ B : S192x256.Idx → F .f32, holds (F := F) d i (Memref.whole cc0_scratch0) fullShare B) : sProp (MT nD τ sig (HIx 1) (Elt F) ℕ UU ℕ)) ⊢ ∃ f, (thr d i).loc cc0_scratch0 ↦{fullShare} f from some_of_holds (F := F) (d := d) (i := i) (r := cc0_scratch0)) $$ HB0
  ihave HB1 := (show (iprop(∃ B : S192x256.Idx → F .f32, holds (F := F) d i (Memref.whole cc0_scratch1) fullShare B) : sProp (MT nD τ sig (HIx 1) (Elt F) ℕ UU ℕ)) ⊢ ∃ f, (thr d i).loc cc0_scratch1 ↦{fullShare} f from some_of_holds (F := F) (d := d) (i := i) (r := cc0_scratch1)) $$ HB1
  ihave HB2 := (show (iprop(∃ B : S192.Idx → BitVec 32, holds (F := F) d i (Memref.whole cc0_scratch2) fullShare B) : sProp (MT nD τ sig (HIx 1) (Elt F) ℕ UU ℕ)) ⊢ ∃ f, (thr d i).loc cc0_scratch2 ↦{fullShare} f from some_of_holds (F := F) (d := d) (i := i) (r := cc0_scratch2)) $$ HB2
  ihave HB5 := (show (iprop(∃ B : S16.Idx → BitVec 32, holds (F := F) d i (Memref.whole cc0_scratch5) fullShare B) : sProp (MT nD τ sig (HIx 1) (Elt F) ℕ UU ℕ)) ⊢ ∃ f, (thr d i).loc cc0_scratch5 ↦{fullShare} f from some_of_holds (F := F) (d := d) (i := i) (r := cc0_scratch5)) $$ HB5
  ihave HB6 := (show (iprop(∃ B : S16.Idx → BitVec 32, holds (F := F) d i (Memref.whole cc0_scratch6) fullShare B) : sProp (MT nD τ sig (HIx 1) (Elt F) ℕ UU ℕ)) ⊢ ∃ f, (thr d i).loc cc0_scratch6 ↦{fullShare} f from some_of_holds (F := F) (d := d) (i := i) (r := cc0_scratch6)) $$ HB6
  ihave HB7 := (show (iprop(∃ B : S16.Idx → F .f32, holds (F := F) d i (Memref.whole cc0_scratch7) fullShare B) : sProp (MT nD τ sig (HIx 1) (Elt F) ℕ UU ℕ)) ⊢ ∃ f, (thr d i).loc cc0_scratch7 ↦{fullShare} f from some_of_holds (F := F) (d := d) (i := i) (r := cc0_scratch7)) $$ HB7
  ihave HB8 := (show (iprop(∃ B : S2000.Idx → BitVec 32, holds (F := F) d i (Memref.whole cc0_scratch8) fullShare B) : sProp (MT nD τ sig (HIx 1) (Elt F) ℕ UU ℕ)) ⊢ ∃ f, (thr d i).loc cc0_scratch8 ↦{fullShare} f from some_of_holds (F := F) (d := d) (i := i) (r := cc0_scratch8)) $$ HB8
  isplitl [Hfa Hfb Hl Ho Hsh Hbar]
  · isplitr [Hbar]; swap; · iexact Hbar
    isplitl [Hfa Hfb Hl]
    · isplitr [Hl]; swap; · iexact Hl
      iapply (pointsTo_share (PosShare.mem_left_op_right (tileQ (cV i) (jV i)))).2
      isplitl [Hfa] <;> iassumption
    isplitl [Ho] <;> iassumption
  isplitl [HB0 HB1 HB2 HB3 HB4 HB5 HB6 HB7 HB8 Hbufs]
  · isplitr [Hbufs]; swap; · iexact Hbufs
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    iexact HB8
  isplitl [HX HY HR0 HR1 HR2 HR3 HR4 HR5 HR6 HR7 HR8 HR9 HR10 HR11 HR12 HR13 Hsems]
  · isplitr [Hsems]; swap; · iexact Hsems
    isplitl [HX]; · iexact HX
    isplitl [HY]; · iexact HY
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    iexact HR13
  iexists W2; isplitr
  swap; · iexact HO
  ipureintro; intro p hp
  rcases hW2 p hp with hp | hp
  · rcases Finset.mem_insert.mp hp with hp | hp
    · exact .inr (.inr (hp ▸ rfl))
    rcases hW1 p hp with hp | hp
    · exact .inl hp
    · exact .inr (.inl hp)
  · exact .inr (.inl hp)

end Cert.KernelIdeal.Tile

end
-- ==== Proof.Launch.lean ====
module

public import proofs.«01_k».proof.Proof.Task

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

variable (m : (ℓ : Loc nD τ sig) → Buf (Elt F) ℓ) (ρ : Dev nD → PrngReg)

/-! ## What the handshakes carry -/

/-- What a SparseCore reads. -/
abbrev argsC (d : Dev nD) (c : Fin τ.nSC) : sProp (MT nD τ sig (HIx 1) (Elt F) ℕ UU ℕ) :=
  iprop((fLoc d ↦{coreQ c} m (fLoc d)) ∗ (lLoc d ↦{coreQ c} m (lLoc d)))
/-- The places a SparseCore writes, at given contents. -/
abbrev outsC (d : Dev nD) (c : Fin τ.nSC) (s : Buf (Elt F) (sLoc d)) (n : Buf (Elt F) (cLoc d)) (q : Buf (Elt F) (qLoc d)) : sProp (MT nD τ sig (HIx 1) (Elt F) ℕ UU ℕ) :=
  iprop((sLoc d ↦[sumsAll c.val]{fullShare} s) ∗ (cLoc d ↦[numsAll c.val]{fullShare} n) ∗ (qLoc d ↦[sqAll c.val]{fullShare} q))
/-- The barrier semaphores of a SparseCore's tiles, at zero. -/
abbrev bars (d : Dev nD) (c : Fin τ.nSC) : sProp (MT nD τ sig (HIx 1) (Elt F) ℕ UU ℕ) := bigSep Finset.univ fun j : Fin τ.nSub => semVal (bcell d c j) 0
/-- What a SparseCore brings back. -/
abbrev dnC (d : Dev nD) (c : Fin τ.nSC) : sProp (MT nD τ sig (HIx 1) (Elt F) ℕ UU ℕ) :=
  iprop((argsC m d c ∗ outsC d c (outSums (m (fLoc d)) (m (lLoc d))) (outNums (m (fLoc d)) (m (lLoc d))) (outSq (m (fLoc d)) (m (lLoc d)))) ∗ bars d c)

set_option backward.proofsInPublic true in
/-- The call takes a share of the arguments and its places of the results to each SparseCore, and brings them back at what the tiles computed. -/
def P : (K (F := F)).Pay (nD := nD) (Val := Elt F) (Name := ℕ) (U := UU) where
  st := fun q d c => match q with | 0 => iprop(argsC m d (coreOf c) ∗ outsC d (coreOf c) (m (sLoc d)) (m (cLoc d)) (m (qLoc d)))
  dn := fun q d c => match q with | 0 => dnC m d (coreOf c)
  go := fun q d c j => match q with | 0 => goT m d (coreOf c) (subOf j)
  td := fun q d c j => match q with | 0 => tdT m d (coreOf c) (subOf j)
  x := fun _ thr => match thr with
    | (d, .scVector c j) => bkit m d c j
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, j⟩⟩
    · exact absurd h (lt_irrefl 0)
    · exact absurd h (lt_irrefl 0)
    · obtain ⟨j, rfl, rfl⟩ := oxV_pos h
      rw [(K (F := F)).lev_V_reg d c (j.castLE hsub0) (show (sc_bar0 : Sem sig) ≠ (K (F := F)).go from bar_ne_go)]; exact ⟨le_rfl, by decide⟩
  ox_tc := fun _ _ => rfl
  ox_sc := fun _ _ _ h => absurd rfl h
  ox_vc := by
    intro q d c j _
    obtain rfl : q = 0 := Subsingleton.elim _ _
    exact ⟨rfl, c.isLt, j.isLt⟩

instance P_storable : (P (F := F) m).IsStorable where
  st q d c := match q with
    | 0 => (inferInstance : BI.Storable (upEmb : UEmb _ (MT nD τ sig (HIx 1) (Elt F) ℕ UU ℕ)) iprop(argsC m d (coreOf c) ∗ outsC d (coreOf c) (m (sLoc d)) (m (cLoc d)) (m (qLoc d))))
  dn q d c := match q with
    | 0 => (inferInstance : BI.Storable (upEmb : UEmb _ (MT nD τ sig (HIx 1) (Elt F) ℕ UU ℕ)) (dnC m d (coreOf c)))
  go q d c j := match q with
    | 0 => (inferInstance : BI.Storable (upEmb : UEmb _ (MT nD τ sig (HIx 1) (Elt F) ℕ UU ℕ)) (goT m d (coreOf c) (subOf j)))
  td q d c j := match q with
    | 0 => (inferInstance : BI.Storable (upEmb : UEmb _ (MT nD τ sig (HIx 1) (Elt F) ℕ UU ℕ)) (tdT m d (coreOf c) (subOf j)))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_seg (coordsV c s) (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

set_option maxRecDepth 16384 in
theorem tileObl (hF : (K (F := F)).Facts) : (K (F := F)).TileObl (DD (F := F)) 𝒱 (P m) v₀ 0 := by
  intro d c j O W hO hOlev _
  have hci : ((K (F := F)).core 0 c).val < grid0.bound 0 ∧ ((K (F := F)).sub 0 j).val < grid0.bound 1 := ⟨c.isLt, j.isLt⟩
  change _ ⊢ wp _ _ _ (Pipeline.liftProg (defs₀ (F := F) (.scVector ((K (F := F)).core 0 c) ((K (F := F)).sub 0 j)) 0 ())) _
  refine BI.Entails.trans ?_ (Pipeline.wp_liftProg (DD (F := F)) (Pipeline.defs_kernel pcfgs defs₀) 𝒱₀ _ Set.univ none _ _)
  rw [defs₀_vector]; simp only [SparseCore.onTile, hci, and_self, ↓reduceDIte]
  exact tile_body m hF d (coordsV ⟨_, hci.1⟩ ⟨_, hci.2⟩) O W hO hOlev

/-! ## A SparseCore's part split among its tiles -/

/-- The labels its tiles share are among a sequencer's own buffers. -/
theorem ownBufs_S (d : Dev nD) (c : Fin τ.nSC) :
    (ownBufs (S d c) : sProp (MT nD τ sig (HIx 1) (Elt F) ℕ UU ℕ))
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- What a SparseCore reads is what its tiles read. -/
theorem args_tiles (d : Dev nD) (c : Fin τ.nSC) : argsC m d c = (bigSep Finset.univ fun j : Fin τ.nSub => argsT m d c j : sProp (MT nD τ sig (HIx 1) (Elt F) ℕ UU ℕ)) := by
  rw [bigSep_sep']
  unfold argsC
  rw [Transfers.pointsTo_deal (Finset.univ : Finset (Fin τ.nSub)) ⟨0, Finset.mem_univ _⟩ (coreQ c) (ℓ := fLoc d),
    Transfers.pointsTo_deal (Finset.univ : Finset (Fin τ.nSub)) ⟨0, Finset.mem_univ _⟩ (coreQ c) (ℓ := lLoc d)]
/-- What a SparseCore writes is what its tiles write. -/
theorem outs_tiles (d : Dev nD) (c : Fin τ.nSC) (s : Buf (Elt F) (sLoc d)) (n : Buf (Elt F) (cLoc d)) (q : Buf (Elt F) (qLoc d)) :
    outsC d c s n q = (bigSep Finset.univ fun j : Fin τ.nSub => outsT d c j s n q : sProp (MT nD τ sig (HIx 1) (Elt F) ℕ UU ℕ)) := by
  rw [bigSep_sep', bigSep_sep']
  have h1 := part_tiles (F := F) (ℓ := sLoc d) (q := fullShare) (f := s) (fun x : S1024x256.Idx => (x 0).val / 32) c.val
  have h2 := part_tiles (F := F) (ℓ := cLoc d) (q := fullShare) (f := n) (fun x : S1024x16.Idx => (x 0).val / 32) c.val
  have h3 := part_tiles (F := F) (ℓ := qLoc d) (q := fullShare) (f := q) (fun x : S32x16.Idx => (x 0).val) c.val
  exact congrArg₂ (fun a b : sProp (MT nD τ sig (HIx 1) (Elt F) ℕ UU ℕ) => iprop(a ∗ b)) h1 (congrArg₂ (fun a b : sProp (MT nD τ sig (HIx 1) (Elt F) ℕ UU ℕ) => iprop(a ∗ b)) h2 h3)
/-- The shared labels, by what each tile stages. -/
theorem shared_tiles (d : Dev nD) (c : Fin τ.nSC) (f : Buf (Elt F) (shLoc d c)) :
    (shLoc d c ↦{fullShare} f : sProp (MT nD τ sig (HIx 1) (Elt F) ℕ UU ℕ)) ⊢ bigSep Finset.univ fun j : Fin τ.nSub => iprop(∃ g, shLoc d c ↦[seg j.val]{fullShare} g) := by
  rw [← seg_cover, pointsTo_biUnion _ _ seg_disjoint]
  exact SparseCore.ent (bigSep_mono (Φ := fun j : Fin τ.nSub => (shLoc d c ↦[seg j.val]{fullShare} f : sProp (MT nD τ sig (HIx 1) (Elt F) ℕ UU ℕ)))
    (Ψ := fun j : Fin τ.nSub => iprop(∃ g, shLoc d c ↦[seg j.val]{fullShare} g)) fun j _ =>
      BI.BIClass.exists_intro (Φ := fun g => (shLoc d c ↦[seg j.val]{fullShare} g : sProp (MT nD τ sig (HIx 1) (Elt F) ℕ UU ℕ))) f)

/-- Every tile goes with its arguments and places, and its part of the shared labels. -/
theorem go_tiles (d : Dev nD) (c : Fin τ.nSC) : (bigSep Finset.univ fun j : Fin τ.nSub => goT m d c j : sProp (MT nD τ sig (HIx 1) (Elt F) ℕ UU ℕ))
    = iprop(argsC m d c ∗ outsC d c (m (sLoc d)) (m (cLoc d)) (m (qLoc d)) ∗ bigSep Finset.univ fun j : Fin τ.nSub => iprop(∃ g, shLoc d c ↦[seg j.val]{fullShare} g)) := by
  rw [args_tiles, outs_tiles, ← bigSep_sep', ← bigSep_sep']
/-- Every tile is done with its arguments and places, and its share of the shared labels. -/
theorem td_tiles (d : Dev nD) (c : Fin τ.nSC) : (bigSep Finset.univ fun j : Fin τ.nSub => tdT m d c j : sProp (MT nD τ sig (HIx 1) (Elt F) ℕ UU ℕ))
    = iprop((argsC m d c ∗ outsC d c (outSums (m (fLoc d)) (m (lLoc d))) (outNums (m (fLoc d)) (m (lLoc d))) (outSq (m (fLoc d)) (m (lLoc d)))
        ∗ (shLoc d c ↦{fullShare} shT m d c)) ∗ bars d c) := by
  rw [args_tiles, outs_tiles, Transfers.pointsTo_deal (Finset.univ : Finset (Fin τ.nSub)) ⟨0, Finset.mem_univ _⟩ fullShare (ℓ := shLoc d c), ← bigSep_sep', ← bigSep_sep', ← bigSep_sep']

theorem vecSplit : (K (F := F)).VecSplit (P m) 0 := by
  intro d c
  show iprop(iprop(argsC m d (coreOf c) ∗ outsC d (coreOf c) (m (sLoc d)) (m (cLoc d)) (m (qLoc d))) ∗ ownBufs (S d (coreOf c))) ⊢ |={Set.univ}=> iprop(
      (bigSep Finset.univ fun j : Fin τ.nSub => goT m d (coreOf c) j)
      ∗ ((bigSep Finset.univ fun j : Fin τ.nSub => tdT m d (coreOf c) j) -∗ iprop(dnC m d (coreOf c) ∗ ownBufs (S d (coreOf c)))))
  rw [go_tiles, td_tiles, ownBufs_S]
  iintro ⟨⟨Ha, Ho⟩, ⟨%fsh, Hsh⟩, Hrest⟩; imodintro
  isplitl [Ha Ho Hsh]
  · isplitl [Ha]; · iexact Ha
    isplitl [Ho]; · iexact Ho
    iapply shared_tiles; iexact Hsh
  iintro ⟨⟨Ha, Ho, Hsh⟩, Hbars⟩
  isplitl [Ha Ho Hbars]
  · isplitr [Hbars]; swap; · iexact Hbars
    isplitl [Ha] <;> iassumption
  isplitl [Hsh]; · iexists _; iexact Hsh
  iexact Hrest

/-! ## The launch's own state -/

abbrev DCI : Type := Dev nD × Fin τ.nSC × Fin τ.nSub
abbrev bcell₃ (x : DCI) : GSem nD τ sig := bcell x.1 x.2.1 x.2.2
/-- All the tiles. -/
abbrev tiles : Finset DCI := Finset.univ
/-- Their barrier semaphores. -/
def bCells : Finset (GSem nD τ sig) := tiles.image bcell₃
/-- A token for each pair of tiles of a SparseCore. -/
def bToks : Finset (GSem nD τ sig × ℕ × ℕ) :=
  (tiles ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, (initOf (Pipeline.cells (nD := nD) (τ := τ) cfgs Gen.cellOf_inj) (Pipeline.launchToks (nD := nD) (τ := τ) cfgs Gen.cellOf_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (e : UP) : (ownU ((a, (b, (e, 1))) : UU) : sProp (MT nD τ sig (HIx 1) (Elt F) ℕ UU ℕ)) ⊢ iprop(BI.own (EH a) ∗ BI.own (EB b) ∗ BI.own (EP e)) := by
  let E := (uEmb (nD := nD) (τ := τ) (sig := sig) (Ix := HIx 1) (Val := Elt F) (Name := ℕ) (U := UU) (Lvl := ℕ)).toEmb
  have h1 : (ownU ((a, (b, (e, 1))) : UU) : sProp (MT nD τ sig (HIx 1) (Elt F) ℕ UU ℕ)) ⊢ iprop(BI.own (EH a) ∗ BI.own (E (1, (b, (e, 1))))) :=
    BI.own_op_elim (E.op_of_mem (Prod.mk_mem_op (URA.mem_op_one a) (URA.mem_one_op (b, (e, (1 : Counters))))))
  have h2 : (BI.own (E (1, (b, (e, 1)))) : sProp (MT nD τ sig (HIx 1) (Elt F) ℕ UU ℕ)) ⊢ iprop(BI.own (EB b) ∗ BI.own (EP e)) :=
    BI.own_op_elim (E.op_of_mem (Prod.mk_mem_op (URA.mem_op_one (1 : UH)) (Prod.mk_mem_op (URA.mem_op_one b) (URA.mem_one_op (e, (1 : Counters))))))
  iintro H
  ihave H := h1 $$ H
  icases H with ⟨H1, H2⟩
  ihave H2 := h2 $$ H2
  icases H2 with ⟨H2, H3⟩
  isplitl [H1]
  · iexact H1
  isplitl [H2]
  · iexact H2
  iexact H3

/-- The pipeline's part of the initial state, for one device. -/
abbrev pipeGhost (d : Dev nD) : sProp (MT nD τ sig (HIx 1) (Elt F) ℕ UU ℕ) :=
  iprop((bigSep Finset.univ fun p : Fin 1 => Pipeline.cellsGhost (nD := nD) (τ := τ) cfgs EP p d) ∗ bigSep Finset.univ fun p : Fin 1 => Pipeline.toksInit (nD := nD) (τ := τ) cfgs EP p d)

/-- The barrier semaphores at zero are among the free semaphores. -/
theorem sems_b : ((K (F := F)).freeOn (· ∈ bCells) : sProp (MT nD τ sig (HIx 1) (Elt F) ℕ UU ℕ)) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp (MT nD τ sig (HIx 1) (Elt F) ℕ UU ℕ))) (Finset.mem_filter.mpr
      ⟨Finset.mem_erase.mpr ⟨fun h => bar_ne_go (SemLoc.reg.inj h), Finset.mem_filter.mpr ⟨Finset.mem_univ _, by decide⟩⟩,
        Finset.mem_image_of_mem bcell₃ (Finset.mem_univ _)⟩)

/-- The barrier semaphores' invariants, at once. -/
theorem invs_b : iprop((bigSep bCells fun g => (semVal g 0 : sProp (MT nD τ sig (HIx 1) (Elt F) ℕ UU ℕ))) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

/-- The credit for what the tiles owe, regrouped. -/
theorem creds_b : ((P (F := F) m).oxCred : sProp (MT nD τ sig (HIx 1) (Elt F) ℕ UU ℕ)) ⊢ bigSep tiles fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp (MT nD τ sig (HIx 1) (Elt F) ℕ UU ℕ)))]
  refine sep_elim_right.trans (sep_elim_right.trans ?_)
  rw [bigSep_univ_prod, bigSep_univ_prod (fun dci : DCI => (cred (tallyAt (bcell₃ dci) (some 0) (grid0.bound 1)) : sProp (MT nD τ sig (HIx 1) (Elt F) ℕ UU ℕ)))]
  refine bigSep_mono fun d _ => ?_
  rw [bigSep_univ_prod, bigSep_univ_prod (fun ci : Fin τ.nSC × Fin τ.nSub => (cred (tallyAt (bcell₃ (d, ci)) (some 0) (grid0.bound 1)) : sProp (MT nD τ sig (HIx 1) (Elt F) ℕ UU ℕ)))]
  refine bigSep_mono fun c _ => ?_
  dsimp only
  have hox : ∀ j, (P (F := F) m).oxFrom 0 (V d c j) = oxV d c := fun j => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- What persists goes to each conjunct. -/
theorem bigSep_frame {I : Type} [DecidableEq I] {R : sProp (MT nD τ sig (HIx 1) (Elt F) ℕ UU ℕ)} [BI.Persistent R] {s : Finset I} {Φ Ψ : I → sProp (MT nD τ sig (HIx 1) (Elt F) ℕ UU ℕ)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp (MT nD τ sig (HIx 1) (Elt F) ℕ UU ℕ)))
    = bigSep tiles fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem emps {I : Type} (s : Finset I) : (bigSep s fun _ => iprop(emp)) = (iprop(emp) : sProp (MT nD τ sig (HIx 1) (Elt F) ℕ UU ℕ)) := bigSep_emp_const s

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (j : Fin τ.nSub) :
    (bigSep Finset.univ fun q : Fin 1 => (P (F := F) m).x q (V d c j)) = bkit m d c j :=
  bigSep_univ_of_subsingleton (0 : Fin 1)

theorem bCells_eq (Φ : GSem nD τ sig → sProp (MT nD τ sig (HIx 1) (Elt F) ℕ UU ℕ)) : bigSep bCells Φ = bigSep tiles fun x : DCI => Φ (bcell₃ x) := by
  unfold bCells; exact SparseCore.bigSep_image_of_injOn (fun a _ b _ e => bcell₃_injective e) Φ

/-- What every tile is handed alike. -/
abbrev alike : sProp (MT nD τ sig (HIx 1) (Elt F) ℕ UU ℕ) :=
  iprop((∃ κ : GSem nD τ sig → ℕ, bigSep tiles fun x : DCI => cellInv EB (bRd (F := F) m) (κ (bcell₃ x)) (bcell₃ x))
    ∗ bigSep tiles fun x : DCI => reached EB (bcell₃ x) 0)
/-- What each tile is handed of its own. -/
abbrev mine (dci : DCI) : sProp (MT nD τ sig (HIx 1) (Elt F) ℕ UU ℕ) :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- A tile's kit. -/
theorem kit_intro (dci : DCI) : iprop(alike (F := F) m ∗ mine dci) ⊢ (bkit (F := F) m dci.1 dci.2.1 dci.2.2 : sProp (MT nD τ sig (HIx 1) (Elt F) ℕ UU ℕ)) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_frame (s := (Finset.univ : Finset (Fin (grid0.bound 1)))) (Φ := fun _ => iprop(emp))
      (R := bigSep tiles fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp (MT nD τ sig (HIx 1) (Elt F) ℕ UU ℕ)))
          (Finset.mem_univ ((d, c, Fin.castLE hsub0 j) : DCI)))))
    isplitl; · iexact Hinv
    rw [emps]; iempintro
  isplitl [Htok]; · iexact Htok
  isplitr
  · iapply (SparseCore.ent (bigSep_frame (s := (Finset.univ : Finset (Fin (grid0.bound 1)))) (Φ := fun _ => iprop(emp))
      (R := bigSep tiles fun x : DCI => reached EB (bcell₃ x) 0) fun j _ =>
        sep_elim_left.trans (bigSep_elim (Φ := fun x : DCI => (reached EB (bcell₃ x) 0 : sProp (MT nD τ sig (HIx 1) (Elt F) ℕ UU ℕ))) (Finset.mem_univ ((d, c, Fin.castLE hsub0 j) : DCI)))))
    isplitl; · iexact Hr
    rw [emps]; iempintro
  isplitl [Hat]; · iexact Hat
  iexact Hcred

/-- Each tile its kit. -/
theorem kits_deal :
    iprop(alike (F := F) m ∗ (bigSep tiles fun x : DCI => atPos EB (bcell₃ x) 0 ∅ 0)
        ∗ (bigSep tiles fun dci : DCI => bigSep Finset.univ fun j : Fin (grid0.bound 1) => dutyTok EB (bcell dci.1 dci.2.1 (j.castLE hsub0)) 0 dci.2.2.val)
        ∗ (bigSep tiles fun dci : DCI => cred (tallyAt (bcell₃ dci) (some 0) (grid0.bound 1))))
      ⊢ (bigSep Finset.univ fun thr : Thread nD τ => bigSep Finset.univ fun q : Fin 1 => (P (F := F) m).x q thr : sProp (MT nD τ sig (HIx 1) (Elt F) ℕ UU ℕ)) := by
  rw [SparseCore.Cfg.bigSep_threads (fun thr : Thread nD τ => bigSep Finset.univ fun q : Fin 1 => (P m).x q thr)]
  simp only [Px_T, Px_S, Px_V, emps]
  iintro ⟨#Hsh, Hat, Htok, Hcred⟩
  isplitr; · iempintro
  isplitr; · iempintro
  iapply (bigSep_frame (R := alike (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun d : Dev nD => pipeGhost (F := F) d)
        ∗ (bigSep Finset.univ fun thr : Thread nD τ => bigSep Finset.univ fun q : Fin 1 => (P m).x q thr) : sProp (MT nD τ sig (HIx 1) (Elt F) ℕ UU ℕ)) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod (Pipeline.fund_ghost (nD := nD) (τ := τ) cfgs EP Gen.cellOf_inj) $$ HP with ⟨Hcg, Htg⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Htg]
  · unfold pipeGhost; rw [bigSep_sep']
    isplitl [Hcg] <;> iassumption
  iapply (kits_deal m)
  isplitr
  · isplitl; · iexists κ; iexact Hinv'
    iexact Hr'
  isplitl [Hat']; · iexact Hat'
  isplitl [Htok']; · iexact Htok'
  iexact Hcred'

/-! ## The SparseCores' parts -/

/-- The arguments are what the SparseCores read. -/
theorem args_cores (d : Dev nD) : iprop((fLoc d ↦{fullShare} m (fLoc d)) ∗ (lLoc d ↦{fullShare} m (lLoc d))) = (bigSep Finset.univ fun c : Fin τ.nSC => argsC m d c : sProp (MT nD τ sig (HIx 1) (Elt F) ℕ UU ℕ)) := by
  rw [bigSep_sep', Transfers.pointsTo_deal (Finset.univ : Finset (Fin τ.nSC)) ⟨0, Finset.mem_univ _⟩ fullShare (ℓ := fLoc d),
    Transfers.pointsTo_deal (Finset.univ : Finset (Fin τ.nSC)) ⟨0, Finset.mem_univ _⟩ fullShare (ℓ := lLoc d)]
/-- The results are what the SparseCores write. -/
theorem outs_cores (d : Dev nD) (s : Buf (Elt F) (sLoc d)) (n : Buf (Elt F) (cLoc d)) (q : Buf (Elt F) (qLoc d)) :
    iprop((sLoc d ↦{fullShare} s) ∗ (cLoc d ↦{fullShare} n) ∗ (qLoc d ↦{fullShare} q)) = (bigSep Finset.univ fun c : Fin τ.nSC => outsC d c s n q : sProp (MT nD τ sig (HIx 1) (Elt F) ℕ UU ℕ)) := by
  rw [bigSep_sep', bigSep_sep', part_all (ℓ := sLoc d) (n := 2) (fun x : S1024x256.Idx => (x 0).val / 32 / 16) (fun x => by have : (x 0).val < 1024 := (x 0).isLt; omega),
    part_all (ℓ := cLoc d) (n := 2) (fun x : S1024x16.Idx => (x 0).val / 32 / 16) (fun x => by have : (x 0).val < 1024 := (x 0).isLt; omega),
    part_all (ℓ := qLoc d) (n := 2) (fun x : S32x16.Idx => (x 0).val / 16) (fun x => by have : (x 0).val < 32 := (x 0).isLt; omega)]

end Cert.KernelIdeal.Tile

end
-- ==== Proof.Combine.lean ====
module

public import proofs.«01_k».proof.Proof.Launch
public import proofs.«01_k».proof.Proof.Gen.KernelIdeal.Skeleton
public import proofs.«01_k».proof.Proof.Gen.KernelIdeal.Points
public import Idealize.ShloMosaic.Lib.VecWindow
public import Idealize.ShloMosaic.Lib.Pipeline.Kit
public import Idealize.ShloMosaic.Lib.Pipeline.Value

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

/-! ## The combining kernel -/

/-- The TensorCore's contents of a buffer. -/
abbrev At (d : Dev nD) {sp : Space} {s : Shape} {e : EltTy} (r : Memref sig .tc sp s e) : Type := Buf (Elt F) (r.view.loc (d.tc : Thread nD τ))
/-- The TensorCore holds a buffer whole. -/
abbrev whole (d : Dev nD) {sp : Space} {s : Shape} {e : EltTy} (r : Memref sig .tc sp s e) (f : At (F := F) d r) : sProp (MT nD τ sig (HIx 1) (Elt F) ℕ UU ℕ) :=
  r.view.loc (d.tc : Thread nD τ) ↦{fullShare} f

/-- The first count of each class. -/
def countCol (n : Vec F S1024x16 .f32) : Vec F S1024x1 .f32 := View.ld n (Rect.unit (s := S1024x16) ![0, 0] S1024x1.size inb_S1024x16_S1024x1_0_0)

theorem combine_run (d : Dev nD) (M0 : Memref sig .tc .vmem S1024x256 .f32) (h0 : M0.IsWhole) (M1 : Memref sig .tc .vmem S1024x16 .f32) (h1 : M1.IsWhole)
    (M2 : Memref sig .tc .vmem S32x16 .f32) (h2 : M2.IsWhole) (M3 : Memref sig .tc .vmem S1024x256 .f32) (h3 : M3.IsWhole)
    (M4 : Memref sig .tc .smem S1x1 .f32) (h4 : M4.IsWhole) (M5 : Memref sig .tc .smem S1x1 .f32) (h5 : M5.IsWhole)
    (f0 : At (F := F) d M0) (f1 : At (F := F) d M1) (f2 : At (F := F) d M2)
    (f3 : At (F := F) d M3) (f4 : At (F := F) d M4) (f5 : At (F := F) d M5) (Q : PUnit → sProp (MT nD τ sig (HIx 1) (Elt F) ℕ UU ℕ)) :
    iprop(whole d M0 f0 ∗ whole d M1 f1 ∗ whole d M2 f2 ∗ whole d M3 f3 ∗ whole d M4 f4 ∗ whole d M5 f5
      ∗ (iprop(whole d M0 f0 ∗ whole d M1 f1 ∗ whole d M2 f2
          ∗ (∃ g, ⌜M3.view.read (Elt F) g = Gen.k1_pay2 (M0.view.read (Elt F) f0) (countCol (M1.view.read (Elt F) f1))⌝ ∗ whole d M3 g)
          ∗ (∃ g, ⌜M4.view.read (Elt F) g = fun _ => Gen.k1_pay4 (M0.view.read (Elt F) f0) (countCol (M1.view.read (Elt F) f1)) (M2.view.read (Elt F) f2)⌝ ∗ whole d M4 g)
          ∗ (∃ g, ⌜M5.view.read (Elt F) g = fun _ => Gen.k1_pay5 (M0.view.read (Elt F) f0) (countCol (M1.view.read (Elt F) f1))⌝ ∗ whole d M5 g)) -∗ Q ⟨⟩))
    ⊢ wp frame (wpE (defs₀ (F := F)) 𝒱₀ (d.tc : Thread nD τ) none) Set.univ (cc1__combine_body M0 h0 M1 h1 M2 h2 M3 h3 M4 h4 M5 h5) Q := by
  iintro ⟨H0, H1, H2, H3, H4, H5, Hk⟩
  rw [Gen.cc1__combine_body_eq_skeleton]
  sl_exec!
  sl_step
  iapply Hk
  isplitl [H0]; · iexact H0
  isplitl [H1]; · iexact H1
  isplitl [H2]; · iexact H2
  have e0 := View.readAt_full M0.view f0 inb_S1024x256_S1024x256_0_0
  have e2 := View.readAt_full M2.view f2 inb_S32x16_S32x16_0_0
  isplitl [H3]
  · iexists _; isplitr; swap; (· iexact H3); ipureintro; unfold combine_run.sl.H3_1; rw [View.read_writes_full]
    exact congrArg (fun a => Gen.k1_pay2 a (countCol (M1.view.read (Elt F) f1))) e0
  isplitl [H4]
  · iexists _; isplitr; swap; (· iexact H4); ipureintro; unfold combine_run.sl.H4_1; rw [View.read_writes_full]
    exact (congrArg (fun a => fun _ => Gen.k1_pay4 a (countCol (M1.view.read (Elt F) f1)) _) e0).trans (congrArg (fun a => fun _ => Gen.k1_pay4 (M0.view.read (Elt F) f0) (countCol (M1.view.read (Elt F) f1)) a) e2)
  iexists _; isplitr; swap; (· iexact H5); ipureintro; unfold combine_run.sl.H5_1; rw [View.read_writes_full]
  exact congrArg (fun a => fun _ => Gen.k1_pay5 a (countCol (M1.view.read (Elt F) f1))) e0

/-! ## Its region -/

open Idealize.ShloMosaic.Pipeline (Dat BodyObligation)

variable (b : ℕ) (V : (d : Dev nD) → (b : Ref sig .tc) → Buf (Elt F) ((d.tc : Thread nD τ).loc b))

/-- What the region is proved with: the arrays as they come, the means, the two numbers, and the waits recorded below `b`. -/
def dats (_ : Fin 1) (c : Dev nD) : Dat τ (Elt F) (HIx 1) ℕ UU ℕ cfg1 c where
  A w := V c (Pipeline.arrRef spec1 w)
  after w _ := match w with
    | ⟨0, _⟩ => V c main_v0_0
    | ⟨1, _⟩ => V c main_v0_1
    | ⟨2, _⟩ => V c main_v0_2
    | ⟨3, _⟩ => Gen.k1_pay2 (V c main_v0_0) (countCol (V c main_v0_1))
    | ⟨4, _⟩ => fun _ => Gen.k1_pay4 (V c main_v0_0) (countCol (V c main_v0_1)) (V c main_v0_2)
    | ⟨5, _⟩ => fun _ => Gen.k1_pay5 (V c main_v0_0) (countCol (V c main_v0_1))
  Φ _ := iprop(emp)
  q _ := fullShare
  owed _ := 0
  recorded _ := {p | (K (F := F)).lev (T c, p.1) p.2 ≤ b}

theorem A_eq (c : Dev nD) (w : Fin cfg1.W) : (dats b V 0 c).A w = V c (Pipeline.arrRef spec1 w) := by dsimp only [dats]

theorem before_0 (c : Dev nD) (x : (cfg1.win 0).block.Idx → Elt F (cfg1.win 0).elt) : (dats b V 0 c).before 0 t1_0 x = V c main_v0_0 := by
  unfold Dat.before; rw [if_pos (by decide)]
  exact funext fun j => congrArg (V c main_v0_0) (funext fun a => Fin.ext (show 0 * _ + 1 * (j a).val = (j a).val by rw [Nat.zero_mul, Nat.zero_add, Nat.one_mul]))
theorem before_1 (c : Dev nD) (x : (cfg1.win 1).block.Idx → Elt F (cfg1.win 1).elt) : (dats b V 0 c).before 1 t1_0 x = V c main_v0_1 := by
  unfold Dat.before; rw [if_pos (by decide)]
  exact funext fun j => congrArg (V c main_v0_1) (funext fun a => Fin.ext (show 0 * _ + 1 * (j a).val = (j a).val by rw [Nat.zero_mul, Nat.zero_add, Nat.one_mul]))
theorem before_2 (c : Dev nD) (x : (cfg1.win 2).block.Idx → Elt F (cfg1.win 2).elt) : (dats b V 0 c).before 2 t1_0 x = V c main_v0_2 := by
  unfold Dat.before; rw [if_pos (by decide)]
  exact funext fun j => congrArg (V c main_v0_2) (funext fun a => Fin.ext (show 0 * _ + 1 * (j a).val = (j a).val by rw [Nat.zero_mul, Nat.zero_add, Nat.one_mul]))

theorem body_obligation (c : Dev nD) : BodyObligation (dats b V 0 c) (defs₀ (F := F)) 𝒱₀ (none : HIx 1) Set.univ := fun t => by
  obtain rfl := fin_N1 t
  rw [bigSep_W1, bigSep_W1]
  simp only [owns_whole_eq]
  rw [show (dats b V 0 c).Φ t1_0.castSucc = iprop(emp) from rfl, show (dats b V 0 c).Φ t1_0.succ = iprop(emp) from rfl]
  iintro ⟨-, HO, ⟨%x0, %f0, %h0, H0⟩, ⟨%x1, %f1, %h1, H1⟩, ⟨%x2, %f2, %h2, H2⟩, ⟨%x3, %f3, -, H3⟩, ⟨%x4, %f4, -, H4⟩, ⟨%x5, %f5, -, H5⟩⟩
  rw [before_0] at h0
  rw [before_1] at h1
  rw [before_2] at h2
  have e0 : (stage1_0 0).view.read (Elt F) f0 = V c main_v0_0 := h0
  have e1 : (stage1_1 0).view.read (Elt F) f1 = V c main_v0_1 := h1
  have e2 : (stage1_2 0).view.read (Elt F) f2 = V c main_v0_2 := h2
  iapply (combine_run c (stage1_0 0) (hstage1_0 0) (stage1_1 0) (hstage1_1 0) (stage1_2 0) (hstage1_2 0) (stage1_3 0) (hstage1_3 0) (stage1_4 0) (hstage1_4 0) (stage1_5 0) (hstage1_5 0) f0 f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, ⟨%g3, %h3, H3⟩, ⟨%g4, %h4, H4⟩, ⟨%g5, %h5, H5⟩⟩
  isplitr; · iempintro
  isplitl [HO]; · iexact HO
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists g3; isplitr; · ipureintro; rw [e0, e1] at h3; exact h3
                  iexact H3
  isplitl [H4]; · iexists g4; isplitr; · ipureintro; rw [e0, e1, e2] at h4; exact h4
                  iexact H4
  iexists g5; isplitr; · ipureintro; rw [e0, e1] at h5; exact h5
  iexact H5

abbrev adm : (p : Fin 1) → (pcfgs (F := F) p).Adm := fun p => (cfgs p).toPCfg_adm

/-- The means of the classes, and the two numbers. -/
abbrev meansOf (s : Vec F S1024x256 .f32) (n : Vec F S1024x16 .f32) : Vec F S1024x256 .f32 := Gen.k1_pay2 s (countCol n)
abbrev compOf (s : Vec F S1024x256 .f32) (n : Vec F S1024x16 .f32) (q : Vec F S32x16 .f32) : Vec F S1x1 .f32 := fun _ => Gen.k1_pay4 s (countCol n) q
abbrev sepOf (s : Vec F S1024x256 .f32) (n : Vec F S1024x16 .f32) : Vec F S1x1 .f32 := fun _ => Gen.k1_pay5 s (countCol n)

theorem arrAt_3 (c : Dev nD) : (dats b V 0 c).arrAt 3 cfg1.N = meansOf (V c main_v0_0) (V c main_v0_1) := by
  refine (dats b V 0 c).arrAt_eq_of_cover 3 (meansOf (V c main_v0_0) (V c main_v0_1)) (fun t _ => ?_) (fun i => ?_)
  · obtain rfl := fin_N1 t
    exact funext fun j => congrArg (meansOf (V c main_v0_0) (V c main_v0_1)) (funext fun a => Fin.ext (show (j a).val = 0 * _ + 1 * (j a).val by rw [Nat.zero_mul, Nat.zero_add, Nat.one_mul]))
  · refine ⟨t1_0, flush1_3 _, ?_⟩
    show i ∈ ((View.whole main_v1_0).slice (win1_3.rect t1_0)).set
    rw [View.set_slice_whole, Rect.mem_set_unit]
    exact fun a => ⟨by show 0 * _ ≤ _; omega, by show _ < 0 * _ + _; rw [Nat.zero_mul, Nat.zero_add]; exact (i a).isLt⟩
theorem arrAt_4 (c : Dev nD) : (dats b V 0 c).arrAt 4 cfg1.N = compOf (V c main_v0_0) (V c main_v0_1) (V c main_v0_2) := by
  refine (dats b V 0 c).arrAt_eq_of_cover 4 (compOf (V c main_v0_0) (V c main_v0_1) (V c main_v0_2)) (fun t _ => ?_) (fun i => ?_)
  · obtain rfl := fin_N1 t
    rfl
  · refine ⟨t1_0, flush1_4 _, ?_⟩
    show i ∈ ((View.whole main_v1_1).slice (win1_4.rect t1_0)).set
    rw [View.set_slice_whole, Rect.mem_set_unit]
    exact fun a => ⟨by show 0 * _ ≤ _; omega, by show _ < 0 * _ + _; rw [Nat.zero_mul, Nat.zero_add]; exact (i a).isLt⟩
theorem arrAt_5 (c : Dev nD) : (dats b V 0 c).arrAt 5 cfg1.N = sepOf (V c main_v0_0) (V c main_v0_1) := by
  refine (dats b V 0 c).arrAt_eq_of_cover 5 (sepOf (V c main_v0_0) (V c main_v0_1)) (fun t _ => ?_) (fun i => ?_)
  · obtain rfl := fin_N1 t
    rfl
  · refine ⟨t1_0, flush1_5 _, ?_⟩
    show i ∈ ((View.whole main_v1_2).slice (win1_5.rect t1_0)).set
    rw [View.set_slice_whole, Rect.mem_set_unit]
    exact fun a => ⟨by show 0 * _ ≤ _; omega, by show _ < 0 * _ + _; rw [Nat.zero_mul, Nat.zero_add]; exact (i a).isLt⟩

/-- What the thread owes, its waits below `b`. -/
abbrev owesB (c : Dev nD) : sProp (MT nD τ sig (HIx 1) (Elt F) ℕ UU ℕ) := iprop(∃ W, ⌜(K (F := F)).WBelow (T c) W b⌝ ∗ owes (T c) (0 : CellTallies nD τ sig (HIx 1)) W)

/-- The buffers the region does not use. -/
abbrev restV (c : Dev nD) : sProp (MT nD τ sig (HIx 1) (Elt F) ℕ UU ℕ) :=
  iprop(((T c : Thread nD τ).loc main_arg0 ↦{fullShare} V c main_arg0) ∗ ((T c : Thread nD τ).loc main_arg1 ↦{fullShare} V c main_arg1) ∗ ((T c : Thread nD τ).loc main_v2 ↦{fullShare} V c main_v2)
    ∗ ((T c : Thread nD τ).loc main_v3 ↦{fullShare} V c main_v3) ∗ ((T c : Thread nD τ).loc main_v4 ↦{fullShare} V c main_v4) ∗ ((T c : Thread nD τ).loc main_v5 ↦{fullShare} V c main_v5))
/-- What the region leaves. -/
abbrev postV (c : Dev nD) : sProp (MT nD τ sig (HIx 1) (Elt F) ℕ UU ℕ) :=
  iprop(((T c : Thread nD τ).loc main_v1_0 ↦{fullShare} meansOf (V c main_v0_0) (V c main_v0_1)) ∗ ((T c : Thread nD τ).loc main_v1_1 ↦{fullShare} compOf (V c main_v0_0) (V c main_v0_1) (V c main_v0_2))
    ∗ ((T c : Thread nD τ).loc main_v1_2 ↦{fullShare} sepOf (V c main_v0_0) (V c main_v0_1)) ∗ restV V c)

theorem owes_in (c : Dev nD) (t : Fin (cfg1.N + 1)) : owesB b c ⊢ (dats b V 0 c).owesAt none t := by
  unfold Dat.owesAt Pipeline.owesWithin
  iintro ⟨%W, %hW, HO⟩
  iexists W; isplitr; · ipureintro; exact fun p hp => Or.inl (hW p hp)
  iexact HO
theorem owes_out (c : Dev nD) (t : Fin (cfg1.N + 1)) : (dats b V 0 c).owesAt none t ⊢ owesB b c := by
  unfold Dat.owesAt Pipeline.owesWithin
  iintro ⟨%W, %hW, HO⟩
  iexists W; isplitr
  · ipureintro
    intro p hp
    rcases hW hp with h | ⟨w, s, h⟩
    · exact h
    · rw [h]; exact Nat.zero_le _
  iexact HO

/-- The kernel has no semaphores of its own. -/
abbrev osem0 : Fin 0 → SemLoc sig := fun k => k.elim0
theorem osem0_facts : Pipeline.OwnSemFacts spec1 osem0 := by decide

theorem post_arrays (c : Dev nD) : ((dats b V 0 c).arrays ((dats b V 0 c).arrAt · cfg1.N) : sProp (MT nD τ sig (HIx 1) (Elt F) ℕ UU ℕ))
    ⊢ iprop(((T c : Thread nD τ).loc main_v1_0 ↦{fullShare} meansOf (V c main_v0_0) (V c main_v0_1)) ∗ ((T c : Thread nD τ).loc main_v1_1 ↦{fullShare} compOf (V c main_v0_0) (V c main_v0_1) (V c main_v0_2))
      ∗ ((T c : Thread nD τ).loc main_v1_2 ↦{fullShare} sepOf (V c main_v0_0) (V c main_v0_1))) := by
  unfold Dat.arrays
  rw [bigSep_W1]
  beta_reduce
  rw [arrAt_3, arrAt_4, arrAt_5, (dats b V 0 c).share_full (fun _ => rfl) 3, (dats b V 0 c).share_full (fun _ => rfl) 4, (dats b V 0 c).share_full (fun _ => rfl) 5,
    (launch1.arr_whole 3).set_eq_univ, (launch1.arr_whole 4).set_eq_univ, (launch1.arr_whole 5).set_eq_univ]
  iintro ⟨-, -, -, H3, H4, H5⟩
  isplitl [H3]; · iexact H3
  isplitl [H4]; · iexact H4
  iexact H5

set_option backward.isDefEq.respectTransparency.types false in
/-- The combining kernel's region. -/
def reg : Pipeline.RegionSeg (pcfgs (F := F)) adm (dats b V) (none : HIx 1) defs₀ 𝒱₀ (K (F := F)).L (K (F := F)).lev 0 where
  win := launch1.win.to₀
  block_pos := launch1.block_pos
  stage_whole := launch1.stage_whole
  K := Fin 0
  osem := osem0
  ho := osem0_facts
  hbody c := (body_obligation b V c).loose
  hwaits := Pipeline.hwaits_of_owed_zero _ _ _ _ (K (F := F)).L (K (F := F)).lev 0 fun _ _ => rfl
  pre c := iprop(unscopedBufs c (V c) ∗ owesB b c)
  post c := iprop(postV V c ∗ owesB b c)
  X c := iprop(emp)
  Y c := iprop(emp)
  Z c := restV V c
  hentry c := by
    have hsplit := (Pipeline.arrays_of_unscopedBufs (pcfgs (F := F)) adm (dats b V) launch1.win launch1.arr_whole c
      ((dats b V 0 c).share_full fun _ => rfl) (V c) (A_eq b V c)).trans (sep_mono .rfl (Entails.of_eq (unscopedRest1_eq c (V c))))
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owes_in b V c 0); iexact HO
    isplitr; · iempintro
    iexact Hr
  hin c := by
    iintro -; iempintro
  hout c := by
    unfold Pipeline.ownSems0
    rw [show (Finset.univ : Finset (Fin 0)) = ∅ from rfl, BI.bigSep_empty]
    show _ ⊢ iprop(_ ∗ _ ∗ Pipeline.scopedRest spec1 c)
    rw [scopedRest1_eq]
    iintro -
    isplitr; · iempintro
    isplitr <;> iempintro
  hexit c := by
    iintro ⟨Ha, HO, -, Hr⟩
    ihave Ha := (post_arrays b V c) $$ Ha
    icases Ha with ⟨H3, H4, H5⟩
    imodintro
    isplitr [HO]
    · isplitl [H3]; · iexact H3
      isplitl [H4]; · iexact H4
      isplitl [H5]; · iexact H5
      iexact Hr
    iapply (owes_out b V c (Fin.last cfg1.N)); iexact HO

/-- The region in the launch. -/
theorem wp_combine (c : Dev nD) (Q : PUnit → sProp (MT nD τ sig (HIx 1) (Elt F) ℕ UU ℕ)) :
    iprop((iprop(boundary (T c) ∗ postV V c ∗ owesB b c) -∗ Q ⟨⟩) ∗ boundary (T c) ∗ unscopedBufs c (V c) ∗ owesB b c ∗ levAts (K (F := F)).L (K (F := F)).lev ∗ pipeGhost c)
      ⊢ wp frame (wpE ((K (F := F)).defs (DD (F := F))) 𝒱 (T c) none) Set.univ (Prog.lift (.customCall (SparseCore.inner (Pipeline.entry 0)) ())) Q := by
  have h := (reg b V).wp (pcfgs (F := F)) adm (dats b V) (none : HIx 1) Gen.cellOf_inj EP defs₀ 𝒱₀ (K (F := F)).L (K (F := F)).lev c none (fun u h => nomatch h) .ret Q
  have h' := h.trans ((K (F := F)).wp_liftProg DD 𝒱₀.lift (T c) Set.univ none _ _)
  iintro ⟨Hk, Hb, Hub, HO, Hl, ⟨Hg, Ht⟩⟩
  iapply h'
  isplitl [Hk]
  · iintro ⟨Hb, Hp⟩
    ihave Hp := (show (reg b V).post c ⊢ iprop(postV V c ∗ owesB b c) from .rfl) $$ Hp
    icases Hp with ⟨Hp, HO⟩
    rw [wp_ret]; imodintro
    iapply Hk
    isplitl [Hb]; · iexact Hb
    isplitl [Hp]; · iexact Hp
    iexact HO
  isplitl [Hb]; · iexact Hb
  isplitl [Hub HO]
  · iapply (show iprop(unscopedBufs c (V c) ∗ owesB b c) ⊢ (reg b V).pre c from .rfl)
    isplitl [Hub]; · iexact Hub
    iexact HO
  isplitl [Hl]; · iexact Hl
  isplitl [Hg]
  · iapply (show (bigSep Finset.univ fun p : Fin 1 => Pipeline.cellsGhost (nD := nD) (τ := τ) cfgs EP p c : sProp (MT nD τ sig (HIx 1) (Elt F) ℕ UU ℕ)) ⊢ Pipeline.cellsGhost (nD := nD) (τ := τ) cfgs EP 0 c from bigSep_elim (Finset.mem_univ 0))
    iexact Hg
  iapply (show (bigSep Finset.univ fun p : Fin 1 => Pipeline.toksInit (nD := nD) (τ := τ) cfgs EP p c : sProp (MT nD τ sig (HIx 1) (Elt F) ℕ UU ℕ)) ⊢ Pipeline.toksInit (nD := nD) (τ := τ) cfgs EP 0 c from bigSep_elim (Finset.mem_univ 0))
  iexact Ht

end Cert.KernelIdeal.Tile

end
-- ==== Proof.Main.lean ====
module

public import proofs.«01_k».proof.Proof.Combine

@[expose] public section

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]
variable {d : Dev nD} {i : grid0.Coords} {α : Type} {Q : α → sProp (MT nD τ sig (HIx 1) (Elt F) ℕ UU ℕ)} {O : CellTallies nD τ sig (HIx 1)} {W : Waits sig (HIx 1)}

variable (m : (ℓ : Loc nD τ sig) → Buf (Elt F) ℓ) (ρ : Dev nD → PrngReg)

/-! ## The host operations -/

/-- The first thousand rows. -/
abbrev opA : HloOp τ sig (Elt F) := StableHlo.unary main_v1_0 main_v2 ((extractStridedSlice S1000x256 ![0, 0] · slices_S1024x256_S1000x256_0_0) : (⟨S1024x256, .f32⟩ : BufTy).Contents (Elt F) → (⟨S1000x256, .f32⟩ : BufTy).Contents (Elt F))

/-- A unit axis put between. -/
abbrev opB : HloOp τ sig (Elt F) := StableHlo.unary main_v2 main_v3 (broadcastInDim S1000x1x256 ![0, 2] bcast_S1000x256_S1000x1x256_0_2 : (⟨S1000x256, .f32⟩ : BufTy).Contents (Elt F) → (⟨S1000x1x256, .f32⟩ : BufTy).Contents (Elt F))

/-- The compactness as one number. -/
abbrev opC : HloOp τ sig (Elt F) := StableHlo.reshape main_v1_1 main_v4 (rfl : (.f32 : EltTy) = .f32) shapeCasts_S1x1_S1

/-- The separation as one number. -/
abbrev opD : HloOp τ sig (Elt F) := StableHlo.reshape main_v1_2 main_v5 (rfl : (.f32 : EltTy) = .f32) shapeCasts_S1x1_S1

/-! ## A host operation from one buffer to another -/

/-- A host operation that reads `x` and writes `y`. -/
theorem wp_two (B : Valuation τ sig (Elt F)) (c : Dev nD) (op : HloOp τ sig (Elt F)) (x y : Ref sig .tc) (hb : op.bufs = {Proc.devRef .tc x, Proc.devRef .tc y})
    (hw : op.writes = {Proc.devRef .tc y}) (hf : op.fresh = ∅) (hxy : (Proc.devRef .tc x : DevRef τ sig) ≠ Proc.devRef .tc y)
    (gx : Buf (Elt F) ((T c : Thread nD τ).loc x)) (gy R : Buf (Elt F) ((T c : Thread nD τ).loc y))
    (hR : ∀ G : Valuation τ sig (Elt F), G (Proc.devRef .tc x) = gx → op.result G (Proc.devRef .tc y) = R) (Q : PUnit → sProp (MT nD τ sig (HIx 1) (Elt F) ℕ UU ℕ)) :
    iprop(boundary (T c) ∗ ((T c : Thread nD τ).loc x ↦{fullShare} gx) ∗ ((T c : Thread nD τ).loc y ↦{fullShare} gy)
      ∗ (iprop(boundary (T c) ∗ ((T c : Thread nD τ).loc x ↦{fullShare} gx) ∗ ((T c : Thread nD τ).loc y ↦{fullShare} R)) -∗ Q ⟨⟩))
    ⊢ wp frame (wpE ((K (F := F)).defs (DD (F := F))) 𝒱 (T c) none) Set.univ (hlo rfl op fun _ => .ret ⟨⟩) Q := by
  have hbufs (W : Valuation τ sig (Elt F)) : (bigSep op.bufs (fun b => ((c, b) : Loc nD τ sig) ↦{fullShare} W b) : sProp (MT nD τ sig (HIx 1) (Elt F) ℕ UU ℕ))
      = iprop(((T c : Thread nD τ).loc x ↦{fullShare} W (Proc.devRef .tc x)) ∗ ((T c : Thread nD τ).loc y ↦{fullShare} W (Proc.devRef .tc y))) := by
    rw [hb, SparseCore.bigSep_insert' (by rw [Finset.mem_singleton]; exact hxy), bigSep_singleton]
  let G : Valuation τ sig (Elt F) := Function.update (Function.update B (Proc.devRef .tc x) gx) (Proc.devRef .tc y) gy
  have hx : G (Proc.devRef .tc x) = gx := (Function.update_of_ne hxy _ _).trans (Function.update_self _ _ _)
  have hy : G (Proc.devRef .tc y) = gy := Function.update_self _ _ _
  iintro ⟨Hb, Hx, Hy, Hk⟩
  iapply (wp_hlo 𝒱 (T c) none Set.univ (op := op) (q := fun _ => fullShare) (F := G) (fun _ _ => rfl) hf) $$ [Hb Hx Hy]
  · isplitl [Hb]; · iexact Hb
    rw [hbufs, hx, hy]
    isplitl [Hx]; · iexact Hx
    iexact Hy
  rw [hbufs, op.result_of_not_mem G (b := Proc.devRef .tc x) (by rw [hw, Finset.mem_singleton]; exact hxy), hx, hR G hx]
  iintro ⟨Hb, Hx, Hy⟩
  rw [wp_ret]; imodintro
  iapply Hk
  isplitl [Hb]; · iexact Hb
  isplitl [Hx]; · iexact Hx
  iexact Hy

/-! ## The TensorCore's buffers -/

/-- The TensorCore's buffers when the SparseCores are done. -/
def V1 (c : Dev nD) : (b : Ref sig .tc) → Buf (Elt F) ((c.tc : Thread nD τ).loc b) :=
  Function.update (Function.update (Function.update (fun b => m ((c.tc : Thread nD τ).loc b)) main_v0_0 (outSums (m (fLoc c)) (m (lLoc c))))
    main_v0_1 (outNums (m (fLoc c)) (m (lLoc c)))) main_v0_2 (outSq (m (fLoc c)) (m (lLoc c)))

theorem V1_of_ne (c : Dev nD) (b : Ref sig .tc) (h0 : b ≠ main_v0_0) (h1 : b ≠ main_v0_1) (h2 : b ≠ main_v0_2) : V1 m c b = m ((c.tc : Thread nD τ).loc b) := by
  unfold V1; rw [Function.update_of_ne h2, Function.update_of_ne h1, Function.update_of_ne h0]
theorem V1_0 (c : Dev nD) : V1 m c main_v0_0 = outSums (m (fLoc c)) (m (lLoc c)) := by
  unfold V1; rw [Function.update_of_ne (by decide), Function.update_of_ne (by decide), Function.update_self]
theorem V1_1 (c : Dev nD) : V1 m c main_v0_1 = outNums (m (fLoc c)) (m (lLoc c)) := by
  unfold V1; rw [Function.update_of_ne (by decide), Function.update_self]
theorem V1_2 (c : Dev nD) : V1 m c main_v0_2 = outSq (m (fLoc c)) (m (lLoc c)) := by
  unfold V1; rw [Function.update_self]

omit [FloatOps F] in
theorem unscoped_eq (c : Dev nD) (W : (b : Ref sig .tc) → Buf (Elt F) ((c.tc : Thread nD τ).loc b)) :
    (unscopedBufs c W : sProp (MT nD τ sig (HIx 1) (Elt F) ℕ UU ℕ)) = iprop((fLoc c ↦{fullShare} W main_arg0) ∗ (lLoc c ↦{fullShare} W main_arg1) ∗ (sLoc c ↦{fullShare} W main_v0_0) ∗ (cLoc c ↦{fullShare} W main_v0_1) ∗ (qLoc c ↦{fullShare} W main_v0_2)
      ∗ ((T c : Thread nD τ).loc main_v1_0 ↦{fullShare} W main_v1_0) ∗ ((T c : Thread nD τ).loc main_v1_1 ↦{fullShare} W main_v1_1) ∗ ((T c : Thread nD τ).loc main_v1_2 ↦{fullShare} W main_v1_2)
      ∗ ((T c : Thread nD τ).loc main_v2 ↦{fullShare} W main_v2) ∗ ((T c : Thread nD τ).loc main_v3 ↦{fullShare} W main_v3) ∗ ((T c : Thread nD τ).loc main_v4 ↦{fullShare} W main_v4) ∗ ((T c : Thread nD τ).loc main_v5 ↦{fullShare} W main_v5)) := by
  unfold unscopedBufs
  rw [show (Finset.univ.filter fun b : Ref sig .tc => ¬ b.isScoped) = {main_arg0, main_arg1, main_v0_0, main_v0_1, main_v0_2, main_v1_0, main_v1_1, main_v1_2, main_v2, main_v3, main_v4, main_v5} by decide]
  simp only [SparseCore.bigSep_insert' (show main_arg0 ∉ ({main_arg1, main_v0_0, main_v0_1, main_v0_2, main_v1_0, main_v1_1, main_v1_2, main_v2, main_v3, main_v4, main_v5} : Finset (Ref sig .tc)) by decide)]
  rw [SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), SparseCore.bigSep_insert' (by decide), bigSep_singleton]

/-! ## What @main returns -/

/-- The means of the classes, as @main returns them. -/
def resMeans (f : S160000x256.Idx → F .f32) (l : S160000.Idx → BitVec 32) : Vec F S1000x1x256 .f32 :=
  broadcastInDim S1000x1x256 ![0, 2] bcast_S1000x256_S1000x1x256_0_2 (extractStridedSlice S1000x256 ![0, 0] (meansOf (outSums f l) (outNums f l)) slices_S1024x256_S1000x256_0_0)
/-- The compactness. -/
def resComp (f : S160000x256.Idx → F .f32) (l : S160000.Idx → BitVec 32) : Vec F S1 .f32 :=
  fun i => shapeCast S1 (compOf (outSums f l) (outNums f l) (outSq f l)) shapeCasts_S1x1_S1 i
/-- The separation. -/
def resSep (f : S160000x256.Idx → F .f32) (l : S160000.Idx → BitVec 32) : Vec F S1 .f32 :=
  fun i => shapeCast S1 (sepOf (outSums f l) (outNums f l)) shapeCasts_S1x1_S1 i

/-- What the program ends with on a device: the results, the arguments, and the barriers at zero. -/
abbrev FIN (d : Dev nD) : sProp (MT nD τ sig (HIx 1) (Elt F) ℕ UU ℕ) :=
  iprop((fLoc d ↦{fullShare} m (fLoc d)) ∗ (lLoc d ↦{fullShare} m (lLoc d)) ∗ ((T d : Thread nD τ).loc main_v4 ↦{fullShare} resComp (m (fLoc d)) (m (lLoc d)))
    ∗ ((T d : Thread nD τ).loc main_v5 ↦{fullShare} resSep (m (fLoc d)) (m (lLoc d))) ∗ ((T d : Thread nD τ).loc main_v3 ↦{fullShare} resMeans (m (fLoc d)) (m (lLoc d)))
    ∗ bigSep Finset.univ fun c : Fin τ.nSC => bars d c)

theorem st_eq (d : Dev nD) : (bigSep Finset.univ fun c : Fin ((K (F := F)).nCore 0) => (P m).st 0 d c : sProp (MT nD τ sig (HIx 1) (Elt F) ℕ UU ℕ))
    = iprop(((fLoc d ↦{fullShare} m (fLoc d)) ∗ (lLoc d ↦{fullShare} m (lLoc d))) ∗ ((sLoc d ↦{fullShare} m (sLoc d)) ∗ (cLoc d ↦{fullShare} m (cLoc d)) ∗ (qLoc d ↦{fullShare} m (qLoc d)))) := by
  rw [args_cores, outs_cores, ← bigSep_sep']
  rfl
theorem dn_eq (d : Dev nD) : (bigSep Finset.univ fun c : Fin ((K (F := F)).nCore 0) => (P m).dn 0 d c : sProp (MT nD τ sig (HIx 1) (Elt F) ℕ UU ℕ))
    = iprop((((fLoc d ↦{fullShare} m (fLoc d)) ∗ (lLoc d ↦{fullShare} m (lLoc d))) ∗ ((sLoc d ↦{fullShare} outSums (m (fLoc d)) (m (lLoc d))) ∗ (cLoc d ↦{fullShare} outNums (m (fLoc d)) (m (lLoc d))) ∗ (qLoc d ↦{fullShare} outSq (m (fLoc d)) (m (lLoc d)))))
      ∗ bigSep Finset.univ fun c : Fin τ.nSC => bars d c) := by
  rw [args_cores, outs_cores, ← bigSep_sep', ← bigSep_sep']
  rfl

/-- @main on a device. -/
theorem hmain (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs (DD (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Hf, Hl, Hs, Hn, Hq, H10, H11, H12, H2, H3, H4, H5⟩, Hts, -⟩, Hg⟩
  iapply ((K (F := F)).wp_run (DD (F := F)) 𝒱 (EH := EH) (P := P m) κ d 0) $$ [Hst Hf Hl Hs Hn Hq Hb H10 H11 H12 H2 H3 H4 H5 Hts Hg]
  isplitr; · iexact Hctx
  isplitl [Hst]; · iexact Hst
  isplitl [Hf Hl Hs Hn Hq]
  · rw [st_eq]
    isplitl [Hf Hl]
    · isplitl [Hf]; · iexact Hf
      iexact Hl
    isplitl [Hs]; · iexact Hs
    isplitl [Hn]; · iexact Hn
    iexact Hq
  iintro ⟨Hst, Hdn⟩
  ihave Hdn := (Entails.of_eq (dn_eq m d)) $$ Hdn
  icases Hdn with ⟨⟨⟨Hf, Hl⟩, Hs, Hn, Hq⟩, Hbars⟩
  ihave Hst := (show (K (F := F)).tcSt EH d (Fin.val (0 : Fin 1) + 1) ⊢ (K (F := F)).tcSt EH d 1 from .rfl) $$ Hst
  unfold SparseCore.Cfg.tcSt
  rw [(K (F := F)).Otc_end d (le_refl 1)]
  icases Hst with ⟨HO, Hst⟩
  ihave Hlev := (SparseCore.Cfg.ctx_levAts κ) $$ Hctx
  iapply (wp_combine (b := _) (V := V1 m) d)
  isplitl [Hst Hbars Hts]
  · iintro ⟨Hb, ⟨H10, H11, H12, Hf, Hl, H2, H3, H4, H5⟩, HO⟩
    rw [V1_0, V1_1, V1_2, V1_of_ne m d main_arg0 (by decide) (by decide) (by decide), V1_of_ne m d main_arg1 (by decide) (by decide) (by decide)]
    iapply (wp_two (fun b => m (d, b)) d opA
      main_v1_0 main_v2 rfl rfl rfl (by decide) (meansOf (outSums (m (fLoc d)) (m (lLoc d))) (outNums (m (fLoc d)) (m (lLoc d)))) _ _ (fun G hG => (StableHlo.unary_result _ _ _ _ _ _).trans (by rw [hG])))
    isplitl [Hb]; · iexact Hb
    isplitl [H10]; · iexact H10
    isplitl [H2]; · iexact H2
    iintro ⟨Hb, H10, H2⟩
    iapply (wp_two (fun b => m (d, b)) d opB
      main_v2 main_v3 rfl rfl rfl (by decide) _ _ _ (fun G hG => (StableHlo.unary_result _ _ _ _ _ _).trans (by rw [hG])))
    isplitl [Hb]; · iexact Hb
    isplitl [H2]; · iexact H2
    isplitl [H3]; · iexact H3
    iintro ⟨Hb, H2, H3⟩
    iapply (wp_two (fun b => m (d, b)) d opC
      main_v1_1 main_v4 rfl rfl rfl (by decide) (compOf (outSums (m (fLoc d)) (m (lLoc d))) (outNums (m (fLoc d)) (m (lLoc d))) (outSq (m (fLoc d)) (m (lLoc d)))) _ (resComp (m (fLoc d)) (m (lLoc d))) (fun G hG => (StableHlo.reshape_result _ _ _ _ _ _ _).trans (by rw [hG]; rfl)))
    isplitl [Hb]; · iexact Hb
    isplitl [H11]; · iexact H11
    isplitl [H4]; · iexact H4
    iintro ⟨Hb, H11, H4⟩
    iapply (wp_two (fun b => m (d, b)) d opD
      main_v1_2 main_v5 rfl rfl rfl (by decide) (sepOf (outSums (m (fLoc d)) (m (lLoc d))) (outNums (m (fLoc d)) (m (lLoc d)))) _ (resSep (m (fLoc d)) (m (lLoc d))) (fun G hG => (StableHlo.reshape_result _ _ _ _ _ _ _).trans (by rw [hG]; rfl)))
    isplitl [Hb]; · iexact Hb
    isplitl [H12]; · iexact H12
    isplitl [H5]; · iexact H5
    iintro ⟨Hb, H12, H5⟩
    imodintro
    isplitl [HO Hst]
    · isplitl [HO]; · iexact HO
      iexact Hst
    isplitr [Hb Hts]
    · isplitl [Hf]; · iexact Hf
      isplitl [Hl]; · iexact Hl
      isplitl [H4]; · iexact H4
      isplitl [H5]; · iexact H5
      isplitl [H3]; · iexact H3
      iexact Hbars
    isplitl [Hb]; · iexact Hb
    iexact Hts
  isplitl [Hb]; · iexact Hb
  isplitl [Hf Hl Hs Hn Hq H10 H11 H12 H2 H3 H4 H5]
  · rw [unscoped_eq, V1_0, V1_1, V1_2, V1_of_ne m d main_arg0 (by decide) (by decide) (by decide), V1_of_ne m d main_arg1 (by decide) (by decide) (by decide),
      V1_of_ne m d main_v1_0 (by decide) (by decide) (by decide), V1_of_ne m d main_v1_1 (by decide) (by decide) (by decide), V1_of_ne m d main_v1_2 (by decide) (by decide) (by decide),
      V1_of_ne m d main_v2 (by decide) (by decide) (by decide), V1_of_ne m d main_v3 (by decide) (by decide) (by decide), V1_of_ne m d main_v4 (by decide) (by decide) (by decide), V1_of_ne m d main_v5 (by decide) (by decide) (by decide)]
    isplitl [Hf]; · iexact Hf
    isplitl [Hl]; · iexact Hl
    isplitl [Hs]; · iexact Hs
    isplitl [Hn]; · iexact Hn
    isplitl [Hq]; · iexact Hq
    isplitl [H10]; · iexact H10
    isplitl [H11]; · iexact H11
    isplitl [H12]; · iexact H12
    isplitl [H2]; · iexact H2
    isplitl [H3]; · iexact H3
    isplitl [H4]; · iexact H4
    iexact H5
  isplitl [HO]; · iexact HO
  isplitl [Hlev]; · iexact Hlev
  iexact Hg

/-! ## The run -/

/-- What is read at the end. -/
def fq (d : Dev nD) (s' : Phys nD τ sig (Elt F)) : Prop :=
  (s'.mem.mem (fLoc d) = m (fLoc d) ∧ s'.mem.mem (lLoc d) = m (lLoc d) ∧ s'.mem.mem ((T d : Thread nD τ).loc main_v4) = resComp (m (fLoc d)) (m (lLoc d))
    ∧ s'.mem.mem ((T d : Thread nD τ).loc main_v5) = resSep (m (fLoc d)) (m (lLoc d)) ∧ s'.mem.mem ((T d : Thread nD τ).loc main_v3) = resMeans (m (fLoc d)) (m (lLoc d)))
    ∧ ∀ (c : Fin τ.nSC) (j : Fin τ.nSub), s'.mem.sem (bcell d c j) = 0

/-- A buffer held is read. -/
theorem read_whole (ℓ : Loc nD τ sig) (f : Buf (Elt F) ℓ) (s' : Phys nD τ sig (Elt F)) : iprop((ℓ ↦{fullShare} f) ∗ SI s') ⊢ (⌜s'.mem.mem ℓ = f⌝ : sProp (MT nD τ sig (HIx 1) (Elt F) ℕ UU ℕ)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (MT nD τ sig (HIx 1) (Elt F) ℕ UU ℕ)) := fun x hx =>
  ⟨⟨((sep_mono_left sep_elim_left).trans (read_whole _ _ s')) x hx, ((sep_mono_left (sep_elim_right.trans sep_elim_left)).trans (read_whole _ _ s')) x hx,
    ((sep_mono_left (sep_elim_right.trans (sep_elim_right.trans sep_elim_left))).trans (read_whole _ _ s')) x hx,
    ((sep_mono_left (sep_elim_right.trans (sep_elim_right.trans (sep_elim_right.trans sep_elim_left)))).trans (read_whole _ _ s')) x hx,
    ((sep_mono_left (sep_elim_right.trans (sep_elim_right.trans (sep_elim_right.trans (sep_elim_right.trans sep_elim_left))))).trans (read_whole _ _ s')) x hx⟩,
   fun c j => ((sep_mono_left (sep_elim_right.trans (sep_elim_right.trans (sep_elim_right.trans (sep_elim_right.trans (sep_elim_right.trans
      (SparseCore.ent ((bigSep_elim (Finset.mem_univ c)).trans (bigSep_elim (Finset.mem_univ j))))))))) ).trans (SparseCore.Cfg.semVal_zero_read _ s')) x hx⟩

/-- The barriers' semaphores end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  exact (h d).2 c i

/-- What the run ends with. -/
def QC : PUnit × MemSt nD τ sig (Elt F) → Prop := fun r =>
  (∀ c : Dev nD, r.2.mem ((T c : Thread nD τ).loc main_v4) = resComp (m (fLoc c)) (m (lLoc c)) ∧ r.2.mem ((T c : Thread nD τ).loc main_v5) = resSep (m (fLoc c)) (m (lLoc c))
    ∧ r.2.mem ((T c : Thread nD τ).loc main_v3) = resMeans (m (fLoc c)) (m (lLoc c)) ∧ r.2.mem (fLoc c) = m (fLoc c) ∧ r.2.mem (lLoc c) = m (lLoc c)) ∧ r.2.sem = fun _ => 0

/-- Every run ends with the results, the arguments as they were and the semaphores at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := DD (F := F)) (𝒱 := 𝒱) (EH := EH) (P := P m) (hA := hA m) facts v₀
    (fun q hq => match q with | 0 => nomatch hq)
    (fun q _ => match q with | 0 => tileObl m facts)
    (fun q _ => match q with | 0 => vecSplit m)
    m ρ main (fun d => pipeGhost d) (FIN m) (u₀ (F := F)) (hu₀ m) (hmain m ρ) (fq m) (hfin m) (QC m)
    (fun _ h hz => ⟨fun c => ⟨(h c).1.2.2.1, (h c).1.2.2.2.1, (h c).1.2.2.2.2, (h c).1.1, (h c).1.2.1⟩, hz⟩)

end Cert.KernelIdeal.Tile

end
-- ==== Proof.SameSeg.lean ====
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

/-! ## The two programs are one text

The kernel and its idealization are printed from one module and no operation is rewritten. -/

set_option maxRecDepth 16384
set_option maxHeartbeats 40000000

/-- The tile's program. -/
theorem same_seg : Kernel.cc0_seg (F := Bits) = KernelIdeal.cc0_seg (F := Bits) := by exact rfl
/-- The combining kernel's program. -/
theorem same_body : Kernel.cc1__combine_body (F := Bits) = KernelIdeal.cc1__combine_body (F := Bits) := by exact rfl
end Cert.Proof

end
-- ==== Proof.Same.lean ====
module

public import proofs.«01_k».proof.Proof.SameSeg
public import proofs.«01_k».proof.Proof.Gen.Kernel
public import proofs.«01_k».proof.Proof.Gen.KernelIdeal

@[expose] public section

noncomputable section

namespace Cert.Proof

open Idealize.ShloMosaic Idealize.SL.Sem

/-! ## The two programs are one text

The kernel and its idealization are printed from one module and no operation is rewritten. -/

set_option maxRecDepth 16384
set_option maxHeartbeats 40000000

/-- The host program. -/
theorem same_main : Kernel.main (F := Bits) = KernelIdeal.main (F := Bits) := by exact rfl
/-- The pipelines. -/
theorem same_pcfgs : Kernel.pcfgs (F := Bits) = KernelIdeal.pcfgs (F := Bits) := by exact rfl
/-- The SparseCore calls. -/
theorem same_sc : Kernel.sc (F := Bits) = KernelIdeal.sc (F := Bits) := by exact rfl

/-- The kernels' table, at a vector subcore. -/
theorem same_vec (c : Fin Kernel.τ.nSC) (s : Fin Kernel.τ.nSub) (a) : Kernel.defs₀ (F := Bits) (.scVector c s) 0 a = KernelIdeal.defs₀ (F := Bits) (.scVector c s) 0 a := by
  dsimp only [Kernel.defs₀, KernelIdeal.defs₀]
  simp only [same_seg]
  rfl
/-- The kernels' table, at the TensorCore. -/
theorem same_tc (a) : Kernel.defs₀ (F := Bits) .tc 1 a = KernelIdeal.defs₀ (F := Bits) .tc 1 a := by
  obtain ⟨t, s⟩ := a
  dsimp only [Kernel.defs₀, KernelIdeal.defs₀]
  simp only [same_body]
/-- The kernels' table. -/
theorem same_defs₀ : Kernel.defs₀ (F := Bits) = KernelIdeal.defs₀ (F := Bits) := by
  funext p ℓ a
  match p, ℓ, a with
  | .scVector c s, ⟨0, _⟩, a => exact same_vec c s a
  | .tc, ⟨1, _⟩, a => exact same_tc a
  | .scVector c s, ⟨1, _⟩, a => rfl
  | .tc, ⟨0, _⟩, a => rfl
  | .scScalar c, ⟨0, _⟩, a => rfl
  | .scScalar c, ⟨1, _⟩, a => rfl

/-- The whole table. -/
theorem same_defs : Kernel.defs (F := Bits) = KernelIdeal.defs (F := Bits) := by
  unfold Kernel.defs KernelIdeal.defs
  rw [same_defs₀]
  rfl

/-- The threads. -/
theorem same_threads : Kernel.threads (F := Bits) = KernelIdeal.threads (F := Bits) := by
  unfold Kernel.threads KernelIdeal.threads
  rw [same_main]
  rfl

end Cert.Proof

end
-- ==== Proof.Algebra.lean ====
module

public import Mathlib.Algebra.BigOperators.Group.Finset.Basic
public import Mathlib.Algebra.BigOperators.Ring.Finset
public import Mathlib.Algebra.BigOperators.Field
public import Mathlib.Algebra.Order.BigOperators.Group.Finset
public import Mathlib.Data.Real.Basic
public import Mathlib.Tactic.Ring
public import Mathlib.Tactic.FieldSimp
public import Mathlib.Tactic.Linarith

@[expose] public section

noncomputable section

namespace Cert.Means

/-! ## Sums, counts and means of the classes of a labelled batch, over the reals -/

variable {N D : Nat} (t : Fin N → Nat) (x : Fin N → Fin D → ℝ)

/-- The sum of `g` over the rows of class `c`. -/
def cls (g : Fin N → ℝ) (c : Nat) : ℝ := ∑ r, if t r = c then g r else 0
/-- The number of rows of class `c`. -/
def num (c : Nat) : ℝ := cls t (fun _ => 1) c
/-- The sum of the rows of class `c`. -/
def tot (c : Nat) (b : Fin D) : ℝ := cls t (fun r => x r b) c
/-- Their mean, zero of an empty class. -/
def mean (c : Nat) (b : Fin D) : ℝ := tot t x c b / max (num t c) 1

variable {t x}

/-- A class has no row, or at least one. -/
theorem num_cases (c : Nat) : (∀ r, t r ≠ c) ∨ 1 ≤ num t c := by
  by_cases h : ∀ r, t r ≠ c
  · exact Or.inl h
  · push Not at h
    obtain ⟨r, hr⟩ := h
    refine Or.inr ?_
    unfold num cls
    have := Finset.single_le_sum (f := fun r => if t r = c then (1 : ℝ) else 0) (s := Finset.univ) (fun i _ => by split <;> norm_num) (Finset.mem_univ r)
    simpa [hr] using this
/-- The sum over an empty class is zero. -/
theorem cls_empty {c : Nat} (h : ∀ r, t r ≠ c) (g : Fin N → ℝ) : cls t g c = 0 :=
  Finset.sum_eq_zero fun r _ => if_neg (h r)
/-- A class's sum is its number of rows times its mean. -/
theorem num_mul_mean (c : Nat) (b : Fin D) : num t c * mean t x c b = tot t x c b := by
  rcases num_cases (t := t) c with h | h
  · rw [tot, cls_empty h, num, cls_empty h, zero_mul]
  · rw [mean, max_eq_left h]
    field_simp
/-- The sums over all classes add up to the sum over all rows. -/
theorem sum_cls {K : Nat} (ht : ∀ r, t r < K) (g : Fin N → ℝ) : ∑ c ∈ Finset.range K, cls t g c = ∑ r, g r := by
  unfold cls
  rw [Finset.sum_comm]
  refine Finset.sum_congr rfl fun r _ => ?_
  rw [Finset.sum_ite_eq, if_pos (Finset.mem_range.2 (ht r))]
/-- A class's sum with a factor of the class. -/
theorem cls_mul (g : Fin N → ℝ) (h : Nat → ℝ) (c : Nat) : cls t (fun r => g r * h (t r)) c = cls t g c * h c := by
  unfold cls
  rw [Finset.sum_mul]
  refine Finset.sum_congr rfl fun r _ => ?_
  split
  · next e => show g r * h (t r) = _; rw [e]
  · rw [zero_mul]

/-- The sum over all rows of the squared distance to their class's mean. -/
theorem compact {K : Nat} (ht : ∀ r, t r < K) (b : Fin D) :
    ∑ r, (x r b - mean t x (t r) b) * (x r b - mean t x (t r) b) = ∑ r, x r b * x r b - ∑ c ∈ Finset.range K, tot t x c b * mean t x c b := by
  have e : ∀ c, tot t x c b * mean t x c b
      = cls t (fun r => x r b * mean t x (t r) b) c + cls t (fun r => x r b * mean t x (t r) b) c - cls t (fun r => 1 * (mean t x (t r) b * mean t x (t r) b)) c := fun c => by
    rw [cls_mul (fun r => x r b) (fun c => mean t x c b), cls_mul (fun _ => 1) (fun c => mean t x c b * mean t x c b)]
    have := num_mul_mean (t := t) (x := x) c b
    unfold num at this
    show _ = tot t x c b * _ + tot t x c b * _ - _
    rw [← mul_assoc, this]
    ring
  rw [Finset.sum_congr rfl fun c _ => e c, Finset.sum_sub_distrib, Finset.sum_add_distrib, sum_cls ht, sum_cls ht,
    ← Finset.sum_add_distrib, ← Finset.sum_sub_distrib, ← Finset.sum_sub_distrib]
  exact Finset.sum_congr rfl fun r _ => by ring

/-- The sum over the classes of the squared distance of their mean to the mean of all rows, weighted by their number of rows. -/
theorem separate {K : Nat} (ht : ∀ r, t r < K) (hN : (N : ℝ) ≠ 0) (b : Fin D) :
    ∑ c ∈ Finset.range K, num t c * ((mean t x c b - (∑ r, x r b) / N) * (mean t x c b - (∑ r, x r b) / N))
      = ∑ c ∈ Finset.range K, tot t x c b * mean t x c b - (∑ r, x r b) * (∑ r, x r b) / N := by
  have e : ∀ c, num t c * ((mean t x c b - (∑ r, x r b) / N) * (mean t x c b - (∑ r, x r b) / N))
      = tot t x c b * mean t x c b - 2 * ((∑ r, x r b) / N) * tot t x c b + (∑ r, x r b) / N * ((∑ r, x r b) / N) * num t c := fun c => by
    rw [← num_mul_mean (t := t) (x := x) c b]
    ring
  have h1 : ∑ c ∈ Finset.range K, num t c = N := by
    unfold num
    rw [sum_cls ht]
    simp
  have h2 : ∑ c ∈ Finset.range K, tot t x c b = ∑ r, x r b := by
    unfold tot
    rw [sum_cls ht]
  rw [Finset.sum_congr rfl fun c _ => e c, Finset.sum_add_distrib, Finset.sum_sub_distrib, ← Finset.mul_sum, ← Finset.mul_sum, h1, h2]
  field_simp
  ring

/-- Classes without rows add nothing. -/
theorem sum_tot_mean {K M : Nat} (ht : ∀ r, t r < K) (h : K ≤ M) (b : Fin D) :
    ∑ c ∈ Finset.range M, tot t x c b * mean t x c b = ∑ c ∈ Finset.range K, tot t x c b * mean t x c b := by
  symm
  refine Finset.sum_subset (Finset.range_mono h) fun c _ hc => ?_
  rw [tot, cls_empty (fun r e => hc (Finset.mem_range.2 (by rw [← e]; exact ht r))), zero_mul]

/-- Parts of the classes add up to all rows. -/
theorem sum_parts {W : Nat} (ht : ∀ r, t r < W * 32) (g : Fin N → ℝ) :
    ∑ w : Fin W, ∑ r, (if w.val * 32 ≤ t r ∧ t r < w.val * 32 + 32 then g r else 0) = ∑ r, g r := by
  rw [Finset.sum_comm]
  refine Finset.sum_congr rfl fun r _ => ?_
  have hw : t r / 32 < W := by have := ht r; omega
  rw [Finset.sum_eq_single (⟨t r / 32, hw⟩ : Fin W)]
  · rw [if_pos]
    dsimp only
    omega
  · intro w _ hne
    rw [if_neg]
    intro h
    exact hne (Fin.ext (show w.val = t r / 32 by omega))
  · exact fun h => absurd (Finset.mem_univ _) h

end Cert.Means

end
-- ==== Proof.Reading.lean ====
module

public import Idealize.ShloMosaic.Lib.IdealHost
public import Idealize.ShloMosaic.Lib.ValueIdx
public import Mathlib.Algebra.BigOperators.Group.Finset.Basic
import Idealize.ShloMosaic.Lib.Pointwise.Reduce

@[expose] public section

noncomputable section

namespace Cert.Means

open Idealize.ShloMosaic

/-! ## Reductions read as sums over the coordinates -/

variable {a b : Nat} {t u : Shape}

/-- A sum of reals, each read as an extended real. -/
theorem coe_sum {ι : Type} (s : Finset ι) (g : ι → ℝ) : ((∑ i ∈ s, g i : ℝ) : EReal) = ∑ i ∈ s, ((g i : ℝ) : EReal) := by
  classical
  induction s using Finset.induction_on with
  | empty => rw [Finset.sum_empty, Finset.sum_empty]; rfl
  | insert i s hi ih => rw [Finset.sum_insert hi, Finset.sum_insert hi, EReal.coe_add, ih]

/-- A quotient of reals by one that is not zero. -/
theorem div_real (p q : ℝ) (h : q ≠ 0) : Ideal.div (p : EReal) (q : EReal) = ((p / q : ℝ) : EReal) := by
  rw [Ideal.div_coe h, ← EReal.coe_mul]
  congr 1
  rw [mul_one_div]

/-- A sum over the indices of a list. -/
theorem sum_list (g : (⟨1, ![a]⟩ : Shape).Idx → EReal) : ∑ i, g i = ∑ k : Fin a, g (ValueIdx.ix1 k) :=
  (Idealize.ShloMosaic.sum_idx1 g).trans rfl

/-- The host's sum over a whole table. -/
theorem host_all (v : FVec Ideal (⟨2, ![a, b]⟩ : Shape) .f32) (init : FVec Ideal u .f32) (h : (⟨2, ![a, b]⟩ : Shape).ReducesTo [0, 1] t)
    (hu : 0 < u.numel) (hz : init (Shape.Idx.first hu) = 0) (j : t.Idx) :
    Host.reduceAdd v init h hu j = ∑ r : Fin a, ∑ c : Fin b, v (ValueIdx.ix2 r c) := by
  refine (Ideal.hostReduceAdd_r2_a01 h v _ j).trans ?_
  rw [hz, zero_add]
  rfl
/-- The host's sum of each column. -/
theorem host_cols (v : FVec Ideal (⟨2, ![a, b]⟩ : Shape) .f32) (init : FVec Ideal u .f32) (h : (⟨2, ![a, b]⟩ : Shape).ReducesTo [0] (⟨1, ![b]⟩ : Shape))
    (hu : 0 < u.numel) (hz : init (Shape.Idx.first hu) = 0) (k : Fin b) :
    Host.reduceAdd v init h hu (ValueIdx.ix1 k) = ∑ r : Fin a, v (ValueIdx.ix2 r k) := by
  refine (Ideal.hostReduceAdd_r2_a0 h v _ _).trans ?_
  rw [hz, zero_add]
  rfl
/-- The host's sum of each row. -/
theorem host_rows (v : FVec Ideal (⟨2, ![a, b]⟩ : Shape) .f32) (init : FVec Ideal u .f32) (h : (⟨2, ![a, b]⟩ : Shape).ReducesTo [1] (⟨1, ![a]⟩ : Shape))
    (hu : 0 < u.numel) (hz : init (Shape.Idx.first hu) = 0) (k : Fin a) :
    Host.reduceAdd v init h hu (ValueIdx.ix1 k) = ∑ c : Fin b, v (ValueIdx.ix2 k c) := by
  refine (Ideal.hostReduceAdd_r2_a1 h v _ _).trans ?_
  rw [hz, zero_add]
  rfl
/-- The host's sum of a list. -/
theorem host_list (v : FVec Ideal (⟨1, ![a]⟩ : Shape) .f32) (init : FVec Ideal u .f32) (h : (⟨1, ![a]⟩ : Shape).ReducesTo [0] t)
    (hu : 0 < u.numel) (hz : init (Shape.Idx.first hu) = 0) (j : t.Idx) :
    Host.reduceAdd v init h hu j = ∑ r : Fin a, v (ValueIdx.ix1 r) := by
  refine (Ideal.hostReduceAdd_r1_a0 h v _ j).trans ?_
  rw [hz, zero_add]
  rfl

/-- A kernel's sum over a whole table. -/
theorem core_all (v : FVec Ideal (⟨3, ![1, a, b]⟩ : Shape) .f32) (acc : BitVec 32) (h : (⟨3, ![1, a, b]⟩ : Shape).Reduces [1, 2] (⟨1, ![1]⟩ : Shape))
    (hφ : FKind.Formats .f32) (hacc : acc = FKind.add.neutral .f32 hφ) (j : (⟨1, ![1]⟩ : Shape).Idx) :
    multiReduction .add [1, 2] (⟨1, ![1]⟩ : Shape) v acc h hφ hacc j = ∑ r : Fin a, ∑ c : Fin b, v (ValueIdx.ix3 0 r c) := by
  refine (Ideal.reduceAdd_r3_a12 h v j).trans ?_
  refine Finset.sum_congr rfl fun r _ => Finset.sum_congr rfl fun c _ => congrArg v ?_
  funext q
  match q with
  | ⟨0, _⟩ => exact Subsingleton.elim (α := Fin 1) _ _
  | ⟨1, _⟩ => rfl
  | ⟨2, _⟩ => rfl
/-- A kernel's sum of each column. -/
theorem core_cols (v : FVec Ideal (⟨2, ![a, b]⟩ : Shape) .f32) (acc : BitVec 32) (h : (⟨2, ![a, b]⟩ : Shape).Reduces [0] (⟨1, ![b]⟩ : Shape))
    (hφ : FKind.Formats .f32) (hacc : acc = FKind.add.neutral .f32 hφ) (k : Fin b) :
    multiReduction .add [0] (⟨1, ![b]⟩ : Shape) v acc h hφ hacc (ValueIdx.ix1 k) = ∑ r : Fin a, v (ValueIdx.ix2 r k) := by
  refine (Ideal.reduceAdd_r2_a0 h v _).trans ?_
  rfl
/-- A kernel's sum of one row. -/
theorem core_row (v : FVec Ideal (⟨2, ![1, b]⟩ : Shape) .f32) (acc : BitVec 32) (h : (⟨2, ![1, b]⟩ : Shape).Reduces [1] (⟨1, ![1]⟩ : Shape))
    (hφ : FKind.Formats .f32) (hacc : acc = FKind.add.neutral .f32 hφ) (j : (⟨1, ![1]⟩ : Shape).Idx) :
    multiReduction .add [1] (⟨1, ![1]⟩ : Shape) v acc h hφ hacc j = ∑ c : Fin b, v (ValueIdx.ix2 0 c) := by
  refine (Ideal.reduceAdd_r2_a1 h v j).trans ?_
  refine Finset.sum_congr rfl fun c _ => congrArg v ?_
  funext q
  match q with
  | ⟨0, _⟩ => exact Subsingleton.elim (α := Fin 1) _ _
  | ⟨1, _⟩ => rfl

end Cert.Means

end
-- ==== Proof.Batch.lean ====
module

public import proofs.«01_k».proof.Proof.Algebra
public import proofs.«01_k».proof.Proof.Reading
public import proofs.«01_k».proof.Pre_sorted_batch
public import Idealize.ShloMosaic.Lib.ReduceAll
public import Idealize.ShloMosaic.Lib.Affine
public import Idealize.ShloMosaic.Lib.Decide

@[expose] public section

noncomputable section

namespace Cert.Means

open Idealize.ShloMosaic Idealize.ShloMosaic.ValueIdx

/-! ## What the precondition says -/

/-- Finite features and ascending labels of the known classes. -/
structure Batch (x : Fin 160000 → Fin 256 → ℝ) (t : Fin 160000 → Nat) (f : FVec Ideal (⟨2, ![160000, 256]⟩ : Shape) .f32) (l : IVec (⟨1, ![160000]⟩ : Shape) 32) : Prop where
  val : ∀ r b, f (ix2 r b) = ((x r b : ℝ) : EReal)
  lab : ∀ r, (l (ix1 r)).toInt = t r
  lt : ∀ r, t r < 1000
  up : ∀ r s, r ≤ s → t r ≤ t s

/-- The precondition's side conditions. -/
theorem pre_facts : Cert.Pre_sorted_batch.Facts where
  bcast_S_S160000x256 := by decide
  reducesTo_S160000x256_S_d0_1 := by decide
  h_S_ := by decide
  bcast_S_S160000 := by decide
  reducesTo_S160000_S_d0 := by decide
  slices_S160000_S159999_0 := by decide
  slices_S160000_S159999_1 := by decide
  reducesTo_S159999_S_d0 := by decide

/-- A value whose absolute value is below infinity is a real. -/
theorem real_of_lt {y : EReal} (h : FloatOps.cmpf (F := Ideal) (φ := .f32) .olt (FloatOps.hostAbsf (F := Ideal) (φ := .f32) y) (Ideal.ofBits .f32 0x7F800000#32) = 1#1) :
    ∃ z : ℝ, y = (z : EReal) := by
  have e : Ideal.ofBits .f32 0x7F800000#32 = ⊤ := by simp [Ideal.ofBits, Ideal.ieee]
  rw [e] at h
  have h' : max y (-y) < ⊤ := of_decide_eq_true (by
    have : BitVec.ofBool (decide (max y (-y) < ⊤)) = 1#1 := h
    revert this
    cases decide (max y (-y) < ⊤) <;> decide)
  rw [max_lt_iff] at h'
  cases y with
  | bot => exact absurd h'.2 (by simp)
  | top => exact absurd h'.1 (by simp)
  | coe z => exact ⟨z, rfl⟩

/-- A part of a list, at an index. -/
theorem part_apply {n k o : Nat} (l : IVec (⟨1, ![n]⟩ : Shape) 32) (h : (⟨1, ![n]⟩ : Shape).Slices ![o] (⟨1, ![k]⟩ : Shape)) (a : Fin k) (j : (⟨1, ![n]⟩ : Shape).Idx)
    (e : (j 0).val = o + a.val) : extractStridedSlice (⟨1, ![k]⟩ : Shape) ![o] l h (ix1 a) = l j := by
  refine congrArg l (funext fun q => ?_)
  match q with
  | ⟨0, _⟩ => exact Fin.ext e.symm

/-- The batch that the precondition describes. -/
theorem batch_of_pre [Cert.Pre_sorted_batch.Facts] (f : FVec Ideal (⟨2, ![160000, 256]⟩ : Shape) .f32) (l : IVec (⟨1, ![160000]⟩ : Shape) 32)
    (h : Cert.Pre_sorted_batch.fn (F := Ideal) f l = fun _ => 1#1) : ∃ x t, Batch x t f l := by
  have h0 := congrFun h (Shape.Idx.first Cert.Pre_sorted_batch.Facts.h_S_)
  unfold Cert.Pre_sorted_batch.fn at h0
  dsimp only at h0
  obtain ⟨h1, hup⟩ := IntOp.andi_eq_one.1 h0
  obtain ⟨hfin, hlab⟩ := IntOp.andi_eq_one.1 h1
  have fin := fun i => Host.reduce_andi_eq_one _ _ _ _ _ hfin i (by exact Subsingleton.elim _ _)
  have lab := fun i => Host.reduce_andi_eq_one _ _ _ _ _ hlab i (by exact Subsingleton.elim _ _)
  have asc := fun i => Host.reduce_andi_eq_one _ _ _ _ _ hup i (by exact Subsingleton.elim _ _)
  have hx : ∀ r : Fin 160000, ∀ b : Fin 256, ∃ z : ℝ, f (ix2 r b) = (z : EReal) := fun r b => real_of_lt (fin (ix2 r b))
  have hl : ∀ r : Fin 160000, 0 ≤ (l (ix1 r)).toInt ∧ (l (ix1 r)).toInt < 1000 := fun r => by
    obtain ⟨h1, h2⟩ := IntOp.andi_eq_one.1 (lab (ix1 r))
    exact ⟨IntOp.cmpi_sge.1 h1, IntOp.cmpi_slt.1 h2⟩
  have hs : ∀ n : Nat, ∀ h : n + 1 < 160000, (l (ix1 (⟨n, by omega⟩ : Fin 160000))).toInt ≤ (l (ix1 (⟨n + 1, h⟩ : Fin 160000))).toInt := fun n h => by
    have := IntOp.cmpi_sle.1 (asc (ix1 (⟨n, by omega⟩ : Fin 159999)))
    rw [part_apply _ _ _ (ix1 (⟨n, by omega⟩ : Fin 160000)) (Nat.zero_add n).symm,
      part_apply _ _ _ (ix1 (⟨n + 1, h⟩ : Fin 160000)) (Nat.add_comm n 1)] at this
    exact this
  choose x hx using hx
  refine ⟨x, fun r => (l (ix1 r)).toInt.toNat, hx, fun r => (Int.toNat_of_nonneg (hl r).1).symm, fun r => by have := hl r; omega, ?_⟩
  have key : ∀ d n : Nat, ∀ h : n + d < 160000, (l (ix1 (⟨n, by omega⟩ : Fin 160000))).toInt ≤ (l (ix1 (⟨n + d, h⟩ : Fin 160000))).toInt := by
    intro d n
    induction d with
    | zero => exact fun _ => le_refl _
    | succ d ih => exact fun h => le_trans (ih (by omega)) (hs (n + d) h)
  intro r s hrs
  have := key (s.val - r.val) r.val (by omega)
  rw [show (⟨r.val + (s.val - r.val), by omega⟩ : Fin 160000) = s from Fin.ext (by show r.val + (s.val - r.val) = s.val; have : r.val ≤ s.val := hrs; omega)] at this
  exact Int.toNat_le_toNat this

end Cert.Means

end
-- ==== Proof.RefReading.lean ====
module

public import proofs.«01_k».proof.Proof.Reading
public import proofs.«01_k».proof.Proof.Gen.ReferenceIdeal
public import Idealize.ShloMosaic.Lib.ValueIdxCore
public import Idealize.ShloMosaic.Lib.ValueLayout
public import Idealize.ShloMosaic.Lib.Routing.OpsPair

@[expose] public section

noncomputable section

namespace Cert.Means

open Idealize.ShloMosaic Idealize.ShloMosaic.ValueIdx Cert.ReferenceIdeal Cert.ReferenceIdeal.Gen

/-! ## The reference's scatters and its gather, read at an index -/

/-- A scatter that adds, at an index: what lands there is added. -/
theorem scatter_apply {s si u : Shape} {w : Nat} (d : ScatterDims s si u) (z : FVec Ideal s .f32) (I : IVec si w) (v : FVec Ideal u .f32) (i : s.Idx) :
    Host.scatterAdd d z I v i = z i + ∑ j ∈ Finset.univ.filter (fun j => d.resultIdx? j I = some i), v j := rfl

/-- A row of the features lands at the row that its label names, each column in its place. -/
theorem row_lands (I : IVec S160000x1 32) (r : Fin 160000) (k : Fin 256) (c : Fin 1000) (b : Fin 256) :
    scatter_S1000x256_S160000x1_S160000x256_1_0_0_1.resultIdx? (ix2 r k) I = some (ix2 c b) ↔ (I (ix2 r 0)).toInt = c.val ∧ k = b := by
  have hs0 : scatter_S1000x256_S160000x1_S160000x256_1_0_0_1.start (ix2 r k) I 0 = (I (ix2 r 0)).toInt := by
    unfold ScatterDims.start
    rw [dif_pos (show (0 : Fin 2) ∈ scatter_S1000x256_S160000x1_S160000x256_1_0_0_1.scatterDimsToOperandDims from List.mem_singleton.mpr rfl)]
    congr 2
    funext q
    match q with
    | ⟨0, _⟩ => rfl
    | ⟨1, _⟩ => rfl
  have hs1 : scatter_S1000x256_S160000x1_S160000x256_1_0_0_1.start (ix2 r k) I 1 = 0 := by
    unfold ScatterDims.start
    exact dif_neg (show ¬ (1 : Fin 2) ∈ [(0 : Fin 2)] by decide)
  have hw0 : scatter_S1000x256_S160000x1_S160000x256_1_0_0_1.window (ix2 r k) 0 = 0 := rfl
  have hw1 : scatter_S1000x256_S160000x1_S160000x256_1_0_0_1.window (ix2 r k) 1 = k.val := rfl
  rw [Routing.resultIdx?_ix2, hs0, hs1, hw0, hw1]
  constructor
  · rintro ⟨h1, h2⟩
    exact ⟨by omega, Fin.ext (by omega)⟩
  · rintro ⟨h1, rfl⟩
    exact ⟨by omega, by omega⟩

/-- A one lands at the class that the label names. -/
theorem one_lands (I : IVec S160000x1 32) (r : Fin 160000) (c : Fin 1000) :
    scatter_S1000_S160000x1_S160000_n_0_0_1.resultIdx? (ix1 r) I = some (ix1 c) ↔ (I (ix2 r 0)).toInt = c.val := by
  have hs0 : scatter_S1000_S160000x1_S160000_n_0_0_1.start (ix1 r) I 0 = (I (ix2 r 0)).toInt := by
    unfold ScatterDims.start
    rw [dif_pos (show (0 : Fin 1) ∈ scatter_S1000_S160000x1_S160000_n_0_0_1.scatterDimsToOperandDims from List.mem_singleton.mpr rfl)]
    congr 2
    funext q
    match q with
    | ⟨0, _⟩ => rfl
    | ⟨1, _⟩ => rfl
  have hw0 : scatter_S1000_S160000x1_S160000_n_0_0_1.window (ix1 r) 0 = 0 := rfl
  rw [Routing.resultIdx?_ix1, hs0, hw0]
  omega

/-- The sums of the rows by label. -/
theorem add_rows (z v) (I : IVec S160000x1 32) (c : Fin 1000) (b : Fin 256) :
    Host.scatterAdd (F := Ideal) (φ := .f32) scatter_S1000x256_S160000x1_S160000x256_1_0_0_1 z I v (ix2 c b)
      = z (ix2 c b) + ∑ r : Fin 160000, if (I (ix2 r 0)).toInt = c.val then v (ix2 r b) else 0 := by
  rw [scatter_apply]
  refine congrArg (z (ix2 c b) + ·) ?_
  rw [Finset.sum_filter, sum_idx2]
  refine Finset.sum_congr rfl fun r _ => ?_
  simp only [row_lands]
  by_cases h : (I (ix2 r 0)).toInt = c.val
  · simp only [h, true_and, if_true]
    rw [Finset.sum_ite_eq' Finset.univ b, if_pos (Finset.mem_univ _)]
  · simp only [h, false_and, if_false]
    exact Finset.sum_const_zero

/-- The numbers of rows by label. -/
theorem add_ones (z v) (I : IVec S160000x1 32) (c : Fin 1000) :
    Host.scatterAdd (F := Ideal) (φ := .f32) scatter_S1000_S160000x1_S160000_n_0_0_1 z I v (ix1 c)
      = z (ix1 c) + ∑ r : Fin 160000, if (I (ix2 r 0)).toInt = c.val then v (ix1 r) else 0 := by
  rw [scatter_apply]
  refine congrArg (z (ix1 c) + ·) ?_
  rw [Finset.sum_filter, sum_list]
  refine Finset.sum_congr rfl fun r _ => ?_
  simp only [one_lands]

/-- The rows of a table that the labels name. -/
theorem take_row {α : Type} (M : S1000x256.Idx → α) (I : IVec S160000x1 32) (r : Fin 160000) (b : Fin 256) (c : Fin 1000) (h : (I (ix2 r 0)).toInt = c.val) :
    Host.gather gather_S1000x256_S160000x1_S160000x256_1_0_n_n_0_1_1256 M I (ix2 r b) = M (ix2 c b) := by
  unfold Host.gather
  congr 1
  have hsi : gather_S1000x256_S160000x1_S160000x256_1_0_n_n_0_1_1256.siIdx (ix2 r b) ⟨List.idxOf (0 : Fin 2) [(0 : Fin 2)], by decide⟩ = ix2 r 0 := by
    funext q
    match q with
    | ⟨0, _⟩ => rfl
    | ⟨1, _⟩ => rfl
  funext q
  refine Fin.ext ?_
  match q with
  | ⟨0, _⟩ =>
    show gather_S1000x256_S160000x1_S160000x256_1_0_n_n_0_1_1256.start (ix2 r b) I 0
      + gather_S1000x256_S160000x1_S160000x256_1_0_n_n_0_1_1256.batchCoord (ix2 r b) 0
      + gather_S1000x256_S160000x1_S160000x256_1_0_n_n_0_1_1256.offCoord (ix2 r b) 0 = c.val
    rw [show gather_S1000x256_S160000x1_S160000x256_1_0_n_n_0_1_1256.batchCoord (ix2 r b) 0 = 0 from rfl,
      show gather_S1000x256_S160000x1_S160000x256_1_0_n_n_0_1_1256.offCoord (ix2 r b) 0 = 0 from rfl]
    unfold GatherDims.start
    rw [dif_pos (show (0 : Fin 2) ∈ gather_S1000x256_S160000x1_S160000x256_1_0_n_n_0_1_1256.startIndexMap from List.mem_singleton.mpr rfl)]
    show min (I (gather_S1000x256_S160000x1_S160000x256_1_0_n_n_0_1_1256.siIdx (ix2 r b) ⟨List.idxOf (0 : Fin 2) [(0 : Fin 2)], by decide⟩)).toInt.toNat (1000 - 1) + 0 + 0 = c.val
    rw [hsi, h]
    omega
  | ⟨1, _⟩ =>
    show gather_S1000x256_S160000x1_S160000x256_1_0_n_n_0_1_1256.start (ix2 r b) I 1
      + gather_S1000x256_S160000x1_S160000x256_1_0_n_n_0_1_1256.batchCoord (ix2 r b) 1
      + gather_S1000x256_S160000x1_S160000x256_1_0_n_n_0_1_1256.offCoord (ix2 r b) 1 = b.val
    rw [show gather_S1000x256_S160000x1_S160000x256_1_0_n_n_0_1_1256.start (ix2 r b) I 1 = 0 from rfl,
      show gather_S1000x256_S160000x1_S160000x256_1_0_n_n_0_1_1256.batchCoord (ix2 r b) 1 = 0 from rfl,
      show gather_S1000x256_S160000x1_S160000x256_1_0_n_n_0_1_1256.offCoord (ix2 r b) 1 = b.val from rfl]
    omega

end Cert.Means

end
-- ==== Proof.RefValue.lean ====
module

public import proofs.«01_k».proof.Proof.Batch
public import proofs.«01_k».proof.Proof.RefReading
public import Idealize.ShloMosaic.Lib.Pipeline.Value

@[expose] public section

noncomputable section

namespace Cert.Means

open Idealize.ShloMosaic Idealize.ShloMosaic.ValueIdx Cert.ReferenceIdeal Cert.ReferenceIdeal.Gen

/-! ## The reference's results -/

variable (f : FVec Ideal S160000x256 .f32) (l : IVec S160000 32)

/-- The labels as a column. -/
def rCol : IVec S160000x1 32 := broadcastInDim S160000x1 ![0] bcast_S160000_S160000x1_0 l
/-- The numbers of rows. -/
def rNum : FVec Ideal S1000 .f32 :=
  Host.scatterAdd scatter_S1000_S160000x1_S160000_n_0_0_1 (broadcastInDim S1000 ![] bcast_S_S1000 (constant S_ .f32 0x00000000#32)) (rCol l)
    (broadcastInDim S160000 ![] bcast_S_S160000 (constant S_ .f32 0x3F800000#32))
/-- The sums of the rows. -/
def rSum : FVec Ideal S1000x256 .f32 :=
  Host.scatterAdd scatter_S1000x256_S160000x1_S160000x256_1_0_0_1 (broadcastInDim S1000x256 ![] bcast_S_S1000x256 (constant S_ .f32 0x00000000#32)) (rCol l) f
/-- The means. -/
def rMean : FVec Ideal S1000x256 .f32 :=
  Host.divf (rSum f l) (broadcastInDim S1000x256 ![0, 1] bcast_S1000x1_S1000x256_0_1 (broadcastInDim S1000x1 ![0] bcast_S1000_S1000x1_0
    (maximumf (rNum l) (broadcastInDim S1000 ![] bcast_S_S1000 (constant S_ .f32 0x3F800000#32)))))
/-- The mean of all rows. -/
def rAll : FVec Ideal S1x256 .f32 :=
  Host.divf (broadcastInDim S1x256 ![1] bcast_S256_S1x256_1 (Host.reduceAdd f (constant S_ .f32 0x00000000#32) reducesTo_S160000x256_S256_d0 h_S_))
    (broadcastInDim S1x256 ![] bcast_S_S1x256 (constant S_ .f32 0x481C4000#32))
/-- The distance of the means to it. -/
def rDev : FVec Ideal S1000x256 .f32 := subf (rMean f l) (broadcastInDim S1000x256 ![0, 1] bcast_S1x256_S1000x256_0_1 (rAll f))
/-- The separation. -/
def rSep : FVec Ideal S1 .f32 :=
  shapeCast S1 (Host.reduceAdd (mulf (rNum l) (Host.reduceAdd (mulf (rDev f l) (rDev f l)) (constant S_ .f32 0x00000000#32) reducesTo_S1000x256_S1000_d1 h_S_))
    (constant S_ .f32 0x00000000#32) reducesTo_S1000_S_d0 h_S_) shapeCasts_S_S1
/-- The places at which the means are taken. -/
def rPlace : IVec S160000x1 32 := broadcastInDim S160000x1 ![0] bcast_S160000_S160000x1_0
  (select (cmpi .slt l (broadcastInDim S160000 ![] bcast_S_S160000 (constantI S_ 32 0#32))) (addi l (broadcastInDim S160000 ![] bcast_S_S160000 (constantI S_ 32 1000#32))) l)
/-- Which of them are in range. -/
def rKnown : IVec S160000 1 := Host.reduce IntOp.andi
  (andi (cmpi .sge (rPlace l) (broadcastInDim S160000x1 ![] bcast_S_S160000x1 (constantI S_ 32 0#32)))
    (cmpi .sle (rPlace l) (broadcastInDim S160000x1 ![0, 1] bcast_S1x1_S160000x1_0_1 (broadcastInDim S1x1 ![1] bcast_S1_S1x1_1 (constantI S1 32 999#32)))))
  (constantI S_ 1 1#1) reducesTo_S160000x1_S160000_d1 h_S_
/-- The distance of the rows to their class's mean. -/
def rDiff : FVec Ideal S160000x256 .f32 := subf f (select (broadcastInDim S160000x256 ![0] bcast_S160000_S160000x256_0 (rKnown l))
  (Host.gather gather_S1000x256_S160000x1_S160000x256_1_0_n_n_0_1_1256 (rMean f l) (rPlace l)) (broadcastInDim S160000x256 ![] bcast_S_S160000x256 (constant S_ .f32 0x7FC00000#32)))
/-- The compactness. -/
def rComp : FVec Ideal S1 .f32 :=
  shapeCast S1 (Host.reduceAdd (mulf (rDiff f l) (rDiff f l)) (constant S_ .f32 0x00000000#32) reducesTo_S160000x256_S_d0_1 h_S_) shapeCasts_S_S1

variable {f l} {x : Fin 160000 → Fin 256 → ℝ} {t : Fin 160000 → Nat}

/-- The zero that the sums start from. -/
theorem zero_first : constant (F := Ideal) S_ .f32 0x00000000#32 (Shape.Idx.first h_S_) = 0 := Ideal.ofBits_zero_f32
/-- The word of the number of rows. -/
theorem ofBits_rows : Ideal.ofBits .f32 0x481C4000#32 = ((160000 : ℝ) : EReal) := by
  simp [Ideal.ofBits, Ideal.ieee, -EReal.coe_mul]; norm_num

/-- A column made of a list, at an index. -/
theorem col_apply {α : Type} (v : S160000.Idx → α) (r : Fin 160000) : broadcastInDim S160000x1 ![0] bcast_S160000_S160000x1_0 v (ix2 r 0) = v (ix1 r) :=
  broadcastInDim_apply _ _ _ _ _ fun a => by
    match a with
    | ⟨0, _⟩ => rfl

/-- The counts. -/
theorem rNum_apply (h : Batch x t f l) (c : Fin 1000) : rNum l (ix1 c) = ((num t c.val : ℝ) : EReal) := by
  unfold rNum
  rw [add_ones, broadcastInDim_scalar_apply]
  show Ideal.ofBits .f32 0x00000000#32 + _ = _
  rw [Ideal.ofBits_zero_f32, zero_add, num, cls, coe_sum]
  refine Finset.sum_congr rfl fun r _ => ?_
  rw [broadcastInDim_scalar_apply]
  show (if (rCol l (ix2 r 0)).toInt = _ then Ideal.ofBits .f32 0x3F800000#32 else 0) = _
  rw [Ideal.ofBits_one_f32, rCol, col_apply, h.lab r]
  by_cases e : t r = c.val
  · rw [if_pos e, if_pos (by exact_mod_cast e)]; rfl
  · rw [if_neg e, if_neg (by exact_mod_cast e)]; rfl
/-- The sums. -/
theorem rSum_apply (h : Batch x t f l) (c : Fin 1000) (b : Fin 256) : rSum f l (ix2 c b) = ((tot t x c.val b : ℝ) : EReal) := by
  unfold rSum
  rw [add_rows, broadcastInDim_scalar_apply]
  show Ideal.ofBits .f32 0x00000000#32 + _ = _
  rw [Ideal.ofBits_zero_f32, zero_add, tot, cls, coe_sum]
  refine Finset.sum_congr rfl fun r _ => ?_
  rw [rCol, col_apply, h.lab r, h.val r b]
  by_cases e : t r = c.val
  · rw [if_pos e, if_pos (by exact_mod_cast e)]
  · rw [if_neg e, if_neg (by exact_mod_cast e)]; rfl
/-- A quotient by a number of rows, or by one. -/
theorem div_num (p : ℝ) (c : Nat) : Ideal.div (p : EReal) (max ((num t c : ℝ) : EReal) 1) = ((p / max (num t c) 1 : ℝ) : EReal) := by
  rw [show max ((num t c : ℝ) : EReal) 1 = ((max (num t c) 1 : ℝ) : EReal) by
    rw [EReal.coe_strictMono.monotone.map_max]; rfl]
  exact div_real _ _ (ne_of_gt (lt_of_lt_of_le one_pos (le_max_right _ _)))
/-- A quotient at an index. -/
theorem divf_at {s : Shape} (a b : FVec Ideal s .f32) (i : s.Idx) : Host.divf a b i = Ideal.div (a i) (b i) := rfl
/-- A difference at an index. -/
theorem subf_at {s : Shape} (a b : FVec Ideal s .f32) (i : s.Idx) : subf a b i = a i - b i := rfl
/-- A maximum at an index. -/
theorem max_at {s : Shape} (a b : FVec Ideal s .f32) (i : s.Idx) : maximumf a b i = max (a i) (b i) := rfl
/-- A constant at an index. -/
theorem const_at {s : Shape} (w : BitVec 32) (i : s.Idx) : constant (F := Ideal) s .f32 w i = Ideal.ofBits .f32 w := rfl
/-- The means. -/
theorem rMean_apply (h : Batch x t f l) (c : Fin 1000) (b : Fin 256) : rMean f l (ix2 c b) = ((mean t x c.val b : ℝ) : EReal) := by
  unfold rMean
  rw [divf_at, broadcastInDim_apply _ _ _ _ (ix2 c 0) (fun a => by match a with | ⟨0, _⟩ => rfl | ⟨1, _⟩ => rfl),
    broadcastInDim_apply _ _ _ _ (ix1 c) (fun a => by match a with | ⟨0, _⟩ => rfl)]
  rw [max_at, broadcastInDim_scalar_apply, rSum_apply h, rNum_apply h, const_at, Ideal.ofBits_one_f32]
  exact div_num _ _
/-- The mean of all rows. -/
theorem rAll_apply (h : Batch x t f l) (b : Fin 256) : rAll f (ix2 0 b) = (((∑ r, x r b) / (160000 : Nat) : ℝ) : EReal) := by
  unfold rAll
  rw [divf_at, broadcastInDim_scalar_apply, broadcastInDim_apply _ _ _ _ (ix1 b) (fun a => by match a with | ⟨0, _⟩ => rfl), host_cols _ _ _ _ zero_first]
  show Ideal.div _ (Ideal.ofBits .f32 0x481C4000#32) = _
  rw [ofBits_rows, Finset.sum_congr rfl fun r _ => h.val r b, ← coe_sum, div_real _ _ (by norm_num)]
  norm_num
/-- The distance of the means to it. -/
theorem rDev_apply (h : Batch x t f l) (c : Fin 1000) (b : Fin 256) :
    rDev f l (ix2 c b) = ((mean t x c.val b - (∑ r, x r b) / (160000 : Nat) : ℝ) : EReal) := by
  unfold rDev
  rw [subf_at, broadcastInDim_apply _ _ _ _ (ix2 0 b) (fun a => by match a with | ⟨0, _⟩ => rfl | ⟨1, _⟩ => rfl), rMean_apply h, rAll_apply h, EReal.coe_sub]
/-- The separation. -/
theorem rSep_apply (h : Batch x t f l) (j : S1.Idx) :
    rSep f l j = ((∑ b, ∑ c ∈ Finset.range 1000, num t c * ((mean t x c b - (∑ r, x r b) / (160000 : Nat)) * (mean t x c b - (∑ r, x r b) / (160000 : Nat))) : ℝ) : EReal) := by
  unfold rSep shapeCast
  rw [host_list _ _ _ _ zero_first, Finset.sum_comm, Finset.sum_range, coe_sum]
  refine Finset.sum_congr rfl fun c _ => ?_
  show rNum l (ix1 c) * _ = _
  rw [rNum_apply h, host_rows _ _ _ _ zero_first, ← Finset.mul_sum, EReal.coe_mul, coe_sum]
  refine congrArg (((num t c.val : ℝ) : EReal) * ·) (Finset.sum_congr rfl fun b _ => ?_)
  show rDev f l (ix2 c b) * rDev f l (ix2 c b) = _
  rw [rDev_apply h, EReal.coe_mul]

/-- The places are the labels. -/
theorem rPlace_apply (h : Batch x t f l) (r : Fin 160000) : (rPlace l (ix2 r 0)).toInt = t r := by
  unfold rPlace
  rw [col_apply]
  show (Scalar.select (IntOp.cmpi .slt (l (ix1 r)) _) _ (l (ix1 r))).toInt = _
  rw [broadcastInDim_scalar_apply]
  have e := eq_zero_of_ne_one (b := IntOp.cmpi .slt (l (ix1 r)) (constantI S_ 32 0#32 ix0)) fun e => by
    have h1 := IntOp.cmpi_slt.1 e
    rw [h.lab r, show (constantI S_ 32 0#32 ix0).toInt = 0 from rfl] at h1
    omega
  rw [e, select_zero, h.lab r]
/-- All are in range. -/
theorem rKnown_apply (h : Batch x t f l) (j : S160000.Idx) : rKnown l j = 1#1 := by
  unfold rKnown
  refine Host.reduce_andi_one _ _ _ _ _ rfl fun i => ?_
  obtain ⟨r, rfl⟩ : ∃ r : Fin 160000, i = ix2 r 0 := ⟨i 0, by
    funext q
    match q with
    | ⟨0, _⟩ => rfl
    | ⟨1, _⟩ => exact Subsingleton.elim (α := Fin 1) _ _⟩
  have hp := rPlace_apply h r
  have hlt := h.lt r
  refine IntOp.andi_eq_one.2 ⟨IntOp.cmpi_sge.2 ?_, IntOp.cmpi_sle.2 ?_⟩
  · rw [broadcastInDim_scalar_apply, hp, show (constantI S_ 32 0#32 ix0).toInt = 0 from rfl]
    omega
  · rw [hp]
    show (t r : Int) ≤ (999#32 : BitVec 32).toInt
    rw [show (999#32 : BitVec 32).toInt = 999 from rfl]
    omega
/-- The distance of the rows to their class's mean. -/
theorem rDiff_apply (h : Batch x t f l) (r : Fin 160000) (b : Fin 256) : rDiff f l (ix2 r b) = ((x r b - mean t x (t r) b : ℝ) : EReal) := by
  unfold rDiff
  rw [subf_at]
  refine congrArg (f (ix2 r b) - ·) (show Scalar.select _ _ _ = ((mean t x (t r) b : ℝ) : EReal) from ?_) |>.trans (by rw [h.val r b, EReal.coe_sub])
  rw [broadcastInDim_apply _ _ _ _ (ix1 r) (fun a => by match a with | ⟨0, _⟩ => rfl), rKnown_apply h, select_one,
    take_row _ _ r b ⟨t r, h.lt r⟩ (rPlace_apply h r), rMean_apply h]
/-- The compactness. -/
theorem rComp_apply (h : Batch x t f l) (j : S1.Idx) :
    rComp f l j = ((∑ b, ∑ r, (x r b - mean t x (t r) b) * (x r b - mean t x (t r) b) : ℝ) : EReal) := by
  unfold rComp shapeCast
  rw [host_all _ _ _ _ zero_first, Finset.sum_comm, coe_sum]
  refine Finset.sum_congr rfl fun b _ => ?_
  rw [coe_sum]
  refine Finset.sum_congr rfl fun r _ => ?_
  show rDiff f l (ix2 r b) * rDiff f l (ix2 r b) = _
  rw [rDiff_apply h, EReal.coe_mul]

end Cert.Means

end
-- ==== Proof.Search.lean ====
module

public import proofs.«01_k».proof.Proof.Ranges

@[expose] public section

noncomputable section

namespace Cert.KernelIdeal.Tile

open Idealize.ShloMosaic Idealize.SL.Sem Cert.KernelIdeal.Gen Idealize.ShloMosaic.ValueIdx

variable {F : FTy → Type} [FloatOps F]

/-! ## The searches find the place at which a class starts -/

/-- The words `L` up to place `M` are in order. -/
abbrev Sorted (L : Nat → BitVec 32) (M : Nat) : Prop := ∀ a b, a ≤ b → b < M → (L a).toInt ≤ (L b).toInt

/-- What is known between the steps of a search: blocks before the lower bound start below `w`, blocks from the upper bound on do not. -/
structure Known (L : Nat → BitVec 32) (w : BitVec 32) (k K : Nat) (r : BitVec 32 × BitVec 32) : Prop where
  lo0 : 0 ≤ r.1.toInt
  le : r.1.toInt ≤ r.2.toInt
  hiK : r.2.toInt ≤ K
  below : ∀ b : Nat, (b : Int) < r.1.toInt → (L (b * k)).toInt < w.toInt
  above : ∀ b : Nat, r.2.toInt ≤ b → b < K → w.toInt ≤ (L (b * k)).toInt

/-- A step keeps what is known and halves what is open. -/
theorem known_step {L : Nat → BitVec 32} {w : BitVec 32} {k K : Nat} {cap kb : BitVec 32} {r : BitVec 32 × BitVec 32} (hs : Sorted L (K * k)) (hk0 : 0 < k)
    (hk : kb.toInt = k) (hk' : k ≤ 16) (hK : K ≤ 1000000) (hc : cap.toInt = K - 1) (h0 : 0 < K) (h : Known L w k K r) :
    Known L w k K (narrow (middle cap r) (L (Scalar.muli (middle cap r) kb).toNat) w r)
      ∧ 2 * ((narrow (middle cap r) (L (Scalar.muli (middle cap r) kb).toNat) w r).2.toInt - (narrow (middle cap r) (L (Scalar.muli (middle cap r) kb).toNat) w r).1.toInt)
          ≤ r.2.toInt - r.1.toInt := by
  obtain ⟨h1, h2, h3, h4, h5⟩ := h
  have hm := middle_toInt cap r (K := K) (by exact_mod_cast hK) h1 (by omega) (by omega) h3
  rw [narrow_eq]
  generalize middle cap r = m at *
  by_cases hlt : r.1.toInt < r.2.toInt
  · rw [if_pos hlt]
    have hm0 : 0 ≤ m.toInt := by omega
    have hmK : m.toInt < K := by omega
    have hmn := toNat_of_nonneg m hm0
    have e : (Scalar.muli m kb).toNat = m.toNat * k := by
      have := mul_toNat (k := kb) hm0 (by omega) (by omega) (by omega)
      rw [hk, ← hmn] at this
      exact_mod_cast this
    rw [e]
    have hmono : ∀ a b : Nat, a ≤ b → b < K → (L (a * k)).toInt ≤ (L (b * k)).toInt := fun a b hab hb =>
      hs _ _ (Nat.mul_le_mul_right k hab) (Nat.mul_lt_mul_of_pos_right hb hk0)
    by_cases hx : (L (m.toNat * k)).toInt < w.toInt
    · rw [if_pos hx]
      have e1 : (Scalar.addi m 1#32).toInt = m.toInt + 1 := by
        rw [toInt_addi] <;> rw [show (1#32 : BitVec 32).toInt = 1 from rfl] <;> omega
      refine ⟨⟨?_, ?_, h3, fun b hb => ?_, h5⟩, ?_⟩
      · show 0 ≤ (Scalar.addi m 1#32).toInt; omega
      · show (Scalar.addi m 1#32).toInt ≤ r.2.toInt; omega
      · have hb' : (b : Int) < (Scalar.addi m 1#32).toInt := hb
        have := hmono b m.toNat (by omega) (by omega)
        omega
      · show 2 * (r.2.toInt - (Scalar.addi m 1#32).toInt) ≤ _; omega
    · rw [if_neg hx]
      refine ⟨⟨h1, ?_, ?_, h4, fun b hb hbK => ?_⟩, ?_⟩
      · show r.1.toInt ≤ m.toInt; omega
      · show m.toInt ≤ K; omega
      · have hb' : m.toInt ≤ (b : Int) := hb
        have := hmono m.toNat b (by omega) hbK
        omega
      · show 2 * (m.toInt - r.1.toInt) ≤ _; omega
  · rw [if_neg hlt]
    exact ⟨⟨h1, h2, h3, h4, h5⟩, by omega⟩

/-- After enough steps nothing is open. -/
theorem known_loop {L : Nat → BitVec 32} {w : BitVec 32} {k K : Nat} {cap kb : BitVec 32} (r : BitVec 32 × BitVec 32) (hs : Sorted L (K * k)) (hk0 : 0 < k)
    (hk : kb.toInt = k) (hk' : k ≤ 16) (hK : K ≤ 1000000) (hc : cap.toInt = K - 1) (h0 : 0 < K) (h : Known L w k K r) :
    ∀ n : Nat, Known L w k K (loopM (fun _ r => narrow (middle cap r) (L (Scalar.muli (middle cap r) kb).toNat) w r) n r)
      ∧ 2 ^ n * ((loopM (fun _ r => narrow (middle cap r) (L (Scalar.muli (middle cap r) kb).toNat) w r) n r).2.toInt
          - (loopM (fun _ r => narrow (middle cap r) (L (Scalar.muli (middle cap r) kb).toNat) w r) n r).1.toInt) ≤ r.2.toInt - r.1.toInt
  | 0 => ⟨h, by show 2 ^ 0 * (r.2.toInt - r.1.toInt) ≤ _; omega⟩
  | n + 1 => by
    obtain ⟨i1, i2⟩ := known_loop r hs hk0 hk hk' hK hc h0 h n
    obtain ⟨s1, s2⟩ := known_step hs hk0 hk hk' hK hc h0 i1
    refine ⟨s1, ?_⟩
    show 2 ^ (n + 1) * ((narrow _ _ w _).2.toInt - (narrow _ _ w _).1.toInt) ≤ _
    refine le_trans ?_ i2
    rw [pow_succ, mul_assoc]
    exact mul_le_mul_of_nonneg_left s2 (by positivity)

/-- The number of the first places at which a test that ends once holds is where it ends. -/
theorem filter_range (p : Nat → Bool) : ∀ m : Nat, (∀ a b, a ≤ b → b < m → p b = true → p a = true) →
    ((List.range m).filter p).length ≤ m ∧ ∀ n, n < m → (p n = true ↔ n < ((List.range m).filter p).length)
  | 0, _ => ⟨by simp, fun n hn => absurd hn (Nat.not_lt_zero n)⟩
  | m + 1, h => by
    obtain ⟨i1, i2⟩ := filter_range p m fun a b hab hb => h a b hab (by omega)
    rw [List.range_succ, List.filter_append, List.length_append]
    by_cases hp : p m = true
    · have hall : ((List.range m).filter p).length = m := by
        rcases Nat.eq_zero_or_pos m with rfl | hm
        · simp
        · have := (i2 (m - 1) (by omega)).mp (h (m - 1) m (by omega) (by omega) hp)
          omega
      rw [List.filter_cons_of_pos hp]
      refine ⟨by simp [hall], fun n hn => ?_⟩
      simp only [hall, List.filter_nil, List.length_singleton]
      exact ⟨fun _ => by omega, fun _ => h n m (by omega) (by omega) hp⟩
    · rw [List.filter_cons_of_neg hp, List.filter_nil, List.length_nil, Nat.add_zero]
      refine ⟨by omega, fun n hn => ?_⟩
      rcases Nat.lt_succ_iff_lt_or_eq.mp hn with hn | rfl
      · exact i2 n hn
      · exact ⟨fun h => absurd h hp, fun h => by omega⟩

/-- Sixteen words in order: those below `w` are counted. -/
theorem count_spec (l : Nat → BitVec 32) (w : BitVec 32) (hs : Sorted l 16) (n : Nat) (hn : n < 16) : (l n).toInt < w.toInt ↔ (n : Int) < (count l w).toInt := by
  rw [count_toInt, show cols = List.range 16 from rfl]
  have h := (filter_range (fun n => decide ((l n).toInt < w.toInt)) 16 fun a b hab hb hp => by
    rw [decide_eq_true_eq] at hp ⊢
    have := hs a b hab hb
    omega).2 n hn
  rw [decide_eq_true_eq] at h
  rw [h]
  omega

/-- The place a search names splits the words at `w`. -/
theorem place_spec {L : Nat → BitVec 32} {w b kb : BitVec 32} {k K : Nat} {l : Nat → BitVec 32} (hs : Sorted L ((K - 1) * k + 16)) (hk0 : 0 < k) (hk : kb.toInt = k) (hk' : k ≤ 16)
    (hK : K ≤ 1000000) (h0 : 0 < K) (h1 : 0 ≤ b.toInt) (h2 : b.toInt ≤ K) (hlo : ∀ c : Nat, (c : Int) < b.toInt → (L (c * k)).toInt < w.toInt)
    (hhi : ∀ c : Nat, b.toInt ≤ c → c < K → w.toInt ≤ (L (c * k)).toInt) (hl : ∀ n, n < 16 → l n = L ((b.toNat - 1) * k + n)) (r : Nat) (hr : r < (K - 1) * k + 16) :
    (L r).toInt < w.toInt ↔ (r : Int) < (placeOf kb b l w).toInt := by
  have hb := toNat_of_nonneg b h1
  rw [placeOf_toInt l w (by omega) (by omega) h1 (by omega)]
  by_cases hz : b.toInt = 0
  · rw [if_pos hz]
    have a1 := hhi 0 (by omega) h0
    have a2 := hs 0 r (by omega) hr
    rw [Nat.zero_mul] at a1
    omega
  · rw [if_neg hz]
    obtain ⟨c, hc⟩ : ∃ c, b.toNat = c + 1 := ⟨b.toNat - 1, by omega⟩
    have hcK : c ≤ K - 1 := by omega
    have hck : c * k ≤ (K - 1) * k := Nat.mul_le_mul_right k hcK
    rw [hc, Nat.add_sub_cancel] at hl
    have e : (b.toInt - 1) * kb.toInt = ((c * k : Nat) : Int) := by rw [hk, ← hb, hc]; push_cast; rw [Int.add_sub_cancel]
    rw [e]
    have hls : Sorted l 16 := fun x y hxy hy => by rw [hl x (by omega), hl y hy]; exact hs _ _ (by omega) (by omega)
    have hcr := count_range l w
    rcases Nat.lt_or_ge r (c * k) with hlt | hge
    · have a1 := hlo c (by omega)
      have a2 := hs r (c * k) hlt.le (by omega)
      omega
    · rcases Nat.lt_or_ge r (c * k + 16) with hlt | hge'
      · have a1 := count_spec l w hls (r - c * k) (by omega)
        rw [hl _ (by omega), show c * k + (r - c * k) = r by omega] at a1
        omega
      · have hcK' : c + 1 < K := by
          by_contra hcc
          have : c = K - 1 := by omega
          rw [this] at hge'
          omega
        have a1 := hhi (c + 1) (by omega) hcK'
        have e2 : (c + 1) * k = c * k + k := Nat.succ_mul c k
        have a2 := hs ((c + 1) * k) r (by omega) hr
        omega

theorem trips6 : k0_t6_loop.trips = 4 := by decide
theorem trips3 : k0_t3_loop.trips = 15 := by decide

/-- A step of the search in a chunk, without vectors. -/
theorem find_step (L : Nat → BitVec 32) (w : BitVec 32) : findStep F L w = fun _ r => narrow (middle 11#32 r) (L (Scalar.muli (middle 11#32 r) 16#32).toNat) w r := by
  funext _ r
  unfold findStep
  rw [lane_eq _ 0 (by decide), off28_eq]
  rfl
/-- A step of the search among all labels, without vectors. -/
theorem seek_step (T : Nat → BitVec 32) (w : BitVec 32) : seekStep F T w = fun _ r => narrow (middle 19999#32 r) (T (Scalar.muli (middle 19999#32 r) 8#32).toNat) w r := by
  funext _ r
  unfold seekStep
  rw [lane_eq _ 0 (by decide), off20_eq]
  rfl

/-- The place `clb` names splits a chunk's labels. -/
theorem clb_spec (L : Nat → BitVec 32) (hs : Sorted L 192) (w : BitVec 32) (r : Nat) (hr : r < 192) : (L r).toInt < w.toInt ↔ (r : Int) < (clb F L w).toInt := by
  have h := known_loop (w := w) (cap := 11#32) (kb := 16#32) (k := 16) (K := 12) (0#32, 12#32) hs (by decide) rfl (by decide) (by decide) rfl (by decide)
    ⟨by decide, by decide, by decide, fun b hb => absurd hb (by show ¬ (b : Int) < 0; omega), fun b hb hb' => absurd hb (by show ¬ (12 : Int) ≤ b; omega)⟩ k0_t6_loop.trips
  have hf : findM F L w = loopM (fun _ r => narrow (middle 11#32 r) (L (Scalar.muli (middle 11#32 r) 16#32).toNat) w r) k0_t6_loop.trips (0#32, 12#32) := by
    rw [← find_step (F := F)]; rfl
  rw [← hf, trips6, show ((0#32, 12#32) : BitVec 32 × BitVec 32).2.toInt - ((0#32, 12#32) : BitVec 32 × BitVec 32).1.toInt = 12 from rfl] at h
  obtain ⟨⟨h1, h2, h3, h4, h5⟩, h6⟩ := h
  unfold clb
  generalize findM F L w = b at *
  refine place_spec (k := 16) (K := 12) hs (by decide) rfl (by decide) (by decide) (by decide) h1 (by omega) h4 (fun c hc hc' => h5 c (by omega) hc') (fun n hn => ?_) r hr
  rw [lane_eq _ n hn, off29_eq]
  show L (_ + n % 16) = _
  have e := before_toInt h1 (by omega)
  have e1 := mul_toNat (m := Scalar.maxsi (Scalar.subi b.1 1#32) 0#32) (k := 16#32) (by omega) (by omega) (by decide) (by decide)
  have e2 := toNat_of_nonneg b.1 h1
  rw [show (16#32 : BitVec 32).toInt = 16 from rfl, e] at e1
  rw [Nat.mod_eq_of_lt hn]
  congr 2
  omega

/-- The row `rowOf` names splits the labels. -/
theorem rowOf_spec (T : Nat → BitVec 32) (hs : Sorted T 160016) (w : BitVec 32) (r : Nat) (hr : r < 160008) : (T r).toInt < w.toInt ↔ (r : Int) < (rowOf F T w).toInt := by
  have h := known_loop (w := w) (cap := 19999#32) (kb := 8#32) (k := 8) (K := 20000) (0#32, 20000#32) (fun a b hab hb => hs a b hab (by omega)) (by decide) rfl (by decide) (by decide) rfl (by decide)
    ⟨by decide, by decide, by decide, fun b hb => absurd hb (by show ¬ (b : Int) < 0; omega), fun b hb hb' => absurd hb (by show ¬ (20000 : Int) ≤ b; omega)⟩ k0_t3_loop.trips
  have hf : seekM F T w = loopM (fun _ r => narrow (middle 19999#32 r) (T (Scalar.muli (middle 19999#32 r) 8#32).toNat) w r) k0_t3_loop.trips (0#32, 20000#32) := by
    rw [← seek_step (F := F)]; rfl
  rw [← hf, trips3, show ((0#32, 20000#32) : BitVec 32 × BitVec 32).2.toInt - ((0#32, 20000#32) : BitVec 32 × BitVec 32).1.toInt = 20000 from rfl] at h
  obtain ⟨⟨h1, h2, h3, h4, h5⟩, h6⟩ := h
  unfold rowOf seen
  generalize seekM F T w = b at *
  refine place_spec (k := 8) (K := 20000) (fun a b hab hb => hs a b hab (by omega)) (by decide) rfl (by decide) (by decide) (by decide) h1 (by omega) h4 (fun c hc hc' => h5 c (by omega) hc') (fun n hn => ?_) r hr
  rw [lane_eq _ n hn, off21_eq]
  show T (_ + n % 16) = _
  have e := before_toInt h1 (by omega)
  have e1 := mul_toNat (m := Scalar.maxsi (Scalar.subi b.1 1#32) 0#32) (k := 8#32) (by omega) (by omega) (by decide) (by decide)
  have e2 := toNat_of_nonneg b.1 h1
  rw [show (8#32 : BitVec 32).toInt = 8 from rfl, e] at e1
  rw [Nat.mod_eq_of_lt hn]
  congr 2
  omega

end Cert.KernelIdeal.Tile

end
-- ==== Proof.Sums.lean ====
module

public import proofs.«01_k».proof.Proof.Search
public import Idealize.ShloMosaic.Lib.IdealHost
public import Mathlib.Algebra.BigOperators.Group.Finset.Basic
public import Mathlib.Tactic.Ring

@[expose] public section

noncomputable section

namespace Cert.KernelIdeal.Tile

open Idealize.ShloMosaic Idealize.SL.Sem Cert.KernelIdeal.Gen Idealize.ShloMosaic.ValueIdx

/-! ## Sums over the rows taken so far -/

open Classical in
/-- The sum of `g` over the rows before `p` of which `P` holds. -/
def upto (P : Nat → Prop) (g : Nat → ℝ) (p : Nat) : ℝ := ∑ r ∈ Finset.range p, if P r then g r else 0

/-- Rows of which `P` holds all are added. -/
theorem upto_all {P : Nat → Prop} {g : Nat → ℝ} {p n : Nat} (h : ∀ k, k < n → P (p + k)) : upto P g (p + n) = upto P g p + ∑ k ∈ Finset.range n, g (p + k) := by
  unfold upto
  rw [Finset.sum_range_add]
  congr 1
  exact Finset.sum_congr rfl fun k hk => if_pos (h k (Finset.mem_range.1 hk))
/-- Rows of which `P` holds nowhere add nothing. -/
theorem upto_none {P : Nat → Prop} {g : Nat → ℝ} {p n : Nat} (h : ∀ k, k < n → ¬ P (p + k)) : upto P g (p + n) = upto P g p := by
  unfold upto
  rw [Finset.sum_range_add]
  refine add_eq_left.mpr (Finset.sum_eq_zero fun k hk => if_neg (h k (Finset.mem_range.1 hk)))
/-- The same, to a row named. -/
theorem upto_skip {P : Nat → Prop} {g : Nat → ℝ} {p q : Nat} (hpq : p ≤ q) (h : ∀ r, p ≤ r → r < q → ¬ P r) : upto P g q = upto P g p := by
  obtain ⟨n, rfl⟩ := Nat.exists_eq_add_of_le hpq
  exact upto_none fun k hk => h _ (by omega) (by omega)

/-- A tile's tables hold the sums over the rows before `p`. -/
structure Rep (x : Nat → Nat → ℝ) (T : Nat → BitVec 32) (v : BitVec 32) (st : St Ideal) (p : Nat) : Prop where
  sums : ∀ a b, a < 32 → b < 256 → st.sums a b = ((upto (fun r => (T r).toInt = v.toInt + a) (fun r => x r b) p : ℝ) : EReal)
  nums : ∀ a b, a < 32 → b < 16 → st.nums a b = ((upto (fun r => (T r).toInt = v.toInt + a) (fun _ => 1) p : ℝ) : EReal)
  sq : ∀ j n, j < 16 → n < 16 → vOf st.sq j (ix n)
    = ((upto (fun r => v.toInt ≤ (T r).toInt ∧ (T r).toInt < v.toInt + 32) (fun r => x r (16 * j + n) * x r (16 * j + n)) p : ℝ) : EReal)

variable {x : Nat → Nat → ℝ} {X : Nat → Nat → Ideal .f32} {T : Nat → BitVec 32} {v : BitVec 32} {st : St Ideal}

/-- Rows of other tiles' classes change nothing. -/
theorem Rep.skip {p q : Nat} (h : Rep x T v st p) (hpq : p ≤ q) (hn : ∀ r, p ≤ r → r < q → ¬ (v.toInt ≤ (T r).toInt ∧ (T r).toInt < v.toInt + 32)) : Rep x T v st q := by
  refine ⟨fun a b ha hb => ?_, fun a b ha hb => ?_, fun j n hj hn' => ?_⟩
  · rw [h.sums a b ha hb, upto_skip hpq fun r h1 h2 h3 => hn r h1 h2 (by omega)]
  · rw [h.nums a b ha hb, upto_skip hpq fun r h1 h2 h3 => hn r h1 h2 (by omega)]
  · rw [h.sq j n hj hn', upto_skip hpq fun r h1 h2 h3 => hn r h1 h2 h3]

theorem mem_cols {j : Nat} : j ∈ cols ↔ j < 16 := by rw [show cols = List.range 16 from rfl, List.mem_range]
theorem sOf_tup32 {F : FTy → Type} (f g : Nat → FVec F S16 .f32) {j : Nat} (hj : j < 16) : sOf (tup32 f g) j = f j :=
  all16 (P := fun j => sOf (tup32 f g) j = f j) rfl rfl rfl rfl rfl rfl rfl rfl rfl rfl rfl rfl rfl rfl rfl rfl j (mem_cols.2 hj)
theorem qOf_tup32 {F : FTy → Type} (f g : Nat → FVec F S16 .f32) {j : Nat} (hj : j < 16) : qOf (tup32 f g) j = g j :=
  all16 (P := fun j => qOf (tup32 f g) j = g j) rfl rfl rfl rfl rfl rfl rfl rfl rfl rfl rfl rfl rfl rfl rfl rfl j (mem_cols.2 hj)
theorem vOf_tup16 {F : FTy → Type} (g : Nat → FVec F S16 .f32) {j : Nat} (hj : j < 16) : vOf (tup16 g) j = g j :=
  all16 (P := fun j => vOf (tup16 g) j = g j) rfl rfl rfl rfl rfl rfl rfl rfl rfl rfl rfl rfl rfl rfl rfl rfl j (mem_cols.2 hj)

theorem flat_blk {F : FTy → Type} (G : Nat → Nat → F .f32) (r j n : Nat) (hn : n < 16) : flat (blk G r j) (ix n) = G r (16 * j + n) := by
  unfold flat
  rw [shapeCast_1a_a_apply]
  show G r (16 * j + n % 16) = _
  rw [Nat.mod_eq_of_lt hn]

/-- The sums behind rows of a chunk. -/
theorem rows_sum {R : Nat → Nat → Ideal .f32} {y : Nat → Nat → ℝ} (hR : ∀ r b, R r b = ((y r b : ℝ) : EReal)) (row : Nat → Nat) (a : T32 Ideal) (s q : Nat → Nat → ℝ)
    (hs : ∀ j n, j < 16 → n < 16 → sOf a j (ix n) = ((s j n : ℝ) : EReal)) (hq : ∀ j n, j < 16 → n < 16 → qOf a j (ix n) = ((q j n : ℝ) : EReal)) :
    ∀ t : Nat, (∀ j n, j < 16 → n < 16 → sOf (loopM (fun t a => rowM R (row t) a) t a) j (ix n) = ((s j n + ∑ k ∈ Finset.range t, y (row k) (16 * j + n) : ℝ) : EReal))
      ∧ ∀ j n, j < 16 → n < 16 → qOf (loopM (fun t a => rowM R (row t) a) t a) j (ix n)
          = ((q j n + ∑ k ∈ Finset.range t, y (row k) (16 * j + n) * y (row k) (16 * j + n) : ℝ) : EReal)
  | 0 => ⟨fun j n hj hn => by rw [Finset.sum_range_zero, add_zero]; exact hs j n hj hn, fun j n hj hn => by rw [Finset.sum_range_zero, add_zero]; exact hq j n hj hn⟩
  | t + 1 => by
    obtain ⟨i1, i2⟩ := rows_sum hR row a s q hs hq t
    refine ⟨fun j n hj hn => ?_, fun j n hj hn => ?_⟩
    · show sOf (rowM R (row t) _) j (ix n) = _
      unfold rowM
      rw [sOf_tup32 _ _ hj, Finset.sum_range_succ, ← add_assoc, EReal.coe_add, ← i1 j n hj hn, ← hR, ← flat_blk R _ j n hn]
      rfl
    · show qOf (rowM R (row t) _) j (ix n) = _
      unfold rowM
      rw [qOf_tup32 _ _ hj, Finset.sum_range_succ, ← add_assoc, EReal.coe_add, ← i2 j n hj hn, EReal.coe_mul, ← hR, ← flat_blk R _ j n hn]
      rfl

/-- A loop's steps need only agree on the numbers it runs through. -/
theorem loopM_congr {σ : Type} {f g : Nat → σ → σ} {a : σ} : ∀ n : Nat, (∀ t s, t < n → f t s = g t s) → loopM f n a = loopM g n a
  | 0, _ => rfl
  | n + 1, h => by
    show f n _ = g n _
    rw [loopM_congr n fun t s ht => h t s (by omega)]
    exact h n _ (by omega)

/-- A class of a chunk is added. -/
theorem Rep.class {L : Nat → BitVec 32} {rel c : BitVec 32} {B : Nat} (hX : ∀ r b, X r b = ((x r b : ℝ) : EReal))
    (h : Rep x T v st (B + (loM rel st).toNat)) (h0 : 0 ≤ (loM rel st).toInt) (hv0 : 0 ≤ v.toInt) (hv1 : v.toInt ≤ 992) (hc0 : v.toInt ≤ c.toInt) (hc1 : c.toInt < v.toInt + 32)
    (hrow : ∀ r, B + (loM rel st).toNat ≤ r → r < B + (hiM (F := Ideal) L rel c st).toNat → (T r).toInt = c.toInt) :
    Rep x T v (classM (fun a b => X (B + a) b) L v rel c st) (B + (hiM (F := Ideal) L rel c st).toNat) := by
  have hmx : (hiM (F := Ideal) L rel c st).toInt = max (clb Ideal L (Scalar.addi c 1#32)).toInt (loM rel st).toInt := toInt_max _ _
  have ht := run_trips (loM rel st) (hiM (F := Ideal) L rel c st)
  have e0 := toNat_of_nonneg _ h0
  have e1 := toNat_of_nonneg (hiM (F := Ideal) L rel c st) (by omega)
  have hcl := (clb_range (F := Ideal) L (Scalar.addi c 1#32)).2
  have er : (Scalar.subi c v).toInt = c.toInt - v.toInt := toInt_subi c v (by omega) (by omega)
  have er' := toNat_of_nonneg (Scalar.subi c v) (by omega)
  have hrng := toInt_range (loM rel st)
  have hrng2 := toInt_range (hiM (F := Ideal) L rel c st)
  have ed : (Scalar.subi (hiM (F := Ideal) L rel c st) (loM rel st)).toInt = (hiM (F := Ideal) L rel c st).toInt - (loM rel st).toInt := toInt_subi _ _ (by omega) (by omega)
  obtain ⟨n, hn⟩ : ∃ n, n = (run (loM rel st) (hiM (F := Ideal) L rel c st)).trips := ⟨_, rfl⟩
  obtain ⟨A, hA⟩ : ∃ A, A = B + (loM rel st).toNat := ⟨_, rfl⟩
  have hAn : B + (hiM (F := Ideal) L rel c st).toNat = A + n := by omega
  rw [← hA] at h hrow
  rw [hAn] at hrow ⊢
  have hlab : ∀ k, k < n → (T (A + k)).toInt = c.toInt := fun k hk => hrow _ (by omega) (by omega)
  have hR : rowsM (fun a b => X (B + a) b) L v rel c st
      = loopM (fun t a => rowM (fun a b => X (B + a) b) ((loM rel st).toNat + t) a) n (tup32 (fun j => flat (blk st.sums (Scalar.subi c v).toNat j)) (vOf st.sq)) := by
    unfold rowsM
    rw [← hn]
    refine loopM_congr n fun t s htn => ?_
    have hiv := (run_iv (lo := loM rel st) (hi := hiM (F := Ideal) L rel c st) ⟨t, hn ▸ htn⟩).1
    have h2 := toNat_of_nonneg (Scf.iv (loM rel st) 1#32 t) (by show 0 ≤ (Scf.iv _ _ _).toInt; rw [hiv]; show 0 ≤ _ + (t : Int); omega)
    rw [show (Scf.iv (loM rel st) 1#32 t).toNat = (loM rel st).toNat + t by
      have h3 : (Scf.iv (loM rel st) 1#32 t).toInt = (loM rel st).toInt + t := hiv
      omega]
  have hb16 : ∀ b : Nat, 16 * (b / 16) + b % 16 = b := fun b => Nat.div_add_mod b 16
  obtain ⟨i1, i2⟩ := rows_sum (R := fun a b => X (B + a) b) (y := fun a b => x (B + a) b) (fun r b => hX _ _) (fun t => (loM rel st).toNat + t)
    (tup32 (fun j => flat (blk st.sums (Scalar.subi c v).toNat j)) (vOf st.sq))
    (fun j n => upto (fun r => (T r).toInt = v.toInt + (Scalar.subi c v).toNat) (fun r => x r (16 * j + n)) A)
    (fun j n => upto (fun r => v.toInt ≤ (T r).toInt ∧ (T r).toInt < v.toInt + 32) (fun r => x r (16 * j + n) * x r (16 * j + n)) A)
    (fun j n hj hn => by rw [sOf_tup32 _ _ hj, flat_blk _ _ _ _ hn]; exact h.sums _ _ (by omega) (by omega))
    (fun j n hj hn => by rw [qOf_tup32 _ _ hj]; exact h.sq _ _ hj hn) n
  rw [← hR] at i1 i2
  have hk : ∀ k, B + ((loM rel st).toNat + k) = A + k := fun k => by omega
  simp only [hk] at i1 i2
  refine ⟨fun a b ha hb => ?_, fun a b ha hb => ?_, fun j n' hj hn' => ?_⟩
  · show setRow _ _ _ a b = _
    unfold setRow
    by_cases hac : a = (Scalar.subi c v).toNat
    · rw [if_pos ⟨hac, mem_cols.2 (by omega)⟩, i1 _ _ (by omega) (Nat.mod_lt _ (by decide)), upto_all (fun k hk => by rw [hlab k hk]; omega), hac]
      simp only [hb16]
    · rw [if_neg fun hh => hac hh.1, h.sums a b ha hb, upto_none (fun k hk => by rw [hlab k hk]; omega)]
  · show setOne _ _ _ a b = _
    unfold setOne
    by_cases hac : a = (Scalar.subi c v).toNat
    · rw [if_pos ⟨hac, by omega⟩, upto_all (fun k hk => by rw [hlab k hk]; omega), Finset.sum_const, Finset.card_range, nsmul_eq_mul, mul_one, EReal.coe_add, ← h.nums a b ha hb]
      unfold k0_pay606
      show shapeCast S1x16 _ _ (ix2 (0 : Fin 1) (⟨b % 16, _⟩ : Fin 16)) = _
      rw [shapeCast_a_1a_apply]
      show flat (blk st.nums (Scalar.subi c v).toNat 0) (ix b) + Ideal.ofBits .f32 0x3F800000#32 * (((Scalar.subi (hiM (F := Ideal) L rel c st) (loM rel st)).toInt : ℝ) : EReal) = _
      rw [flat_blk _ _ _ _ hb, Idealize.ShloMosaic.Ideal.ofBits_one_f32, one_mul, ed, show 16 * 0 + b = b by omega, ← hac,
        show (hiM (F := Ideal) L rel c st).toInt - (loM rel st).toInt = (n : Int) by omega, Int.cast_natCast]
    · rw [if_neg fun hh => hac hh.1, h.nums a b ha hb, upto_none (fun k hk => by rw [hlab k hk]; omega)]
  · show vOf (tup16 _) j (ix n') = _
    rw [vOf_tup16 _ hj, i2 j n' hj hn', upto_all (fun k hk => by rw [hlab k hk]; omega)]

end Cert.KernelIdeal.Tile

end
-- ==== Proof.TileSums.lean ====
module

public import proofs.«01_k».proof.Proof.Sums
public import proofs.«01_k».proof.Proof.WpSearch

@[expose] public section

noncomputable section

namespace Cert.KernelIdeal.Tile

open Idealize.ShloMosaic Idealize.SL.Sem Cert.KernelIdeal.Gen Idealize.ShloMosaic.ValueIdx

variable {x : Nat → Nat → ℝ} {X : Nat → Nat → Ideal .f32} {T : Nat → BitVec 32} {v : BitVec 32} {st : St Ideal}

/-! ## What a tile's tables hold at the end -/

/-- What holds between the classes of a chunk: the rows of the classes before `e` are taken. -/
structure Between (x : Nat → Nat → ℝ) (T : Nat → BitVec 32) (v : BitVec 32) (B : Nat) (rel : BitVec 32) (e : Int) (st : St Ideal) : Prop where
  at0 : 0 ≤ st.at_.toInt
  at1 : st.at_.toInt ≤ 192
  split : ∀ r, r < 192 → ((T (B + r)).toInt < e ↔ (r : Int) < st.at_.toInt)
  rep : Rep x T v st (B + (loM rel st).toNat)

/-- A class of a chunk keeps that. -/
theorem Between.step {B : Nat} {rel c : BitVec 32} (hX : ∀ r b, X r b = ((x r b : ℝ) : EReal)) (hs : Sorted T 160016) (hB : B + 192 ≤ 160016)
    (hr0 : 0 ≤ rel.toInt) (hr1 : rel.toInt ≤ 192) (hv0 : 0 ≤ v.toInt) (hv1 : v.toInt ≤ 992) (hc0 : v.toInt ≤ c.toInt) (hc1 : c.toInt < v.toInt + 32)
    (h : Between x T v B rel c.toInt st) : Between x T v B rel (c.toInt + 1) (classM (fun a b => X (B + a) b) (fun a => T (B + a)) v rel c st) := by
  obtain ⟨h0, h1, h2, h3⟩ := h
  have hL : Sorted (fun a => T (B + a)) 192 := fun a b hab hb => hs _ _ (by omega) (by omega)
  have hcl := clb_range (F := Ideal) (fun a => T (B + a)) (Scalar.addi c 1#32)
  have e1 : (Scalar.addi c 1#32).toInt = c.toInt + 1 := by
    rw [toInt_addi] <;> rw [show (1#32 : BitVec 32).toInt = 1 from rfl] <;> omega
  have hsp : ∀ r, r < 192 → ((T (B + r)).toInt < c.toInt + 1 ↔ (r : Int) < (clb Ideal (fun a => T (B + a)) (Scalar.addi c 1#32)).toInt) := fun r hr => by
    rw [← e1]; exact clb_spec _ hL _ r hr
  have elo : (loM rel st).toInt = max st.at_.toInt rel.toInt := toInt_max _ _
  have ehi : (hiM (F := Ideal) (fun a => T (B + a)) rel c st).toInt = max (clb Ideal (fun a => T (B + a)) (Scalar.addi c 1#32)).toInt (loM rel st).toInt := toInt_max _ _
  have n1 := toNat_of_nonneg (loM rel st) (by omega)
  have n2 := toNat_of_nonneg (hiM (F := Ideal) (fun a => T (B + a)) rel c st) (by omega)
  have hmono : st.at_.toInt ≤ (clb Ideal (fun a => T (B + a)) (Scalar.addi c 1#32)).toInt := by
    rcases Nat.eq_zero_or_pos st.at_.toInt.toNat with hz | hp
    · omega
    · have a1 := (h2 (st.at_.toInt.toNat - 1) (by omega)).mpr (by omega)
      have a2 := (hsp (st.at_.toInt.toNat - 1) (by omega)).mp (by omega)
      omega
  have hrep := Rep.class (L := fun a => T (B + a)) (rel := rel) (c := c) hX h3 (by omega) hv0 hv1 hc0 hc1 fun r hr hr' => by
    obtain ⟨k, rfl⟩ : ∃ k, r = B + k := ⟨r - B, by omega⟩
    have a1 := h2 k (by omega)
    have a2 := hsp k (by omega)
    omega
  refine ⟨hcl.1, hcl.2, hsp, ?_⟩
  have e2 : (loM rel (classM (fun a b => X (B + a) b) (fun a => T (B + a)) v rel c st)).toInt
      = max (clb Ideal (fun a => T (B + a)) (Scalar.addi c 1#32)).toInt rel.toInt := toInt_max _ _
  have n3 := toNat_of_nonneg (loM rel (classM (fun a b => X (B + a) b) (fun a => T (B + a)) v rel c st)) (by omega)
  rw [show (loM rel (classM (fun a b => X (B + a) b) (fun a => T (B + a)) v rel c st)).toNat = (hiM (F := Ideal) (fun a => T (B + a)) rel c st).toNat by omega]
  exact hrep

/-- What the class loop starts from holds the same sums. -/
theorem Rep.start {w : BitVec 32} {p : Nat} (h : Rep x T v st p) : Rep x T v { st with at_ := w, sq := tup16 (vOf st.sq) } p :=
  ⟨h.sums, h.nums, fun j n hj hn => by show vOf (tup16 (vOf st.sq)) j (ix n) = _; rw [vOf_tup16 _ hj]; exact h.sq j n hj hn⟩

/-- Chunks behind the last change nothing. -/
theorem Rep.pad {R : Nat → Nat → Ideal .f32} {L : Nat → BitVec 32} {rel c n : BitVec 32} {p : Nat} (h : Rep x T v st p) (hcn : n.toInt ≤ c.toInt) : Rep x T v (chunkM R L v rel c n st) p := by
  have e : cEnd v (fM Ideal L) (lM Ideal L) c n = cFirst v (fM Ideal L) := by
    unfold cEnd
    rw [cmp_slt, select_bool, if_neg (by rw [decide_eq_true_eq]; omega)]
  unfold chunkM
  rw [e, run_trips, Int.sub_self]
  exact h.start

/-- A chunk is added. -/
theorem Rep.chunk {B : Nat} {rel c n : BitVec 32} (hX : ∀ r b, X r b = ((x r b : ℝ) : EReal)) (hs : Sorted T 160016) (hT : ∀ r, r < 160016 → 0 ≤ (T r).toInt ∧ (T r).toInt ≤ 1025)
    (hB : B + 192 ≤ 160016) (hr0 : 0 ≤ rel.toInt) (hr1 : rel.toInt ≤ 192) (hv0 : 0 ≤ v.toInt) (hv1 : v.toInt ≤ 992) (hcn : c.toInt < n.toInt) (h : Rep x T v st (B + rel.toNat)) :
    Rep x T v (chunkM (fun a b => X (B + a) b) (fun a => T (B + a)) v rel c n st) (B + 192) := by
  have hL : Sorted (fun a => T (B + a)) 192 := fun a b hab hb => hs _ _ (by omega) (by omega)
  have ef : fM Ideal (fun a => T (B + a)) = T (B + 0) := lane_eq _ 0 (by decide)
  have el : lM Ideal (fun a => T (B + a)) = T (B + 191) := lane_eq _ 15 (by decide)
  have hf := hT (B + 0) (by omega)
  have hl := hT (B + 191) (by omega)
  unfold chunkM
  rw [ef, el]
  have eF : (cFirst v (T (B + 0))).toInt = max (T (B + 0)).toInt v.toInt := toInt_max _ _
  have e1 : (Scalar.addi (T (B + 191)) 1#32).toInt = (T (B + 191)).toInt + 1 := by
    rw [toInt_addi] <;> rw [show (1#32 : BitVec 32).toInt = 1 from rfl] <;> omega
  have e2 : (Scalar.addi v 32#32).toInt = v.toInt + 32 := by
    rw [toInt_addi] <;> rw [show (32#32 : BitVec 32).toInt = 32 from rfl] <;> omega
  have eE : (cEnd v (T (B + 0)) (T (B + 191)) c n).toInt = max (min ((T (B + 191)).toInt + 1) (v.toInt + 32)) (cFirst v (T (B + 0))).toInt := by
    unfold cEnd
    rw [cmp_slt, select_bool, if_pos (by rw [decide_eq_true_eq]; exact hcn), toInt_max, toInt_min, e1, e2]
  have htr := run_trips (cFirst v (T (B + 0))) (cEnd v (T (B + 0)) (T (B + 191)) c n)
  have hcl := clb_range (F := Ideal) (fun a => T (B + a)) (cFirst v (T (B + 0)))
  have nr := toNat_of_nonneg rel hr0
  have start : Between x T v B rel (cFirst v (T (B + 0))).toInt { st with at_ := clb Ideal (fun a => T (B + a)) (cFirst v (T (B + 0))), sq := tup16 (vOf st.sq) } := by
    refine ⟨hcl.1, hcl.2, fun r hr => clb_spec _ hL _ r hr, ?_⟩
    have elo : (loM rel { st with at_ := clb Ideal (fun a => T (B + a)) (cFirst v (T (B + 0))), sq := tup16 (vOf st.sq) }).toInt
        = max (clb Ideal (fun a => T (B + a)) (cFirst v (T (B + 0)))).toInt rel.toInt := toInt_max _ _
    have n1 := toNat_of_nonneg (loM rel { st with at_ := clb Ideal (fun a => T (B + a)) (cFirst v (T (B + 0))), sq := tup16 (vOf st.sq) }) (by omega)
    refine Rep.skip h.start (by omega) fun r hr hr' hh => ?_
    obtain ⟨k, rfl⟩ : ∃ k, r = B + k := ⟨r - B, by omega⟩
    have a1 := (clb_spec (F := Ideal) _ hL (cFirst v (T (B + 0))) k (by omega)).mpr (by omega)
    have a2 := hs (B + 0) (B + k) (by omega) (by omega)
    have a3 : (T (B + k)).toInt < (cFirst v (T (B + 0))).toInt := a1
    omega
  have key : ∀ t : Nat, t ≤ (run (cFirst v (T (B + 0))) (cEnd v (T (B + 0)) (T (B + 191)) c n)).trips →
      Between x T v B rel ((cFirst v (T (B + 0))).toInt + t) (classesM (fun a b => X (B + a) b) (fun a => T (B + a)) v rel t st) := by
    intro t
    induction t with
    | zero => intro _; rw [Nat.cast_zero, Int.add_zero]; unfold classesM; rw [ef]; exact start
    | succ t ih =>
      intro ht
      have i := ih (by omega)
      have hiv := run_iv (lo := cFirst v (T (B + 0))) (hi := cEnd v (T (B + 0)) (T (B + 191)) c n) ⟨t, ht⟩
      have e3 : (Scf.iv (cFirst v (T (B + 0))) 1#32 t).toInt = (cFirst v (T (B + 0))).toInt + t := hiv.1
      rw [← e3] at i
      have := Between.step hX hs hB hr0 hr1 hv0 hv1 (by omega) (by omega) i
      rw [e3, Int.add_assoc] at this
      push_cast
      unfold classesM at this ⊢
      rw [ef] at this ⊢
      exact this
  obtain ⟨h0, h1, h2, h3⟩ := key _ le_rfl
  generalize classesM (fun a b => X (B + a) b) (fun a => T (B + a)) v rel _ st = st' at *
  have elo : (loM rel st').toInt = max st'.at_.toInt rel.toInt := toInt_max _ _
  have n1 := toNat_of_nonneg (loM rel st') (by omega)
  refine h3.skip (by omega) fun r hr hr' hh => ?_
  obtain ⟨k, rfl⟩ : ∃ k, r = B + k := ⟨r - B, by omega⟩
  have a1 := h2 k (by omega)
  have a2 := hs (B + k) (B + 191) (by omega) (by omega)
  omega

/-- The first rows that are not taken after `k` chunks. -/
def front (lo : BitVec 32) (k : Nat) : Nat := min (lo.toInt.toNat / 8 * 8 + 192 * k) 160000

theorem front_le (lo : BitVec 32) (k : Nat) : front lo k ≤ 160000 := Nat.min_le_right _ _
theorem front_le' (lo : BitVec 32) (k : Nat) : front lo k ≤ lo.toInt.toNat / 8 * 8 + 192 * k := Nat.min_le_left _ _
theorem front_of_le {lo : BitVec 32} {k : Nat} (h : lo.toInt.toNat / 8 * 8 + 192 * k ≤ 160000) : front lo k = lo.toInt.toNat / 8 * 8 + 192 * k := Nat.min_eq_left h
theorem front_of_ge {lo : BitVec 32} {k : Nat} (h : 160000 ≤ lo.toInt.toNat / 8 * 8 + 192 * k) : front lo k = 160000 := Nat.min_eq_right h
theorem loopM_succ {σ : Type} (f : Nat → σ → σ) (n : Nat) (a : σ) : loopM f (n + 1) a = f n (loopM f n a) := rfl

/-- The chunk `c` of a tile is added. -/
theorem Rep.stepM {lo hi c : BitVec 32} {k : Nat} (hX : ∀ r b, X r b = ((x r b : ℝ) : EReal)) (hs : Sorted T 160016) (hT : ∀ r, r < 160016 → 0 ≤ (T r).toInt ∧ (T r).toInt ≤ 1025)
    (hv0 : 0 ≤ v.toInt) (hv1 : v.toInt ≤ 992) (hlo0 : 0 ≤ lo.toInt) (hlo1 : lo.toInt ≤ 160000) (hhi0 : 0 ≤ hi.toInt) (hhi1 : hi.toInt ≤ 160000)
    (hlo : ∀ r : Nat, r < 160000 → (r : Int) < lo.toInt → (T r).toInt < v.toInt) (hc : c.toInt = k) (hk : k ≤ 1000)
    (hkn : (k : Int) < (chunks lo hi).toInt) (h : Rep x T v st (front lo k)) : Rep x T v (stepM X T v lo hi c st) (front lo (k + 1)) := by
  have en := chunks_toInt hlo0 hlo1 hhi0 hhi1
  have eb := base_toInt (c := c) hlo0 hlo1 (by omega) (by omega)
  have ep := pos_toInt (c := c) hlo0 hlo1 (by omega) (by omega)
  have em : (Scalar.maxsi (pos lo c) lo).toInt = max (pos lo c).toInt lo.toInt := toInt_max _ _
  have er : (rel lo c).toInt = max (pos lo c).toInt lo.toInt - (base lo c).toInt := by
    unfold rel
    rw [toInt_subi] <;> rw [em] <;> omega
  have nb := toNat_of_nonneg (base lo c) (by omega)
  have nr := toNat_of_nonneg (rel lo c) (by omega)
  have e : front lo (k + 1) = (base lo c).toNat + 192 := by
    rcases Nat.le_total (lo.toInt.toNat / 8 * 8 + 192 * (k + 1)) 160000 with hq | hq
    · rw [front_of_le hq]; omega
    · rw [front_of_ge hq]; omega
  have hf : front lo k = lo.toInt.toNat / 8 * 8 + 192 * k := front_of_le (by omega)
  have hp : front lo k ≤ (base lo c).toNat + (rel lo c).toNat := by omega
  have hsk : Rep x T v st ((base lo c).toNat + (rel lo c).toNat) := h.skip hp fun r hr hr' hh => by
    have := hlo r (by omega) (by omega)
    omega
  rw [e]
  unfold Tile.stepM
  exact Rep.chunk hX hs hT (by omega) (by omega) (by omega) hv0 hv1 (by omega) hsk

/-- A tile's tables hold at the end the sums over all rows. -/
theorem tileM_rep (hX : ∀ r b, X r b = ((x r b : ℝ) : EReal)) (hs : Sorted T 160016) (hT : ∀ r, r < 160016 → 0 ≤ (T r).toInt ∧ (T r).toInt ≤ 1025)
    (hT' : ∀ n, 160000 ≤ n → T n = 1025#32) (hv0 : 0 ≤ v.toInt) (hv1 : v.toInt ≤ 992) : Rep x T v (tileM X T v) 160000 := by
  have e2 : (Scalar.addi v 32#32).toInt = v.toInt + 32 := by
    rw [toInt_addi] <;> rw [show (32#32 : BitVec 32).toInt = 32 from rfl] <;> omega
  obtain ⟨hlo0, hlo1⟩ := rowOf_range (F := Ideal) hT' (w := v) (by omega)
  obtain ⟨hhi0, hhi1⟩ := rowOf_range (F := Ideal) hT' (w := Scalar.addi v 32#32) (by omega)
  have slo := rowOf_spec (F := Ideal) T hs v
  have shi := rowOf_spec (F := Ideal) T hs (Scalar.addi v 32#32)
  unfold tileM
  generalize rowOf Ideal T v = lo at *
  generalize rowOf Ideal T (Scalar.addi v 32#32) = hi at *
  have hlo : ∀ r : Nat, r < 160000 → (r : Int) < lo.toInt → (T r).toInt < v.toInt := fun r hr hr' => (slo r (by omega)).mpr hr'
  have en := chunks_toInt hlo0 hlo1 hhi0 hhi1
  have ep := pairs_toInt hlo0 hlo1 hhi0 hhi1
  have htr := run_trips 0#32 (pairs lo hi)
  rw [show (0#32 : BitVec 32).toInt = 0 from rfl] at htr
  have hlh : lo.toInt ≤ hi.toInt := by
    rcases Nat.eq_zero_or_pos lo.toInt.toNat with hz | hp
    · omega
    · have a1 := hlo (lo.toInt.toNat - 1) (by omega) (by omega)
      have a2 := (shi (lo.toInt.toNat - 1) (by omega)).mp (by omega)
      omega
  have z : Rep x T v (st0 Ideal) 0 := by
    have hz : k0_pay1242 (F := Ideal) = fun _ => ((0 : ℝ) : EReal) := by
      funext y
      show Ideal.ofBits .f32 0x00000000#32 = _
      rw [Ideal.ofBits_zero_f32]; rfl
    refine ⟨fun a b ha hb => ?_, fun a b ha hb => ?_, fun j n hj hn => ?_⟩
    · show k0_pay1242 (F := Ideal) (ix b) = _
      rw [hz]; unfold upto; rw [Finset.sum_range_zero]
    · show k0_pay1242 (F := Ideal) (ix b) = _
      rw [hz]; unfold upto; rw [Finset.sum_range_zero]
    · show vOf (tup16 fun _ => k0_pay1242 (F := Ideal)) j (ix n) = _
      rw [vOf_tup16 _ hj, hz]; unfold upto; rw [Finset.sum_range_zero]
  have key : ∀ t : Nat, t ≤ (run 0#32 (pairs lo hi)).trips → Rep x T v (loopM (pairM X T v lo hi) t (st0 Ideal)) (front lo (min (2 * t) (chunks lo hi).toInt.toNat)) := by
    intro t
    induction t with
    | zero =>
      intro _
      refine z.skip (Nat.zero_le _) fun r _ hr hh => ?_
      have hf := front_le' lo (min (2 * 0) (chunks lo hi).toInt.toNat)
      have hf' := front_le lo (min (2 * 0) (chunks lo hi).toInt.toNat)
      have := hlo r (by omega) (by omega)
      omega
    | succ t ih =>
      intro ht
      have i := ih (by omega)
      have c1 := fst2_toInt (t := t) (by omega)
      have c2 := fst2_add (t := t) (by omega) 1#32 (by decide) (by decide)
      rw [show (1#32 : BitVec 32).toInt = 1 from rfl] at c2
      rw [show min (2 * t) (chunks lo hi).toInt.toNat = 2 * t by omega] at i
      have i1 := i.stepM (hi := hi) (c := fst2 t) hX hs hT hv0 hv1 hlo0 hlo1 hhi0 hhi1 hlo (by omega) (by omega) (by omega)
      rw [loopM_succ]
      unfold pairM
      by_cases hl : ((2 * t + 1 : Nat) : Int) < (chunks lo hi).toInt
      · have i2 := i1.stepM (hi := hi) (c := Scalar.addi (fst2 t) 1#32) hX hs hT hv0 hv1 hlo0 hlo1 hhi0 hhi1 hlo (by omega) (by omega) hl
        rw [show min (2 * (t + 1)) (chunks lo hi).toInt.toNat = 2 * t + 1 + 1 by omega]
        exact i2
      · rw [show min (2 * (t + 1)) (chunks lo hi).toInt.toNat = 2 * t + 1 by omega]
        exact i1.pad (by omega)
  have kl := key _ le_rfl
  refine kl.skip (front_le _ _) fun r hr hr' hh => ?_
  have := shi r (by omega)
  rcases Nat.le_total (lo.toInt.toNat / 8 * 8 + 192 * (min (2 * (run 0#32 (pairs lo hi)).trips) (chunks lo hi).toInt.toNat)) 160000 with hq | hq
  · rw [front_of_le hq] at hr; omega
  · rw [front_of_ge hq] at hr; omega

end Cert.KernelIdeal.Tile

end
-- ==== Proof.Totals.lean ====
module

public import proofs.«01_k».proof.Proof.Batch
public import proofs.«01_k».proof.Proof.TileSums
public import proofs.«01_k».proof.Proof.Deal
public import Idealize.ShloMosaic.Lib.Pipeline.Value

@[expose] public section

noncomputable section

namespace Cert.Means

open Idealize.ShloMosaic Idealize.ShloMosaic.ValueIdx Cert.KernelIdeal Cert.KernelIdeal.Gen Cert.KernelIdeal.Tile

/-! ## What the tiles' tables add up to -/

variable {f : FVec Ideal S160000x256 .f32} {l : IVec S160000 32} {x : Fin 160000 → Fin 256 → ℝ} {t : Fin 160000 → Nat}

/-- The features at any two numbers. -/
def xs (x : Fin 160000 → Fin 256 → ℝ) (a b : Nat) : ℝ := x ⟨a % 160000, Nat.mod_lt _ (by decide)⟩ ⟨b % 256, Nat.mod_lt _ (by decide)⟩

/-- The features at numbers in range. -/
theorem xs_fin (x : Fin 160000 → Fin 256 → ℝ) (a : Fin 160000) (b : Fin 256) : xs x a.val b.val = x a b := by
  unfold xs
  rw [show (⟨a.val % 160000, Nat.mod_lt _ (by decide)⟩ : Fin 160000) = a from Fin.ext (Nat.mod_eq_of_lt a.isLt),
    show (⟨b.val % 256, Nat.mod_lt _ (by decide)⟩ : Fin 256) = b from Fin.ext (Nat.mod_eq_of_lt b.isLt)]

/-- The table of labels in range. -/
theorem tab_toInt (h : Batch x t f l) (r : Fin 160000) : (tabM l r.val).toInt = t r := by
  show (if r.val < 160000 then labM l r.val else 1025#32).toInt = _
  rw [if_pos r.isLt]
  show (l (ix1 ⟨r.val % 160000, _⟩)).toInt = _
  rw [show (⟨r.val % 160000, Nat.mod_lt _ (by decide)⟩ : Fin 160000) = r from Fin.ext (Nat.mod_eq_of_lt r.isLt), h.lab r]

/-- The word of a class. -/
theorem toInt_class {n : Nat} (h : n < 1024) : (BitVec.ofNat 32 n).toInt = n := by
  rw [BitVec.toInt_eq_toNat_of_lt] <;> rw [BitVec.toNat_ofNat, Nat.mod_eq_of_lt (by omega)]
  omega

/-- A tile's tables hold the sums over its classes. -/
theorem tile_rep (h : Batch x t f l) {w : Nat} (hw : w < 32) : Rep (xs x) (tabM l) (BitVec.ofNat 32 (w * 32)) (tileOf f l w) 160000 := by
  have hv := toInt_class (n := w * 32) (by omega)
  have hbig : ∀ r : Nat, 160000 ≤ r → (tabM l r).toInt = 1025 := fun r hr => by rw [tabM_big l r hr]; rfl
  have hin : ∀ r : Nat, (hr : r < 160000) → (tabM l r).toInt = t ⟨r, hr⟩ := fun r hr => tab_toInt h ⟨r, hr⟩
  refine tileM_rep (fun r b => h.val _ _) (fun a b hab hb => ?_) (fun r hr => ?_) (tabM_big l) (by omega) (by omega)
  · by_cases h2 : b < 160000
    · rw [hin a (by omega), hin b h2]
      exact_mod_cast h.up _ _ hab
    · rw [hbig b (by omega)]
      by_cases h1 : a < 160000
      · rw [hin a h1]
        have := h.lt ⟨a, h1⟩
        omega
      · rw [hbig a (by omega)]
  · by_cases h1 : r < 160000
    · rw [hin r h1]
      have := h.lt ⟨r, h1⟩
      omega
    · rw [hbig r (by omega)]
      omega

/-- A sum over the numbers below `n` as a sum over indices. -/
theorem upto_fin {n : Nat} (P : Nat → Prop) (g : Nat → ℝ) (P' : Fin n → Prop) [DecidablePred P'] (g' : Fin n → ℝ) (hP : ∀ r : Fin n, P r.val ↔ P' r) (hg : ∀ r : Fin n, g r.val = g' r) :
    upto P g n = ∑ r, if P' r then g' r else 0 := by
  unfold upto
  rw [Finset.sum_range]
  refine Finset.sum_congr rfl fun r _ => ?_
  by_cases e : P' r
  · rw [if_pos e, if_pos ((hP r).2 e), hg r]
  · rw [if_neg e, if_neg fun hh => e ((hP r).1 hh)]

/-- The sums by class. -/
theorem outSums_apply (h : Batch x t f l) (c : Fin 1024) (b : Fin 256) : outSums f l (ix2 c b) = ((tot t x c.val b : ℝ) : EReal) := by
  have hc := c.isLt
  have hv := toInt_class (n := c.val / 32 * 32) (by omega)
  show (tileOf f l (c.val / 32)).sums (c.val % 32) b.val = _
  rw [(tile_rep h (w := c.val / 32) (by omega)).sums _ _ (Nat.mod_lt _ (by decide)) b.isLt,
    upto_fin _ _ (fun r => t r = c.val) (fun r => x r b) (fun r => by rw [tab_toInt h r, hv]; omega) (fun r => xs_fin x r b)]
  rfl
/-- The numbers by class. -/
theorem outNums_apply (h : Batch x t f l) (c : Fin 1024) (k : Fin 16) : outNums f l (ix2 c k) = ((num t c.val : ℝ) : EReal) := by
  have hc := c.isLt
  have hv := toInt_class (n := c.val / 32 * 32) (by omega)
  show (tileOf f l (c.val / 32)).nums (c.val % 32) k.val = _
  rw [(tile_rep h (w := c.val / 32) (by omega)).nums _ _ (Nat.mod_lt _ (by decide)) k.isLt,
    upto_fin _ _ (fun r => t r = c.val) (fun r => 1) (fun r => by rw [tab_toInt h r, hv]; omega) (fun r => rfl)]
  rfl

/-- A column by its two numbers. -/
def colOf (j : Fin 16) (k : Fin 16) : Fin 256 := ⟨16 * j.val + k.val, by have := j.isLt; have := k.isLt; omega⟩

/-- A chain of sixteen numbers. -/
theorem chain_sum (g : Nat → EReal) : ((((((((((((((g 0 + g 1) + g 2) + g 3) + g 4) + g 5) + g 6) + g 7) + g 8) + g 9) + g 10) + g 11) + g 12) + g 13) + g 14) + g 15 = ∑ j : Fin 16, g j.val := by
  rw [← Finset.sum_range]
  simp only [Finset.sum_range_succ, Finset.sum_range_zero, zero_add]

/-- A sum at an index. -/
theorem add_at {s : Shape} (a b : FVec Ideal s .f32) (i : s.Idx) : addf a b i = a i + b i := rfl
/-- A tile's vector of squares. -/
theorem sqM_eq (st : St Ideal) (i : S16.Idx) : sqM st i = ∑ j : Fin 16, vOf st.sq j.val i := by
  unfold sqM k0_pay1312
  rw [shapeCast_self]
  simp only [add_at]
  exact chain_sum fun j => vOf st.sq j i

/-- The squares by tile and lane. -/
theorem outSq_apply (h : Batch x t f l) (w : Fin 32) (k : Fin 16) : outSq f l (ix2 w k)
    = ((∑ j : Fin 16, ∑ r, (if w.val * 32 ≤ t r ∧ t r < w.val * 32 + 32 then x r (colOf j k) * x r (colOf j k) else 0) : ℝ) : EReal) := by
  have hw := w.isLt
  have hv := toInt_class (n := w.val * 32) (by omega)
  show sqM (tileOf f l w.val) (ix1 k) = _
  rw [sqM_eq, coe_sum]
  refine Finset.sum_congr rfl fun j _ => ?_
  have e : (ix1 k : S16.Idx) = ix k.val := congrArg ix1 (Fin.ext (Nat.mod_eq_of_lt k.isLt).symm)
  rw [e, (tile_rep h hw).sq j.val k.val j.isLt k.isLt,
    upto_fin _ _ (fun r => w.val * 32 ≤ t r ∧ t r < w.val * 32 + 32) (fun r => x r (colOf j k) * x r (colOf j k)) (fun r => by rw [tab_toInt h r, hv]; omega)
      (fun r => by rw [show xs x r.val (16 * j.val + k.val) = x r (colOf j k) from xs_fin x r (colOf j k)])]

/-- The columns by their two numbers. -/
theorem sum_cols {M : Type*} [AddCommMonoid M] (g : Fin 256 → M) : ∑ k : Fin 16, ∑ j : Fin 16, g (colOf j k) = ∑ b, g b := by
  rw [Finset.sum_comm, ← Fintype.sum_prod_type' (f := fun j k => g (colOf j k))]
  refine Fintype.sum_equiv (finProdFinEquiv (m := 16) (n := 16)) _ _ fun p => ?_
  exact congrArg g (Fin.ext (show 16 * p.1.val + p.2.val = p.2.val + 16 * p.1.val by omega))

/-- All squares. -/
theorem sum_outSq (h : Batch x t f l) : ∑ w : Fin 32, ∑ k : Fin 16, outSq f l (ix2 w k) = ((∑ b, ∑ r, x r b * x r b : ℝ) : EReal) := by
  have e : ∀ w k, outSq f l (ix2 w k) = _ := outSq_apply h
  rw [Finset.sum_congr rfl fun w _ => Finset.sum_congr rfl fun k _ => e w k]
  rw [Finset.sum_congr rfl fun w _ => (coe_sum _ _).symm, ← coe_sum]
  refine congrArg _ ?_
  rw [← sum_cols, Finset.sum_comm]
  refine Finset.sum_congr rfl fun k _ => ?_
  rw [Finset.sum_comm]
  refine Finset.sum_congr rfl fun j _ => ?_
  exact sum_parts (W := 32) (fun r => lt_trans (h.lt r) (by decide)) _

end Cert.Means

end
-- ==== Proof.Value.lean ====
module

public import proofs.«01_k».proof.Proof.RefValue
public import proofs.«01_k».proof.Proof.Totals
public import proofs.«01_k».proof.Proof.Main

@[expose] public section

noncomputable section

namespace Cert.Means

open Idealize.ShloMosaic Idealize.ShloMosaic.ValueIdx Cert.KernelIdeal Cert.KernelIdeal.Gen Cert.KernelIdeal.Tile

/-! ## The kernel's results, and that the reference's are the same -/

variable {f : FVec Ideal S160000x256 .f32} {l : IVec S160000 32} {x : Fin 160000 → Fin 256 → ℝ} {t : Fin 160000 → Nat}

/-- A core's quotient at an index. -/
theorem quot_at {s : Shape} (a b : FVec Ideal s .f32) (i : s.Idx) : divf a b i = Ideal.div (a i) (b i) := rfl
/-- A product at an index. -/
theorem mul_at {s : Shape} (a b : FVec Ideal s .f32) (i : s.Idx) : mulf a b i = a i * b i := rfl
/-- The column of counts that the combining kernel reads. -/
theorem countCol_apply (n : Vec Ideal S1024x16 .f32) (c : Fin 1024) : countCol n (ix2 c 0) = n (ix2 c 0) := by
  refine congrArg n (funext fun q => Fin.ext ?_)
  match q with
  | ⟨0, _⟩ => exact (show 0 + 1 * c.val = c.val by omega)
  | ⟨1, _⟩ => rfl
/-- The combining kernel's means. -/
theorem pay2_apply (h : Batch x t f l) (c : Fin 1024) (b : Fin 256) :
    Gen.k1_pay2 (F := Ideal) (outSums f l) (countCol (outNums f l)) (ix2 c b) = ((mean t x c.val b : ℝ) : EReal) := by
  unfold Gen.k1_pay2 Gen.k1_pay1
  rw [quot_at, shapeCast_self, shapeCast_self, outSums_apply h,
    broadcastTo_apply _ _ _ (ix2 c 0) (fun a => by match a with | ⟨0, _⟩ => rfl | ⟨1, _⟩ => rfl), max_at, countCol_apply, outNums_apply h]
  show Ideal.div _ (max _ (Ideal.ofBits .f32 0x3F800000#32)) = _
  rw [Ideal.ofBits_one_f32]
  exact div_num _ _
/-- The combining kernel's sum over the classes. -/
theorem pay3_eq (h : Batch x t f l) :
    Gen.k1_pay3 (F := Ideal) (outSums f l) (countCol (outNums f l)) = ((∑ b, ∑ c ∈ Finset.range 1024, tot t x c b * mean t x c b : ℝ) : EReal) := by
  have key : ∀ j, multiReduction .add [1, 2] S1 (shapeCast S1x1024x256 (mulf (Gen.k1_pay1 (F := Ideal) (outSums f l)) (Gen.k1_pay2 (F := Ideal) (outSums f l) (countCol (outNums f l)))) shapeCasts_S1024x256_S1x1024x256)
      0x00000000#32 reduces_S1x1024x256_S1 (.inl rfl) rfl j = ((∑ b, ∑ c ∈ Finset.range 1024, tot t x c b * mean t x c b : ℝ) : EReal) := fun j => by
    refine (core_all _ _ _ _ _ _).trans ?_
    rw [Finset.sum_comm, coe_sum]
    refine Finset.sum_congr rfl fun b _ => ?_
    rw [Finset.sum_range, coe_sum]
    refine Finset.sum_congr rfl fun c _ => ?_
    rw [shapeCast_ab_1ab_apply, mul_at, pay2_apply h, EReal.coe_mul]
    unfold Gen.k1_pay1
    rw [shapeCast_self, outSums_apply h]
  exact key _
/-- The combining kernel's compactness. -/
theorem pay4_eq (h : Batch x t f l) : Gen.k1_pay4 (F := Ideal) (outSums f l) (countCol (outNums f l)) (outSq f l)
    = ((∑ b, ∑ r, x r b * x r b - ∑ b, ∑ c ∈ Finset.range 1024, tot t x c b * mean t x c b : ℝ) : EReal) := by
  have key : ∀ j, multiReduction .add [1, 2] S1 (shapeCast S1x32x16 (shapeCast S32x16 (outSq (F := Ideal) f l) shapeCasts_S32x16_S32x16) shapeCasts_S32x16_S1x32x16)
      0x00000000#32 reduces_S1x32x16_S1 (.inl rfl) rfl j = ((∑ b, ∑ r, x r b * x r b : ℝ) : EReal) := fun j => by
    refine (core_all _ _ _ _ _ _).trans ?_
    rw [← sum_outSq h]
    refine Finset.sum_congr rfl fun w _ => Finset.sum_congr rfl fun k _ => ?_
    rw [shapeCast_ab_1ab_apply, shapeCast_self]
  rw [EReal.coe_sub, ← pay3_eq h]
  exact congrArg (· - Gen.k1_pay3 (F := Ideal) (outSums f l) (countCol (outNums f l))) (key _)
/-- The combining kernel's separation. -/
theorem pay5_eq (h : Batch x t f l) : Gen.k1_pay5 (F := Ideal) (outSums f l) (countCol (outNums f l))
    = ((∑ b, ∑ c ∈ Finset.range 1024, tot t x c b * mean t x c b - (∑ b, (∑ r, x r b) * (∑ r, x r b)) / (160000 : Nat) : ℝ) : EReal) := by
  have col : ∀ b : Fin 256, multiReduction .add [0] S256 (Gen.k1_pay1 (F := Ideal) (outSums f l)) 0x00000000#32 reduces_S1024x256_S256 (.inl rfl) rfl (ix1 b)
      = ((∑ r, x r b : ℝ) : EReal) := fun b => by
    refine (core_cols _ _ _ _ _ _).trans ?_
    rw [← sum_cls (K := 1024) (fun r => lt_trans (h.lt r) (by decide)), Finset.sum_range, coe_sum]
    refine Finset.sum_congr rfl fun c _ => ?_
    unfold Gen.k1_pay1
    rw [shapeCast_self, outSums_apply h]
    rfl
  have key : ∀ j, multiReduction .add [1] S1 (shapeCast S1x256 (mulf (multiReduction .add [0] S256 (Gen.k1_pay1 (F := Ideal) (outSums f l)) 0x00000000#32 reduces_S1024x256_S256 (.inl rfl) rfl)
      (multiReduction .add [0] S256 (Gen.k1_pay1 (F := Ideal) (outSums f l)) 0x00000000#32 reduces_S1024x256_S256 (.inl rfl) rfl)) shapeCasts_S256_S1x256)
      0x00000000#32 reduces_S1x256_S1 (.inl rfl) rfl j = ((∑ b, (∑ r, x r b) * (∑ r, x r b) : ℝ) : EReal) := fun j => by
    refine (core_row _ _ _ _ _ _).trans ?_
    rw [coe_sum]
    refine Finset.sum_congr rfl fun b _ => ?_
    rw [shapeCast_a_1a_apply, mul_at, col b, EReal.coe_mul]
  rw [EReal.coe_sub, ← pay3_eq h]
  refine congrArg (Gen.k1_pay3 (F := Ideal) (outSums f l) (countCol (outNums f l)) - ·) ?_
  refine Eq.trans (congrArg₂ Ideal.div (key _) ofBits_rows) ?_
  rw [div_real _ _ (by norm_num)]
  norm_num

/-- The compactness is the reference's. -/
theorem comp_same (h : Batch x t f l) : rComp f l = resComp f l := by
  funext j
  rw [rComp_apply h]
  refine Eq.trans (congrArg _ ?_) (pay4_eq h).symm
  rw [← Finset.sum_sub_distrib]
  refine Finset.sum_congr rfl fun b _ => ?_
  rw [sum_tot_mean h.lt (show 1000 ≤ 1024 by decide)]
  exact compact h.lt b
/-- The separation is the reference's. -/
theorem sep_same (h : Batch x t f l) : rSep f l = resSep f l := by
  funext j
  rw [rSep_apply h]
  refine Eq.trans (congrArg _ ?_) (pay5_eq h).symm
  rw [Finset.sum_div, ← Finset.sum_sub_distrib]
  refine Finset.sum_congr rfl fun b _ => ?_
  rw [sum_tot_mean h.lt (show 1000 ≤ 1024 by decide)]
  exact separate h.lt (by norm_num) b
/-- The means are the reference's. -/
theorem mean_same (h : Batch x t f l) (c : Fin 1000) (b : Fin 256) : rMean f l (ix2 c b)
    = extractStridedSlice S1000x256 ![0, 0] (meansOf (outSums f l) (outNums f l)) slices_S1024x256_S1000x256_0_0 (ix2 c b) := by
  refine (rMean_apply h c b).trans (Eq.trans (extractStridedSlice_apply _ _ _ _ (ix2 (⟨c.val, lt_trans c.isLt (by decide)⟩ : Fin 1024) b) (fun a => ?_)) (pay2_apply h _ b)).symm
  match a with
  | ⟨0, _⟩ => exact (Nat.zero_add _).symm
  | ⟨1, _⟩ => exact (Nat.zero_add _).symm
/-- And as the third result. -/
theorem means_same (h : Batch x t f l) : broadcastInDim S1000x1x256 ![0, 2] bcast_S1000x256_S1000x1x256_0_2 (rMean f l) = resMeans f l := by
  unfold resMeans
  refine congrArg _ (funext fun i => ?_)
  obtain ⟨c, b, rfl⟩ : ∃ (c : Fin 1000) (b : Fin 256), i = ix2 c b := ⟨i 0, i 1, by
    funext q
    match q with
    | ⟨0, _⟩ => rfl
    | ⟨1, _⟩ => rfl⟩
  exact mean_same h c b

end Cert.Means

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- Running the printed kernel is running its idealization read at words. -/
theorem same_run : θ_run (Cert.Kernel.defs (F := Bits)) (Cert.Kernel.threads (F := Bits)) = θ_run (Cert.KernelIdeal.defs (F := Bits)) (Cert.KernelIdeal.threads (F := Bits)) := by
  rw [same_defs, same_threads]

/-- The kernel's frame, at words. -/
theorem frame_kernel : Cert.quiescent_Kernel := fun m ρ _ => by
  have h := (θ_run (Cert.KernelIdeal.defs (F := Bits)) (Cert.KernelIdeal.threads (F := Bits)) _).mono
    (fun _ h => And.intro (fun c => (h.1 c).2.2.2) h.2) (Cert.KernelIdeal.Tile.run_main (F := Bits) m ρ)
  rw [← same_run] at h
  exact h

/-- The kernel's frame, at the ideal values. -/
theorem frame_ideal : Cert.quiescent_KernelIdeal := fun m ρ _ =>
  (θ_run Cert.KernelIdeal.defs _ _).mono (fun _ h => ⟨fun c => (h.1 c).2.2.2, h.2⟩) (Cert.KernelIdeal.Tile.run_main (F := Ideal) m ρ)

/-- The reference's frame: it declares no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The kernel's frame on the batches of the value claim. -/
theorem frame_ideal_pre [Cert.Pre_sorted_batch.Facts] : Cert.quiescent_KernelIdeal_pre_sorted_batch := fun m ρ _ =>
  (θ_run Cert.KernelIdeal.defs _ _).mono (fun _ h => ⟨fun c => (h.1 c).2.2.2, h.2⟩) (Cert.KernelIdeal.Tile.run_main (F := Ideal) m ρ)

/-- The reference's frame on the batches of the value claim. -/
theorem frame_reference_pre [Cert.Pre_sorted_batch.Facts] : Cert.quiescent_ReferenceIdeal_pre_sorted_batch := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The reference's compactness, as read in `rComp`. -/
theorem reference_comp (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v20 (F := Ideal) m c = Cert.Means.rComp (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)) := rfl

/-- On a batch of finite features and ascending labels, the kernel computes the reference's three results over the reals. -/
theorem algebraic [Cert.Pre_sorted_batch.Facts] : Cert.algebraic_KernelIdeal_ReferenceIdeal_pre_sorted_batch := by
  intro m ρ m' ρ' hpre hagree
  refine ⟨fun c => Cert.KernelIdeal.Tile.resComp (m (Cert.KernelIdeal.Tile.fLoc c)) (m (Cert.KernelIdeal.Tile.lLoc c)),
    fun c => Cert.KernelIdeal.Tile.resSep (m (Cert.KernelIdeal.Tile.fLoc c)) (m (Cert.KernelIdeal.Tile.lLoc c)),
    fun c => Cert.KernelIdeal.Tile.resMeans (m (Cert.KernelIdeal.Tile.fLoc c)) (m (Cert.KernelIdeal.Tile.lLoc c)),
    (θ_run Cert.KernelIdeal.defs _ _).mono (fun _ h => h.1) (Cert.KernelIdeal.Tile.run_main (F := Ideal) m ρ), ?_⟩
  refine (θ_run Cert.ReferenceIdeal.defs _ _).mono (fun _ h c => ?_) (Cert.ReferenceIdeal.Value.run (F := Ideal) m' ρ')
  obtain ⟨x, t, hb⟩ := Cert.Means.batch_of_pre _ _ (hpre c)
  obtain ⟨e0, e1⟩ := hagree c
  obtain ⟨h0, h1, h2, h3⟩ := h c
  refine ⟨?_, ?_, ?_, h3⟩
  · refine h0.trans ((reference_comp m' c).trans ?_)
    rw [e0, e1]
    exact Cert.Means.comp_same hb
  · refine h1.trans ?_
    rw [e0, e1]
    exact Cert.Means.sep_same hb
  · refine h2.trans ?_
    rw [e0, e1]
    exact Cert.Means.means_same hb

/-- Everything claimed of the kernel. -/
theorem claim : Cert.Claim := ⟨Cert.Kernel.Gen.facts, Cert.KernelIdeal.Gen.facts, Cert.ReferenceIdeal.Gen.facts, Cert.Means.pre_facts,
  frame_kernel, frame_ideal, @frame_ideal_pre Cert.Means.pre_facts, frame_reference, @frame_reference_pre Cert.Means.pre_facts, trivial, @algebraic Cert.Means.pre_facts⟩

end Cert.Proof

end
